-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_fox_decay_finite [hPre_fox_decay_finite : Cert.Pre_fox_decay_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_fox_decay_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_fox_decay_finite [hPre_fox_decay_finite : Cert.Pre_fox_decay_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_fox_decay_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_in_proj_finite [hPre_in_proj_finite : Cert.Pre_in_proj_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_in_proj_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_in_proj_finite [hPre_in_proj_finite : Cert.Pre_in_proj_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_in_proj_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_merge_finite [hPre_merge_finite : Cert.Pre_merge_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_merge_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_merge_finite [hPre_merge_finite : Cert.Pre_merge_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_merge_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_pool_finite [hPre_pool_finite : Cert.Pre_pool_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_pool_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_pool_finite [hPre_pool_finite : Cert.Pre_pool_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_pool_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_fox_fwd_finite [hPre_fox_fwd_finite : Cert.Pre_fox_fwd_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_fox_fwd_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_fox_fwd_finite [hPre_fox_fwd_finite : Cert.Pre_fox_fwd_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_fox_fwd_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_fox_decay_finite [hKernel2Ideal : Cert.Kernel2Ideal.Facts] [hPre_fox_decay_finite : Cert.Pre_fox_decay_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_fox_decay_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_fox_decay_finite [hReference2Ideal : Cert.Reference2Ideal.Facts] [hPre_fox_decay_finite : Cert.Pre_fox_decay_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_fox_decay_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_in_proj_finite [hKernel3Ideal : Cert.Kernel3Ideal.Facts] [hPre_in_proj_finite : Cert.Pre_in_proj_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_in_proj_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_in_proj_finite [hReference3Ideal : Cert.Reference3Ideal.Facts] [hPre_in_proj_finite : Cert.Pre_in_proj_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_in_proj_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_merge_finite [hKernel4Ideal : Cert.Kernel4Ideal.Facts] [hPre_merge_finite : Cert.Pre_merge_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_merge_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_merge_finite [hReference4Ideal : Cert.Reference4Ideal.Facts] [hPre_merge_finite : Cert.Pre_merge_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_merge_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_pool_finite [hKernel5Ideal : Cert.Kernel5Ideal.Facts] [hPre_pool_finite : Cert.Pre_pool_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_pool_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_pool_finite [hReference5Ideal : Cert.Reference5Ideal.Facts] [hPre_pool_finite : Cert.Pre_pool_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_pool_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_fox_fwd_finite [hKernel11Ideal : Cert.Kernel11Ideal.Facts] [hPre_fox_fwd_finite : Cert.Pre_fox_fwd_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_fox_fwd_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_fox_fwd_finite [hReference11Ideal : Cert.Reference11Ideal.Facts] [hPre_fox_fwd_finite : Cert.Pre_fox_fwd_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_fox_fwd_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_fox_decay_finite [hKernel2Ideal : Cert.Kernel2Ideal.Facts] [hReference2Ideal : Cert.Reference2Ideal.Facts] [hPre_fox_decay_finite : Cert.Pre_fox_decay_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_fox_decay_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_in_proj_finite [hKernel3Ideal : Cert.Kernel3Ideal.Facts] [hReference3Ideal : Cert.Reference3Ideal.Facts] [hPre_in_proj_finite : Cert.Pre_in_proj_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_in_proj_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_merge_finite [hKernel4Ideal : Cert.Kernel4Ideal.Facts] [hReference4Ideal : Cert.Reference4Ideal.Facts] [hPre_merge_finite : Cert.Pre_merge_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_merge_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)) (v2 : (c : Dev Cert.Kernel4Ideal.nD) → Buf (Elt Ideal) ((c.tc : Thread Cert.Kernel4Ideal.nD Cert.Kernel4Ideal.τ).loc Cert.Kernel4Ideal.main_v22_2)) (v3 : (c : Dev Cert.Kernel4Ideal.nD) → Buf (Elt Ideal) ((c.tc : Thread Cert.Kernel4Ideal.nD Cert.Kernel4Ideal.τ).loc Cert.Kernel4Ideal.main_v22_3)) (v4 : (c : Dev Cert.Kernel4Ideal.nD) → Buf (Elt Ideal) ((c.tc : Thread Cert.Kernel4Ideal.nD Cert.Kernel4Ideal.τ).loc Cert.Kernel4Ideal.main_v22_4)) (v5 : (c : Dev Cert.Kernel4Ideal.nD) → Buf (Elt Ideal) ((c.tc : Thread Cert.Kernel4Ideal.nD Cert.Kernel4Ideal.τ).loc Cert.Kernel4Ideal.main_v22_5)) (v6 : (c : Dev Cert.Kernel4Ideal.nD) → Buf (Elt Ideal) ((c.tc : Thread Cert.Kernel4Ideal.nD Cert.Kernel4Ideal.τ).loc Cert.Kernel4Ideal.main_v22_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_0) = v0 c
          ∧ r.2.mem ((c.tc : Thread Cert.Kernel4Ideal.nD Cert.Kernel4Ideal.τ).loc Cert.Kernel4Ideal.main_v22_1) = v1 c
          ∧ r.2.mem ((c.tc : Thread Cert.Kernel4Ideal.nD Cert.Kernel4Ideal.τ).loc Cert.Kernel4Ideal.main_v22_2) = v2 c
          ∧ r.2.mem ((c.tc : Thread Cert.Kernel4Ideal.nD Cert.Kernel4Ideal.τ).loc Cert.Kernel4Ideal.main_v22_3) = v3 c
          ∧ r.2.mem ((c.tc : Thread Cert.Kernel4Ideal.nD Cert.Kernel4Ideal.τ).loc Cert.Kernel4Ideal.main_v22_4) = v4 c
          ∧ r.2.mem ((c.tc : Thread Cert.Kernel4Ideal.nD Cert.Kernel4Ideal.τ).loc Cert.Kernel4Ideal.main_v22_5) = v5 c
          ∧ r.2.mem ((c.tc : Thread Cert.Kernel4Ideal.nD Cert.Kernel4Ideal.τ).loc Cert.Kernel4Ideal.main_v22_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v53) = v3 c
          ∧ r.2.mem ((c.tc : Thread Cert.Reference4Ideal.nD Cert.Reference4Ideal.τ).loc Cert.Reference4Ideal.main_v59) = v4 c
          ∧ r.2.mem ((c.tc : Thread Cert.Reference4Ideal.nD Cert.Reference4Ideal.τ).loc Cert.Reference4Ideal.main_v61) = v5 c
          ∧ r.2.mem ((c.tc : Thread Cert.Reference4Ideal.nD Cert.Reference4Ideal.τ).loc Cert.Reference4Ideal.main_v51) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_pool_finite [hKernel5Ideal : Cert.Kernel5Ideal.Facts] [hReference5Ideal : Cert.Reference5Ideal.Facts] [hPre_pool_finite : Cert.Pre_pool_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_pool_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v31_0)) (v1 : (c : Dev Cert.Kernel5Ideal.nD) → Buf (Elt Ideal) ((c.tc : Thread Cert.Kernel5Ideal.nD Cert.Kernel5Ideal.τ).loc Cert.Kernel5Ideal.main_v31_1)) (v2 : (c : Dev Cert.Kernel5Ideal.nD) → Buf (Elt Ideal) ((c.tc : Thread Cert.Kernel5Ideal.nD Cert.Kernel5Ideal.τ).loc Cert.Kernel5Ideal.main_v31_2)) (v3 : (c : Dev Cert.Kernel5Ideal.nD) → Buf (Elt Ideal) ((c.tc : Thread Cert.Kernel5Ideal.nD Cert.Kernel5Ideal.τ).loc Cert.Kernel5Ideal.main_v31_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31_0) = v0 c
          ∧ r.2.mem ((c.tc : Thread Cert.Kernel5Ideal.nD Cert.Kernel5Ideal.τ).loc Cert.Kernel5Ideal.main_v31_1) = v1 c
          ∧ r.2.mem ((c.tc : Thread Cert.Kernel5Ideal.nD Cert.Kernel5Ideal.τ).loc Cert.Kernel5Ideal.main_v31_2) = v2 c
          ∧ r.2.mem ((c.tc : Thread Cert.Kernel5Ideal.nD Cert.Kernel5Ideal.τ).loc Cert.Kernel5Ideal.main_v31_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v195) = v0 c
          ∧ r.2.mem ((c.tc : Thread Cert.Reference5Ideal.nD Cert.Reference5Ideal.τ).loc Cert.Reference5Ideal.main_v196) = v1 c
          ∧ r.2.mem ((c.tc : Thread Cert.Reference5Ideal.nD Cert.Reference5Ideal.τ).loc Cert.Reference5Ideal.main_v113) = v2 c
          ∧ r.2.mem ((c.tc : Thread Cert.Reference5Ideal.nD Cert.Reference5Ideal.τ).loc Cert.Reference5Ideal.main_v197) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)) (v2 : (c : Dev Cert.Kernel10Ideal.nD) → Buf (Elt Ideal) ((c.tc : Thread Cert.Kernel10Ideal.nD Cert.Kernel10Ideal.τ).loc Cert.Kernel10Ideal.main_v7_2)) (v3 : (c : Dev Cert.Kernel10Ideal.nD) → Buf (Elt Ideal) ((c.tc : Thread Cert.Kernel10Ideal.nD Cert.Kernel10Ideal.τ).loc Cert.Kernel10Ideal.main_v7_3)) (v4 : (c : Dev Cert.Kernel10Ideal.nD) → Buf (Elt Ideal) ((c.tc : Thread Cert.Kernel10Ideal.nD Cert.Kernel10Ideal.τ).loc Cert.Kernel10Ideal.main_v7_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_v7_2) = v2 c
          ∧ r.2.mem ((c.tc : Thread Cert.Kernel10Ideal.nD Cert.Kernel10Ideal.τ).loc Cert.Kernel10Ideal.main_v7_3) = v3 c
          ∧ r.2.mem ((c.tc : Thread Cert.Kernel10Ideal.nD Cert.Kernel10Ideal.τ).loc Cert.Kernel10Ideal.main_v7_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_v24) = v2 c
          ∧ r.2.mem ((c.tc : Thread Cert.Reference10Ideal.nD Cert.Reference10Ideal.τ).loc Cert.Reference10Ideal.main_v26) = v3 c
          ∧ r.2.mem ((c.tc : Thread Cert.Reference10Ideal.nD Cert.Reference10Ideal.τ).loc Cert.Reference10Ideal.main_v28) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  IdealRules.named_const.Statement Cert.Kernel11Ideal.κ "mask" .f32 0xF149F2CA#32 ⊥

def algebraic_Kernel11Ideal_Reference11Ideal_pre_fox_fwd_finite [hKernel11Ideal : Cert.Kernel11Ideal.Facts] [hReference11Ideal : Cert.Reference11Ideal.Facts] [hPre_fox_fwd_finite : Cert.Pre_fox_fwd_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_fox_fwd_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v13_0)) (v1 : (c : Dev Cert.Kernel11Ideal.nD) → Buf (Elt Ideal) ((c.tc : Thread Cert.Kernel11Ideal.nD Cert.Kernel11Ideal.τ).loc Cert.Kernel11Ideal.main_v13_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13_0) = v0 c
          ∧ r.2.mem ((c.tc : Thread Cert.Kernel11Ideal.nD Cert.Kernel11Ideal.τ).loc Cert.Kernel11Ideal.main_v13_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v33) = v0 c
          ∧ r.2.mem ((c.tc : Thread Cert.Reference11Ideal.nD Cert.Reference11Ideal.τ).loc Cert.Reference11Ideal.main_v35) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel6_Kernel6Ideal : Prop :=
  True

def preserves_Kernel7_Kernel7Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hPre_finite_args : Cert.Pre_finite_args.Facts) (hPre_fox_decay_finite : Cert.Pre_fox_decay_finite.Facts) (hPre_in_proj_finite : Cert.Pre_in_proj_finite.Facts) (hPre_merge_finite : Cert.Pre_merge_finite.Facts) (hPre_pool_finite : Cert.Pre_pool_finite.Facts) (hPre_fox_fwd_finite : Cert.Pre_fox_fwd_finite.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Kernel2Ideal_pre_fox_decay_finite (hKernel2Ideal := hKernel2Ideal) (hPre_fox_decay_finite := hPre_fox_decay_finite)
    ∧ quiescent_Reference2Ideal (hReference2Ideal := hReference2Ideal)
    ∧ quiescent_Reference2Ideal_pre_fox_decay_finite (hReference2Ideal := hReference2Ideal) (hPre_fox_decay_finite := hPre_fox_decay_finite)
    ∧ quiescent_Kernel3 (hKernel3 := hKernel3)
    ∧ quiescent_Kernel3Ideal (hKernel3Ideal := hKernel3Ideal)
    ∧ quiescent_Kernel3Ideal_pre_in_proj_finite (hKernel3Ideal := hKernel3Ideal) (hPre_in_proj_finite := hPre_in_proj_finite)
    ∧ quiescent_Reference3Ideal (hReference3Ideal := hReference3Ideal)
    ∧ quiescent_Reference3Ideal_pre_in_proj_finite (hReference3Ideal := hReference3Ideal) (hPre_in_proj_finite := hPre_in_proj_finite)
    ∧ quiescent_Kernel4 (hKernel4 := hKernel4)
    ∧ quiescent_Kernel4Ideal (hKernel4Ideal := hKernel4Ideal)
    ∧ quiescent_Kernel4Ideal_pre_merge_finite (hKernel4Ideal := hKernel4Ideal) (hPre_merge_finite := hPre_merge_finite)
    ∧ quiescent_Reference4Ideal (hReference4Ideal := hReference4Ideal)
    ∧ quiescent_Reference4Ideal_pre_merge_finite (hReference4Ideal := hReference4Ideal) (hPre_merge_finite := hPre_merge_finite)
    ∧ quiescent_Kernel5 (hKernel5 := hKernel5)
    ∧ quiescent_Kernel5Ideal (hKernel5Ideal := hKernel5Ideal)
    ∧ quiescent_Kernel5Ideal_pre_pool_finite (hKernel5Ideal := hKernel5Ideal) (hPre_pool_finite := hPre_pool_finite)
    ∧ quiescent_Reference5Ideal (hReference5Ideal := hReference5Ideal)
    ∧ quiescent_Reference5Ideal_pre_pool_finite (hReference5Ideal := hReference5Ideal) (hPre_pool_finite := hPre_pool_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_fox_fwd_finite (hKernel11Ideal := hKernel11Ideal) (hPre_fox_fwd_finite := hPre_fox_fwd_finite)
    ∧ quiescent_Reference11Ideal (hReference11Ideal := hReference11Ideal)
    ∧ quiescent_Reference11Ideal_pre_fox_fwd_finite (hReference11Ideal := hReference11Ideal) (hPre_fox_fwd_finite := hPre_fox_fwd_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal_pre_fox_decay_finite (hKernel2Ideal := hKernel2Ideal) (hReference2Ideal := hReference2Ideal) (hPre_fox_decay_finite := hPre_fox_decay_finite)
    ∧ preserves_Kernel3_Kernel3Ideal
    ∧ algebraic_Kernel3Ideal_Reference3Ideal_pre_in_proj_finite (hKernel3Ideal := hKernel3Ideal) (hReference3Ideal := hReference3Ideal) (hPre_in_proj_finite := hPre_in_proj_finite)
    ∧ preserves_Kernel4_Kernel4Ideal
    ∧ algebraic_Kernel4Ideal_Reference4Ideal_pre_merge_finite (hKernel4Ideal := hKernel4Ideal) (hReference4Ideal := hReference4Ideal) (hPre_merge_finite := hPre_merge_finite)
    ∧ preserves_Kernel5_Kernel5Ideal
    ∧ algebraic_Kernel5Ideal_Reference5Ideal_pre_pool_finite (hKernel5Ideal := hKernel5Ideal) (hReference5Ideal := hReference5Ideal) (hPre_pool_finite := hPre_pool_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_fox_fwd_finite (hKernel11Ideal := hKernel11Ideal) (hReference11Ideal := hReference11Ideal) (hPre_fox_fwd_finite := hPre_fox_fwd_finite)
    ∧ preserves_Kernel6_Kernel6Ideal
    ∧ preserves_Kernel7_Kernel7Ideal
-- ==== Pre_finite_args.lean ====
abbrev S2x256 : Shape := ⟨2, ![2, 256]⟩
abbrev S_ : Shape := ⟨0, ![]⟩

class Facts : Prop where
  bcast_S_S2x256 : S_.BroadcastsInDim S2x256 (![] : Fin 0 → Fin S2x256.rank)
  reducesTo_S2x256_S_d0_1 : S2x256.ReducesTo [0, 1] S_
  h_S_ : 0 < S_.numel

variable [Facts]

def fn {F : FTy → Type} [FloatOps F] (main_arg0 : FVec F S2x256 .f32) (main_arg1 : FVec F S2x256 .f32) : IVec S_ 1 :=
  let main_v0 : FVec F S2x256 .f32 := Host.absf main_arg0
  let main_cst : FVec F S_ .f32 := constant S_ .f32 0x7F800000#32
  let main_v1 : FVec F S2x256 .f32 := broadcastInDim S2x256 ![] bcast_S_S2x256 main_cst
  let main_v2 : IVec S2x256 1 := cmpf .olt main_v0 main_v1
  let main_c : IVec S_ 1 := constantI S_ 1 1#1
  let main_v3 : IVec S_ 1 := (fun x v => Host.reduce IntOp.andi x v reducesTo_S2x256_S_d0_1 h_S_) main_v2 main_c
  let main_v4 : FVec F S2x256 .f32 := Host.absf main_arg1
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  main_v8
-- ==== Pre_fox_decay_finite.lean ====
abbrev S2x2048x8 : Shape := ⟨3, ![2, 2048, 8]⟩
abbrev S8 : Shape := ⟨1, ![8]⟩
abbrev S2x8x2048 : Shape := ⟨3, ![2, 8, 2048]⟩
abbrev S_ : Shape := ⟨0, ![]⟩

class Facts : Prop where
  bcast_S_S2x8x2048 : S_.BroadcastsInDim S2x8x2048 (![] : Fin 0 → Fin S2x8x2048.rank)
  reducesTo_S2x8x2048_S_d0_1_2 : S2x8x2048.ReducesTo [0, 1, 2] S_
  h_S_ : 0 < S_.numel

variable [Facts]

def fn {F : FTy → Type} [FloatOps F] (main_arg0 : FVec F S2x2048x8 .f32) (main_arg1 : FVec F S8 .f32) (main_arg2 : FVec F S2x8x2048 .f32) (main_arg3 : FVec F S2x8x2048 .f32) : IVec S_ 1 :=
  let main_v0 : FVec F S2x8x2048 .f32 := Host.absf main_arg2
  let main_cst : FVec F S_ .f32 := constant S_ .f32 0x7F800000#32
  let main_v1 : FVec F S2x8x2048 .f32 := broadcastInDim S2x8x2048 ![] bcast_S_S2x8x2048 main_cst
  let main_v2 : IVec S2x8x2048 1 := cmpf .olt main_v0 main_v1
  let main_c : IVec S_ 1 := constantI S_ 1 1#1
  let main_v3 : IVec S_ 1 := (fun x v => Host.reduce IntOp.andi x v reducesTo_S2x8x2048_S_d0_1_2 h_S_) main_v2 main_c
  let main_v4 : FVec F S2x8x2048 .f32 := Host.absf main_arg3
  let main_cst_0 : FVec F S_ .f32 := constant S_ .f32 0x7F800000#32
  let main_v5 : FVec F S2x8x2048 .f32 := broadcastInDim S2x8x2048 ![] bcast_S_S2x8x2048 main_cst_0
  let main_v6 : IVec S2x8x2048 1 := cmpf .olt main_v4 main_v5
  let main_c_1 : IVec S_ 1 := constantI S_ 1 1#1
  let main_v7 : IVec S_ 1 := (fun x v => Host.reduce IntOp.andi x v reducesTo_S2x8x2048_S_d0_1_2 h_S_) main_v6 main_c_1
  let main_v8 : IVec S_ 1 := andi main_v3 main_v7
  main_v8
-- ==== Pre_fox_fwd_finite.lean ====
abbrev S2x2048x512 : Shape := ⟨3, ![2, 2048, 512]⟩
abbrev S2x8x2048 : Shape := ⟨3, ![2, 8, 2048]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x8x2048 : S_.BroadcastsInDim S2x8x2048 (![] : Fin 0 → Fin S2x8x2048.rank)
  reducesTo_S2x8x2048_S_d0_1_2 : S2x8x2048.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x512 .f32) (main_arg1 : FVec F S2x2048x512 .f32) (main_arg2 : FVec F S2x2048x512 .f32) (main_arg3 : FVec F S2x8x2048 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : FVec F S2x2048x512 .f32 := Host.absf main_arg2
  let main_cst_2 : FVec F S_ .f32 := constant S_ .f32 0x7F800000#32
  let main_v9 : FVec F S2x2048x512 .f32 := broadcastInDim S2x2048x512 ![] bcast_S_S2x2048x512 main_cst_2
  let main_v10 : IVec S2x2048x512 1 := cmpf .olt main_v8 main_v9
  let main_c_3 : IVec S_ 1 := constantI S_ 1 1#1
  let main_v11 : IVec S_ 1 := (fun x v => Host.reduce IntOp.andi x v reducesTo_S2x2048x512_S_d0_1_2 h_S_) main_v10 main_c_3
  let main_v12 : FVec F S2x8x2048 .f32 := Host.absf main_arg3
  let main_cst_4 : FVec F S_ .f32 := constant S_ .f32 0x7F800000#32
  let main_v13 : FVec F S2x8x2048 .f32 := broadcastInDim S2x8x2048 ![] bcast_S_S2x8x2048 main_cst_4
  let main_v14 : IVec S2x8x2048 1 := cmpf .olt main_v12 main_v13
  let main_c_5 : IVec S_ 1 := constantI S_ 1 1#1
  let main_v15 : IVec S_ 1 := (fun x v => Host.reduce IntOp.andi x v reducesTo_S2x8x2048_S_d0_1_2 h_S_) main_v14 main_c_5
  fn_part1 (F := F) main_v3 main_v7 main_v11 main_v15
-- ==== Pre_in_proj_finite.lean ====
abbrev S2x2048x1024 : Shape := ⟨3, ![2, 2048, 1024]⟩
abbrev S1024 : Shape := ⟨1, ![1024]⟩
abbrev S1024x3592 : Shape := ⟨2, ![1024, 3592]⟩
abbrev S2x2048x3592 : Shape := ⟨3, ![2, 2048, 3592]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3592 : S_.BroadcastsInDim S1024x3592 (![] : Fin 0 → Fin S1024x3592.rank)
  reducesTo_S1024x3592_S_d0_1 : S1024x3592.ReducesTo [0, 1] S_
  bcast_S_S2x2048x3592 : S_.BroadcastsInDim S2x2048x3592 (![] : Fin 0 → Fin S2x2048x3592.rank)
  reducesTo_S2x2048x3592_S_d0_1_2 : S2x2048x3592.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x1024 .f32) (main_arg1 : FVec F S1024 .f32) (main_arg2 : FVec F S1024x3592 .f32) (main_arg3 : FVec F S2x2048x1024 .f32) (main_arg4 : FVec F S2x2048x3592 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x3592 .f32 := Host.absf main_arg2
  let main_cst_2 : FVec F S_ .f32 := constant S_ .f32 0x7F800000#32
  let main_v9 : FVec F S1024x3592 .f32 := broadcastInDim S1024x3592 ![] bcast_S_S1024x3592 main_cst_2
  let main_v10 : IVec S1024x3592 1 := cmpf .olt main_v8 main_v9
  let main_c_3 : IVec S_ 1 := constantI S_ 1 1#1
  let main_v11 : IVec S_ 1 := (fun x v => Host.reduce IntOp.andi x v reducesTo_S1024x3592_S_d0_1 h_S_) main_v10 main_c_3
  let main_v12 : FVec F S2x2048x3592 .f32 := Host.absf main_arg4
  let main_cst_4 : FVec F S_ .f32 := constant S_ .f32 0x7F800000#32
  let main_v13 : FVec F S2x2048x3592 .f32 := broadcastInDim S2x2048x3592 ![] bcast_S_S2x2048x3592 main_cst_4
  let main_v14 : IVec S2x2048x3592 1 := cmpf .olt main_v12 main_v13
  let main_c_5 : IVec S_ 1 := constantI S_ 1 1#1
  let main_v15 : IVec S_ 1 := (fun x v => Host.reduce IntOp.andi x v reducesTo_S2x2048x3592_S_d0_1_2 h_S_) main_v14 main_c_5
  fn_part1 (F := F) main_v3 main_v7 main_v11 main_v15
-- ==== Pre_merge_finite.lean ====
abbrev S2x2048x512 : Shape := ⟨3, ![2, 2048, 512]⟩
abbrev S1024x1024 : Shape := ⟨2, ![1024, 1024]⟩
abbrev S1024 : Shape := ⟨1, ![1024]⟩
abbrev S2x2048x1024 : Shape := ⟨3, ![2, 2048, 1024]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_arg4 : FVec F S1024 .f32) (main_arg5 : FVec F S2x2048x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S2x2048x1024 .f32 := Host.absf main_arg5
  let main_cst_8 : FVec F S_ .f32 := constant S_ .f32 0x7F800000#32
  let main_v21 : FVec F S2x2048x1024 .f32 := broadcastInDim S2x2048x1024 ![] bcast_S_S2x2048x1024 main_cst_8
  let main_v22 : IVec S2x2048x1024 1 := cmpf .olt main_v20 main_v21
  let main_c_9 : IVec S_ 1 := constantI S_ 1 1#1
  let main_v23 : IVec S_ 1 := (fun x v => Host.reduce IntOp.andi x v reducesTo_S2x2048x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x2048x512 .f32) (main_arg1 : FVec F S2x2048x512 .f32) (main_arg2 : FVec F S2x2048x512 .f32) (main_arg3 : FVec F S1024x1024 .f32) (main_arg4 : FVec F S1024 .f32) (main_arg5 : FVec F S2x2048x1024 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : FVec F S2x2048x512 .f32 := Host.absf main_arg2
  let main_cst_2 : FVec F S_ .f32 := constant S_ .f32 0x7F800000#32
  let main_v9 : FVec F S2x2048x512 .f32 := broadcastInDim S2x2048x512 ![] bcast_S_S2x2048x512 main_cst_2
  let main_v10 : IVec S2x2048x512 1 := cmpf .olt main_v8 main_v9
  let main_c_3 : IVec S_ 1 := constantI S_ 1 1#1
  let main_v11 : IVec S_ 1 := (fun x v => Host.reduce IntOp.andi x v reducesTo_S2x2048x512_S_d0_1_2 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_v3 main_v7 main_v11 main_v15
-- ==== Pre_pool_finite.lean ====
abbrev S2x2048x1024 : Shape := ⟨3, ![2, 2048, 1024]⟩
abbrev S1024x3592 : Shape := ⟨2, ![1024, 3592]⟩
abbrev S2x2048x256 : Shape := ⟨3, ![2, 2048, 256]⟩
abbrev S4x64x64 : Shape := ⟨3, ![4, 64, 64]⟩
abbrev S256 : Shape := ⟨1, ![256]⟩
abbrev S2x2048x2048 : Shape := ⟨3, ![2, 2048, 2048]⟩
abbrev S2x2048x8 : Shape := ⟨3, ![2, 2048, 8]⟩
abbrev S_ : Shape := ⟨0, ![]⟩

class Facts : Prop where
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_arg7 : FVec F S2x2048x256 .f32) (main_v3 : IVec S_ 1) (main_v7 : IVec S_ 1) (main_v11 : IVec S_ 1) (main_v15 : IVec S_ 1) : IVec S_ 1 :=
  let main_v16 : FVec F S2x2048x256 .f32 := Host.absf main_arg7
  let main_cst_6 : FVec F S_ .f32 := constant S_ .f32 0x7F800000#32
  let main_v17 : FVec F S2x2048x256 .f32 := broadcastInDim S2x2048x256 ![] bcast_S_S2x2048x256 main_cst_6
  let main_v18 : IVec S2x2048x256 1 := cmpf .olt main_v16 main_v17
  let main_c_7 : IVec S_ 1 := constantI S_ 1 1#1
  let main_v19 : IVec S_ 1 := (fun x v => Host.reduce IntOp.andi x v reducesTo_S2x2048x256_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x2048x1024 .f32) (main_arg1 : FVec F S1024x3592 .f32) (main_arg2 : FVec F S2x2048x256 .f32) (main_arg3 : FVec F S2x2048x256 .f32) (main_arg4 : FVec F S4x64x64 .f32) (main_arg5 : FVec F S256 .f32) (main_arg6 : FVec F S2x2048x1024 .f32) (main_arg7 : FVec F S2x2048x256 .f32) (main_arg8 : FVec F S2x2048x2048 .f32) (main_arg9 : FVec F S2x2048x8 .f32) : IVec S_ 1 :=
  let main_v0 : FVec F S2x2048x256 .f32 := Host.absf main_arg2
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_c : IVec S_ 1 := constantI S_ 1 1#1
  let main_v3 : IVec S_ 1 := (fun x v => Host.reduce IntOp.andi x v reducesTo_S2x2048x256_S_d0_1_2 h_S_) main_v2 main_c
  let main_v4 : FVec F S2x2048x256 .f32 := Host.absf main_arg3
  let main_cst_0 : FVec F S_ .f32 := constant S_ .f32 0x7F800000#32
  let main_v5 : FVec F S2x2048x256 .f32 := broadcastInDim S2x2048x256 ![] bcast_S_S2x2048x256 main_cst_0
  let main_v6 : IVec S2x2048x256 1 := cmpf .olt main_v4 main_v5
  let main_c_1 : IVec S_ 1 := constantI S_ 1 1#1
  let main_v7 : IVec S_ 1 := (fun x v => Host.reduce IntOp.andi x v reducesTo_S2x2048x256_S_d0_1_2 h_S_) main_v6 main_c_1
  let main_v8 : FVec F S4x64x64 .f32 := Host.absf main_arg4
  let main_cst_2 : FVec F S_ .f32 := constant S_ .f32 0x7F800000#32
  let main_v9 : FVec F S4x64x64 .f32 := broadcastInDim S4x64x64 ![] bcast_S_S4x64x64 main_cst_2
  let main_v10 : IVec S4x64x64 1 := cmpf .olt main_v8 main_v9
  let main_c_3 : IVec S_ 1 := constantI S_ 1 1#1
  let main_v11 : IVec S_ 1 := (fun x v => Host.reduce IntOp.andi x v reducesTo_S4x64x64_S_d0_1_2 h_S_) main_v10 main_c_3
  let main_v12 : FVec F S256 .f32 := Host.absf main_arg5
  let main_cst_4 : FVec F S_ .f32 := constant S_ .f32 0x7F800000#32
  let main_v13 : FVec F S256 .f32 := broadcastInDim S256 ![] bcast_S_S256 main_cst_4
  let main_v14 : IVec S256 1 := cmpf .olt main_v12 main_v13
  let main_c_5 : IVec S_ 1 := constantI S_ 1 1#1
  let main_v15 : IVec S_ 1 := (fun x v => Host.reduce IntOp.andi x v reducesTo_S256_S_d0 h_S_) main_v14 main_c_5
  fn_part1 (F := F) main_arg7 main_v3 main_v7 main_v11 main_v15
-- ==== Kernel.lean ====
abbrev S2x256 : Shape := ⟨2, ![2, 256]⟩
abbrev S256 : Shape := ⟨1, ![256]⟩
abbrev S1x256 : Shape := ⟨2, ![1, 256]⟩

abbrev nBuf : Space → Nat
  | .hbm => 3
  | .vmem => 3
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x256 : Shape := ⟨2, ![2, 256]⟩
abbrev S_ : Shape := ⟨0, ![]⟩
abbrev S256 : Shape := ⟨1, ![256]⟩
abbrev S1x256 : Shape := ⟨2, ![1, 256]⟩

abbrev nBuf : Space → Nat
  | .hbm => 76
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S_, .f32⟩
  | .hbm, ⟨3, _⟩ => ⟨S256, .f32⟩
  | .hbm, ⟨4, _⟩ => ⟨S1x256, .f32⟩
  | .hbm, ⟨5, _⟩ => ⟨S2x256, .f32⟩
  | .hbm, ⟨6, _⟩ => ⟨S2x256, .i1⟩
  | .hbm, ⟨7, _⟩ => ⟨S2x256, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .i1⟩
  | .hbm, ⟨16, _⟩ => ⟨S_, .f32⟩
  | .hbm, ⟨17, _⟩ => ⟨S256, .f32⟩
  | .hbm, ⟨18, _⟩ => ⟨S256, .i1⟩
  | .hbm, ⟨19, _⟩ => ⟨S_, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S2x256, .f32⟩
  | .hbm, ⟨29, _⟩ => ⟨S2x256, .f32⟩
  | .hbm, ⟨30, _⟩ => ⟨S2x256, .f32⟩
  | .hbm, ⟨31, _⟩ => ⟨S_, .f32⟩
  | .hbm, ⟨32, _⟩ => ⟨S256, .f32⟩
  | .hbm, ⟨33, _⟩ => ⟨S1x256, .f32⟩
  | .hbm, ⟨34, _⟩ => ⟨S2x256, .f32⟩
  | .hbm, ⟨35, _⟩ => ⟨S2x256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S_, .f32⟩
  | .hbm, ⟨41, _⟩ => ⟨S_, .f32⟩
  | .hbm, ⟨42, _⟩ => ⟨S2x256, .f32⟩
  | .hbm, ⟨43, _⟩ => ⟨S1x256, .f32⟩
  | .hbm, ⟨44, _⟩ => ⟨S256, .f32⟩
  | .hbm, ⟨45, _⟩ => ⟨S1x256, .f32⟩
  | .hbm, ⟨46, _⟩ => ⟨S2x256, .f32⟩
  | .hbm, ⟨47, _⟩ => ⟨S2x256, .f32⟩
  | .hbm, ⟨48, _⟩ => ⟨S2x256, .f32⟩
  | .hbm, ⟨49, _⟩ => ⟨S2x256, .f32⟩
  | .hbm, ⟨50, _⟩ => ⟨S_, .f32⟩
  | .hbm, ⟨51, _⟩ => ⟨S256, .f32⟩
  | .hbm, ⟨52, _⟩ => ⟨S1x256, .f32⟩
  | .hbm, ⟨53, _⟩ => ⟨S_, .f32⟩
  | .hbm, ⟨54, _⟩ => ⟨S256, .f32⟩
  | .hbm, ⟨55, _⟩ => ⟨S1x256, .f32⟩
  | .hbm, ⟨56, _⟩ => ⟨S_, .f32⟩
  | .hbm, ⟨57, _⟩ => ⟨S2x256, .f32⟩
  | .hbm, ⟨58, _⟩ => ⟨S_, .f32⟩
  | .hbm, ⟨59, _⟩ => ⟨S_, .f32⟩
  | .hbm, ⟨60, _⟩ => ⟨S2x256, .f32⟩
  | .hbm, ⟨61, _⟩ => ⟨S2x256, .f32⟩
  | .hbm, ⟨62, _⟩ => ⟨S2x256, .f32⟩
  | .hbm, ⟨63, _⟩ => ⟨S2x256, .f32⟩
  | .hbm, ⟨64, _⟩ => ⟨S2x256, .f32⟩
  | .hbm, ⟨65, _⟩ => ⟨S_, .f32⟩
  | .hbm, ⟨66, _⟩ => ⟨S256, .f32⟩
  | .hbm, ⟨67, _⟩ => ⟨S1x256, .f32⟩
  | .hbm, ⟨68, _⟩ => ⟨S1x256, .f32⟩
  | .hbm, ⟨69, _⟩ => ⟨S2x256, .f32⟩
  | .hbm, ⟨70, _⟩ => ⟨S2x256, .f32⟩
  | .hbm, ⟨71, _⟩ => ⟨S_, .f32⟩
  | .hbm, ⟨72, _⟩ => ⟨S256, .f32⟩
  | .hbm, ⟨73, _⟩ => ⟨S2x256, .f32⟩
  | .hbm, ⟨74, _⟩ => ⟨S2x256, .f32⟩
  | .hbm, ⟨75, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_call1_call0_cst : Ref sig .tc := ⟨.hbm, 58, rfl⟩
abbrev main_call1_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel2.lean ====
abbrev S2x2048x8 : Shape := ⟨3, ![2, 2048, 8]⟩
abbrev S8 : Shape := ⟨1, ![8]⟩
abbrev S2x8x2048 : Shape := ⟨3, ![2, 8, 2048]⟩
abbrev S4096x8 : Shape := ⟨2, ![4096, 8]⟩
abbrev S_ : Shape := ⟨0, ![]⟩
abbrev S4096x128 : Shape := ⟨2, ![4096, 128]⟩
abbrev S1x8 : Shape := ⟨2, ![1, 8]⟩
abbrev S1x128 : Shape := ⟨2, ![1, 128]⟩
abbrev S1x8x2048 : Shape := ⟨3, ![1, 8, 2048]⟩
abbrev S2048x128 : Shape := ⟨2, ![2048, 128]⟩
abbrev S256x256 : Shape := ⟨2, ![256, 256]⟩
abbrev S1x8x256 : Shape := ⟨3, ![1, 8, 256]⟩
abbrev S8x256 : Shape := ⟨2, ![8, 256]⟩
abbrev S120x256 : Shape := ⟨2, ![120, 256]⟩
abbrev S128x256 : Shape := ⟨2, ![128, 256]⟩
abbrev S256x128 : Shape := ⟨2, ![256, 128]⟩
abbrev S128 : Shape := ⟨1, ![128]⟩

abbrev nBuf : Space → Nat
  | .hbm => 19
  | .vmem => 10
  | .smem => 0
  | _ => 0

abbrev bufTy : (tb : Table) → Fin (tcTables nBuf tb) → BufTy
  | .hbm, ⟨0, _⟩ => ⟨S2x2048x8, .f32⟩
  | .hbm, ⟨1, _⟩ => ⟨S8, .f32⟩
  | .hbm, ⟨2, _⟩ => ⟨S2x8x2048, .f32⟩
  | .hbm, ⟨3, _⟩ => ⟨S2x8x2048, .f32⟩
  | .hbm, ⟨4, _⟩ => ⟨S4096x8, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S2x2048x8, .f32⟩
  | .hbm, ⟨9, _⟩ => ⟨S4096x8, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S1x8, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S4096x128, .bf16⟩
  | .hbm, ⟨18, _⟩ => ⟨S1x128, .f32⟩
  | .local _ .vmem, ⟨0, _⟩ => ⟨S1x8x2048, .f32⟩
  | .local _ .vmem, ⟨1, _⟩ => ⟨S1x8x2048, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | _, _ => ⟨S2x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S2x2048x8 : Shape := ⟨3, ![2, 2048, 8]⟩
abbrev S8 : Shape := ⟨1, ![8]⟩
abbrev S2x8x2048 : Shape := ⟨3, ![2, 8, 2048]⟩
abbrev S1x1x8 : Shape := ⟨3, ![1, 1, 8]⟩
abbrev S_ : Shape := ⟨0, ![]⟩
abbrev S4096x8 : Shape := ⟨2, ![4096, 8]⟩
abbrev S4096x128 : Shape := ⟨2, ![4096, 128]⟩
abbrev S1x8 : Shape := ⟨2, ![1, 8]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x8, .f32⟩
  | .hbm, ⟨1, _⟩ => ⟨S8, .f32⟩
  | .hbm, ⟨2, _⟩ => ⟨S2x8x2048, .f32⟩
  | .hbm, ⟨3, _⟩ => ⟨S2x8x2048, .f32⟩
  | .hbm, ⟨4, _⟩ => ⟨S1x1x8, .f32⟩
  | .hbm, ⟨5, _⟩ => ⟨S2x2048x8, .f32⟩
  | .hbm, ⟨6, _⟩ => ⟨S2x2048x8, .f32⟩
  | .hbm, ⟨7, _⟩ => ⟨S2x2048x8, .f32⟩
  | .hbm, ⟨8, _⟩ => ⟨S_, .f32⟩
  | .hbm, ⟨9, _⟩ => ⟨S2x2048x8, .f32⟩
  | .hbm, ⟨10, _⟩ => ⟨S2x2048x8, .f32⟩
  | .hbm, ⟨11, _⟩ => ⟨S2x2048x8, .f32⟩
  | .hbm, ⟨12, _⟩ => ⟨S2x2048x8, .f32⟩
  | .hbm, ⟨13, _⟩ => ⟨S2x2048x8, .i1⟩
  | .hbm, ⟨14, _⟩ => ⟨S2x2048x8, .f32⟩
  | .hbm, ⟨15, _⟩ => ⟨S2x2048x8, .f32⟩
  | .hbm, ⟨16, _⟩ => ⟨S2x2048x8, .f32⟩
  | .hbm, ⟨17, _⟩ => ⟨S2x2048x8, .f32⟩
  | .hbm, ⟨18, _⟩ => ⟨S2x2048x8, .f32⟩
  | .hbm, ⟨19, _⟩ => ⟨S2x2048x8, .f32⟩
  | .hbm, ⟨20, _⟩ => ⟨S2x2048x8, .f32⟩
  | .hbm, ⟨21, _⟩ => ⟨S2x2048x8, .f32⟩
  | .hbm, ⟨22, _⟩ => ⟨S_, .f32⟩
  | .hbm, ⟨23, _⟩ => ⟨S2x2048x8, .f32⟩
  | .hbm, ⟨24, _⟩ => ⟨S2x2048x8, .i1⟩
  | .hbm, ⟨25, _⟩ => ⟨S_, .f32⟩
  | .hbm, ⟨26, _⟩ => ⟨S2x2048x8, .f32⟩
  | .hbm, ⟨27, _⟩ => ⟨S2x2048x8, .f32⟩
  | .hbm, ⟨28, _⟩ => ⟨S_, .f32⟩
  | .hbm, ⟨29, _⟩ => ⟨S2x2048x8, .f32⟩
  | .hbm, ⟨30, _⟩ => ⟨S2x2048x8, .i1⟩
  | .hbm, ⟨31, _⟩ => ⟨S_, .f32⟩
  | .hbm, ⟨32, _⟩ => ⟨S2x2048x8, .f32⟩
  | .hbm, ⟨33, _⟩ => ⟨S2x2048x8, .f32⟩
  | .hbm, ⟨34, _⟩ => ⟨S2x2048x8, .f32⟩
  | .hbm, ⟨35, _⟩ => ⟨S2x2048x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x2048x8, .f32⟩
  | .hbm, ⟨44, _⟩ => ⟨S2x2048x8, .i1⟩
  | .hbm, ⟨45, _⟩ => ⟨S_, .f32⟩
  | .hbm, ⟨46, _⟩ => ⟨S2x2048x8, .f32⟩
  | .hbm, ⟨47, _⟩ => ⟨S2x2048x8, .f32⟩
  | .hbm, ⟨48, _⟩ => ⟨S2x2048x8, .f32⟩
  | .hbm, ⟨49, _⟩ => ⟨S2x2048x8, .f32⟩
  | .hbm, ⟨50, _⟩ => ⟨S2x2048x8, .f32⟩
  | .hbm, ⟨51, _⟩ => ⟨S_, .f32⟩
  | .hbm, ⟨52, _⟩ => ⟨S2x2048x8, .f32⟩
  | .hbm, ⟨53, _⟩ => ⟨S2x2048x8, .f32⟩
  | .hbm, ⟨54, _⟩ => ⟨S2x2048x8, .f32⟩
  | .hbm, ⟨55, _⟩ => ⟨S_, .f32⟩
  | .hbm, ⟨56, _⟩ => ⟨S_, .f32⟩
  | .hbm, ⟨57, _⟩ => ⟨S2x2048x8, .f32⟩
  | .hbm, ⟨58, _⟩ => ⟨S2x8x2048, .f32⟩
  | .hbm, ⟨59, _⟩ => ⟨S2x8x2048, .f32⟩
  | .hbm, ⟨60, _⟩ => ⟨S2x2048x8, .f32⟩
  | .hbm, ⟨61, _⟩ => ⟨S_, .f32⟩
  | .hbm, ⟨62, _⟩ => ⟨S_, .f32⟩
  | .hbm, ⟨63, _⟩ => ⟨S2x2048x8, .f32⟩
  | .hbm, ⟨64, _⟩ => ⟨S2x2048x8, .f32⟩
  | .hbm, ⟨65, _⟩ => ⟨S2x2048x8, .f32⟩
  | .hbm, ⟨66, _⟩ => ⟨S2x2048x8, .f32⟩
  | .hbm, ⟨67, _⟩ => ⟨S_, .f32⟩
  | .hbm, ⟨68, _⟩ => ⟨S8, .f32⟩
  | .hbm, ⟨69, _⟩ => ⟨S1x1x8, .f32⟩
  | .hbm, ⟨70, _⟩ => ⟨S_, .f32⟩
  | .hbm, ⟨71, _⟩ => ⟨S8, .f32⟩
  | .hbm, ⟨72, _⟩ => ⟨S4096x8, .f32⟩
  | .hbm, ⟨73, _⟩ => ⟨S_, .i32⟩
  | .hbm, ⟨74, _⟩ => ⟨S_, .f32⟩
  | .hbm, ⟨75, _⟩ => ⟨S4096x128, .f32⟩
  | .hbm, ⟨76, _⟩ => ⟨S4096x128, .bf16⟩
  | .hbm, ⟨77, _⟩ => ⟨S1x8, .f32⟩
  | .hbm, ⟨78, _⟩ => ⟨S_, .i32⟩
  | .hbm, ⟨79, _⟩ => ⟨S_, .f32⟩
  | .hbm, ⟨80, _⟩ => ⟨S1x128, .f32⟩
  | _, _ => ⟨S2x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_call2_call0_cst : Ref sig .tc := ⟨.hbm, 61, rfl⟩
abbrev main_call2_call0_v0 : Ref sig .tc := ⟨.hbm, 62, rfl⟩
abbrev main_v8 : Ref sig .tc := ⟨.hbm, 63, rfl⟩
abbrev main_call3_v0 : Ref sig .tc := ⟨.hbm, 64, rfl⟩
abbrev main_call3_v1 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_cst_0 : Ref sig .tc := ⟨.hbm, 70, rfl⟩
abbrev main_v12 : Ref sig .tc := ⟨.hbm, 71, rfl⟩
abbrev main_v13 : Ref sig .tc := ⟨.hbm, 72, rfl⟩
abbrev main_c : Ref sig .tc := ⟨.hbm, 73, rfl⟩
abbrev main_call4_v0 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_c_1 : Ref sig .tc := ⟨.hbm, 78, rfl⟩
abbrev main_call5_v0 : Ref sig .tc := ⟨.hbm, 79, rfl⟩
abbrev main_v17 : Ref sig .tc := ⟨.hbm, 80, rfl⟩

abbrev nD : Nat := 1
abbrev τ : Topo := Topo.v7x

variable {F : FTy → Type} [FloatOps F]
-- ==== Kernel3.lean ====
abbrev S2x2048x1024 : Shape := ⟨3, ![2, 2048, 1024]⟩
abbrev S1024 : Shape := ⟨1, ![1024]⟩
abbrev S1024x3592 : Shape := ⟨2, ![1024, 3592]⟩
abbrev S2x2048x3592 : Shape := ⟨3, ![2, 2048, 3592]⟩
abbrev S4096x3592 : Shape := ⟨2, ![4096, 3592]⟩
abbrev S4096x1024 : Shape := ⟨2, ![4096, 1024]⟩
abbrev S4096x512 : Shape := ⟨2, ![4096, 512]⟩
abbrev S4096x8 : Shape := ⟨2, ![4096, 8]⟩
abbrev S_ : Shape := ⟨0, ![]⟩
abbrev S4096x128 : Shape := ⟨2, ![4096, 128]⟩
abbrev S3592x1024 : Shape := ⟨2, ![3592, 1024]⟩
abbrev S8x1024 : Shape := ⟨2, ![8, 1024]⟩
abbrev S128x1024 : Shape := ⟨2, ![128, 1024]⟩
abbrev S3584x1024 : Shape := ⟨2, ![3584, 1024]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 29
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3592, .f32⟩
  | .hbm, ⟨3, _⟩ => ⟨S2x2048x1024, .f32⟩
  | .hbm, ⟨4, _⟩ => ⟨S2x2048x3592, .f32⟩
  | .hbm, ⟨5, _⟩ => ⟨S4096x3592, .f32⟩
  | .hbm, ⟨6, _⟩ => ⟨S4096x3592, .bf16⟩
  | .hbm, ⟨7, _⟩ => ⟨S4096x1024, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x8, .bf16⟩
  | .hbm, ⟨14, _⟩ => ⟨S_, .i32⟩
  | .hbm, ⟨15, _⟩ => ⟨S_, .bf16⟩
  | .hbm, ⟨16, _⟩ => ⟨S4096x128, .bf16⟩
  | .hbm, ⟨17, _⟩ => ⟨S3592x1024, .f32⟩
  | .hbm, ⟨18, _⟩ => ⟨S3592x1024, .bf16⟩
  | .hbm, ⟨19, _⟩ => ⟨S8x1024, .bf16⟩
  | .hbm, ⟨20, _⟩ => ⟨S_, .i32⟩
  | .hbm, ⟨21, _⟩ => ⟨S_, .bf16⟩
  | .hbm, ⟨22, _⟩ => ⟨S128x1024, .bf16⟩
  | .hbm, ⟨23, _⟩ => ⟨S3584x1024, .bf16⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S3584x1024, .bf16⟩
  | .local _ .vmem, ⟨15, _⟩ => ⟨S128x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3584x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S2x2048x1024 : Shape := ⟨3, ![2, 2048, 1024]⟩
abbrev S1024 : Shape := ⟨1, ![1024]⟩
abbrev S1024x3592 : Shape := ⟨2, ![1024, 3592]⟩
abbrev S2x2048x3592 : Shape := ⟨3, ![2, 2048, 3592]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3592, .f32⟩
  | .hbm, ⟨3, _⟩ => ⟨S2x2048x1024, .f32⟩
  | .hbm, ⟨4, _⟩ => ⟨S2x2048x3592, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x3592, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S2x2048x512 : Shape := ⟨3, ![2, 2048, 512]⟩
abbrev S1024x1024 : Shape := ⟨2, ![1024, 1024]⟩
abbrev S1024 : Shape := ⟨1, ![1024]⟩
abbrev S2x2048x1024 : Shape := ⟨3, ![2, 2048, 1024]⟩
abbrev S4096x512 : Shape := ⟨2, ![4096, 512]⟩
abbrev S_ : Shape := ⟨0, ![]⟩
abbrev S4096x1024 : Shape := ⟨2, ![4096, 1024]⟩
abbrev S4096x3584 : Shape := ⟨2, ![4096, 3584]⟩
abbrev S1x1024 : Shape := ⟨2, ![1, 1024]⟩
abbrev S1024x4096 : Shape := ⟨2, ![1024, 4096]⟩
abbrev S2x4x128x1024 : Shape := ⟨4, ![2, 4, 128, 1024]⟩
abbrev S512x4096 : Shape := ⟨2, ![512, 4096]⟩
abbrev S2x8x2048 : Shape := ⟨3, ![2, 8, 2048]⟩
abbrev S512x1024 : Shape := ⟨2, ![512, 1024]⟩
abbrev S512x512 : Shape := ⟨2, ![512, 512]⟩
abbrev S1024x512 : Shape := ⟨2, ![1024, 512]⟩
abbrev S1x8x512 : Shape := ⟨3, ![1, 8, 512]⟩
abbrev S512 : Shape := ⟨1, ![512]⟩
abbrev S512x1 : Shape := ⟨2, ![512, 1]⟩
abbrev S128x1024 : Shape := ⟨2, ![128, 1024]⟩
abbrev S1x1x128x1024 : Shape := ⟨4, ![1, 1, 128, 1024]⟩
abbrev S512x128 : Shape := ⟨2, ![512, 128]⟩
abbrev S128x512 : Shape := ⟨2, ![128, 512]⟩
abbrev S8x512 : Shape := ⟨2, ![8, 512]⟩

abbrev nBuf : Space → Nat
  | .hbm => 39
  | .vmem => 25
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S1024x1024, .f32⟩
  | .hbm, ⟨4, _⟩ => ⟨S1024, .f32⟩
  | .hbm, ⟨5, _⟩ => ⟨S2x2048x1024, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x1024, .f32⟩
  | .hbm, ⟨20, _⟩ => ⟨S4096x1024, .bf16⟩
  | .hbm, ⟨21, _⟩ => ⟨S1024x1024, .bf16⟩
  | .hbm, ⟨22, _⟩ => ⟨S4096x1024, .f32⟩
  | .hbm, ⟨23, _⟩ => ⟨S_, .i32⟩
  | .hbm, ⟨24, _⟩ => ⟨S_, .f32⟩
  | .hbm, ⟨25, _⟩ => ⟨S4096x3584, .f32⟩
  | .hbm, ⟨26, _⟩ => ⟨S4096x1024, .f32⟩
  | .hbm, ⟨27, _⟩ => ⟨S1x1024, .f32⟩
  | .hbm, ⟨28, _⟩ => ⟨S1024x1024, .bf16⟩
  | .hbm, ⟨29, _⟩ => ⟨S1024x1024, .bf16⟩
  | .hbm, ⟨30, _⟩ => ⟨S1024x4096, .f32⟩
  | .hbm, ⟨31, _⟩ => ⟨S1024x4096, .bf16⟩
  | .hbm, ⟨32, _⟩ => ⟨S2x4x128x1024, .bf16⟩
  | .hbm, ⟨33, _⟩ => ⟨S4096x512, .f32⟩
  | .hbm, ⟨34, _⟩ => ⟨S1x1024, .f32⟩
  | .hbm, ⟨35, _⟩ => ⟨S4096x512, .bf16⟩
  | .hbm, ⟨36, _⟩ => ⟨S512x4096, .bf16⟩
  | .hbm, ⟨37, _⟩ => ⟨S4096x512, .bf16⟩
  | .hbm, ⟨38, _⟩ => ⟨S2x8x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1024x512, .bf16⟩
  | .local _ .vmem, ⟨11, _⟩ => ⟨S1024x512, .bf16⟩
  | .local _ .vmem, ⟨12, _⟩ => ⟨S2x4x128x1024, .bf16⟩
  | .local _ .vmem, ⟨13, _⟩ => ⟨S512x512, .f32⟩
  | .local _ .vmem, ⟨14, _⟩ => ⟨S512x512, .f32⟩
  | .local _ .vmem, ⟨15, _⟩ => ⟨S1x1024, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x8x512, .f32⟩
  | .local _ .vmem, ⟨23, _⟩ => ⟨S1x8x512, .f32⟩
  | .local _ .vmem, ⟨24, _⟩ => ⟨S1024x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev main_v22_5 : Ref sig .tc := ⟨.hbm, 37, rfl⟩
abbrev main_v22_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v47 : BitVec 1 := Scalar.cmpi .eq arg0 c7_i32
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x4x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S2x2048x512 : Shape := ⟨3, ![2, 2048, 512]⟩
abbrev S1024x1024 : Shape := ⟨2, ![1024, 1024]⟩
abbrev S1024 : Shape := ⟨1, ![1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x8x64 : Shape := ⟨4, ![2, 2048, 8, 64]⟩
abbrev S2x2048x8 : Shape := ⟨3, ![2, 2048, 8]⟩
abbrev S2x8x2048 : Shape := ⟨3, ![2, 8, 2048]⟩
abbrev S4096x512 : Shape := ⟨2, ![4096, 512]⟩
abbrev S4x2x128x1024 : Shape := ⟨4, ![4, 2, 128, 1024]⟩
abbrev S2x4x128x1024 : Shape := ⟨4, ![2, 4, 128, 1024]⟩
abbrev S1x1024 : Shape := ⟨2, ![1, 1024]⟩
abbrev S512x4096 : Shape := ⟨2, ![512, 4096]⟩

abbrev nBuf : Space → Nat
  | .hbm => 93
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S1024x1024, .f32⟩
  | .hbm, ⟨4, _⟩ => ⟨S1024, .f32⟩
  | .hbm, ⟨5, _⟩ => ⟨S2x2048x1024, .f32⟩
  | .hbm, ⟨6, _⟩ => ⟨S2x2048x512, .f32⟩
  | .hbm, ⟨7, _⟩ => ⟨S2x2048x512, .f32⟩
  | .hbm, ⟨8, _⟩ => ⟨S_, .f32⟩
  | .hbm, ⟨9, _⟩ => ⟨S2x2048x512, .f32⟩
  | .hbm, ⟨10, _⟩ => ⟨S2x2048x512, .f32⟩
  | .hbm, ⟨11, _⟩ => ⟨S_, .f32⟩
  | .hbm, ⟨12, _⟩ => ⟨S2x2048x512, .f32⟩
  | .hbm, ⟨13, _⟩ => ⟨S2x2048x512, .f32⟩
  | .hbm, ⟨14, _⟩ => ⟨S_, .f32⟩
  | .hbm, ⟨15, _⟩ => ⟨S2x2048x512, .f32⟩
  | .hbm, ⟨16, _⟩ => ⟨S2x2048x512, .f32⟩
  | .hbm, ⟨17, _⟩ => ⟨S2x2048x512, .f32⟩
  | .hbm, ⟨18, _⟩ => ⟨S2x2048x512, .f32⟩
  | .hbm, ⟨19, _⟩ => ⟨S2x2048x512, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S_, .f32⟩
  | .hbm, ⟨44, _⟩ => ⟨S1024, .f32⟩
  | .hbm, ⟨45, _⟩ => ⟨S1x1x1024, .f32⟩
  | .hbm, ⟨46, _⟩ => ⟨S2x2048x1024, .f32⟩
  | .hbm, ⟨47, _⟩ => ⟨S2x2048x1024, .f32⟩
  | .hbm, ⟨48, _⟩ => ⟨S_, .f32⟩
  | .hbm, ⟨49, _⟩ => ⟨S1024, .f32⟩
  | .hbm, ⟨50, _⟩ => ⟨S2x2048x1024, .f32⟩
  | .hbm, ⟨51, _⟩ => ⟨S_, .f32⟩
  | .hbm, ⟨52, _⟩ => ⟨S2x2048, .f32⟩
  | .hbm, ⟨53, _⟩ => ⟨S2x2048x1, .f32⟩
  | .hbm, ⟨54, _⟩ => ⟨S2x2048x1024, .f32⟩
  | .hbm, ⟨55, _⟩ => ⟨S2x2048x1024, .f32⟩
  | .hbm, ⟨56, _⟩ => ⟨S2x2048x1, .f32⟩
  | .hbm, ⟨57, _⟩ => ⟨S_, .f32⟩
  | .hbm, ⟨58, _⟩ => ⟨S2x2048x1, .f32⟩
  | .hbm, ⟨59, _⟩ => ⟨S2x2048x1, .f32⟩
  | .hbm, ⟨60, _⟩ => ⟨S_, .f32⟩
  | .hbm, ⟨61, _⟩ => ⟨S2x2048, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S2x2048x1024, .f32⟩
  | .hbm, ⟨67, _⟩ => ⟨S1024x1024, .f32⟩
  | .hbm, ⟨68, _⟩ => ⟨S1024x1024, .f32⟩
  | .hbm, ⟨69, _⟩ => ⟨S2x2048x1024, .f32⟩
  | .hbm, ⟨70, _⟩ => ⟨S2x2048x512, .f32⟩
  | .hbm, ⟨71, _⟩ => ⟨S2x2048x512, .f32⟩
  | .hbm, ⟨72, _⟩ => ⟨S2x2048x512, .f32⟩
  | .hbm, ⟨73, _⟩ => ⟨S2x2048x512, .f32⟩
  | .hbm, ⟨74, _⟩ => ⟨S2x2048x512, .f32⟩
  | .hbm, ⟨75, _⟩ => ⟨S2x2048x512, .f32⟩
  | .hbm, ⟨76, _⟩ => ⟨S2x2048x512, .f32⟩
  | .hbm, ⟨77, _⟩ => ⟨S2x2048x512, .f32⟩
  | .hbm, ⟨78, _⟩ => ⟨S2x2048x512, .f32⟩
  | .hbm, ⟨79, _⟩ => ⟨S2x2048x8x64, .f32⟩
  | .hbm, ⟨80, _⟩ => ⟨S_, .f32⟩
  | .hbm, ⟨81, _⟩ => ⟨S2x2048x8, .f32⟩
  | .hbm, ⟨82, _⟩ => ⟨S2x8x2048, .f32⟩
  | .hbm, ⟨83, _⟩ => ⟨S4096x512, .f32⟩
  | .hbm, ⟨84, _⟩ => ⟨S4096x512, .bf16⟩
  | .hbm, ⟨85, _⟩ => ⟨S4x2x128x1024, .f32⟩
  | .hbm, ⟨86, _⟩ => ⟨S2x4x128x1024, .f32⟩
  | .hbm, ⟨87, _⟩ => ⟨S2x4x128x1024, .bf16⟩
  | .hbm, ⟨88, _⟩ => ⟨S4096x512, .f32⟩
  | .hbm, ⟨89, _⟩ => ⟨S1x1024, .f32⟩
  | .hbm, ⟨90, _⟩ => ⟨S512x4096, .bf16⟩
  | .hbm, ⟨91, _⟩ => ⟨S4096x512, .f32⟩
  | .hbm, ⟨92, _⟩ => ⟨S4096x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Kernel5.lean ====
abbrev S2x2048x1024 : Shape := ⟨3, ![2, 2048, 1024]⟩
abbrev S1024x3592 : Shape := ⟨2, ![1024, 3592]⟩
abbrev S2x2048x256 : Shape := ⟨3, ![2, 2048, 256]⟩
abbrev S4x64x64 : Shape := ⟨3, ![4, 64, 64]⟩
abbrev S256 : Shape := ⟨1, ![256]⟩
abbrev S2x2048x2048 : Shape := ⟨3, ![2, 2048, 2048]⟩
abbrev S2x2048x8 : Shape := ⟨3, ![2, 2048, 8]⟩
abbrev S4096x1024 : Shape := ⟨2, ![4096, 1024]⟩
abbrev S4096x2048 : Shape := ⟨2, ![4096, 2048]⟩
abbrev S4096x8 : Shape := ⟨2, ![4096, 8]⟩
abbrev S_ : Shape := ⟨0, ![]⟩
abbrev S4096x128 : Shape := ⟨2, ![4096, 128]⟩
abbrev S4096x256 : Shape := ⟨2, ![4096, 256]⟩
abbrev S4096x512 : Shape := ⟨2, ![4096, 512]⟩
abbrev S4096x3584 : Shape := ⟨2, ![4096, 3584]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1024x4096 : Shape := ⟨2, ![1024, 4096]⟩
abbrev S1x256 : Shape := ⟨2, ![1, 256]⟩
abbrev S2x4x1024x449 : Shape := ⟨4, ![2, 4, 1024, 449]⟩
abbrev S1024x512 : Shape := ⟨2, ![1024, 512]⟩
abbrev S512x1024 : Shape := ⟨2, ![512, 1024]⟩
abbrev S512x2048 : Shape := ⟨2, ![512, 2048]⟩
abbrev S512x128 : Shape := ⟨2, ![512, 128]⟩
abbrev S512x256 : Shape := ⟨2, ![512, 256]⟩
abbrev S16x256 : Shape := ⟨2, ![16, 256]⟩
abbrev S512x512 : Shape := ⟨2, ![512, 512]⟩
abbrev S1024x3712 : Shape := ⟨2, ![1024, 3712]⟩
abbrev S528x256 : Shape := ⟨2, ![528, 256]⟩
abbrev S1024x128 : Shape := ⟨2, ![1024, 128]⟩
abbrev S1024x449 : Shape := ⟨2, ![1024, 449]⟩
abbrev S1x1x1024x449 : Shape := ⟨4, ![1, 1, 1024, 449]⟩

abbrev nBuf : Space → Nat
  | .hbm => 52
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S1024x3592, .f32⟩
  | .hbm, ⟨2, _⟩ => ⟨S2x2048x256, .f32⟩
  | .hbm, ⟨3, _⟩ => ⟨S2x2048x256, .f32⟩
  | .hbm, ⟨4, _⟩ => ⟨S4x64x64, .f32⟩
  | .hbm, ⟨5, _⟩ => ⟨S256, .f32⟩
  | .hbm, ⟨6, _⟩ => ⟨S2x2048x1024, .f32⟩
  | .hbm, ⟨7, _⟩ => ⟨S2x2048x256, .f32⟩
  | .hbm, ⟨8, _⟩ => ⟨S2x2048x2048, .f32⟩
  | .hbm, ⟨9, _⟩ => ⟨S2x2048x8, .f32⟩
  | .hbm, ⟨10, _⟩ => ⟨S4096x1024, .f32⟩
  | .hbm, ⟨11, _⟩ => ⟨S4096x1024, .bf16⟩
  | .hbm, ⟨12, _⟩ => ⟨S4096x2048, .f32⟩
  | .hbm, ⟨13, _⟩ => ⟨S4096x2048, .bf16⟩
  | .hbm, ⟨14, _⟩ => ⟨S4096x8, .f32⟩
  | .hbm, ⟨15, _⟩ => ⟨S4096x8, .bf16⟩
  | .hbm, ⟨16, _⟩ => ⟨S_, .i32⟩
  | .hbm, ⟨17, _⟩ => ⟨S_, .bf16⟩
  | .hbm, ⟨18, _⟩ => ⟨S4096x128, .bf16⟩
  | .hbm, ⟨19, _⟩ => ⟨S4096x256, .f32⟩
  | .hbm, ⟨20, _⟩ => ⟨S4096x256, .f32⟩
  | .hbm, ⟨21, _⟩ => ⟨S4096x512, .f32⟩
  | .hbm, ⟨22, _⟩ => ⟨S_, .i32⟩
  | .hbm, ⟨23, _⟩ => ⟨S_, .f32⟩
  | .hbm, ⟨24, _⟩ => ⟨S4096x3584, .f32⟩
  | .hbm, ⟨25, _⟩ => ⟨S4096x256, .f32⟩
  | .hbm, ⟨26, _⟩ => ⟨S_, .i32⟩
  | .hbm, ⟨27, _⟩ => ⟨S_, .f32⟩
  | .hbm, ⟨28, _⟩ => ⟨S4096x512, .f32⟩
  | .hbm, ⟨29, _⟩ => ⟨S4x4, .i32⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i1⟩
  | .hbm, ⟨35, _⟩ => ⟨S4x4, .f32⟩
  | .hbm, ⟨36, _⟩ => ⟨S4x1x4x1, .f32⟩
  | .hbm, ⟨37, _⟩ => ⟨S4x64x1x64, .f32⟩
  | .hbm, ⟨38, _⟩ => ⟨S4x64x4x64, .f32⟩
  | .hbm, ⟨39, _⟩ => ⟨S4x64x4x64, .f32⟩
  | .hbm, ⟨40, _⟩ => ⟨S4x64x4x64, .f32⟩
  | .hbm, ⟨41, _⟩ => ⟨S256x256, .f32⟩
  | .hbm, ⟨42, _⟩ => ⟨S256x256, .bf16⟩
  | .hbm, ⟨43, _⟩ => ⟨S4096x1024, .f32⟩
  | .hbm, ⟨44, _⟩ => ⟨S4096x1024, .bf16⟩
  | .hbm, ⟨45, _⟩ => ⟨S1024x4096, .bf16⟩
  | .hbm, ⟨46, _⟩ => ⟨S256x256, .bf16⟩
  | .hbm, ⟨47, _⟩ => ⟨S1x256, .f32⟩
  | .hbm, ⟨48, _⟩ => ⟨S2x4x1024x449, .bf16⟩
  | .hbm, ⟨49, _⟩ => ⟨S4096x512, .bf16⟩
  | .hbm, ⟨50, _⟩ => ⟨S256x256, .f32⟩
  | .hbm, ⟨51, _⟩ => ⟨S1x256, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x128, .bf16⟩
  | .local _ .vmem, ⟨7, _⟩ => ⟨S512x128, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S16x256, .f32⟩
  | .local _ .vmem, ⟨13, _⟩ => ⟨S16x256, .f32⟩
  | .local _ .vmem, ⟨14, _⟩ => ⟨S512x256, .f32⟩
  | .local _ .vmem, ⟨15, _⟩ => ⟨S512x256, .f32⟩
  | .local _ .vmem, ⟨16, _⟩ => ⟨S16x256, .f32⟩
  | .local _ .vmem, ⟨17, _⟩ => ⟨S16x256, .f32⟩
  | .local _ .vmem, ⟨18, _⟩ => ⟨S16x256, .f32⟩
  | .local _ .vmem, ⟨19, _⟩ => ⟨S16x256, .f32⟩
  | .local _ .vmem, ⟨20, _⟩ => ⟨S256x256, .bf16⟩
  | .local _ .vmem, ⟨21, _⟩ => ⟨S256x256, .bf16⟩
  | .local _ .vmem, ⟨22, _⟩ => ⟨S1x256, .f32⟩
  | .local _ .vmem, ⟨23, _⟩ => ⟨S2x4x1024x449, .bf16⟩
  | .local _ .vmem, ⟨24, _⟩ => ⟨S512x512, .bf16⟩
  | .local _ .vmem, ⟨25, _⟩ => ⟨S512x512, .bf16⟩
  | .local _ .vmem, ⟨26, _⟩ => ⟨S256x256, .f32⟩
  | .local _ .vmem, ⟨27, _⟩ => ⟨S1x256, .f32⟩
  | .local _ .vmem, ⟨28, _⟩ => ⟨S1024x3712, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_call2_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_v31_2 : Ref sig .tc := ⟨.hbm, 50, rfl⟩
abbrev main_v31_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v321 : BitVec 1 := Scalar.cmpi .eq arg1 c7_i32
  let v322 : BitVec 32 := Scalar.extui v321
  let c0_i32_141 : BitVec 32 := 0#32
  let v323 : BitVec 1 := Scalar.cmpi .ne v322 c0_i32_141
  v323

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c5_i32 : BitVec 32 := 5#32
  let c0_i32 : BitVec 32 := 0#32
  ![v2.toNat, c5_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2x4x1024x449 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== Reference5Ideal.lean ====
abbrev S2x2048x1024 : Shape := ⟨3, ![2, 2048, 1024]⟩
abbrev S1024x3592 : Shape := ⟨2, ![1024, 3592]⟩
abbrev S2x2048x256 : Shape := ⟨3, ![2, 2048, 256]⟩
abbrev S4x64x64 : Shape := ⟨3, ![4, 64, 64]⟩
abbrev S256 : Shape := ⟨1, ![256]⟩
abbrev S2x2048x2048 : Shape := ⟨3, ![2, 2048, 2048]⟩
abbrev S2x2048x8 : Shape := ⟨3, ![2, 2048, 8]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S2x2048x4x64 : Shape := ⟨4, ![2, 2048, 4, 64]⟩
abbrev S2x1x4x64 : Shape := ⟨4, ![2, 1, 4, 64]⟩
abbrev S2x2049x4x64 : Shape := ⟨4, ![2, 2049, 4, 64]⟩
abbrev S2048 : Shape := ⟨1, ![2048]⟩
abbrev S2x2049x1x64 : Shape := ⟨4, ![2, 2049, 1, 64]⟩
abbrev S2x2049x64 : Shape := ⟨3, ![2, 2049, 64]⟩
abbrev S2x2048x64 : Shape := ⟨3, ![2, 2048, 64]⟩
abbrev S2x1x64 : Shape := ⟨3, ![2, 1, 64]⟩
abbrev S2x2047x64 : Shape := ⟨3, ![2, 2047, 64]⟩
abbrev S1x2048x1 : Shape := ⟨3, ![1, 2048, 1]⟩
abbrev S2x2048x1x64 : Shape := ⟨4, ![2, 2048, 1, 64]⟩
abbrev S2x3x64 : Shape := ⟨3, ![2, 3, 64]⟩
abbrev S2x2045x64 : Shape := ⟨3, ![2, 2045, 64]⟩
abbrev S2x7x64 : Shape := ⟨3, ![2, 7, 64]⟩
abbrev S2x2041x64 : Shape := ⟨3, ![2, 2041, 64]⟩
abbrev S2x15x64 : Shape := ⟨3, ![2, 15, 64]⟩
abbrev S2x2033x64 : Shape := ⟨3, ![2, 2033, 64]⟩
abbrev S1x1x256 : Shape := ⟨3, ![1, 1, 256]⟩
abbrev S2x2048x3592 : Shape := ⟨3, ![2, 2048, 3592]⟩
abbrev S3592x1024 : Shape := ⟨2, ![3592, 1024]⟩
abbrev S2x2048x512 : Shape := ⟨3, ![2, 2048, 512]⟩
abbrev S4096x512 : Shape := ⟨2, ![4096, 512]⟩
abbrev S1024x4x2x449 : Shape := ⟨4, ![1024, 4, 2, 449]⟩
abbrev S2x4x1024x449 : Shape := ⟨4, ![2, 4, 1024, 449]⟩
abbrev S1x256 : Shape := ⟨2, ![1, 256]⟩

abbrev nBuf : Space → Nat
  | .hbm => 271
  | .vmem => 0
  | .smem => 0
  | _ => 0

abbrev hbmTy0_0 (i : Nat) : BufTy := match i % 128 with
  | 0 => ⟨S2x2048x1024, .f32⟩
  | 1 => ⟨S1024x3592, .f32⟩
  | 2 => ⟨S2x2048x256, .f32⟩
  | 3 => ⟨S2x2048x256, .f32⟩
  | 4 => ⟨S4x64x64, .f32⟩
  | 5 => ⟨S256, .f32⟩
  | 6 => ⟨S2x2048x1024, .f32⟩
  | 7 => ⟨S2x2048x256, .f32⟩
  | 8 => ⟨S2x2048x2048, .f32⟩
  | 9 => ⟨S2x2048x8, .f32⟩
  | 10 => ⟨S1x64x64, .f32⟩
  | 11 => ⟨S64x64, .f32⟩
  | 12 => ⟨S_, .i32⟩
  | 13 => ⟨S_, .f32⟩
  | 14 => ⟨S64x256, .f32⟩
  | 15 => ⟨S1x64x64, .f32⟩
  | 16 => ⟨S64x64, .f32⟩
  | 17 => ⟨S_, .i32⟩
  | 18 => ⟨S_, .f32⟩
  | 19 => ⟨S64x256, .f32⟩
  | 20 => ⟨S1x64x64, .f32⟩
  | 21 => ⟨S64x64, .f32⟩
  | 22 => ⟨S_, .i32⟩
  | 23 => ⟨S_, .f32⟩
  | 24 => ⟨S64x256, .f32⟩
  | 25 => ⟨S1x64x64, .f32⟩
  | 26 => ⟨S64x64, .f32⟩
  | 27 => ⟨S_, .i32⟩
  | 28 => ⟨S_, .f32⟩
  | 29 => ⟨S64x256, .f32⟩
  | 30 => ⟨S256x256, .f32⟩
  | 31 => ⟨S2x2048x4x64, .f32⟩
  | 32 => ⟨S_, .f32⟩
  | 33 => ⟨S2x1x4x64, .f32⟩
  | 34 => ⟨S_, .f32⟩
  | 35 => ⟨S_, .f32⟩
  | 36 => ⟨S2x2048x4x64, .f32⟩
  | 37 => ⟨S2x2049x4x64, .f32⟩
  | 38 => ⟨S_, .f32⟩
  | 39 => ⟨S2x1x4x64, .f32⟩
  | 40 => ⟨S2048, .f32⟩
  | 41 => ⟨S2x2049x1x64, .f32⟩
  | 42 => ⟨S2x2049x64, .f32⟩
  | 43 => ⟨S2x2048x64, .f32⟩
  | 44 => ⟨S_, .f32⟩
  | 45 => ⟨S2x1x64, .f32⟩
  | 46 => ⟨S2x2047x64, .f32⟩
  | 47 => ⟨S2x2048x64, .f32⟩
  | 48 => ⟨S_, .f32⟩
  | 49 => ⟨S2x1x64, .f32⟩
  | 50 => ⟨S_, .f32⟩
  | 51 => ⟨S2048, .f32⟩
  | 52 => ⟨S2048, .f32⟩
  | 53 => ⟨S_, .f32⟩
  | 54 => ⟨S2048, .f32⟩
  | 55 => ⟨S2048, .f32⟩
  | 56 => ⟨S1x2048x1, .f32⟩
  | 57 => ⟨S2x2048x64, .f32⟩
  | 58 => ⟨S2x2048x64, .f32⟩
  | 59 => ⟨S2x2048x64, .f32⟩
  | 60 => ⟨S2x2048x1x64, .f32⟩
  | 61 => ⟨S2x2048x64, .f32⟩
  | 62 => ⟨S2x2048x64, .f32⟩
  | 63 => ⟨S2x2049x1x64, .f32⟩
  | 64 => ⟨S2x2049x64, .f32⟩
  | 65 => ⟨S2x2048x64, .f32⟩
  | 66 => ⟨S_, .f32⟩
  | 67 => ⟨S2x3x64, .f32⟩
  | 68 => ⟨S2x2045x64, .f32⟩
  | 69 => ⟨S2x2048x64, .f32⟩
  | 70 => ⟨S_, .f32⟩
  | 71 => ⟨S2x3x64, .f32⟩
  | 72 => ⟨S_, .f32⟩
  | 73 => ⟨S2048, .f32⟩
  | 74 => ⟨S2048, .f32⟩
  | 75 => ⟨S_, .f32⟩
  | 76 => ⟨S2048, .f32⟩
  | 77 => ⟨S2048, .f32⟩
  | 78 => ⟨S1x2048x1, .f32⟩
  | 79 => ⟨S2x2048x64, .f32⟩
  | 80 => ⟨S2x2048x64, .f32⟩
  | 81 => ⟨S2x2048x64, .f32⟩
  | 82 => ⟨S2x2048x1x64, .f32⟩
  | 83 => ⟨S2x2048x64, .f32⟩
  | 84 => ⟨S2x2048x64, .f32⟩
  | 85 => ⟨S2x2049x1x64, .f32⟩
  | 86 => ⟨S2x2049x64, .f32⟩
  | 87 => ⟨S2x2048x64, .f32⟩
  | 88 => ⟨S_, .f32⟩
  | 89 => ⟨S2x7x64, .f32⟩
  | 90 => ⟨S2x2041x64, .f32⟩
  | 91 => ⟨S2x2048x64, .f32⟩
  | 92 => ⟨S_, .f32⟩
  | 93 => ⟨S2x7x64, .f32⟩
  | 94 => ⟨S_, .f32⟩
  | 95 => ⟨S2048, .f32⟩
  | 96 => ⟨S2048, .f32⟩
  | 97 => ⟨S_, .f32⟩
  | 98 => ⟨S2048, .f32⟩
  | 99 => ⟨S2048, .f32⟩
  | 100 => ⟨S1x2048x1, .f32⟩
  | 101 => ⟨S2x2048x64, .f32⟩
  | 102 => ⟨S2x2048x64, .f32⟩
  | 103 => ⟨S2x2048x64, .f32⟩
  | 104 => ⟨S2x2048x1x64, .f32⟩
  | 105 => ⟨S2x2048x64, .f32⟩
  | 106 => ⟨S2x2048x64, .f32⟩
  | 107 => ⟨S2x2049x1x64, .f32⟩
  | 108 => ⟨S2x2049x64, .f32⟩
  | 109 => ⟨S2x2048x64, .f32⟩
  | 110 => ⟨S_, .f32⟩
  | 111 => ⟨S2x15x64, .f32⟩
  | 112 => ⟨S2x2033x64, .f32⟩
  | 113 => ⟨S2x2048x64, .f32⟩
  | 114 => ⟨S_, .f32⟩
  | 115 => ⟨S2x15x64, .f32⟩
  | 116 => ⟨S_, .f32⟩
  | 117 => ⟨S2048, .f32⟩
  | 118 => ⟨S2048, .f32⟩
  | 119 => ⟨S_, .f32⟩
  | 120 => ⟨S2048, .f32⟩
  | 121 => ⟨S2048, .f32⟩
  | 122 => ⟨S1x2048x1, .f32⟩
  | 123 => ⟨S2x2048x64, .f32⟩
  | 124 => ⟨S2x2048x64, .f32⟩
  | 125 => ⟨S2x2048x64, .f32⟩
  | 126 => ⟨S2x2048x1x64, .f32⟩
  | 127 => ⟨S2x2048x64, .f32⟩
  | _ => ⟨S2x2048x1024, .f32⟩

abbrev hbmTy0_1 (i : Nat) : BufTy := match i % 128 with
  | 0 => ⟨S2x2048x64, .f32⟩
  | 1 => ⟨S2x2048x1x64, .f32⟩
  | 2 => ⟨S2x2048x1x64, .f32⟩
  | 3 => ⟨S2x2048x1x64, .f32⟩
  | 4 => ⟨S2x2048x1x64, .f32⟩
  | 5 => ⟨S2x2048x4x64, .f32⟩
  | 6 => ⟨S2x2048x256, .f32⟩
  | 7 => ⟨S2x2048x256, .f32⟩
  | 8 => ⟨S1x1x256, .f32⟩
  | 9 => ⟨S2x2048x256, .f32⟩
  | 10 => ⟨S2x2048x256, .f32⟩
  | 11 => ⟨S2x2048x256, .f32⟩
  | 12 => ⟨S2x2048x256, .f32⟩
  | 13 => ⟨S_, .f32⟩
  | 14 => ⟨S2x2048x256, .f32⟩
  | 15 => ⟨S2x2048x256, .f32⟩
  | 16 => ⟨S_, .f32⟩
  | 17 => ⟨S2x2048x256, .f32⟩
  | 18 => ⟨S2x2048x256, .f32⟩
  | 19 => ⟨S_, .f32⟩
  | 20 => ⟨S2x2048x256, .f32⟩
  | 21 => ⟨S2x2048x256, .f32⟩
  | 22 => ⟨S2x2048x256, .f32⟩
  | 23 => ⟨S2x2048x256, .f32⟩
  | 24 => ⟨S2x2048x256, .f32⟩
  | 25 => ⟨S2x2048x256, .f32⟩
  | 26 => ⟨S2x2048x256, .f32⟩
  | 27 => ⟨S2x2048x256, .f32⟩
  | 28 => ⟨S2x2048x256, .f32⟩
  | 29 => ⟨S2x2048x256, .f32⟩
  | 30 => ⟨S2x2048x256, .f32⟩
  | 31 => ⟨S2x2048x256, .f32⟩
  | 32 => ⟨S_, .f32⟩
  | 33 => ⟨S256, .f32⟩
  | 34 => ⟨S1x1x256, .f32⟩
  | 35 => ⟨S2x2048x256, .f32⟩
  | 36 => ⟨S2x2048x256, .f32⟩
  | 37 => ⟨S_, .f32⟩
  | 38 => ⟨S256, .f32⟩
  | 39 => ⟨S256x256, .f32⟩
  | 40 => ⟨S256x256, .f32⟩
  | 41 => ⟨S2x2048x256, .f32⟩
  | 42 => ⟨S2x2048x4x64, .f32⟩
  | 43 => ⟨S2x2048x1x64, .f32⟩
  | 44 => ⟨S2x2048x64, .f32⟩
  | 45 => ⟨S2x2048x1x64, .f32⟩
  | 46 => ⟨S2x2048x64, .f32⟩
  | 47 => ⟨S2x2048x1x64, .f32⟩
  | 48 => ⟨S2x2048x64, .f32⟩
  | 49 => ⟨S2x2048x1x64, .f32⟩
  | 50 => ⟨S2x2048x64, .f32⟩
  | 51 => ⟨S2x2048x64, .f32⟩
  | 52 => ⟨S2x2048x1x64, .f32⟩
  | 53 => ⟨S_, .f32⟩
  | 54 => ⟨S2x2048x4x64, .f32⟩
  | 55 => ⟨S2x2048x64, .f32⟩
  | 56 => ⟨S2x2048x64, .f32⟩
  | 57 => ⟨S2x2048x64, .f32⟩
  | 58 => ⟨S2x15x64, .f32⟩
  | 59 => ⟨S2x2033x64, .f32⟩
  | 60 => ⟨S_, .f32⟩
  | 61 => ⟨S2x2049x64, .f32⟩
  | 62 => ⟨S_, .f32⟩
  | 63 => ⟨S2x2049x64, .f32⟩
  | 64 => ⟨S2x2049x64, .f32⟩
  | 65 => ⟨S2x2049x1x64, .f32⟩
  | 66 => ⟨S_, .f32⟩
  | 67 => ⟨S2x2049x4x64, .f32⟩
  | 68 => ⟨S2x2048x64, .f32⟩
  | 69 => ⟨S2x2048x1x64, .f32⟩
  | 70 => ⟨S_, .f32⟩
  | 71 => ⟨S2x2048x4x64, .f32⟩
  | 72 => ⟨S2x2048x4x64, .f32⟩
  | 73 => ⟨S2x2048x64, .f32⟩
  | 74 => ⟨S2x2048x64, .f32⟩
  | 75 => ⟨S2x2048x64, .f32⟩
  | 76 => ⟨S2x7x64, .f32⟩
  | 77 => ⟨S2x2041x64, .f32⟩
  | 78 => ⟨S_, .f32⟩
  | 79 => ⟨S2x2049x64, .f32⟩
  | 80 => ⟨S_, .f32⟩
  | 81 => ⟨S2x2049x64, .f32⟩
  | 82 => ⟨S2x2049x64, .f32⟩
  | 83 => ⟨S2x2049x1x64, .f32⟩
  | 84 => ⟨S_, .f32⟩
  | 85 => ⟨S2x2049x4x64, .f32⟩
  | 86 => ⟨S2x2049x4x64, .f32⟩
  | 87 => ⟨S2x2048x64, .f32⟩
  | 88 => ⟨S2x2048x1x64, .f32⟩
  | 89 => ⟨S_, .f32⟩
  | 90 => ⟨S2x2048x4x64, .f32⟩
  | 91 => ⟨S2x2048x4x64, .f32⟩
  | 92 => ⟨S2x2048x64, .f32⟩
  | 93 => ⟨S2x2048x64, .f32⟩
  | 94 => ⟨S2x2048x64, .f32⟩
  | 95 => ⟨S2x3x64, .f32⟩
  | 96 => ⟨S2x2045x64, .f32⟩
  | 97 => ⟨S_, .f32⟩
  | 98 => ⟨S2x2049x64, .f32⟩
  | 99 => ⟨S_, .f32⟩
  | 100 => ⟨S2x2049x64, .f32⟩
  | 101 => ⟨S2x2049x64, .f32⟩
  | 102 => ⟨S2x2049x1x64, .f32⟩
  | 103 => ⟨S_, .f32⟩
  | 104 => ⟨S2x2049x4x64, .f32⟩
  | 105 => ⟨S2x2049x4x64, .f32⟩
  | 106 => ⟨S2x2048x64, .f32⟩
  | 107 => ⟨S2x2048x1x64, .f32⟩
  | 108 => ⟨S_, .f32⟩
  | 109 => ⟨S2x2048x4x64, .f32⟩
  | 110 => ⟨S2x2048x4x64, .f32⟩
  | 111 => ⟨S2x2048x64, .f32⟩
  | 112 => ⟨S2x2048x64, .f32⟩
  | 113 => ⟨S2x2048x64, .f32⟩
  | 114 => ⟨S2x1x64, .f32⟩
  | 115 => ⟨S2x2047x64, .f32⟩
  | 116 => ⟨S_, .f32⟩
  | 117 => ⟨S2x2049x64, .f32⟩
  | 118 => ⟨S_, .f32⟩
  | 119 => ⟨S2x2049x64, .f32⟩
  | 120 => ⟨S2x2049x64, .f32⟩
  | 121 => ⟨S2x2049x1x64, .f32⟩
  | 122 => ⟨S_, .f32⟩
  | 123 => ⟨S2x2049x4x64, .f32⟩
  | 124 => ⟨S2x2049x4x64, .f32⟩
  | 125 => ⟨S2x1x4x64, .f32⟩
  | 126 => ⟨S2x2048x4x64, .f32⟩
  | 127 => ⟨S_, .f32⟩
  | _ => ⟨S2x2048x1024, .f32⟩

abbrev hbmTy0_2 (i : Nat) : BufTy := match i % 128 with
  | 0 => ⟨S_, .f32⟩
  | 1 => ⟨S2x2048x4x64, .f32⟩
  | 2 => ⟨S2x2048x4x64, .f32⟩
  | 3 => ⟨S2x2048x256, .f32⟩
  | 4 => ⟨S2x2048x3592, .f32⟩
  | 5 => ⟨S2x2048x3592, .f32⟩
  | 6 => ⟨S3592x1024, .f32⟩
  | 7 => ⟨S1024x3592, .f32⟩
  | 8 => ⟨S2x2048x512, .f32⟩
  | 9 => ⟨S4096x512, .f32⟩
  | 10 => ⟨S1024x4x2x449, .f32⟩
  | 11 => ⟨S2x4x1024x449, .f32⟩
  | 12 => ⟨S2x4x1024x449, .bf16⟩
  | 13 => ⟨S4096x512, .bf16⟩
  | 14 => ⟨S1x256, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_call2_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_call3_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_call4_call0_cst : Ref sig .tc := ⟨.hbm, 34, rfl⟩
abbrev main_call4_call0_v0 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_cst_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_16 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_17 : Ref sig .tc := ⟨.hbm, 114, rfl⟩
abbrev main_v79 : Ref sig .tc := ⟨.hbm, 115, rfl⟩
abbrev main_cst_18 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_call5_v0 : Ref sig .tc := ⟨.hbm, 139, rfl⟩
abbrev main_call5_v1 : Ref sig .tc := ⟨.hbm, 140, rfl⟩
abbrev main_call5_cst : Ref sig .tc := ⟨.hbm, 141, rfl⟩
abbrev main_call5_v2 : Ref sig .tc := ⟨.hbm, 142, rfl⟩
abbrev main_call5_v3 : Ref sig .tc := ⟨.hbm, 143, rfl⟩
abbrev main_call5_cst_0 : Ref sig .tc := ⟨.hbm, 144, rfl⟩
abbrev main_call5_v4 : Ref sig .tc := ⟨.hbm, 145, rfl⟩
abbrev main_v101_2 : Ref sig .tc := ⟨.hbm, 146, rfl⟩
abbrev main_call5_cst_1 : Ref sig .tc := ⟨.hbm, 147, rfl⟩
abbrev main_call5_v6 : Ref sig .tc := ⟨.hbm, 148, rfl⟩
abbrev main_call5_v7 : Ref sig .tc := ⟨.hbm, 149, rfl⟩
abbrev main_v101_1 : Ref sig .tc := ⟨.hbm, 150, rfl⟩
abbrev main_v101_0 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_v105 : Ref sig .tc := ⟨.hbm, 158, rfl⟩
abbrev main_v106 : Ref sig .tc := ⟨.hbm, 159, rfl⟩
abbrev main_cst_20 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_21 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_22 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_23 : Ref sig .tc := ⟨.hbm, 188, rfl⟩
abbrev main_v132 : Ref sig .tc := ⟨.hbm, 189, rfl⟩
abbrev main_cst_24 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_cst_25 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_26 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_27 : Ref sig .tc := ⟨.hbm, 206, rfl⟩
abbrev main_v146 : Ref sig .tc := ⟨.hbm, 207, rfl⟩
abbrev main_cst_28 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_cst_29 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_cst_30 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_31 : Ref sig .tc := ⟨.hbm, 225, rfl⟩
abbrev main_v161 : Ref sig .tc := ⟨.hbm, 226, rfl⟩
abbrev main_cst_32 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_cst_33 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_34 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_cst_35 : Ref sig .tc := ⟨.hbm, 244, rfl⟩
abbrev main_v176 : Ref sig .tc := ⟨.hbm, 245, rfl⟩
abbrev main_cst_36 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_cst_37 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_call7_call0_cst : Ref sig .tc := ⟨.hbm, 255, rfl⟩
abbrev main_call7_call0_v0 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩

abbrev nD : Nat := 1
abbrev τ : Topo := Topo.v7x

variable {F : FTy → Type} [FloatOps F]
-- ==== Kernel8.lean ====
abbrev S2x256 : Shape := ⟨2, ![2, 256]⟩
abbrev S256 : Shape := ⟨1, ![256]⟩
abbrev S1x256 : Shape := ⟨2, ![1, 256]⟩

abbrev nBuf : Space → Nat
  | .hbm => 2
  | .vmem => 2
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .local _ .vmem, ⟨0, _⟩ => ⟨S2x256, .f32⟩
  | .local _ .vmem, ⟨1, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference8Ideal.lean ====
abbrev S2x256 : Shape := ⟨2, ![2, 256]⟩
abbrev S_ : Shape := ⟨0, ![]⟩
abbrev S256 : Shape := ⟨1, ![256]⟩
abbrev S1x256 : Shape := ⟨2, ![1, 256]⟩

abbrev nBuf : Space → Nat
  | .hbm => 23
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S_, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S2x256, .f32⟩
  | .hbm, ⟨8, _⟩ => ⟨S2x256, .f32⟩
  | .hbm, ⟨9, _⟩ => ⟨S2x256, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S_, .f32⟩
  | .hbm, ⟨17, _⟩ => ⟨S2x256, .f32⟩
  | .hbm, ⟨18, _⟩ => ⟨S1x256, .f32⟩
  | .hbm, ⟨19, _⟩ => ⟨S256, .f32⟩
  | .hbm, ⟨20, _⟩ => ⟨S1x256, .f32⟩
  | .hbm, ⟨21, _⟩ => ⟨S2x256, .f32⟩
  | .hbm, ⟨22, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel9.lean ====
abbrev S2x2048x8 : Shape := ⟨3, ![2, 2048, 8]⟩
abbrev S8 : Shape := ⟨1, ![8]⟩
abbrev S4096x8 : Shape := ⟨2, ![4096, 8]⟩
abbrev S_ : Shape := ⟨0, ![]⟩
abbrev S4096x128 : Shape := ⟨2, ![4096, 128]⟩
abbrev S1x8 : Shape := ⟨2, ![1, 8]⟩
abbrev S1x128 : Shape := ⟨2, ![1, 128]⟩
abbrev S2x8x2048 : Shape := ⟨3, ![2, 8, 2048]⟩
abbrev S2048x128 : Shape := ⟨2, ![2048, 128]⟩
abbrev S1x8x2048 : Shape := ⟨3, ![1, 8, 2048]⟩
abbrev S256x256 : Shape := ⟨2, ![256, 256]⟩
abbrev S256x128 : Shape := ⟨2, ![256, 128]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 12
  | .vmem => 7
  | .smem => 0
  | _ => 0

abbrev bufTy : (tb : Table) → Fin (tcTables nBuf tb) → BufTy
  | .hbm, ⟨0, _⟩ => ⟨S2x2048x8, .f32⟩
  | .hbm, ⟨1, _⟩ => ⟨S8, .f32⟩
  | .hbm, ⟨2, _⟩ => ⟨S4096x8, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S1x8, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S4096x128, .f32⟩
  | .hbm, ⟨11, _⟩ => ⟨S2x8x2048, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S1x8x2048, .f32⟩
  | .local _ .vmem, ⟨6, _⟩ => ⟨S1x8x2048, .f32⟩
  | _, _ => ⟨S2x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S2x2048x8 : Shape := ⟨3, ![2, 2048, 8]⟩
abbrev S8 : Shape := ⟨1, ![8]⟩
abbrev S1x1x8 : Shape := ⟨3, ![1, 1, 8]⟩
abbrev S_ : Shape := ⟨0, ![]⟩
abbrev S2x2048x128 : Shape := ⟨3, ![2, 2048, 128]⟩
abbrev S4096x128 : Shape := ⟨2, ![4096, 128]⟩
abbrev S2x8x2048 : Shape := ⟨3, ![2, 8, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x8, .f32⟩
  | .hbm, ⟨1, _⟩ => ⟨S8, .f32⟩
  | .hbm, ⟨2, _⟩ => ⟨S1x1x8, .f32⟩
  | .hbm, ⟨3, _⟩ => ⟨S2x2048x8, .f32⟩
  | .hbm, ⟨4, _⟩ => ⟨S2x2048x8, .f32⟩
  | .hbm, ⟨5, _⟩ => ⟨S_, .i32⟩
  | .hbm, ⟨6, _⟩ => ⟨S_, .f32⟩
  | .hbm, ⟨7, _⟩ => ⟨S2x2048x128, .f32⟩
  | .hbm, ⟨8, _⟩ => ⟨S2x2048x128, .f32⟩
  | .hbm, ⟨9, _⟩ => ⟨S_, .f32⟩
  | .hbm, ⟨10, _⟩ => ⟨S2x2048x128, .f32⟩
  | .hbm, ⟨11, _⟩ => ⟨S2x2048x128, .f32⟩
  | .hbm, ⟨12, _⟩ => ⟨S2x2048x128, .f32⟩
  | .hbm, ⟨13, _⟩ => ⟨S2x2048x128, .f32⟩
  | .hbm, ⟨14, _⟩ => ⟨S2x2048x128, .i1⟩
  | .hbm, ⟨15, _⟩ => ⟨S2x2048x128, .f32⟩
  | .hbm, ⟨16, _⟩ => ⟨S2x2048x128, .f32⟩
  | .hbm, ⟨17, _⟩ => ⟨S2x2048x128, .f32⟩
  | .hbm, ⟨18, _⟩ => ⟨S2x2048x128, .f32⟩
  | .hbm, ⟨19, _⟩ => ⟨S2x2048x128, .f32⟩
  | .hbm, ⟨20, _⟩ => ⟨S2x2048x128, .f32⟩
  | .hbm, ⟨21, _⟩ => ⟨S2x2048x128, .f32⟩
  | .hbm, ⟨22, _⟩ => ⟨S2x2048x128, .f32⟩
  | .hbm, ⟨23, _⟩ => ⟨S2x2048x128, .f32⟩
  | .hbm, ⟨24, _⟩ => ⟨S_, .f32⟩
  | .hbm, ⟨25, _⟩ => ⟨S_, .f32⟩
  | .hbm, ⟨26, _⟩ => ⟨S2x2048x128, .f32⟩
  | .hbm, ⟨27, _⟩ => ⟨S4096x128, .f32⟩
  | .hbm, ⟨28, _⟩ => ⟨S2x2048x8, .f32⟩
  | .hbm, ⟨29, _⟩ => ⟨S2x8x2048, .f32⟩
  | _, _ => ⟨S2x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_call1_v0 : Ref sig .tc := ⟨.hbm, 8, rfl⟩
abbrev main_call1_call0_cst : Ref sig .tc := ⟨.hbm, 9, rfl⟩
abbrev main_call1_call0_v0 : Ref sig .tc := ⟨.hbm, 10, rfl⟩
abbrev main_call1_call0_v1 : Ref sig .tc := ⟨.hbm, 11, rfl⟩
abbrev main_call1_call0_v2 : Ref sig .tc := ⟨.hbm, 12, rfl⟩
abbrev main_call1_call0_v3 : Ref sig .tc := ⟨.hbm, 13, rfl⟩
abbrev main_call1_call0_v4 : Ref sig .tc := ⟨.hbm, 14, rfl⟩
abbrev main_call1_call0_v5 : Ref sig .tc := ⟨.hbm, 15, rfl⟩
abbrev main_call1_call0_v6 : Ref sig .tc := ⟨.hbm, 16, rfl⟩
abbrev main_call1_call0_v7 : Ref sig .tc := ⟨.hbm, 17, rfl⟩
abbrev main_call1_call0_v8 : Ref sig .tc := ⟨.hbm, 18, rfl⟩
abbrev main_call1_call0_v9 : Ref sig .tc := ⟨.hbm, 19, rfl⟩
abbrev main_call1_call0_v10 : Ref sig .tc := ⟨.hbm, 20, rfl⟩
abbrev main_call1_call0_v11 : Ref sig .tc := ⟨.hbm, 21, rfl⟩
abbrev main_call1_v1 : Ref sig .tc := ⟨.hbm, 22, rfl⟩
abbrev main_v4 : Ref sig .tc := ⟨.hbm, 23, rfl⟩
abbrev main_call2_call0_cst : Ref sig .tc := ⟨.hbm, 24, rfl⟩
abbrev main_call2_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩

abbrev nD : Nat := 1
abbrev τ : Topo := Topo.v7x

variable {F : FTy → Type} [FloatOps F]
-- ==== Kernel10.lean ====
abbrev S2x2048x1024 : Shape := ⟨3, ![2, 2048, 1024]⟩
abbrev S1024 : Shape := ⟨1, ![1024]⟩
abbrev S1024x3592 : Shape := ⟨2, ![1024, 3592]⟩
abbrev S1024x3584 : Shape := ⟨2, ![1024, 3584]⟩
abbrev S1024x8 : Shape := ⟨2, ![1024, 8]⟩
abbrev S_ : Shape := ⟨0, ![]⟩
abbrev S1024x128 : Shape := ⟨2, ![1024, 128]⟩
abbrev S4096x1024 : Shape := ⟨2, ![4096, 1024]⟩
abbrev S1x1024 : Shape := ⟨2, ![1, 1024]⟩
abbrev S4096x3584 : Shape := ⟨2, ![4096, 3584]⟩
abbrev S4096x128 : Shape := ⟨2, ![4096, 128]⟩
abbrev S1024x4096 : Shape := ⟨2, ![1024, 4096]⟩
abbrev S512x4096 : Shape := ⟨2, ![512, 4096]⟩
abbrev S512x1024 : Shape := ⟨2, ![512, 1024]⟩
abbrev S512x3584 : Shape := ⟨2, ![512, 3584]⟩
abbrev S512x128 : Shape := ⟨2, ![512, 128]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3592, .f32⟩
  | .hbm, ⟨3, _⟩ => ⟨S1024x3584, .f32⟩
  | .hbm, ⟨4, _⟩ => ⟨S1024x3584, .bf16⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S4096x1024, .f32⟩
  | .hbm, ⟨11, _⟩ => ⟨S1x1024, .f32⟩
  | .hbm, ⟨12, _⟩ => ⟨S4096x3584, .f32⟩
  | .hbm, ⟨13, _⟩ => ⟨S4096x128, .f32⟩
  | .hbm, ⟨14, _⟩ => ⟨S1024x4096, .bf16⟩
  | .hbm, ⟨15, _⟩ => ⟨S512x4096, .bf16⟩
  | .hbm, ⟨16, _⟩ => ⟨S512x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x128, .bf16⟩
  | .local _ .vmem, ⟨5, _⟩ => ⟨S512x3584, .f32⟩
  | .local _ .vmem, ⟨6, _⟩ => ⟨S512x3584, .f32⟩
  | .local _ .vmem, ⟨7, _⟩ => ⟨S512x128, .f32⟩
  | .local _ .vmem, ⟨8, _⟩ => ⟨S512x128, .f32⟩
  | .local _ .vmem, ⟨9, _⟩ => ⟨S1024x512, .bf16⟩
  | .local _ .vmem, ⟨10, _⟩ => ⟨S1024x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S2x2048x1024 : Shape := ⟨3, ![2, 2048, 1024]⟩
abbrev S1024 : Shape := ⟨1, ![1024]⟩
abbrev S1024x3592 : Shape := ⟨2, ![1024, 3592]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3592 : Shape := ⟨3, ![2, 2048, 3592]⟩
abbrev S4096x3592 : Shape := ⟨2, ![4096, 3592]⟩
abbrev S4096x512 : Shape := ⟨2, ![4096, 512]⟩
abbrev S4096x3584 : Shape := ⟨2, ![4096, 3584]⟩
abbrev S4096x8 : Shape := ⟨2, ![4096, 8]⟩
abbrev S4096x128 : Shape := ⟨2, ![4096, 128]⟩
abbrev S4096x1024 : Shape := ⟨2, ![4096, 1024]⟩
abbrev S1024x4096 : Shape := ⟨2, ![1024, 4096]⟩
abbrev S512x4096 : Shape := ⟨2, ![512, 4096]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3592, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x3592, .f32⟩
  | .hbm, ⟨20, _⟩ => ⟨S4096x3592, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x3584, .f32⟩
  | .hbm, ⟨27, _⟩ => ⟨S4096x8, .f32⟩
  | .hbm, ⟨28, _⟩ => ⟨S_, .i32⟩
  | .hbm, ⟨29, _⟩ => ⟨S_, .f32⟩
  | .hbm, ⟨30, _⟩ => ⟨S4096x128, .f32⟩
  | .hbm, ⟨31, _⟩ => ⟨S4096x1024, .f32⟩
  | .hbm, ⟨32, _⟩ => ⟨S1024x4096, .f32⟩
  | .hbm, ⟨33, _⟩ => ⟨S1024x4096, .bf16⟩
  | .hbm, ⟨34, _⟩ => ⟨S512x4096, .f32⟩
  | .hbm, ⟨35, _⟩ => ⟨S512x4096, .bf16⟩
  | .hbm, ⟨36, _⟩ => ⟨S512x4096, .f32⟩
  | .hbm, ⟨37, _⟩ => ⟨S512x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel11.lean ====
abbrev S2x2048x512 : Shape := ⟨3, ![2, 2048, 512]⟩
abbrev S2x8x2048 : Shape := ⟨3, ![2, 8, 2048]⟩
abbrev S4096x512 : Shape := ⟨2, ![4096, 512]⟩
abbrev S_ : Shape := ⟨0, ![]⟩
abbrev S4096x1536 : Shape := ⟨2, ![4096, 1536]⟩
abbrev S4096x3584 : Shape := ⟨2, ![4096, 3584]⟩
abbrev S2x2048x8 : Shape := ⟨3, ![2, 2048, 8]⟩
abbrev S4096x8 : Shape := ⟨2, ![4096, 8]⟩
abbrev S4096x128 : Shape := ⟨2, ![4096, 128]⟩
abbrev S512x4096 : Shape := ⟨2, ![512, 4096]⟩
abbrev S2x2048x3584 : Shape := ⟨3, ![2, 2048, 3584]⟩
abbrev S2x2048x128 : Shape := ⟨3, ![2, 2048, 128]⟩
abbrev S2x256x512 : Shape := ⟨3, ![2, 256, 512]⟩
abbrev S512x512 : Shape := ⟨2, ![512, 512]⟩
abbrev S2x512x512 : Shape := ⟨3, ![2, 512, 512]⟩
abbrev S2x256x128 : Shape := ⟨3, ![2, 256, 128]⟩
abbrev S2x8x512 : Shape := ⟨3, ![2, 8, 512]⟩
abbrev S2x8x256 : Shape := ⟨3, ![2, 8, 256]⟩
abbrev S2x8x256x128 : Shape := ⟨4, ![2, 8, 256, 128]⟩
abbrev S1x256x1 : Shape := ⟨3, ![1, 256, 1]⟩
abbrev S256x1 : Shape := ⟨2, ![256, 1]⟩
abbrev S256x128 : Shape := ⟨2, ![256, 128]⟩
abbrev S1x1x256x128 : Shape := ⟨4, ![1, 1, 256, 128]⟩
abbrev S1x128 : Shape := ⟨2, ![1, 128]⟩
abbrev S1x256x128 : Shape := ⟨3, ![1, 256, 128]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S8x256 : Shape := ⟨2, ![8, 256]⟩
abbrev S1x8x256 : Shape := ⟨3, ![1, 8, 256]⟩

abbrev nBuf : Space → Nat
  | .hbm => 23
  | .vmem => 19
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x8x2048, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x1536, .f32⟩
  | .hbm, ⟨9, _⟩ => ⟨S_, .f32⟩
  | .hbm, ⟨10, _⟩ => ⟨S4096x512, .f32⟩
  | .hbm, ⟨11, _⟩ => ⟨S4096x3584, .f32⟩
  | .hbm, ⟨12, _⟩ => ⟨S2x2048x8, .f32⟩
  | .hbm, ⟨13, _⟩ => ⟨S4096x8, .f32⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S512x4096, .f32⟩
  | .hbm, ⟨18, _⟩ => ⟨S512x4096, .bf16⟩
  | .hbm, ⟨19, _⟩ => ⟨S2x2048x3584, .f32⟩
  | .hbm, ⟨20, _⟩ => ⟨S2x2048x128, .f32⟩
  | .hbm, ⟨21, _⟩ => ⟨S2x2048x512, .f32⟩
  | .hbm, ⟨22, _⟩ => ⟨S2x8x2048, .f32⟩
  | .local _ .vmem, ⟨0, _⟩ => ⟨S2x256x512, .f32⟩
  | .local _ .vmem, ⟨1, _⟩ => ⟨S2x256x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S2x512x512, .f32⟩
  | .local _ .vmem, ⟨7, _⟩ => ⟨S2x512x512, .f32⟩
  | .local _ .vmem, ⟨8, _⟩ => ⟨S2x256x128, .f32⟩
  | .local _ .vmem, ⟨9, _⟩ => ⟨S2x256x128, .f32⟩
  | .local _ .vmem, ⟨10, _⟩ => ⟨S2x8x512, .f32⟩
  | .local _ .vmem, ⟨11, _⟩ => ⟨S2x8x512, .f32⟩
  | .local _ .vmem, ⟨12, _⟩ => ⟨S2x256x512, .f32⟩
  | .local _ .vmem, ⟨13, _⟩ => ⟨S2x256x512, .f32⟩
  | .local _ .vmem, ⟨14, _⟩ => ⟨S2x8x256, .f32⟩
  | .local _ .vmem, ⟨15, _⟩ => ⟨S2x8x256, .f32⟩
  | .local _ .vmem, ⟨16, _⟩ => ⟨S2x8x256x128, .f32⟩
  | .local _ .vmem, ⟨17, _⟩ => ⟨S2x8x256x128, .f32⟩
  | .local _ .vmem, ⟨18, _⟩ => ⟨S2x8x256x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![20], ![false]⟩

def k0_cond6 (i : grid0.Coords) : BitVec 1 :=
  let arg0 : BitVec 32 := BitVec.ofNat 32 (i 0).val
  let c0_i32_20 : BitVec 32 := 0#32
  let c1_i32_0 : BitVec 32 := 1#32
  let v21 : BitVec 1 := Scalar.cmpi .sge arg0 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg0 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg0 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg0 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg0 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg0 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg0 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg0 v41
  let c0_i32 : BitVec 32 := 0#32
  let c1_i32 : BitVec 32 := 1#32
  let v0 : BitVec 1 := Scalar.cmpi .sge arg0 c1_i32
  let v1 : BitVec 32 := Scalar.extui v0
  let v14 : BitVec 32 := Scalar.addi c0_i32 v1
  let c2_i32 : BitVec 32 := 2#32
  let v2 : BitVec 1 := Scalar.cmpi .sge arg0 c2_i32
  let v3 : BitVec 32 := Scalar.extui v2
  let v15 : BitVec 32 := Scalar.addi v14 v3
  let c4_i32 : BitVec 32 := 4#32
  let v4 : BitVec 1 := Scalar.cmpi .sge arg0 c4_i32
  let v5 : BitVec 32 := Scalar.extui v4
  let v16 : BitVec 32 := Scalar.addi v15 v5
  let c6_i32 : BitVec 32 := 6#32
  let v6 : BitVec 1 := Scalar.cmpi .sge arg0 c6_i32
  let v7 : BitVec 32 := Scalar.extui v6
  let v17 : BitVec 32 := Scalar.addi v16 v7
  let c9_i32 : BitVec 32 := 9#32
  let v8 : BitVec 1 := Scalar.cmpi .sge arg0 c9_i32
  let v9 : BitVec 32 := Scalar.extui v8
  let v18 : BitVec 32 := Scalar.addi v17 v9
  let c12_i32 : BitVec 32 := 12#32
  let v10 : BitVec 1 := Scalar.cmpi .sge arg0 c12_i32
  let v11 : BitVec 32 := Scalar.extui v10
  let v19 : BitVec 32 := Scalar.addi v18 v11
  let c16_i32 : BitVec 32 := 16#32
  let v12 : BitVec 1 := Scalar.cmpi .sge arg0 c16_i32
  let v13 : BitVec 32 := Scalar.extui v12
  let v20 : BitVec 32 := Scalar.addi v19 v13
  let c0_i32_36 : BitVec 32 := 0#32
  let v67 : BitVec 1 := Scalar.cmpi .sgt v20 c0_i32_36
  let v68 : BitVec 32 := Scalar.extui v67
  let c0_i32_37 : BitVec 32 := 0#32
  let v69 : BitVec 1 := Scalar.cmpi .slt v20 c0_i32_37
  let v70 : BitVec 32 := Scalar.extui v69
  let v71 : BitVec 32 := Scalar.subi v68 v70
  let c2_i32_35 : BitVec 32 := 2#32
  let c0_i32_38 : BitVec 32 := 0#32
  let v72 : BitVec 1 := Scalar.cmpi .sgt c2_i32_35 c0_i32_38
  let v73 : BitVec 32 := Scalar.extui v72
  let c0_i32_39 : BitVec 32 := 0#32
  let v74 : BitVec 1 := Scalar.cmpi .slt c2_i32_35 c0_i32_39
  let v75 : BitVec 32 := Scalar.extui v74
  let v76 : BitVec 32 := Scalar.subi v73 v75
  let v77 : BitVec 1 := Scalar.cmpi .ne v71 v76
  let v78 : BitVec 32 := Scalar.remsi v20 c2_i32_35
  let c0_i32_40 : BitVec 32 := 0#32
  let v79 : BitVec 1 := Scalar.cmpi .ne v78 c0_i32_40
  let v80 : BitVec 1 := Scalar.andi v77 v79
  let v66 : BitVec 32 := Scalar.divsi v20 c2_i32_35
  let c1_i32_41 : BitVec 32 := 1#32
  let v81 : BitVec 32 := Scalar.subi v66 c1_i32_41
  let v82 : BitVec 32 := Scalar.select v80 v81 v66
  let v83 : BitVec 1 := Scalar.cmpi .eq v42 v82
  let v84 : BitVec 32 := Scalar.extui v83
  let c0_i32_42 : BitVec 32 := 0#32
  let v85 : BitVec 1 := Scalar.cmpi .ne v84 c0_i32_42
  v85

def cc0_transform_0 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c2_i32 : BitVec 32 := 2#32
  let v2 : BitVec 1 := Scalar.cmpi .sge arg0 c2_i32
  let v3 : BitVec 32 := Scalar.extui v2
  let c4_i32 : BitVec 32 := 4#32
  let v4 : BitVec 1 := Scalar.cmpi .sge arg0 c4_i32
  let v5 : BitVec 32 := Scalar.extui v4
  let c6_i32 : BitVec 32 := 6#32
  let v6 : BitVec 1 := Scalar.cmpi .sge arg0 c6_i32
  let v7 : BitVec 32 := Scalar.extui v6
  let c9_i32 : BitVec 32 := 9#32
  let v8 : BitVec 1 := Scalar.cmpi .sge arg0 c9_i32
  let v9 : BitVec 32 := Scalar.extui v8
  let c12_i32 : BitVec 32 := 12#32
  let v10 : BitVec 1 := Scalar.cmpi .sge arg0 c12_i32
  let v11 : BitVec 32 := Scalar.extui v10
  let c16_i32 : BitVec 32 := 16#32
  let v12 : BitVec 1 := Scalar.cmpi .sge arg0 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg0 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg0 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg0 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg0 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg0 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg0 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg0 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let c0_i32_21 : BitVec 32 := 0#32
  let c3_i32_22 : BitVec 32 := 3#32
  let c0_i32_23 : BitVec 32 := 0#32
  ![c0_i32_21.toNat, v20.toNat, c3_i32_22.toNat]

def cc0_transform_1 (i : grid0.Coords) : Fin 2 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c2_i32 : BitVec 32 := 2#32
  let v2 : BitVec 1 := Scalar.cmpi .sge arg0 c2_i32
  let v3 : BitVec 32 := Scalar.extui v2
  let c4_i32 : BitVec 32 := 4#32
  let v4 : BitVec 1 := Scalar.cmpi .sge arg0 c4_i32
  let v5 : BitVec 32 := Scalar.extui v4
  let c6_i32 : BitVec 32 := 6#32
  let v6 : BitVec 1 := Scalar.cmpi .sge arg0 c6_i32
  let v7 : BitVec 32 := Scalar.extui v6
  let c9_i32 : BitVec 32 := 9#32
  let v8 : BitVec 1 := Scalar.cmpi .sge arg0 c9_i32
  let v9 : BitVec 32 := Scalar.extui v8
  let c12_i32 : BitVec 32 := 12#32
  let v10 : BitVec 1 := Scalar.cmpi .sge arg0 c12_i32
  let v11 : BitVec 32 := Scalar.extui v10
  let c16_i32 : BitVec 32 := 16#32
  let v12 : BitVec 1 := Scalar.cmpi .sge arg0 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg0 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg0 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg0 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg0 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg0 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg0 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg0 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let c0_i32_21 : BitVec 32 := 0#32
  let v43 : BitVec 32 := Scalar.addi c0_i32_21 v42
  let c0_i32_22 : BitVec 32 := 0#32
  let c0_i32_23 : BitVec 32 := 0#32
  ![c0_i32_22.toNat, v43.toNat]

def cc0_transform_2 (i : grid0.Coords) : Fin 2 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c2_i32 : BitVec 32 := 2#32
  let v2 : BitVec 1 := Scalar.cmpi .sge arg0 c2_i32
  let v3 : BitVec 32 := Scalar.extui v2
  let c4_i32 : BitVec 32 := 4#32
  let v4 : BitVec 1 := Scalar.cmpi .sge arg0 c4_i32
  let v5 : BitVec 32 := Scalar.extui v4
  let c6_i32 : BitVec 32 := 6#32
  let v6 : BitVec 1 := Scalar.cmpi .sge arg0 c6_i32
  let v7 : BitVec 32 := Scalar.extui v6
  let c9_i32 : BitVec 32 := 9#32
  let v8 : BitVec 1 := Scalar.cmpi .sge arg0 c9_i32
  let v9 : BitVec 32 := Scalar.extui v8
  let c12_i32 : BitVec 32 := 12#32
  let v10 : BitVec 1 := Scalar.cmpi .sge arg0 c12_i32
  let v11 : BitVec 32 := Scalar.extui v10
  let c16_i32 : BitVec 32 := 16#32
  let v12 : BitVec 1 := Scalar.cmpi .sge arg0 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg0 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg0 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg0 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg0 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg0 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg0 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg0 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let c4_i32_21 : BitVec 32 := 4#32
  let v43 : BitVec 32 := Scalar.addi c4_i32_21 v42
  let c0_i32_22 : BitVec 32 := 0#32
  let c0_i32_23 : BitVec 32 := 0#32
  ![c0_i32_22.toNat, v43.toNat]

def cc0_transform_3 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c2_i32 : BitVec 32 := 2#32
  let v2 : BitVec 1 := Scalar.cmpi .sge arg0 c2_i32
  let v3 : BitVec 32 := Scalar.extui v2
  let c4_i32 : BitVec 32 := 4#32
  let v4 : BitVec 1 := Scalar.cmpi .sge arg0 c4_i32
  let v5 : BitVec 32 := Scalar.extui v4
  let c6_i32 : BitVec 32 := 6#32
  let v6 : BitVec 1 := Scalar.cmpi .sge arg0 c6_i32
  let v7 : BitVec 32 := Scalar.extui v6
  let c9_i32 : BitVec 32 := 9#32
  let v8 : BitVec 1 := Scalar.cmpi .sge arg0 c9_i32
  let v9 : BitVec 32 := Scalar.extui v8
  let c12_i32 : BitVec 32 := 12#32
  let v10 : BitVec 1 := Scalar.cmpi .sge arg0 c12_i32
  let v11 : BitVec 32 := Scalar.extui v10
  let c16_i32 : BitVec 32 := 16#32
  let v12 : BitVec 1 := Scalar.cmpi .sge arg0 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg0 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg0 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg0 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg0 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg0 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg0 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg0 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let c0_i32_21 : BitVec 32 := 0#32
  let c5_i32 : BitVec 32 := 5#32
  let c0_i32_22 : BitVec 32 := 0#32
  ![c0_i32_21.toNat, v42.toNat, c5_i32.toNat]

def cc0_transform_4 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c2_i32 : BitVec 32 := 2#32
  let v2 : BitVec 1 := Scalar.cmpi .sge arg0 c2_i32
  let v3 : BitVec 32 := Scalar.extui v2
  let c4_i32 : BitVec 32 := 4#32
  let v4 : BitVec 1 := Scalar.cmpi .sge arg0 c4_i32
  let v5 : BitVec 32 := Scalar.extui v4
  let c6_i32 : BitVec 32 := 6#32
  let v6 : BitVec 1 := Scalar.cmpi .sge arg0 c6_i32
  let v7 : BitVec 32 := Scalar.extui v6
  let c9_i32 : BitVec 32 := 9#32
  let v8 : BitVec 1 := Scalar.cmpi .sge arg0 c9_i32
  let v9 : BitVec 32 := Scalar.extui v8
  let c12_i32 : BitVec 32 := 12#32
  let v10 : BitVec 1 := Scalar.cmpi .sge arg0 c12_i32
  let v11 : BitVec 32 := Scalar.extui v10
  let c16_i32 : BitVec 32 := 16#32
  let v12 : BitVec 1 := Scalar.cmpi .sge arg0 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg0 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg0 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg0 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg0 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg0 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg0 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg0 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let c0_i32_21 : BitVec 32 := 0#32
  let c0_i32_22 : BitVec 32 := 0#32
  let c0_i32_23 : BitVec 32 := 0#32
  ![c0_i32_21.toNat, v20.toNat, c0_i32_22.toNat]

def cc0_transform_5 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c2_i32 : BitVec 32 := 2#32
  let v2 : BitVec 1 := Scalar.cmpi .sge arg0 c2_i32
  let v3 : BitVec 32 := Scalar.extui v2
  let c4_i32 : BitVec 32 := 4#32
  let v4 : BitVec 1 := Scalar.cmpi .sge arg0 c4_i32
  let v5 : BitVec 32 := Scalar.extui v4
  let c6_i32 : BitVec 32 := 6#32
  let v6 : BitVec 1 := Scalar.cmpi .sge arg0 c6_i32
  let v7 : BitVec 32 := Scalar.extui v6
  let c9_i32 : BitVec 32 := 9#32
  let v8 : BitVec 1 := Scalar.cmpi .sge arg0 c9_i32
  let v9 : BitVec 32 := Scalar.extui v8
  let c12_i32 : BitVec 32 := 12#32
  let v10 : BitVec 1 := Scalar.cmpi .sge arg0 c12_i32
  let v11 : BitVec 32 := Scalar.extui v10
  let c16_i32 : BitVec 32 := 16#32
  let v12 : BitVec 1 := Scalar.cmpi .sge arg0 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg0 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg0 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg0 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg0 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg0 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg0 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg0 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let c0_i32_21 : BitVec 32 := 0#32
  let c0_i32_22 : BitVec 32 := 0#32
  let c0_i32_23 : BitVec 32 := 0#32
  ![c0_i32_21.toNat, c0_i32_22.toNat, v42.toNat]

def cc0_transform_6 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c2_i32 : BitVec 32 := 2#32
  let v2 : BitVec 1 := Scalar.cmpi .sge arg0 c2_i32
  let v3 : BitVec 32 := Scalar.extui v2
  let c4_i32 : BitVec 32 := 4#32
  let v4 : BitVec 1 := Scalar.cmpi .sge arg0 c4_i32
  let v5 : BitVec 32 := Scalar.extui v4
  let c6_i32 : BitVec 32 := 6#32
  let v6 : BitVec 1 := Scalar.cmpi .sge arg0 c6_i32
  let v7 : BitVec 32 := Scalar.extui v6
  let c9_i32 : BitVec 32 := 9#32
  let v8 : BitVec 1 := Scalar.cmpi .sge arg0 c9_i32
  let v9 : BitVec 32 := Scalar.extui v8
  let c12_i32 : BitVec 32 := 12#32
  let v10 : BitVec 1 := Scalar.cmpi .sge arg0 c12_i32
  let v11 : BitVec 32 := Scalar.extui v10
  let c16_i32 : BitVec 32 := 16#32
  let v12 : BitVec 1 := Scalar.cmpi .sge arg0 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg0 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg0 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg0 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg0 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg0 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg0 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg0 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let c0_i32_21 : BitVec 32 := 0#32
  let c0_i32_22 : BitVec 32 := 0#32
  let c0_i32_23 : BitVec 32 := 0#32
  ![c0_i32_21.toNat, v20.toNat, c0_i32_22.toNat]

def cc0_transform_7 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c2_i32 : BitVec 32 := 2#32
  let v2 : BitVec 1 := Scalar.cmpi .sge arg0 c2_i32
  let v3 : BitVec 32 := Scalar.extui v2
  let c4_i32 : BitVec 32 := 4#32
  let v4 : BitVec 1 := Scalar.cmpi .sge arg0 c4_i32
  let v5 : BitVec 32 := Scalar.extui v4
  let c6_i32 : BitVec 32 := 6#32
  let v6 : BitVec 1 := Scalar.cmpi .sge arg0 c6_i32
  let v7 : BitVec 32 := Scalar.extui v6
  let c9_i32 : BitVec 32 := 9#32
  let v8 : BitVec 1 := Scalar.cmpi .sge arg0 c9_i32
  let v9 : BitVec 32 := Scalar.extui v8
  let c12_i32 : BitVec 32 := 12#32
  let v10 : BitVec 1 := Scalar.cmpi .sge arg0 c12_i32
  let v11 : BitVec 32 := Scalar.extui v10
  let c16_i32 : BitVec 32 := 16#32
  let v12 : BitVec 1 := Scalar.cmpi .sge arg0 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg0 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg0 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg0 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg0 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg0 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg0 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg0 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let c0_i32_21 : BitVec 32 := 0#32
  let c0_i32_22 : BitVec 32 := 0#32
  let c0_i32_23 : BitVec 32 := 0#32
  ![c0_i32_21.toNat, c0_i32_22.toNat, v20.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel11Ideal.lean ====
variable {F : FTy → Type} [FloatOps F] [Named F]
def κ : String → Option EReal := fun
  | "mask" => some ⊥
  | _ => none
-- ==== Reference11Ideal.lean ====
abbrev S2x2048x512 : Shape := ⟨3, ![2, 2048, 512]⟩
abbrev S2x8x2048 : Shape := ⟨3, ![2, 8, 2048]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048x1 : Shape := ⟨4, ![2, 8, 2048, 1]⟩
abbrev S2x8x1x2048 : Shape := ⟨4, ![2, 8, 1, 2048]⟩
abbrev S2x8x64x2048 : Shape := ⟨4, ![2, 8, 64, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x8x2048, .f32⟩
  | .hbm, ⟨4, _⟩ => ⟨S2x2048x8x64, .f32⟩
  | .hbm, ⟨5, _⟩ => ⟨S2x2048x8x64, .f32⟩
  | .hbm, ⟨6, _⟩ => ⟨S2x8x2048x2048, .f32⟩
  | .hbm, ⟨7, _⟩ => ⟨S_, .f32⟩
  | .hbm, ⟨8, _⟩ => ⟨S2x8x2048x2048, .f32⟩
  | .hbm, ⟨9, _⟩ => ⟨S2x8x2048x2048, .f32⟩
  | .hbm, ⟨10, _⟩ => ⟨S2048, .i32⟩
  | .hbm, ⟨11, _⟩ => ⟨S2048x1, .i32⟩
  | .hbm, ⟨12, _⟩ => ⟨S2048, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S2x8x2048x2048, .i1⟩
  | .hbm, ⟨18, _⟩ => ⟨S2x8x2048x1, .f32⟩
  | .hbm, ⟨19, _⟩ => ⟨S2x8x1x2048, .f32⟩
  | .hbm, ⟨20, _⟩ => ⟨S2x8x2048x2048, .f32⟩
  | .hbm, ⟨21, _⟩ => ⟨S2x8x2048x2048, .f32⟩
  | .hbm, ⟨22, _⟩ => ⟨S2x8x2048x2048, .f32⟩
  | .hbm, ⟨23, _⟩ => ⟨S2x8x2048x2048, .f32⟩
  | .hbm, ⟨24, _⟩ => ⟨S_, .f32⟩
  | .hbm, ⟨25, _⟩ => ⟨S2x8x2048x2048, .f32⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S2x8x2048x1, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S2x8x2048x1, .f32⟩
  | .hbm, ⟨36, _⟩ => ⟨S2x8x2048x2048, .f32⟩
  | .hbm, ⟨37, _⟩ => ⟨S2x8x2048x2048, .f32⟩
  | .hbm, ⟨38, _⟩ => ⟨S2x2048x8x64, .f32⟩
  | .hbm, ⟨39, _⟩ => ⟨S2x8x64x2048, .f32⟩
  | .hbm, ⟨40, _⟩ => ⟨S2x2048x8x64, .f32⟩
  | .hbm, ⟨41, _⟩ => ⟨S2x2048x512, .f32⟩
  | .hbm, ⟨42, _⟩ => ⟨S2x8x2048, .f32⟩
  | .hbm, ⟨43, _⟩ => ⟨S2x8x2048, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel6.lean ====
abbrev S2x2048x512 : Shape := ⟨3, ![2, 2048, 512]⟩
abbrev S2x8x2048 : Shape := ⟨3, ![2, 8, 2048]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048x1 : Shape := ⟨4, ![2, 8, 2048, 1]⟩
abbrev S2x8x1x2048 : Shape := ⟨4, ![2, 8, 1, 2048]⟩
abbrev S2x8x64x2048 : Shape := ⟨4, ![2, 8, 64, 2048]⟩
abbrev S2x2048x8 : Shape := ⟨3, ![2, 2048, 8]⟩
abbrev S4096x512 : Shape := ⟨2, ![4096, 512]⟩
abbrev S4096x1536 : Shape := ⟨2, ![4096, 1536]⟩
abbrev S4096x3584 : Shape := ⟨2, ![4096, 3584]⟩
abbrev S4096x8 : Shape := ⟨2, ![4096, 8]⟩
abbrev S4096x128 : Shape := ⟨2, ![4096, 128]⟩
abbrev S512x4096 : Shape := ⟨2, ![512, 4096]⟩
abbrev S512x512 : Shape := ⟨2, ![512, 512]⟩
abbrev S256x512 : Shape := ⟨2, ![256, 512]⟩
abbrev S512x256 : Shape := ⟨2, ![512, 256]⟩
abbrev S256x128 : Shape := ⟨2, ![256, 128]⟩
abbrev S1x8x512 : Shape := ⟨3, ![1, 8, 512]⟩
abbrev S2048x512 : Shape := ⟨2, ![2048, 512]⟩
abbrev S1x8x2048 : Shape := ⟨3, ![1, 8, 2048]⟩
abbrev S8x512x256 : Shape := ⟨3, ![8, 512, 256]⟩
abbrev S8x8x256 : Shape := ⟨3, ![8, 8, 256]⟩
abbrev S1x128 : Shape := ⟨2, ![1, 128]⟩
abbrev S64x256 : Shape := ⟨2, ![64, 256]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S256x1 : Shape := ⟨2, ![256, 1]⟩
abbrev S1x64x256 : Shape := ⟨3, ![1, 64, 256]⟩
abbrev S256 : Shape := ⟨1, ![256]⟩
abbrev S32x256 : Shape := ⟨2, ![32, 256]⟩
abbrev S16x256 : Shape := ⟨2, ![16, 256]⟩
abbrev S8x256 : Shape := ⟨2, ![8, 256]⟩
abbrev S1x512x256 : Shape := ⟨3, ![1, 512, 256]⟩
abbrev S1x8x256 : Shape := ⟨3, ![1, 8, 256]⟩

abbrev nBuf : Space → Nat
  | .hbm => 83
  | .vmem => 37
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x8x2048, .f32⟩
  | .hbm, ⟨4, _⟩ => ⟨S2x2048x512, .f32⟩
  | .hbm, ⟨5, _⟩ => ⟨S2x2048x8x64, .f32⟩
  | .hbm, ⟨6, _⟩ => ⟨S2x2048x8x64, .f32⟩
  | .hbm, ⟨7, _⟩ => ⟨S2x8x2048x2048, .f32⟩
  | .hbm, ⟨8, _⟩ => ⟨S_, .f32⟩
  | .hbm, ⟨9, _⟩ => ⟨S2x8x2048x2048, .f32⟩
  | .hbm, ⟨10, _⟩ => ⟨S2x8x2048x2048, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S2x8x2048x1, .f32⟩
  | .hbm, ⟨19, _⟩ => ⟨S2x8x1x2048, .f32⟩
  | .hbm, ⟨20, _⟩ => ⟨S2x8x2048x2048, .f32⟩
  | .hbm, ⟨21, _⟩ => ⟨S2x8x2048x2048, .f32⟩
  | .hbm, ⟨22, _⟩ => ⟨S2x8x2048x2048, .f32⟩
  | .hbm, ⟨23, _⟩ => ⟨S_, .f32⟩
  | .hbm, ⟨24, _⟩ => ⟨S_, .f32⟩
  | .hbm, ⟨25, _⟩ => ⟨S2x8x2048x2048, .i1⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S_, .f32⟩
  | .hbm, ⟨30, _⟩ => ⟨S_, .f32⟩
  | .hbm, ⟨31, _⟩ => ⟨S2x8x2048x2048, .i1⟩
  | .hbm, ⟨32, _⟩ => ⟨S2x8x2048x2048, .f32⟩
  | .hbm, ⟨33, _⟩ => ⟨S2x8x2048x2048, .f32⟩
  | .hbm, ⟨34, _⟩ => ⟨S_, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S_, .f32⟩
  | .hbm, ⟨41, _⟩ => ⟨S2x8x2048, .f32⟩
  | .hbm, ⟨42, _⟩ => ⟨S2x8x2048x1, .f32⟩
  | .hbm, ⟨43, _⟩ => ⟨S2x8x2048x2048, .f32⟩
  | .hbm, ⟨44, _⟩ => ⟨S2x8x2048x2048, .f32⟩
  | .hbm, ⟨45, _⟩ => ⟨S2x2048x8x64, .f32⟩
  | .hbm, ⟨46, _⟩ => ⟨S2x8x64x2048, .f32⟩
  | .hbm, ⟨47, _⟩ => ⟨S2x2048x8x64, .f32⟩
  | .hbm, ⟨48, _⟩ => ⟨S2x2048x8x64, .f32⟩
  | .hbm, ⟨49, _⟩ => ⟨S2x2048x8x64, .f32⟩
  | .hbm, ⟨50, _⟩ => ⟨S_, .f32⟩
  | .hbm, ⟨51, _⟩ => ⟨S2x2048x8, .f32⟩
  | .hbm, ⟨52, _⟩ => ⟨S2x8x2048, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x1536, .f32⟩
  | .hbm, ⟨59, _⟩ => ⟨S_, .f32⟩
  | .hbm, ⟨60, _⟩ => ⟨S4096x512, .f32⟩
  | .hbm, ⟨61, _⟩ => ⟨S4096x3584, .f32⟩
  | .hbm, ⟨62, _⟩ => ⟨S4096x512, .bf16⟩
  | .hbm, ⟨63, _⟩ => ⟨S2x2048x8, .f32⟩
  | .hbm, ⟨64, _⟩ => ⟨S4096x8, .f32⟩
  | .hbm, ⟨65, _⟩ => ⟨S_, .i32⟩
  | .hbm, ⟨66, _⟩ => ⟨S_, .f32⟩
  | .hbm, ⟨67, _⟩ => ⟨S4096x128, .f32⟩
  | .hbm, ⟨68, _⟩ => ⟨S_, .f32⟩
  | .hbm, ⟨69, _⟩ => ⟨S4096x512, .f32⟩
  | .hbm, ⟨70, _⟩ => ⟨S4096x512, .f32⟩
  | .hbm, ⟨71, _⟩ => ⟨S512x4096, .f32⟩
  | .hbm, ⟨72, _⟩ => ⟨S512x4096, .bf16⟩
  | .hbm, ⟨73, _⟩ => ⟨S512x4096, .f32⟩
  | .hbm, ⟨74, _⟩ => ⟨S512x4096, .bf16⟩
  | .hbm, ⟨75, _⟩ => ⟨S512x4096, .bf16⟩
  | .hbm, ⟨76, _⟩ => ⟨S2x8x2048, .f32⟩
  | .hbm, ⟨77, _⟩ => ⟨S2x8x2048, .f32⟩
  | .hbm, ⟨78, _⟩ => ⟨S4096x512, .bf16⟩
  | .hbm, ⟨79, _⟩ => ⟨S4096x512, .bf16⟩
  | .hbm, ⟨80, _⟩ => ⟨S4096x512, .bf16⟩
  | .hbm, ⟨81, _⟩ => ⟨S4096x128, .f32⟩
  | .hbm, ⟨82, _⟩ => ⟨S2x8x2048, .f32⟩
  | .local _ .vmem, ⟨0, _⟩ => ⟨S512x512, .f32⟩
  | .local _ .vmem, ⟨1, _⟩ => ⟨S512x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x512, .bf16⟩
  | .local _ .vmem, ⟨13, _⟩ => ⟨S512x512, .bf16⟩
  | .local _ .vmem, ⟨14, _⟩ => ⟨S256x128, .f32⟩
  | .local _ .vmem, ⟨15, _⟩ => ⟨S256x128, .f32⟩
  | .local _ .vmem, ⟨16, _⟩ => ⟨S1x8x512, .f32⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | .local _ .vmem, ⟨20, _⟩ => ⟨S1x8x512, .f32⟩
  | .local _ .vmem, ⟨21, _⟩ => ⟨S1x8x512, .f32⟩
  | .local _ .vmem, ⟨22, _⟩ => ⟨S2048x512, .bf16⟩
  | .local _ .vmem, ⟨23, _⟩ => ⟨S2048x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x128, .f32⟩
  | .local _ .vmem, ⟨29, _⟩ => ⟨S256x128, .f32⟩
  | .local _ .vmem, ⟨30, _⟩ => ⟨S1x8x2048, .f32⟩
  | .local _ .vmem, ⟨31, _⟩ => ⟨S1x8x2048, .f32⟩
  | .local _ .vmem, ⟨32, _⟩ => ⟨S8x512x256, .f32⟩
  | .local _ .vmem, ⟨33, _⟩ => ⟨S256x512, .f32⟩
  | .local _ .vmem, ⟨34, _⟩ => ⟨S256x512, .f32⟩
  | .local _ .vmem, ⟨35, _⟩ => ⟨S256x128, .f32⟩
  | .local _ .vmem, ⟨36, _⟩ => ⟨S8x8x256, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c : Ref sig .tc := ⟨.hbm, 65, rfl⟩
abbrev main_call2_v0 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56_0 : Ref sig .tc := ⟨.hbm, 78, rfl⟩
abbrev main_v56_1 : Ref sig .tc := ⟨.hbm, 79, rfl⟩
abbrev main_v56_2 : Ref sig .tc := ⟨.hbm, 80, rfl⟩
abbrev main_v56_3 : Ref sig .tc := ⟨.hbm, 81, rfl⟩
abbrev main_v56_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![2, 20], ![false, false]⟩

def k0_cond3 (i : grid0.Coords) : BitVec 1 :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_26 : BitVec 32 := 2#32
  let v51 : BitVec 32 := Scalar.muli v44 c2_i32_26
  let c1_i32_27 : BitVec 32 := 1#32
  let v52 : BitVec 32 := Scalar.addi v51 c1_i32_27
  let c7_i32 : BitVec 32 := 7#32
  let c0_i32 : BitVec 32 := 0#32
  let c1_i32 : BitVec 32 := 1#32
  let v0 : BitVec 1 := Scalar.cmpi .sge arg1 c1_i32
  let v1 : BitVec 32 := Scalar.extui v0
  let v14 : BitVec 32 := Scalar.addi c0_i32 v1
  let c2_i32 : BitVec 32 := 2#32
  let v2 : BitVec 1 := Scalar.cmpi .sge arg1 c2_i32
  let v3 : BitVec 32 := Scalar.extui v2
  let v15 : BitVec 32 := Scalar.addi v14 v3
  let c4_i32 : BitVec 32 := 4#32
  let v4 : BitVec 1 := Scalar.cmpi .sge arg1 c4_i32
  let v5 : BitVec 32 := Scalar.extui v4
  let v16 : BitVec 32 := Scalar.addi v15 v5
  let c6_i32 : BitVec 32 := 6#32
  let v6 : BitVec 1 := Scalar.cmpi .sge arg1 c6_i32
  let v7 : BitVec 32 := Scalar.extui v6
  let v17 : BitVec 32 := Scalar.addi v16 v7
  let c9_i32 : BitVec 32 := 9#32
  let v8 : BitVec 1 := Scalar.cmpi .sge arg1 c9_i32
  let v9 : BitVec 32 := Scalar.extui v8
  let v18 : BitVec 32 := Scalar.addi v17 v9
  let c12_i32 : BitVec 32 := 12#32
  let v10 : BitVec 1 := Scalar.cmpi .sge arg1 c12_i32
  let v11 : BitVec 32 := Scalar.extui v10
  let v19 : BitVec 32 := Scalar.addi v18 v11
  let c16_i32 : BitVec 32 := 16#32
  let v12 : BitVec 1 := Scalar.cmpi .sge arg1 c16_i32
  let v13 : BitVec 32 := Scalar.extui v12
  let v20 : BitVec 32 := Scalar.addi v19 v13
  let v43 : BitVec 32 := Scalar.subi c7_i32 v20
  let v53 : BitVec 1 := Scalar.cmpi .sgt v52 v43
  let v54 : BitVec 32 := Scalar.extui v53
  let c0_i32_28 : BitVec 32 := 0#32
  let v55 : BitVec 1 := Scalar.cmpi .ne v54 c0_i32_28
  v55

def k0_off1 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v156 : Index := Scalar.indexCast v98
  let c0_83 : Index := 0#32
  let c0_84 : Index := 0#32
  ![v156.toNat, 0, 0]
def k0_off2 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v177 : Index := Scalar.indexCast v98
  let c0_93 : Index := 0#32
  let c0_94 : Index := 0#32
  ![v177.toNat, 0, 0]
def k0_off3 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v245 : Index := Scalar.indexCast v98
  let c64_119 : Index := 64#32
  let c0_120 : Index := 0#32
  ![v245.toNat, 64, 0]
def k0_off4 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v266 : Index := Scalar.indexCast v98
  let c1_129 : Index := 1#32
  let c0_130 : Index := 0#32
  ![v266.toNat, 1, 0]
def k0_off5 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v353 : Index := Scalar.indexCast v98
  let c128_171 : Index := 128#32
  let c0_172 : Index := 0#32
  ![v353.toNat, 128, 0]
def k0_off6 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v374 : Index := Scalar.indexCast v98
  let c2_181 : Index := 2#32
  let c0_182 : Index := 0#32
  ![v374.toNat, 2, 0]
def k0_off7 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v442 : Index := Scalar.indexCast v98
  let c192_207 : Index := 192#32
  let c0_208 : Index := 0#32
  ![v442.toNat, 192, 0]
def k0_off8 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v463 : Index := Scalar.indexCast v98
  let c3_217 : Index := 3#32
  let c0_218 : Index := 0#32
  ![v463.toNat, 3, 0]
def k0_off9 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v550 : Index := Scalar.indexCast v98
  let c256_260 : Index := 256#32
  let c0_261 : Index := 0#32
  ![v550.toNat, 256, 0]
def k0_off10 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v571 : Index := Scalar.indexCast v98
  let c4_270 : Index := 4#32
  let c0_271 : Index := 0#32
  ![v571.toNat, 4, 0]
def k0_off11 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v639 : Index := Scalar.indexCast v98
  let c320_296 : Index := 320#32
  let c0_297 : Index := 0#32
  ![v639.toNat, 320, 0]
def k0_off12 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v660 : Index := Scalar.indexCast v98
  let c5_305 : Index := 5#32
  let c0_306 : Index := 0#32
  ![v660.toNat, 5, 0]
def k0_off13 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v747 : Index := Scalar.indexCast v98
  let c384_347 : Index := 384#32
  let c0_348 : Index := 0#32
  ![v747.toNat, 384, 0]
def k0_off14 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v768 : Index := Scalar.indexCast v98
  let c6_357 : Index := 6#32
  let c0_358 : Index := 0#32
  ![v768.toNat, 6, 0]
def k0_off15 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v836 : Index := Scalar.indexCast v98
  let c448_383 : Index := 448#32
  let c0_384 : Index := 0#32
  ![v836.toNat, 448, 0]
def k0_off16 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v857 : Index := Scalar.indexCast v98
  let c7_393 : Index := 7#32
  let c0_394 : Index := 0#32
  ![v857.toNat, 7, 0]
def k0_cond4 (i : grid0.Coords) : BitVec 1 :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_29 : BitVec 32 := 2#32
  let v56 : BitVec 32 := Scalar.muli v44 c2_i32_29
  let c1_i32_30 : BitVec 32 := 1#32
  let v57 : BitVec 32 := Scalar.addi v56 c1_i32_30
  let c7_i32 : BitVec 32 := 7#32
  let c0_i32 : BitVec 32 := 0#32
  let c1_i32 : BitVec 32 := 1#32
  let v0 : BitVec 1 := Scalar.cmpi .sge arg1 c1_i32
  let v1 : BitVec 32 := Scalar.extui v0
  let v14 : BitVec 32 := Scalar.addi c0_i32 v1
  let c2_i32 : BitVec 32 := 2#32
  let v2 : BitVec 1 := Scalar.cmpi .sge arg1 c2_i32
  let v3 : BitVec 32 := Scalar.extui v2
  let v15 : BitVec 32 := Scalar.addi v14 v3
  let c4_i32 : BitVec 32 := 4#32
  let v4 : BitVec 1 := Scalar.cmpi .sge arg1 c4_i32
  let v5 : BitVec 32 := Scalar.extui v4
  let v16 : BitVec 32 := Scalar.addi v15 v5
  let c6_i32 : BitVec 32 := 6#32
  let v6 : BitVec 1 := Scalar.cmpi .sge arg1 c6_i32
  let v7 : BitVec 32 := Scalar.extui v6
  let v17 : BitVec 32 := Scalar.addi v16 v7
  let c9_i32 : BitVec 32 := 9#32
  let v8 : BitVec 1 := Scalar.cmpi .sge arg1 c9_i32
  let v9 : BitVec 32 := Scalar.extui v8
  let v18 : BitVec 32 := Scalar.addi v17 v9
  let c12_i32 : BitVec 32 := 12#32
  let v10 : BitVec 1 := Scalar.cmpi .sge arg1 c12_i32
  let v11 : BitVec 32 := Scalar.extui v10
  let v19 : BitVec 32 := Scalar.addi v18 v11
  let c16_i32 : BitVec 32 := 16#32
  let v12 : BitVec 1 := Scalar.cmpi .sge arg1 c16_i32
  let v13 : BitVec 32 := Scalar.extui v12
  let v20 : BitVec 32 := Scalar.addi v19 v13
  let v43 : BitVec 32 := Scalar.subi c7_i32 v20
  let v58 : BitVec 1 := Scalar.cmpi .eq v57 v43
  let v59 : BitVec 32 := Scalar.extui v58
  let c0_i32_31 : BitVec 32 := 0#32
  let v60 : BitVec 1 := Scalar.cmpi .ne v59 c0_i32_31
  v60

def k0_off17 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v161 : Index := Scalar.indexCast v98
  let c0_84 : Index := 0#32
  let c0_85 : Index := 0#32
  ![v161.toNat, 0, 0]
def k0_off18 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v182 : Index := Scalar.indexCast v98
  let c0_94 : Index := 0#32
  let c0_95 : Index := 0#32
  ![v182.toNat, 0, 0]
def k0_off19 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v252 : Index := Scalar.indexCast v98
  let c64_121 : Index := 64#32
  let c0_122 : Index := 0#32
  ![v252.toNat, 64, 0]
def k0_off20 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v273 : Index := Scalar.indexCast v98
  let c1_131 : Index := 1#32
  let c0_132 : Index := 0#32
  ![v273.toNat, 1, 0]
def k0_off21 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v362 : Index := Scalar.indexCast v98
  let c128_174 : Index := 128#32
  let c0_175 : Index := 0#32
  ![v362.toNat, 128, 0]
def k0_off22 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v383 : Index := Scalar.indexCast v98
  let c2_184 : Index := 2#32
  let c0_185 : Index := 0#32
  ![v383.toNat, 2, 0]
def k0_off23 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v453 : Index := Scalar.indexCast v98
  let c192_211 : Index := 192#32
  let c0_212 : Index := 0#32
  ![v453.toNat, 192, 0]
def k0_off24 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v474 : Index := Scalar.indexCast v98
  let c3_221 : Index := 3#32
  let c0_222 : Index := 0#32
  ![v474.toNat, 3, 0]
def k0_off25 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v563 : Index := Scalar.indexCast v98
  let c256_265 : Index := 256#32
  let c0_266 : Index := 0#32
  ![v563.toNat, 256, 0]
def k0_off26 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v584 : Index := Scalar.indexCast v98
  let c4_275 : Index := 4#32
  let c0_276 : Index := 0#32
  ![v584.toNat, 4, 0]
def k0_off27 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v654 : Index := Scalar.indexCast v98
  let c320_302 : Index := 320#32
  let c0_303 : Index := 0#32
  ![v654.toNat, 320, 0]
def k0_off28 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v675 : Index := Scalar.indexCast v98
  let c5_311 : Index := 5#32
  let c0_312 : Index := 0#32
  ![v675.toNat, 5, 0]
def k0_off29 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v764 : Index := Scalar.indexCast v98
  let c384_354 : Index := 384#32
  let c0_355 : Index := 0#32
  ![v764.toNat, 384, 0]
def k0_off30 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v785 : Index := Scalar.indexCast v98
  let c6_364 : Index := 6#32
  let c0_365 : Index := 0#32
  ![v785.toNat, 6, 0]
def k0_off31 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v855 : Index := Scalar.indexCast v98
  let c448_391 : Index := 448#32
  let c0_392 : Index := 0#32
  ![v855.toNat, 448, 0]
def k0_off32 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v876 : Index := Scalar.indexCast v98
  let c7_401 : Index := 7#32
  let c0_402 : Index := 0#32
  ![v876.toNat, 7, 0]
def k0_cond5 (i : grid0.Coords) : BitVec 1 :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_32 : BitVec 32 := 2#32
  let v61 : BitVec 32 := Scalar.muli v44 c2_i32_32
  let c0_i32_33 : BitVec 32 := 0#32
  let v62 : BitVec 32 := Scalar.addi v61 c0_i32_33
  let c7_i32 : BitVec 32 := 7#32
  let c0_i32 : BitVec 32 := 0#32
  let c1_i32 : BitVec 32 := 1#32
  let v0 : BitVec 1 := Scalar.cmpi .sge arg1 c1_i32
  let v1 : BitVec 32 := Scalar.extui v0
  let v14 : BitVec 32 := Scalar.addi c0_i32 v1
  let c2_i32 : BitVec 32 := 2#32
  let v2 : BitVec 1 := Scalar.cmpi .sge arg1 c2_i32
  let v3 : BitVec 32 := Scalar.extui v2
  let v15 : BitVec 32 := Scalar.addi v14 v3
  let c4_i32 : BitVec 32 := 4#32
  let v4 : BitVec 1 := Scalar.cmpi .sge arg1 c4_i32
  let v5 : BitVec 32 := Scalar.extui v4
  let v16 : BitVec 32 := Scalar.addi v15 v5
  let c6_i32 : BitVec 32 := 6#32
  let v6 : BitVec 1 := Scalar.cmpi .sge arg1 c6_i32
  let v7 : BitVec 32 := Scalar.extui v6
  let v17 : BitVec 32 := Scalar.addi v16 v7
  let c9_i32 : BitVec 32 := 9#32
  let v8 : BitVec 1 := Scalar.cmpi .sge arg1 c9_i32
  let v9 : BitVec 32 := Scalar.extui v8
  let v18 : BitVec 32 := Scalar.addi v17 v9
  let c12_i32 : BitVec 32 := 12#32
  let v10 : BitVec 1 := Scalar.cmpi .sge arg1 c12_i32
  let v11 : BitVec 32 := Scalar.extui v10
  let v19 : BitVec 32 := Scalar.addi v18 v11
  let c16_i32 : BitVec 32 := 16#32
  let v12 : BitVec 1 := Scalar.cmpi .sge arg1 c16_i32
  let v13 : BitVec 32 := Scalar.extui v12
  let v20 : BitVec 32 := Scalar.addi v19 v13
  let v43 : BitVec 32 := Scalar.subi c7_i32 v20
  let v63 : BitVec 1 := Scalar.cmpi .sgt v62 v43
  let v64 : BitVec 32 := Scalar.extui v63
  let c0_i32_34 : BitVec 32 := 0#32
  let v65 : BitVec 1 := Scalar.cmpi .ne v64 c0_i32_34
  v65

def k0_off33 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v156 : Index := Scalar.indexCast v98
  let c0_84 : Index := 0#32
  let c0_85 : Index := 0#32
  ![v156.toNat, 0, 0]
def k0_off34 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v177 : Index := Scalar.indexCast v98
  let c0_94 : Index := 0#32
  let c0_95 : Index := 0#32
  ![v177.toNat, 0, 0]
def k0_off35 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v245 : Index := Scalar.indexCast v98
  let c64_120 : Index := 64#32
  let c0_121 : Index := 0#32
  ![v245.toNat, 64, 0]
def k0_off36 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v266 : Index := Scalar.indexCast v98
  let c1_130 : Index := 1#32
  let c0_131 : Index := 0#32
  ![v266.toNat, 1, 0]
def k0_off37 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v353 : Index := Scalar.indexCast v98
  let c128_172 : Index := 128#32
  let c0_173 : Index := 0#32
  ![v353.toNat, 128, 0]
def k0_off38 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v374 : Index := Scalar.indexCast v98
  let c2_182 : Index := 2#32
  let c0_183 : Index := 0#32
  ![v374.toNat, 2, 0]
def k0_off39 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v442 : Index := Scalar.indexCast v98
  let c192_208 : Index := 192#32
  let c0_209 : Index := 0#32
  ![v442.toNat, 192, 0]
def k0_off40 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v463 : Index := Scalar.indexCast v98
  let c3_218 : Index := 3#32
  let c0_219 : Index := 0#32
  ![v463.toNat, 3, 0]
def k0_off41 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v550 : Index := Scalar.indexCast v98
  let c256_260 : Index := 256#32
  let c0_261 : Index := 0#32
  ![v550.toNat, 256, 0]
def k0_off42 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v571 : Index := Scalar.indexCast v98
  let c4_270 : Index := 4#32
  let c0_271 : Index := 0#32
  ![v571.toNat, 4, 0]
def k0_off43 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v639 : Index := Scalar.indexCast v98
  let c320_296 : Index := 320#32
  let c0_297 : Index := 0#32
  ![v639.toNat, 320, 0]
def k0_off44 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v660 : Index := Scalar.indexCast v98
  let c5_305 : Index := 5#32
  let c0_306 : Index := 0#32
  ![v660.toNat, 5, 0]
def k0_off45 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v747 : Index := Scalar.indexCast v98
  let c384_347 : Index := 384#32
  let c0_348 : Index := 0#32
  ![v747.toNat, 384, 0]
def k0_off46 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v768 : Index := Scalar.indexCast v98
  let c6_357 : Index := 6#32
  let c0_358 : Index := 0#32
  ![v768.toNat, 6, 0]
def k0_off47 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v836 : Index := Scalar.indexCast v98
  let c448_383 : Index := 448#32
  let c0_384 : Index := 0#32
  ![v836.toNat, 448, 0]
def k0_off48 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v857 : Index := Scalar.indexCast v98
  let c7_393 : Index := 7#32
  let c0_394 : Index := 0#32
  ![v857.toNat, 7, 0]
def k0_cond6 (i : grid0.Coords) : BitVec 1 :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_35 : BitVec 32 := 2#32
  let v66 : BitVec 32 := Scalar.muli v44 c2_i32_35
  let c0_i32_36 : BitVec 32 := 0#32
  let v67 : BitVec 32 := Scalar.addi v66 c0_i32_36
  let c7_i32 : BitVec 32 := 7#32
  let c0_i32 : BitVec 32 := 0#32
  let c1_i32 : BitVec 32 := 1#32
  let v0 : BitVec 1 := Scalar.cmpi .sge arg1 c1_i32
  let v1 : BitVec 32 := Scalar.extui v0
  let v14 : BitVec 32 := Scalar.addi c0_i32 v1
  let c2_i32 : BitVec 32 := 2#32
  let v2 : BitVec 1 := Scalar.cmpi .sge arg1 c2_i32
  let v3 : BitVec 32 := Scalar.extui v2
  let v15 : BitVec 32 := Scalar.addi v14 v3
  let c4_i32 : BitVec 32 := 4#32
  let v4 : BitVec 1 := Scalar.cmpi .sge arg1 c4_i32
  let v5 : BitVec 32 := Scalar.extui v4
  let v16 : BitVec 32 := Scalar.addi v15 v5
  let c6_i32 : BitVec 32 := 6#32
  let v6 : BitVec 1 := Scalar.cmpi .sge arg1 c6_i32
  let v7 : BitVec 32 := Scalar.extui v6
  let v17 : BitVec 32 := Scalar.addi v16 v7
  let c9_i32 : BitVec 32 := 9#32
  let v8 : BitVec 1 := Scalar.cmpi .sge arg1 c9_i32
  let v9 : BitVec 32 := Scalar.extui v8
  let v18 : BitVec 32 := Scalar.addi v17 v9
  let c12_i32 : BitVec 32 := 12#32
  let v10 : BitVec 1 := Scalar.cmpi .sge arg1 c12_i32
  let v11 : BitVec 32 := Scalar.extui v10
  let v19 : BitVec 32 := Scalar.addi v18 v11
  let c16_i32 : BitVec 32 := 16#32
  let v12 : BitVec 1 := Scalar.cmpi .sge arg1 c16_i32
  let v13 : BitVec 32 := Scalar.extui v12
  let v20 : BitVec 32 := Scalar.addi v19 v13
  let v43 : BitVec 32 := Scalar.subi c7_i32 v20
  let v68 : BitVec 1 := Scalar.cmpi .eq v67 v43
  let v69 : BitVec 32 := Scalar.extui v68
  let c0_i32_37 : BitVec 32 := 0#32
  let v70 : BitVec 1 := Scalar.cmpi .ne v69 c0_i32_37
  v70

def k0_off49 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v161 : Index := Scalar.indexCast v98
  let c0_85 : Index := 0#32
  let c0_86 : Index := 0#32
  ![v161.toNat, 0, 0]
def k0_off50 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v182 : Index := Scalar.indexCast v98
  let c0_95 : Index := 0#32
  let c0_96 : Index := 0#32
  ![v182.toNat, 0, 0]
def k0_off51 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v252 : Index := Scalar.indexCast v98
  let c64_122 : Index := 64#32
  let c0_123 : Index := 0#32
  ![v252.toNat, 64, 0]
def k0_off52 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v273 : Index := Scalar.indexCast v98
  let c1_132 : Index := 1#32
  let c0_133 : Index := 0#32
  ![v273.toNat, 1, 0]
def k0_off53 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v362 : Index := Scalar.indexCast v98
  let c128_175 : Index := 128#32
  let c0_176 : Index := 0#32
  ![v362.toNat, 128, 0]
def k0_off54 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v383 : Index := Scalar.indexCast v98
  let c2_185 : Index := 2#32
  let c0_186 : Index := 0#32
  ![v383.toNat, 2, 0]
def k0_off55 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v453 : Index := Scalar.indexCast v98
  let c192_212 : Index := 192#32
  let c0_213 : Index := 0#32
  ![v453.toNat, 192, 0]
def k0_off56 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v474 : Index := Scalar.indexCast v98
  let c3_222 : Index := 3#32
  let c0_223 : Index := 0#32
  ![v474.toNat, 3, 0]
def k0_off57 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v563 : Index := Scalar.indexCast v98
  let c256_265 : Index := 256#32
  let c0_266 : Index := 0#32
  ![v563.toNat, 256, 0]
def k0_off58 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v584 : Index := Scalar.indexCast v98
  let c4_275 : Index := 4#32
  let c0_276 : Index := 0#32
  ![v584.toNat, 4, 0]
def k0_off59 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v654 : Index := Scalar.indexCast v98
  let c320_302 : Index := 320#32
  let c0_303 : Index := 0#32
  ![v654.toNat, 320, 0]
def k0_off60 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v675 : Index := Scalar.indexCast v98
  let c5_311 : Index := 5#32
  let c0_312 : Index := 0#32
  ![v675.toNat, 5, 0]
def k0_off61 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v764 : Index := Scalar.indexCast v98
  let c384_354 : Index := 384#32
  let c0_355 : Index := 0#32
  ![v764.toNat, 384, 0]
def k0_off62 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v785 : Index := Scalar.indexCast v98
  let c6_364 : Index := 6#32
  let c0_365 : Index := 0#32
  ![v785.toNat, 6, 0]
def k0_off63 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v855 : Index := Scalar.indexCast v98
  let c448_391 : Index := 448#32
  let c0_392 : Index := 0#32
  ![v855.toNat, 448, 0]
def k0_off64 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v876 : Index := Scalar.indexCast v98
  let c7_401 : Index := 7#32
  let c0_402 : Index := 0#32
  ![v876.toNat, 7, 0]
def k0_cond8 (i : grid0.Coords) : BitVec 1 :=
  let arg1 : BitVec 32 := BitVec.ofNat 32 (i 1).val
  let c19_i32 : BitVec 32 := 19#32
  let v91 : BitVec 1 := Scalar.cmpi .eq arg1 c19_i32
  let v92 : BitVec 32 := Scalar.extui v91
  let c0_i32_46 : BitVec 32 := 0#32
  let v93 : BitVec 1 := Scalar.cmpi .ne v92 c0_i32_46
  v93

def k0_cond7 (i : grid0.Coords) : BitVec 1 :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c7_i32 : BitVec 32 := 7#32
  let c0_i32 : BitVec 32 := 0#32
  let c1_i32 : BitVec 32 := 1#32
  let v0 : BitVec 1 := Scalar.cmpi .sge arg1 c1_i32
  let v1 : BitVec 32 := Scalar.extui v0
  let v14 : BitVec 32 := Scalar.addi c0_i32 v1
  let c2_i32 : BitVec 32 := 2#32
  let v2 : BitVec 1 := Scalar.cmpi .sge arg1 c2_i32
  let v3 : BitVec 32 := Scalar.extui v2
  let v15 : BitVec 32 := Scalar.addi v14 v3
  let c4_i32 : BitVec 32 := 4#32
  let v4 : BitVec 1 := Scalar.cmpi .sge arg1 c4_i32
  let v5 : BitVec 32 := Scalar.extui v4
  let v16 : BitVec 32 := Scalar.addi v15 v5
  let c6_i32 : BitVec 32 := 6#32
  let v6 : BitVec 1 := Scalar.cmpi .sge arg1 c6_i32
  let v7 : BitVec 32 := Scalar.extui v6
  let v17 : BitVec 32 := Scalar.addi v16 v7
  let c9_i32 : BitVec 32 := 9#32
  let v8 : BitVec 1 := Scalar.cmpi .sge arg1 c9_i32
  let v9 : BitVec 32 := Scalar.extui v8
  let v18 : BitVec 32 := Scalar.addi v17 v9
  let c12_i32 : BitVec 32 := 12#32
  let v10 : BitVec 1 := Scalar.cmpi .sge arg1 c12_i32
  let v11 : BitVec 32 := Scalar.extui v10
  let v19 : BitVec 32 := Scalar.addi v18 v11
  let c16_i32 : BitVec 32 := 16#32
  let v12 : BitVec 1 := Scalar.cmpi .sge arg1 c16_i32
  let v13 : BitVec 32 := Scalar.extui v12
  let v20 : BitVec 32 := Scalar.addi v19 v13
  let v43 : BitVec 32 := Scalar.subi c7_i32 v20
  let c0_i32_39 : BitVec 32 := 0#32
  let v72 : BitVec 1 := Scalar.cmpi .sgt v43 c0_i32_39
  let v73 : BitVec 32 := Scalar.extui v72
  let c0_i32_40 : BitVec 32 := 0#32
  let v74 : BitVec 1 := Scalar.cmpi .slt v43 c0_i32_40
  let v75 : BitVec 32 := Scalar.extui v74
  let v76 : BitVec 32 := Scalar.subi v73 v75
  let c2_i32_38 : BitVec 32 := 2#32
  let c0_i32_41 : BitVec 32 := 0#32
  let v77 : BitVec 1 := Scalar.cmpi .sgt c2_i32_38 c0_i32_41
  let v78 : BitVec 32 := Scalar.extui v77
  let c0_i32_42 : BitVec 32 := 0#32
  let v79 : BitVec 1 := Scalar.cmpi .slt c2_i32_38 c0_i32_42
  let v80 : BitVec 32 := Scalar.extui v79
  let v81 : BitVec 32 := Scalar.subi v78 v80
  let v82 : BitVec 1 := Scalar.cmpi .ne v76 v81
  let v83 : BitVec 32 := Scalar.remsi v43 c2_i32_38
  let c0_i32_43 : BitVec 32 := 0#32
  let v84 : BitVec 1 := Scalar.cmpi .ne v83 c0_i32_43
  let v85 : BitVec 1 := Scalar.andi v82 v84
  let v71 : BitVec 32 := Scalar.divsi v43 c2_i32_38
  let c1_i32_44 : BitVec 32 := 1#32
  let v86 : BitVec 32 := Scalar.subi v71 c1_i32_44
  let v87 : BitVec 32 := Scalar.select v85 v86 v71
  let v88 : BitVec 1 := Scalar.cmpi .eq v44 v87
  let v89 : BitVec 32 := Scalar.extui v88
  let c0_i32_45 : BitVec 32 := 0#32
  let v90 : BitVec 1 := Scalar.cmpi .ne v89 c0_i32_45
  v90

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32_0 : BitVec 32 := 4#32
  let v5 : BitVec 1 := Scalar.cmpi .sge arg1 c4_i32_0
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_1 : BitVec 32 := 1#32
  let v22 : BitVec 1 := Scalar.cmpi .sge arg1 c1_i32_1
  let c1_i32_2 : BitVec 32 := 1#32
  let c0_i32_3 : BitVec 32 := 0#32
  let v23 : BitVec 32 := Scalar.select v22 c1_i32_2 c0_i32_3
  let c2_i32_4 : BitVec 32 := 2#32
  let v24 : BitVec 1 := Scalar.cmpi .sge arg1 c2_i32_4
  let c1_i32_5 : BitVec 32 := 1#32
  let c0_i32_6 : BitVec 32 := 0#32
  let v25 : BitVec 32 := Scalar.select v24 c1_i32_5 c0_i32_6
  let c4_i32_7 : BitVec 32 := 4#32
  let v26 : BitVec 1 := Scalar.cmpi .sge arg1 c4_i32_7
  let c2_i32_8 : BitVec 32 := 2#32
  let c0_i32_9 : BitVec 32 := 0#32
  let v27 : BitVec 32 := Scalar.select v26 c2_i32_8 c0_i32_9
  let c6_i32_10 : BitVec 32 := 6#32
  let v28 : BitVec 1 := Scalar.cmpi .sge arg1 c6_i32_10
  let c2_i32_11 : BitVec 32 := 2#32
  let c0_i32_12 : BitVec 32 := 0#32
  let v29 : BitVec 32 := Scalar.select v28 c2_i32_11 c0_i32_12
  let c9_i32_13 : BitVec 32 := 9#32
  let v30 : BitVec 1 := Scalar.cmpi .sge arg1 c9_i32_13
  let c3_i32 : BitVec 32 := 3#32
  let c0_i32_14 : BitVec 32 := 0#32
  let v31 : BitVec 32 := Scalar.select v30 c3_i32 c0_i32_14
  let c12_i32_15 : BitVec 32 := 12#32
  let v32 : BitVec 1 := Scalar.cmpi .sge arg1 c12_i32_15
  let c3_i32_16 : BitVec 32 := 3#32
  let c0_i32_17 : BitVec 32 := 0#32
  let v33 : BitVec 32 := Scalar.select v32 c3_i32_16 c0_i32_17
  let c16_i32_18 : BitVec 32 := 16#32
  let v34 : BitVec 1 := Scalar.cmpi .sge arg1 c16_i32_18
  let c4_i32_19 : BitVec 32 := 4#32
  let c0_i32_20 : BitVec 32 := 0#32
  let v35 : BitVec 32 := Scalar.select v34 c4_i32_19 c0_i32_20
  let c0_i32_21 : BitVec 32 := 0#32
  let v36 : BitVec 32 := Scalar.addi c0_i32_21 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_22 : BitVec 32 := 3#32
  let v45 : BitVec 32 := Scalar.subi c3_i32_22 v43
  let v46 : BitVec 32 := Scalar.addi v0 v45
  let c3_i32_23 : BitVec 32 := 3#32
  let c0_i32_24 : BitVec 32 := 0#32
  ![v46.toNat, c3_i32_23.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c4_i32_22 : BitVec 32 := 4#32
  let c0_i32_23 : BitVec 32 := 0#32
  ![v46.toNat, c4_i32_22.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c5_i32 : BitVec 32 := 5#32
  let c0_i32_22 : BitVec 32 := 0#32
  ![v46.toNat, c5_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32_0 : BitVec 32 := 4#32
  let v5 : BitVec 1 := Scalar.cmpi .sge arg1 c4_i32_0
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_1 : BitVec 32 := 1#32
  let v22 : BitVec 1 := Scalar.cmpi .sge arg1 c1_i32_1
  let c1_i32_2 : BitVec 32 := 1#32
  let c0_i32_3 : BitVec 32 := 0#32
  let v23 : BitVec 32 := Scalar.select v22 c1_i32_2 c0_i32_3
  let c2_i32_4 : BitVec 32 := 2#32
  let v24 : BitVec 1 := Scalar.cmpi .sge arg1 c2_i32_4
  let c1_i32_5 : BitVec 32 := 1#32
  let c0_i32_6 : BitVec 32 := 0#32
  let v25 : BitVec 32 := Scalar.select v24 c1_i32_5 c0_i32_6
  let c4_i32_7 : BitVec 32 := 4#32
  let v26 : BitVec 1 := Scalar.cmpi .sge arg1 c4_i32_7
  let c2_i32_8 : BitVec 32 := 2#32
  let c0_i32_9 : BitVec 32 := 0#32
  let v27 : BitVec 32 := Scalar.select v26 c2_i32_8 c0_i32_9
  let c6_i32_10 : BitVec 32 := 6#32
  let v28 : BitVec 1 := Scalar.cmpi .sge arg1 c6_i32_10
  let c2_i32_11 : BitVec 32 := 2#32
  let c0_i32_12 : BitVec 32 := 0#32
  let v29 : BitVec 32 := Scalar.select v28 c2_i32_11 c0_i32_12
  let c9_i32_13 : BitVec 32 := 9#32
  let v30 : BitVec 1 := Scalar.cmpi .sge arg1 c9_i32_13
  let c3_i32 : BitVec 32 := 3#32
  let c0_i32_14 : BitVec 32 := 0#32
  let v31 : BitVec 32 := Scalar.select v30 c3_i32 c0_i32_14
  let c12_i32_15 : BitVec 32 := 12#32
  let v32 : BitVec 1 := Scalar.cmpi .sge arg1 c12_i32_15
  let c3_i32_16 : BitVec 32 := 3#32
  let c0_i32_17 : BitVec 32 := 0#32
  let v33 : BitVec 32 := Scalar.select v32 c3_i32_16 c0_i32_17
  let c16_i32_18 : BitVec 32 := 16#32
  let v34 : BitVec 1 := Scalar.cmpi .sge arg1 c16_i32_18
  let c4_i32_19 : BitVec 32 := 4#32
  let c0_i32_20 : BitVec 32 := 0#32
  let v35 : BitVec 32 := Scalar.select v34 c4_i32_19 c0_i32_20
  let c0_i32_21 : BitVec 32 := 0#32
  let v36 : BitVec 32 := Scalar.addi c0_i32_21 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_22 : BitVec 32 := 3#32
  let v45 : BitVec 32 := Scalar.subi c3_i32_22 v43
  let v46 : BitVec 32 := Scalar.addi v0 v45
  let c0_i32_23 : BitVec 32 := 0#32
  let c0_i32_24 : BitVec 32 := 0#32
  ![v46.toNat, c0_i32_23.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32_0 : BitVec 32 := 4#32
  let v5 : BitVec 1 := Scalar.cmpi .sge arg1 c4_i32_0
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_1 : BitVec 32 := 1#32
  let v22 : BitVec 1 := Scalar.cmpi .sge arg1 c1_i32_1
  let c1_i32_2 : BitVec 32 := 1#32
  let c0_i32_3 : BitVec 32 := 0#32
  let v23 : BitVec 32 := Scalar.select v22 c1_i32_2 c0_i32_3
  let c2_i32_4 : BitVec 32 := 2#32
  let v24 : BitVec 1 := Scalar.cmpi .sge arg1 c2_i32_4
  let c1_i32_5 : BitVec 32 := 1#32
  let c0_i32_6 : BitVec 32 := 0#32
  let v25 : BitVec 32 := Scalar.select v24 c1_i32_5 c0_i32_6
  let c4_i32_7 : BitVec 32 := 4#32
  let v26 : BitVec 1 := Scalar.cmpi .sge arg1 c4_i32_7
  let c2_i32_8 : BitVec 32 := 2#32
  let c0_i32_9 : BitVec 32 := 0#32
  let v27 : BitVec 32 := Scalar.select v26 c2_i32_8 c0_i32_9
  let c6_i32_10 : BitVec 32 := 6#32
  let v28 : BitVec 1 := Scalar.cmpi .sge arg1 c6_i32_10
  let c2_i32_11 : BitVec 32 := 2#32
  let c0_i32_12 : BitVec 32 := 0#32
  let v29 : BitVec 32 := Scalar.select v28 c2_i32_11 c0_i32_12
  let c9_i32_13 : BitVec 32 := 9#32
  let v30 : BitVec 1 := Scalar.cmpi .sge arg1 c9_i32_13
  let c3_i32 : BitVec 32 := 3#32
  let c0_i32_14 : BitVec 32 := 0#32
  let v31 : BitVec 32 := Scalar.select v30 c3_i32 c0_i32_14
  let c12_i32_15 : BitVec 32 := 12#32
  let v32 : BitVec 1 := Scalar.cmpi .sge arg1 c12_i32_15
  let c3_i32_16 : BitVec 32 := 3#32
  let c0_i32_17 : BitVec 32 := 0#32
  let v33 : BitVec 32 := Scalar.select v32 c3_i32_16 c0_i32_17
  let c16_i32_18 : BitVec 32 := 16#32
  let v34 : BitVec 1 := Scalar.cmpi .sge arg1 c16_i32_18
  let c4_i32_19 : BitVec 32 := 4#32
  let c0_i32_20 : BitVec 32 := 0#32
  let v35 : BitVec 32 := Scalar.select v34 c4_i32_19 c0_i32_20
  let c0_i32_21 : BitVec 32 := 0#32
  let v36 : BitVec 32 := Scalar.addi c0_i32_21 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_22 : BitVec 32 := 3#32
  let v45 : BitVec 32 := Scalar.subi c3_i32_22 v43
  let v46 : BitVec 32 := Scalar.addi v0 v45
  let c0_i32_23 : BitVec 32 := 0#32
  let c0_i32_24 : BitVec 32 := 0#32
  ![c0_i32_23.toNat, v46.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c0_i32_22 : BitVec 32 := 0#32
  let c0_i32_23 : BitVec 32 := 0#32
  ![c0_i32_22.toNat, v46.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32_0 : BitVec 32 := 4#32
  let v5 : BitVec 1 := Scalar.cmpi .sge arg1 c4_i32_0
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_1 : BitVec 32 := 1#32
  let v22 : BitVec 1 := Scalar.cmpi .sge arg1 c1_i32_1
  let c1_i32_2 : BitVec 32 := 1#32
  let c0_i32_3 : BitVec 32 := 0#32
  let v23 : BitVec 32 := Scalar.select v22 c1_i32_2 c0_i32_3
  let c2_i32_4 : BitVec 32 := 2#32
  let v24 : BitVec 1 := Scalar.cmpi .sge arg1 c2_i32_4
  let c1_i32_5 : BitVec 32 := 1#32
  let c0_i32_6 : BitVec 32 := 0#32
  let v25 : BitVec 32 := Scalar.select v24 c1_i32_5 c0_i32_6
  let c4_i32_7 : BitVec 32 := 4#32
  let v26 : BitVec 1 := Scalar.cmpi .sge arg1 c4_i32_7
  let c2_i32_8 : BitVec 32 := 2#32
  let c0_i32_9 : BitVec 32 := 0#32
  let v27 : BitVec 32 := Scalar.select v26 c2_i32_8 c0_i32_9
  let c6_i32_10 : BitVec 32 := 6#32
  let v28 : BitVec 1 := Scalar.cmpi .sge arg1 c6_i32_10
  let c2_i32_11 : BitVec 32 := 2#32
  let c0_i32_12 : BitVec 32 := 0#32
  let v29 : BitVec 32 := Scalar.select v28 c2_i32_11 c0_i32_12
  let c9_i32_13 : BitVec 32 := 9#32
  let v30 : BitVec 1 := Scalar.cmpi .sge arg1 c9_i32_13
  let c3_i32 : BitVec 32 := 3#32
  let c0_i32_14 : BitVec 32 := 0#32
  let v31 : BitVec 32 := Scalar.select v30 c3_i32 c0_i32_14
  let c12_i32_15 : BitVec 32 := 12#32
  let v32 : BitVec 1 := Scalar.cmpi .sge arg1 c12_i32_15
  let c3_i32_16 : BitVec 32 := 3#32
  let c0_i32_17 : BitVec 32 := 0#32
  let v33 : BitVec 32 := Scalar.select v32 c3_i32_16 c0_i32_17
  let c16_i32_18 : BitVec 32 := 16#32
  let v34 : BitVec 1 := Scalar.cmpi .sge arg1 c16_i32_18
  let c4_i32_19 : BitVec 32 := 4#32
  let c0_i32_20 : BitVec 32 := 0#32
  let v35 : BitVec 32 := Scalar.select v34 c4_i32_19 c0_i32_20
  let c0_i32_21 : BitVec 32 := 0#32
  let v36 : BitVec 32 := Scalar.addi c0_i32_21 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_22 : BitVec 32 := 3#32
  let v45 : BitVec 32 := Scalar.subi c3_i32_22 v43
  let v46 : BitVec 32 := Scalar.addi v0 v45
  let c0_i32_23 : BitVec 32 := 0#32
  let c0_i32_24 : BitVec 32 := 0#32
  ![c0_i32_23.toNat, v46.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c0_i32_22 : BitVec 32 := 0#32
  let c0_i32_23 : BitVec 32 := 0#32
  ![v46.toNat, c0_i32_22.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c2_i32 : BitVec 32 := 2#32
  let v2 : BitVec 1 := Scalar.cmpi .sge arg1 c2_i32
  let v3 : BitVec 32 := Scalar.extui v2
  let c4_i32 : BitVec 32 := 4#32
  let v4 : BitVec 1 := Scalar.cmpi .sge arg1 c4_i32
  let v5 : BitVec 32 := Scalar.extui v4
  let c6_i32 : BitVec 32 := 6#32
  let v6 : BitVec 1 := Scalar.cmpi .sge arg1 c6_i32
  let v7 : BitVec 32 := Scalar.extui v6
  let c9_i32 : BitVec 32 := 9#32
  let v8 : BitVec 1 := Scalar.cmpi .sge arg1 c9_i32
  let v9 : BitVec 32 := Scalar.extui v8
  let c12_i32 : BitVec 32 := 12#32
  let v10 : BitVec 1 := Scalar.cmpi .sge arg1 c12_i32
  let v11 : BitVec 32 := Scalar.extui v10
  let c16_i32 : BitVec 32 := 16#32
  let v12 : BitVec 1 := Scalar.cmpi .sge arg1 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg1 v41
  let c7_i32 : BitVec 32 := 7#32
  let v43 : BitVec 32 := Scalar.subi c7_i32 v20
  let c3_i32_21 : BitVec 32 := 3#32
  let v44 : BitVec 32 := Scalar.subi c3_i32_21 v42
  let c0_i32_22 : BitVec 32 := 0#32
  let c0_i32_23 : BitVec 32 := 0#32
  ![arg0.toNat, c0_i32_22.toNat, v44.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c2_i32 : BitVec 32 := 2#32
  let v2 : BitVec 1 := Scalar.cmpi .sge arg1 c2_i32
  let v3 : BitVec 32 := Scalar.extui v2
  let c4_i32 : BitVec 32 := 4#32
  let v4 : BitVec 1 := Scalar.cmpi .sge arg1 c4_i32
  let v5 : BitVec 32 := Scalar.extui v4
  let c6_i32 : BitVec 32 := 6#32
  let v6 : BitVec 1 := Scalar.cmpi .sge arg1 c6_i32
  let v7 : BitVec 32 := Scalar.extui v6
  let c9_i32 : BitVec 32 := 9#32
  let v8 : BitVec 1 := Scalar.cmpi .sge arg1 c9_i32
  let v9 : BitVec 32 := Scalar.extui v8
  let c12_i32 : BitVec 32 := 12#32
  let v10 : BitVec 1 := Scalar.cmpi .sge arg1 c12_i32
  let v11 : BitVec 32 := Scalar.extui v10
  let c16_i32 : BitVec 32 := 16#32
  let v12 : BitVec 1 := Scalar.cmpi .sge arg1 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg1 v41
  let c7_i32 : BitVec 32 := 7#32
  let v43 : BitVec 32 := Scalar.subi c7_i32 v20
  let c3_i32_21 : BitVec 32 := 3#32
  let v44 : BitVec 32 := Scalar.subi c3_i32_21 v42
  let c0_i32_22 : BitVec 32 := 0#32
  let c0_i32_23 : BitVec 32 := 0#32
  ![arg0.toNat, c0_i32_22.toNat, v44.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c2_i32 : BitVec 32 := 2#32
  let v2 : BitVec 1 := Scalar.cmpi .sge arg1 c2_i32
  let v3 : BitVec 32 := Scalar.extui v2
  let c4_i32 : BitVec 32 := 4#32
  let v4 : BitVec 1 := Scalar.cmpi .sge arg1 c4_i32
  let v5 : BitVec 32 := Scalar.extui v4
  let c6_i32 : BitVec 32 := 6#32
  let v6 : BitVec 1 := Scalar.cmpi .sge arg1 c6_i32
  let v7 : BitVec 32 := Scalar.extui v6
  let c9_i32 : BitVec 32 := 9#32
  let v8 : BitVec 1 := Scalar.cmpi .sge arg1 c9_i32
  let v9 : BitVec 32 := Scalar.extui v8
  let c12_i32 : BitVec 32 := 12#32
  let v10 : BitVec 1 := Scalar.cmpi .sge arg1 c12_i32
  let v11 : BitVec 32 := Scalar.extui v10
  let c16_i32 : BitVec 32 := 16#32
  let v12 : BitVec 1 := Scalar.cmpi .sge arg1 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg1 v41
  let c7_i32 : BitVec 32 := 7#32
  let v43 : BitVec 32 := Scalar.subi c7_i32 v20
  let c3_i32_21 : BitVec 32 := 3#32
  let v44 : BitVec 32 := Scalar.subi c3_i32_21 v42
  let c0_i32_22 : BitVec 32 := 0#32
  let c0_i32_23 : BitVec 32 := 0#32
  ![arg0.toNat, c0_i32_22.toNat, v44.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c0_i32_22 : BitVec 32 := 0#32
  let c0_i32_23 : BitVec 32 := 0#32
  ![v46.toNat, c0_i32_22.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c0_i32_22 : BitVec 32 := 0#32
  let c0_i32_23 : BitVec 32 := 0#32
  ![v46.toNat, c0_i32_22.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c0_i32_22 : BitVec 32 := 0#32
  let c0_i32_23 : BitVec 32 := 0#32
  ![v46.toNat, c0_i32_22.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Kernel6Ideal.lean ====
def κ : String → Option EReal := fun
  | "mask" => some ⊥
  | _ => none
-- ==== Reference6Ideal.lean ====
abbrev S2x2048x512 : Shape := ⟨3, ![2, 2048, 512]⟩
abbrev S2x8x2048 : Shape := ⟨3, ![2, 8, 2048]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048x1 : Shape := ⟨4, ![2, 8, 2048, 1]⟩
abbrev S2x8x1x2048 : Shape := ⟨4, ![2, 8, 1, 2048]⟩
abbrev S2x8x64x2048 : Shape := ⟨4, ![2, 8, 64, 2048]⟩
abbrev S2x8x2048x64 : Shape := ⟨4, ![2, 8, 2048, 64]⟩
abbrev S2x2048x8 : Shape := ⟨3, ![2, 2048, 8]⟩
abbrev S4096x8 : Shape := ⟨2, ![4096, 8]⟩
abbrev S4096x128 : Shape := ⟨2, ![4096, 128]⟩
abbrev S4096x512 : Shape := ⟨2, ![4096, 512]⟩

abbrev nBuf : Space → Nat
  | .hbm => 137
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S2x8x2048, .f32⟩
  | 4 => ⟨S2x2048x512, .f32⟩
  | 5 => ⟨S2x2048x8x64, .f32⟩
  | 6 => ⟨S2x2048x8x64, .f32⟩
  | 7 => ⟨S2x8x2048x2048, .f32⟩
  | 8 => ⟨S_, .f32⟩
  | 9 => ⟨S2x8x2048x2048, .f32⟩
  | 10 => ⟨S2x8x2048x2048, .f32⟩
  | 11 => ⟨S2048, .i32⟩
  | 12 => ⟨S2048x1, .i32⟩
  | 13 => ⟨S2048, .i32⟩
  | 14 => ⟨S1x2048, .i32⟩
  | 15 => ⟨S2048x2048, .i32⟩
  | 16 => ⟨S2048x2048, .i32⟩
  | 17 => ⟨S2048x2048, .i1⟩
  | 18 => ⟨S2x8x2048x1, .f32⟩
  | 19 => ⟨S2x8x1x2048, .f32⟩
  | 20 => ⟨S2x8x2048x2048, .f32⟩
  | 21 => ⟨S2x8x2048x2048, .f32⟩
  | 22 => ⟨S2x8x2048x2048, .f32⟩
  | 23 => ⟨S_, .f32⟩
  | 24 => ⟨S_, .f32⟩
  | 25 => ⟨S2x8x2048x2048, .i1⟩
  | 26 => ⟨S2x8x2048x2048, .f32⟩
  | 27 => ⟨S2x8x2048x2048, .f32⟩
  | 28 => ⟨S_, .f32⟩
  | 29 => ⟨S2x8x2048x2048, .f32⟩
  | 30 => ⟨S2x8x2048x2048, .f32⟩
  | 31 => ⟨S_, .f32⟩
  | 32 => ⟨S_, .f32⟩
  | 33 => ⟨S2x8x2048x2048, .i1⟩
  | 34 => ⟨S2x8x2048x2048, .f32⟩
  | 35 => ⟨S2x8x2048x2048, .f32⟩
  | 36 => ⟨S_, .f32⟩
  | 37 => ⟨S2x8x2048x2048, .f32⟩
  | 38 => ⟨S_, .f32⟩
  | 39 => ⟨S2x8x2048, .f32⟩
  | 40 => ⟨S2x8x2048x1, .f32⟩
  | 41 => ⟨S2x8x2048x2048, .f32⟩
  | 42 => ⟨S2x8x2048x2048, .i1⟩
  | 43 => ⟨S2x8x2048x2048, .f32⟩
  | 44 => ⟨S_, .f32⟩
  | 45 => ⟨S2x8x2048, .f32⟩
  | 46 => ⟨S_, .f32⟩
  | 47 => ⟨S2x8x2048, .f32⟩
  | 48 => ⟨S2x8x2048, .f32⟩
  | 49 => ⟨S_, .f32⟩
  | 50 => ⟨S2x8x2048, .f32⟩
  | 51 => ⟨S2x8x2048, .i1⟩
  | 52 => ⟨S_, .f32⟩
  | 53 => ⟨S2x8x2048, .f32⟩
  | 54 => ⟨S2x8x2048, .i1⟩
  | 55 => ⟨S_, .f32⟩
  | 56 => ⟨S2x8x2048, .f32⟩
  | 57 => ⟨S_, .f32⟩
  | 58 => ⟨S2x8x2048, .f32⟩
  | 59 => ⟨S_, .f32⟩
  | 60 => ⟨S2x8x2048, .f32⟩
  | 61 => ⟨S2x8x2048, .f32⟩
  | 62 => ⟨S2x8x2048, .f32⟩
  | 63 => ⟨S2x8x2048x1, .f32⟩
  | 64 => ⟨S2x8x2048x2048, .f32⟩
  | 65 => ⟨S2x8x2048x2048, .f32⟩
  | 66 => ⟨S2x8x2048x2048, .f32⟩
  | 67 => ⟨S_, .f32⟩
  | 68 => ⟨S2x8x2048, .f32⟩
  | 69 => ⟨S2x8x2048x1, .f32⟩
  | 70 => ⟨S2x8x2048x2048, .f32⟩
  | 71 => ⟨S2x8x2048x2048, .f32⟩
  | 72 => ⟨S2x8x2048x1, .f32⟩
  | 73 => ⟨S_, .f32⟩
  | 74 => ⟨S2x8x2048x1, .f32⟩
  | 75 => ⟨S2x8x2048x1, .f32⟩
  | 76 => ⟨S2x2048x8x64, .f32⟩
  | 77 => ⟨S2x8x64x2048, .f32⟩
  | 78 => ⟨S2x2048x8x64, .f32⟩
  | 79 => ⟨S2x2048x512, .f32⟩
  | 80 => ⟨S2x2048x8x64, .f32⟩
  | 81 => ⟨S2x8x64x2048, .f32⟩
  | 82 => ⟨S2x8x2048x2048, .f32⟩
  | 83 => ⟨S2x8x64x2048, .f32⟩
  | 84 => ⟨S2x2048x8x64, .f32⟩
  | 85 => ⟨S2x2048x512, .f32⟩
  | 86 => ⟨S2x8x2048x2048, .f32⟩
  | 87 => ⟨S2x8x2048x2048, .f32⟩
  | 88 => ⟨S2x8x2048x2048, .f32⟩
  | 89 => ⟨S_, .f32⟩
  | 90 => ⟨S2x8x2048, .f32⟩
  | 91 => ⟨S2x8x2048x1, .f32⟩
  | 92 => ⟨S2x8x2048x1, .f32⟩
  | 93 => ⟨S2x8x2048x2048, .f32⟩
  | 94 => ⟨S2x8x2048x2048, .f32⟩
  | 95 => ⟨S_, .f32⟩
  | 96 => ⟨S2x8x2048, .f32⟩
  | 97 => ⟨S2x8x2048x2048, .f32⟩
  | 98 => ⟨S2x8x2048x2048, .f32⟩
  | 99 => ⟨S2x8x2048x2048, .f32⟩
  | 100 => ⟨S_, .f32⟩
  | 101 => ⟨S2x8x2048x2048, .f32⟩
  | 102 => ⟨S2x8x2048x2048, .f32⟩
  | 103 => ⟨S_, .f32⟩
  | 104 => ⟨S2x8x2048x2048, .f32⟩
  | 105 => ⟨S2x8x2048x2048, .f32⟩
  | 106 => ⟨S_, .f32⟩
  | 107 => ⟨S2x8x2048, .f32⟩
  | 108 => ⟨S2x8x2048x1, .f32⟩
  | 109 => ⟨S2x8x2048x2048, .f32⟩
  | 110 => ⟨S_, .f32⟩
  | 111 => ⟨S2x8x2048, .f32⟩
  | 112 => ⟨S2x8x1x2048, .f32⟩
  | 113 => ⟨S_, .f32⟩
  | 114 => ⟨S2x8x2048, .f32⟩
  | 115 => ⟨S_, .f32⟩
  | 116 => ⟨S2x8x2048, .f32⟩
  | 117 => ⟨S_, .f32⟩
  | 118 => ⟨S2x8x2048x2048, .f32⟩
  | 119 => ⟨S2x8x2048x2048, .f32⟩
  | 120 => ⟨S2x8x2048x64, .f32⟩
  | 121 => ⟨S2x2048x8x64, .f32⟩
  | 122 => ⟨S2x8x2048x64, .f32⟩
  | 123 => ⟨S2x2048x8x64, .f32⟩
  | 124 => ⟨S2x2048x512, .f32⟩
  | 125 => ⟨S2x2048x512, .f32⟩
  | 126 => ⟨S2x2048x8, .f32⟩
  | 127 => ⟨S4096x8, .f32⟩
  | _ => ⟨S2x2048x512, .f32⟩

abbrev hbmTy0_1 (i : Nat) : BufTy := match i % 128 with
  | 0 => ⟨S_, .i32⟩
  | 1 => ⟨S_, .f32⟩
  | 2 => ⟨S4096x128, .f32⟩
  | 3 => ⟨S4096x512, .f32⟩
  | 4 => ⟨S4096x512, .bf16⟩
  | 5 => ⟨S4096x512, .f32⟩
  | 6 => ⟨S4096x512, .bf16⟩
  | 7 => ⟨S4096x512, .f32⟩
  | 8 => ⟨S4096x512, .bf16⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_v18 : Ref sig .tc := ⟨.hbm, 30, rfl⟩
abbrev main_cst_1 : Ref sig .tc := ⟨.hbm, 31, rfl⟩
abbrev main_call1_v0 : Ref sig .tc := ⟨.hbm, 32, rfl⟩
abbrev main_v19_1 : Ref sig .tc := ⟨.hbm, 33, rfl⟩
abbrev main_call1_v2 : Ref sig .tc := ⟨.hbm, 34, rfl⟩
abbrev main_v19_0 : Ref sig .tc := ⟨.hbm, 35, rfl⟩
abbrev main_call1_cst : Ref sig .tc := ⟨.hbm, 36, rfl⟩
abbrev main_v19_2 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call2_cst : Ref sig .tc := ⟨.hbm, 100, rfl⟩
abbrev main_call2_v0 : Ref sig .tc := ⟨.hbm, 101, rfl⟩
abbrev main_v70 : Ref sig .tc := ⟨.hbm, 102, rfl⟩
abbrev main_call3_cst : Ref sig .tc := ⟨.hbm, 103, rfl⟩
abbrev main_call3_v0 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c : Ref sig .tc := ⟨.hbm, 128, rfl⟩
abbrev main_call4_v0 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]

def κ : String → Option EReal := fun
  | "mask" => some ⊥
  | _ => none
-- ==== Kernel7.lean ====
abbrev S2x2048x256 : Shape := ⟨3, ![2, 2048, 256]⟩
abbrev S256 : Shape := ⟨1, ![256]⟩
abbrev S_ : Shape := ⟨0, ![]⟩
abbrev S1x1x256 : Shape := ⟨3, ![1, 1, 256]⟩
abbrev S2x32x64x4x64 : Shape := ⟨5, ![2, 32, 64, 4, 64]⟩
abbrev S32x2x4x64x64 : Shape := ⟨5, ![32, 2, 4, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S32x2x4x1x64 : Shape := ⟨5, ![32, 2, 4, 1, 64]⟩
abbrev S32x2x4x64 : Shape := ⟨4, ![32, 2, 4, 64]⟩
abbrev S32x2x4x64x1 : Shape := ⟨5, ![32, 2, 4, 64, 1]⟩
abbrev S2x4x64x64 : Shape := ⟨4, ![2, 4, 64, 64]⟩
abbrev S1x2x4x64x1 : Shape := ⟨5, ![1, 2, 4, 64, 1]⟩
abbrev S2x4x64x1 : Shape := ⟨4, ![2, 4, 64, 1]⟩
abbrev S1x2x4x64x64 : Shape := ⟨5, ![1, 2, 4, 64, 64]⟩
abbrev S16x2x4x64x64 : Shape := ⟨5, ![16, 2, 4, 64, 64]⟩
abbrev S32x2x4x64x1x64 : Shape := ⟨6, ![32, 2, 4, 64, 1, 64]⟩
abbrev S32x2x4x1x64x64 : Shape := ⟨6, ![32, 2, 4, 1, 64, 64]⟩
abbrev S32x2x4x64x64x64 : Shape := ⟨6, ![32, 2, 4, 64, 64, 64]⟩
abbrev S1x1x1x64x64x1 : Shape := ⟨6, ![1, 1, 1, 64, 64, 1]⟩
abbrev S2x2048x4x64 : Shape := ⟨4, ![2, 2048, 4, 64]⟩
abbrev S4 : Shape := ⟨1, ![4]⟩
abbrev S4x1x1x1 : Shape := ⟨4, ![4, 1, 1, 1]⟩
abbrev S1x1x4x1 : Shape := ⟨4, ![1, 1, 4, 1]⟩
abbrev S4x1x4x1 : Shape := ⟨4, ![4, 1, 4, 1]⟩
abbrev S2x32x4x64x64 : Shape := ⟨5, ![2, 32, 4, 64, 64]⟩
abbrev S2x32x4x64x1x64 : Shape := ⟨6, ![2, 32, 4, 64, 1, 64]⟩
abbrev S2x32x4x64x4x64 : Shape := ⟨6, ![2, 32, 4, 64, 4, 64]⟩
abbrev S64x256x256 : Shape := ⟨3, ![64, 256, 256]⟩
abbrev S4096x256 : Shape := ⟨2, ![4096, 256]⟩
abbrev S4096x2560 : Shape := ⟨2, ![4096, 2560]⟩
abbrev S4096x3584 : Shape := ⟨2, ![4096, 3584]⟩
abbrev S4096x512 : Shape := ⟨2, ![4096, 512]⟩
abbrev S1x256 : Shape := ⟨2, ![1, 256]⟩
abbrev S256x256 : Shape := ⟨2, ![256, 256]⟩
abbrev S2x2048x3584 : Shape := ⟨3, ![2, 2048, 3584]⟩
abbrev S2x2048x512 : Shape := ⟨3, ![2, 2048, 512]⟩
abbrev S2x32x256x256 : Shape := ⟨4, ![2, 32, 256, 256]⟩
abbrev S2x2048x1024 : Shape := ⟨3, ![2, 2048, 1024]⟩
abbrev S2x256x256 : Shape := ⟨3, ![2, 256, 256]⟩
abbrev S2x4x256x256 : Shape := ⟨4, ![2, 4, 256, 256]⟩
abbrev S2x256x1024 : Shape := ⟨3, ![2, 256, 1024]⟩
abbrev S1x256x256 : Shape := ⟨3, ![1, 256, 256]⟩
abbrev S1x16x256 : Shape := ⟨3, ![1, 16, 256]⟩
abbrev S16x256 : Shape := ⟨2, ![16, 256]⟩
abbrev S1x1x256x256 : Shape := ⟨4, ![1, 1, 256, 256]⟩
abbrev S8x256 : Shape := ⟨2, ![8, 256]⟩

abbrev nBuf : Space → Nat
  | .hbm => 448
  | .vmem => 31
  | .smem => 0
  | _ => 0

abbrev hbmTy0_0 (i : Nat) : BufTy := match i % 128 with
  | 0 => ⟨S2x2048x256, .f32⟩
  | 1 => ⟨S2x2048x256, .f32⟩
  | 2 => ⟨S2x2048x256, .f32⟩
  | 3 => ⟨S2x2048x256, .f32⟩
  | 4 => ⟨S256, .f32⟩
  | 5 => ⟨S256, .f32⟩
  | 6 => ⟨S2x2048x256, .f32⟩
  | 7 => ⟨S_, .f32⟩
  | 8 => ⟨S256, .f32⟩
  | 9 => ⟨S256, .f32⟩
  | 10 => ⟨S2x2048x256, .f32⟩
  | 11 => ⟨S2x2048x256, .f32⟩
  | 12 => ⟨S_, .f32⟩
  | 13 => ⟨S2x2048x256, .f32⟩
  | 14 => ⟨S2x2048x256, .f32⟩
  | 15 => ⟨S_, .f32⟩
  | 16 => ⟨S2x2048x256, .f32⟩
  | 17 => ⟨S2x2048x256, .f32⟩
  | 18 => ⟨S1x1x256, .f32⟩
  | 19 => ⟨S2x2048x256, .f32⟩
  | 20 => ⟨S2x2048x256, .f32⟩
  | 21 => ⟨S1x1x256, .f32⟩
  | 22 => ⟨S2x2048x256, .f32⟩
  | 23 => ⟨S2x2048x256, .f32⟩
  | 24 => ⟨S_, .f32⟩
  | 25 => ⟨S2x2048x256, .f32⟩
  | 26 => ⟨S2x2048x256, .f32⟩
  | 27 => ⟨S2x2048x256, .f32⟩
  | 28 => ⟨S_, .f32⟩
  | 29 => ⟨S256, .f32⟩
  | 30 => ⟨S256, .f32⟩
  | 31 => ⟨S2x2048x256, .f32⟩
  | 32 => ⟨S2x2048x256, .f32⟩
  | 33 => ⟨S2x2048x256, .f32⟩
  | 34 => ⟨S_, .f32⟩
  | 35 => ⟨S2x2048x256, .f32⟩
  | 36 => ⟨S2x2048x256, .f32⟩
  | 37 => ⟨S_, .f32⟩
  | 38 => ⟨S2x2048x256, .f32⟩
  | 39 => ⟨S2x2048x256, .f32⟩
  | 40 => ⟨S1x1x256, .f32⟩
  | 41 => ⟨S2x2048x256, .f32⟩
  | 42 => ⟨S2x2048x256, .f32⟩
  | 43 => ⟨S2x2048x256, .f32⟩
  | 44 => ⟨S2x2048x256, .f32⟩
  | 45 => ⟨S_, .f32⟩
  | 46 => ⟨S2x2048x256, .f32⟩
  | 47 => ⟨S2x2048x256, .f32⟩
  | 48 => ⟨S_, .f32⟩
  | 49 => ⟨S2x2048x256, .f32⟩
  | 50 => ⟨S2x2048x256, .f32⟩
  | 51 => ⟨S2x2048x256, .f32⟩
  | 52 => ⟨S2x32x64x4x64, .f32⟩
  | 53 => ⟨S32x2x4x64x64, .f32⟩
  | 54 => ⟨S2x32x64x4x64, .f32⟩
  | 55 => ⟨S32x2x4x64x64, .f32⟩
  | 56 => ⟨S2x32x64x4x64, .f32⟩
  | 57 => ⟨S32x2x4x64x64, .f32⟩
  | 58 => ⟨S2x32x64x4x64, .f32⟩
  | 59 => ⟨S32x2x4x64x64, .f32⟩
  | 60 => ⟨S64, .i32⟩
  | 61 => ⟨S64x1, .i32⟩
  | 62 => ⟨S1x64, .i32⟩
  | 63 => ⟨S64x64, .i32⟩
  | 64 => ⟨S64x64, .i32⟩
  | 65 => ⟨S64x64, .i1⟩
  | 66 => ⟨S64x64x1, .i1⟩
  | 67 => ⟨S_, .f32⟩
  | 68 => ⟨S_, .f32⟩
  | 69 => ⟨S32x2x4x64x64, .f32⟩
  | 70 => ⟨S32x2x4x1x64, .f32⟩
  | 71 => ⟨S32x2x4x64, .f32⟩
  | 72 => ⟨S32x2x4x1x64, .f32⟩
  | 73 => ⟨S32x2x4x64x64, .f32⟩
  | 74 => ⟨S32x2x4x64x64, .f32⟩
  | 75 => ⟨S32x2x4x64x64, .f32⟩
  | 76 => ⟨S32x2x4x64x64, .f32⟩
  | 77 => ⟨S32x2x4x64x64, .f32⟩
  | 78 => ⟨S32x2x4x64, .f32⟩
  | 79 => ⟨S32x2x4x64x1, .f32⟩
  | 80 => ⟨S_, .f32⟩
  | 81 => ⟨S2x4x64x64, .f32⟩
  | 82 => ⟨S1x2x4x64x1, .f32⟩
  | 83 => ⟨S2x4x64x1, .f32⟩
  | 84 => ⟨S2x4x64x64, .f32⟩
  | 85 => ⟨S2x4x64x64, .f32⟩
  | 86 => ⟨S1x2x4x64x64, .f32⟩
  | 87 => ⟨S2x4x64x64, .f32⟩
  | 88 => ⟨S2x4x64x64, .f32⟩
  | 89 => ⟨S1x2x4x64x1, .f32⟩
  | 90 => ⟨S2x4x64x1, .f32⟩
  | 91 => ⟨S2x4x64x64, .f32⟩
  | 92 => ⟨S2x4x64x64, .f32⟩
  | 93 => ⟨S1x2x4x64x64, .f32⟩
  | 94 => ⟨S2x4x64x64, .f32⟩
  | 95 => ⟨S2x4x64x64, .f32⟩
  | 96 => ⟨S1x2x4x64x1, .f32⟩
  | 97 => ⟨S2x4x64x1, .f32⟩
  | 98 => ⟨S2x4x64x64, .f32⟩
  | 99 => ⟨S2x4x64x64, .f32⟩
  | 100 => ⟨S1x2x4x64x64, .f32⟩
  | 101 => ⟨S2x4x64x64, .f32⟩
  | 102 => ⟨S2x4x64x64, .f32⟩
  | 103 => ⟨S1x2x4x64x1, .f32⟩
  | 104 => ⟨S2x4x64x1, .f32⟩
  | 105 => ⟨S2x4x64x64, .f32⟩
  | 106 => ⟨S2x4x64x64, .f32⟩
  | 107 => ⟨S1x2x4x64x64, .f32⟩
  | 108 => ⟨S2x4x64x64, .f32⟩
  | 109 => ⟨S2x4x64x64, .f32⟩
  | 110 => ⟨S1x2x4x64x1, .f32⟩
  | 111 => ⟨S2x4x64x1, .f32⟩
  | 112 => ⟨S2x4x64x64, .f32⟩
  | 113 => ⟨S2x4x64x64, .f32⟩
  | 114 => ⟨S1x2x4x64x64, .f32⟩
  | 115 => ⟨S2x4x64x64, .f32⟩
  | 116 => ⟨S2x4x64x64, .f32⟩
  | 117 => ⟨S1x2x4x64x1, .f32⟩
  | 118 => ⟨S2x4x64x1, .f32⟩
  | 119 => ⟨S2x4x64x64, .f32⟩
  | 120 => ⟨S2x4x64x64, .f32⟩
  | 121 => ⟨S1x2x4x64x64, .f32⟩
  | 122 => ⟨S2x4x64x64, .f32⟩
  | 123 => ⟨S2x4x64x64, .f32⟩
  | 124 => ⟨S1x2x4x64x1, .f32⟩
  | 125 => ⟨S2x4x64x1, .f32⟩
  | 126 => ⟨S2x4x64x64, .f32⟩
  | 127 => ⟨S2x4x64x64, .f32⟩
  | _ => ⟨S2x2048x256, .f32⟩

abbrev hbmTy0_1 (i : Nat) : BufTy := match i % 128 with
  | 0 => ⟨S1x2x4x64x64, .f32⟩
  | 1 => ⟨S2x4x64x64, .f32⟩
  | 2 => ⟨S2x4x64x64, .f32⟩
  | 3 => ⟨S1x2x4x64x1, .f32⟩
  | 4 => ⟨S2x4x64x1, .f32⟩
  | 5 => ⟨S2x4x64x64, .f32⟩
  | 6 => ⟨S2x4x64x64, .f32⟩
  | 7 => ⟨S1x2x4x64x64, .f32⟩
  | 8 => ⟨S2x4x64x64, .f32⟩
  | 9 => ⟨S2x4x64x64, .f32⟩
  | 10 => ⟨S1x2x4x64x1, .f32⟩
  | 11 => ⟨S2x4x64x1, .f32⟩
  | 12 => ⟨S2x4x64x64, .f32⟩
  | 13 => ⟨S2x4x64x64, .f32⟩
  | 14 => ⟨S1x2x4x64x64, .f32⟩
  | 15 => ⟨S2x4x64x64, .f32⟩
  | 16 => ⟨S2x4x64x64, .f32⟩
  | 17 => ⟨S1x2x4x64x1, .f32⟩
  | 18 => ⟨S2x4x64x1, .f32⟩
  | 19 => ⟨S2x4x64x64, .f32⟩
  | 20 => ⟨S2x4x64x64, .f32⟩
  | 21 => ⟨S1x2x4x64x64, .f32⟩
  | 22 => ⟨S2x4x64x64, .f32⟩
  | 23 => ⟨S2x4x64x64, .f32⟩
  | 24 => ⟨S1x2x4x64x1, .f32⟩
  | 25 => ⟨S2x4x64x1, .f32⟩
  | 26 => ⟨S2x4x64x64, .f32⟩
  | 27 => ⟨S2x4x64x64, .f32⟩
  | 28 => ⟨S1x2x4x64x64, .f32⟩
  | 29 => ⟨S2x4x64x64, .f32⟩
  | 30 => ⟨S2x4x64x64, .f32⟩
  | 31 => ⟨S1x2x4x64x1, .f32⟩
  | 32 => ⟨S2x4x64x1, .f32⟩
  | 33 => ⟨S2x4x64x64, .f32⟩
  | 34 => ⟨S2x4x64x64, .f32⟩
  | 35 => ⟨S1x2x4x64x64, .f32⟩
  | 36 => ⟨S2x4x64x64, .f32⟩
  | 37 => ⟨S2x4x64x64, .f32⟩
  | 38 => ⟨S1x2x4x64x1, .f32⟩
  | 39 => ⟨S2x4x64x1, .f32⟩
  | 40 => ⟨S2x4x64x64, .f32⟩
  | 41 => ⟨S2x4x64x64, .f32⟩
  | 42 => ⟨S1x2x4x64x64, .f32⟩
  | 43 => ⟨S2x4x64x64, .f32⟩
  | 44 => ⟨S2x4x64x64, .f32⟩
  | 45 => ⟨S1x2x4x64x1, .f32⟩
  | 46 => ⟨S2x4x64x1, .f32⟩
  | 47 => ⟨S2x4x64x64, .f32⟩
  | 48 => ⟨S2x4x64x64, .f32⟩
  | 49 => ⟨S1x2x4x64x64, .f32⟩
  | 50 => ⟨S2x4x64x64, .f32⟩
  | 51 => ⟨S2x4x64x64, .f32⟩
  | 52 => ⟨S1x2x4x64x1, .f32⟩
  | 53 => ⟨S2x4x64x1, .f32⟩
  | 54 => ⟨S2x4x64x64, .f32⟩
  | 55 => ⟨S2x4x64x64, .f32⟩
  | 56 => ⟨S1x2x4x64x64, .f32⟩
  | 57 => ⟨S2x4x64x64, .f32⟩
  | 58 => ⟨S2x4x64x64, .f32⟩
  | 59 => ⟨S1x2x4x64x1, .f32⟩
  | 60 => ⟨S2x4x64x1, .f32⟩
  | 61 => ⟨S2x4x64x64, .f32⟩
  | 62 => ⟨S2x4x64x64, .f32⟩
  | 63 => ⟨S1x2x4x64x64, .f32⟩
  | 64 => ⟨S2x4x64x64, .f32⟩
  | 65 => ⟨S2x4x64x64, .f32⟩
  | 66 => ⟨S1x2x4x64x1, .f32⟩
  | 67 => ⟨S2x4x64x1, .f32⟩
  | 68 => ⟨S2x4x64x64, .f32⟩
  | 69 => ⟨S2x4x64x64, .f32⟩
  | 70 => ⟨S1x2x4x64x64, .f32⟩
  | 71 => ⟨S2x4x64x64, .f32⟩
  | 72 => ⟨S2x4x64x64, .f32⟩
  | 73 => ⟨S1x2x4x64x1, .f32⟩
  | 74 => ⟨S2x4x64x1, .f32⟩
  | 75 => ⟨S2x4x64x64, .f32⟩
  | 76 => ⟨S2x4x64x64, .f32⟩
  | 77 => ⟨S1x2x4x64x64, .f32⟩
  | 78 => ⟨S2x4x64x64, .f32⟩
  | 79 => ⟨S2x4x64x64, .f32⟩
  | 80 => ⟨S1x2x4x64x1, .f32⟩
  | 81 => ⟨S2x4x64x1, .f32⟩
  | 82 => ⟨S2x4x64x64, .f32⟩
  | 83 => ⟨S2x4x64x64, .f32⟩
  | 84 => ⟨S1x2x4x64x64, .f32⟩
  | 85 => ⟨S2x4x64x64, .f32⟩
  | 86 => ⟨S2x4x64x64, .f32⟩
  | 87 => ⟨S1x2x4x64x1, .f32⟩
  | 88 => ⟨S2x4x64x1, .f32⟩
  | 89 => ⟨S2x4x64x64, .f32⟩
  | 90 => ⟨S2x4x64x64, .f32⟩
  | 91 => ⟨S1x2x4x64x64, .f32⟩
  | 92 => ⟨S2x4x64x64, .f32⟩
  | 93 => ⟨S2x4x64x64, .f32⟩
  | 94 => ⟨S1x2x4x64x1, .f32⟩
  | 95 => ⟨S2x4x64x1, .f32⟩
  | 96 => ⟨S2x4x64x64, .f32⟩
  | 97 => ⟨S2x4x64x64, .f32⟩
  | 98 => ⟨S1x2x4x64x64, .f32⟩
  | 99 => ⟨S2x4x64x64, .f32⟩
  | 100 => ⟨S2x4x64x64, .f32⟩
  | 101 => ⟨S1x2x4x64x1, .f32⟩
  | 102 => ⟨S2x4x64x1, .f32⟩
  | 103 => ⟨S2x4x64x64, .f32⟩
  | 104 => ⟨S2x4x64x64, .f32⟩
  | 105 => ⟨S1x2x4x64x64, .f32⟩
  | 106 => ⟨S2x4x64x64, .f32⟩
  | 107 => ⟨S2x4x64x64, .f32⟩
  | 108 => ⟨S1x2x4x64x1, .f32⟩
  | 109 => ⟨S2x4x64x1, .f32⟩
  | 110 => ⟨S2x4x64x64, .f32⟩
  | 111 => ⟨S2x4x64x64, .f32⟩
  | 112 => ⟨S1x2x4x64x64, .f32⟩
  | 113 => ⟨S2x4x64x64, .f32⟩
  | 114 => ⟨S2x4x64x64, .f32⟩
  | 115 => ⟨S1x2x4x64x1, .f32⟩
  | 116 => ⟨S2x4x64x1, .f32⟩
  | 117 => ⟨S2x4x64x64, .f32⟩
  | 118 => ⟨S2x4x64x64, .f32⟩
  | 119 => ⟨S1x2x4x64x64, .f32⟩
  | 120 => ⟨S2x4x64x64, .f32⟩
  | 121 => ⟨S2x4x64x64, .f32⟩
  | 122 => ⟨S1x2x4x64x1, .f32⟩
  | 123 => ⟨S2x4x64x1, .f32⟩
  | 124 => ⟨S2x4x64x64, .f32⟩
  | 125 => ⟨S2x4x64x64, .f32⟩
  | 126 => ⟨S1x2x4x64x64, .f32⟩
  | 127 => ⟨S2x4x64x64, .f32⟩
  | _ => ⟨S2x2048x256, .f32⟩

abbrev hbmTy0_2 (i : Nat) : BufTy := match i % 128 with
  | 0 => ⟨S2x4x64x64, .f32⟩
  | 1 => ⟨S1x2x4x64x1, .f32⟩
  | 2 => ⟨S2x4x64x1, .f32⟩
  | 3 => ⟨S2x4x64x64, .f32⟩
  | 4 => ⟨S2x4x64x64, .f32⟩
  | 5 => ⟨S1x2x4x64x64, .f32⟩
  | 6 => ⟨S2x4x64x64, .f32⟩
  | 7 => ⟨S2x4x64x64, .f32⟩
  | 8 => ⟨S1x2x4x64x1, .f32⟩
  | 9 => ⟨S2x4x64x1, .f32⟩
  | 10 => ⟨S2x4x64x64, .f32⟩
  | 11 => ⟨S2x4x64x64, .f32⟩
  | 12 => ⟨S1x2x4x64x64, .f32⟩
  | 13 => ⟨S2x4x64x64, .f32⟩
  | 14 => ⟨S2x4x64x64, .f32⟩
  | 15 => ⟨S1x2x4x64x1, .f32⟩
  | 16 => ⟨S2x4x64x1, .f32⟩
  | 17 => ⟨S2x4x64x64, .f32⟩
  | 18 => ⟨S2x4x64x64, .f32⟩
  | 19 => ⟨S1x2x4x64x64, .f32⟩
  | 20 => ⟨S2x4x64x64, .f32⟩
  | 21 => ⟨S2x4x64x64, .f32⟩
  | 22 => ⟨S1x2x4x64x1, .f32⟩
  | 23 => ⟨S2x4x64x1, .f32⟩
  | 24 => ⟨S2x4x64x64, .f32⟩
  | 25 => ⟨S2x4x64x64, .f32⟩
  | 26 => ⟨S1x2x4x64x64, .f32⟩
  | 27 => ⟨S2x4x64x64, .f32⟩
  | 28 => ⟨S2x4x64x64, .f32⟩
  | 29 => ⟨S1x2x4x64x1, .f32⟩
  | 30 => ⟨S2x4x64x1, .f32⟩
  | 31 => ⟨S2x4x64x64, .f32⟩
  | 32 => ⟨S2x4x64x64, .f32⟩
  | 33 => ⟨S1x2x4x64x64, .f32⟩
  | 34 => ⟨S2x4x64x64, .f32⟩
  | 35 => ⟨S2x4x64x64, .f32⟩
  | 36 => ⟨S1x2x4x64x1, .f32⟩
  | 37 => ⟨S2x4x64x1, .f32⟩
  | 38 => ⟨S2x4x64x64, .f32⟩
  | 39 => ⟨S2x4x64x64, .f32⟩
  | 40 => ⟨S1x2x4x64x64, .f32⟩
  | 41 => ⟨S2x4x64x64, .f32⟩
  | 42 => ⟨S2x4x64x64, .f32⟩
  | 43 => ⟨S1x2x4x64x1, .f32⟩
  | 44 => ⟨S2x4x64x1, .f32⟩
  | 45 => ⟨S2x4x64x64, .f32⟩
  | 46 => ⟨S2x4x64x64, .f32⟩
  | 47 => ⟨S1x2x4x64x64, .f32⟩
  | 48 => ⟨S2x4x64x64, .f32⟩
  | 49 => ⟨S2x4x64x64, .f32⟩
  | 50 => ⟨S1x2x4x64x64, .f32⟩
  | 51 => ⟨S1x2x4x64x64, .f32⟩
  | 52 => ⟨S1x2x4x64x64, .f32⟩
  | 53 => ⟨S1x2x4x64x64, .f32⟩
  | 54 => ⟨S1x2x4x64x64, .f32⟩
  | 55 => ⟨S1x2x4x64x64, .f32⟩
  | 56 => ⟨S1x2x4x64x64, .f32⟩
  | 57 => ⟨S1x2x4x64x64, .f32⟩
  | 58 => ⟨S1x2x4x64x64, .f32⟩
  | 59 => ⟨S1x2x4x64x64, .f32⟩
  | 60 => ⟨S1x2x4x64x64, .f32⟩
  | 61 => ⟨S1x2x4x64x64, .f32⟩
  | 62 => ⟨S1x2x4x64x64, .f32⟩
  | 63 => ⟨S1x2x4x64x64, .f32⟩
  | 64 => ⟨S1x2x4x64x64, .f32⟩
  | 65 => ⟨S1x2x4x64x64, .f32⟩
  | 66 => ⟨S1x2x4x64x64, .f32⟩
  | 67 => ⟨S1x2x4x64x64, .f32⟩
  | 68 => ⟨S1x2x4x64x64, .f32⟩
  | 69 => ⟨S1x2x4x64x64, .f32⟩
  | 70 => ⟨S1x2x4x64x64, .f32⟩
  | 71 => ⟨S1x2x4x64x64, .f32⟩
  | 72 => ⟨S1x2x4x64x64, .f32⟩
  | 73 => ⟨S1x2x4x64x64, .f32⟩
  | 74 => ⟨S1x2x4x64x64, .f32⟩
  | 75 => ⟨S1x2x4x64x64, .f32⟩
  | 76 => ⟨S1x2x4x64x64, .f32⟩
  | 77 => ⟨S1x2x4x64x64, .f32⟩
  | 78 => ⟨S1x2x4x64x64, .f32⟩
  | 79 => ⟨S1x2x4x64x64, .f32⟩
  | 80 => ⟨S1x2x4x64x64, .f32⟩
  | 81 => ⟨S1x2x4x64x64, .f32⟩
  | 82 => ⟨S16x2x4x64x64, .f32⟩
  | 83 => ⟨S16x2x4x64x64, .f32⟩
  | 84 => ⟨S32x2x4x64x64, .f32⟩
  | 85 => ⟨S32x2x4x64x1x64, .f32⟩
  | 86 => ⟨S32x2x4x1x64x64, .f32⟩
  | 87 => ⟨S32x2x4x64x64x64, .f32⟩
  | 88 => ⟨S32x2x4x64x64x64, .f32⟩
  | 89 => ⟨S32x2x4x64x64x64, .f32⟩
  | 90 => ⟨S_, .f32⟩
  | 91 => ⟨S_, .f32⟩
  | 92 => ⟨S32x2x4x64x64x64, .i1⟩
  | 93 => ⟨S32x2x4x64x64x64, .f32⟩
  | 94 => ⟨S32x2x4x64x64x64, .f32⟩
  | 95 => ⟨S32x2x4x64x64x64, .f32⟩
  | 96 => ⟨S64x64x1, .f32⟩
  | 97 => ⟨S1x1x1x64x64x1, .f32⟩
  | 98 => ⟨S32x2x4x64x64x64, .f32⟩
  | 99 => ⟨S32x2x4x64x64x64, .f32⟩
  | 100 => ⟨S32x2x4x64x1x64, .f32⟩
  | 101 => ⟨S32x2x4x1x64x64, .f32⟩
  | 102 => ⟨S32x2x4x64x64x64, .f32⟩
  | 103 => ⟨S32x2x4x64x64x64, .f32⟩
  | 104 => ⟨S32x2x4x64x64x64, .f32⟩
  | 105 => ⟨S32x2x4x64x64x64, .f32⟩
  | 106 => ⟨S_, .f32⟩
  | 107 => ⟨S32x2x4x64x64, .f32⟩
  | 108 => ⟨S32x2x4x64x64, .f32⟩
  | 109 => ⟨S32x2x4x64x64, .f32⟩
  | 110 => ⟨S32x2x4x64x64, .f32⟩
  | 111 => ⟨S32x2x4x64x64, .f32⟩
  | 112 => ⟨S32x2x4x64x64, .f32⟩
  | 113 => ⟨S2x32x64x4x64, .f32⟩
  | 114 => ⟨S2x2048x4x64, .f32⟩
  | 115 => ⟨S4, .i32⟩
  | 116 => ⟨S4x1x1x1, .i32⟩
  | 117 => ⟨S4, .i32⟩
  | 118 => ⟨S1x1x4x1, .i32⟩
  | 119 => ⟨S4x1x4x1, .i32⟩
  | 120 => ⟨S4x1x4x1, .i32⟩
  | 121 => ⟨S4x1x4x1, .i1⟩
  | 122 => ⟨S2x32x4x64x64, .f32⟩
  | 123 => ⟨S2x32x4x64x1x64, .f32⟩
  | 124 => ⟨S_, .f32⟩
  | 125 => ⟨S_, .f32⟩
  | 126 => ⟨S2x32x4x64x4x64, .i1⟩
  | 127 => ⟨S2x32x4x64x4x64, .f32⟩
  | _ => ⟨S2x2048x256, .f32⟩

abbrev hbmTy0_3 (i : Nat) : BufTy := match i % 128 with
  | 0 => ⟨S2x32x4x64x4x64, .f32⟩
  | 1 => ⟨S2x32x4x64x4x64, .f32⟩
  | 2 => ⟨S64x256x256, .f32⟩
  | 3 => ⟨S4096x256, .f32⟩
  | 4 => ⟨S4096x256, .f32⟩
  | 5 => ⟨S4096x256, .f32⟩
  | 6 => ⟨S4096x256, .f32⟩
  | 7 => ⟨S_, .f32⟩
  | 8 => ⟨S4096x2560, .f32⟩
  | 9 => ⟨S4096x3584, .f32⟩
  | 10 => ⟨S4096x256, .f32⟩
  | 11 => ⟨S_, .f32⟩
  | 12 => ⟨S4096x256, .f32⟩
  | 13 => ⟨S4096x512, .f32⟩
  | 14 => ⟨S4096x256, .f32⟩
  | 15 => ⟨S1x256, .f32⟩
  | 16 => ⟨S1x256, .f32⟩
  | 17 => ⟨S256x256, .i32⟩
  | 18 => ⟨S_, .i32⟩
  | 19 => ⟨S_, .i32⟩
  | 20 => ⟨S256x256, .i32⟩
  | 21 => ⟨S256x256, .i32⟩
  | 22 => ⟨S256x256, .i32⟩
  | 23 => ⟨S_, .i32⟩
  | 24 => ⟨S256x256, .i32⟩
  | 25 => ⟨S256x256, .i1⟩
  | 26 => ⟨S256x256, .i32⟩
  | 27 => ⟨S256x256, .i32⟩
  | 28 => ⟨S_, .i32⟩
  | 29 => ⟨S256x256, .i32⟩
  | 30 => ⟨S256x256, .i1⟩
  | 31 => ⟨S256x256, .i1⟩
  | 32 => ⟨S_, .i32⟩
  | 33 => ⟨S256x256, .i32⟩
  | 34 => ⟨S256x256, .i32⟩
  | 35 => ⟨S256x256, .i32⟩
  | 36 => ⟨S256x256, .i32⟩
  | 37 => ⟨S_, .i32⟩
  | 38 => ⟨S_, .i32⟩
  | 39 => ⟨S256x256, .i32⟩
  | 40 => ⟨S256x256, .i32⟩
  | 41 => ⟨S256x256, .i32⟩
  | 42 => ⟨S_, .i32⟩
  | 43 => ⟨S256x256, .i32⟩
  | 44 => ⟨S256x256, .i1⟩
  | 45 => ⟨S256x256, .i32⟩
  | 46 => ⟨S256x256, .i32⟩
  | 47 => ⟨S_, .i32⟩
  | 48 => ⟨S256x256, .i32⟩
  | 49 => ⟨S256x256, .i1⟩
  | 50 => ⟨S256x256, .i1⟩
  | 51 => ⟨S_, .i32⟩
  | 52 => ⟨S256x256, .i32⟩
  | 53 => ⟨S256x256, .i32⟩
  | 54 => ⟨S256x256, .i32⟩
  | 55 => ⟨S256x256, .i1⟩
  | 56 => ⟨S256x256, .bf16⟩
  | 57 => ⟨S2x2048x3584, .f32⟩
  | 58 => ⟨S2x2048x512, .f32⟩
  | 59 => ⟨S2x2048x256, .f32⟩
  | 60 => ⟨S2x32x256x256, .f32⟩
  | 61 => ⟨S2x2048x1024, .bf16⟩
  | 62 => ⟨S1x256, .f32⟩
  | 63 => ⟨S1x256, .f32⟩
  | _ => ⟨S2x2048x256, .f32⟩

abbrev hbmTy (i : Nat) : BufTy := match i / 128 with
  | 0 => hbmTy0_0 i
  | 1 => hbmTy0_1 i
  | 2 => hbmTy0_2 i
  | 3 => hbmTy0_3 i
  | _ => ⟨S2x2048x256, .f32⟩

abbrev bufTy : (tb : Table) → Fin (tcTables nBuf tb) → BufTy
  | .hbm, ⟨i, _⟩ => hbmTy i
  | .local _ .vmem, ⟨0, _⟩ => ⟨S2x256x256, .f32⟩
  | .local _ .vmem, ⟨1, _⟩ => ⟨S2x256x256, .f32⟩
  | .local _ .vmem, ⟨2, _⟩ => ⟨S2x256x256, .f32⟩
  | .local _ .vmem, ⟨3, _⟩ => ⟨S2x256x256, .f32⟩
  | .local _ .vmem, ⟨4, _⟩ => ⟨S2x256x256, .f32⟩
  | .local _ .vmem, ⟨5, _⟩ => ⟨S2x256x256, .f32⟩
  | .local _ .vmem, ⟨6, _⟩ => ⟨S2x256x256, .f32⟩
  | .local _ .vmem, ⟨7, _⟩ => ⟨S2x256x256, .f32⟩
  | .local _ .vmem, ⟨8, _⟩ => ⟨S2x256x256, .f32⟩
  | .local _ .vmem, ⟨9, _⟩ => ⟨S2x256x256, .f32⟩
  | .local _ .vmem, ⟨10, _⟩ => ⟨S2x256x256, .f32⟩
  | .local _ .vmem, ⟨11, _⟩ => ⟨S2x256x256, .f32⟩
  | .local _ .vmem, ⟨12, _⟩ => ⟨S2x4x256x256, .f32⟩
  | .local _ .vmem, ⟨13, _⟩ => ⟨S2x4x256x256, .f32⟩
  | .local _ .vmem, ⟨14, _⟩ => ⟨S1x256, .f32⟩
  | .local _ .vmem, ⟨15, _⟩ => ⟨S1x256, .f32⟩
  | .local _ .vmem, ⟨16, _⟩ => ⟨S256x256, .bf16⟩
  | .local _ .vmem, ⟨17, _⟩ => ⟨S2x256x1024, .bf16⟩
  | .local _ .vmem, ⟨18, _⟩ => ⟨S2x256x1024, .bf16⟩
  | .local _ .vmem, ⟨19, _⟩ => ⟨S1x256, .f32⟩
  | .local _ .vmem, ⟨20, _⟩ => ⟨S1x256, .f32⟩
  | .local _ .vmem, ⟨21, _⟩ => ⟨S2x256x256, .f32⟩
  | .local _ .vmem, ⟨22, _⟩ => ⟨S2x4x256x256, .f32⟩
  | .local _ .vmem, ⟨23, _⟩ => ⟨S2x256x256, .f32⟩
  | .local _ .vmem, ⟨24, _⟩ => ⟨S2x256x256, .f32⟩
  | .local _ .vmem, ⟨25, _⟩ => ⟨S2x256x256, .f32⟩
  | .local _ .vmem, ⟨26, _⟩ => ⟨S2x256x256, .f32⟩
  | .local _ .vmem, ⟨27, _⟩ => ⟨S2x256x256, .f32⟩
  | .local _ .vmem, ⟨28, _⟩ => ⟨S2x256x256, .f32⟩
  | .local _ .vmem, ⟨29, _⟩ => ⟨S2x256x256, .f32⟩
  | .local _ .vmem, ⟨30, _⟩ => ⟨S2x256x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call1_call0_cst : Ref sig .tc := ⟨.hbm, 67, rfl⟩
abbrev main_call1_call0_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev main_v305 : Ref sig .tc := ⟨.hbm, 330, rfl⟩
abbrev main_v306 : Ref sig .tc := ⟨.hbm, 331, rfl⟩
abbrev main_v307 : Ref sig .tc := ⟨.hbm, 332, rfl⟩
abbrev main_v308 : Ref sig .tc := ⟨.hbm, 333, rfl⟩
abbrev main_v309 : Ref sig .tc := ⟨.hbm, 334, rfl⟩
abbrev main_v310 : Ref sig .tc := ⟨.hbm, 335, rfl⟩
abbrev main_v311 : Ref sig .tc := ⟨.hbm, 336, rfl⟩
abbrev main_v312 : Ref sig .tc := ⟨.hbm, 337, rfl⟩
abbrev main_v313 : Ref sig .tc := ⟨.hbm, 338, rfl⟩
abbrev main_v314 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_cst_7 : Ref sig .tc := ⟨.hbm, 346, rfl⟩
abbrev main_call2_v0 : Ref sig .tc := ⟨.hbm, 347, rfl⟩
abbrev main_call2_v1 : Ref sig .tc := ⟨.hbm, 348, rfl⟩
abbrev main_call2_v2 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_v324 : Ref sig .tc := ⟨.hbm, 353, rfl⟩
abbrev main_v325 : Ref sig .tc := ⟨.hbm, 354, rfl⟩
abbrev main_v326 : Ref sig .tc := ⟨.hbm, 355, rfl⟩
abbrev main_v327 : Ref sig .tc := ⟨.hbm, 356, rfl⟩
abbrev main_v328 : Ref sig .tc := ⟨.hbm, 357, rfl⟩
abbrev main_v329 : Ref sig .tc := ⟨.hbm, 358, rfl⟩
abbrev main_v330 : Ref sig .tc := ⟨.hbm, 359, rfl⟩
abbrev main_v331 : Ref sig .tc := ⟨.hbm, 360, rfl⟩
abbrev main_v332 : Ref sig .tc := ⟨.hbm, 361, rfl⟩
abbrev main_cst_8 : Ref sig .tc := ⟨.hbm, 362, rfl⟩
abbrev main_v333 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_v340 : Ref sig .tc := ⟨.hbm, 370, rfl⟩
abbrev main_v341 : Ref sig .tc := ⟨.hbm, 371, rfl⟩
abbrev main_v342 : Ref sig .tc := ⟨.hbm, 372, rfl⟩
abbrev main_v343 : Ref sig .tc := ⟨.hbm, 373, rfl⟩
abbrev main_v344 : Ref sig .tc := ⟨.hbm, 374, rfl⟩
abbrev main_v345 : Ref sig .tc := ⟨.hbm, 375, rfl⟩
abbrev main_v346 : Ref sig .tc := ⟨.hbm, 376, rfl⟩
abbrev main_v347 : Ref sig .tc := ⟨.hbm, 377, rfl⟩
abbrev main_v348 : Ref sig .tc := ⟨.hbm, 378, rfl⟩
abbrev main_v349 : Ref sig .tc := ⟨.hbm, 379, rfl⟩
abbrev main_cst_9 : Ref sig .tc := ⟨.hbm, 380, rfl⟩
abbrev main_call3_v0 : Ref sig .tc := ⟨.hbm, 381, rfl⟩
abbrev main_call3_v1 : Ref sig .tc := ⟨.hbm, 382, rfl⟩
abbrev main_call3_v2 : Ref sig .tc := ⟨.hbm, 383, rfl⟩
abbrev main_call3_v3 : Ref sig .tc := ⟨.hbm, 384, rfl⟩
abbrev main_v350 : Ref sig .tc := ⟨.hbm, 385, rfl⟩
abbrev main_v351 : Ref sig .tc := ⟨.hbm, 386, rfl⟩
abbrev main_v352 : Ref sig .tc := ⟨.hbm, 387, rfl⟩
abbrev main_v353 : Ref sig .tc := ⟨.hbm, 388, rfl⟩
abbrev main_v354 : Ref sig .tc := ⟨.hbm, 389, rfl⟩
abbrev main_v355 : Ref sig .tc := ⟨.hbm, 390, rfl⟩
abbrev main_cst_10 : Ref sig .tc := ⟨.hbm, 391, rfl⟩
abbrev main_v356 : Ref sig .tc := ⟨.hbm, 392, rfl⟩
abbrev main_v357 : Ref sig .tc := ⟨.hbm, 393, rfl⟩
abbrev main_v358 : Ref sig .tc := ⟨.hbm, 394, rfl⟩
abbrev main_cst_11 : Ref sig .tc := ⟨.hbm, 395, rfl⟩
abbrev main_v359 : Ref sig .tc := ⟨.hbm, 396, rfl⟩
abbrev main_v360 : Ref sig .tc := ⟨.hbm, 397, rfl⟩
abbrev main_v361 : Ref sig .tc := ⟨.hbm, 398, rfl⟩
abbrev main_v362 : Ref sig .tc := ⟨.hbm, 399, rfl⟩
abbrev main_v363 : Ref sig .tc := ⟨.hbm, 400, rfl⟩
abbrev main_v364 : Ref sig .tc := ⟨.hbm, 401, rfl⟩
abbrev main_c : Ref sig .tc := ⟨.hbm, 402, rfl⟩
abbrev main_call4_v0 : Ref sig .tc := ⟨.hbm, 403, rfl⟩
abbrev main_call4_v1 : Ref sig .tc := ⟨.hbm, 404, rfl⟩
abbrev main_call4_v2 : Ref sig .tc := ⟨.hbm, 405, rfl⟩
abbrev main_call4_v3 : Ref sig .tc := ⟨.hbm, 406, rfl⟩
abbrev main_call4_v4 : Ref sig .tc := ⟨.hbm, 407, rfl⟩
abbrev main_call4_v5 : Ref sig .tc := ⟨.hbm, 408, rfl⟩
abbrev main_call4_v6 : Ref sig .tc := ⟨.hbm, 409, rfl⟩
abbrev main_call4_v7 : Ref sig .tc := ⟨.hbm, 410, rfl⟩
abbrev main_call4_v8 : Ref sig .tc := ⟨.hbm, 411, rfl⟩
abbrev main_call4_c : Ref sig .tc := ⟨.hbm, 412, rfl⟩
abbrev main_call4_v9 : Ref sig .tc := ⟨.hbm, 413, rfl⟩
abbrev main_call4_v10 : Ref sig .tc := ⟨.hbm, 414, rfl⟩
abbrev main_call4_v11 : Ref sig .tc := ⟨.hbm, 415, rfl⟩
abbrev main_call4_c_0 : Ref sig .tc := ⟨.hbm, 416, rfl⟩
abbrev main_call4_v12 : Ref sig .tc := ⟨.hbm, 417, rfl⟩
abbrev main_call4_v13 : Ref sig .tc := ⟨.hbm, 418, rfl⟩
abbrev main_v365 : Ref sig .tc := ⟨.hbm, 419, rfl⟩
abbrev main_v366 : Ref sig .tc := ⟨.hbm, 420, rfl⟩
abbrev main_c_12 : Ref sig .tc := ⟨.hbm, 421, rfl⟩
abbrev main_call5_v0 : Ref sig .tc := ⟨.hbm, 422, rfl⟩
abbrev main_call5_v1 : Ref sig .tc := ⟨.hbm, 423, rfl⟩
abbrev main_call5_v2 : Ref sig .tc := ⟨.hbm, 424, rfl⟩
abbrev main_call5_v3 : Ref sig .tc := ⟨.hbm, 425, rfl⟩
abbrev main_call5_v4 : Ref sig .tc := ⟨.hbm, 426, rfl⟩
abbrev main_call5_v5 : Ref sig .tc := ⟨.hbm, 427, rfl⟩
abbrev main_call5_v6 : Ref sig .tc := ⟨.hbm, 428, rfl⟩
abbrev main_call5_v7 : Ref sig .tc := ⟨.hbm, 429, rfl⟩
abbrev main_call5_v8 : Ref sig .tc := ⟨.hbm, 430, rfl⟩
abbrev main_call5_c : Ref sig .tc := ⟨.hbm, 431, rfl⟩
abbrev main_call5_v9 : Ref sig .tc := ⟨.hbm, 432, rfl⟩
abbrev main_call5_v10 : Ref sig .tc := ⟨.hbm, 433, rfl⟩
abbrev main_call5_v11 : Ref sig .tc := ⟨.hbm, 434, rfl⟩
abbrev main_call5_c_0 : Ref sig .tc := ⟨.hbm, 435, rfl⟩
abbrev main_call5_v12 : Ref sig .tc := ⟨.hbm, 436, rfl⟩
abbrev main_call5_v13 : Ref sig .tc := ⟨.hbm, 437, rfl⟩
abbrev main_v367 : Ref sig .tc := ⟨.hbm, 438, rfl⟩
abbrev main_v368 : Ref sig .tc := ⟨.hbm, 439, rfl⟩
abbrev main_v369 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_v373 : Ref sig .tc := ⟨.hbm, 444, rfl⟩
abbrev main_v374_0 : Ref sig .tc := ⟨.hbm, 445, rfl⟩
abbrev main_v374_1 : Ref sig .tc := ⟨.hbm, 446, rfl⟩
abbrev main_v374_2 : Ref sig .tc := ⟨.hbm, 447, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_166 : BitVec 32 := 0#32
  let c4_i32 : BitVec 32 := 4#32
  let v429 : BitVec 32 := Scalar.addi c0_i32_166 c4_i32
  let c1_i32_167 : BitVec 32 := 1#32
  ⟨c0_i32_166, v429, c1_i32_167⟩
def k0_mult1 (k0_t1 : Fin k0_t1_loop.trips) : BitVec 32 :=
  let c3_i32 : BitVec 32 := 3#32
  let c0_i32_166 : BitVec 32 := 0#32
  let c1_i32_167 : BitVec 32 := 1#32
  let arg24 : BitVec 32 := Scf.iv c0_i32_166 c1_i32_167 k0_t1
  let v668 : BitVec 32 := Scalar.subi c3_i32 arg24
  let c64_i32_265 : BitVec 32 := 64#32
  let v669 : BitVec 32 := Scalar.muli v668 c64_i32_265
  v669
def k0_off1 (k0_t1 : Fin k0_t1_loop.trips) (c0_i32_266 : BitVec 32) : Fin 3 → Nat :=
  let c0_267 : Index := 0#32
  let c3_i32 : BitVec 32 := 3#32
  let c0_i32_166 : BitVec 32 := 0#32
  let c1_i32_167 : BitVec 32 := 1#32
  let arg24 : BitVec 32 := Scf.iv c0_i32_166 c1_i32_167 k0_t1
  let v668 : BitVec 32 := Scalar.subi c3_i32 arg24
  let c64_i32_265 : BitVec 32 := 64#32
  let v669 : BitVec 32 := Scalar.muli v668 c64_i32_265
  let v670 : BitVec 32 := v669
  let v671 : BitVec 32 := Scalar.addi v670 c0_i32_266
  let v672 : Index := Scalar.indexCast v671
  let c0_268 : Index := 0#32
  ![0, v672.toNat, 0]
def k0_off2 (k0_t1 : Fin k0_t1_loop.trips) (c0_i32_324 : BitVec 32) : Fin 3 → Nat :=
  let c1_325 : Index := 1#32
  let c3_i32 : BitVec 32 := 3#32
  let c0_i32_166 : BitVec 32 := 0#32
  let c1_i32_167 : BitVec 32 := 1#32
  let arg24 : BitVec 32 := Scf.iv c0_i32_166 c1_i32_167 k0_t1
  let v668 : BitVec 32 := Scalar.subi c3_i32 arg24
  let c64_i32_265 : BitVec 32 := 64#32
  let v669 : BitVec 32 := Scalar.muli v668 c64_i32_265
  let v670 : BitVec 32 := v669
  let v751 : BitVec 32 := Scalar.addi v670 c0_i32_324
  let v752 : Index := Scalar.indexCast v751
  let c0_326 : Index := 0#32
  ![1, v752.toNat, 0]
def k0_off3 (k0_t1 : Fin k0_t1_loop.trips) : Fin 4 → Nat :=
  let c0_384 : Index := 0#32
  let c3_i32 : BitVec 32 := 3#32
  let c0_i32_166 : BitVec 32 := 0#32
  let c1_i32_167 : BitVec 32 := 1#32
  let arg24 : BitVec 32 := Scf.iv c0_i32_166 c1_i32_167 k0_t1
  let v668 : BitVec 32 := Scalar.subi c3_i32 arg24
  let v831 : Index := Scalar.indexCast v668
  let c0_385 : Index := 0#32
  let c0_386 : Index := 0#32
  ![0, v831.toNat, 0, 0]
def k0_off4 (k0_t1 : Fin k0_t1_loop.trips) : Fin 4 → Nat :=
  let c1_387 : Index := 1#32
  let c3_i32 : BitVec 32 := 3#32
  let c0_i32_166 : BitVec 32 := 0#32
  let c1_i32_167 : BitVec 32 := 1#32
  let arg24 : BitVec 32 := Scf.iv c0_i32_166 c1_i32_167 k0_t1
  let v668 : BitVec 32 := Scalar.subi c3_i32 arg24
  let v834 : Index := Scalar.indexCast v668
  let c0_388 : Index := 0#32
  let c0_389 : Index := 0#32
  ![1, v834.toNat, 0, 0]
def k0_off5 (k0_t1 : Fin k0_t1_loop.trips) (c48_i32_480 : BitVec 32) (c0_i32_482 : BitVec 32) : Fin 3 → Nat :=
  let c0_483 : Index := 0#32
  let c3_i32 : BitVec 32 := 3#32
  let c0_i32_166 : BitVec 32 := 0#32
  let c1_i32_167 : BitVec 32 := 1#32
  let arg24 : BitVec 32 := Scf.iv c0_i32_166 c1_i32_167 k0_t1
  let v668 : BitVec 32 := Scalar.subi c3_i32 arg24
  let c64_i32_265 : BitVec 32 := 64#32
  let v669 : BitVec 32 := Scalar.muli v668 c64_i32_265
  let v670 : BitVec 32 := v669
  let v1288 : BitVec 32 := Scalar.addi v670 c48_i32_480
  let v1301 : BitVec 32 := Scalar.addi v1288 c0_i32_482
  let v1302 : Index := Scalar.indexCast v1301
  let c0_484 : Index := 0#32
  ![0, v1302.toNat, 0]
def k0_off6 (k0_t1 : Fin k0_t1_loop.trips) (c48_i32_614 : BitVec 32) (c0_i32_616 : BitVec 32) : Fin 3 → Nat :=
  let c1_617 : Index := 1#32
  let c3_i32 : BitVec 32 := 3#32
  let c0_i32_166 : BitVec 32 := 0#32
  let c1_i32_167 : BitVec 32 := 1#32
  let arg24 : BitVec 32 := Scf.iv c0_i32_166 c1_i32_167 k0_t1
  let v668 : BitVec 32 := Scalar.subi c3_i32 arg24
  let c64_i32_265 : BitVec 32 := 64#32
  let v669 : BitVec 32 := Scalar.muli v668 c64_i32_265
  let v670 : BitVec 32 := v669
  let v2089 : BitVec 32 := Scalar.addi v670 c48_i32_614
  let v2102 : BitVec 32 := Scalar.addi v2089 c0_i32_616
  let v2103 : Index := Scalar.indexCast v2102
  let c0_618 : Index := 0#32
  ![1, v2103.toNat, 0]
def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c1_i32 : BitVec 32 := 1#32
  let c0_i32_0 : BitVec 32 := 0#32
  ![c0_i32.toNat, v0.toNat, c1_i32.toNat]

def cc0_transform_3 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c2_i32 : BitVec 32 := 2#32
  let c0_i32_0 : BitVec 32 := 0#32
  ![c0_i32.toNat, v0.toNat, c2_i32.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c3_i32 : BitVec 32 := 3#32
  let c0_i32_0 : BitVec 32 := 0#32
  ![c0_i32.toNat, v0.toNat, c3_i32.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Proof.Lib.lean ====
/- Shared facts about extended reals: finite arguments, and the running sum along an axis. -/
module

public import Idealize.ShloMosaic.Lib.Pointwise
public import Idealize.ShloMosaic.Lib.ReduceAll
public import Idealize.ShloMosaic.Lib.IdealHost

@[expose] public section

set_option maxRecDepth 16384

noncomputable section

namespace Cert.Fin

open Idealize.ShloMosaic

/-- The pattern of positive infinity. -/
theorem ofBits_inf : Ideal.ofBits .f32 0x7F800000#32 = ⊤ := by simp [Ideal.ofBits, Ideal.ieee]

/-- The pattern of negative infinity. -/
theorem ofBits_ninf : Ideal.ofBits .f32 0xFF800000#32 = ⊥ := by simp [Ideal.ofBits, Ideal.ieee]

/-- A comparison of the absolute value with infinity that holds gives a real number. -/
theorem real_of_abs_lt {s : Shape} (x : FVec Ideal s .f32) (h : (⟨0, ![]⟩ : Shape).BroadcastsInDim s (![] : Fin 0 → Fin s.rank)) (i : s.Idx)
    (e : cmpf .olt (Host.absf x) (broadcastInDim s ![] h (constant (⟨0, ![]⟩ : Shape) .f32 0x7F800000#32)) i = 1#1) : ∃ r : ℝ, x i = (r : EReal) := by
  have e' : BitVec.ofBool (decide (max (x i) (-(x i)) < (Ideal.ofBits .f32 0x7F800000#32 : EReal))) = 1#1 := e
  rw [ofBits_inf] at e'
  generalize x i = a at e'
  induction a using EReal.rec with
  | bot => exact absurd e' (by simp)
  | top => exact absurd e' (by simp)
  | coe r => exact ⟨r, rfl⟩

theorem reduceWindowAdd_apply {s t u : Shape} (window strides lo hi : Fin s.rank → Nat) (x : FVec Ideal s .f32) (init : u.Idx → EReal)
   (h : s.ReduceWindows window strides lo hi t) (hu : 0 < u.numel) (hi0 : init (Shape.Idx.first hu) = 0) (j : t.Idx) :
   Host.reduceWindowAdd (F := Ideal) window strides lo hi x init h hu j = ∑ w : (⟨s.rank, window⟩ : Shape).Idx,
      (if hin : ∀ a, lo a ≤ (j (a.cast h.1.symm)).val * strides a + (w a).val ∧ (j (a.cast h.1.symm)).val * strides a + (w a).val - lo a < s.size a then
        x (fun a => ⟨(j (a.cast h.1.symm)).val * strides a + (w a).val - lo a, (hin a).2⟩) else 0) := by
  have fold : ∀ (N : Nat) (g : Fin N → EReal), (List.finRange N).foldl (fun r n => r + g n) (0 : EReal) = ∑ n, g n := fun N g => by
    rw [Fin.sum_univ_def]
    generalize List.finRange N = l
    have h0 : ∀ (l : List (Fin N)) (a : EReal), l.foldl (fun r n => r + g n) a = a + (l.map g).sum := fun l => by
      induction l with
      | nil => intro a; simp
      | cons n l ih => intro a; rw [List.foldl_cons, ih, List.map_cons, List.sum_cons, add_assoc]
    rw [h0, zero_add]
  show Ideal.hostReduceWindowAdd window strides lo hi h x (init (Shape.Idx.first hu)) j = _
  rw [hi0]
  unfold Ideal.hostReduceWindowAdd Host.reduceWindow
  refine (fold _ _).trans ((Finset.sum_congr rfl fun n _ => ?_).trans ((⟨s.rank, window⟩ : Shape).rowMajor.symm.sum_comp (fun w : (⟨s.rank, window⟩ : Shape).Idx =>
      (if hin : ∀ a, lo a ≤ (j (a.cast h.1.symm)).val * strides a + (w a).val ∧ (j (a.cast h.1.symm)).val * strides a + (w a).val - lo a < s.size a then
        x (fun a => ⟨(j (a.cast h.1.symm)).val * strides a + (w a).val - lo a, (hin a).2⟩) else 0))))
  exact dite_congr rfl (fun _ => rfl) (fun _ => rfl)

/-- A sum whose terms are moved down by `N - 1 - j`. -/
theorem sum_low {N : ℕ} (j : Fin N) (f : ℕ → EReal) :
    (∑ w : Fin N, if N - 1 ≤ j.val + w.val then f (j.val + w.val - (N - 1)) else 0) = ∑ k : Fin N, if k ≤ j then f k.val else 0 := by
  have hj := j.isLt
  have e : ∀ k : Fin N, (if k ≤ j then f k.val else 0) = (fun n : ℕ => if n ≤ j.val then f n else 0) k.val := fun k => rfl
  rw [Finset.sum_congr rfl fun k _ => e k, Fin.sum_univ_eq_sum_range (fun n : ℕ => if n ≤ j.val then f n else 0) N,
    Fin.sum_univ_eq_sum_range (fun w : ℕ => if N - 1 ≤ j.val + w then f (j.val + w - (N - 1)) else 0) N, ← Finset.sum_filter, ← Finset.sum_filter]
  refine Finset.sum_nbij' (fun w => j.val + w - (N - 1)) (fun k => k + (N - 1) - j.val) ?_ ?_ ?_ ?_ (fun _ _ => rfl)
  all_goals (intro a ha; simp only [Finset.mem_filter, Finset.mem_range] at ha ⊢; omega)

/-- A sum whose terms are moved up by `j`. -/
theorem sum_high {N : ℕ} (j : Fin N) (f : ℕ → EReal) :
    (∑ w : Fin N, if j.val + w.val < N then f (j.val + w.val) else 0) = ∑ k : Fin N, if j ≤ k then f k.val else 0 := by
  have hj := j.isLt
  have e : ∀ k : Fin N, (if j ≤ k then f k.val else 0) = (fun n : ℕ => if j.val ≤ n then f n else 0) k.val := fun k => rfl
  rw [Finset.sum_congr rfl fun k _ => e k, Fin.sum_univ_eq_sum_range (fun n : ℕ => if j.val ≤ n then f n else 0) N,
    Fin.sum_univ_eq_sum_range (fun w : ℕ => if j.val + w < N then f (j.val + w) else 0) N, ← Finset.sum_filter, ← Finset.sum_filter]
  refine Finset.sum_nbij' (fun w => j.val + w) (fun k => k - j.val) ?_ ?_ ?_ ?_ (fun _ _ => rfl)
  all_goals (intro a ha; simp only [Finset.mem_filter, Finset.mem_range] at ha ⊢; omega)

/-- The running sum down the rows of a matrix. -/
theorem cumsum2 {N M C : ℕ} (hM : M + 1 = N) (x : FVec Ideal (⟨2, ![N, C]⟩ : Shape) .f32) {u : Shape} (init : u.Idx → EReal)
    (h : (⟨2, ![N, C]⟩ : Shape).ReduceWindows (![N, 1] : Fin 2 → Nat) ![1, 1] ![M, 0] ![0, 0] (⟨2, ![N, C]⟩ : Shape))
    (hu : 0 < u.numel) (hi0 : init (Shape.Idx.first hu) = 0) (j : Fin N) (c : Fin C) :
    Host.reduceWindowAdd (F := Ideal) ![N, 1] ![1, 1] ![M, 0] ![0, 0] x init h hu (ix2 j c) = ∑ k : Fin N, if k ≤ j then x (ix2 k c) else 0 := by
  subst hM
  rw [reduceWindowAdd_apply _ _ _ _ _ _ _ _ hi0]
  refine (sum_idx2 _).trans ?_
  let f : ℕ → EReal := fun n => if h : n < M + 1 then x (ix2 ⟨n, h⟩ c) else 0
  refine Eq.trans (Finset.sum_congr rfl fun w _ => ?_) ((sum_low j f).trans (Finset.sum_congr rfl fun k _ => ?_))
  · rw [Fin.sum_univ_one]
    have hw := w.isLt
    have hj := j.isLt
    by_cases q : M ≤ j.val + w.val
    · rw [dif_pos (fun a => by
        match a with
        | ⟨0, _⟩ => exact ⟨by show M ≤ j.val * 1 + w.val; omega, by show j.val * 1 + w.val - M < M + 1; omega⟩
        | ⟨1, _⟩ => exact ⟨Nat.zero_le _, by show c.val * 1 + 0 - 0 < C; have := c.isLt; omega⟩), if_pos (by omega)]
      have hf : f (j.val + w.val - (M + 1 - 1)) = x (ix2 ⟨j.val + w.val - M, by omega⟩ c) := dif_pos (by omega)
      rw [hf]
      refine congrArg x (funext fun a => Fin.ext ?_)
      match a with
      | ⟨0, _⟩ => show j.val * 1 + w.val - M = j.val + w.val - M; rw [Nat.mul_one]
      | ⟨1, _⟩ => show c.val * 1 + 0 - 0 = c.val; omega
    · rw [dif_neg (fun hin => q (by have h0 : M ≤ j.val * 1 + w.val := (hin 0).1; omega)), if_neg (by omega)]
  · rw [show f k.val = x (ix2 k c) from dif_pos k.isLt]

/-- The running sum up the rows of a matrix. -/
theorem cumsum2_rev {N M C : ℕ} (hM : M + 1 = N) (x : FVec Ideal (⟨2, ![N, C]⟩ : Shape) .f32) {u : Shape} (init : u.Idx → EReal)
    (h : (⟨2, ![N, C]⟩ : Shape).ReduceWindows (![N, 1] : Fin 2 → Nat) ![1, 1] ![0, 0] ![M, 0] (⟨2, ![N, C]⟩ : Shape))
    (hu : 0 < u.numel) (hi0 : init (Shape.Idx.first hu) = 0) (j : Fin N) (c : Fin C) :
    Host.reduceWindowAdd (F := Ideal) ![N, 1] ![1, 1] ![0, 0] ![M, 0] x init h hu (ix2 j c) = ∑ k : Fin N, if j ≤ k then x (ix2 k c) else 0 := by
  rw [reduceWindowAdd_apply _ _ _ _ _ _ _ _ hi0]
  refine (sum_idx2 _).trans ?_
  let f : ℕ → EReal := fun n => if h : n < N then x (ix2 ⟨n, h⟩ c) else 0
  refine Eq.trans (Finset.sum_congr rfl fun w _ => ?_) ((sum_high j f).trans (Finset.sum_congr rfl fun k _ => ?_))
  · rw [Fin.sum_univ_one]
    have hw := w.isLt
    have hj := j.isLt
    by_cases q : j.val + w.val < N
    · rw [dif_pos (fun a => by
        match a with
        | ⟨0, _⟩ => exact ⟨Nat.zero_le _, by show j.val * 1 + w.val - 0 < N; omega⟩
        | ⟨1, _⟩ => exact ⟨Nat.zero_le _, by show c.val * 1 + 0 - 0 < C; have := c.isLt; omega⟩), if_pos q]
      have hf : f (j.val + w.val) = x (ix2 ⟨j.val + w.val, q⟩ c) := dif_pos q
      rw [hf]
      refine congrArg x (funext fun a => Fin.ext ?_)
      match a with
      | ⟨0, _⟩ => show j.val * 1 + w.val - 0 = j.val + w.val; omega
      | ⟨1, _⟩ => show c.val * 1 + 0 - 0 = c.val; omega
    · rw [dif_neg (fun hin => q (by have h0 : j.val * 1 + w.val - 0 < N := (hin 0).2; omega)), if_neg q]
  · rw [show f k.val = x (ix2 k c) from dif_pos k.isLt]

/-- The running sum up the middle axis of an array of three axes. -/
theorem cumsum3_rev {A N M C : ℕ} (hM : M + 1 = N) (x : FVec Ideal (⟨3, ![A, N, C]⟩ : Shape) .f32) {u : Shape} (init : u.Idx → EReal)
    (h : (⟨3, ![A, N, C]⟩ : Shape).ReduceWindows (![1, N, 1] : Fin 3 → Nat) ![1, 1, 1] ![0, 0, 0] ![0, M, 0] (⟨3, ![A, N, C]⟩ : Shape))
    (hu : 0 < u.numel) (hi0 : init (Shape.Idx.first hu) = 0) (a : Fin A) (j : Fin N) (c : Fin C) :
    Host.reduceWindowAdd (F := Ideal) ![1, N, 1] ![1, 1, 1] ![0, 0, 0] ![0, M, 0] x init h hu (ix3 a j c) = ∑ k : Fin N, if j ≤ k then x (ix3 a k c) else 0 := by
  rw [reduceWindowAdd_apply _ _ _ _ _ _ _ _ hi0]
  refine (sum_idx3 _).trans ((Fin.sum_univ_one _).trans ?_)
  let f : ℕ → EReal := fun n => if h : n < N then x (ix3 a ⟨n, h⟩ c) else 0
  refine Eq.trans (Finset.sum_congr rfl fun w _ => ?_) ((sum_high j f).trans (Finset.sum_congr rfl fun k _ => ?_))
  · rw [Fin.sum_univ_one]
    have ha := a.isLt
    have hc := c.isLt
    by_cases q : j.val + w.val < N
    · rw [dif_pos (fun b => by
        match b with
        | ⟨0, _⟩ => exact ⟨Nat.zero_le _, by show a.val * 1 + 0 - 0 < A; omega⟩
        | ⟨1, _⟩ => exact ⟨Nat.zero_le _, by show j.val * 1 + w.val - 0 < N; omega⟩
        | ⟨2, _⟩ => exact ⟨Nat.zero_le _, by show c.val * 1 + 0 - 0 < C; omega⟩), if_pos q]
      have hf : f (j.val + w.val) = x (ix3 a ⟨j.val + w.val, q⟩ c) := dif_pos q
      rw [hf]
      refine congrArg x (funext fun b => Fin.ext ?_)
      match b with
      | ⟨0, _⟩ => show a.val * 1 + 0 - 0 = a.val; omega
      | ⟨1, _⟩ => show j.val * 1 + w.val - 0 = j.val + w.val; omega
      | ⟨2, _⟩ => show c.val * 1 + 0 - 0 = c.val; omega
    · rw [dif_neg (fun hin => q (by have h0 : j.val * 1 + w.val - 0 < N := (hin 1).2; omega)), if_neg q]
  · rw [show f k.val = x (ix3 a k c) from dif_pos k.isLt]

/-- A row of an array of three axes, its first two axes read as one. -/
def flat3 {A B C : ℕ} {φ : FTy} (x : FVec Ideal (⟨3, ![A, B, C]⟩ : Shape) φ) (i e : ℕ) : EReal :=
  if h : i / B < A ∧ i % B < B ∧ e < C then x (ix3 (⟨i / B, h.1⟩ : Fin A) (⟨i % B, h.2.1⟩ : Fin B) (⟨e, h.2.2⟩ : Fin C)) else 0

theorem flat3_eq {A B C : ℕ} {φ : FTy} (x : FVec Ideal (⟨3, ![A, B, C]⟩ : Shape) φ) (i e : ℕ) (h0 : i / B < A) (h1 : i % B < B) (h2 : e < C) :
    x (ix3 (⟨i / B, h0⟩ : Fin A) (⟨i % B, h1⟩ : Fin B) (⟨e, h2⟩ : Fin C)) = flat3 x i e :=
  by unfold flat3; rw [dif_pos ⟨h0, h1, h2⟩]

/-- An entry of a matrix at two numbers. -/
def flat2 {A B : ℕ} {φ : FTy} (x : FVec Ideal (⟨2, ![A, B]⟩ : Shape) φ) (i e : ℕ) : EReal :=
  if h : i < A ∧ e < B then x (ix2 (⟨i, h.1⟩ : Fin A) (⟨e, h.2⟩ : Fin B)) else 0

theorem flat2_eq {A B : ℕ} {φ : FTy} (x : FVec Ideal (⟨2, ![A, B]⟩ : Shape) φ) (i e : ℕ) (h0 : i < A) (h1 : e < B) :
    x (ix2 (⟨i, h0⟩ : Fin A) (⟨e, h1⟩ : Fin B)) = flat2 x i e :=
  by unfold flat2; rw [dif_pos ⟨h0, h1⟩]

/-- An entry of a vector at a number. -/
def flat1 {A : ℕ} {φ : FTy} (x : FVec Ideal (⟨1, ![A]⟩ : Shape) φ) (i : ℕ) : EReal :=
  if h : i < A then x (ix1 (⟨i, h⟩ : Fin A)) else 0

theorem flat1_fin {A : ℕ} {φ : FTy} (x : FVec Ideal (⟨1, ![A]⟩ : Shape) φ) (i : Fin A) : x (ix1 i) = flat1 x i.val := by
  unfold flat1
  rw [dif_pos i.isLt]

theorem flat1_real {A : ℕ} {φ : FTy} (x : FVec Ideal (⟨1, ![A]⟩ : Shape) φ) (h : ∀ i, ∃ r : ℝ, x i = (r : EReal)) :
    ∃ X : ℕ → ℝ, ∀ i, flat1 x i = (X i : EReal) := by
  have : ∀ i, ∃ r : ℝ, flat1 x i = (r : EReal) := fun i => by
    unfold flat1
    split
    · exact h _
    · exact ⟨0, rfl⟩
  exact ⟨fun i => (this i).choose, fun i => (this i).choose_spec⟩

/-- An array of real numbers is a real function. -/
theorem exists_real {s : Shape} {φ : FTy} (x : FVec Ideal s φ) (h : ∀ i, ∃ r : ℝ, x i = (r : EReal)) : ∃ X : s.Idx → ℝ, x = fun i => (X i : EReal) :=
  ⟨fun i => (h i).choose, funext fun i => (h i).choose_spec⟩

/-- A finite sum of real numbers. -/
theorem coe_sum {ι : Type} [Fintype ι] (f : ι → ℝ) : (∑ i, (f i : EReal)) = ((∑ i, f i : ℝ) : EReal) := by
  classical
  generalize (Finset.univ : Finset ι) = s
  induction s using Finset.induction_on with
  | empty => simp
  | insert a s ha ih => rw [Finset.sum_insert ha, Finset.sum_insert ha, ih, EReal.coe_add]

theorem flat3_real {A B C : ℕ} {φ : FTy} (x : FVec Ideal (⟨3, ![A, B, C]⟩ : Shape) φ) (h : ∀ i, ∃ r : ℝ, x i = (r : EReal)) :
    ∃ X : ℕ → ℕ → ℝ, ∀ i e, flat3 x i e = (X i e : EReal) := by
  have : ∀ i e, ∃ r : ℝ, flat3 x i e = (r : EReal) := fun i e => by
    unfold flat3
    split
    · exact h _
    · exact ⟨0, rfl⟩
  exact ⟨fun i e => (this i e).choose, fun i e => (this i e).choose_spec⟩

theorem flat2_real {A B : ℕ} {φ : FTy} (x : FVec Ideal (⟨2, ![A, B]⟩ : Shape) φ) (h : ∀ i, ∃ r : ℝ, x i = (r : EReal)) :
    ∃ X : ℕ → ℕ → ℝ, ∀ i e, flat2 x i e = (X i e : EReal) := by
  have : ∀ i e, ∃ r : ℝ, flat2 x i e = (r : EReal) := fun i e => by
    unfold flat2
    split
    · exact h _
    · exact ⟨0, rfl⟩
  exact ⟨fun i e => (this i e).choose, fun i e => (this i e).choose_spec⟩

/-- The pattern of 1024. -/
theorem ofBits_1024 : Ideal.ofBits .f32 0x44800000#32 = ((1024 : ℝ) : EReal) := by
  simp [Ideal.ofBits, Ideal.ieee]
  norm_num
  rw [← EReal.coe_mul]
  norm_num

/-- The pattern of minus one half. -/
theorem ofBits_neg_half : Ideal.ofBits .f32 0xBF000000#32 = ((-(1 / 2) : ℝ) : EReal) := by
  simp [Ideal.ofBits, Ideal.ieee]
  norm_num
  rw [← EReal.coe_mul]
  norm_num

/-- The norm's small constant is a positive real number. -/
theorem ofBits_eps : ∃ e : ℝ, 0 < e ∧ Ideal.ofBits .f32 0x358637BD#32 = (e : EReal) := by
  refine ⟨8796093 / 8796093022208, by positivity, ?_⟩
  simp [Ideal.ofBits, Ideal.ieee]
  norm_num
  rw [← EReal.coe_mul]
  norm_num

/-- The norm's gradient: the two ways to write it, `y` the scaled cotangent. -/
theorem rms_grad {n : ℕ} (x y : Fin n → ℝ) (e N : ℝ) (he : 0 < e) (hN : 0 < N) (d : Fin n) :
    (√((∑ k, x k * x k) * (1 / N) + e))⁻¹ * (y d - x d * (√((∑ k, x k * x k) * (1 / N) + e))⁻¹ * ((∑ k, y k * (x k * (√((∑ k, x k * x k) * (1 / N) + e))⁻¹)) * (1 / N)))
      = y d * (√((∑ k, x k * x k) * (1 / N) + e))⁻¹
        + 2 * (x d * ((∑ k, x k * y k) * (-(1 / 2) * ((√((∑ k, x k * x k) * (1 / N) + e))⁻¹ * (1 / ((∑ k, x k * x k) * (1 / N) + e)))) * (1 / N))) := by
  have hpos : 0 < (∑ k, x k * x k) * (1 / N) + e := by
    have := Finset.sum_nonneg fun k (_ : k ∈ Finset.univ) => mul_self_nonneg (x k)
    positivity
  generalize (∑ k, x k * x k) * (1 / N) + e = q at hpos ⊢
  have hs : (∑ k, y k * (x k * (√q)⁻¹)) = (∑ k, x k * y k) * (√q)⁻¹ := by
    rw [Finset.sum_mul]
    exact Finset.sum_congr rfl fun k _ => by ring
  rw [hs]
  generalize (∑ k, x k * y k) = S
  have hq : (√q)⁻¹ * (√q)⁻¹ = 1 / q := by rw [← mul_inv, Real.mul_self_sqrt hpos.le, one_div]
  rw [← hq]
  ring

theorem flat3_fin {A B C : ℕ} {φ : FTy} (x : FVec Ideal (⟨3, ![A, B, C]⟩ : Shape) φ) (i : ℕ) (e : Fin C) (h0 : i / B < A) (h1 : i % B < B) :
    x (ix3 (⟨i / B, h0⟩ : Fin A) (⟨i % B, h1⟩ : Fin B) e) = flat3 x i e.val :=
  flat3_eq x i e.val h0 h1 e.isLt

theorem flat3_row {A B C : ℕ} {φ : FTy} (x : FVec Ideal (⟨3, ![A, B, C]⟩ : Shape) φ) (a : Fin A) (b : Fin B) (e : Fin C) :
    x (ix3 a b e) = flat3 x (a.val * B + b.val) e.val := by
  have hB : 0 < B := Nat.lt_of_le_of_lt (Nat.zero_le _) b.isLt
  have h0 : (a.val * B + b.val) / B = a.val := by rw [Nat.mul_comm, Nat.mul_add_div hB, Nat.div_eq_of_lt b.isLt, add_zero]
  have h1 : (a.val * B + b.val) % B = b.val := by rw [Nat.mul_comm, Nat.mul_add_mod, Nat.mod_eq_of_lt b.isLt]
  rw [← flat3_fin x (a.val * B + b.val) e (by rw [h0]; exact a.isLt) (by rw [h1]; exact b.isLt)]
  congr 1
  exact congrArg₂ (fun a b => ix3 a b e) (Fin.ext h0.symm) (Fin.ext h1.symm)

theorem flat2_fin {A B : ℕ} {φ : FTy} (x : FVec Ideal (⟨2, ![A, B]⟩ : Shape) φ) (i : Fin A) (e : Fin B) :
    x (ix2 i e) = flat2 x i.val e.val :=
  flat2_eq x i.val e.val i.isLt e.isLt

/-- A sum over rows taken block by block. -/
theorem sum_rows {M : Type} [AddCommMonoid M] (A B : ℕ) (f : ℕ → M) : ∑ a : Fin A, ∑ b : Fin B, f (a.val * B + b.val) = ∑ i : Fin (A * B), f i.val := by
  rw [Fin.sum_univ_eq_sum_range f (A * B), Fin.sum_univ_eq_sum_range (fun a => ∑ b : Fin B, f (a * B + b.val)) A]
  induction A with
  | zero => simp
  | succ A ih => rw [Finset.sum_range_succ, ih, Nat.succ_mul, Finset.sum_range_add, Fin.sum_univ_eq_sum_range (fun b => f (A * B + b)) B]

/-- The norm's gradient along one row. -/
def rmsBack {n : ℕ} (x y : Fin n → ℝ) (e N : ℝ) (d : Fin n) : ℝ :=
  (√((∑ k, x k * x k) * (1 / N) + e))⁻¹ * (y d - x d * (√((∑ k, x k * x k) * (1 / N) + e))⁻¹ * ((∑ k, y k * (x k * (√((∑ k, x k * x k) * (1 / N) + e))⁻¹)) * (1 / N)))

theorem rms_pos {n : ℕ} (x : Fin n → ℝ) (e N : ℝ) (he : 0 < e) (hN : 0 < N) : 0 < (∑ k, x k * x k) * (1 / N) + e := by
  have := Finset.sum_nonneg fun k (_ : k ∈ Finset.univ) => mul_self_nonneg (x k)
  positivity

theorem rsqrt_pos {r : ℝ} (h : 0 < r) : Ideal.rsqrt (r : EReal) = (((√r)⁻¹ : ℝ) : EReal) := by
  rw [Ideal.rsqrt_coe, if_neg (not_lt.mpr h.le), if_neg h.ne']

/-- The host's sum over the first two of three axes. -/
theorem hostReduceAdd_r3_a01 {A B C : ℕ} (h : (⟨3, ![A, B, C]⟩ : Shape).ReducesTo [0, 1] ⟨1, ![C]⟩) (v : (⟨3, ![A, B, C]⟩ : Shape).Idx → EReal) (init : EReal) (j : Fin C) :
    Ideal.hostReduceAdd h v init (ix1 j) = init + ∑ a : Fin A, ∑ b : Fin B, v (ix3 a b j) := by
  refine congrArg (init + ·) ?_
  rw [← Fintype.sum_prod_type' fun a b => v (ix3 a b j)]
  refine Finset.sum_filter_eq_sum_of_fiber _ (fun p : Fin A × Fin B => ix3 p.1 p.2 j) (fun p q e => Prod.ext (congrFun e 0) (congrFun e 1)) (fun i => ?_) v
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

end Cert.Fin

end
-- ==== Proof.LowerBound.lean ====
/- The lower-bound table's gradient: both programs at an index. -/
module

public import proofs.«01_k».proof.Proof.Lib
public import proofs.«01_k».proof.Proof.Gen.KernelIdeal.Value
public import proofs.«01_k».proof.Proof.Gen.ReferenceIdeal.Run
public import proofs.«01_k».proof.Proof.Gen.Pre_finite_args

@[expose] public section

set_option maxRecDepth 16384

noncomputable section

namespace Cert.LowerBound

open Idealize.ShloMosaic Idealize.ShloMosaic.TcCoe Idealize.SL.Sem

/-- The gradient of one column of the table: `p` the softmax of the two rows, `dp` its cotangent. -/
def grad (x0 x1 d1 : ℝ) (r : Fin 2) : ℝ :=
  let M := max x0 x1
  let e0 := Real.exp (x0 - M)
  let e1 := Real.exp (x1 - M)
  let s := e0 + e1
  (if r = 0 then e0 else e1) / s * ((if r = 0 then 0 else d1) - e1 / s * d1)

/-- The larger of two real entries. -/
theorem fold_max2 (f : Fin 2 → EReal) (x0 x1 : ℝ) (h0 : f 0 = (x0 : EReal)) (h1 : f 1 = (x1 : EReal)) :
    Finset.fold max (⊥ : EReal) f Finset.univ = ((max x0 x1 : ℝ) : EReal) := by
  rw [show (Finset.univ : Finset (Fin 2)) = {0, 1} from rfl, Finset.fold_insert (by decide), Finset.fold_singleton, h0, h1, max_bot_right]
  exact (EReal.coe_strictMono.monotone.map_max).symm

section
open Cert.KernelIdeal

/-- What the kernel stores, at an index of a table of real numbers. -/
theorem pay_at (x d : FVec Ideal S2x256 .f32) (r : Fin 2) (l : Fin 256) (x0 x1 d0 d1 : ℝ) (hx0 : x (ix2 0 l) = (x0 : EReal))
    (hx1 : x (ix2 1 l) = (x1 : EReal)) (hd0 : d (ix2 0 l) = (d0 : EReal)) (hd1 : d (ix2 1 l) = (d1 : EReal)) :
    Gen.k0_pay1 (F := Ideal) x d (ix2 r l) = (grad x0 x1 d1 r : EReal) := by
  pointwise [Gen.k0_pay1, Fin.ofBits_ninf]
  rw [fold_max2 (fun k => x (ix2 k l)) x0 x1 hx0 hx1]
  have hpos : Real.exp (x0 - max x0 x1) + Real.exp (x1 - max x0 x1) ≠ 0 := by positivity
  match r with
  | ⟨0, _⟩ =>
    change Ideal.div (Ideal.exp (x (ix2 0 l) - _)) _ * (_ - _) = _
    rw [dif_pos Nat.one_pos]
    simp only [Fin.sum_univ_two, Fin.sum_univ_one, hd0, hd1, hx0, hx1, grad, ← EReal.coe_sub, Ideal.exp_coe, ← EReal.coe_add, Ideal.div_coe hpos, ← EReal.coe_mul]
    refine congrArg _ ?_
    simp
    ring
  | ⟨1, _⟩ =>
    change Ideal.div (Ideal.exp (x (ix2 1 l) - _)) _ * (_ - _) = _
    rw [dif_neg (Nat.lt_irrefl 1), show (⟨1 - 1, _⟩ : Fin 2) = 0 from rfl]
    simp only [Fin.sum_univ_two, Fin.sum_univ_one, hd0, hd1, hx0, hx1, grad, ← EReal.coe_sub, Ideal.exp_coe, ← EReal.coe_add, Ideal.div_coe hpos, ← EReal.coe_mul]
    refine congrArg _ ?_
    simp
    ring
end

section
open Cert.ReferenceIdeal

/-- What the reference returns, at an index of a table of real numbers. -/
theorem ref_at (m : (ℓ : Loc nD τ sig) → Buf (Elt Ideal) ℓ) (c : Dev nD) (x d : FVec Ideal S2x256 .f32)
    (hx : m ((c.tc : Thread nD τ).loc main_arg0) = x) (hd : m ((c.tc : Thread nD τ).loc main_arg1) = d)
    (r : Fin 2) (l : Fin 256) (x0 x1 d0 d1 : ℝ) (hx0 : x (ix2 0 l) = (x0 : EReal))
    (hx1 : x (ix2 1 l) = (x1 : EReal)) (hd0 : d (ix2 0 l) = (d0 : EReal)) (hd1 : d (ix2 1 l) = (d1 : EReal)) :
    Value.res_out0 (F := Ideal) m c (ix2 r l) = (grad x0 x1 d1 r : EReal) := by
  unfold Value.res_out0 Value.res_main_v54
  rw [hx, hd]
  have hM : Host.reduce FloatOps.maximumf x (constant S_ .f32 0xFF800000#32) Gen.reducesTo_S2x256_S256_d0 Gen.h_S_ (ix1 l) = ((max x0 x1 : ℝ) : EReal) := by
    refine (Host.reduce_eq_fold (max : EReal → EReal → EReal) x _ _ _ _).trans ?_
    refine (Shape.ReducesTo.fold_fiber_r2_a0 _ _ (max : EReal → EReal → EReal) _ x).trans ?_
    refine Eq.trans (congrArg (fun b => Finset.fold max b _ _) ?_) (fold_max2 (fun k => x (ix2 k l)) x0 x1 hx0 hx1)
    exact Fin.ofBits_ninf
  generalize (Host.reduce FloatOps.maximumf x (constant S_ .f32 0xFF800000#32) Gen.reducesTo_S2x256_S256_d0 Gen.h_S_) = M at hM ⊢
  pointwise [Fin.ofBits_ninf, Fin.cumsum2_rev]
  rw [hM, max_bot_left]
  have hpos : Real.exp (x0 - max x0 x1) + Real.exp (x1 - max x0 x1) ≠ 0 := by positivity
  match r with
  | ⟨0, _⟩ =>
    change _ * Ideal.exp (x (ix2 0 l) - _) = _
    rw [dif_pos Nat.one_pos]
    simp only [Fin.sum_univ_two, Fin.sum_univ_one, hd0, hd1, hx0, hx1, grad, ← EReal.coe_sub, Ideal.exp_coe, ← EReal.coe_add, Ideal.div_coe hpos,
      Ideal.div_coe (mul_ne_zero hpos hpos), ← EReal.coe_mul, ← EReal.coe_neg]
    simp only [show (⟨0, by decide⟩ : Fin 2) = 0 from rfl, le_refl, if_true, show ¬ ((1 : Fin 2) ≤ 0) by decide, show (0 : Fin 2) ≤ 1 by decide,
      show ¬ ((1 : Fin 2) = 0) by decide, if_false, one_mul, zero_add, add_zero, ← EReal.coe_add, ← EReal.coe_mul, ← EReal.coe_neg]
    refine congrArg _ ?_
    generalize Real.exp (x0 - max x0 x1) = e0 at hpos ⊢
    generalize Real.exp (x1 - max x0 x1) = e1 at hpos ⊢
    field_simp
    ring
  | ⟨1, _⟩ =>
    change _ * Ideal.exp (x (ix2 1 l) - _) = _
    rw [dif_neg (Nat.lt_irrefl 1)]
    simp only [Fin.sum_univ_two, Fin.sum_univ_one, hd0, hd1, hx0, hx1, grad, ← EReal.coe_sub, Ideal.exp_coe, ← EReal.coe_add, Ideal.div_coe hpos,
      Ideal.div_coe (mul_ne_zero hpos hpos), ← EReal.coe_mul, ← EReal.coe_neg]
    simp only [show (⟨1, by decide⟩ : Fin 2) = 1 from rfl, le_refl, if_true, show ¬ ((1 : Fin 2) ≤ 0) by decide, show (0 : Fin 2) ≤ 1 by decide,
      show ¬ ((1 : Fin 2) = 0) by decide, if_false, one_mul, zero_add, add_zero, ← EReal.coe_add, ← EReal.coe_mul, ← EReal.coe_neg]
    refine congrArg _ ?_
    generalize Real.exp (x0 - max x0 x1) = e0 at hpos ⊢
    generalize Real.exp (x1 - max x0 x1) = e1 at hpos ⊢
    field_simp
    ring
end

/-- The two programs agree on tables of real numbers. -/
theorem pair (m : (ℓ : Loc Cert.ReferenceIdeal.nD Cert.ReferenceIdeal.τ Cert.ReferenceIdeal.sig) → Buf (Elt Ideal) ℓ) (c : Dev Cert.ReferenceIdeal.nD)
    (x d : FVec Ideal Cert.KernelIdeal.S2x256 .f32)
    (hx : m ((c.tc : Thread Cert.ReferenceIdeal.nD Cert.ReferenceIdeal.τ).loc Cert.ReferenceIdeal.main_arg0) = x)
    (hd : m ((c.tc : Thread Cert.ReferenceIdeal.nD Cert.ReferenceIdeal.τ).loc Cert.ReferenceIdeal.main_arg1) = d)
    (rx : ∀ i, ∃ r : ℝ, x i = (r : EReal)) (rd : ∀ i, ∃ r : ℝ, d i = (r : EReal)) :
    Cert.ReferenceIdeal.Value.res_out0 (F := Ideal) m c = Cert.KernelIdeal.Value.G2 x d := by
  funext i
  idx_vars i
  obtain ⟨x0, hx0⟩ := rx (ix2 0 i1)
  obtain ⟨x1, hx1⟩ := rx (ix2 1 i1)
  obtain ⟨d0, hd0⟩ := rd (ix2 0 i1)
  obtain ⟨d1, hd1⟩ := rd (ix2 1 i1)
  exact (ref_at m c x d hx hd i0 i1 x0 x1 d0 d1 hx0 hx1 hd0 hd1).trans (pay_at x d i0 i1 x0 x1 d0 d1 hx0 hx1 hd0 hd1).symm

/-- The arguments that the precondition names are real numbers. -/
theorem args_real (x d : FVec Ideal Cert.Pre_finite_args.S2x256 .f32) (h : Cert.Pre_finite_args.fn x d (fun a => a.elim0) = 1#1) :
    (∀ i, ∃ r : ℝ, x i = (r : EReal)) ∧ ∀ i, ∃ r : ℝ, d i = (r : EReal) := by
  have h2 := IntOp.andi_eq_one.1 h
  exact ⟨fun i => Fin.real_of_abs_lt x _ i (Host.reduce_andi_all _ _ _ _ _ h2.1 i), fun i => Fin.real_of_abs_lt d _ i (Host.reduce_andi_all _ _ _ _ _ h2.2 i)⟩

end Cert.LowerBound

end
-- ==== Proof.FoxDecay.lean ====
/- The forget gate's gradient: both programs at an index. -/
module

public import proofs.«01_k».proof.Defs
public import proofs.«01_k».proof.Proof.Gen.Pre_fox_decay_finite
public import proofs.«01_k».proof.Proof.Gen.Kernel2Ideal.Value
public import proofs.«01_k».proof.Proof.Gen.Reference2Ideal.Run
public import proofs.«01_k».proof.Proof.Lib
public import Idealize.ShloMosaic.Lib.Pipeline.ValueKit
public import Idealize.ShloMosaic.Lib.StableHlo.ReadAt

@[expose] public section

set_option maxRecDepth 16384

noncomputable section

namespace Cert.FoxDecay

open Idealize.ShloMosaic Idealize.ShloMosaic.TcCoe Idealize.SL.Sem

/-- The sum of the terms from `n` on. -/
def sfx (u : ℕ → ℝ) (n : ℕ) : ℝ := ∑ k ∈ Finset.Ico n 2048, u k

theorem sfx_step (u : ℕ → ℝ) (B : ℕ) (hB : B + 256 ≤ 2048) (r : Fin 256) : (∑ x : Fin 256, if r.val ≤ x.val then u (B + x.val) else 0) + sfx u (B + 256) = sfx u (B + r.val) := by
  have hr := r.isLt
  unfold sfx
  rw [← Finset.sum_Ico_consecutive u (show B + r.val ≤ B + 256 by omega) hB, Fin.sum_univ_eq_sum_range (fun x => if r.val ≤ x then u (B + x) else 0) 256, ← Finset.sum_filter]
  refine congrArg (· + _) (Finset.sum_nbij' (fun x => B + x) (fun k => k - B) ?_ ?_ ?_ ?_ (fun _ _ => rfl))
  all_goals (intro a ha; simp only [Finset.mem_filter, Finset.mem_range, Finset.mem_Ico] at ha ⊢; omega)

/-- The derivative of the log-sigmoid. -/
def gate (x : EReal) : EReal := Ideal.div 1 (1 + Ideal.exp x)

section Kernel
open Cert.Kernel2Ideal Cert.Kernel2Ideal.Gen

/-- One stretch of 256 rows: the sums from each row to the end of the stretch, plus what comes after. -/
def dl (i j : IVec S256x256 32) (c : FVec Ideal S1x128 .f32) (q : Vec Ideal S1x8x256 .f32) (k : Vec Ideal S256x128 .f32) : FVec Ideal S256x128 .f32 := k0_pay12 i j c q k
/-- The first row of a stretch. -/
def top (d : FVec Ideal S256x128 .f32) : FVec Ideal S1x128 .f32 := extractStridedSlice S1x128 ![0, 0] d slices_S256x128_o0_0_S1x128
/-- Nothing comes after the last stretch. -/
def zr : FVec Ideal S1x128 .f32 := broadcast S1x128 (Scalar.ofBits .f32 0x00000000#32)
/-- The stretch's cotangents of the gate. -/
def df (d : FVec Ideal S256x128 .f32) (f : Vec Ideal S256x128 .f32) (b : Vec Ideal S1x128 .f32) : FVec Ideal S256x128 .f32 := k0_pay14 d f b
/-- Their sums over the rows, added up. -/
def dbs (a : FVec Ideal S1x128 .f32) (x : FVec Ideal S256x128 .f32) : FVec Ideal S1x128 .f32 := k0_pay52 a x

section Stretches
variable (i j : IVec S256x256 32) (c a : FVec Ideal S1x128 .f32) (q : Vec Ideal S1x8x256 .f32) (k : Vec Ideal S256x128 .f32) (f : Vec Ideal S256x128 .f32) (b : Vec Ideal S1x128 .f32) (d : FVec Ideal S256x128 .f32)
theorem s7 : k0_pay6 (F := Ideal) q k = dl (iota Kind.tc S256x256 32 [0] iota_S256x256_d0_w32) (iota Kind.tc S256x256 32 [1] iota_S256x256_d1_w32) zr q k := rfl
theorem c7 : k0_pay7 (F := Ideal) q k = top (dl (iota Kind.tc S256x256 32 [0] iota_S256x256_d0_w32) (iota Kind.tc S256x256 32 [1] iota_S256x256_d1_w32) zr q k) := rfl
theorem f7 : k0_pay10 (F := Ideal) d (k0_pay8 f b) (FloatOps.ofBits .f32 0#32) = truncf .bf16 (df d f b) bitsLt_bf16_f32 := rfl
theorem b7 : k0_pay11 (F := Ideal) a d (k0_pay8 f b) (FloatOps.ofBits .f32 0#32) = dbs a (df d f b) := rfl
theorem s6 : k0_pay12 (F := Ideal) i j c q k = dl i j c q k := rfl
theorem c6 : k0_pay13 (F := Ideal) i j c q k = top (dl i j c q k) := rfl
theorem f6 : k0_pay15 (F := Ideal) d f b = truncf .bf16 (df d f b) bitsLt_bf16_f32 := rfl
theorem b6 : k0_pay16 (F := Ideal) a d f b = dbs a (df d f b) := rfl
theorem c5 : k0_pay26 (F := Ideal) c (k0_pay21 q k) (k0_pay22 i j) (k0_pay23 i j q k) (k0_pay24 i j q k) = top (dl i j c q k) := rfl
theorem f5 : k0_pay28 (F := Ideal) c (k0_pay21 q k) (k0_pay22 i j) (k0_pay23 i j q k) (k0_pay24 i j q k) f b = truncf .bf16 (df (dl i j c q k) f b) bitsLt_bf16_f32 := rfl
theorem b5 : k0_pay29 (F := Ideal) c a (k0_pay21 q k) (k0_pay22 i j) (k0_pay23 i j q k) (k0_pay24 i j q k) f b = dbs a (df (dl i j c q k) f b) := rfl
theorem c4 : k0_pay37 (F := Ideal) c (k0_pay30 i j) (k0_pay32 q k) (k0_pay33 q k) (k0_pay34 q k) (k0_pay35 q k) = top (dl i j c q k) := rfl
theorem f4 : k0_pay39 (F := Ideal) c (k0_pay30 i j) (k0_pay32 q k) (k0_pay33 q k) (k0_pay34 q k) (k0_pay35 q k) f b = truncf .bf16 (df (dl i j c q k) f b) bitsLt_bf16_f32 := rfl
theorem b4 : k0_pay40 (F := Ideal) c a (k0_pay30 i j) (k0_pay32 q k) (k0_pay33 q k) (k0_pay34 q k) (k0_pay35 q k) f b = dbs a (df (dl i j c q k) f b) := rfl
theorem c3 : k0_pay44 (F := Ideal) c (k0_pay41 q) (k0_pay42 i j) k = top (dl i j c q k) := rfl
theorem f3 : k0_pay46 (F := Ideal) c (k0_pay41 q) (k0_pay42 i j) k f b = truncf .bf16 (df (dl i j c q k) f b) bitsLt_bf16_f32 := rfl
theorem b3 : k0_pay47 (F := Ideal) c a (k0_pay41 q) (k0_pay42 i j) k f b = dbs a (df (dl i j c q k) f b) := rfl
theorem c2 : k0_pay49 (F := Ideal) i j c q k = top (dl i j c q k) := rfl
theorem f2 : k0_pay51 (F := Ideal) i j c q k f b = truncf .bf16 (df (dl i j c q k) f b) bitsLt_bf16_f32 := rfl
theorem b2 : k0_pay52 (F := Ideal) a (k0_pay50 i j c q k f b) = dbs a (df (dl i j c q k) f b) := rfl
theorem s1 : k0_pay53 (F := Ideal) i j c q k = dl i j c q k := rfl
theorem c1 : k0_pay54 (F := Ideal) i j c q k = top (dl i j c q k) := rfl
theorem f1 : k0_pay57 (F := Ideal) d (k0_pay55 f b) = truncf .bf16 (df d f b) bitsLt_bf16_f32 := rfl
theorem b1 : k0_pay58 (F := Ideal) a d (k0_pay55 f b) = dbs a (df d f b) := rfl
theorem s0 : k0_pay59 (F := Ideal) i j c q k = dl i j c q k := rfl
theorem f0 : k0_pay2 (F := Ideal) d (k0_pay60 f) (k0_pay61 b) = truncf .bf16 (df d f b) bitsLt_bf16_f32 := rfl
theorem b0 (v : FVec Ideal S1x128 .f32) : k0_pay3 (F := Ideal) a d (k0_pay60 f) (k0_pay61 b) v = addf (shapeCast S1x128 v shapeCasts_S1x128_S1x128) (dbs a (df d f b)) := rfl
end Stretches

/-- The running sum's mask as a number. -/
theorem sel (r x : Fin 256) : (FloatOps.sitofp FTy.f32 (BitVec.setWidth 32 (IntOp.cmpi CmpIPredicate.sle (BitVec.ofNat 32 r.val) (BitVec.ofNat 32 x.val))) : Ideal .f32)
    = ((if r.val ≤ x.val then 1 else 0 : ℝ) : EReal) := by
  show ((((BitVec.setWidth 32 (IntOp.cmpi CmpIPredicate.sle (BitVec.ofNat 32 r.val) (BitVec.ofNat 32 x.val))).toInt : ℝ)) : EReal) = _
  have e : (BitVec.setWidth 32 (IntOp.cmpi CmpIPredicate.sle (BitVec.ofNat 32 r.val) (BitVec.ofNat 32 x.val))) = if r.val ≤ x.val then 1#32 else 0#32 := by
    have h : (BitVec.ofNat 32 r.val).sle (BitVec.ofNat 32 x.val) = decide (r.val ≤ x.val) := by
      have e0 : ∀ n : Fin 256, (BitVec.ofNat 32 n.val).toInt = n.val := by decide +kernel
      rw [BitVec.sle_eq_decide, e0, e0]
      exact decide_eq_decide.mpr Int.ofNat_le
    unfold IntOp.cmpi
    simp only [h]
    by_cases q : r.val ≤ x.val <;> simp [q]
  rw [e]
  split <;> simp

/-- One stretch: the sum from row `r` on. -/
theorem dl_at (B : ℕ) (hB : B + 256 ≤ 2048) (u : ℕ → ℝ) (c : FVec Ideal S1x128 .f32) (q : Vec Ideal S1x8x256 .f32) (k : Vec Ideal S256x128 .f32) (r : Fin 256) (h : Fin 128)
    (hu : ∀ x : Fin 256, (if h8 : h.val < 8 then q (ix3 0 ⟨h.val, h8⟩ x) else 0) + k (ix2 x h) = (u (B + x.val) : EReal)) (hc : c (ix2 0 h) = (sfx u (B + 256) : EReal)) :
    dl (iota Kind.tc S256x256 32 [0] iota_S256x256_d0_w32) (iota Kind.tc S256x256 32 [1] iota_S256x256_d1_w32) c q k (ix2 r h) = (sfx u (B + r.val) : EReal) := by
  unfold dl
  pointwise [k0_pay12]
  simp only [sel, hu, hc, ← EReal.coe_sub, sub_self, ← EReal.coe_mul, mul_zero, Fin.coe_sum, Finset.sum_const_zero, EReal.coe_zero, sub_zero, add_zero, ← EReal.coe_add, ite_mul, one_mul, zero_mul]
  exact congrArg _ (sfx_step u B hB r)

theorem df_at (d : FVec Ideal S256x128 .f32) (f : Vec Ideal S256x128 .f32) (b : Vec Ideal S1x128 .f32) (r : Fin 256) (h : Fin 128) :
    df d f b (ix2 r h) = d (ix2 r h) * gate (f (ix2 r h) + b (ix2 0 h)) := by
  unfold df gate
  pointwise [k0_pay14]
  simp only [zero_sub, neg_neg]

theorem dbs_at (a : FVec Ideal S1x128 .f32) (x : FVec Ideal S256x128 .f32) (h : Fin 128) : dbs a x (ix2 0 h) = a (ix2 0 h) + ∑ r, x (ix2 r h) := by
  unfold dbs
  pointwise [k0_pay52]

variable (m : (ℓ : Loc nD τ sig) → Buf (Elt Ideal) ℓ)

/-- The arguments by rows: the two cotangents, the gate's input and its bias. -/
abbrev fQ (c : Dev nD) : ℕ → ℕ → EReal := Fin.flat3 (show FVec Ideal S2x8x2048 .f32 from m ((c.tc : Thread nD τ).loc main_arg2))
abbrev fK (c : Dev nD) : ℕ → ℕ → EReal := Fin.flat3 (show FVec Ideal S2x8x2048 .f32 from m ((c.tc : Thread nD τ).loc main_arg3))
abbrev fF (c : Dev nD) : ℕ → ℕ → EReal := Fin.flat3 (show FVec Ideal S2x2048x8 .f32 from m ((c.tc : Thread nD τ).loc main_arg0))
abbrev fB (c : Dev nD) : ℕ → EReal := Fin.flat1 (show FVec Ideal S8 .f32 from m ((c.tc : Thread nD τ).loc main_arg1))

theorem zero_word : (FloatOps.sitofp FTy.f32 (0#32) : Ideal .f32) = 0 := by
  show ((((0#32 : BitVec 32).toInt : ℝ)) : EReal) = 0
  simp

theorem op0 (c : Dev nD) (j : S2x8x2048.Idx) : V m c main_arg2 j = fQ m c ((j 0).val * 8 + (j 1).val) (j 2).val := by
  unfold V
  after_reads_at
  idx_vars j
  exact Fin.flat3_row _ _ _ _

theorem op1 (c : Dev nD) (j : S4096x128.Idx) : V m c main_v4 j = if (j 1).val < 8 then fK m c ((j 0).val / 2048 * 8 + (j 1).val) ((j 0).val % 2048) else (0 : EReal) := by
  unfold V
  after_reads_at
  split
  · exact Fin.flat3_row _ ⟨(j 0).val / 2048, by have : (j 0).val < 4096 := (j 0).isLt; omega⟩ ⟨(j 1).val, by assumption⟩ ⟨(j 0).val % 2048, by omega⟩
  · exact zero_word

theorem op2 (c : Dev nD) (j : S4096x128.Idx) : V m c main_v1 j = if (j 1).val < 8 then fF m c (j 0).val (j 1).val else (0 : EReal) := by
  unfold V
  after_reads_at
  split
  · exact Fin.flat3_eq _ _ _ _ _ _
  · exact zero_word

theorem op3 (c : Dev nD) (j : S1x128.Idx) : V m c main_v6 j = if (j 1).val < 8 then fB m c (j 1).val else (0 : EReal) := by
  unfold V
  after_reads_at
  split
  · exact Fin.flat1_fin _ _
  · exact zero_word

theorem idx : ∀ t : Fin cfg0.N, (win0_0.index t = ![t.val, 0, 0] ∧ win0_1.index t = ![t.val, 0] ∧ win0_2.index t = ![t.val, 0] ∧ win0_3.index t = ![0, 0])
    ∧ win0_4.index t = ![t.val, 0] ∧ win0_5.index t = ![0, 0] :=
  (by decide +kernel : ∀ t : Fin grid0.N, _)

theorem blk0 (c : Dev nD) (t : Fin cfg0.N) (h : Fin 8) (n : Fin 2048) : (show FVec Ideal S1x8x2048 .f32 from iblk m c 0 t) (ix3 0 h n) = fQ m c (t.val * 8 + h.val) n.val := by
  unfold iblk
  blk_simp
  rw [op0]
  blk_simp [idx t]
  exact congrArg (fun i => fQ m c (i * 8 + h.val) n.val) (Nat.add_zero _)

theorem blk1 (c : Dev nD) (t : Fin cfg0.N) (n : Fin 2048) (h : Fin 128) :
    (show FVec Ideal S2048x128 .f32 from iblk m c 1 t) (ix2 n h) = if h.val < 8 then fK m c (t.val * 8 + h.val) n.val else (0 : EReal) := by
  unfold iblk
  blk_simp
  rw [op1]
  blk_simp [idx t]
  rw [show (t.val * 2048 + n.val) / 2048 = t.val by omega, show (t.val * 2048 + n.val) % 2048 = n.val by omega]

theorem blk2 (c : Dev nD) (t : Fin cfg0.N) (n : Fin 2048) (h : Fin 128) :
    (show FVec Ideal S2048x128 .f32 from iblk m c 2 t) (ix2 n h) = if h.val < 8 then fF m c (t.val * 2048 + n.val) h.val else (0 : EReal) := by
  unfold iblk
  blk_simp
  rw [op2]
  blk_simp [idx t]
theorem blk3 (c : Dev nD) (t : Fin cfg0.N) (h : Fin 128) :
    (show FVec Ideal S1x128 .f32 from iblk m c 3 t) (ix2 0 h) = if h.val < 8 then fB m c h.val else (0 : EReal) := by
  unfold iblk
  blk_simp
  rw [op3]
  blk_simp [idx t]

/-- The stretches' inputs at a grid point. -/
def qs (c : Dev nD) (t : Fin cfg0.N) (p : Fin 8) : Vec Ideal S1x8x256 .f32 := View.ld (iblk m c 0 t) (Rect.unit ![0, 0, 256 * p.val] ![1, 8, 256] (by
  intro a
  match a with
  | ⟨0, _⟩ => show 0 + 1 ≤ 1; omega
  | ⟨1, _⟩ => show 0 + 8 ≤ 8; omega
  | ⟨2, _⟩ => show 256 * p.val + 256 ≤ 2048; omega))
def rs (b : Vec Ideal S2048x128 .f32) (p : Fin 8) : Vec Ideal S256x128 .f32 := View.ld b (Rect.unit ![256 * p.val, 0] ![256, 128] (by
  intro a
  match a with
  | ⟨0, _⟩ => show 256 * p.val + 256 ≤ 2048; omega
  | ⟨1, _⟩ => show 0 + 128 ≤ 128; omega))
theorem qs_at (c : Dev nD) (t : Fin cfg0.N) (p : Fin 8) (h : Fin 8) (x : Fin 256) : qs m c t p (ix3 0 h x) = fQ m c (t.val * 8 + h.val) (256 * p.val + x.val) := by
  unfold qs
  pointwise
  exact blk0 m c t h _
theorem rs_at (b : Vec Ideal S2048x128 .f32) (p : Fin 8) (h : Fin 128) (x : Fin 256) : rs b p (ix2 x h) = b (ix2 ⟨256 * p.val + x.val, by omega⟩ h) := by
  unfold rs
  pointwise

theorem top_at (d : FVec Ideal S256x128 .f32) (h : Fin 128) : top d (ix2 0 h) = d (ix2 0 h) := by
  unfold top
  pointwise

/-- What comes after the last `n` stretches' first row. -/
def car (c : Dev nD) (t : Fin cfg0.N) : ℕ → FVec Ideal S1x128 .f32
  | 0 => zr
  | n + 1 => top (dl (iota Kind.tc S256x256 32 [0] iota_S256x256_d0_w32) (iota Kind.tc S256x256 32 [1] iota_S256x256_d1_w32) (car c t n) (qs m c t (Fin.ofNat 8 (7 - n))) (rs (iblk m c 1 t) (Fin.ofNat 8 (7 - n))))
/-- The sums of one stretch. -/
def acc (c : Dev nD) (t : Fin cfg0.N) (p : Fin 8) : FVec Ideal S256x128 .f32 := dl (iota Kind.tc S256x256 32 [0] iota_S256x256_d0_w32) (iota Kind.tc S256x256 32 [1] iota_S256x256_d1_w32) (car m c t (7 - p.val)) (qs m c t p) (rs (iblk m c 1 t) p)
/-- The gradient of one stretch. -/
def grd (c : Dev nD) (t : Fin cfg0.N) (p : Fin 8) : FVec Ideal S256x128 .f32 := df (acc m c t p) (rs (iblk m c 2 t) p) (iblk m c 3 t)
/-- The sum of the two cotangents down a column; none in the columns that only fill up. -/
def both (Q K : ℕ → ℕ → ℝ) (t h n : ℕ) : ℝ := if h < 8 then Q (t * 8 + h) n + K (t * 8 + h) n else 0
/-- The gradient at a row of a batch. -/
def out (Q K : ℕ → ℕ → ℝ) (F : ℕ → ℕ → EReal) (b : ℕ → EReal) (t n h : ℕ) : EReal :=
  if h < 8 then (sfx (both Q K t h) n : EReal) * gate (F (t * 2048 + n) h + b h) else 0

section Reals
variable (c : Dev nD) (Q K : ℕ → ℕ → ℝ) (hQ : ∀ i k, fQ m c i k = (Q i k : EReal)) (hK : ∀ i k, fK m c i k = (K i k : EReal))

include hQ hK in
theorem both_at (t : Fin cfg0.N) (p : Fin 8) (h : Fin 128) (x : Fin 256) :
    (if h8 : h.val < 8 then qs m c t p (ix3 0 ⟨h.val, h8⟩ x) else 0) + rs (iblk m c 1 t) p (ix2 x h) = (both Q K t.val h.val (256 * p.val + x.val) : EReal) := by
  rw [rs_at]
  refine (congrArg (_ + ·) (blk1 m c t _ h)).trans ?_
  unfold both
  by_cases h8 : h.val < 8
  · rw [dif_pos h8, if_pos h8, if_pos h8, qs_at, hQ, hK, EReal.coe_add]
  · rw [dif_neg h8, if_neg h8, if_neg h8, add_zero, EReal.coe_zero]

include hQ hK in
theorem car_at (t : Fin cfg0.N) (h : Fin 128) (n : ℕ) : n ≤ 8 → car m c t n (ix2 0 h) = (sfx (both Q K t.val h.val) (256 * (8 - n)) : EReal) := by
  induction n with
  | zero =>
    intro _
    unfold car zr
    pointwise
    simp [sfx]
  | succ n ih =>
    intro hn
    have e : (Fin.ofNat 8 (7 - n)).val = 7 - n := Nat.mod_eq_of_lt (by omega)
    rw [car, top_at, dl_at (256 * (7 - n)) (by omega) (both Q K t.val h.val) _ _ _ 0 h (fun x => by rw [both_at m c Q K hQ hK, e]) ?_]
    · rw [show 8 - (n + 1) = 7 - n by omega]
      rfl
    · rw [ih (by omega), show 256 * (7 - n) + 256 = 256 * (8 - n) by omega]

include hQ hK in
theorem grd_at (t : Fin cfg0.N) (p : Fin 8) (r : Fin 256) (h : Fin 128) : grd m c t p (ix2 r h) = out Q K (fF m c) (fB m c) t.val (256 * p.val + r.val) h.val := by
  unfold grd acc
  rw [df_at, dl_at (256 * p.val) (by omega) (both Q K t.val h.val) _ _ _ r h (fun x => both_at m c Q K hQ hK t p h x) (by
    rw [car_at m c Q K hQ hK t h _ (by omega), show 256 * p.val + 256 = 256 * (8 - (7 - p.val)) by omega]), rs_at]
  refine (congrArg₂ (fun a b => _ * gate (a + b)) (blk2 m c t _ h) (blk3 m c t h)).trans ?_
  unfold out
  by_cases h8 : h.val < 8
  · rw [if_pos h8, if_pos h8, if_pos h8]
  · rw [if_neg h8, if_neg h8, if_neg h8]
    have e : both Q K t.val h.val = fun _ => 0 := funext fun n => if_neg h8
    rw [e]
    simp [sfx]
end Reals

theorem stretch (c : Dev nD) (t : Fin cfg0.N) (G : ℕ → ℕ → EReal) (g : ∀ p r h, grd m c t p (ix2 r h) = G (256 * p.val + r.val) h.val) {y : S2048x128.Idx} (p : Fin 8) {x : S256x128.Idx} {k : ℕ}
    (q0 : (y 0).val = k + (x 0).val) (q1 : (y 1).val = (x 1).val) (q : k = 256 * p.val) : grd m c t p x = G (y 0).val (y 1).val := by
  rw [q0, q1, q]
  idx_vars x
  exact g p _ _

theorem outs_A (c : Dev nD) (t : Fin cfg0.N) (c0 : t.val % 2 = 0) (G : ℕ → ℕ → EReal) (g : ∀ p r h, grd m c t p (ix2 r h) = G (256 * p.val + r.val) h.val) (y : S2048x128.Idx) :
    (show FVec Ideal S2048x128 .bf16 from (outsAt0 m c t.val t.isLt).1) y = G (y 0).val (y 1).val := by
  have fin := @stretch m c t G g y
  show (outsAt0 m c t.val t.isLt).1 y = _
  rw [outsAt0_A m c t c0]
  dsimp only
  frame_out
  simp only [s7, c7, f7, b7, s6, c6, f6, b6, c5, f5, b5, c4, f4, b4, c3, f3, b3, c2, f2, b2, s1, c1, f1, b1, s0, f0, b0]
  canon_tiles x h
  case piece0 => exact fin 0 (h0.trans (Nat.zero_add _).symm) h1 rfl
  case piece1 => exact fin 1 h0 h1 rfl
  case piece2 => exact fin 2 h0 h1 rfl
  case piece3 => exact fin 3 h0 h1 rfl
  case piece4 => exact fin 4 h0 h1 rfl
  case piece5 => exact fin 5 h0 h1 rfl
  case piece6 => exact fin 6 h0 h1 rfl
  case piece7 => exact fin 7 h0 h1 rfl

theorem outs_B (c : Dev nD) (t : Fin cfg0.N) (c0 : ¬ t.val % 2 = 0) (G : ℕ → ℕ → EReal) (g : ∀ p r h, grd m c t p (ix2 r h) = G (256 * p.val + r.val) h.val) (y : S2048x128.Idx) :
    (show FVec Ideal S2048x128 .bf16 from (outsAt0 m c t.val t.isLt).1) y = G (y 0).val (y 1).val := by
  have fin := @stretch m c t G g y
  show (outsAt0 m c t.val t.isLt).1 y = _
  rw [outsAt0_B m c t c0]
  dsimp only
  frame_out
  simp only [s7, c7, f7, b7, s6, c6, f6, b6, c5, f5, b5, c4, f4, b4, c3, f3, b3, c2, f2, b2, s1, c1, f1, b1, s0, f0, b0]
  canon_tiles x h
  case piece0 => exact fin 0 (h0.trans (Nat.zero_add _).symm) h1 rfl
  case piece1 => exact fin 1 h0 h1 rfl
  case piece2 => exact fin 2 h0 h1 rfl
  case piece3 => exact fin 3 h0 h1 rfl
  case piece4 => exact fin 4 h0 h1 rfl
  case piece5 => exact fin 5 h0 h1 rfl
  case piece6 => exact fin 6 h0 h1 rfl
  case piece7 => exact fin 7 h0 h1 rfl

theorem outs (c : Dev nD) (t : Fin cfg0.N) (G : ℕ → ℕ → EReal) (g : ∀ p r h, grd m c t p (ix2 r h) = G (256 * p.val + r.val) h.val) (y : S2048x128.Idx) :
    (show FVec Ideal S2048x128 .bf16 from (outsAt0 m c t.val t.isLt).1) y = G (y 0).val (y 1).val :=
  (Decidable.em (t.val % 2 = 0)).elim (fun h => outs_A m c t h G g y) fun h => outs_B m c t h G g y

/-- A sum of 2048 terms by the eight stretches, the last first. -/
theorem sum_stretches (f : ℕ → EReal) (s : Fin 8 → EReal) (hs : ∀ p, s p = ∑ r : Fin 256, f (256 * p.val + r.val)) :
    s 7 + s 6 + s 5 + s 4 + s 3 + s 2 + s 1 + s 0 = ∑ n : Fin 2048, f n.val := by
  simp only [hs]
  simp only [fun o => Fin.sum_univ_eq_sum_range (fun x => f (o + x)) 256]
  rw [Fin.sum_univ_eq_sum_range f 2048, show (2048 : ℕ) = 256 + 256 + 256 + 256 + 256 + 256 + 256 + 256 from rfl]
  simp only [Finset.sum_range_add]
  show (∑ x ∈ Finset.range 256, f (1792 + x)) + (∑ x ∈ Finset.range 256, f (1536 + x)) + (∑ x ∈ Finset.range 256, f (1280 + x)) + (∑ x ∈ Finset.range 256, f (1024 + x))
    + (∑ x ∈ Finset.range 256, f (768 + x)) + (∑ x ∈ Finset.range 256, f (512 + x)) + (∑ x ∈ Finset.range 256, f (256 + x)) + (∑ x ∈ Finset.range 256, f (0 + x)) = _
  simp only [zero_add, Nat.reduceAdd]
  abel

/-- The bias's gradient at one batch, over what was there. -/
theorem bias_at (c : Dev nD) (t : Fin cfg0.N) (G : ℕ → ℕ → EReal) (g : ∀ p r h, grd m c t p (ix2 r h) = G (256 * p.val + r.val) h.val) (v : FVec Ideal S1x128 .f32) (h : Fin 128) :
    addf (shapeCast S1x128 v shapeCasts_S1x128_S1x128) (dbs (dbs (dbs (dbs (dbs (dbs (dbs (dbs zr (grd m c t 7)) (grd m c t 6)) (grd m c t 5)) (grd m c t 4)) (grd m c t 3)) (grd m c t 2)) (grd m c t 1)) (grd m c t 0)) (ix2 0 h)
      = v (ix2 0 h) + ∑ n : Fin 2048, G n.val h.val := by
  have w : shapeCast S1x128 v shapeCasts_S1x128_S1x128 (ix2 0 h) = v (ix2 0 h) := by pointwise
  show shapeCast S1x128 v shapeCasts_S1x128_S1x128 (ix2 0 h) + _ = _
  rw [w]
  simp only [dbs_at]
  rw [← sum_stretches (fun n => G n h.val) (fun p => ∑ r, grd m c t p (ix2 r h)) fun p => Finset.sum_congr rfl fun r _ => g p r h]
  have e : zr (ix2 0 h) = 0 := by
    unfold zr
    pointwise
  rw [e, zero_add]

theorem last_A (c : Dev nD) (t : Fin cfg0.N) (c0 : t.val % 2 = 0) (G : ℕ → ℕ → EReal) (g : ∀ p r h, grd m c t p (ix2 r h) = G (256 * p.val + r.val) h.val) (h : Fin 128) :
    (show FVec Ideal S1x128 .f32 from (outsAt0 m c t.val t.isLt).2) (ix2 0 h) = 0 + ∑ n : Fin 2048, G n.val h.val := by
  rw [outsAt0_A m c t c0]
  show (_ : FVec Ideal S1x128 .f32) (ix2 0 h) = _
  dsimp only
  frame_out
  simp only [s7, c7, f7, b7, s6, c6, f6, b6, c5, f5, b5, c4, f4, b4, c3, f3, b3, c2, f2, b2, s1, c1, f1, b1, s0, f0, b0]
  refine (bias_at m c t G g _ h).trans (congrArg (· + _) ?_)
  pointwise [k0_pay4, zr]

theorem last_B (c : Dev nD) (t : Fin cfg0.N) (c0 : ¬ t.val % 2 = 0) (G : ℕ → ℕ → EReal) (g : ∀ p r h, grd m c t p (ix2 r h) = G (256 * p.val + r.val) h.val) (h : Fin 128) :
    (show FVec Ideal S1x128 .f32 from (outsAt0 m c t.val t.isLt).2) (ix2 0 h)
      = (show FVec Ideal S1x128 .f32 from (outsAt0 m c (t.val - 1) (Nat.lt_of_le_of_lt (Nat.sub_le _ _) t.isLt)).2) (ix2 0 h) + ∑ n : Fin 2048, G n.val h.val := by
  rw [outsAt0_B m c t c0]
  show (_ : FVec Ideal S1x128 .f32) (ix2 0 h) = _
  dsimp only
  frame_out
  simp only [s7, c7, f7, b7, s6, c6, f6, b6, c5, f5, b5, c4, f4, b4, c3, f3, b3, c2, f2, b2, s1, c1, f1, b1, s0, f0, b0]
  exact bias_at m c t G g _ h

section Finals
variable (c : Dev nD) (Q K : ℕ → ℕ → ℝ) (hQ : ∀ i k, fQ m c i k = (Q i k : EReal)) (hK : ∀ i k, fK m c i k = (K i k : EReal))

include hQ hK in
/-- The gate's gradient, the whole array. -/
theorem final4 : (dats m 0 c).arrAt 4 cfg0.N = fun j : S4096x128.Idx => out Q K (fF m c) (fB m c) ((j 0).val / 2048) ((j 0).val % 2048) (j 1).val := by
  refine (dats m 0 c).arrAt_eq_of_covers 4 _ (by decide +kernel) fun t _ y => ?_
  have ho := outs m c t _ (fun p r h => grd_at m c Q K hQ hK t p r h) y
  blk_simp
  idx_vars y
  rw [after0_4]
  refine ho.trans ?_
  blk_simp [idx t]
  rw [show (t.val * 2048 + y0.val) / 2048 = t.val by omega, show (t.val * 2048 + y0.val) % 2048 = y0.val by omega]

include hQ hK in
/-- The bias's gradient, the whole array. -/
theorem final5 : (dats m 0 c).arrAt 5 cfg0.N = fun j : S1x128.Idx => ∑ t : Fin 2, ∑ n : Fin 2048, out Q K (fF m c) (fB m c) t.val n.val (j 1).val := by
  refine (dats m 0 c).arrAt_eq_of_after_last 5 t0_1 (by decide +kernel) _ fun j => ?_
  blk_simp
  idx_vars j
  obtain rfl : j0 = 0 := Subsingleton.elim _ _
  rw [after0_5, Pipeline.eq_sum_fin_of_reset_step_apply_last (fun n h => (outsAt0 m c n h).2) 2 (fun _ => 0)
    (fun t j => ∑ n : Fin 2048, out Q K (fF m c) (fB m c) t.val n.val (j 1).val)
    (fun t h j => by
      idx_vars j
      obtain rfl : j0 = 0 := Subsingleton.elim _ _
      exact last_A m c t h _ (fun p r h => grd_at m c Q K hQ hK t p r h) j1) (fun t h j => by
      idx_vars j
      obtain rfl : j0 = 0 := Subsingleton.elim _ _
      exact last_B m c t h _ (fun p r h => grd_at m c Q K hQ hK t p r h) j1)
    (le_of_eq N_0) t0_1 rfl _, zero_add]
  rfl
end Finals
end Kernel
end Cert.FoxDecay
-- ==== Proof.FoxDecayRef.lean ====
/- The forget gate's gradient: the reference at an index, and the claim. -/
module

public import proofs.«01_k».proof.Proof.FoxDecay

@[expose] public section

set_option maxRecDepth 16384

noncomputable section

namespace Cert.FoxDecay

open Idealize.ShloMosaic Idealize.ShloMosaic.TcCoe Idealize.SL.Sem

section Reference
open Cert.Reference2Ideal Cert.Reference2Ideal.Gen
variable (f : FVec Ideal S2x2048x8 .f32) (b : FVec Ideal S8 .f32) (q k : FVec Ideal S2x8x2048 .f32)

/-- The gate's input. -/
def xR : FVec Ideal S2x2048x8 .f32 := (addf f (broadcastInDim S2x2048x8 ![0, 1, 2] bcast_S1x1x8_S2x2048x8_0_1_2 (broadcastInDim S1x1x8 ![2] bcast_S8_S1x1x8_2 b)))
/-- The softplus as written. -/
def spR (z : FVec Ideal S2x2048x8 .f32) : FVec Ideal S2x2048x8 .f32 := (select (cmpf .une (subf z (broadcastInDim S2x2048x8 ![] bcast_S_S2x2048x8 (constant (F := Ideal) S_ .f32 0x00000000#32))) (subf z (broadcastInDim S2x2048x8 ![] bcast_S_S2x2048x8 (constant (F := Ideal) S_ .f32 0x00000000#32)))) (addf z (broadcastInDim S2x2048x8 ![] bcast_S_S2x2048x8 (constant (F := Ideal) S_ .f32 0x00000000#32))) (addf (maximumf z (broadcastInDim S2x2048x8 ![] bcast_S_S2x2048x8 (constant (F := Ideal) S_ .f32 0x00000000#32))) (Host.log1p (Host.exp (Host.negf (Host.absf (subf z (broadcastInDim S2x2048x8 ![] bcast_S_S2x2048x8 (constant (F := Ideal) S_ .f32 0x00000000#32)))))))))
/-- The derivative of the softplus as written. -/
def gR (z : FVec Ideal S2x2048x8 .f32) : FVec Ideal S2x2048x8 .f32 := (Host.exp (subf (select (cmpf .oeq z (broadcastInDim S2x2048x8 ![] bcast_S_S2x2048x8 (constant (F := Ideal) S_ .f32 0x7F800000#32))) (broadcastInDim S2x2048x8 ![] bcast_S_S2x2048x8 (constant (F := Ideal) S_ .f32 0x00000000#32)) z) (select (cmpf .oeq (spR z) (broadcastInDim S2x2048x8 ![] bcast_S_S2x2048x8 (constant (F := Ideal) S_ .f32 0x7F800000#32))) (broadcastInDim S2x2048x8 ![] bcast_S_S2x2048x8 (constant (F := Ideal) S_ .f32 0x00000000#32)) (spR z))))
/-- The running sum from the end. -/
def sR : FVec Ideal S2x2048x8 .f32 := (Host.reduceWindowAdd ![1, 2048, 1] ![1, 1, 1] ![0, 0, 0] ![0, 2047, 0] (transpose S2x2048x8 [0, 2, 1] (addf q k) transposes_S2x8x2048_S2x2048x8_0_2_1) (broadcastInDim S_ ![] bcast_S_S_ (constant (F := Ideal) S_ .f32 0x00000000#32)) reduceWindows_S2x2048x8_S2x2048x8_w1s1p0_0_w2048s1p0_2047_w1s1p0_0 h_S_)
/-- The gate's cotangent. -/
def dR : FVec Ideal S2x2048x8 .f32 := (Host.negf (mulf (Host.negf (sR q k)) (gR (Host.negf (xR f b)))))
def o0R : FVec Ideal S4096x128 .bf16 := truncf .bf16 (pad S4096x128 ![0, 0] ![0, 120] ![0, 0] (shapeCast _ (dR f b q k) shapeCasts_S2x2048x8_S4096x8) (sitofp .f32 (constantI S_ 32 0#32)) pads_S4096x8_S4096x128_000_01200 h_S_) bitsLt_bf16_f32
def o1R : FVec Ideal S1x128 .f32 := pad S1x128 ![0, 0] ![0, 120] ![0, 0] (broadcastInDim S1x8 ![1] bcast_S8_S1x8_1 (Host.reduceAdd (shapeCast _ (Host.reduceAdd (dR f b q k) (constant (F := Ideal) S_ .f32 0x00000000#32) reducesTo_S2x2048x8_S8_d0_1 h_S_) shapeCasts_S8_S1x1x8) (constant (F := Ideal) S_ .f32 0x00000000#32) reducesTo_S1x1x8_S8_d0_1 h_S_)) (sitofp .f32 (constantI S_ 32 0#32)) pads_S1x8_S1x128_000_01200 h_S_

theorem res0 (m : (ℓ : Loc nD τ sig) → Buf (Elt Ideal) ℓ) (c : Dev nD) (h0 : m ((c.tc : Thread nD τ).loc main_arg0) = f) (h1 : m ((c.tc : Thread nD τ).loc main_arg1) = b)
    (h2 : m ((c.tc : Thread nD τ).loc main_arg2) = q) (h3 : m ((c.tc : Thread nD τ).loc main_arg3) = k) : Value.res_out0 m c = o0R f b q k := by
  unfold Value.res_out0 Value.res_main_v15
  rw [h0, h1, h2, h3]
  rfl
theorem res1 (m : (ℓ : Loc nD τ sig) → Buf (Elt Ideal) ℓ) (c : Dev nD) (h0 : m ((c.tc : Thread nD τ).loc main_arg0) = f) (h1 : m ((c.tc : Thread nD τ).loc main_arg1) = b)
    (h2 : m ((c.tc : Thread nD τ).loc main_arg2) = q) (h3 : m ((c.tc : Thread nD τ).loc main_arg3) = k) : Value.res_out1 m c = o1R f b q k := by
  unfold Value.res_out1 Value.res_main_v17
  rw [h0, h1, h2, h3]
  rfl

theorem xR_at (a : Fin 2) (n : Fin 2048) (h : Fin 8) : xR f b (ix3 a n h) = f (ix3 a n h) + b (ix1 h) := by
  pointwise [xR]

/-- The softplus of a number. -/
def soft (z : EReal) : EReal := max z 0 + Ideal.log1p (Ideal.exp (-(max z (-z))))

theorem exp_bot : Ideal.exp ⊥ = 0 := rfl
theorem exp_top : Ideal.exp ⊤ = ⊤ := rfl
theorem exp_zero : Ideal.exp 0 = 1 := by
  rw [← EReal.coe_zero, Ideal.exp_coe, Real.exp_zero, EReal.coe_one]
theorem div_top : Ideal.div 1 ⊤ = 0 := by
  simp [Ideal.div]
theorem log_one : Ideal.log 1 = 0 := by
  have e : Ideal.log ((1 : ℝ) : EReal) = ((Real.log 1 : ℝ) : EReal) := (Ideal.log_coe 1).trans (if_neg (by norm_num))
  rwa [Real.log_one, EReal.coe_one, EReal.coe_zero] at e

theorem soft_real (r : ℝ) : soft (r : EReal) = (Real.log (1 + Real.exp r) : EReal) := by
  have l : ∀ s : ℝ, Ideal.log1p (Ideal.exp ((s : ℝ) : EReal)) = ((Real.log (1 + Real.exp s) : ℝ) : EReal) := fun s => by
    rw [Ideal.exp_coe]
    have := Real.exp_pos s
    exact (Ideal.log_coe (1 + Real.exp s)).trans (if_neg (by linarith))
  unfold soft
  rcases le_total r 0 with h | h
  · rw [max_eq_right (EReal.coe_nonpos.mpr h), ← EReal.coe_neg, max_eq_right (EReal.coe_le_coe_iff.mpr (by linarith)), ← EReal.coe_neg, neg_neg, l, zero_add]
  · rw [max_eq_left (EReal.coe_nonneg.mpr h), ← EReal.coe_neg, max_eq_left (EReal.coe_le_coe_iff.mpr (by linarith)), ← EReal.coe_neg, l, ← EReal.coe_add]
    refine congrArg _ ?_
    have e : 1 + Real.exp r = Real.exp r * (1 + Real.exp (-r)) := by
      rw [mul_add, mul_one, ← Real.exp_add, add_neg_cancel, Real.exp_zero, add_comm]
    rw [e, Real.log_mul (Real.exp_pos r).ne' (by positivity), Real.log_exp]

theorem gate_eq (x : EReal) : Ideal.exp ((if -x = ⊤ then 0 else -x) - (if soft (-x) = ⊤ then 0 else soft (-x))) = gate x := by
  induction x with
  | bot =>
    have e : soft ⊤ = ⊤ := by
      unfold soft Ideal.log1p
      rw [EReal.neg_top, max_eq_left bot_le, EReal.neg_top, exp_bot, add_zero, log_one, add_zero, max_eq_left le_top]
    rw [EReal.neg_bot, e, if_pos rfl, sub_zero, exp_zero, gate, exp_bot, add_zero, ← EReal.coe_one, Ideal.div_coe one_ne_zero, ← EReal.coe_mul]
    norm_num
  | top =>
    have e : soft ⊥ = 0 := by
      unfold soft Ideal.log1p
      rw [EReal.neg_bot, max_eq_right le_top, EReal.neg_top, exp_bot, add_zero, log_one, add_zero, max_eq_right bot_le]
    rw [EReal.neg_top, e, if_neg bot_ne_top, if_neg EReal.zero_ne_top, sub_zero, exp_bot, gate, exp_top]
    exact div_top.symm
  | coe r =>
    rw [← EReal.coe_neg, soft_real, if_neg (EReal.coe_ne_top _), if_neg (EReal.coe_ne_top _), ← EReal.coe_sub, Ideal.exp_coe]
    have h := Real.exp_pos r
    unfold gate
    rw [Ideal.exp_coe, ← EReal.coe_one, ← EReal.coe_add, Ideal.div_coe (by positivity), ← EReal.coe_mul]
    refine congrArg _ ?_
    rw [Real.exp_sub, Real.exp_log (by positivity), one_mul, Real.exp_neg]
    field_simp
    try ring

theorem gR_at (x : FVec Ideal S2x2048x8 .f32) (j0 : Fin 2) (j1 : Fin 2048) (j2 : Fin 8) : gR (Host.negf x) (ix3 j0 j1 j2) = gate (x (ix3 j0 j1 j2)) := by
  pointwise [gR, spR]
  simp only [ne_eq, not_true_eq_false, if_false, Fin.ofBits_inf]
  exact gate_eq _
theorem sR_at (u : ℕ → ℝ) (a : Fin 2) (n : Fin 2048) (h : Fin 8) (hu : ∀ i : Fin 2048, q (ix3 a h i) + k (ix3 a h i) = (u i.val : EReal)) : sR q k (ix3 a n h) = (sfx u n.val : EReal) := by
  unfold sR
  refine (Fin.cumsum3_rev (by norm_num) _ _ _ _ (by pointwise) a n h).trans ?_
  pointwise
  simp only [hu, sfx]
  refine (Finset.sum_congr rfl fun x _ => show (if n ≤ x then (u x.val : EReal) else 0) = ((if n.val ≤ x.val then u x.val else 0 : ℝ) : EReal) from ?_).trans ((Fin.coe_sum _).trans (congrArg _ ?_))
  · by_cases e : n ≤ x
    · rw [if_pos e, if_pos (show n.val ≤ x.val from e)]
    · rw [if_neg e, if_neg (show ¬ n.val ≤ x.val from e), EReal.coe_zero]
  · rw [Fin.sum_univ_eq_sum_range (fun i => if n.val ≤ i then u i else 0) 2048, ← Finset.sum_filter]
    refine Finset.sum_congr (Finset.ext fun i => ?_) fun _ _ => rfl
    simp only [Finset.mem_filter, Finset.mem_range, Finset.mem_Ico]
    omega
theorem dR_at (Q K : ℕ → ℕ → ℝ) (hQ : ∀ i e, Fin.flat3 q i e = (Q i e : EReal)) (hK : ∀ i e, Fin.flat3 k i e = (K i e : EReal)) (a : Fin 2) (n : Fin 2048) (h : Fin 8) :
    dR f b q k (ix3 a n h) = out Q K (Fin.flat3 f) (Fin.flat1 b) a.val n.val h.val := by
  pointwise [dR]
  rw [gR_at, xR_at, sR_at q k (both Q K a.val h.val) a n h fun i => by
    rw [Fin.flat3_row q, Fin.flat3_row k, hQ, hK, both, if_pos h.isLt, EReal.coe_add]]
  unfold out
  rw [if_pos h.isLt, EReal.neg_mul, neg_neg, Fin.flat3_row f, Fin.flat1_fin b]
section Values
variable (Q K : ℕ → ℕ → ℝ) (hQ : ∀ i e, Fin.flat3 q i e = (Q i e : EReal)) (hK : ∀ i e, Fin.flat3 k i e = (K i e : EReal))

theorem pad_word : (FloatOps.sitofp FTy.f32 (0#32) : Ideal .f32) = 0 := by
  show ((((0#32 : BitVec 32).toInt : ℝ)) : EReal) = 0
  simp

theorem out_high (F : ℕ → ℕ → EReal) (B : ℕ → EReal) (t n h : ℕ) (e : ¬ h < 8) : out Q K F B t n h = 0 := if_neg e

include hQ hK in
theorem o0_at (i : Fin 4096) (h : Fin 128) : o0R f b q k (ix2 i h) = out Q K (Fin.flat3 f) (Fin.flat1 b) (i.val / 2048) (i.val % 2048) h.val := by
  pointwise [o0R]
  by_cases e : h.val < 8
  · rw [dif_pos e]
    exact dR_at f b q k Q K hQ hK ⟨i.val / 2048, by omega⟩ ⟨i.val % 2048, by omega⟩ ⟨h.val, e⟩
  · rw [dif_neg e, out_high _ _ _ _ _ _ _ e]
    exact pad_word

include hQ hK in
theorem o1_at (h : Fin 128) : o1R f b q k (ix2 0 h) = ∑ t : Fin 2, ∑ n : Fin 2048, out Q K (Fin.flat3 f) (Fin.flat1 b) t.val n.val h.val := by
  pointwise [o1R]
  by_cases e : h.val < 8
  · rw [dif_pos e, Fin.hostReduceAdd_r3_a01, zero_add, Fin.sum_univ_one, Fin.sum_univ_one]
    pointwise
    rw [Fin.hostReduceAdd_r3_a01, zero_add]
    exact Finset.sum_congr rfl fun t _ => Finset.sum_congr rfl fun n _ => dR_at f b q k Q K hQ hK t n ⟨h.val, e⟩
  · rw [dif_neg e]
    simp only [out_high _ _ _ _ _ _ _ e, Finset.sum_const_zero]
    exact pad_word
end Values
end Reference

open Cert in
/-- The cotangents are real numbers. -/
theorem args_real (f : FVec Ideal Pre_fox_decay_finite.S2x2048x8 .f32) (b : FVec Ideal Pre_fox_decay_finite.S8 .f32) (q k : FVec Ideal Pre_fox_decay_finite.S2x8x2048 .f32)
    (h : Pre_fox_decay_finite.fn f b q k (fun a => a.elim0) = 1#1) : (∀ i, ∃ r : ℝ, q i = (r : EReal)) ∧ ∀ i, ∃ r : ℝ, k i = (r : EReal) := by
  have h1 := IntOp.andi_eq_one.1 h
  exact ⟨fun i => Fin.real_of_abs_lt q _ i (Host.reduce_andi_all _ _ _ _ _ h1.1 i), fun i => Fin.real_of_abs_lt k _ i (Host.reduce_andi_all _ _ _ _ _ h1.2 i)⟩

set_option maxHeartbeats 4000000 in
/-- The two programs agree. -/
theorem holds : Cert.algebraic_Kernel2Ideal_Reference2Ideal_pre_fox_decay_finite := by
  intro m ρ m' ρ' hpre hagree
  refine ⟨_, _, Cert.Kernel2Ideal.Value.run_blocks (F := Ideal) m ρ, ?_⟩
  refine (θ_run Cert.Reference2Ideal.defs _ _).mono (fun _ h c => ⟨?_, ?_, (h c).2.2⟩) (Cert.Reference2Ideal.Value.run (F := Ideal) m' ρ')
  all_goals
    have hr := args_real _ _ _ _ (congrFun (hpre c) fun a => a.elim0)
    obtain ⟨Q, hQ⟩ := Fin.flat3_real _ hr.1
    obtain ⟨K, hK⟩ := Fin.flat3_real _ hr.2
    obtain ⟨e0, e1, e2, e3⟩ := hagree c
  · rw [(h c).1, final4 m c Q K hQ hK]
    funext j
    idx_vars j
    exact (congrFun (res0 _ _ _ _ m' c e0 e1 e2 e3) _).trans (o0_at _ _ _ _ Q K hQ hK j0 j1)
  · rw [(h c).2.1, final5 m c Q K hQ hK]
    funext j
    idx_vars j
    obtain rfl : j0 = 0 := Subsingleton.elim _ _
    exact (congrFun (res1 _ _ _ _ m' c e0 e1 e2 e3) _).trans (o1_at _ _ _ _ Q K hQ hK j1)

end Cert.FoxDecay
-- ==== Proof.InProj.lean ====
/- The input projection's gradient with the norm's: both programs at an index. -/
module

public import proofs.«01_k».proof.Defs
public import proofs.«01_k».proof.Proof.Gen.Pre_in_proj_finite
public import proofs.«01_k».proof.Proof.Gen.Kernel3Ideal.Value
public import proofs.«01_k».proof.Proof.Gen.Reference3Ideal.Run
public import proofs.«01_k».proof.Proof.Lib
public import Idealize.ShloMosaic.Lib.Pipeline.ValueKit
public import Idealize.ShloMosaic.Lib.StableHlo.ReadAt

@[expose] public section

set_option maxRecDepth 16384

noncomputable section

namespace Cert.InProj

open Idealize.ShloMosaic Idealize.ShloMosaic.TcCoe Idealize.SL.Sem

/-- A sum of 3592 terms by the kernel's eight pieces. -/
theorem sum_pieces (P : ℕ → EReal) :
    (∑ x : Fin 128, if x.val < 8 then P (3584 + x.val) else 0) + (∑ x : Fin 512, P x.val) + (∑ x : Fin 512, P (512 + x.val)) + (∑ x : Fin 512, P (1024 + x.val))
      + (∑ x : Fin 512, P (1536 + x.val)) + (∑ x : Fin 512, P (2048 + x.val)) + (∑ x : Fin 512, P (2560 + x.val)) + (∑ x : Fin 512, P (3072 + x.val))
      = ∑ e : Fin 3592, P e.val := by
  rw [Fin.sum_univ_eq_sum_range (fun x => if x < 8 then P (3584 + x) else 0) 128, Fin.sum_univ_eq_sum_range P 512, Fin.sum_univ_eq_sum_range P 3592]
  simp only [fun o => Fin.sum_univ_eq_sum_range (fun x => P (o + x)) 512]
  have h8 : (∑ x ∈ Finset.range 128, if x < 8 then P (3584 + x) else 0) = ∑ x ∈ Finset.range 8, P (3584 + x) := by
    rw [show (128 : ℕ) = 8 + 120 from rfl, Finset.sum_range_add]
    rw [Finset.sum_congr rfl fun x hx => if_pos (Finset.mem_range.mp hx), Finset.sum_eq_zero fun x _ => if_neg (by omega), add_zero]
  rw [h8, show (3592 : ℕ) = 512 + 512 + 512 + 512 + 512 + 512 + 512 + 8 from rfl]
  simp only [Finset.sum_range_add]
  simp only [Nat.reduceAdd]
  abel

section Kernel
open Cert.Kernel3Ideal Cert.Kernel3Ideal.Gen

/-- The eight products summed: one row of the normalised input's gradient. -/
theorem dh_point (f : FVec Ideal S512x128 .bf16) (wf : FVec Ideal S128x1024 .bf16) (a0 a1 b q k v g : FVec Ideal S512x512 .bf16)
    (w0 w1 wb wq wk wv wg : FVec Ideal S512x1024 .bf16) (r : Fin 512) (d : Fin 1024) (P W : ℕ → EReal)
    (hf : ∀ x, f (ix2 r x) = if x.val < 8 then P (3584 + x.val) else 0) (hwf : ∀ x, wf (ix2 x d) = if x.val < 8 then W (3584 + x.val) else 0)
    (h0 : ∀ x, a0 (ix2 r x) = P x.val) (h1 : ∀ x, a1 (ix2 r x) = P (512 + x.val)) (hb : ∀ x, b (ix2 r x) = P (1024 + x.val))
    (hq : ∀ x, q (ix2 r x) = P (1536 + x.val)) (hk : ∀ x, k (ix2 r x) = P (2048 + x.val)) (hv : ∀ x, v (ix2 r x) = P (2560 + x.val))
    (hg : ∀ x, g (ix2 r x) = P (3072 + x.val)) (hw0 : ∀ x, w0 (ix2 x d) = W x.val) (hw1 : ∀ x, w1 (ix2 x d) = W (512 + x.val))
    (hwb : ∀ x, wb (ix2 x d) = W (1024 + x.val)) (hwq : ∀ x, wq (ix2 x d) = W (1536 + x.val)) (hwk : ∀ x, wk (ix2 x d) = W (2048 + x.val))
    (hwv : ∀ x, wv (ix2 x d) = W (2560 + x.val)) (hwg : ∀ x, wg (ix2 x d) = W (3072 + x.val)) :
    k0_pay5 (F := Ideal) (k0_pay3 f wf a0 w0 a1 w1 b wb) (k0_pay4 q wq) k wk v wv g wg (ix2 r d) = ∑ e : Fin 3592, P e.val * W e.val := by
  pointwise [k0_pay5, k0_pay3, k0_pay4]
  rw [← sum_pieces fun e => P e * W e]
  simp only [hf, hwf, h0, h1, hb, hq, hk, hv, hg, hw0, hw1, hwb, hwq, hwk, hwv, hwg]
  simp only [ite_mul, zero_mul, mul_ite, mul_zero, ← ite_and, and_self]

/-- One entry of the input's gradient, from a row of real numbers. -/
theorem dx_point (dh x cx : FVec Ideal S512x1024 .f32) (g : FVec Ideal S1x1024 .f32) (r : Fin 512) (d : Fin 1024) (e : ℝ) (he : 0 < e)
    (hE : Ideal.ofBits .f32 0x358637BD#32 = (e : EReal)) (X D G : Fin 1024 → ℝ) (hx : ∀ k, x (ix2 r k) = (X k : EReal)) (hd : ∀ k, dh (ix2 r k) = (D k : EReal))
    (hg : ∀ k, g (ix2 0 k) = (G k : EReal)) :
    k0_pay1 (F := Ideal) dh (k0_pay7 x) (k0_pay8 x) cx g (ix2 r d) = cx (ix2 r d) + (Fin.rmsBack X (fun k => D k * G k) e 1024 d : EReal) := by
  pointwise [k0_pay1, k0_pay7, k0_pay8, k0_pay6]
  have h := Fin.rms_pos X e 1024 he (by norm_num)
  simp only [hx, hd, hg, hE, Fin.ofBits_1024, ← EReal.coe_mul, Fin.coe_sum, Ideal.div_coe (show (1024 : ℝ) ≠ 0 by norm_num), ← EReal.coe_add, Fin.rsqrt_pos h, ← EReal.coe_sub]
  rfl

/-- One entry of the scale's gradient at one block of rows. -/
theorem dg_point (f wf a0 w0 a1 w1 b wb q wq k wk v wv g wg) (x : FVec Ideal S512x1024 .f32) (acc : FVec Ideal S1x1024 .f32) (d : Fin 1024) (e : ℝ) (he : 0 < e)
    (hE : Ideal.ofBits .f32 0x358637BD#32 = (e : EReal)) (X : ℕ → Fin 1024 → ℝ) (D : ℕ → ℝ) (hx : ∀ r k, x (ix2 r k) = (X r.val k : EReal))
    (hd : ∀ r, k0_pay5 (F := Ideal) (k0_pay3 f wf a0 w0 a1 w1 b wb) (k0_pay4 q wq) k wk v wv g wg (ix2 r d) = (D r.val : EReal)) :
    k0_pay9 (F := Ideal) (k0_pay3 f wf a0 w0 a1 w1 b wb) (k0_pay4 q wq) k wk v wv g wg x acc (ix2 0 d)
      = acc (ix2 0 d) + ∑ r : Fin 512, ((D r.val * (X r.val d * (√((∑ k, X r.val k * X r.val k) * (1 / 1024) + e))⁻¹) : ℝ) : EReal) := by
  unfold k0_pay9
  generalize k0_pay5 (F := Ideal) (k0_pay3 f wf a0 w0 a1 w1 b wb) (k0_pay4 q wq) k wk v wv g wg = dh at hd ⊢
  pointwise [k0_pay7, k0_pay8, k0_pay6]
  refine congrArg _ (Finset.sum_congr rfl fun r _ => ?_)
  have h := Fin.rms_pos (X r.val) e 1024 he (by norm_num)
  simp only [hx, hd, hE, Fin.ofBits_1024, ← EReal.coe_mul, Fin.coe_sum, Ideal.div_coe (show (1024 : ℝ) ≠ 0 by norm_num), ← EReal.coe_add, Fin.rsqrt_pos h]

variable (m : (ℓ : Loc nD τ sig) → Buf (Elt Ideal) ℓ)

/-- The projection's cotangent by rows. -/
abbrev ct (c : Dev nD) : ℕ → ℕ → EReal := Fin.flat3 (show FVec Ideal S2x2048x3592 .f32 from m ((c.tc : Thread nD τ).loc main_arg4))
/-- The weights. -/
abbrev wt (c : Dev nD) : ℕ → ℕ → EReal := Fin.flat2 (show FVec Ideal S1024x3592 .f32 from m ((c.tc : Thread nD τ).loc main_arg2))

theorem op2 (c : Dev nD) (j : S4096x1024.Idx) : V m c main_v2 j = ct m c (j 0).val (j 1).val := by
  unfold V
  after_reads_at
  exact Fin.flat3_eq _ _ _ _ _ _

theorem op3 (c : Dev nD) (j : S4096x512.Idx) : V m c main_v3 j = ct m c (j 0).val (1024 + (j 1).val) := by
  unfold V
  after_reads_at
  exact Fin.flat3_eq _ _ _ _ _ _

theorem op4 (c : Dev nD) (j : S4096x512.Idx) : V m c main_v4 j = ct m c (j 0).val (1536 + (j 1).val) := by
  unfold V
  after_reads_at
  exact Fin.flat3_eq _ _ _ _ _ _

theorem op5 (c : Dev nD) (j : S4096x512.Idx) : V m c main_v5 j = ct m c (j 0).val (2048 + (j 1).val) := by
  unfold V
  after_reads_at
  exact Fin.flat3_eq _ _ _ _ _ _

theorem op6 (c : Dev nD) (j : S4096x512.Idx) : V m c main_v6 j = ct m c (j 0).val (2560 + (j 1).val) := by
  unfold V
  after_reads_at
  exact Fin.flat3_eq _ _ _ _ _ _

theorem op7 (c : Dev nD) (j : S4096x512.Idx) : V m c main_v7 j = ct m c (j 0).val (3072 + (j 1).val) := by
  unfold V
  after_reads_at
  exact Fin.flat3_eq _ _ _ _ _ _

theorem zero_word : (FloatOps.sitofp FTy.bf16 (0#32) : Ideal .bf16) = 0 := by
  show ((((0#32 : BitVec 32).toInt : ℝ)) : EReal) = 0
  simp

theorem op9 (c : Dev nD) (j : S4096x128.Idx) : V m c main_v9 j = if (j 1).val < 8 then ct m c (j 0).val (3584 + (j 1).val) else 0 := by
  unfold V
  after_reads_at
  split
  · exact Fin.flat3_eq _ _ _ _ _ _
  · exact zero_word

theorem op13 (c : Dev nD) (j : S128x1024.Idx) : V m c main_v13 j = if (j 0).val < 8 then wt m c (j 1).val (3584 + (j 0).val) else 0 := by
  unfold V
  after_reads_at
  split
  · exact Fin.flat2_eq _ _ _ _ _
  · exact zero_word

theorem op14 (c : Dev nD) (j : S3584x1024.Idx) : V m c main_v14 j = wt m c (j 1).val (j 0).val := by
  unfold V
  after_reads_at
  exact Fin.flat2_eq _ _ _ _ _

theorem op15 (c : Dev nD) (j : S4096x1024.Idx) :
    V m c main_v15 j = Fin.flat3 (show FVec Ideal S2x2048x1024 .f32 from m ((c.tc : Thread nD τ).loc main_arg0)) (j 0).val (j 1).val := by
  unfold V
  after_reads_at
  exact Fin.flat3_eq _ _ _ _ _ _

theorem op16 (c : Dev nD) (j : S1x1024.Idx) :
    V m c main_v16 j = Fin.flat1 (show FVec Ideal S1024 .f32 from m ((c.tc : Thread nD τ).loc main_arg1)) (j 1).val := by
  unfold V
  after_reads_at
  exact Fin.flat1_fin _ _

theorem op17 (c : Dev nD) (j : S4096x1024.Idx) :
    V m c main_v17 j = Fin.flat3 (show FVec Ideal S2x2048x1024 .f32 from m ((c.tc : Thread nD τ).loc main_arg3)) (j 0).val (j 1).val := by
  unfold V
  after_reads_at
  exact Fin.flat3_eq _ _ _ _ _ _

theorem idx : ∀ t : Fin cfg0.N, (win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]) ∧ win0_7.index t = ![0, 0] ∧ win0_8.index t = ![0, 0]
    ∧ win0_9.index t = ![t.val, 0] ∧ win0_10.index t = ![0, 0] ∧ win0_11.index t = ![t.val, 0] ∧ win0_12.index t = ![t.val, 0] ∧ win0_13.index t = ![0, 0] :=
  (by decide +kernel : ∀ t : Fin grid0.N, _)

theorem blk0 (c : Dev nD) (t : Fin cfg0.N) (r : Fin 512) (x : Fin 1024) :
    (show FVec Ideal S512x1024 .bf16 from iblk m c 0 t) (ix2 r x) = ct m c (t.val * 512 + r.val) x.val := by
  unfold iblk
  blk_simp
  rw [op2]
  blk_simp [idx t]

theorem blk1 (c : Dev nD) (t : Fin cfg0.N) (r : Fin 512) (x : Fin 512) :
    (show FVec Ideal S512x512 .bf16 from iblk m c 1 t) (ix2 r x) = ct m c (t.val * 512 + r.val) (1024 + x.val) := by
  unfold iblk
  blk_simp
  rw [op3]
  blk_simp [idx t]

theorem blk2 (c : Dev nD) (t : Fin cfg0.N) (r : Fin 512) (x : Fin 512) :
    (show FVec Ideal S512x512 .bf16 from iblk m c 2 t) (ix2 r x) = ct m c (t.val * 512 + r.val) (1536 + x.val) := by
  unfold iblk
  blk_simp
  rw [op4]
  blk_simp [idx t]

theorem blk3 (c : Dev nD) (t : Fin cfg0.N) (r : Fin 512) (x : Fin 512) :
    (show FVec Ideal S512x512 .bf16 from iblk m c 3 t) (ix2 r x) = ct m c (t.val * 512 + r.val) (2048 + x.val) := by
  unfold iblk
  blk_simp
  rw [op5]
  blk_simp [idx t]

theorem blk4 (c : Dev nD) (t : Fin cfg0.N) (r : Fin 512) (x : Fin 512) :
    (show FVec Ideal S512x512 .bf16 from iblk m c 4 t) (ix2 r x) = ct m c (t.val * 512 + r.val) (2560 + x.val) := by
  unfold iblk
  blk_simp
  rw [op6]
  blk_simp [idx t]

theorem blk5 (c : Dev nD) (t : Fin cfg0.N) (r : Fin 512) (x : Fin 512) :
    (show FVec Ideal S512x512 .bf16 from iblk m c 5 t) (ix2 r x) = ct m c (t.val * 512 + r.val) (3072 + x.val) := by
  unfold iblk
  blk_simp
  rw [op7]
  blk_simp [idx t]

theorem blk6 (c : Dev nD) (t : Fin cfg0.N) (r : Fin 512) (x : Fin 128) :
    (show FVec Ideal S512x128 .bf16 from iblk m c 6 t) (ix2 r x) = if x.val < 8 then ct m c (t.val * 512 + r.val) (3584 + x.val) else 0 := by
  unfold iblk
  blk_simp
  rw [op9]
  blk_simp [idx t]

theorem blk7 (c : Dev nD) (t : Fin cfg0.N) (r : Fin 3584) (x : Fin 1024) :
    (show FVec Ideal S3584x1024 .bf16 from iblk m c 7 t) (ix2 r x) = wt m c x.val r.val := by
  unfold iblk
  blk_simp
  rw [op14]
  blk_simp [idx t]

theorem blk8 (c : Dev nD) (t : Fin cfg0.N) (r : Fin 128) (x : Fin 1024) :
    (show FVec Ideal S128x1024 .bf16 from iblk m c 8 t) (ix2 r x) = if r.val < 8 then wt m c x.val (3584 + r.val) else 0 := by
  unfold iblk
  blk_simp
  rw [op13]
  blk_simp [idx t]

theorem blk9 (c : Dev nD) (t : Fin cfg0.N) (r : Fin 512) (x : Fin 1024) :
    (show FVec Ideal S512x1024 .f32 from iblk m c 9 t) (ix2 r x) = Fin.flat3 (show FVec Ideal S2x2048x1024 .f32 from m ((c.tc : Thread nD τ).loc main_arg0)) (t.val * 512 + r.val) x.val := by
  unfold iblk
  blk_simp
  rw [op15]
  blk_simp [idx t]

theorem blk10 (c : Dev nD) (t : Fin cfg0.N) (r : Fin 1) (x : Fin 1024) :
    (show FVec Ideal S1x1024 .f32 from iblk m c 10 t) (ix2 r x) = Fin.flat1 (show FVec Ideal S1024 .f32 from m ((c.tc : Thread nD τ).loc main_arg1)) x.val := by
  unfold iblk
  blk_simp
  rw [op16]
  blk_simp [idx t]

theorem blk11 (c : Dev nD) (t : Fin cfg0.N) (r : Fin 512) (x : Fin 1024) :
    (show FVec Ideal S512x1024 .f32 from iblk m c 11 t) (ix2 r x) = Fin.flat3 (show FVec Ideal S2x2048x1024 .f32 from m ((c.tc : Thread nD τ).loc main_arg3)) (t.val * 512 + r.val) x.val := by
  unfold iblk
  blk_simp
  rw [op17]
  blk_simp [idx t]

/-- The blocks of one point, as the body reads them, give a row of the normalised input's gradient. -/
def dh (c : Dev nD) (t : Fin cfg0.N) : FVec Ideal S512x1024 .f32 :=
  k0_pay5 (k0_pay3 (iblk m c 6 t) (iblk m c 8 t)
          (View.ld (iblk m c 0 t) (Rect.unit ![0, 0] ![512, 512] inb_S512x1024_S512x512_0_0))
          (View.ld (iblk m c 7 t) (Rect.unit ![0, 0] ![512, 1024] inb_S3584x1024_S512x1024_0_0))
          (View.ld (iblk m c 0 t) (Rect.unit ![0, 512] ![512, 512] inb_S512x1024_S512x512_0_512))
          (View.ld (iblk m c 7 t) (Rect.unit ![512, 0] ![512, 1024] inb_S3584x1024_S512x1024_512_0)) (iblk m c 1 t)
          (View.ld (iblk m c 7 t) (Rect.unit ![1024, 0] ![512, 1024] inb_S3584x1024_S512x1024_1024_0)))
        (k0_pay4 (iblk m c 2 t)
          (View.ld (iblk m c 7 t) (Rect.unit ![1536, 0] ![512, 1024] inb_S3584x1024_S512x1024_1536_0)))
        (iblk m c 3 t) (View.ld (iblk m c 7 t) (Rect.unit ![2048, 0] ![512, 1024] inb_S3584x1024_S512x1024_2048_0))
        (iblk m c 4 t) (View.ld (iblk m c 7 t) (Rect.unit ![2560, 0] ![512, 1024] inb_S3584x1024_S512x1024_2560_0))
        (iblk m c 5 t) (View.ld (iblk m c 7 t) (Rect.unit ![3072, 0] ![512, 1024] inb_S3584x1024_S512x1024_3072_0))

theorem dh_at (c : Dev nD) (t : Fin cfg0.N) (r : Fin 512) (d : Fin 1024) :
    dh m c t (ix2 r d) = ∑ e : Fin 3592, ct m c (t.val * 512 + r.val) e.val * wt m c d.val e.val := by
  refine dh_point _ _ _ _ _ _ _ _ _ _ _ _ _ _ _ _ r d (ct m c (t.val * 512 + r.val)) (wt m c d.val) (blk6 m c t r) (fun x => blk8 m c t x d) ?_ ?_ (blk1 m c t r) (blk2 m c t r)
    (blk3 m c t r) (blk4 m c t r) (blk5 m c t r) ?_ ?_ ?_ ?_ ?_ ?_ ?_ <;> intro x <;> pointwise
  · exact blk0 m c t r ⟨x.val, by omega⟩
  · exact blk0 m c t r ⟨512 + x.val, by omega⟩
  · exact blk7 m c t ⟨x.val, by omega⟩ d
  · exact blk7 m c t ⟨512 + x.val, by omega⟩ d
  · exact blk7 m c t ⟨1024 + x.val, by omega⟩ d
  · exact blk7 m c t ⟨1536 + x.val, by omega⟩ d
  · exact blk7 m c t ⟨2048 + x.val, by omega⟩ d
  · exact blk7 m c t ⟨2560 + x.val, by omega⟩ d
  · exact blk7 m c t ⟨3072 + x.val, by omega⟩ d

theorem out12 (c : Dev nD) (t : Fin cfg0.N) :
    (outsAt0 m c t.val t.isLt).1 = k0_pay1 (dh m c t) (k0_pay7 (iblk m c 9 t)) (k0_pay8 (iblk m c 9 t)) (iblk m c 11 t) (iblk m c 10 t) := by
  by_cases h0 : t.val % 8 = 0
  · rw [outsAt0_A m c t h0]
    dsimp only
    frame_out
    rfl
  · rw [outsAt0_B m c t h0]
    dsimp only
    frame_out
    rfl

section Reals
variable (c : Dev nD) (e : ℝ) (he : 0 < e) (hE : Ideal.ofBits .f32 0x358637BD#32 = (e : EReal)) (X P W : ℕ → ℕ → ℝ) (G : ℕ → ℝ)
  (hX : ∀ i k, Fin.flat3 (show FVec Ideal S2x2048x1024 .f32 from m ((c.tc : Thread nD τ).loc main_arg0)) i k = (X i k : EReal))
  (hP : ∀ i k, ct m c i k = (P i k : EReal)) (hW : ∀ i k, wt m c i k = (W i k : EReal))
  (hG : ∀ k, Fin.flat1 (show FVec Ideal S1024 .f32 from m ((c.tc : Thread nD τ).loc main_arg1)) k = (G k : EReal))
include hX hP hW he hE

theorem dh_real (t : Fin cfg0.N) (r : Fin 512) (d : Fin 1024) :
    dh m c t (ix2 r d) = ((∑ e : Fin 3592, P (t.val * 512 + r.val) e.val * W d.val e.val : ℝ) : EReal) := by
  rw [dh_at]
  simp only [hP, hW, ← EReal.coe_mul, Fin.coe_sum]

include hG in
/-- The input's gradient, the whole array. -/
theorem final12 : (dats m 0 c).arrAt 12 cfg0.N = fun j : S4096x1024.Idx =>
    Fin.flat3 (show FVec Ideal S2x2048x1024 .f32 from m ((c.tc : Thread nD τ).loc main_arg3)) (j 0).val (j 1).val
      + (Fin.rmsBack (fun k : Fin 1024 => X (j 0).val k.val) (fun k => (∑ e : Fin 3592, P (j 0).val e.val * W k.val e.val) * G k.val) e 1024 (j 1) : EReal) := by
  refine (dats m 0 c).arrAt_eq_of_covers 12 _ (by decide +kernel) fun t hf y => ?_
  blk_simp [idx t]
  rw [after0_12, out12]
  idx_vars y
  refine (dx_point (dh m c t) _ _ _ y0 y1 e he hE (fun k => X (t.val * 512 + y0.val) k.val) (fun k => ∑ e : Fin 3592, P (t.val * 512 + y0.val) e.val * W k.val e.val) (fun k => G k.val)
    (fun k => (blk9 m c t y0 k).trans (hX _ _)) (dh_real m c e he hE X P W hX hP hW t y0) (fun k => (blk10 m c t 0 k).trans (hG _))).trans ?_
  refine congrArg₂ (· + ·) (blk11 m c t y0 y1) (congrArg (fun k => ((Fin.rmsBack _ _ e 1024 k : ℝ) : EReal)) ?_)
  exact Fin.ext (by blk_simp [idx t])

/-- What one tile adds to the scale's gradient. -/
def part (t : ℕ) (d : Fin 1024) : ℝ :=
  ∑ r : Fin 512, (∑ e : Fin 3592, P (t * 512 + r.val) e.val * W d.val e.val)
    * (X (t * 512 + r.val) d.val * (√((∑ k : Fin 1024, X (t * 512 + r.val) k.val * X (t * 512 + r.val) k.val) * (1 / 1024) + e))⁻¹)

theorem dg_step (t : Fin cfg0.N) (acc : FVec Ideal S1x1024 .f32) (d : Fin 1024) :
    k0_pay9 (F := Ideal) (k0_pay3 (iblk m c 6 t) (iblk m c 8 t)
          (View.ld (iblk m c 0 t) (Rect.unit ![0, 0] ![512, 512] inb_S512x1024_S512x512_0_0))
          (View.ld (iblk m c 7 t) (Rect.unit ![0, 0] ![512, 1024] inb_S3584x1024_S512x1024_0_0))
          (View.ld (iblk m c 0 t) (Rect.unit ![0, 512] ![512, 512] inb_S512x1024_S512x512_0_512))
          (View.ld (iblk m c 7 t) (Rect.unit ![512, 0] ![512, 1024] inb_S3584x1024_S512x1024_512_0)) (iblk m c 1 t)
          (View.ld (iblk m c 7 t) (Rect.unit ![1024, 0] ![512, 1024] inb_S3584x1024_S512x1024_1024_0)))
        (k0_pay4 (iblk m c 2 t)
          (View.ld (iblk m c 7 t) (Rect.unit ![1536, 0] ![512, 1024] inb_S3584x1024_S512x1024_1536_0)))
        (iblk m c 3 t) (View.ld (iblk m c 7 t) (Rect.unit ![2048, 0] ![512, 1024] inb_S3584x1024_S512x1024_2048_0))
        (iblk m c 4 t) (View.ld (iblk m c 7 t) (Rect.unit ![2560, 0] ![512, 1024] inb_S3584x1024_S512x1024_2560_0))
        (iblk m c 5 t) (View.ld (iblk m c 7 t) (Rect.unit ![3072, 0] ![512, 1024] inb_S3584x1024_S512x1024_3072_0))
      (iblk m c 9 t) acc (ix2 0 d) = acc (ix2 0 d) + ((part e X P W t.val d : ℝ) : EReal) :=
  (dg_point _ _ _ _ _ _ _ _ _ _ _ _ _ _ _ _ (iblk m c 9 t) acc d e he hE
    (fun r k => X (t.val * 512 + r) k.val) (fun r => ∑ e : Fin 3592, P (t.val * 512 + r) e.val * W d.val e.val)
    (fun r k => (blk9 m c t r k).trans (hX _ _)) (fun r => dh_real m c e he hE X P W hX hP hW t r d)).trans
    (congrArg (acc (ix2 0 d) + ·) (Fin.coe_sum _))

/-- The scale's gradient, the whole array. -/
theorem final13 : (dats m 0 c).arrAt 13 cfg0.N = fun j : S1x1024.Idx => ((∑ t : Fin 8, part e X P W t.val (j 1) : ℝ) : EReal) := by
  refine (dats m 0 c).arrAt_eq_of_after_last 13 t0_7 (by decide +kernel) _ fun j => ?_
  have hs := dg_step m c e he hE X P W hX hP hW
  blk_simp
  idx_vars j
  obtain rfl : j0 = 0 := Subsingleton.elim _ _
  rw [after0_13, Pipeline.eq_sum_fin_of_reset_step_apply_last (fun n h => (outsAt0 m c n h).2) 8 (fun _ => 0) (fun t j => ((part e X P W t.val (j 1) : ℝ) : EReal))
    (fun t h j => by
      rw [outsAt0_A m c t h]
      idx_vars j
      obtain rfl : j0 = 0 := Subsingleton.elim _ _
      frame_out
      refine (hs t _ j1).trans (congrArg (· + _) ?_)
      pointwise [k0_pay2]) (fun t h j => by
      rw [outsAt0_B m c t h]
      idx_vars j
      obtain rfl : j0 = 0 := Subsingleton.elim _ _
      frame_out
      exact hs t _ j1)
    (le_of_eq N_0) t0_7 rfl _, zero_add]
  exact Fin.coe_sum _
end Reals

end Kernel

section Reference
open Cert.Reference3Ideal
theorem ref_at (m : (ℓ : Loc nD τ sig) → Buf (Elt Ideal) ℓ) (c : Dev nD) (x : FVec Ideal S2x2048x1024 .f32) (g : FVec Ideal S1024 .f32) (w : FVec Ideal S1024x3592 .f32) (cx : FVec Ideal S2x2048x1024 .f32) (cp : FVec Ideal S2x2048x3592 .f32)
    (hx : m ((c.tc : Thread nD τ).loc main_arg0) = x) (hg : m ((c.tc : Thread nD τ).loc main_arg1) = g)
    (hw : m ((c.tc : Thread nD τ).loc main_arg2) = w) (hcx : m ((c.tc : Thread nD τ).loc main_arg3) = cx) (hcp : m ((c.tc : Thread nD τ).loc main_arg4) = cp)
    (e : ℝ) (he : 0 < e) (hE : Ideal.ofBits .f32 0x358637BD#32 = (e : EReal)) (X P W : ℕ → ℕ → ℝ) (G : ℕ → ℝ)
    (hX : ∀ i k, Fin.flat3 x i k = (X i k : EReal))
    (hP : ∀ i k, Fin.flat3 cp i k = (P i k : EReal)) (hW : ∀ i k, Fin.flat2 w i k = (W i k : EReal)) (hG : ∀ k, Fin.flat1 g k = (G k : EReal)) (i : Fin 4096) (d : Fin 1024) :
    (show FVec Ideal S4096x1024 .f32 from Value.res_out0 (F := Ideal) m c) (ix2 i d)
      = Fin.flat3 cx i.val d.val + (Fin.rmsBack (fun k : Fin 1024 => X i.val k.val) (fun k => (∑ e : Fin 3592, P i.val e.val * W k.val e.val) * G k.val) e 1024 d : EReal) := by
  unfold Value.res_out0 Value.res_main_v39
  rw [hx, hg, hw, hcx, hcp]
  change shapeCast S4096x1024 _ Gen.shapeCasts_S2x2048x1024_S4096x1024 (ix2 i d) = _
  generalize hQ : (addf (F := Ideal) (Host.divf (broadcastInDim S2x2048x1 (s := S2x2048) ![0, 1] _ (Host.reduceAdd (F := Ideal) (mulf x x) _ _ _)) _) _) = Q
  generalize hT : Host.reduceAdd (F := Ideal) (Host.divf (mulf (shapeCast S2x2048x1 (s := S2x2048) _ _) _) _) _ _ _ = T
  have h := Fin.rms_pos (fun k : Fin 1024 => X i.val k.val) e 1024 he (by norm_num)
  have eQ := fun a => congrFun hQ (ix3 (⟨i.val / 2048, by omega⟩ : Fin 2) (⟨i.val % 2048, by omega⟩ : Fin 2048) a)
  pointwise at eQ
  have eT := congrFun hT (ix2 (⟨i.val / 2048, by omega⟩ : Fin 2) (⟨i.val % 2048, by omega⟩ : Fin 2048))
  pointwise at eT
  pointwise
  simp only [Fin.sum_univ_one] at eT ⊢
  rw [← eT]
  simp only [← eQ]
  simp only [Fin.flat3_fin, Fin.flat2_fin, Fin.flat1_fin, Fin.sum_univ_one, hX, hP, hW, hG, hE, Fin.ofBits_1024, Fin.ofBits_neg_half, ← EReal.coe_mul, Fin.coe_sum,
    Ideal.div_coe (show (1024 : ℝ) ≠ 0 by norm_num), ← EReal.coe_add, Fin.rsqrt_pos h, Ideal.div_coe h.ne']
  rw [add_assoc, add_assoc, ← EReal.coe_add, ← EReal.coe_add]
  refine congrArg (_ + ·) ((congrArg _ ?_).trans (congrArg _ (Fin.rms_grad (fun k : Fin 1024 => X i.val k.val) (fun k => (∑ e : Fin 3592, P i.val e.val * W k.val e.val) * G k.val) e 1024 he (by norm_num) d).symm))
  ring

theorem ref_dg (x : FVec Ideal S2x2048x1024 .f32) (w : FVec Ideal S1024x3592 .f32) (cp : FVec Ideal S2x2048x3592 .f32)
    (e : ℝ) (he : 0 < e) (hE : Ideal.ofBits .f32 0x358637BD#32 = (e : EReal)) (X P W : ℕ → ℕ → ℝ)
    (hX : ∀ i k, Fin.flat3 x i k = (X i k : EReal))
    (hP : ∀ i k, Fin.flat3 cp i k = (P i k : EReal)) (hW : ∀ i k, Fin.flat2 w i k = (W i k : EReal)) (d : Fin 1024) :
    broadcastInDim S1x1024 ![1] Gen.bcast_S1024_S1x1024_1 (Host.reduceAdd (shapeCast _ (Host.reduceAdd (mulf (mulf x (broadcastInDim S2x2048x1024 ![0, 1, 2] Gen.bcast_S2x2048x1_S2x2048x1024_0_1_2 (Host.rsqrt (addf (Host.divf (broadcastInDim S2x2048x1 ![0, 1] Gen.bcast_S2x2048_S2x2048x1_0_1 (Host.reduceAdd (mulf x x) (constant S_ .f32 0x00000000#32) Gen.reducesTo_S2x2048x1024_S2x2048_d2 Gen.h_S_)) (broadcastInDim S2x2048x1 ![] Gen.bcast_S_S2x2048x1 (constant S_ .f32 0x44800000#32))) (broadcastInDim S2x2048x1 ![] Gen.bcast_S_S2x2048x1 (constant S_ .f32 0x358637BD#32)))))) (Host.dotGeneral dot_S2x2048x3592_S1024x3592_S2x2048x1024_2_1_01_0_n_n none cp w)) (constant S_ .f32 0x00000000#32) Gen.reducesTo_S2x2048x1024_S1024_d0_1 Gen.h_S_) Gen.shapeCasts_S1024_S1x1x1024) (constant S_ .f32 0x00000000#32) Gen.reducesTo_S1x1x1024_S1024_d0_1 Gen.h_S_) (ix2 0 d)
      = ((∑ i : Fin 4096, (∑ e : Fin 3592, P i.val e.val * W d.val e.val) * (X i.val d.val * (√((∑ k : Fin 1024, X i.val k.val * X i.val k.val) * (1 / 1024) + e))⁻¹) : ℝ) : EReal) := by
  pointwise [Fin.hostReduceAdd_r3_a01]
  have h := fun i => Fin.rms_pos (fun k : Fin 1024 => X i k.val) e 1024 he (by norm_num)
  simp only [Fin.flat3_row, Fin.sum_univ_one, Fin.flat2_fin, hX, hP, hW, hE, Fin.ofBits_1024, ← EReal.coe_mul, Fin.coe_sum,
    Ideal.div_coe (show (1024 : ℝ) ≠ 0 by norm_num), ← EReal.coe_add, Fin.rsqrt_pos (h _)]
  refine congrArg _ ((Fin.sum_rows 2 2048 fun i => X i d.val * (√((∑ k : Fin 1024, X i k.val * X i k.val) * (1 / 1024) + e))⁻¹
    * ∑ e : Fin 3592, P i e.val * W d.val e.val).trans (Finset.sum_congr rfl fun i _ => by ring))
end Reference

open Cert in
/-- The arguments that the precondition names are real numbers. -/
theorem args_real (x : FVec Ideal Pre_in_proj_finite.S2x2048x1024 .f32) (g : FVec Ideal Pre_in_proj_finite.S1024 .f32) (w : FVec Ideal Pre_in_proj_finite.S1024x3592 .f32)
    (cx : FVec Ideal Pre_in_proj_finite.S2x2048x1024 .f32) (cp : FVec Ideal Pre_in_proj_finite.S2x2048x3592 .f32)
    (h : Pre_in_proj_finite.fn x g w cx cp (fun a => a.elim0) = 1#1) :
    (((∀ i, ∃ r : ℝ, x i = (r : EReal)) ∧ ∀ i, ∃ r : ℝ, g i = (r : EReal)) ∧ ∀ i, ∃ r : ℝ, w i = (r : EReal)) ∧ ∀ i, ∃ r : ℝ, cp i = (r : EReal) := by
  have h4 := IntOp.andi_eq_one.1 h
  have h3 := IntOp.andi_eq_one.1 h4.1
  have h2 := IntOp.andi_eq_one.1 h3.1
  exact ⟨⟨⟨fun i => Fin.real_of_abs_lt x _ i (Host.reduce_andi_all _ _ _ _ _ h2.1 i), fun i => Fin.real_of_abs_lt g _ i (Host.reduce_andi_all _ _ _ _ _ h2.2 i)⟩,
    fun i => Fin.real_of_abs_lt w _ i (Host.reduce_andi_all _ _ _ _ _ h3.2 i)⟩, fun i => Fin.real_of_abs_lt cp _ i (Host.reduce_andi_all _ _ _ _ _ h4.2 i)⟩

/-- The two programs agree. -/
theorem holds : Cert.algebraic_Kernel3Ideal_Reference3Ideal_pre_in_proj_finite := by
  intro m ρ m' ρ' hpre hagree
  refine ⟨_, _, Cert.Kernel3Ideal.Value.run_blocks (F := Ideal) m ρ, ?_⟩
  refine (θ_run Cert.Reference3Ideal.defs _ _).mono (fun _ h c => ⟨?_, ?_, (h c).2.2⟩) (Cert.Reference3Ideal.Value.run (F := Ideal) m' ρ')
  all_goals
    have hr := args_real _ _ _ _ _ (congrFun (hpre c) fun a => a.elim0)
    obtain ⟨X, hX⟩ := Fin.flat3_real _ hr.1.1.1
    obtain ⟨G, hG⟩ := Fin.flat1_real _ hr.1.1.2
    obtain ⟨W, hW⟩ := Fin.flat2_real _ hr.1.2
    obtain ⟨P, hP⟩ := Fin.flat3_real _ hr.2
    obtain ⟨e, he, hE⟩ := Fin.ofBits_eps
  · rw [(h c).1, final12 m c e he hE X P W G hX hP hW hG]
    funext j
    idx_vars j
    exact ref_at m' c _ _ _ _ _ (hagree c).1 (hagree c).2.1 (hagree c).2.2.1 (hagree c).2.2.2.1 (hagree c).2.2.2.2 e he hE X P W G hX hP hW hG j0 j1
  · rw [(h c).2.1, (hagree c).1, (hagree c).2.2.1, (hagree c).2.2.2.2, final13 m c e he hE X P W hX hP hW]
    funext j
    idx_vars j
    obtain rfl : j0 = 0 := Subsingleton.elim _ _
    refine (ref_dg _ _ _ e he hE X P W hX hP hW j1).trans (congrArg _ ?_)
    exact (Fin.sum_rows 8 512 fun i => (∑ e : Fin 3592, P i e.val * W j1.val e.val)
      * (X i j1.val * (√((∑ k : Fin 1024, X i k.val * X i k.val) * (1 / 1024) + e))⁻¹)).symm

end Cert.InProj
-- ==== Proof.Merge.lean ====
/- The merge's gradient: both programs at an index. -/
module

public import proofs.«01_k».proof.Defs
public import proofs.«01_k».proof.Proof.Gen.Pre_merge_finite
public import proofs.«01_k».proof.Proof.Gen.Kernel4Ideal.Value
public import proofs.«01_k».proof.Proof.Gen.Reference4Ideal.Run
public import proofs.«01_k».proof.Proof.Lib
public import Idealize.ShloMosaic.Lib.Pipeline.ValueKit
public import Idealize.ShloMosaic.Lib.StableHlo.ReadAt

@[expose] public section

set_option maxRecDepth 16384

noncomputable section

namespace Cert.Merge

open Idealize.ShloMosaic Idealize.ShloMosaic.TcCoe Idealize.SL.Sem

/-- The logistic function. -/
def sgm (x : ℝ) : ℝ := 1 / (1 + Real.exp (-x))

theorem sgm_div (x : ℝ) : Ideal.div 1 (1 + Ideal.exp (-(x : EReal))) = (sgm x : EReal) := by
  have h : (1 : ℝ) + Real.exp (-x) ≠ 0 := (add_pos one_pos (Real.exp_pos _)).ne'
  rw [← EReal.coe_neg, Ideal.exp_coe, ← EReal.coe_one, ← EReal.coe_add, Ideal.div_coe h, ← EReal.coe_mul, one_mul]
  rfl

theorem gate_real {a b : EReal} {O G : ℝ} (ha : a = O) (hb : b = G) : a * (b * Ideal.div 1 (1 + Ideal.exp (-b))) = ((O * (G * sgm G) : ℝ) : EReal) := by
  rw [ha, hb, sgm_div, ← EReal.coe_mul, ← EReal.coe_mul]

section Math
variable (A O G W C : ℕ → ℕ → ℝ) (P : ℕ → ℝ) (e : ℝ)

/-- The merged branches: the pooled half as it comes, the attention's half by its gate. -/
def mix (i k : ℕ) : ℝ := if k < 512 then A i k else O i (k - 512) * (G i (k - 512) * sgm (G i (k - 512)))
/-- The output projection. -/
def yr (i d : ℕ) : ℝ := ∑ k : Fin 1024, mix A O G i k.val * W k.val d
/-- The norm's factor. -/
def rs (i : ℕ) : ℝ := (√((∑ k : Fin 1024, yr A O G W i k.val * yr A O G W i k.val) * (1 / 1024) + e))⁻¹
/-- The gradient of the projection's result. -/
def dy (i : ℕ) (d : Fin 1024) : ℝ := Fin.rmsBack (fun k : Fin 1024 => yr A O G W i k.val) (fun k => C i k.val * P k.val) e 1024 d
/-- The gradient of the merged branches. -/
def dm (i k : ℕ) : ℝ := ∑ d : Fin 1024, dy A O G W C P e i d * W k d.val
end Math

section Kernel
open Cert.Kernel4Ideal Cert.Kernel4Ideal.Gen

/-- The cotangents of the attention output and of its gate, and the row sums of the heads. -/
noncomputable def da (A O G W : ℕ → ℕ → ℝ) (C : ℕ → ℕ → ℝ) (P : ℕ → ℝ) (e : ℝ) (i x : ℕ) : ℝ := dm A O G W C P e i (512 + x) * (G i x * sgm (G i x))
noncomputable def dgc (A O G W : ℕ → ℕ → ℝ) (C : ℕ → ℕ → ℝ) (P : ℕ → ℝ) (e : ℝ) (i x : ℕ) : ℝ :=
  dm A O G W C P e i (512 + x) * O i x * (sgm (G i x) * (1 + G i x * (1 - sgm (G i x))))
noncomputable def delta (A O G W : ℕ → ℕ → ℝ) (C : ℕ → ℕ → ℝ) (P : ℕ → ℝ) (e : ℝ) (i h : ℕ) : ℝ :=
  ∑ x : Fin 512, if x.val / 64 = h then da A O G W C P e i x.val * O i x.val else 0

/-- What the rows of block `t` give to the gain's and to the weights' gradient. -/
noncomputable def dgPart (A O G W : ℕ → ℕ → ℝ) (C : ℕ → ℕ → ℝ) (e : ℝ) (t d : ℕ) : ℝ := ∑ r : Fin 512, C (t * 512 + r.val) d * (yr A O G W (t * 512 + r.val) d * rs A O G W e (t * 512 + r.val))
noncomputable def dwPart (A O G W : ℕ → ℕ → ℝ) (C : ℕ → ℕ → ℝ) (P : ℕ → ℝ) (e : ℝ) (t k : ℕ) (d : Fin 1024) : ℝ := ∑ r : Fin 512, mix A O G (t * 512 + r.val) k * dy A O G W C P e (t * 512 + r.val) d

/-- One entry of the norm's gradient. -/
theorem dy_point (y ct : FVec Ideal S512x1024 .f32) (g : FVec Ideal S1x1024 .f32) (r : Fin 512) (d : Fin 1024) (e : ℝ) (he : 0 < e)
    (hE : Ideal.ofBits .f32 0x358637BD#32 = (e : EReal)) (Y C P : Fin 1024 → ℝ) (hy : ∀ k, y (ix2 r k) = (Y k : EReal)) (hc : ∀ k, ct (ix2 r k) = (C k : EReal))
    (hg : ∀ k, g (ix2 0 k) = (P k : EReal)) :
    k0_pay14 (F := Ideal) y ct g (ix2 r d) = (Fin.rmsBack Y (fun k => C k * P k) e 1024 d : EReal) := by
  pointwise [k0_pay14, k0_pay12, k0_pay11, k0_pay10, k0_pay9]
  have h := Fin.rms_pos Y e 1024 he (by norm_num)
  simp only [hy, hc, hg, hE, Fin.ofBits_1024, ← EReal.coe_mul, Fin.coe_sum, Ideal.div_coe (show (1024 : ℝ) ≠ 0 by norm_num), ← EReal.coe_add, Fin.rsqrt_pos h, ← EReal.coe_sub]
  rfl

/-- One entry of the scale's gradient at one block of rows. -/
theorem dg_point (y ct : FVec Ideal S512x1024 .f32) (acc : FVec Ideal S1x1024 .f32) (d : Fin 1024) (e : ℝ) (he : 0 < e)
    (hE : Ideal.ofBits .f32 0x358637BD#32 = (e : EReal)) (Y : ℕ → Fin 1024 → ℝ) (C : ℕ → ℝ) (hy : ∀ r k, y (ix2 r k) = (Y r.val k : EReal)) (hc : ∀ r, ct (ix2 r d) = (C r.val : EReal)) :
    k0_pay13 (F := Ideal) y ct acc (ix2 0 d) = acc (ix2 0 d) + ((∑ r : Fin 512, C r.val * (Y r.val d * (√((∑ k, Y r.val k * Y r.val k) * (1 / 1024) + e))⁻¹) : ℝ) : EReal) := by
  pointwise [k0_pay13, k0_pay12, k0_pay11, k0_pay10, k0_pay9]
  rw [← Fin.coe_sum]
  refine congrArg _ (Finset.sum_congr rfl fun r _ => ?_)
  have h := Fin.rms_pos (Y r.val) e 1024 he (by norm_num)
  simp only [hy, hc, hE, Fin.ofBits_1024, ← EReal.coe_mul, Fin.coe_sum, Ideal.div_coe (show (1024 : ℝ) ≠ 0 by norm_num), ← EReal.coe_add, Fin.rsqrt_pos h]

/-- One entry of the weights' gradient at one block of rows. -/
theorem dw_point (v : FVec Ideal S512x1024 .bf16) (acc : FVec Ideal S1024x1024 .f32) (mt : FVec Ideal S1024x512 .bf16) (k d : Fin 1024) (Q M : ℕ → ℝ)
    (hv : ∀ r, v (ix2 r d) = (Q r.val : EReal)) (hm : ∀ r, mt (ix2 k r) = (M r.val : EReal)) :
    k0_pay15 (F := Ideal) v acc mt (ix2 k d) = acc (ix2 k d) + ((∑ r : Fin 512, M r.val * Q r.val : ℝ) : EReal) := by
  pointwise [k0_pay15]
  simp only [hv, hm, ← EReal.coe_mul, Fin.coe_sum]

theorem dm_point (v : FVec Ideal S512x1024 .bf16) (w : FVec Ideal S1024x512 .bf16) (r x : Fin 512) (Q M : Fin 1024 → ℝ)
    (hv : ∀ d, v (ix2 r d) = (Q d : EReal)) (hw : ∀ d, w (ix2 d x) = (M d : EReal)) :
    k0_pay19 (F := Ideal) v w (ix2 r x) = ((∑ d, Q d * M d : ℝ) : EReal) := by
  pointwise [k0_pay19]
  simp only [hv, hw, ← EReal.coe_mul, Fin.coe_sum]

theorem sg_point (g : FVec Ideal S512x512 .f32) (r x : Fin 512) (G : ℝ) (hg : g (ix2 r x) = (G : EReal)) :
    k0_pay23 (F := Ideal) g (ix2 r x) = (sgm G : EReal) := by
  pointwise [k0_pay23, k0_pay21]
  rw [hg, zero_sub, sgm_div]

theorem da_point (v : FVec Ideal S512x1024 .bf16) (w : FVec Ideal S1024x512 .bf16) (g : FVec Ideal S512x512 .f32) (r x : Fin 512) (Q M : Fin 1024 → ℝ) (G : ℝ)
    (hv : ∀ d, v (ix2 r d) = (Q d : EReal)) (hw : ∀ d, w (ix2 d x) = (M d : EReal)) (hg : g (ix2 r x) = (G : EReal)) :
    k0_pay24 (F := Ideal) v w g (ix2 r x) = (((∑ d, Q d * M d) * (G * sgm G) : ℝ) : EReal) := by
  have h := sg_point g r x G hg
  pointwise [k0_pay24, k0_pay21, k0_pay20]
  simp only [hv, hw, hg, h, ← EReal.coe_mul, Fin.coe_sum]

theorem dgc_point (v : FVec Ideal S512x1024 .bf16) (w : FVec Ideal S1024x512 .bf16) (g o : FVec Ideal S512x512 .f32) (r x : Fin 512) (Q M : Fin 1024 → ℝ) (G O : ℝ)
    (hv : ∀ d, v (ix2 r d) = (Q d : EReal)) (hw : ∀ d, w (ix2 d x) = (M d : EReal)) (hg : g (ix2 r x) = (G : EReal)) (ho : o (ix2 r x) = (O : EReal)) :
    k0_pay27 (F := Ideal) (k0_pay20 v w) (k0_pay21 g) (k0_pay22 o) (k0_pay23 g) (ix2 r x) = (((∑ d, Q d * M d) * O * (sgm G * (1 + G * (1 - sgm G))) : ℝ) : EReal) := by
  have h := sg_point g r x G hg
  pointwise [k0_pay27, k0_pay22, k0_pay21, k0_pay20]
  simp only [hv, hw, hg, ho, h, ← EReal.coe_one, ← EReal.coe_mul, Fin.coe_sum, ← EReal.coe_sub, ← EReal.coe_add]

/-- The selector: column `h` marks the 64 lanes of head `h`. -/
theorem sel : ∀ (x : Fin 512) (h : Fin 8), k0_pay29 (ix2 x (⟨h.val, by omega⟩ : Fin 128)) = if x.val / 64 = h.val then 1#32 else 0#32 := by decide +kernel

/-- The row sums of one head. -/
theorem delta_point (v : FVec Ideal S512x512 .f32) (h : Fin 8) (r : Fin 512) (Q : ℕ → ℝ) (hv : ∀ x, v (ix2 r x) = (Q x.val : EReal)) :
    k0_pay1 (F := Ideal) v k0_pay29 (ix3 0 h r) = ((∑ x : Fin 512, if x.val / 64 = h.val then Q x.val else 0 : ℝ) : EReal) := by
  pointwise [k0_pay1]
  have hs : ∀ x : Fin 512, (FloatOps.sitofp .f32 (k0_pay29 (ix2 x (⟨h.val, by omega⟩ : Fin 128))) : Ideal .f32) = (((if x.val / 64 = h.val then 1 else 0 : ℝ)) : EReal) := fun x => by
    rw [sel]
    split
    · show ((((1#32 : BitVec 32).toInt : ℝ)) : EReal) = _
      simp
    · show ((((0#32 : BitVec 32).toInt : ℝ)) : EReal) = _
      simp
  simp only [hv, hs, ← EReal.coe_mul, ← EReal.coe_sub, Fin.coe_sum, ← EReal.coe_add]
  simp

variable (m : (ℓ : Loc nD τ sig) → Buf (Elt Ideal) ℓ)

/-- Arguments by rows. -/
abbrev fA (c : Dev nD) : ℕ → ℕ → EReal := Fin.flat3 (show FVec Ideal S2x2048x512 .f32 from m ((c.tc : Thread nD τ).loc main_arg0))
abbrev fO (c : Dev nD) : ℕ → ℕ → EReal := Fin.flat3 (show FVec Ideal S2x2048x512 .f32 from m ((c.tc : Thread nD τ).loc main_arg1))
abbrev fG (c : Dev nD) : ℕ → ℕ → EReal := Fin.flat3 (show FVec Ideal S2x2048x512 .f32 from m ((c.tc : Thread nD τ).loc main_arg2))
abbrev fW (c : Dev nD) : ℕ → ℕ → EReal := Fin.flat2 (show FVec Ideal S1024x1024 .f32 from m ((c.tc : Thread nD τ).loc main_arg3))
abbrev fP (c : Dev nD) : ℕ → EReal := Fin.flat1 (show FVec Ideal S1024 .f32 from m ((c.tc : Thread nD τ).loc main_arg4))
abbrev fC (c : Dev nD) : ℕ → ℕ → EReal := Fin.flat3 (show FVec Ideal S2x2048x1024 .f32 from m ((c.tc : Thread nD τ).loc main_arg5))

theorem op0 (c : Dev nD) (j : S4096x512.Idx) : V m c main_v0 j = fO m c (j 0).val (j 1).val := by
  unfold V
  after_reads_at
  exact Fin.flat3_eq _ _ _ _ _ _

theorem op15 (c : Dev nD) (j : S4096x3584.Idx) (h : 3072 ≤ (j 1).val) : V m c main_v15 j = fG m c (j 0).val ((j 1).val - 3072) := by
  unfold V
  after_reads_at
  rw [dif_pos ⟨h, by have h1 : (j 1).val < 3584 := (j 1).isLt; show (j 1).val - 3072 < 512; omega⟩]
  exact Fin.flat3_eq _ _ _ _ _ _

theorem op16 (c : Dev nD) (j : S4096x1024.Idx) : V m c main_v16 j = fC m c (j 0).val (j 1).val := by
  unfold V
  after_reads_at
  exact Fin.flat3_eq _ _ _ _ _ _

theorem op17 (c : Dev nD) (j : S1x1024.Idx) : V m c main_v17 j = fP m c (j 1).val := by
  unfold V
  after_reads_at
  exact Fin.flat1_fin _ _

theorem op19 (c : Dev nD) (j : S1024x1024.Idx) : V m c main_v19 j = fW m c (j 1).val (j 0).val := by
  unfold V
  after_reads_at
  exact Fin.flat2_eq _ _ _ _ _

theorem idx : ∀ t : Fin cfg0.N, (win0_0.index t = ![t.val, 0] ∧ win0_1.index t = ![t.val, 0] ∧ win0_2.index t = ![0, 0] ∧ win0_3.index t = ![0, 0]
    ∧ win0_4.index t = ![t.val, 6] ∧ win0_5.index t = ![t.val, 0] ∧ win0_6.index t = ![0, t.val]) ∧ win0_7.index t = ![0, 0, 0, 0] ∧ win0_8.index t = ![t.val, 0]
    ∧ win0_9.index t = ![0, 0] ∧ win0_10.index t = ![t.val, 0] ∧ win0_11.index t = ![0, t.val] ∧ win0_12.index t = ![t.val, 0] ∧ win0_13.index t = ![t.val / 4, 0, t.val % 4] :=
  (by decide +kernel : ∀ t : Fin grid0.N, _)

theorem blk0 (c : Dev nD) (t : Fin cfg0.N) (r : Fin 512) (x : Fin 1024) :
    (show FVec Ideal S512x1024 .f32 from iblk m c 0 t) (ix2 r x) = fC m c (t.val * 512 + r.val) x.val := by
  unfold iblk
  blk_simp
  rw [op16]
  blk_simp [idx t]

theorem blk2 (c : Dev nD) (t : Fin cfg0.N) (r : Fin 1) (x : Fin 1024) :
    (show FVec Ideal S1x1024 .f32 from iblk m c 2 t) (ix2 r x) = fP m c x.val := by
  unfold iblk
  blk_simp
  rw [op17]
  blk_simp [idx t]

theorem blk3 (c : Dev nD) (t : Fin cfg0.N) (r x : Fin 1024) :
    (show FVec Ideal S1024x1024 .bf16 from iblk m c 3 t) (ix2 r x) = fW m c x.val r.val := by
  unfold iblk
  blk_simp
  rw [op19]
  blk_simp [idx t]

theorem blk4 (c : Dev nD) (t : Fin cfg0.N) (r x : Fin 512) :
    (show FVec Ideal S512x512 .f32 from iblk m c 4 t) (ix2 r x) = fG m c (t.val * 512 + r.val) x.val := by
  unfold iblk
  blk_simp
  rw [op15 m c _ (by blk_simp [idx t]; omega)]
  blk_simp [idx t]
  rw [show 6 * 512 + x.val - 3072 = x.val by omega]

theorem blk5 (c : Dev nD) (t : Fin cfg0.N) (r x : Fin 512) :
    (show FVec Ideal S512x512 .f32 from iblk m c 5 t) (ix2 r x) = fO m c (t.val * 512 + r.val) x.val := by
  unfold iblk
  blk_simp
  rw [op0]
  blk_simp [idx t]

theorem out7 (c : Dev nD) (t : Fin cfg0.N) (hl : t.val % 8 = 7) (sc : FVec Ideal S1024x1024 .f32) (hs : (outsAt0 m c t.val t.isLt).2.2.2.2.2.2.2 = sc)
    (y : S2x4x128x1024.Idx) (k : Fin 1024) (hk : k.val = ((y 1).val * 2 + (y 0).val) * 128 + (y 2).val) :
    (outsAt0 m c t.val t.isLt).1 y = sc (ix2 k (y 3)) := by
  have e := hs
  rw [outsAt0_C m c t (by omega) hl] at e ⊢
  dsimp only at e ⊢
  have e2 : k0_pay15 (F := Ideal) (k0_pay14 (iblk m c 1 t) (iblk m c 0 t) (iblk m c 2 t))
                    (View.read (Elt Idealize.ShloMosaic.Ideal) (View.whole cc0_scratch0)
                      ((Memref.isWhole_whole _).unread (outsAt0 m c (t.val - 1) (Nat.lt_of_le_of_lt (Nat.sub_le _ _) t.isLt)).2.2.2.2.2.2.2))
                    (iblk m c 6 t) = sc := by
    rw [← e]
    frame_out
  frame_out
  rw [e2]
  clear e e2 hs hl
  canon_tiles x h
  all_goals
    pointwise [k0_pay2, k0_pay3, k0_pay4, k0_pay5, k0_pay6, k0_pay16, k0_pay17, k0_pay18]
    rw [View.readCov_eq_canon', View.canon_cons_unit_lit]
    · pointwise
      refine congrArg₂ (fun a b => sc (ix2 a b)) (Fin.ext ?_) (Fin.ext h3.symm)
      refine Eq.trans ?_ hk.symm
      dsimp only
      omega
    · intro a
      fin_cases a <;> rfl

section Reals
variable (c : Dev nD) (e : ℝ) (he : 0 < e) (hE : Ideal.ofBits .f32 0x358637BD#32 = (e : EReal)) (A O G W C : ℕ → ℕ → ℝ) (P : ℕ → ℝ)
  (hA : ∀ i k, fA m c i k = (A i k : EReal)) (hO : ∀ i k, fO m c i k = (O i k : EReal)) (hG : ∀ i k, fG m c i k = (G i k : EReal))
  (hW : ∀ i k, fW m c i k = (W i k : EReal)) (hP : ∀ k, fP m c k = (P k : EReal)) (hC : ∀ i k, fC m c i k = (C i k : EReal))

include hA hO hG in
theorem op21 (j : S1024x4096.Idx) : V m c main_v21 j = (mix A O G (j 1).val (j 0).val : EReal) := by
  unfold V
  after_reads_at
  unfold mix
  by_cases h : (j 0).val < 512
  · rw [dif_pos h, if_pos h]
    after_reads_at
    exact (Fin.flat3_eq _ _ _ _ _ _).trans (hA _ _)
  · rw [dif_neg h, if_neg h]
    after_reads_at
    have ho := hO (j 1).val ((j 0).val - 512)
    have hg := hG (j 1).val ((j 0).val - 512)
    exact gate_real ((Fin.flat3_eq _ _ _ _ _ _).trans ho) ((Fin.flat3_eq _ _ _ _ _ _).trans hg)

include hA hO hG hW in
theorem op14 (j : S4096x1024.Idx) : V m c main_v14 j = (yr A O G W (j 0).val (j 1).val : EReal) := by
  have hs : yr A O G W (j 0).val (j 1).val = (∑ x : Fin 512, mix A O G (j 0).val x.val * W x.val (j 1).val) + ∑ x : Fin 512, mix A O G (j 0).val (512 + x.val) * W (512 + x.val) (j 1).val := by
    unfold yr
    rw [Fin.sum_univ_eq_sum_range (fun k => mix A O G (j 0).val k * W k (j 1).val) 1024, Fin.sum_univ_eq_sum_range (fun k => mix A O G (j 0).val k * W k (j 1).val) 512,
      Fin.sum_univ_eq_sum_range (fun k => mix A O G (j 0).val (512 + k) * W (512 + k) (j 1).val) 512, ← Finset.sum_range_add]
  rw [hs, EReal.coe_add, ← Fin.coe_sum, ← Fin.coe_sum]
  unfold V
  after_reads_at
  refine congrArg₂ (· + ·) (Finset.sum_congr rfl fun x _ => ?_) (Finset.sum_congr rfl fun x _ => ?_)
  · rw [EReal.coe_mul]
    refine congrArg₂ (· * ·) ?_ ((Fin.flat2_eq _ _ _ _ _).trans (hW _ _))
    after_reads_at
    unfold mix
    rw [if_pos x.isLt]
    exact (Fin.flat3_eq _ _ _ _ _ _).trans (hA _ _)
  · rw [EReal.coe_mul]
    refine congrArg₂ (· * ·) ?_ ((Fin.flat2_eq _ _ _ _ _).trans (hW _ _))
    after_reads_at
    unfold mix
    rw [if_neg (by omega)]
    have ho := hO (j 0).val x.val
    have hg := hG (j 0).val x.val
    rw [show 512 + x.val - 512 = x.val by omega]
    exact gate_real ((Fin.flat3_eq _ _ _ _ _ _).trans ho) ((Fin.flat3_eq _ _ _ _ _ _).trans hg)

include hA hO hG hW in
theorem blk1 (t : Fin cfg0.N) (r : Fin 512) (x : Fin 1024) :
    (show FVec Ideal S512x1024 .f32 from iblk m c 1 t) (ix2 r x) = (yr A O G W (t.val * 512 + r.val) x.val : EReal) := by
  unfold iblk
  blk_simp
  rw [op14 m c A O G W hA hO hG hW]
  blk_simp [idx t]

include hA hO hG in
theorem blk6 (t : Fin cfg0.N) (k : Fin 1024) (r : Fin 512) :
    (show FVec Ideal S1024x512 .bf16 from iblk m c 6 t) (ix2 k r) = (mix A O G (t.val * 512 + r.val) k.val : EReal) := by
  unfold iblk
  blk_simp
  rw [op21 m c A O G hA hO hG]
  blk_simp [idx t]

include hA hO hG hW hP hC he hE

theorem dy_at (t : Fin cfg0.N) (r : Fin 512) (d : Fin 1024) :
    k0_pay14 (F := Ideal) (iblk m c 1 t) (iblk m c 0 t) (iblk m c 2 t) (ix2 r d) = (dy A O G W C P e (t.val * 512 + r.val) d : EReal) :=
  dy_point _ _ _ r d e he hE (fun k => yr A O G W (t.val * 512 + r.val) k.val) (fun k => C (t.val * 512 + r.val) k.val) (fun k => P k.val)
    (blk1 m c A O G W hA hO hG hW t r) (fun k => (blk0 m c t r k).trans (hC _ _)) (fun k => (blk2 m c t 0 k).trans (hP _))

theorem wlo (t : Fin cfg0.N) (d : Fin 1024) (x : Fin 512) :
    (show FVec Ideal S1024x512 .bf16 from View.ld (iblk m c 3 t) (Rect.unit ![0, 0] ![1024, 512] inb_S1024x1024_S1024x512_0_0)) (ix2 d x) = (W x.val d.val : EReal) := by
  pointwise
  exact (blk3 m c t d ⟨x.val, by omega⟩).trans (hW _ _)

theorem whi (t : Fin cfg0.N) (d : Fin 1024) (x : Fin 512) :
    (show FVec Ideal S1024x512 .bf16 from View.ld (iblk m c 3 t) (Rect.unit ![0, 512] ![1024, 512] inb_S1024x1024_S1024x512_0_512)) (ix2 d x) = (W (512 + x.val) d.val : EReal) := by
  pointwise
  exact (blk3 m c t d ⟨512 + x.val, by omega⟩).trans (hW _ _)

theorem da_at (t : Fin cfg0.N) (r x : Fin 512) :
    k0_pay24 (F := Ideal) (k0_pay14 (iblk m c 1 t) (iblk m c 0 t) (iblk m c 2 t)) (View.ld (iblk m c 3 t) (Rect.unit ![0, 512] ![1024, 512] inb_S1024x1024_S1024x512_0_512)) (iblk m c 4 t) (ix2 r x)
      = (da A O G W C P e (t.val * 512 + r.val) x.val : EReal) :=
  da_point _ _ _ r x (dy A O G W C P e (t.val * 512 + r.val)) (fun d => W (512 + x.val) d.val) (G (t.val * 512 + r.val) x.val)
    (dy_at m c e he hE A O G W C P hA hO hG hW hP hC t r) (fun d => whi m c e he hE A O G W C P hA hO hG hW hP hC t d x) ((blk4 m c t r x).trans (hG _ _))

theorem out8 (t : Fin cfg0.N) (r x : Fin 512) : (show FVec Ideal S512x512 .f32 from (outsAt0 m c t.val t.isLt).2.1) (ix2 r x) = (dm A O G W C P e (t.val * 512 + r.val) x.val : EReal) := by
  have key := dm_point _ _ r x (dy A O G W C P e (t.val * 512 + r.val)) (fun d => W x.val d.val)
    (dy_at m c e he hE A O G W C P hA hO hG hW hP hC t r) (fun d => wlo m c e he hE A O G W C P hA hO hG hW hP hC t d x)
  by_cases h0 : t.val % 8 = 0
  · rw [outsAt0_A m c t h0 (by omega)]
    dsimp only
    frame_out
    exact key
  by_cases h1 : t.val % 8 = 7
  · rw [outsAt0_C m c t h0 h1]
    dsimp only
    frame_out
    exact key
  · rw [outsAt0_B m c t h0 h1]
    dsimp only
    frame_out
    exact key

theorem out10 (t : Fin cfg0.N) (r x : Fin 512) : (show FVec Ideal S512x512 .bf16 from (outsAt0 m c t.val t.isLt).2.2.2.1) (ix2 r x) = (da A O G W C P e (t.val * 512 + r.val) x.val : EReal) := by
  have key := da_at m c e he hE A O G W C P hA hO hG hW hP hC t r x
  by_cases h0 : t.val % 8 = 0
  · rw [outsAt0_A m c t h0 (by omega)]
    dsimp only
    frame_out
    pointwise [k0_pay25]
    exact key
  by_cases h1 : t.val % 8 = 7
  · rw [outsAt0_C m c t h0 h1]
    dsimp only
    frame_out
    pointwise [k0_pay25]
    exact key
  · rw [outsAt0_B m c t h0 h1]
    dsimp only
    frame_out
    pointwise [k0_pay25]
    exact key

theorem out11 (t : Fin cfg0.N) (r x : Fin 512) : (show FVec Ideal S512x512 .bf16 from (outsAt0 m c t.val t.isLt).2.2.2.2.1) (ix2 x r) = (da A O G W C P e (t.val * 512 + r.val) x.val : EReal) := by
  have key := da_at m c e he hE A O G W C P hA hO hG hW hP hC t r x
  by_cases h0 : t.val % 8 = 0
  · rw [outsAt0_A m c t h0 (by omega)]
    dsimp only
    frame_out
    pointwise [k0_pay26]
    exact key
  by_cases h1 : t.val % 8 = 7
  · rw [outsAt0_C m c t h0 h1]
    dsimp only
    frame_out
    pointwise [k0_pay26]
    exact key
  · rw [outsAt0_B m c t h0 h1]
    dsimp only
    frame_out
    pointwise [k0_pay26]
    exact key

theorem out12 (t : Fin cfg0.N) (r x : Fin 512) : (show FVec Ideal S512x512 .bf16 from (outsAt0 m c t.val t.isLt).2.2.2.2.2.1) (ix2 r x) = (dgc A O G W C P e (t.val * 512 + r.val) x.val : EReal) := by
  have key := dgc_point _ _ _ _ r x (dy A O G W C P e (t.val * 512 + r.val)) (fun d => W (512 + x.val) d.val) (G (t.val * 512 + r.val) x.val) (O (t.val * 512 + r.val) x.val)
    (dy_at m c e he hE A O G W C P hA hO hG hW hP hC t r) (fun d => whi m c e he hE A O G W C P hA hO hG hW hP hC t d x) ((blk4 m c t r x).trans (hG _ _)) ((blk5 m c t r x).trans (hO _ _))
  by_cases h0 : t.val % 8 = 0
  · rw [outsAt0_A m c t h0 (by omega)]
    dsimp only
    frame_out
    exact key
  by_cases h1 : t.val % 8 = 7
  · rw [outsAt0_C m c t h0 h1]
    dsimp only
    frame_out
    exact key
  · rw [outsAt0_B m c t h0 h1]
    dsimp only
    frame_out
    exact key

theorem out13 (t : Fin cfg0.N) (r : Fin 512) (h : Fin 8) : (show FVec Ideal S1x8x512 .f32 from (outsAt0 m c t.val t.isLt).2.2.2.2.2.2.1) (ix3 0 h r) = (delta A O G W C P e (t.val * 512 + r.val) h.val : EReal) := by
  have key := delta_point (k0_pay28 (F := Ideal) (k0_pay22 (iblk m c 5 t)) (k0_pay24 (k0_pay14 (iblk m c 1 t) (iblk m c 0 t) (iblk m c 2 t))
      (View.ld (iblk m c 3 t) (Rect.unit ![0, 512] ![1024, 512] inb_S1024x1024_S1024x512_0_512)) (iblk m c 4 t))) h r (fun x => da A O G W C P e (t.val * 512 + r.val) x * O (t.val * 512 + r.val) x) (fun x => by
    pointwise [k0_pay28, k0_pay22]
    refine (congrArg₂ (· * ·) (da_at m c e he hE A O G W C P hA hO hG hW hP hC t r x) ((blk5 m c t r x).trans (hO _ _))).trans ?_
    rw [← EReal.coe_mul])
  by_cases h0 : t.val % 8 = 0
  · rw [outsAt0_A m c t h0 (by omega)]
    dsimp only
    frame_out
    exact key
  by_cases h1 : t.val % 8 = 7
  · rw [outsAt0_C m c t h0 h1]
    dsimp only
    frame_out
    exact key
  · rw [outsAt0_B m c t h0 h1]
    dsimp only
    frame_out
    exact key

theorem final8 : (dats m 0 c).arrAt 8 cfg0.N = fun j : S4096x512.Idx => (dm A O G W C P e (j 0).val (j 1).val : EReal) := by
  refine (dats m 0 c).arrAt_eq_of_covers 8 _ (by decide +kernel) fun t hf y => ?_
  blk_simp [idx t]
  rw [after0_8]
  idx_vars y
  refine (out8 m c e he hE A O G W C P hA hO hG hW hP hC t y0 y1).trans ?_
  blk_simp [idx t]

theorem final10 : (dats m 0 c).arrAt 10 cfg0.N = fun j : S4096x512.Idx => (da A O G W C P e (j 0).val (j 1).val : EReal) := by
  refine (dats m 0 c).arrAt_eq_of_covers 10 _ (by decide +kernel) fun t hf y => ?_
  blk_simp [idx t]
  rw [after0_10]
  idx_vars y
  refine (out10 m c e he hE A O G W C P hA hO hG hW hP hC t y0 y1).trans ?_
  blk_simp [idx t]

theorem final11 : (dats m 0 c).arrAt 11 cfg0.N = fun j : S512x4096.Idx => (da A O G W C P e (j 1).val (j 0).val : EReal) := by
  refine (dats m 0 c).arrAt_eq_of_covers 11 _ (by decide +kernel) fun t hf y => ?_
  blk_simp [idx t]
  rw [after0_11]
  idx_vars y
  refine (out11 m c e he hE A O G W C P hA hO hG hW hP hC t y1 y0).trans ?_
  blk_simp [idx t]

theorem final12 : (dats m 0 c).arrAt 12 cfg0.N = fun j : S4096x512.Idx => (dgc A O G W C P e (j 0).val (j 1).val : EReal) := by
  refine (dats m 0 c).arrAt_eq_of_covers 12 _ (by decide +kernel) fun t hf y => ?_
  blk_simp [idx t]
  rw [after0_12]
  idx_vars y
  refine (out12 m c e he hE A O G W C P hA hO hG hW hP hC t y0 y1).trans ?_
  blk_simp [idx t]

theorem final13 : (dats m 0 c).arrAt 13 cfg0.N = fun j : S2x8x2048.Idx => (delta A O G W C P e ((j 0).val * 2048 + (j 2).val) (j 1).val : EReal) := by
  refine (dats m 0 c).arrAt_eq_of_covers 13 _ (by decide +kernel) fun t hf y => ?_
  blk_simp [idx t]
  rw [after0_13]
  idx_vars y
  obtain rfl : y0 = 0 := Subsingleton.elim _ _
  refine (out13 m c e he hE A O G W C P hA hO hG hW hP hC t y2 y1).trans ?_
  rw [show t.val / 4 * 2048 + (t.val % 4 * 512 + y2.val) = t.val * 512 + y2.val by omega]

theorem dg_step (t : Fin cfg0.N) (acc : FVec Ideal S1x1024 .f32) (d : Fin 1024) :
    k0_pay13 (F := Ideal) (iblk m c 1 t) (iblk m c 0 t) acc (ix2 0 d) = acc (ix2 0 d) + ((dgPart A O G W C e t.val d.val : ℝ) : EReal) :=
  dg_point _ _ _ d e he hE (fun r k => yr A O G W (t.val * 512 + r) k.val) (fun r => C (t.val * 512 + r) d.val)
    (fun r k => blk1 m c A O G W hA hO hG hW t r k) (fun r => (blk0 m c t r d).trans (hC _ _))

theorem dw_step (t : Fin cfg0.N) (acc : FVec Ideal S1024x1024 .f32) (k d : Fin 1024) :
    k0_pay15 (F := Ideal) (k0_pay14 (iblk m c 1 t) (iblk m c 0 t) (iblk m c 2 t)) acc (iblk m c 6 t) (ix2 k d)
      = acc (ix2 k d) + ((dwPart A O G W C P e t.val k.val d : ℝ) : EReal) :=
  dw_point _ _ _ k d (fun r => dy A O G W C P e (t.val * 512 + r) d) (fun r => mix A O G (t.val * 512 + r) k.val)
    (fun r => dy_at m c e he hE A O G W C P hA hO hG hW hP hC t r d) (fun r => blk6 m c A O G hA hO hG t k r)

theorem final9 : (dats m 0 c).arrAt 9 cfg0.N = fun j : S1x1024.Idx => ((∑ t : Fin 8, dgPart A O G W C e t.val (j 1).val : ℝ) : EReal) := by
  refine (dats m 0 c).arrAt_eq_of_after_last 9 t0_7 (by decide +kernel) _ fun j => ?_
  have hs := dg_step m c e he hE A O G W C P hA hO hG hW hP hC
  blk_simp
  idx_vars j
  obtain rfl : j0 = 0 := Subsingleton.elim _ _
  rw [after0_9, Pipeline.eq_sum_fin_of_reset_step_apply_last (fun n h => (outsAt0 m c n h).2.2.1) 8 (fun _ => 0) (fun t j => ((dgPart A O G W C e t.val (j 1).val : ℝ) : EReal))
    (fun t h j => by
      rw [outsAt0_A m c t h (by omega)]
      idx_vars j
      obtain rfl : j0 = 0 := Subsingleton.elim _ _
      frame_out
      refine (hs t _ j1).trans (congrArg (· + _) ?_)
      pointwise [k0_pay7]) (fun t h j => by
      idx_vars j
      obtain rfl : j0 = 0 := Subsingleton.elim _ _
      by_cases h1 : t.val % 8 = 7
      · rw [outsAt0_C m c t h h1]
        frame_out
        exact hs t _ j1
      · rw [outsAt0_B m c t h h1]
        frame_out
        exact hs t _ j1)
    (le_of_eq N_0) t0_7 rfl _, zero_add]
  exact Fin.coe_sum _

theorem scratch_last : (outsAt0 m c t0_7.val t0_7.isLt).2.2.2.2.2.2.2 = fun j : S1024x1024.Idx => ((∑ t : Fin 8, dwPart A O G W C P e t.val (j 0).val (j 1) : ℝ) : EReal) := by
  have hs := dw_step m c e he hE A O G W C P hA hO hG hW hP hC
  funext j
  idx_vars j
  refine (Pipeline.eq_sum_fin_of_reset_step_apply_last (fun n h => (outsAt0 m c n h).2.2.2.2.2.2.2) 8 (fun _ => 0) (fun t j => ((dwPart A O G W C P e t.val (j 0).val (j 1) : ℝ) : EReal))
    (fun t h j => by
      rw [outsAt0_A m c t h (by omega)]
      idx_vars j
      frame_out
      refine (hs t _ j0 j1).trans (congrArg (· + _) ?_)
      pointwise [k0_pay8]) (fun t h j => by
      idx_vars j
      by_cases h1 : t.val % 8 = 7
      · rw [outsAt0_C m c t h h1]
        frame_out
        exact (congrArg (fun a => k0_pay15 (F := Ideal) (k0_pay14 (iblk m c 1 t) (iblk m c 0 t) (iblk m c 2 t)) a (iblk m c 6 t) (ix2 j0 j1))
          ((Memref.isWhole_whole cc0_scratch0).read_unread _)).trans (hs t _ j0 j1)
      · rw [outsAt0_B m c t h h1]
        frame_out
        exact (congrArg (fun a => k0_pay15 (F := Ideal) (k0_pay14 (iblk m c 1 t) (iblk m c 0 t) (iblk m c 2 t)) a (iblk m c 6 t) (ix2 j0 j1))
          ((Memref.isWhole_whole cc0_scratch0).read_unread _)).trans (hs t _ j0 j1))
    (le_of_eq N_0) t0_7 rfl _).trans ?_
  rw [zero_add]
  exact Fin.coe_sum _

theorem gw_last (j : S2x4x128x1024.Idx) : (outsAt0 m c t0_7.val t0_7.isLt).1 j
    = ((∑ t : Fin 8, dwPart A O G W C P e t.val (((j 1).val * 2 + (j 0).val) * 128 + (j 2).val) (j 3) : ℝ) : EReal) :=
  (out7 m c t0_7 rfl _ (scratch_last m c e he hE A O G W C P hA hO hG hW hP hC) j ⟨((j 1).val * 2 + (j 0).val) * 128 + (j 2).val, by
    have h0 : (j 0).val < 2 := (j 0).isLt
    have h1 : (j 1).val < 4 := (j 1).isLt
    have h2 : (j 2).val < 128 := (j 2).isLt
    omega⟩ rfl).trans rfl

theorem final7 : (dats m 0 c).arrAt 7 cfg0.N
    = fun j : S2x4x128x1024.Idx => ((∑ t : Fin 8, dwPart A O G W C P e t.val (((j 1).val * 2 + (j 0).val) * 128 + (j 2).val) (j 3) : ℝ) : EReal) := by
  refine (dats m 0 c).arrAt_eq_of_after_last 7 t0_7 (by decide +kernel) _ fun j => ?_
  rw [after0_7]
  refine (gw_last m c e he hE A O G W C P hA hO hG hW hP hC j).trans ?_
  rfl
end Reals
end Kernel
end Cert.Merge
-- ==== Proof.MergeRef.lean ====
/- The merge's gradient: the reference at an index. -/
module

public import proofs.«01_k».proof.Proof.Merge

@[expose] public section

set_option maxRecDepth 16384

noncomputable section

namespace Cert.Merge

open Idealize.ShloMosaic Idealize.ShloMosaic.TcCoe Idealize.SL.Sem

section Reference
open Cert.Reference4Ideal Cert.Reference4Ideal.Gen

/-- The logistic of the gate. -/
def sgR (g : FVec Ideal S2x2048x512 .f32) : FVec Ideal S2x2048x512 .f32 :=
  Host.divf (broadcastInDim S2x2048x512 ![] bcast_S_S2x2048x512 (constant S_ .f32 0x3F800000#32)) (addf (broadcastInDim S2x2048x512 ![] bcast_S_S2x2048x512 (constant S_ .f32 0x3F800000#32)) (Host.exp (Host.negf g)))

/-- The gate. -/
def gtR (g : FVec Ideal S2x2048x512 .f32) : FVec Ideal S2x2048x512 .f32 :=
  mulf g (sgR g)

/-- The merged branches. -/
def mixR (a o g : FVec Ideal S2x2048x512 .f32) : FVec Ideal S2x2048x1024 .f32 :=
  concatenate S2x2048x1024 2 [⟨S2x2048x512, a⟩, ⟨S2x2048x512, (mulf o (gtR g))⟩] concatenates_S2x2048x512_S2x2048x512_S2x2048x1024_d2

/-- The output projection. -/
def yR (a o g : FVec Ideal S2x2048x512 .f32) (w : FVec Ideal S1024x1024 .f32) : FVec Ideal S2x2048x1024 .f32 :=
  Host.dotGeneral dot_S2x2048x1024_S1024x1024_S2x2048x1024_2_0_01_1_n_n none (mixR a o g) w

/-- The mean square of a row. -/
def msR (y : FVec Ideal S2x2048x1024 .f32) : FVec Ideal S2x2048x1 .f32 :=
  addf (Host.divf (broadcastInDim S2x2048x1 ![0, 1] bcast_S2x2048_S2x2048x1_0_1 (Host.reduceAdd (mulf y y) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- The cotangent times the gain. -/
def cgR (p : FVec Ideal S1024 .f32) (ct : FVec Ideal S2x2048x1024 .f32) : FVec Ideal S2x2048x1024 .f32 :=
  mulf ct (broadcastInDim S2x2048x1024 ![0, 1, 2] bcast_S1x1x1024_S2x2048x1024_0_1_2 (broadcastInDim S1x1x1024 ![2] bcast_S1024_S1x1x1024_2 p))

/-- The factor of the row itself in the norm gradient, once. -/
def tR (y cg : FVec Ideal S2x2048x1024 .f32) : FVec Ideal S2x2048 .f32 :=
  Host.reduceAdd (Host.divf (mulf (shapeCast _ (Host.reduceAdd (mulf y cg) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (msR y)) (msR y)))) (broadcastInDim S2x2048x1 ![] bcast_S_S2x2048x1 (constant S_ .f32 0x44800000#32))) (constant S_ .f32 0x00000000#32) reducesTo_S2x2048x1_S2x2048_d2 h_S_

/-- The gradient of the projection. -/
def dyR (a o g : FVec Ideal S2x2048x512 .f32) (w : FVec Ideal S1024x1024 .f32) (p : FVec Ideal S1024 .f32) (ct : FVec Ideal S2x2048x1024 .f32) : FVec Ideal S2x2048x1024 .f32 :=
  addf (addf (mulf (cgR p ct) (broadcastInDim S2x2048x1024 ![0, 1, 2] bcast_S2x2048x1_S2x2048x1024_0_1_2 (Host.rsqrt (msR (yR a o g w))))) (mulf (yR a o g w) (broadcastInDim S2x2048x1024 ![0, 1] bcast_S2x2048_S2x2048x1024_0_1 (tR (yR a o g w) (cgR p ct))))) (mulf (broadcastInDim S2x2048x1024 ![0, 1] bcast_S2x2048_S2x2048x1024_0_1 (tR (yR a o g w) (cgR p ct))) (yR a o g w))

/-- The gradient of the merged branches. -/
def dmR (a o g : FVec Ideal S2x2048x512 .f32) (w : FVec Ideal S1024x1024 .f32) (p : FVec Ideal S1024 .f32) (ct : FVec Ideal S2x2048x1024 .f32) : FVec Ideal S2x2048x1024 .f32 :=
  Host.dotGeneral dot_S2x2048x1024_S1024x1024_S2x2048x1024_2_1_01_0_n_n none (dyR a o g w p ct) w

/-- Its second half. -/
def dhR (a o g : FVec Ideal S2x2048x512 .f32) (w : FVec Ideal S1024x1024 .f32) (p : FVec Ideal S1024 .f32) (ct : FVec Ideal S2x2048x1024 .f32) : FVec Ideal S2x2048x512 .f32 :=
  extractStridedSlice S2x2048x512 ![0, 0, 512] (dmR a o g w p ct) slices_S2x2048x1024_S2x2048x512_0_0_512

/-- The gradient of the attention output. -/
def doR (a o g : FVec Ideal S2x2048x512 .f32) (w : FVec Ideal S1024x1024 .f32) (p : FVec Ideal S1024 .f32) (ct : FVec Ideal S2x2048x1024 .f32) : FVec Ideal S2x2048x512 .f32 :=
  mulf (dhR a o g w p ct) (gtR g)

section Results
variable (m : (ℓ : Loc nD τ sig) → Buf (Elt Ideal) ℓ) (c : Dev nD) (a o g : FVec Ideal S2x2048x512 .f32) (w : FVec Ideal S1024x1024 .f32) (p : FVec Ideal S1024 .f32) (ct : FVec Ideal S2x2048x1024 .f32)
  (h0 : m ((c.tc : Thread nD τ).loc main_arg0) = a) (h1 : m ((c.tc : Thread nD τ).loc main_arg1) = o) (h2 : m ((c.tc : Thread nD τ).loc main_arg2) = g)
  (h3 : m ((c.tc : Thread nD τ).loc main_arg3) = w) (h4 : m ((c.tc : Thread nD τ).loc main_arg4) = p) (h5 : m ((c.tc : Thread nD τ).loc main_arg5) = ct)
include h0 h1 h2 h3 h4 h5

theorem res0 : Value.res_out0 (F := Ideal) m c = truncf .bf16 (transpose S2x4x128x1024 [1, 0, 2, 3] (shapeCast _ (transpose S1024x1024 [1, 0] (Host.dotGeneral dot_S2x2048x1024_S2x2048x1024_S1024x1024_01_01_2_2_n_n none (dyR a o g w p ct) (mixR a o g)) transposes_S1024x1024_S1024x1024_1_0) shapeCasts_S1024x1024_S4x2x128x1024) transposes_S4x2x128x1024_S2x4x128x1024_1_0_2_3) bitsLt_bf16_f32 := by
  unfold Value.res_out0 Value.res_main_v56
  rw [h0, h1, h2, h3, h4, h5]
  rfl

theorem res1 : Value.res_out1 (F := Ideal) m c = shapeCast _ (extractStridedSlice S2x2048x512 ![0, 0, 0] (dmR a o g w p ct) slices_S2x2048x1024_S2x2048x512_0_0_0) shapeCasts_S2x2048x512_S4096x512 := by
  unfold Value.res_out1 Value.res_main_v57
  rw [h0, h1, h2, h3, h4, h5]
  rfl

theorem res3 : Value.res_out3 (F := Ideal) m c = truncf .bf16 (shapeCast _ (doR a o g w p ct) shapeCasts_S2x2048x512_S4096x512) bitsLt_bf16_f32 := by
  unfold Value.res_out3 Value.res_main_v53
  rw [h0, h1, h2, h3, h4, h5]
  rfl

theorem res4 : Value.res_out4 (F := Ideal) m c = transpose S512x4096 [1, 0] (truncf .bf16 (shapeCast _ (doR a o g w p ct) shapeCasts_S2x2048x512_S4096x512) bitsLt_bf16_f32) transposes_S4096x512_S512x4096_1_0 := by
  unfold Value.res_out4 Value.res_main_v59
  rw [h0, h1, h2, h3, h4, h5]
  rfl

theorem res5 : Value.res_out5 (F := Ideal) m c = truncf .bf16 (shapeCast _ (addf (mulf (mulf o (dhR a o g w p ct)) (sgR g)) (mulf (mulf g (mulf o (dhR a o g w p ct))) (mulf (sgR g) (subf (broadcastInDim S2x2048x512 ![] bcast_S_S2x2048x512 (constant S_ .f32 0x3F800000#32)) (sgR g))))) shapeCasts_S2x2048x512_S4096x512) bitsLt_bf16_f32 := by
  unfold Value.res_out5 Value.res_main_v61
  rw [h0, h1, h2, h3, h4, h5]
  rfl

theorem res6 : Value.res_out6 (F := Ideal) m c = transpose S2x8x2048 [0, 2, 1] (Host.reduceAdd (shapeCast _ (mulf (doR a o g w p ct) o) shapeCasts_S2x2048x512_S2x2048x8x64) (constant S_ .f32 0x00000000#32) reducesTo_S2x2048x8x64_S2x2048x8_d3 h_S_) transposes_S2x2048x8_S2x8x2048_0_2_1 := by
  unfold Value.res_out6 Value.res_main_v51
  rw [h0, h1, h2, h3, h4, h5]
  rfl

end Results

/-- The columns of one head, among all the columns. -/
theorem heads (f : ℕ → ℝ) (h : Fin 8) : ∑ k : Fin 64, f (h.val * 64 + k.val) = ∑ x : Fin 512, if x.val / 64 = h.val then f x.val else 0 := by
  refine Eq.trans ?_ (Fin.sum_rows 8 64 fun x => if x / 64 = h.val then f x else 0)
  have e : ∀ (a : Fin 8) (b : Fin 64), (a.val * 64 + b.val) / 64 = a.val := fun a b => by omega
  simp only [e]
  rw [Finset.sum_eq_single h (fun a _ ha => Finset.sum_eq_zero fun b _ => if_neg fun he => ha (Fin.ext he)) (fun ha => absurd (Finset.mem_univ _) ha)]
  exact Finset.sum_congr rfl fun b _ => (if_pos rfl).symm

section Stages
variable (a o g : FVec Ideal S2x2048x512 .f32) (w : FVec Ideal S1024x1024 .f32) (p : FVec Ideal S1024 .f32) (ct : FVec Ideal S2x2048x1024 .f32)
  (e : ℝ) (he : 0 < e) (hE : Ideal.ofBits .f32 0x358637BD#32 = (e : EReal)) (A O G W C : ℕ → ℕ → ℝ) (P : ℕ → ℝ)
  (hA : ∀ i k, Fin.flat3 a i k = (A i k : EReal)) (hO : ∀ i k, Fin.flat3 o i k = (O i k : EReal)) (hG : ∀ i k, Fin.flat3 g i k = (G i k : EReal))
  (hW : ∀ i k, Fin.flat2 w i k = (W i k : EReal)) (hP : ∀ k, Fin.flat1 p k = (P k : EReal)) (hC : ∀ i k, Fin.flat3 ct i k = (C i k : EReal))

include hG in
theorem sg_ref (b : Fin 2) (t : Fin 2048) (k : Fin 512) : sgR g (ix3 b t k) = (sgm (G (b.val * 2048 + t.val) k.val) : EReal) := by
  have hg := (Fin.flat3_row g b t k).trans (hG _ _)
  pointwise [sgR]
  rw [hg, sgm_div]

include hG in
theorem gt_ref (b : Fin 2) (t : Fin 2048) (k : Fin 512) :
    gtR g (ix3 b t k) = ((G (b.val * 2048 + t.val) k.val * sgm (G (b.val * 2048 + t.val) k.val) : ℝ) : EReal) := by
  have hg := (Fin.flat3_row g b t k).trans (hG _ _)
  have h := sg_ref g G hG b t k
  pointwise [gtR]
  rw [hg, h, ← EReal.coe_mul]

include hA hO hG in
theorem mix_ref (b : Fin 2) (t : Fin 2048) (k : Fin 1024) : mixR a o g (ix3 b t k) = (mix A O G (b.val * 2048 + t.val) k.val : EReal) := by
  unfold mix
  pointwise [mixR]
  split
  next h =>
    exact (Fin.flat3_row a b t _).trans (hA _ _)
  next h =>
    refine (congrArg₂ (· * ·) ((Fin.flat3_row o b t _).trans (hO _ _)) (gt_ref g G hG b t _)).trans ?_
    rw [← EReal.coe_mul]

include hA hO hG hW in
theorem y_ref (b : Fin 2) (t : Fin 2048) (d : Fin 1024) : yR a o g w (ix3 b t d) = (yr A O G W (b.val * 2048 + t.val) d.val : EReal) := by
  have h := fun k => mix_ref a o g A O G hA hO hG b t k
  have hw := fun k => (Fin.flat2_fin w k d).trans (hW _ _)
  pointwise [yR]
  simp only [h, hw, ← EReal.coe_mul, Fin.coe_sum]
  rfl

include hA hO hG hW hE in
theorem ms_ref (b : Fin 2) (t : Fin 2048) :
    msR (yR a o g w) (ix3 b t 0) = (((∑ k : Fin 1024, yr A O G W (b.val * 2048 + t.val) k.val * yr A O G W (b.val * 2048 + t.val) k.val) * (1 / 1024) + e : ℝ) : EReal) := by
  have h := fun k => y_ref a o g w A O G W hA hO hG hW b t k
  pointwise [msR]
  simp only [h, ← EReal.coe_mul, Fin.coe_sum, Fin.ofBits_1024, Ideal.div_coe (show (1024 : ℝ) ≠ 0 by norm_num), hE, ← EReal.coe_add]

include hP hC in
theorem cg_ref (b : Fin 2) (t : Fin 2048) (d : Fin 1024) : cgR p ct (ix3 b t d) = ((C (b.val * 2048 + t.val) d.val * P d.val : ℝ) : EReal) := by
  have h1 := (Fin.flat3_row ct b t d).trans (hC _ _)
  have h2 := (Fin.flat1_fin p d).trans (hP _)
  pointwise [cgR]
  rw [h1, h2, ← EReal.coe_mul]

include hA hO hG hW hE hP hC he

theorem t_ref (b : Fin 2) (t : Fin 2048) :
    tR (yR a o g w) (cgR p ct) (ix2 b t) = (((∑ k : Fin 1024, yr A O G W (b.val * 2048 + t.val) k.val * (C (b.val * 2048 + t.val) k.val * P k.val))
      * (-(1 / 2) * (rs A O G W e (b.val * 2048 + t.val) * (1 / ((∑ k : Fin 1024, yr A O G W (b.val * 2048 + t.val) k.val * yr A O G W (b.val * 2048 + t.val) k.val) * (1 / 1024) + e)))) * (1 / 1024) : ℝ) : EReal) := by
  have hy := fun k => y_ref a o g w A O G W hA hO hG hW b t k
  have hc := fun k => cg_ref p ct C P hP hC b t k
  have hm := ms_ref a o g w e hE A O G W hA hO hG hW b t
  have h := Fin.rms_pos (fun k : Fin 1024 => yr A O G W (b.val * 2048 + t.val) k.val) e 1024 he (by norm_num)
  pointwise [tR]
  simp only [Fin.sum_univ_one, hy, hc, hm, Fin.ofBits_neg_half, Fin.ofBits_1024, Fin.rsqrt_pos h, Ideal.div_coe h.ne', ← EReal.coe_mul, Fin.coe_sum, Ideal.div_coe (show (1024 : ℝ) ≠ 0 by norm_num)]
  rfl

theorem dy_ref (b : Fin 2) (t : Fin 2048) (d : Fin 1024) : dyR a o g w p ct (ix3 b t d) = (dy A O G W C P e (b.val * 2048 + t.val) d : EReal) := by
  have hy := y_ref a o g w A O G W hA hO hG hW b t d
  have hc := cg_ref p ct C P hP hC b t d
  have hm := ms_ref a o g w e hE A O G W hA hO hG hW b t
  have ht := t_ref a o g w p ct e he hE A O G W C P hA hO hG hW hP hC b t
  have h := Fin.rms_pos (fun k : Fin 1024 => yr A O G W (b.val * 2048 + t.val) k.val) e 1024 he (by norm_num)
  pointwise [dyR]
  simp only [hy, hc, hm, ht, Fin.rsqrt_pos h, ← EReal.coe_mul, ← EReal.coe_add]
  refine (congrArg _ ?_).trans (congrArg _ (Fin.rms_grad (fun k : Fin 1024 => yr A O G W (b.val * 2048 + t.val) k.val) (fun k => C (b.val * 2048 + t.val) k.val * P k.val) e 1024 he (by norm_num) d).symm)
  unfold rs
  ring

theorem dm_ref (b : Fin 2) (t : Fin 2048) (k : Fin 1024) : dmR a o g w p ct (ix3 b t k) = (dm A O G W C P e (b.val * 2048 + t.val) k.val : EReal) := by
  have h := fun d => dy_ref a o g w p ct e he hE A O G W C P hA hO hG hW hP hC b t d
  have hw := fun d => (Fin.flat2_fin w k d).trans (hW _ _)
  pointwise [dmR]
  simp only [h, hw, ← EReal.coe_mul, Fin.coe_sum]
  rfl

theorem dh_ref (b : Fin 2) (t : Fin 2048) (k : Fin 512) : dhR a o g w p ct (ix3 b t k) = (dm A O G W C P e (b.val * 2048 + t.val) (512 + k.val) : EReal) := by
  pointwise [dhR]
  exact dm_ref a o g w p ct e he hE A O G W C P hA hO hG hW hP hC b t ⟨512 + k.val, by omega⟩

theorem do_ref (b : Fin 2) (t : Fin 2048) (k : Fin 512) : doR a o g w p ct (ix3 b t k) = (da A O G W C P e (b.val * 2048 + t.val) k.val : EReal) := by
  have h := dh_ref a o g w p ct e he hE A O G W C P hA hO hG hW hP hC b t k
  have h2 := gt_ref g G hG b t k
  pointwise [doR]
  rw [h, h2, ← EReal.coe_mul]
  rfl

theorem row_ref (x : FVec Ideal S2x2048x512 .f32) (f : ℕ → ℕ → ℝ) (h : ∀ b t k, x (ix3 b t k) = (f (b.val * 2048 + t.val) k.val : EReal)) (i : Fin 4096) (k : Fin 512) :
    x (ix3 (⟨i.val / 2048, by omega⟩ : Fin 2) (⟨i.val % 2048, by omega⟩ : Fin 2048) k) = (f i.val k.val : EReal) := by
  rw [h]
  dsimp only
  rw [show i.val / 2048 * 2048 + i.val % 2048 = i.val by omega]

theorem out0_ref (b : Fin 2) (q : Fin 4) (r : Fin 128) (d : Fin 1024) :
    (truncf .bf16 (transpose S2x4x128x1024 [1, 0, 2, 3] (shapeCast _ (transpose S1024x1024 [1, 0] (Host.dotGeneral dot_S2x2048x1024_S2x2048x1024_S1024x1024_01_01_2_2_n_n none (dyR a o g w p ct) (mixR a o g)) transposes_S1024x1024_S1024x1024_1_0) shapeCasts_S1024x1024_S4x2x128x1024) transposes_S4x2x128x1024_S2x4x128x1024_1_0_2_3) bitsLt_bf16_f32) (ix4 b q r d)
      = ((∑ i : Fin 4096, mix A O G i.val ((q.val * 2 + b.val) * 128 + r.val) * dy A O G W C P e i.val d : ℝ) : EReal) := by
  have h := fun b t => dy_ref a o g w p ct e he hE A O G W C P hA hO hG hW hP hC b t d
  have h2 := fun b t k => mix_ref a o g A O G hA hO hG b t k
  pointwise
  simp only [h, h2, ← EReal.coe_mul, Fin.coe_sum]
  rw [show q.val * 256 + b.val * 128 + r.val = (q.val * 2 + b.val) * 128 + r.val by omega]
  refine congrArg _ ((Fin.sum_rows 2 2048 fun i => dy A O G W C P e i d * mix A O G i ((q.val * 2 + b.val) * 128 + r.val)).trans (Finset.sum_congr rfl fun i _ => mul_comm _ _))

theorem out1_ref (i : Fin 4096) (k : Fin 512) : (shapeCast _ (extractStridedSlice S2x2048x512 ![0, 0, 0] (dmR a o g w p ct) slices_S2x2048x1024_S2x2048x512_0_0_0) shapeCasts_S2x2048x512_S4096x512) (ix2 i k) = (dm A O G W C P e i.val k.val : EReal) := by
  have h := fun b t (k : Fin 512) => dm_ref a o g w p ct e he hE A O G W C P hA hO hG hW hP hC b t ⟨k.val, by omega⟩
  pointwise
  have h' := h ⟨i.val / 2048, by omega⟩ ⟨i.val % 2048, by omega⟩ k
  dsimp only at h'
  rw [show i.val / 2048 * 2048 + i.val % 2048 = i.val by omega] at h'
  exact h'

theorem out3_ref (i : Fin 4096) (k : Fin 512) : (truncf .bf16 (shapeCast _ (doR a o g w p ct) shapeCasts_S2x2048x512_S4096x512) bitsLt_bf16_f32) (ix2 i k) = (da A O G W C P e i.val k.val : EReal) := by
  pointwise
  exact row_ref a o g w p ct e he hE A O G W C P hA hO hG hW hP hC (doR a o g w p ct) (da A O G W C P e) (do_ref a o g w p ct e he hE A O G W C P hA hO hG hW hP hC) i k

theorem out4_ref (k : Fin 512) (i : Fin 4096) : (transpose S512x4096 [1, 0] (truncf .bf16 (shapeCast _ (doR a o g w p ct) shapeCasts_S2x2048x512_S4096x512) bitsLt_bf16_f32) transposes_S4096x512_S512x4096_1_0) (ix2 k i) = (da A O G W C P e i.val k.val : EReal) := by
  pointwise
  exact row_ref a o g w p ct e he hE A O G W C P hA hO hG hW hP hC (doR a o g w p ct) (da A O G W C P e) (do_ref a o g w p ct e he hE A O G W C P hA hO hG hW hP hC) i k

theorem out5_ref (i : Fin 4096) (k : Fin 512) : (truncf .bf16 (shapeCast _ (addf (mulf (mulf o (dhR a o g w p ct)) (sgR g)) (mulf (mulf g (mulf o (dhR a o g w p ct))) (mulf (sgR g) (subf (broadcastInDim S2x2048x512 ![] bcast_S_S2x2048x512 (constant S_ .f32 0x3F800000#32)) (sgR g))))) shapeCasts_S2x2048x512_S4096x512) bitsLt_bf16_f32) (ix2 i k) = (dgc A O G W C P e i.val k.val : EReal) := by
  have h1 := row_ref a o g w p ct e he hE A O G W C P hA hO hG hW hP hC (dhR a o g w p ct) (fun i k => dm A O G W C P e i (512 + k)) (dh_ref a o g w p ct e he hE A O G W C P hA hO hG hW hP hC) i k
  have h2 := row_ref a o g w p ct e he hE A O G W C P hA hO hG hW hP hC (sgR g) (fun i k => sgm (G i k)) (sg_ref g G hG) i k
  have h3 := row_ref a o g w p ct e he hE A O G W C P hA hO hG hW hP hC g G (fun b t k => (Fin.flat3_row g b t k).trans (hG _ _)) i k
  have h4 := row_ref a o g w p ct e he hE A O G W C P hA hO hG hW hP hC o O (fun b t k => (Fin.flat3_row o b t k).trans (hO _ _)) i k
  pointwise
  rw [h1, h2, h3, h4]
  simp only [← EReal.coe_one, ← EReal.coe_mul, ← EReal.coe_sub, ← EReal.coe_add]
  unfold dgc
  refine congrArg _ ?_
  ring

theorem out6_ref (b : Fin 2) (h : Fin 8) (t : Fin 2048) : (transpose S2x8x2048 [0, 2, 1] (Host.reduceAdd (shapeCast _ (mulf (doR a o g w p ct) o) shapeCasts_S2x2048x512_S2x2048x8x64) (constant S_ .f32 0x00000000#32) reducesTo_S2x2048x8x64_S2x2048x8_d3 h_S_) transposes_S2x2048x8_S2x8x2048_0_2_1) (ix3 b h t) = (delta A O G W C P e (b.val * 2048 + t.val) h.val : EReal) := by
  have h1 := do_ref a o g w p ct e he hE A O G W C P hA hO hG hW hP hC b t
  have h2 := fun k => (Fin.flat3_row o b t k).trans (hO _ _)
  pointwise
  simp only [h1, h2, ← EReal.coe_mul, Fin.coe_sum]
  exact congrArg _ (heads (fun x => da A O G W C P e (b.val * 2048 + t.val) x * O (b.val * 2048 + t.val) x) h)

theorem out2_ref (d : Fin 1024) : (broadcastInDim S1x1024 ![1] bcast_S1024_S1x1024_1 (Host.reduceAdd (shapeCast _ (Host.reduceAdd (mulf (mulf (yR a o g w) (broadcastInDim S2x2048x1024 ![0, 1, 2] bcast_S2x2048x1_S2x2048x1024_0_1_2 (Host.rsqrt (msR (yR a o g w))))) ct) (constant S_ .f32 0x00000000#32) reducesTo_S2x2048x1024_S1024_d0_1 h_S_) shapeCasts_S1024_S1x1x1024) (constant S_ .f32 0x00000000#32) reducesTo_S1x1x1024_S1024_d0_1 h_S_)) (ix2 0 d) = ((∑ i : Fin 4096, C i.val d.val * (yr A O G W i.val d.val * rs A O G W e i.val) : ℝ) : EReal) := by
  have hy := fun b t => y_ref a o g w A O G W hA hO hG hW b t d
  have hm := ms_ref a o g w e hE A O G W hA hO hG hW
  have hc := fun b t => (Fin.flat3_row ct b t d).trans (hC _ _)
  have h := fun i => Fin.rms_pos (fun k : Fin 1024 => yr A O G W i k.val) e 1024 he (by norm_num)
  pointwise [Fin.hostReduceAdd_r3_a01]
  simp only [Fin.sum_univ_one, hy, hm, hc, Fin.rsqrt_pos (h _), ← EReal.coe_mul, Fin.coe_sum]
  refine congrArg _ ((Fin.sum_rows 2 2048 fun i => yr A O G W i d.val * rs A O G W e i * C i d.val).trans (Finset.sum_congr rfl fun i _ => by ring))
end Stages
end Reference

open Cert in
/-- The arguments that the precondition names are real numbers. -/
theorem args_real (a o g : FVec Ideal Pre_merge_finite.S2x2048x512 .f32) (w : FVec Ideal Pre_merge_finite.S1024x1024 .f32)
    (p : FVec Ideal Pre_merge_finite.S1024 .f32) (ct : FVec Ideal Pre_merge_finite.S2x2048x1024 .f32)
    (h : Pre_merge_finite.fn a o g w p ct (fun a => a.elim0) = 1#1) :
    (((((∀ i, ∃ r : ℝ, a i = (r : EReal)) ∧ ∀ i, ∃ r : ℝ, o i = (r : EReal)) ∧ ∀ i, ∃ r : ℝ, g i = (r : EReal)) ∧ ∀ i, ∃ r : ℝ, w i = (r : EReal))
      ∧ ∀ i, ∃ r : ℝ, p i = (r : EReal)) ∧ ∀ i, ∃ r : ℝ, ct i = (r : EReal) := by
  have h5 := IntOp.andi_eq_one.1 h
  have h4 := IntOp.andi_eq_one.1 h5.1
  have h3 := IntOp.andi_eq_one.1 h4.1
  have h2 := IntOp.andi_eq_one.1 h3.1
  have h1 := IntOp.andi_eq_one.1 h2.1
  exact ⟨⟨⟨⟨⟨fun i => Fin.real_of_abs_lt a _ i (Host.reduce_andi_all _ _ _ _ _ h1.1 i), fun i => Fin.real_of_abs_lt o _ i (Host.reduce_andi_all _ _ _ _ _ h1.2 i)⟩,
    fun i => Fin.real_of_abs_lt g _ i (Host.reduce_andi_all _ _ _ _ _ h2.2 i)⟩, fun i => Fin.real_of_abs_lt w _ i (Host.reduce_andi_all _ _ _ _ _ h3.2 i)⟩,
    fun i => Fin.real_of_abs_lt p _ i (Host.reduce_andi_all _ _ _ _ _ h4.2 i)⟩, fun i => Fin.real_of_abs_lt ct _ i (Host.reduce_andi_all _ _ _ _ _ h5.2 i)⟩

set_option maxHeartbeats 4000000 in
/-- The two programs agree. -/
theorem holds : Cert.algebraic_Kernel4Ideal_Reference4Ideal_pre_merge_finite := by
  intro m ρ m' ρ' hpre hagree
  refine ⟨_, _, _, _, _, _, _, Cert.Kernel4Ideal.Value.run_blocks (F := Ideal) m ρ, ?_⟩
  refine (θ_run Cert.Reference4Ideal.defs _ _).mono (fun _ h c => ⟨?_, ?_, ?_, ?_, ?_, ?_, ?_, (h c).2.2.2.2.2.2.2⟩) (Cert.Reference4Ideal.Value.run (F := Ideal) m' ρ')
  all_goals
    have hr := args_real _ _ _ _ _ _ (congrFun (hpre c) fun a => a.elim0)
    obtain ⟨A, hA⟩ := Fin.flat3_real _ hr.1.1.1.1.1
    obtain ⟨O, hO⟩ := Fin.flat3_real _ hr.1.1.1.1.2
    obtain ⟨G, hG⟩ := Fin.flat3_real _ hr.1.1.1.2
    obtain ⟨W, hW⟩ := Fin.flat2_real _ hr.1.1.2
    obtain ⟨P, hP⟩ := Fin.flat1_real _ hr.1.2
    obtain ⟨C, hC⟩ := Fin.flat3_real _ hr.2
    obtain ⟨e, he, hE⟩ := Fin.ofBits_eps
    obtain ⟨e0, e1, e2, e3, e4, e5⟩ := hagree c
  · rw [(h c).1, final7 m c e he hE A O G W C P hA hO hG hW hP hC]
    funext j
    idx_vars j
    refine (congrFun (res0 m' c _ _ _ _ _ _ e0 e1 e2 e3 e4 e5) _).trans ((out0_ref _ _ _ _ _ _ e he hE A O G W C P hA hO hG hW hP hC j0 j1 j2 j3).trans (congrArg _ ?_))
    exact (Fin.sum_rows 8 512 fun i => mix A O G i ((j1.val * 2 + j0.val) * 128 + j2.val) * dy A O G W C P e i j3).symm
  · rw [(h c).2.1, final8 m c e he hE A O G W C P hA hO hG hW hP hC]
    funext j
    idx_vars j
    exact (congrFun (res1 m' c _ _ _ _ _ _ e0 e1 e2 e3 e4 e5) _).trans (out1_ref _ _ _ _ _ _ e he hE A O G W C P hA hO hG hW hP hC j0 j1)
  · rw [(h c).2.2.1, e0, e1, e2, e3, e5, final9 m c e he hE A O G W C P hA hO hG hW hP hC]
    funext j
    idx_vars j
    obtain rfl : j0 = 0 := Subsingleton.elim _ _
    refine (out2_ref _ _ _ _ _ _ e he hE A O G W C P hA hO hG hW hP hC j1).trans (congrArg _ ?_)
    exact (Fin.sum_rows 8 512 fun i => C i j1.val * (yr A O G W i j1.val * rs A O G W e i)).symm
  · rw [(h c).2.2.2.1, final10 m c e he hE A O G W C P hA hO hG hW hP hC]
    funext j
    idx_vars j
    exact (congrFun (res3 m' c _ _ _ _ _ _ e0 e1 e2 e3 e4 e5) _).trans (out3_ref _ _ _ _ _ _ e he hE A O G W C P hA hO hG hW hP hC j0 j1)
  · rw [(h c).2.2.2.2.1, final11 m c e he hE A O G W C P hA hO hG hW hP hC]
    funext j
    idx_vars j
    exact (congrFun (res4 m' c _ _ _ _ _ _ e0 e1 e2 e3 e4 e5) _).trans (out4_ref _ _ _ _ _ _ e he hE A O G W C P hA hO hG hW hP hC j0 j1)
  · rw [(h c).2.2.2.2.2.1, final12 m c e he hE A O G W C P hA hO hG hW hP hC]
    funext j
    idx_vars j
    exact (congrFun (res5 m' c _ _ _ _ _ _ e0 e1 e2 e3 e4 e5) _).trans (out5_ref _ _ _ _ _ _ e he hE A O G W C P hA hO hG hW hP hC j0 j1)
  · rw [(h c).2.2.2.2.2.2.1, final13 m c e he hE A O G W C P hA hO hG hW hP hC]
    funext j
    idx_vars j
    exact (congrFun (res6 m' c _ _ _ _ _ _ e0 e1 e2 e3 e4 e5) _).trans (out6_ref _ _ _ _ _ _ e he hE A O G W C P hA hO hG hW hP hC j0 j1 j2)

end Cert.Merge
-- ==== Proof.PoolA.lean ====
/- The pooling branch's gradient: the kernel's tile at an index. -/
module

public import proofs.«01_k».proof.Defs
public import proofs.«01_k».proof.Proof.Gen.Kernel5Ideal.Skeleton
public import proofs.«01_k».proof.Proof.Lib
public import Idealize.ShloMosaic.Lib.Pipeline.ValueKit
public import Idealize.ShloMosaic.Lib.StableHlo.ReadAt

@[expose] public section

set_option maxRecDepth 16384

noncomputable section

namespace Cert.Pool

open Idealize.ShloMosaic Idealize.ShloMosaic.TcCoe Idealize.SL.Sem
open Cert.Kernel5Ideal Cert.Kernel5Ideal.Gen

/-- The logistic function. -/
def sgm (x : ℝ) : ℝ := 1 / (1 + Real.exp (-x))

theorem sgm_div (x : ℝ) : Ideal.div 1 (1 + Ideal.exp (-(x : EReal))) = (sgm x : EReal) := by
  have h : (1 : ℝ) + Real.exp (-x) ≠ 0 := (add_pos one_pos (Real.exp_pos _)).ne'
  rw [← EReal.coe_neg, Ideal.exp_coe, ← EReal.coe_one, ← EReal.coe_add, Ideal.div_coe h, ← EReal.coe_mul, one_mul]
  rfl

/-- The window of column `j`: 2, 4, 8 or 16 rows by groups of 64 columns. -/
def wd (j : ℕ) : ℕ := 2 ^ (j / 64 + 1)

section Math
variable (U G D W : ℕ → ℕ → ℝ) (S : ℕ → ℝ)

/-- How many rows the window at row `n` has inside its sequence. -/
def cnt (n j : ℕ) : ℝ := min ((n % 2048 : ℕ) + 1 : ℝ) (wd j)
/-- The mean over the window less the row itself. -/
def pool (n j : ℕ) : ℝ := (∑ s ∈ Finset.range (wd j), if s ≤ n % 2048 then U (n - s) j else 0) * (1 / cnt n j) - U n j
/-- The mixed columns. -/
def pre (n d : ℕ) : ℝ := ∑ c : Fin 256, pool U n c.val * W c.val d
/-- The cotangent of the mixed columns. -/
def dpre (n d : ℕ) : ℝ := D n d * S d * (G n d * sgm (G n d))
/-- The cotangent of the pooled columns. -/
def dpool (n c : ℕ) : ℝ := ∑ d : Fin 256, dpre G D S n d.val * W c d.val
/-- The gradient of the pooled input. -/
def du (n j : ℕ) : ℝ :=
  (∑ s ∈ Finset.range (wd j), if n % 2048 + s < 2048 then dpool G D W S (n + s) j * (1 / cnt (n + s) j) else 0) - dpool G D W S n j
/-- The gate's gradient. -/
def dgb (n j : ℕ) : ℝ := D n j * pre U W n j * S j * (sgm (G n j) * (1 + G n j * (1 - sgm (G n j))))
/-- What the rows of block `t` give to the mixing weights' and to the scale's gradient. -/
def dwPart (t c d : ℕ) : ℝ := ∑ r : Fin 512, pool U (t * 512 + r.val) c * dpre G D S (t * 512 + r.val) d
def dsPart (t d : ℕ) : ℝ := ∑ r : Fin 512, D (t * 512 + r.val) d * pre U W (t * 512 + r.val) d * (G (t * 512 + r.val) d * sgm (G (t * 512 + r.val) d))
end Math

theorem wd_pos (j : ℕ) : 0 < wd j := by unfold wd; positivity
theorem cnt_pos (n j : ℕ) : cnt n j ≠ 0 := by
  unfold cnt
  have := wd_pos j
  positivity

/-- One doubling of the running sums: the array and its rotation by `k` rows. -/
def dbl (k : BitVec 32) (x : FVec Ideal S528x256 .f32) : FVec Ideal S528x256 .f32 := addf x (dynamicRotate 0 k none x rotates_S528x256_d0)

theorem dbl_down {k : BitVec 32} {w : ℕ} (x : FVec Ideal S528x256 .f32) (j : Fin 256) (E : ℕ → ℝ) (hw : 0 < w ∧ w < 528)
    (hk : ∀ n : Fin 528, dbl k x (ix2 n j) = x (ix2 n j) + x (ix2 (⟨(n.val + 528 - w) % 528, Nat.mod_lt _ (by norm_num)⟩ : Fin 528) j))
    (hx : ∀ n : Fin 528, w - 1 ≤ n.val → x (ix2 n j) = ((∑ s ∈ Finset.range w, E (n.val - s) : ℝ) : EReal)) (n : Fin 528) (hn : 2 * w - 1 ≤ n.val) :
    dbl k x (ix2 n j) = ((∑ s ∈ Finset.range (2 * w), E (n.val - s) : ℝ) : EReal) := by
  have hl := n.isLt
  have e : (n.val + 528 - w) % 528 = n.val - w := by
    rw [show n.val + 528 - w = (n.val - w) + 528 by omega, Nat.add_mod_right, Nat.mod_eq_of_lt (by omega)]
  rw [hk, hx n (by omega), hx _ (by show w - 1 ≤ (n.val + 528 - w) % 528; omega), ← EReal.coe_add]
  simp only [e]
  rw [two_mul, Finset.sum_range_add]
  simp only [Nat.sub_sub]

theorem dbl_up {k : BitVec 32} {w : ℕ} (x : FVec Ideal S528x256 .f32) (j : Fin 256) (E : ℕ → ℝ) (hw : 0 < w ∧ w < 528)
    (hk : ∀ n : Fin 528, dbl k x (ix2 n j) = x (ix2 n j) + x (ix2 (⟨(n.val + 528 - (528 - w)) % 528, Nat.mod_lt _ (by norm_num)⟩ : Fin 528) j))
    (hx : ∀ n : Fin 528, n.val + w ≤ 528 → x (ix2 n j) = ((∑ s ∈ Finset.range w, E (n.val + s) : ℝ) : EReal)) (n : Fin 528) (hn : n.val + 2 * w ≤ 528) :
    dbl k x (ix2 n j) = ((∑ s ∈ Finset.range (2 * w), E (n.val + s) : ℝ) : EReal) := by
  have hl := n.isLt
  have e : (n.val + 528 - (528 - w)) % 528 = n.val + w := by
    rw [show n.val + 528 - (528 - w) = n.val + w by omega, Nat.mod_eq_of_lt (by omega)]
  rw [hk, hx n (by omega), hx _ (by show (n.val + 528 - (528 - w)) % 528 + w ≤ 528; omega), ← EReal.coe_add]
  simp only [e]
  rw [two_mul, Finset.sum_range_add]
  simp only [Nat.add_assoc]

theorem rot (x : FVec Ideal S528x256 .f32) (n : Fin 528) (j : Fin 256) :
    (dbl 1#32 x (ix2 n j) = x (ix2 n j) + x (ix2 (⟨(n.val + 528 - 1) % 528, Nat.mod_lt _ (by norm_num)⟩ : Fin 528) j)
    ∧ dbl 2#32 x (ix2 n j) = x (ix2 n j) + x (ix2 (⟨(n.val + 528 - 2) % 528, Nat.mod_lt _ (by norm_num)⟩ : Fin 528) j)
    ∧ dbl 4#32 x (ix2 n j) = x (ix2 n j) + x (ix2 (⟨(n.val + 528 - 4) % 528, Nat.mod_lt _ (by norm_num)⟩ : Fin 528) j)
    ∧ dbl 8#32 x (ix2 n j) = x (ix2 n j) + x (ix2 (⟨(n.val + 528 - 8) % 528, Nat.mod_lt _ (by norm_num)⟩ : Fin 528) j))
    ∧ (dbl 527#32 x (ix2 n j) = x (ix2 n j) + x (ix2 (⟨(n.val + 528 - (528 - 1)) % 528, Nat.mod_lt _ (by norm_num)⟩ : Fin 528) j)
    ∧ dbl 526#32 x (ix2 n j) = x (ix2 n j) + x (ix2 (⟨(n.val + 528 - (528 - 2)) % 528, Nat.mod_lt _ (by norm_num)⟩ : Fin 528) j)
    ∧ dbl 524#32 x (ix2 n j) = x (ix2 n j) + x (ix2 (⟨(n.val + 528 - (528 - 4)) % 528, Nat.mod_lt _ (by norm_num)⟩ : Fin 528) j)
    ∧ dbl 520#32 x (ix2 n j) = x (ix2 n j) + x (ix2 (⟨(n.val + 528 - (528 - 8)) % 528, Nat.mod_lt _ (by norm_num)⟩ : Fin 528) j)) := by
  refine ⟨⟨?_, ?_, ?_, ?_⟩, ?_, ?_, ?_, ?_⟩ <;> pointwise [dbl]

theorem downs (x : FVec Ideal S528x256 .f32) (j : Fin 256) (E : ℕ → ℝ) (hx : ∀ n : Fin 528, x (ix2 n j) = (E n.val : EReal)) (n : Fin 528) (hn : 16 ≤ n.val) :
    dbl 1#32 x (ix2 n j) = ((∑ s ∈ Finset.range 2, E (n.val - s) : ℝ) : EReal)
    ∧ dbl 2#32 (dbl 1#32 x) (ix2 n j) = ((∑ s ∈ Finset.range 4, E (n.val - s) : ℝ) : EReal)
    ∧ dbl 4#32 (dbl 2#32 (dbl 1#32 x)) (ix2 n j) = ((∑ s ∈ Finset.range 8, E (n.val - s) : ℝ) : EReal)
    ∧ dbl 8#32 (dbl 4#32 (dbl 2#32 (dbl 1#32 x))) (ix2 n j) = ((∑ s ∈ Finset.range 16, E (n.val - s) : ℝ) : EReal) := by
  have a := dbl_down (k := 1#32) (w := 1) x j E (by norm_num) (fun n => (rot x n j).1.1) (fun n _ => by simp [hx n])
  have b := dbl_down (k := 2#32) (w := 2) (dbl 1#32 x) j E (by norm_num) (fun n => (rot _ n j).1.2.1) a
  have c := dbl_down (k := 4#32) (w := 4) _ j E (by norm_num) (fun n => (rot _ n j).1.2.2.1) b
  have d := dbl_down (k := 8#32) (w := 8) _ j E (by norm_num) (fun n => (rot _ n j).1.2.2.2) c
  exact ⟨a n (by omega), b n (by omega), c n (by omega), d n (by omega)⟩

theorem ups (x : FVec Ideal S528x256 .f32) (j : Fin 256) (E : ℕ → ℝ) (hx : ∀ n : Fin 528, x (ix2 n j) = (E n.val : EReal)) (n : Fin 528) (hn : n.val < 512) :
    dbl 527#32 x (ix2 n j) = ((∑ s ∈ Finset.range 2, E (n.val + s) : ℝ) : EReal)
    ∧ dbl 526#32 (dbl 527#32 x) (ix2 n j) = ((∑ s ∈ Finset.range 4, E (n.val + s) : ℝ) : EReal)
    ∧ dbl 524#32 (dbl 526#32 (dbl 527#32 x)) (ix2 n j) = ((∑ s ∈ Finset.range 8, E (n.val + s) : ℝ) : EReal)
    ∧ dbl 520#32 (dbl 524#32 (dbl 526#32 (dbl 527#32 x))) (ix2 n j) = ((∑ s ∈ Finset.range 16, E (n.val + s) : ℝ) : EReal) := by
  have a := dbl_up (k := 527#32) (w := 1) x j E (by norm_num) (fun n => (rot x n j).2.1) (fun n _ => by simp [hx n])
  have b := dbl_up (k := 526#32) (w := 2) (dbl 527#32 x) j E (by norm_num) (fun n => (rot _ n j).2.2.1) a
  have c := dbl_up (k := 524#32) (w := 4) _ j E (by norm_num) (fun n => (rot _ n j).2.2.2.1) b
  have d := dbl_up (k := 520#32) (w := 8) _ j E (by norm_num) (fun n => (rot _ n j).2.2.2.2) c
  exact ⟨a n (by omega), b n (by omega), c n (by omega), d n (by omega)⟩

/-- The choice of the window by the column's group. -/
theorem pick (v : BitVec 32) (a b c d : EReal) (j : ℕ) (hj : j < 256) (f : ℕ → ℝ) (hv : v = BitVec.ofNat 32 (j / 64))
    (ha : a = (f 2 : EReal)) (hb : b = (f 4 : EReal)) (hc : c = (f 8 : EReal)) (hd : d = (f 16 : EReal)) :
    Scalar.select (IntOp.cmpi CmpIPredicate.eq v 0#32) a (Scalar.select (IntOp.cmpi CmpIPredicate.eq v 1#32) b
      (Scalar.select (IntOp.cmpi CmpIPredicate.eq v 2#32) c d)) = (f (wd j) : EReal) := by
  have hj : j / 64 = 0 ∨ j / 64 = 1 ∨ j / 64 = 2 ∨ j / 64 = 3 := by omega
  subst hv ha hb hc hd
  unfold wd
  rcases hj with h | h | h | h <;> rw [h] <;> rfl

/-- A count of rows as the programs compute it. -/
theorem rows (a b : ℕ) (h : a + b < 4096) (v w : BitVec 32) (hv : v = BitVec.ofNat 32 a) (hw : w = BitVec.ofNat 32 b) :
    (FloatOps.sitofp .f32 (IntOp.addi v w) : Ideal .f32) = ((((a + b : ℕ) : ℝ)) : EReal) := by
  subst hv hw
  show ((((BitVec.ofNat 32 a + BitVec.ofNat 32 b).toInt : ℝ)) : EReal) = _
  rw [← BitVec.ofNat_add, BitVec.toInt_eq_toNat_of_lt (by rw [BitVec.toNat_ofNat, Nat.mod_eq_of_lt (by omega)]; omega), BitVec.toNat_ofNat, Nat.mod_eq_of_lt (by omega)]
  norm_num

theorem min_real (a b : ℝ) : min (a : EReal) (b : EReal) = ((min a b : ℝ) : EReal) := (EReal.coe_strictMono.monotone.map_min).symm

theorem cnt_point (v64 : FVec Ideal S1x256 .f32) (v78 v79 : IVec S512x256 32) (n b : ℕ) (r : Fin 512) (j : Fin 256) (hb : n % 2048 = b + r.val)
    (h64 : v64 (ix2 0 j) = ((wd j.val : ℝ) : EReal)) (h78 : v78 (ix2 r j) = BitVec.ofNat 32 r.val) (h79 : v79 (ix2 r j) = BitVec.ofNat 32 b) :
    k0_pay28 (F := Ideal) v64 v78 v79 (ix2 r j) = (cnt n j.val : EReal) := by
  have hn := Nat.mod_lt n (show 0 < 2048 by norm_num)
  pointwise [k0_pay28]
  rw [rows b r.val (by omega) _ _ h79 h78, h64, ← EReal.coe_one, ← EReal.coe_add, min_real]
  unfold cnt
  rw [hb]

/-- One pooled entry of a tile, from the four running sums. -/
theorem pool_point (v21 : FVec Ideal S512x256 .f32) (v47 : IVec S1x256 32) (v64 : FVec Ideal S1x256 .f32) (a b c d : FVec Ideal S512x256 .f32)
    (v78 v79 : IVec S512x256 32) (U : ℕ → ℕ → ℝ) (n p : ℕ) (r : Fin 512) (j : Fin 256) (hp : n % 2048 = p + r.val)
    (h47 : v47 (ix2 0 j) = BitVec.ofNat 32 (j.val / 64)) (h64 : v64 (ix2 0 j) = ((wd j.val : ℝ) : EReal))
    (h78 : v78 (ix2 r j) = BitVec.ofNat 32 r.val) (h79 : v79 (ix2 r j) = BitVec.ofNat 32 p) (h21 : v21 (ix2 r j) = (U n j.val : EReal))
    (f : ℕ → ℝ) (hf : f = fun w => ∑ s ∈ Finset.range w, if s ≤ n % 2048 then U (n - s) j.val else 0)
    (ha : a (ix2 r j) = (f 2 : EReal)) (hb : b (ix2 r j) = (f 4 : EReal)) (hc : c (ix2 r j) = (f 8 : EReal)) (hd : d (ix2 r j) = (f 16 : EReal)) :
    k0_pay29 (F := Ideal) v21 v47 v64 a b c d v78 v79 (ix2 r j) = (pool U n j.val : EReal) := by
  have hc' := cnt_point v64 v78 v79 n p r j hp h64 h78 h79
  pointwise [k0_pay29]
  rw [pick _ _ _ _ _ j.val j.isLt f h47 ha hb hc hd, hc', h21, Ideal.div_coe (cnt_pos n j.val), ← EReal.coe_mul, ← EReal.coe_sub, hf]
  rfl

/-- One mixed entry. -/
theorem pre_point (v21 : FVec Ideal S512x256 .f32) (v47 : IVec S1x256 32) (v64 : FVec Ideal S1x256 .f32) (a b c d : FVec Ideal S512x256 .f32)
    (v78 v79 : IVec S512x256 32) (w : FVec Ideal S256x256 .bf16) (U W : ℕ → ℕ → ℝ) (n : ℕ) (r : Fin 512) (j : Fin 256)
    (hp : ∀ k, k0_pay29 (F := Ideal) v21 v47 v64 a b c d v78 v79 (ix2 r k) = (pool U n k.val : EReal)) (hw : ∀ k, w (ix2 k j) = (W k.val j.val : EReal)) :
    k0_pay30 (F := Ideal) v21 v47 v64 a b c d v78 v79 w (ix2 r j) = (pre U W n j.val : EReal) := by
  pointwise [k0_pay30]
  simp only [hp, hw, ← EReal.coe_mul, Fin.coe_sum]
  rfl

theorem sg_point (g : FVec Ideal S512x256 .f32) (r : Fin 512) (x : Fin 256) (G : ℝ) (hg : g (ix2 r x) = (G : EReal)) :
    k0_pay33 (F := Ideal) g (ix2 r x) = (sgm G : EReal) := by
  pointwise [k0_pay33, k0_pay31]
  rw [hg, zero_sub, sgm_div]

/-- One entry of the gate's gradient. -/
theorem dgb_point (s : FVec Ideal S1x256 .f32) (g dm q : FVec Ideal S512x256 .f32) (v21 : FVec Ideal S512x256 .f32) (v47 : IVec S1x256 32) (v64 : FVec Ideal S1x256 .f32) (a b c d : FVec Ideal S512x256 .f32)
    (v78 v79 : IVec S512x256 32) (w : FVec Ideal S256x256 .bf16) (U G D W : ℕ → ℕ → ℝ) (S : ℕ → ℝ) (n : ℕ) (r : Fin 512) (j : Fin 256)
    (hs : s (ix2 0 j) = (S j.val : EReal)) (hg : g (ix2 r j) = (G n j.val : EReal)) (hd : dm (ix2 r j) = (D n j.val : EReal))
    (hq : k0_pay30 (F := Ideal) v21 v47 v64 a b c d v78 v79 w (ix2 r j) = (pre U W n j.val : EReal)) :
    k0_pay37 (F := Ideal) (k0_pay33 g) (k0_pay35 s v21 v47 v64 a b c d v78 v79 w dm) (k0_pay36 g) (ix2 r j) = (dgb U G D W S n j.val : EReal) := by
  have h := sg_point g r j _ hg
  pointwise [k0_pay37, k0_pay35, k0_pay36, k0_pay32, k0_pay31]
  simp only [hs, hg, hd, hq, h, ← EReal.coe_one, ← EReal.coe_mul, ← EReal.coe_sub, ← EReal.coe_add]
  rfl

theorem ds_point (g dm q : FVec Ideal S512x256 .f32) (U G D W : ℕ → ℕ → ℝ) (t : ℕ) (j : Fin 256)
    (hg : ∀ r, g (ix2 r j) = (G (t * 512 + r.val) j.val : EReal)) (hd : ∀ r, dm (ix2 r j) = (D (t * 512 + r.val) j.val : EReal)) (hq : ∀ r, q (ix2 r j) = (pre U W (t * 512 + r.val) j.val : EReal)) :
    k0_pay38 (F := Ideal) q (k0_pay32 dm) (k0_pay34 g) (ix2 0 j) = (dsPart U G D W t j.val : EReal) := by
  have h := fun r => sg_point g r j _ (hg r)
  pointwise [k0_pay38, k0_pay34, k0_pay32, k0_pay31]
  simp only [hg, hd, hq, h, ← EReal.coe_mul, Fin.coe_sum]
  rfl

theorem dpre_point (s : FVec Ideal S1x256 .f32) (g dm : FVec Ideal S512x256 .f32) (G D : ℕ → ℕ → ℝ) (S : ℕ → ℝ) (n : ℕ) (r : Fin 512) (j : Fin 256)
    (hs : s (ix2 0 j) = (S j.val : EReal)) (hg : g (ix2 r j) = (G n j.val : EReal)) (hd : dm (ix2 r j) = (D n j.val : EReal)) :
    k0_pay39 (F := Ideal) s (k0_pay32 dm) (k0_pay34 g) (ix2 r j) = (dpre G D S n j.val : EReal) := by
  have h := sg_point g r j _ hg
  pointwise [k0_pay39, k0_pay34, k0_pay32, k0_pay31]
  simp only [hs, hg, hd, h, ← EReal.coe_mul]
  rfl

theorem dw_point (s : FVec Ideal S1x256 .f32) (g dm : FVec Ideal S512x256 .f32) (p : FVec Ideal S512x256 .bf16) (U G D : ℕ → ℕ → ℝ) (S : ℕ → ℝ) (t : ℕ) (c j : Fin 256)
    (hp : ∀ r, p (ix2 r c) = (pool U (t * 512 + r.val) c.val : EReal)) (hd : ∀ r, k0_pay39 (F := Ideal) s (k0_pay32 dm) (k0_pay34 g) (ix2 r j) = (dpre G D S (t * 512 + r.val) j.val : EReal)) :
    k0_pay40 (F := Ideal) s p (k0_pay32 dm) (k0_pay34 g) (ix2 c j) = (dwPart U G D S t c.val j.val : EReal) := by
  pointwise [k0_pay40]
  simp only [hp, hd, ← EReal.coe_mul, Fin.coe_sum]
  rfl

theorem dpool_point (s : FVec Ideal S1x256 .f32) (g dm : FVec Ideal S512x256 .f32) (w : FVec Ideal S256x256 .bf16) (G D W : ℕ → ℕ → ℝ) (S : ℕ → ℝ) (n : ℕ) (r : Fin 512) (j : Fin 256)
    (hd : ∀ k, k0_pay39 (F := Ideal) s (k0_pay32 dm) (k0_pay34 g) (ix2 r k) = (dpre G D S n k.val : EReal)) (hw : ∀ k, w (ix2 k j) = (W j.val k.val : EReal)) :
    k0_pay41 (F := Ideal) s (k0_pay32 dm) (k0_pay34 g) w (ix2 r j) = (dpool G D W S n j.val : EReal) := by
  pointwise [k0_pay41]
  simp only [hd, hw, ← EReal.coe_mul, Fin.coe_sum]
  rfl

/-- The cotangent of the pooled columns at the rows after the tile: nothing past the sequence's end. -/
theorem halo_point (v12 : BitVec 32) (s : FVec Ideal S1x256 .f32) (g dm : FVec Ideal S16x256 .f32) (w : FVec Ideal S256x256 .bf16) (G D W : ℕ → ℕ → ℝ) (S : ℕ → ℝ) (n i : ℕ) (hi : i < 4) (r : Fin 16) (j : Fin 256)
    (hv : v12 = BitVec.ofNat 32 i) (hs : ∀ k, s (ix2 0 k) = (S k.val : EReal)) (hg : i ≠ 3 → ∀ k, g (ix2 r k) = (G n k.val : EReal)) (hd : i ≠ 3 → ∀ k, dm (ix2 r k) = (D n k.val : EReal))
    (hw : ∀ k, w (ix2 k j) = (W j.val k.val : EReal)) :
    k0_pay42 (F := Ideal) v12 s g dm w (ix2 r j) = ((if i = 3 then 0 else dpool G D W S n j.val : ℝ) : EReal) := by
  subst hv
  by_cases h : i = 3
  · subst h
    pointwise [k0_pay42]
    rfl
  · have e : Scalar.cmpi .eq (BitVec.ofNat 32 i) 3#32 = 0#1 := by
      have : i = 0 ∨ i = 1 ∨ i = 2 := by omega
      rcases this with h | h | h <;> subst h <;> rfl
    rw [if_neg h]
    unfold dpool dpre
    have hz := fun k => sgm_div (G n k)
    pointwise [k0_pay42]
    simp only [e, hs, hg h, hd h, hw, zero_sub, hz, ← EReal.coe_mul, Fin.coe_sum]
    rfl

/-- The tile's rows and the sixteen after them, each over its count. -/
def joined (v85 v140 : FVec Ideal S512x256 .f32) (v162 : FVec Ideal S16x256 .f32) (v204 : FVec Ideal S1x256 .f32) (v207 v208 : IVec S16x256 32) : FVec Ideal S528x256 .f32 :=
  concatenate S528x256 0 [⟨S512x256, divf v140 v85⟩, ⟨S16x256, divf v162 (minimumf (addf (sitofp .f32 (addi v208 v207)) (broadcast S16x256 (Scalar.ofBits (F := Ideal) .f32 0x3F800000#32)))
    (broadcastTo S16x256 v204 broadcasts_S1x256_S16x256))⟩] concatenates_S512x256_S16x256_S528x256_d0

theorem over_count (q : ℕ → ℝ) (j t n : ℕ) (hi : t % 4 < 3) (h : ¬n < 512) (hn : n < 528) :
    q (t * 512 + 512 + (n - 512)) * (1 / min ((((t % 4 + 1) * 512 + (n - 512) : ℕ) : ℝ) + 1) (wd j : ℝ)) = q (t * 512 + n) * (1 / cnt (t * 512 + n) j) := by
  unfold cnt
  rw [show t * 512 + 512 + (n - 512) = t * 512 + n by omega, show (t * 512 + n) % 2048 = (t % 4 + 1) * 512 + (n - 512) by omega]

theorem joined_point (v85 v140 : FVec Ideal S512x256 .f32) (v162 : FVec Ideal S16x256 .f32) (v204 : FVec Ideal S1x256 .f32) (v207 v208 : IVec S16x256 32)
    (G D W : ℕ → ℕ → ℝ) (S : ℕ → ℝ) (t : ℕ) (j : Fin 256)
    (h85 : ∀ r, v85 (ix2 r j) = (cnt (t * 512 + r.val) j.val : EReal)) (h140 : ∀ r, v140 (ix2 r j) = (dpool G D W S (t * 512 + r.val) j.val : EReal))
    (h162 : ∀ r, v162 (ix2 r j) = ((if t % 4 = 3 then 0 else dpool G D W S (t * 512 + 512 + r.val) j.val : ℝ) : EReal))
    (h204 : v204 (ix2 0 j) = ((wd j.val : ℝ) : EReal)) (h207 : ∀ r, v207 (ix2 r j) = BitVec.ofNat 32 r.val) (h208 : ∀ r, v208 (ix2 r j) = BitVec.ofNat 32 ((t % 4 + 1) * 512)) (n : Fin 528) :
    joined v85 v140 v162 v204 v207 v208 (ix2 n j)
      = ((if t * 512 % 2048 + n.val < 2048 then dpool G D W S (t * 512 + n.val) j.val * (1 / cnt (t * 512 + n.val) j.val) else 0 : ℝ) : EReal) := by
  have hb : t * 512 % 2048 = (t % 4) * 512 := by omega
  pointwise [joined]
  by_cases h : n.val < 512
  · rw [dif_pos h, h140, h85, Ideal.div_coe (cnt_pos _ _), ← EReal.coe_mul, if_pos (by omega)]
  · rw [dif_neg h]
    have hl := n.isLt
    have hi : t % 4 = 3 ∨ t % 4 < 3 := by omega
    have hr := rows ((t % 4 + 1) * 512) (n.val - 512) (by omega) _ _ (h208 (⟨n.val - 512, by omega⟩ : Fin 16)) (h207 (⟨n.val - 512, by omega⟩ : Fin 16))
    have hw := wd_pos j.val
    have hm : ((((t % 4 + 1) * 512 + (n.val - 512) : ℕ) : ℝ) : EReal) + 1 = (((((t % 4 + 1) * 512 + (n.val - 512) : ℕ) : ℝ) + 1 : ℝ) : EReal) := by rw [EReal.coe_add, EReal.coe_one]
    refine (congrArg₂ Ideal.div (h162 _) ((congrArg₂ min ((congrArg (· + 1) hr).trans hm) h204).trans (min_real _ _))).trans ?_
    rw [Ideal.div_coe (by positivity), ← EReal.coe_mul]
    refine congrArg _ ?_
    rcases hi with hi | hi
    · rw [if_pos hi, zero_mul, if_neg (by omega)]
    · rw [if_neg (by omega)]
      by_cases h2 : t * 512 % 2048 + n.val < 2048
      · exact (over_count (dpool G D W S · j.val) j.val t n.val hi h hl).trans (if_pos h2).symm
      · exact absurd (show t * 512 % 2048 + n.val < 2048 by omega) h2

/-- The window's running sums, chosen by the column's group. -/
def chosen (v187 : IVec S1x256 32) (x : FVec Ideal S528x256 .f32) : FVec Ideal S512x256 .f32 :=
  let cut (y : FVec Ideal S528x256 .f32) : FVec Ideal S512x256 .f32 := extractStridedSlice S512x256 ![0, 0] y slices_S528x256_o0_0_S512x256
  let at' (k : BitVec 32) : IVec S512x256 1 := broadcastTo S512x256 (shapeCast S1x256 (cmpi .eq v187 (broadcast S1x256 k)) shapeCasts_S1x256_S1x256) broadcasts_S1x256_S512x256
  select (at' 0#32) (cut (dbl 527#32 x)) (select (at' 1#32) (cut (dbl 526#32 (dbl 527#32 x))) (select (at' 2#32) (cut (dbl 524#32 (dbl 526#32 (dbl 527#32 x))))
    (cut (dbl 520#32 (dbl 524#32 (dbl 526#32 (dbl 527#32 x)))))))

theorem chosen_point (v187 : IVec S1x256 32) (x : FVec Ideal S528x256 .f32) (E : ℕ → ℝ) (r : Fin 512) (j : Fin 256) (h187 : v187 (ix2 0 j) = BitVec.ofNat 32 (j.val / 64))
    (hx : ∀ n : Fin 528, x (ix2 n j) = (E n.val : EReal)) : chosen v187 x (ix2 r j) = ((∑ s ∈ Finset.range (wd j.val), E (r.val + s) : ℝ) : EReal) := by
  have hu := ups x j E hx (⟨r.val, by omega⟩ : Fin 528) r.isLt
  have h := pick (v187 (ix2 0 j)) _ _ _ _ j.val j.isLt (fun w => ∑ s ∈ Finset.range w, E (r.val + s)) h187 hu.1 hu.2.1 hu.2.2.1 hu.2.2.2
  pointwise [chosen]
  exact h

theorem db_eq (v85 v128 v140 : FVec Ideal S512x256 .f32) (v162 : FVec Ideal S16x256 .f32) (v187 : IVec S1x256 32) (v204 : FVec Ideal S1x256 .f32) (v207 v208 : IVec S16x256 32) :
    k0_pay47 (F := Ideal) v85 v128 v140 v162 v187 v204 v207 v208
      = truncf .bf16 (concatenate S512x512 1 [⟨S512x256, subf (chosen v187 (joined v85 v140 v162 v204 v207 v208)) v140⟩, ⟨S512x256, v128⟩] concatenates_S512x256_S512x256_S512x512_d1) bitsLt_bf16_f32 := rfl

/-- One entry of the pooled input's and of the gate's gradient. -/
theorem db_point (v85 v128 v140 : FVec Ideal S512x256 .f32) (v162 : FVec Ideal S16x256 .f32) (v187 : IVec S1x256 32) (v204 : FVec Ideal S1x256 .f32) (v207 v208 : IVec S16x256 32)
    (U G D W : ℕ → ℕ → ℝ) (S : ℕ → ℝ) (t : ℕ) (h187 : ∀ j : Fin 256, v187 (ix2 0 j) = BitVec.ofNat 32 (j.val / 64))
    (h85 : ∀ r j, v85 (ix2 r j) = (cnt (t * 512 + r.val) j.val : EReal)) (h140 : ∀ r j, v140 (ix2 r j) = (dpool G D W S (t * 512 + r.val) j.val : EReal))
    (h162 : ∀ r j, v162 (ix2 r j) = ((if t % 4 = 3 then 0 else dpool G D W S (t * 512 + 512 + r.val) j.val : ℝ) : EReal))
    (h204 : ∀ j, v204 (ix2 0 j) = ((wd j.val : ℝ) : EReal)) (h207 : ∀ r j, v207 (ix2 r j) = BitVec.ofNat 32 r.val) (h208 : ∀ r j, v208 (ix2 r j) = BitVec.ofNat 32 ((t % 4 + 1) * 512))
    (h128 : ∀ r j, v128 (ix2 r j) = (dgb U G D W S (t * 512 + r.val) j.val : EReal)) (r x : Fin 512) :
    k0_pay47 (F := Ideal) v85 v128 v140 v162 v187 v204 v207 v208 (ix2 r x)
      = ((if x.val < 256 then du G D W S (t * 512 + r.val) x.val else dgb U G D W S (t * 512 + r.val) (x.val - 256) : ℝ) : EReal) := by
  rw [db_eq]
  have hc := fun j => chosen_point v187 (joined v85 v140 v162 v204 v207 v208)
    (fun n => if t * 512 % 2048 + n < 2048 then dpool G D W S (t * 512 + n) j.val * (1 / cnt (t * 512 + n) j.val) else 0) r j (h187 j) (joined_point v85 v140 v162 v204 v207 v208 G D W S t j (h85 · j) (h140 · j) (h162 · j) (h204 j) (h207 · j) (h208 · j))
  generalize chosen v187 (joined v85 v140 v162 v204 v207 v208) = y at hc
  pointwise
  by_cases h : x.val < 256
  · rw [dif_pos h, if_pos h, hc, h140, ← EReal.coe_sub]
    refine congrArg _ ?_
    unfold du
    have e : (t * 512 + r.val) % 2048 = t * 512 % 2048 + r.val := by omega
    simp only [e, Nat.add_assoc]
  · rw [dif_neg h, if_neg h, h128]

theorem grp : ∀ j : Fin 256, k0_pay44 (iota .tc S1x256 32 [1] iota_S1x256_d1_w32) 64#32 k0_pay43 (ix2 0 j) = BitVec.ofNat 32 (j.val / 64) := by decide +kernel
theorem grp' : ∀ j : Fin 256, k0_pay18 (iota .tc S1x256 32 [1] iota_S1x256_d1_w32) 64#32 k0_pay16 k0_pay17 1#32 0#32 (ix2 0 j) = BitVec.ofNat 32 (j.val / 64) := by decide +kernel

end Cert.Pool
-- ==== Proof.PoolB.lean ====
/- The pooling branch's gradient: the kernel's four arrays. -/
module

public import proofs.«01_k».proof.Proof.Gen.Kernel5Ideal.Frame
public import proofs.«01_k».proof.Proof.PoolA

@[expose] public section

set_option maxRecDepth 16384

noncomputable section

namespace Cert.Pool

open Idealize.ShloMosaic Idealize.ShloMosaic.TcCoe Idealize.SL.Sem
open Cert.Kernel5Ideal Cert.Kernel5Ideal.Gen

variable (m : (ℓ : Loc nD τ sig) → Buf (Elt Ideal) ℓ)

/-- Arguments by rows. -/
abbrev fH (c : Dev nD) : ℕ → ℕ → EReal := Fin.flat3 (show FVec Ideal S2x2048x1024 .f32 from m ((c.tc : Thread nD τ).loc main_arg0))
abbrev fU (c : Dev nD) : ℕ → ℕ → EReal := Fin.flat3 (show FVec Ideal S2x2048x256 .f32 from m ((c.tc : Thread nD τ).loc main_arg2))
abbrev fG (c : Dev nD) : ℕ → ℕ → EReal := Fin.flat3 (show FVec Ideal S2x2048x256 .f32 from m ((c.tc : Thread nD τ).loc main_arg3))
abbrev fW (c : Dev nD) : ℕ → ℕ → EReal := Fin.flat3 (show FVec Ideal S4x64x64 .f32 from m ((c.tc : Thread nD τ).loc main_arg4))
abbrev fS (c : Dev nD) : ℕ → EReal := Fin.flat1 (show FVec Ideal S256 .f32 from m ((c.tc : Thread nD τ).loc main_arg5))
abbrev fA (c : Dev nD) : ℕ → ℕ → EReal := Fin.flat3 (show FVec Ideal S2x2048x1024 .f32 from m ((c.tc : Thread nD τ).loc main_arg6))
abbrev fD (c : Dev nD) : ℕ → ℕ → EReal := Fin.flat3 (show FVec Ideal S2x2048x256 .f32 from m ((c.tc : Thread nD τ).loc main_arg7))
abbrev fC (c : Dev nD) : ℕ → ℕ → EReal := Fin.flat3 (show FVec Ideal S2x2048x2048 .f32 from m ((c.tc : Thread nD τ).loc main_arg8))
abbrev fF (c : Dev nD) : ℕ → ℕ → EReal := Fin.flat3 (show FVec Ideal S2x2048x8 .f32 from m ((c.tc : Thread nD τ).loc main_arg9))

theorem op28 (c : Dev nD) (j : S1024x4096.Idx) : V m c main_v28 j = fH m c (j 1).val (j 0).val := by
  unfold V
  after_reads_at
  exact Fin.flat3_eq _ _ _ _ _ _

theorem op1 (c : Dev nD) (j : S4096x1024.Idx) : V m c main_v1 j = fA m c (j 0).val (j 1).val := by
  unfold V
  after_reads_at
  exact Fin.flat3_eq _ _ _ _ _ _

theorem op3 (c : Dev nD) (j : S4096x2048.Idx) : V m c main_v3 j = fC m c (j 0).val (j 1).val := by
  unfold V
  after_reads_at
  exact Fin.flat3_eq _ _ _ _ _ _

theorem op6 (c : Dev nD) (j : S4096x128.Idx) : V m c main_v6 j = if (j 1).val < 8 then fF m c (j 0).val (j 1).val else 0 := by
  unfold V
  after_reads_at
  by_cases h : (j 1).val < 8
  · rw [dif_pos h, if_pos h]
    exact Fin.flat3_eq _ _ _ _ _ _
  · rw [dif_neg h, if_neg h]
    show ((((0#32 : BitVec 32).toInt : ℝ)) : EReal) = 0
    simp

theorem op10u (c : Dev nD) (j : S4096x3584.Idx) (x : ℕ) (hx : x < 256) (h : (j 1).val = 1024 + x) : V m c main_v10 j = fU m c (j 0).val x := by
  unfold V
  after_reads_at
  rw [dif_pos (by omega), dif_pos (by omega)]
  after_reads_at
  exact (Fin.flat3_eq _ _ _ _ _ _).trans (congrArg (fU m c _) (by omega))

theorem op10g (c : Dev nD) (j : S4096x3584.Idx) (x : ℕ) (hx : x < 256) (h : (j 1).val = 1280 + x) : V m c main_v10 j = fG m c (j 0).val x := by
  unfold V
  after_reads_at
  rw [dif_pos (by omega), dif_neg (by omega)]
  after_reads_at
  exact (Fin.flat3_eq _ _ _ _ _ _).trans (congrArg (fG m c _) (by omega))

theorem op30 (c : Dev nD) (j : S1x256.Idx) : V m c main_v30 j = fS m c (j 1).val := by
  unfold V
  after_reads_at
  exact Fin.flat1_fin _ _

theorem op12 (c : Dev nD) (j : S4096x512.Idx) (h : 256 ≤ (j 1).val) : V m c main_v12 j = fD m c (j 0).val ((j 1).val - 256) := by
  unfold V
  after_reads_at
  rw [dif_pos ⟨h, by have h1 : (j 1).val < 512 := (j 1).isLt; show (j 1).val - 256 < 256; omega⟩]
  exact Fin.flat3_eq _ _ _ _ _ _

theorem idx : ∀ t : Fin cfg0.N, (win0_0.index t = ![0, t.val] ∧ win0_1.index t = ![t.val, 0] ∧ win0_2.index t = ![t.val, 0] ∧ win0_3.index t = ![t.val, 0]
    ∧ win0_4.index t = ![t.val, 4] ∧ win0_5.index t = ![t.val, 5] ∧ win0_6.index t = ![t.val * 32 - 1, 4] ∧ win0_7.index t = ![t.val, 1]
    ∧ win0_8.index t = ![min ((t.val + 1) * 32) 255, 5] ∧ win0_9.index t = ![min ((t.val + 1) * 32) 255, 1]) ∧ win0_10.index t = ![0, 0] ∧ win0_11.index t = ![0, 0] ∧ win0_12.index t = ![0, 0]
    ∧ win0_13.index t = ![0, 0, 0, 0] ∧ win0_14.index t = ![t.val, 0] ∧ win0_15.index t = ![0, 0] ∧ win0_16.index t = ![0, 0] :=
  (by decide +kernel : ∀ t : Fin grid0.N, _)

theorem blk0 (c : Dev nD) (t : Fin cfg0.N) (d : Fin 1024) (r : Fin 512) :
    (show FVec Ideal S1024x512 .bf16 from iblk m c 0 t) (ix2 d r) = fH m c (t.val * 512 + r.val) d.val := by
  unfold iblk
  blk_simp
  rw [op28]
  blk_simp [idx t]

theorem blk1 (c : Dev nD) (t : Fin cfg0.N) (r : Fin 512) (x : Fin 1024) :
    (show FVec Ideal S512x1024 .bf16 from iblk m c 1 t) (ix2 r x) = fA m c (t.val * 512 + r.val) x.val := by
  unfold iblk
  blk_simp
  rw [op1]
  blk_simp [idx t]

theorem blk2 (c : Dev nD) (t : Fin cfg0.N) (r : Fin 512) (x : Fin 2048) :
    (show FVec Ideal S512x2048 .bf16 from iblk m c 2 t) (ix2 r x) = fC m c (t.val * 512 + r.val) x.val := by
  unfold iblk
  blk_simp
  rw [op3]
  blk_simp [idx t]

theorem blk3 (c : Dev nD) (t : Fin cfg0.N) (r : Fin 512) (x : Fin 128) :
    (show FVec Ideal S512x128 .bf16 from iblk m c 3 t) (ix2 r x) = if x.val < 8 then fF m c (t.val * 512 + r.val) x.val else 0 := by
  unfold iblk
  blk_simp
  rw [op6]
  blk_simp [idx t]

theorem blk4 (c : Dev nD) (t : Fin cfg0.N) (r : Fin 512) (x : Fin 256) :
    (show FVec Ideal S512x256 .f32 from iblk m c 4 t) (ix2 r x) = fU m c (t.val * 512 + r.val) x.val := by
  unfold iblk
  blk_simp
  rw [op10u m c _ x.val x.isLt (by blk_simp [idx t])]
  blk_simp [idx t]

theorem blk5 (c : Dev nD) (t : Fin cfg0.N) (r : Fin 512) (x : Fin 256) :
    (show FVec Ideal S512x256 .f32 from iblk m c 5 t) (ix2 r x) = fG m c (t.val * 512 + r.val) x.val := by
  unfold iblk
  blk_simp
  rw [op10g m c _ x.val x.isLt (by blk_simp [idx t])]
  blk_simp [idx t]

theorem blk6 (c : Dev nD) (t : Fin cfg0.N) (r : Fin 16) (x : Fin 256) (n : ℕ) (h : 0 < t.val) (hn : n + 16 = t.val * 512 + r.val) :
    (show FVec Ideal S16x256 .f32 from iblk m c 6 t) (ix2 r x) = fU m c n x.val := by
  unfold iblk
  blk_simp
  rw [op10u m c _ x.val x.isLt (by blk_simp [idx t])]
  blk_simp [idx t]
  exact congrArg (fU m c · x.val) (by omega)

theorem blk7 (c : Dev nD) (t : Fin cfg0.N) (r : Fin 512) (x : Fin 256) :
    (show FVec Ideal S512x256 .f32 from iblk m c 7 t) (ix2 r x) = fD m c (t.val * 512 + r.val) x.val := by
  unfold iblk
  blk_simp
  rw [op12 m c _ (by blk_simp [idx t]; omega)]
  blk_simp [idx t]
  exact congrArg (fD m c _) (by omega)

theorem blk8 (c : Dev nD) (t : Fin cfg0.N) (r : Fin 16) (x : Fin 256) (h : t.val < 7) :
    (show FVec Ideal S16x256 .f32 from iblk m c 8 t) (ix2 r x) = fG m c (t.val * 512 + 512 + r.val) x.val := by
  unfold iblk
  blk_simp
  rw [op10g m c _ x.val x.isLt (by blk_simp [idx t])]
  blk_simp [idx t]
  exact congrArg (fG m c · x.val) (by omega)

theorem blk9 (c : Dev nD) (t : Fin cfg0.N) (r : Fin 16) (x : Fin 256) (h : t.val < 7) :
    (show FVec Ideal S16x256 .f32 from iblk m c 9 t) (ix2 r x) = fD m c (t.val * 512 + 512 + r.val) x.val := by
  unfold iblk
  blk_simp
  rw [op12 m c _ (by blk_simp [idx t]; omega)]
  blk_simp [idx t]
  exact congrArg₂ (fD m c) (by omega) (by omega)

theorem blk12 (c : Dev nD) (t : Fin cfg0.N) (x : Fin 256) :
    (show FVec Ideal S1x256 .f32 from iblk m c 12 t) (ix2 0 x) = fS m c x.val := by
  unfold iblk
  blk_simp
  rw [op30]
  blk_simp [idx t]

/-- The mixing weights, block by block on the diagonal. -/
def wm (P : ℕ → ℕ → ℝ) (c d : ℕ) : ℝ := if c / 64 = d / 64 then P c (d % 64) else 0

theorem eye_mul (a b : ℕ) (ha : a < 4) (hb : b < 4) (x : EReal) (X : ℝ) (hx : x = (X : EReal)) :
    (FloatOps.uitofp .f32 (IntOp.cmpi CmpIPredicate.eq (IntOp.addi (BitVec.ofNat 32 a) 0#32) (BitVec.ofNat 32 b)) : Ideal .f32) * x = ((if a = b then X else 0 : ℝ) : EReal) := by
  subst hx
  have e : IntOp.cmpi CmpIPredicate.eq (IntOp.addi (BitVec.ofNat 32 a) 0#32) (BitVec.ofNat 32 b) = if a = b then 1#1 else 0#1 := by
    interval_cases a <;> interval_cases b <;> rfl
  rw [e]
  split
  · show ((((1#1 : BitVec 1).toNat : ℝ)) : EReal) * _ = _
    simp
  · show ((((0#1 : BitVec 1).toNat : ℝ)) : EReal) * _ = _
    simp

section Reals
variable (c : Dev nD) (P : ℕ → ℕ → ℝ) (hW : ∀ i k, fW m c i k = (P i k : EReal))
include hW

theorem op25 (j : S256x256.Idx) : V m c main_v25 j = (wm P (j 0).val (j 1).val : EReal) := by
  have h0 : (j 0).val < 256 := (j 0).isLt
  have h1 : (j 1).val < 256 := (j 1).isLt
  unfold V
  after_reads_at
  exact eye_mul _ _ (by omega) (by omega) _ _ ((Fin.flat3_eq _ _ _ _ _ _).trans (hW _ _))

theorem op29 (j : S256x256.Idx) : V m c main_v29 j = (wm P (j 1).val (j 0).val : EReal) := by
  have h0 : (j 0).val < 256 := (j 0).isLt
  have h1 : (j 1).val < 256 := (j 1).isLt
  unfold V
  after_reads_at
  exact eye_mul _ _ (by omega) (by omega) _ _ ((Fin.flat3_eq _ _ _ _ _ _).trans (hW _ _))

theorem blk10 (t : Fin cfg0.N) (k x : Fin 256) : (show FVec Ideal S256x256 .bf16 from iblk m c 10 t) (ix2 k x) = (wm P k.val x.val : EReal) := by
  unfold iblk
  blk_simp
  rw [op25 m c P hW]
  blk_simp [idx t]

theorem blk11 (t : Fin cfg0.N) (k x : Fin 256) : (show FVec Ideal S256x256 .bf16 from iblk m c 11 t) (ix2 k x) = (wm P x.val k.val : EReal) := by
  unfold iblk
  blk_simp
  rw [op29 m c P hW]
  blk_simp [idx t]
end Reals

end Cert.Pool
-- ==== Proof.PoolC.lean ====
/- The pooling branch's gradient: what each step leaves. -/
module

public import proofs.«01_k».proof.Proof.PoolB

@[expose] public section

set_option maxRecDepth 16384

noncomputable section

namespace Cert.Pool

open Idealize.ShloMosaic Idealize.ShloMosaic.TcCoe Idealize.SL.Sem
open Cert.Kernel5Ideal Cert.Kernel5Ideal.Gen

variable (m : (ℓ : Loc nD τ sig) → Buf (Elt Ideal) ℓ)

theorem bits_two : Ideal.ofBits .f32 0x40000000#32 = ((2 : ℝ) : EReal) := by
  simp [Ideal.ofBits, Ideal.ieee]
  norm_num
  rw [← EReal.coe_mul]
  norm_num
theorem bits_four : Ideal.ofBits .f32 0x40800000#32 = ((4 : ℝ) : EReal) := by
  simp [Ideal.ofBits, Ideal.ieee]
  norm_num
  rw [← EReal.coe_mul]
  norm_num
theorem bits_eight : Ideal.ofBits .f32 0x41000000#32 = ((8 : ℝ) : EReal) := by
  simp [Ideal.ofBits, Ideal.ieee]
  norm_num
  rw [← EReal.coe_mul]
  norm_num
theorem bits_sixteen : Ideal.ofBits .f32 0x41800000#32 = ((16 : ℝ) : EReal) := by
  simp [Ideal.ofBits, Ideal.ieee]
  norm_num
  rw [← EReal.coe_mul]
  norm_num

theorem width (v : BitVec 32) (j : ℕ) (hj : j < 256) (hv : v = BitVec.ofNat 32 (j / 64)) (z : EReal) :
    Scalar.select (IntOp.cmpi CmpIPredicate.eq v 3#32) (Ideal.ofBits .f32 0x41800000#32) (Scalar.select (IntOp.cmpi CmpIPredicate.eq v 2#32) (Ideal.ofBits .f32 0x41000000#32)
      (Scalar.select (IntOp.cmpi CmpIPredicate.eq v 1#32) (Ideal.ofBits .f32 0x40800000#32) (Scalar.select (IntOp.cmpi CmpIPredicate.eq v 0#32) (Ideal.ofBits .f32 0x40000000#32) z)))
      = ((wd j : ℝ) : EReal) := by
  have h : j / 64 = 0 ∨ j / 64 = 1 ∨ j / 64 = 2 ∨ j / 64 = 3 := by omega
  subst hv
  rw [bits_two, bits_four, bits_eight, bits_sixteen]
  unfold wd
  rcases h with h | h | h | h <;> rw [h]
  · exact congrArg Real.toEReal (by norm_num : (2 : ℝ) = ((2 ^ (0 + 1) : ℕ) : ℝ))
  · exact congrArg Real.toEReal (by norm_num : (4 : ℝ) = ((2 ^ (1 + 1) : ℕ) : ℝ))
  · exact congrArg Real.toEReal (by norm_num : (8 : ℝ) = ((2 ^ (2 + 1) : ℕ) : ℝ))
  · exact congrArg Real.toEReal (by norm_num : (16 : ℝ) = ((2 ^ (3 + 1) : ℕ) : ℝ))

theorem width19 (a b d : IVec S1x256 32) (c e f : BitVec 32) (j : Fin 256) (h : k0_pay18 a c b d e f (ix2 0 j) = BitVec.ofNat 32 (j.val / 64)) :
    k0_pay19 (F := Ideal) a c b d e f (ix2 0 j) = ((wd j.val : ℝ) : EReal) := by
  pointwise [k0_pay19]
  exact width _ j.val j.isLt h _

theorem width45 (a b : IVec S1x256 32) (c : BitVec 32) (j : Fin 256) (h : k0_pay44 a c b (ix2 0 j) = BitVec.ofNat 32 (j.val / 64)) :
    k0_pay45 (F := Ideal) a c b (ix2 0 j) = ((wd j.val : ℝ) : EReal) := by
  pointwise [k0_pay45]
  exact width _ j.val j.isLt h _

/-- The step's place in its sequence, as the program computes it. -/
def place (t : Fin cfg0.N) : BitVec 32 :=
  Scalar.select (Scalar.andi (Scalar.xori (Scalar.cmpi CmpIPredicate.slt (Scalar.remsi (BitVec.ofNat 32 (grid0.coords t 1).val) 4#32) 0#32) 0#1)
    (Scalar.cmpi CmpIPredicate.ne (Scalar.remsi (BitVec.ofNat 32 (grid0.coords t 1).val) 4#32) 0#32))
    (Scalar.addi (Scalar.remsi (BitVec.ofNat 32 (grid0.coords t 1).val) 4#32) 4#32) (Scalar.remsi (BitVec.ofNat 32 (grid0.coords t 1).val) 4#32)

theorem place_eq : ∀ t : Fin cfg0.N, place t = BitVec.ofNat 32 (t.val % 4) := (by decide +kernel : ∀ t : Fin grid0.N, _)
theorem place_mul : ∀ t : Fin cfg0.N, Scalar.muli (place t) 512#32 = BitVec.ofNat 32 (t.val % 4 * 512) := (by decide +kernel : ∀ t : Fin grid0.N, _)
theorem place_next : ∀ t : Fin cfg0.N, Scalar.muli (Scalar.addi (place t) 1#32) 512#32 = BitVec.ofNat 32 ((t.val % 4 + 1) * 512) := (by decide +kernel : ∀ t : Fin grid0.N, _)

theorem top_point (t : Fin cfg0.N) (v : FVec Ideal S16x256 .f32) (r : Fin 16) (j : Fin 256) :
    k0_pay14 (F := Ideal) (grid0.coords t) v (ix2 r j) = if t.val % 4 = 0 then 0 else v (ix2 r j) := by
  have e : Scalar.cmpi .eq (place t) 0#32 = if t.val % 4 = 0 then 1#1 else 0#1 := (by decide +kernel : ∀ t : Fin grid0.N, Scalar.cmpi .eq (place t) 0#32 = if t.val % 4 = 0 then 1#1 else 0#1) t
  refine (show _ = Scalar.select (Scalar.cmpi .eq (place t) 0#32) (broadcast S16x256 (Scalar.ofBits (F := Ideal) .f32 0x00000000#32)) (shapeCast S16x256 v shapeCasts_S16x256_S16x256) (ix2 r j) from rfl).trans ?_
  rw [e]
  split
  · pointwise
  · pointwise

/-- A step's arrays. -/
abbrev iotaC : IVec S1x256 32 := iota .tc S1x256 32 [1] iota_S1x256_d1_w32
abbrev grpT : IVec S1x256 32 := k0_pay18 iotaC 64#32 k0_pay16 k0_pay17 1#32 0#32
abbrev widT : FVec Ideal S1x256 .f32 := k0_pay19 iotaC 64#32 k0_pay16 k0_pay17 1#32 0#32
abbrev rowT : IVec S512x256 32 := iota .tc S512x256 32 [0] iota_S512x256_d0_w32
abbrev posT (t : Fin cfg0.N) : IVec S512x256 32 := k0_pay27 (Scalar.muli (place t) 512#32)
abbrev topT (c : Dev nD) (t : Fin cfg0.N) : FVec Ideal S16x256 .f32 := k0_pay14 (grid0.coords t) (iblk m c 6 t)
abbrev uT (c : Dev nD) (t : Fin cfg0.N) : FVec Ideal S512x256 .f32 := k0_pay15 (iblk m c 4 t)
abbrev poolT (c : Dev nD) (t : Fin cfg0.N) : FVec Ideal S512x256 .bf16 := k0_pay29 (uT m c t) grpT widT (k0_pay21 (topT m c t) (uT m c t)) (k0_pay23 (topT m c t) (uT m c t))
  (k0_pay25 (topT m c t) (uT m c t)) (k0_pay26 (topT m c t) (uT m c t)) rowT (posT t)
abbrev preT (c : Dev nD) (t : Fin cfg0.N) : FVec Ideal S512x256 .f32 := k0_pay30 (uT m c t) grpT widT (k0_pay21 (topT m c t) (uT m c t)) (k0_pay23 (topT m c t) (uT m c t))
  (k0_pay25 (topT m c t) (uT m c t)) (k0_pay26 (topT m c t) (uT m c t)) rowT (posT t) (iblk m c 10 t)
abbrev gateT (c : Dev nD) (t : Fin cfg0.N) : FVec Ideal S512x256 .f32 := k0_pay37 (k0_pay33 (iblk m c 5 t)) (k0_pay35 (k0_pay13 (iblk m c 12 t)) (uT m c t) grpT widT (k0_pay21 (topT m c t) (uT m c t)) (k0_pay23 (topT m c t) (uT m c t))
  (k0_pay25 (topT m c t) (uT m c t)) (k0_pay26 (topT m c t) (uT m c t)) rowT (posT t) (iblk m c 10 t) (iblk m c 7 t)) (k0_pay36 (iblk m c 5 t))
abbrev dpoolT (c : Dev nD) (t : Fin cfg0.N) : FVec Ideal S512x256 .f32 := k0_pay41 (k0_pay13 (iblk m c 12 t)) (k0_pay32 (iblk m c 7 t)) (k0_pay34 (iblk m c 5 t)) (iblk m c 11 t)
abbrev nextT (c : Dev nD) (t : Fin cfg0.N) : FVec Ideal S16x256 .f32 := k0_pay42 (place t) (k0_pay13 (iblk m c 12 t)) (iblk m c 8 t) (iblk m c 9 t) (iblk m c 11 t)
def dbT (c : Dev nD) (t : Fin cfg0.N) : FVec Ideal S512x512 .bf16 := k0_pay47 (k0_pay28 widT rowT (posT t)) (gateT m c t) (dpoolT m c t) (nextT m c t) (k0_pay44 iotaC 64#32 k0_pay43)
  (k0_pay45 iotaC 64#32 k0_pay43) (iota .tc S16x256 32 [0] iota_S16x256_d0_w32) (k0_pay46 (place t))

theorem out14 (c : Dev nD) (t : Fin cfg0.N) : (outsAt0 m c t.val t.isLt).2.1 = dbT m c t := by
  by_cases h0 : t.val % 8 = 0
  · rw [outsAt0_A m c t h0 (by omega)]
    dsimp only
    frame_out
    rfl
  by_cases h1 : t.val % 8 = 7
  · rw [outsAt0_C m c t h0 h1]
    dsimp only
    frame_out
    rfl
  · rw [outsAt0_B m c t h0 h1]
    dsimp only
    frame_out
    rfl

section Reals
variable (c : Dev nD) (U G D P : ℕ → ℕ → ℝ) (S : ℕ → ℝ)
  (hU : ∀ i k, fU m c i k = (U i k : EReal)) (hG : ∀ i k, fG m c i k = (G i k : EReal)) (hD : ∀ i k, fD m c i k = (D i k : EReal))
  (hW : ∀ i k, fW m c i k = (P i k : EReal)) (hS : ∀ k, fS m c k = (S k : EReal))

theorem rowT_at (r : Fin 512) (j : Fin 256) : rowT (ix2 r j) = BitVec.ofNat 32 r.val := by
  pointwise

theorem posT_at (t : Fin cfg0.N) (r : Fin 512) (j : Fin 256) : posT t (ix2 r j) = BitVec.ofNat 32 (t.val % 4 * 512) := by
  refine Eq.trans ?_ (place_mul t)
  pointwise [k0_pay27]

theorem posN_at (t : Fin cfg0.N) (r : Fin 16) (j : Fin 256) : k0_pay46 (place t) (ix2 r j) = BitVec.ofNat 32 ((t.val % 4 + 1) * 512) := by
  refine Eq.trans ?_ (place_next t)
  pointwise [k0_pay46]

theorem stack (y : FVec Ideal S16x256 .f32) (z : FVec Ideal S512x256 .f32) (j : Fin 256) (f : ℕ → EReal) (hy : ∀ r, y (ix2 r j) = f r.val) (hz : ∀ r, z (ix2 r j) = f (r.val + 16)) (n : Fin 528) :
    concatenate S528x256 0 [⟨S16x256, y⟩, ⟨S512x256, z⟩] concatenates_S16x256_S512x256_S528x256_d0 (ix2 n j) = f n.val := by
  have hl := n.isLt
  pointwise
  by_cases h : n.val < 16
  · rw [dif_pos h]
    exact hy _
  · rw [dif_neg h]
    exact (hz ⟨n.val - 16, by omega⟩).trans (congrArg f (by show n.val - 16 + 16 = n.val; omega))

include hU in
theorem uT_at (t : Fin cfg0.N) (r : Fin 512) (j : Fin 256) : uT m c t (ix2 r j) = (U (t.val * 512 + r.val) j.val : EReal) := by
  refine Eq.trans ?_ ((blk4 m c t r j).trans (hU _ _))
  pointwise [k0_pay15]

theorem cut (x : FVec Ideal S528x256 .f32) (r : Fin 512) (j : Fin 256) :
    extractStridedSlice S512x256 ![16, 0] x slices_S528x256_o16_0_S512x256 (ix2 r j) = x (ix2 (⟨r.val + 16, by omega⟩ : Fin 528) j) := by
  pointwise
  exact congrArg (fun k => x (ix2 k j)) (Fin.ext (by show 16 + r.val = r.val + 16; omega))

include hU in
/-- The tile with the sixteen rows before it. -/
theorem joinT (t : Fin cfg0.N) (n : Fin 528) (j : Fin 256) :
    concatenate S528x256 0 [⟨S16x256, topT m c t⟩, ⟨S512x256, uT m c t⟩] concatenates_S16x256_S512x256_S528x256_d0 (ix2 n j)
      = ((if 16 ≤ t.val % 4 * 512 + n.val then U (t.val * 512 + n.val - 16) j.val else 0 : ℝ) : EReal) := by
  refine stack _ _ j (fun n => ((if 16 ≤ t.val % 4 * 512 + n then U (t.val * 512 + n - 16) j.val else 0 : ℝ) : EReal)) (fun r => ?_) (fun r => ?_) n
  · refine (top_point t (iblk m c 6 t) r j).trans ?_
    have hr := r.isLt
    by_cases h4 : t.val % 4 = 0
    · rw [if_pos h4, if_neg (by omega), EReal.coe_zero]
    · rw [if_neg h4, if_pos (by omega)]
      exact (blk6 m c t r j (t.val * 512 + r.val - 16) (by omega) (by omega)).trans (hU _ _)
  · refine (uT_at m c U hU t r j).trans ?_
    rw [if_pos (by omega)]
    exact congrArg (fun k => (U k j.val : EReal)) (by omega)

include hU in
theorem winT (t : Fin cfg0.N) (r : Fin 512) (j : Fin 256) (f : ℕ → ℝ)
    (hf : f = fun w => ∑ s ∈ Finset.range w, if s ≤ (t.val * 512 + r.val) % 2048 then U (t.val * 512 + r.val - s) j.val else 0) :
    k0_pay21 (topT m c t) (uT m c t) (ix2 r j) = (f 2 : EReal) ∧ k0_pay23 (topT m c t) (uT m c t) (ix2 r j) = (f 4 : EReal)
    ∧ k0_pay25 (topT m c t) (uT m c t) (ix2 r j) = (f 8 : EReal) ∧ k0_pay26 (topT m c t) (uT m c t) (ix2 r j) = (f 16 : EReal) := by
  have d := downs (concatenate S528x256 0 [⟨S16x256, topT m c t⟩, ⟨S512x256, uT m c t⟩] concatenates_S16x256_S512x256_S528x256_d0) j
    (fun n => if 16 ≤ t.val % 4 * 512 + n then U (t.val * 512 + n - 16) j.val else 0) (fun n => joinT m c U hU t n j) ⟨r.val + 16, by omega⟩ (by show 16 ≤ r.val + 16; omega)
  have hr := r.isLt
  have e : ∀ w, w ≤ 16 → (∑ s ∈ Finset.range w, if 16 ≤ t.val % 4 * 512 + (r.val + 16 - s) then U (t.val * 512 + (r.val + 16 - s) - 16) j.val else 0) = f w := by
    intro w hw
    rw [hf]
    refine Finset.sum_congr rfl fun s hs => ?_
    have := Finset.mem_range.1 hs
    by_cases h : s ≤ (t.val * 512 + r.val) % 2048
    · rw [if_pos h, if_pos (by omega)]
      exact congrArg (U · j.val) (by omega)
    · rw [if_neg h, if_neg (by omega)]
  exact ⟨(cut _ r j).trans (d.1.trans (congrArg Real.toEReal (e 2 (by norm_num)))), (cut _ r j).trans (d.2.1.trans (congrArg Real.toEReal (e 4 (by norm_num)))),
    (cut _ r j).trans (d.2.2.1.trans (congrArg Real.toEReal (e 8 (by norm_num)))), (cut _ r j).trans (d.2.2.2.trans (congrArg Real.toEReal (e 16 (by norm_num))))⟩

include hU in
theorem poolT_at (t : Fin cfg0.N) (r : Fin 512) (j : Fin 256) : poolT m c t (ix2 r j) = (pool U (t.val * 512 + r.val) j.val : EReal) := by
  have w := winT m c U hU t r j _ rfl
  exact pool_point _ _ _ _ _ _ _ _ _ U (t.val * 512 + r.val) (t.val % 4 * 512) r j (by omega) (grp' j) (width19 _ _ _ _ _ _ j (grp' j)) (rowT_at r j) (posT_at t r j)
    (uT_at m c U hU t r j) _ rfl w.1 w.2.1 w.2.2.1 w.2.2.2

include hU hW in
theorem preT_at (t : Fin cfg0.N) (r : Fin 512) (j : Fin 256) : preT m c t (ix2 r j) = (pre U (wm P) (t.val * 512 + r.val) j.val : EReal) :=
  pre_point _ _ _ _ _ _ _ _ _ _ U (wm P) (t.val * 512 + r.val) r j (poolT_at m c U hU t r) (fun k => blk10 m c P hW t k j)

include hS in
theorem scT_at (t : Fin cfg0.N) (j : Fin 256) : k0_pay13 (iblk m c 12 t) (ix2 0 j) = (S j.val : EReal) := by
  refine Eq.trans ?_ ((blk12 m c t j).trans (hS _))
  pointwise [k0_pay13]

include hU hG hD hW hS in
theorem gateT_at (t : Fin cfg0.N) (r : Fin 512) (j : Fin 256) : gateT m c t (ix2 r j) = (dgb U G D (wm P) S (t.val * 512 + r.val) j.val : EReal) :=
  dgb_point _ _ _ (uT m c t) _ _ _ _ _ _ _ _ _ _ U G D (wm P) S (t.val * 512 + r.val) r j (scT_at m c S hS t j) ((blk5 m c t r j).trans (hG _ _)) ((blk7 m c t r j).trans (hD _ _))
    (preT_at m c U P hU hW t r j)

include hG hD hS in
theorem dpreT_at (t : Fin cfg0.N) (r : Fin 512) (j : Fin 256) : k0_pay39 (k0_pay13 (iblk m c 12 t)) (k0_pay32 (iblk m c 7 t)) (k0_pay34 (iblk m c 5 t)) (ix2 r j) = (dpre G D S (t.val * 512 + r.val) j.val : EReal) :=
  dpre_point _ _ _ G D S _ r j (scT_at m c S hS t j) ((blk5 m c t r j).trans (hG _ _)) ((blk7 m c t r j).trans (hD _ _))

include hG hD hW hS in
theorem dpoolT_at (t : Fin cfg0.N) (r : Fin 512) (j : Fin 256) : dpoolT m c t (ix2 r j) = (dpool G D (wm P) S (t.val * 512 + r.val) j.val : EReal) :=
  dpool_point _ _ _ _ G D (wm P) S _ r j (dpreT_at m c G D S hG hD hS t r) (fun k => blk11 m c P hW t k j)

include hG hD hW hS in
theorem nextT_at (t : Fin cfg0.N) (r : Fin 16) (j : Fin 256) :
    nextT m c t (ix2 r j) = ((if t.val % 4 = 3 then 0 else dpool G D (wm P) S (t.val * 512 + 512 + r.val) j.val : ℝ) : EReal) := by
  have ht : t.val < 8 := t.isLt
  exact halo_point _ _ _ _ _ G D (wm P) S (t.val * 512 + 512 + r.val) (t.val % 4) (by omega) r j (place_eq t) (scT_at m c S hS t) (fun h k => (blk8 m c t r k (by omega)).trans (hG _ _))
    (fun h k => (blk9 m c t r k (by omega)).trans (hD _ _)) (fun k => blk11 m c P hW t k j)

include hU hG hD hW hS in
theorem dbT_at (t : Fin cfg0.N) (r x : Fin 512) : dbT m c t (ix2 r x)
    = ((if x.val < 256 then du G D (wm P) S (t.val * 512 + r.val) x.val else dgb U G D (wm P) S (t.val * 512 + r.val) (x.val - 256) : ℝ) : EReal) :=
  db_point _ _ _ _ _ _ _ _ U G D (wm P) S t.val grp (fun r j => cnt_point _ _ _ (t.val * 512 + r.val) (t.val % 4 * 512) r j (by omega) (width19 _ _ _ _ _ _ j (grp' j)) (rowT_at r j) (posT_at t r j))
    (dpoolT_at m c G D P S hG hD hW hS t) (nextT_at m c G D P S hG hD hW hS t) (fun j => width45 _ _ _ j (grp j)) (fun r j => by pointwise) (fun r j => posN_at t r j)
    (gateT_at m c U G D P S hU hG hD hW hS t) r x

include hU hG hD hS in
theorem dwT_at (t : Fin cfg0.N) (a j : Fin 256) : k0_pay40 (k0_pay13 (iblk m c 12 t)) (poolT m c t) (k0_pay32 (iblk m c 7 t)) (k0_pay34 (iblk m c 5 t)) (ix2 a j) = (dwPart U G D S t.val a.val j.val : EReal) :=
  dw_point _ _ _ _ U G D S t.val a j (fun r => poolT_at m c U hU t r a) (fun r => dpreT_at m c G D S hG hD hS t r j)

include hU hG hD hW in
theorem dsT_at (t : Fin cfg0.N) (j : Fin 256) : k0_pay38 (preT m c t) (k0_pay32 (iblk m c 7 t)) (k0_pay34 (iblk m c 5 t)) (ix2 0 j) = (dsPart U G D (wm P) t.val j.val : EReal) :=
  ds_point _ _ _ U G D (wm P) t.val j (fun r => (blk5 m c t r j).trans (hG _ _)) (fun r => (blk7 m c t r j).trans (hD _ _)) (fun r => preT_at m c U P hU hW t r j)

end Reals
end Cert.Pool
-- ==== Proof.PoolD.lean ====
/- The sums over the steps. -/
module

public import proofs.«01_k».proof.Proof.PoolC
public import Idealize.ShloMosaic.Lib.Pipeline.CanonAppend

@[expose] public section

set_option maxRecDepth 16384

noncomputable section

namespace Cert.Pool

open Idealize.ShloMosaic Idealize.ShloMosaic.TcCoe Idealize.SL.Sem
open Cert.Kernel5Ideal Cert.Kernel5Ideal.Gen

variable (m : (ℓ : Loc nD τ sig) → Buf (Elt Ideal) ℓ)

theorem p51 (a : FVec Ideal S1024x512 .bf16) (d : Fin 1024) (r : Fin 512) : k0_pay51 (F := Ideal) a (ix2 d r) = a (ix2 d r) := by
  pointwise [k0_pay51]

theorem p52 (a : FVec Ideal S1024x512 .bf16) (b : FVec Ideal S1024x512 .f32) (p : FVec Ideal S512x512 .bf16) (d : Fin 1024) (x : Fin 512) :
    k0_pay52 (F := Ideal) a b p (ix2 d x) = b (ix2 d x) + ∑ r : Fin 512, a (ix2 d r) * p (ix2 r x) := by
  pointwise [k0_pay52, k0_pay51]

theorem p54 (a : FVec Ideal S1024x512 .bf16) (b : FVec Ideal S1024x512 .f32) (p : FVec Ideal S512x512 .bf16) (d : Fin 1024) (x : Fin 512) :
    k0_pay54 (F := Ideal) p a b (ix2 d x) = b (ix2 d x) + ∑ r : Fin 512, a (ix2 d r) * p (ix2 r x) := by
  pointwise [k0_pay54, k0_pay51]

theorem p55 (a : FVec Ideal S1024x512 .bf16) (b : FVec Ideal S1024x512 .f32) (p : FVec Ideal S512x512 .bf16) (d : Fin 1024) (x : Fin 512) :
    k0_pay55 (F := Ideal) (k0_pay51 a) b p (ix2 d x) = b (ix2 d x) + ∑ r : Fin 512, a (ix2 d r) * p (ix2 r x) := by
  pointwise [k0_pay55, k0_pay51]

theorem p1 (a : FVec Ideal S1024x512 .bf16) (b : FVec Ideal S1024x128 .f32) (p : FVec Ideal S512x128 .bf16) (d : Fin 1024) (x : Fin 128) :
    k0_pay1 (F := Ideal) (k0_pay51 a) b p (ix2 d x) = b (ix2 d x) + ∑ r : Fin 512, a (ix2 d r) * p (ix2 r x) := by
  pointwise [k0_pay1, k0_pay51]

/-- The columns of a step's cotangents, side by side. -/
def tileT (c : Dev nD) (t : Fin cfg0.N) (r : Fin 512) (x : ℕ) : EReal :=
  if h : x < 1024 then fA m c (t.val * 512 + r.val) x
  else if h : x < 1536 then dbT m c t (ix2 r ⟨x - 1024, by omega⟩)
  else if h : x < 3584 then fC m c (t.val * 512 + r.val) (x - 1536)
  else if x < 3592 then fF m c (t.val * 512 + r.val) (x - 3584) else 0

def partT (c : Dev nD) (t : Fin cfg0.N) (d x : ℕ) : EReal := ∑ r : Fin 512, fH m c (t.val * 512 + r.val) d * tileT m c t r x

/-- Eight stores side by side, over whatever was stored before. -/
theorem pieces (g : ℕ → ℕ → EReal) (w7 : FVec Ideal S1024x128 .f32) (w6 w5 w4 w3 w2 w1 w0 : FVec Ideal S1024x512 .f32)
    (e7 : ∀ (d : Fin 1024) (x : Fin 128), w7 (ix2 d x) = g d.val (3584 + x.val))
    (e6 : ∀ (d : Fin 1024) (x : Fin 512), w6 (ix2 d x) = g d.val (3072 + x.val))
    (e5 : ∀ (d : Fin 1024) (x : Fin 512), w5 (ix2 d x) = g d.val (2560 + x.val))
    (e4 : ∀ (d : Fin 1024) (x : Fin 512), w4 (ix2 d x) = g d.val (2048 + x.val))
    (e3 : ∀ (d : Fin 1024) (x : Fin 512), w3 (ix2 d x) = g d.val (1536 + x.val))
    (e2 : ∀ (d : Fin 1024) (x : Fin 512), w2 (ix2 d x) = g d.val (1024 + x.val))
    (e1 : ∀ (d : Fin 1024) (x : Fin 512), w1 (ix2 d x) = g d.val (512 + x.val))
    (e0 : ∀ (d : Fin 1024) (x : Fin 512), w0 (ix2 d x) = g d.val (0 + x.val))
    (L : List (View.Piece (Elt Ideal) S1024x3712 .f32)) (y : S1024x3712.Idx) :
    View.canon ((⟨Rect.unit ![0, 3584] ![1024, 128] inb_S1024x3712_S1024x128_0_3584, w7⟩ : View.Piece (Elt Ideal) S1024x3712 .f32) ::
      (⟨Rect.unit ![0, 3072] ![1024, 512] inb_S1024x3712_S1024x512_0_3072, w6⟩ : View.Piece (Elt Ideal) S1024x3712 .f32) ::
      (⟨Rect.unit ![0, 2560] ![1024, 512] inb_S1024x3712_S1024x512_0_2560, w5⟩ : View.Piece (Elt Ideal) S1024x3712 .f32) ::
      (⟨Rect.unit ![0, 2048] ![1024, 512] inb_S1024x3712_S1024x512_0_2048, w4⟩ : View.Piece (Elt Ideal) S1024x3712 .f32) ::
      (⟨Rect.unit ![0, 1536] ![1024, 512] inb_S1024x3712_S1024x512_0_1536, w3⟩ : View.Piece (Elt Ideal) S1024x3712 .f32) ::
      (⟨Rect.unit ![0, 1024] ![1024, 512] inb_S1024x3712_S1024x512_0_1024, w2⟩ : View.Piece (Elt Ideal) S1024x3712 .f32) ::
      (⟨Rect.unit ![0, 512] ![1024, 512] inb_S1024x3712_S1024x512_0_512, w1⟩ : View.Piece (Elt Ideal) S1024x3712 .f32) ::
      (⟨Rect.unit ![0, 0] ![1024, 512] inb_S1024x3712_S1024x512_0_0, w0⟩ : View.Piece (Elt Ideal) S1024x3712 .f32) :: L) y = g (y 0).val (y 1).val := by
  have l0 : (y 0).val < 1024 := (y 0).isLt
  have l1 : (y 1).val < 3712 := (y 1).isLt
  refine View.canon_append_of_pieces (fun y => g (y 0).val (y 1).val) L [⟨Rect.unit ![0, 3584] ![1024, 128] inb_S1024x3712_S1024x128_0_3584, w7⟩,
      ⟨Rect.unit ![0, 3072] ![1024, 512] inb_S1024x3712_S1024x512_0_3072, w6⟩,
      ⟨Rect.unit ![0, 2560] ![1024, 512] inb_S1024x3712_S1024x512_0_2560, w5⟩,
      ⟨Rect.unit ![0, 2048] ![1024, 512] inb_S1024x3712_S1024x512_0_2048, w4⟩,
      ⟨Rect.unit ![0, 1536] ![1024, 512] inb_S1024x3712_S1024x512_0_1536, w3⟩,
      ⟨Rect.unit ![0, 1024] ![1024, 512] inb_S1024x3712_S1024x512_0_1024, w2⟩,
      ⟨Rect.unit ![0, 512] ![1024, 512] inb_S1024x3712_S1024x512_0_512, w1⟩,
      ⟨Rect.unit ![0, 0] ![1024, 512] inb_S1024x3712_S1024x512_0_0, w0⟩] ?_ y ?_
  · simp only [List.forall_mem_cons]
    refine ⟨?_, ?_, ?_, ?_, ?_, ?_, ?_, ?_, by simp⟩
    all_goals
      intro x
      idx_vars x
    · refine (e7 _ _).trans (congrArg₂ g ?_ ?_) <;> simp
    · refine (e6 _ _).trans (congrArg₂ g ?_ ?_) <;> simp
    · refine (e5 _ _).trans (congrArg₂ g ?_ ?_) <;> simp
    · refine (e4 _ _).trans (congrArg₂ g ?_ ?_) <;> simp
    · refine (e3 _ _).trans (congrArg₂ g ?_ ?_) <;> simp
    · refine (e2 _ _).trans (congrArg₂ g ?_ ?_) <;> simp
    · refine (e1 _ _).trans (congrArg₂ g ?_ ?_) <;> simp
    · refine (e0 _ _).trans (congrArg₂ g ?_ ?_) <;> simp
  · simp only [List.exists_mem_cons_iff, Rect.mem_set_unit, Fin.forall_fin_two, Matrix.cons_val_zero, Matrix.cons_val_one]
    omega

theorem tile_at (c : Dev nD) (t : Fin cfg0.N) (w v : EReal) (p : Fin 512 → EReal) (d x : ℕ) (e : w = v + ∑ r : Fin 512, fH m c (t.val * 512 + r.val) d * p r) (a : EReal) (ev : v = a)
    (ep : ∀ r, p r = tileT m c t r x) : w = a + partT m c t d x := by
  rw [e, ev]
  simp only [ep]
  rfl

/-- One step of the sum, over whatever was read of it. -/
theorem body (c : Dev nD) (t : Fin cfg0.N) (a : ℕ → ℕ → EReal) (b7 : FVec Ideal S1024x128 .f32) (b6 b5 b4 b3 b2 b1 b0 : FVec Ideal S1024x512 .f32)
    (v6 v5 v4 v3 v1 v0 : FVec Ideal S512x512 .bf16)
    (e7 : ∀ (d : Fin 1024) (x : Fin 128), b7 (ix2 d x) = a d.val (3584 + x.val))
    (e6 : ∀ (d : Fin 1024) (x : Fin 512), b6 (ix2 d x) = a d.val (3072 + x.val))
    (e5 : ∀ (d : Fin 1024) (x : Fin 512), b5 (ix2 d x) = a d.val (2560 + x.val))
    (e4 : ∀ (d : Fin 1024) (x : Fin 512), b4 (ix2 d x) = a d.val (2048 + x.val))
    (e3 : ∀ (d : Fin 1024) (x : Fin 512), b3 (ix2 d x) = a d.val (1536 + x.val))
    (e2 : ∀ (d : Fin 1024) (x : Fin 512), b2 (ix2 d x) = a d.val (1024 + x.val))
    (e1 : ∀ (d : Fin 1024) (x : Fin 512), b1 (ix2 d x) = a d.val (512 + x.val))
    (e0 : ∀ (d : Fin 1024) (x : Fin 512), b0 (ix2 d x) = a d.val (0 + x.val))
    (f6 : ∀ (r x : Fin 512), v6 (ix2 r x) = fC m c (t.val * 512 + r.val) (1536 + x.val))
    (f5 : ∀ (r x : Fin 512), v5 (ix2 r x) = fC m c (t.val * 512 + r.val) (1024 + x.val))
    (f4 : ∀ (r x : Fin 512), v4 (ix2 r x) = fC m c (t.val * 512 + r.val) (512 + x.val))
    (f3 : ∀ (r x : Fin 512), v3 (ix2 r x) = fC m c (t.val * 512 + r.val) (0 + x.val))
    (f1 : ∀ (r x : Fin 512), v1 (ix2 r x) = fA m c (t.val * 512 + r.val) (512 + x.val))
    (f0 : ∀ (r x : Fin 512), v0 (ix2 r x) = fA m c (t.val * 512 + r.val) (0 + x.val))
    (L : List (View.Piece (Elt Ideal) S1024x3712 .f32)) (y : S1024x3712.Idx) :
    View.canon ((⟨Rect.unit ![0, 3584] ![1024, 128] inb_S1024x3712_S1024x128_0_3584, k0_pay1 (F := Ideal) (k0_pay51 (iblk m c 0 t)) b7 (iblk m c 3 t)⟩ : View.Piece (Elt Ideal) S1024x3712 .f32) ::
      (⟨Rect.unit ![0, 3072] ![1024, 512] inb_S1024x3712_S1024x512_0_3072, k0_pay58 (F := Ideal) (k0_pay51 (iblk m c 0 t)) b6 v6⟩ : View.Piece (Elt Ideal) S1024x3712 .f32) ::
      (⟨Rect.unit ![0, 2560] ![1024, 512] inb_S1024x3712_S1024x512_0_2560, k0_pay57 (F := Ideal) (k0_pay51 (iblk m c 0 t)) b5 v5⟩ : View.Piece (Elt Ideal) S1024x3712 .f32) ::
      (⟨Rect.unit ![0, 2048] ![1024, 512] inb_S1024x3712_S1024x512_0_2048, k0_pay56 (F := Ideal) (k0_pay51 (iblk m c 0 t)) b4 v4⟩ : View.Piece (Elt Ideal) S1024x3712 .f32) ::
      (⟨Rect.unit ![0, 1536] ![1024, 512] inb_S1024x3712_S1024x512_0_1536, k0_pay55 (F := Ideal) (k0_pay51 (iblk m c 0 t)) b3 v3⟩ : View.Piece (Elt Ideal) S1024x3712 .f32) ::
      (⟨Rect.unit ![0, 1024] ![1024, 512] inb_S1024x3712_S1024x512_0_1024, k0_pay54 (F := Ideal) (dbT m c t) (iblk m c 0 t) b2⟩ : View.Piece (Elt Ideal) S1024x3712 .f32) ::
      (⟨Rect.unit ![0, 512] ![1024, 512] inb_S1024x3712_S1024x512_0_512, k0_pay53 (F := Ideal) (iblk m c 0 t) b1 v1⟩ : View.Piece (Elt Ideal) S1024x3712 .f32) ::
      (⟨Rect.unit ![0, 0] ![1024, 512] inb_S1024x3712_S1024x512_0_0, k0_pay52 (F := Ideal) (iblk m c 0 t) b0 v0⟩ : View.Piece (Elt Ideal) S1024x3712 .f32) :: L) y = a (y 0).val (y 1).val + partT m c t (y 0).val (y 1).val := by
  have hh := fun (d : Fin 1024) (r : Fin 512) => blk0 m c t d r
  have hf := fun (r : Fin 512) (x : Fin 128) => blk3 m c t r x
  refine pieces (fun d x => a d x + partT m c t d x) _ _ _ _ _ _ _ _ ?_ ?_ ?_ ?_ ?_ ?_ ?_ ?_ L y
  · intro d x
    have hx := x.isLt
    refine tile_at m c t _ _ _ d.val (3584 + x.val) ((p1 (iblk m c 0 t) b7 (iblk m c 3 t) d x).trans (congrArg (b7 (ix2 d x) + ·) (Finset.sum_congr rfl fun r _ => congrArg (· * _) (hh d r)))) _ (e7 d x) fun r => ?_
    unfold tileT
    refine (hf r x).trans ?_
    rw [dif_neg (by omega), dif_neg (by omega), dif_neg (by omega), show 3584 + x.val - 3584 = x.val by omega]
    by_cases h8 : x.val < 8
    · rw [if_pos h8, if_pos (by omega)]
    · rw [if_neg h8, if_neg (by omega)]
  · intro d x
    have hx := x.isLt
    refine tile_at m c t _ _ _ d.val (3072 + x.val) ((p55 (iblk m c 0 t) b6 (v6) d x).trans (congrArg (b6 (ix2 d x) + ·) (Finset.sum_congr rfl fun r _ => congrArg (· * _) (hh d r)))) _ (e6 d x) fun r => ?_
    unfold tileT
    refine (f6 r x).trans ?_
    rw [dif_neg (by omega), dif_neg (by omega), dif_pos (by omega), show 3072 + x.val - 1536 = 1536 + x.val by omega]
  · intro d x
    have hx := x.isLt
    refine tile_at m c t _ _ _ d.val (2560 + x.val) ((p55 (iblk m c 0 t) b5 (v5) d x).trans (congrArg (b5 (ix2 d x) + ·) (Finset.sum_congr rfl fun r _ => congrArg (· * _) (hh d r)))) _ (e5 d x) fun r => ?_
    unfold tileT
    refine (f5 r x).trans ?_
    rw [dif_neg (by omega), dif_neg (by omega), dif_pos (by omega), show 2560 + x.val - 1536 = 1024 + x.val by omega]
  · intro d x
    have hx := x.isLt
    refine tile_at m c t _ _ _ d.val (2048 + x.val) ((p55 (iblk m c 0 t) b4 (v4) d x).trans (congrArg (b4 (ix2 d x) + ·) (Finset.sum_congr rfl fun r _ => congrArg (· * _) (hh d r)))) _ (e4 d x) fun r => ?_
    unfold tileT
    refine (f4 r x).trans ?_
    rw [dif_neg (by omega), dif_neg (by omega), dif_pos (by omega), show 2048 + x.val - 1536 = 512 + x.val by omega]
  · intro d x
    have hx := x.isLt
    refine tile_at m c t _ _ _ d.val (1536 + x.val) ((p55 (iblk m c 0 t) b3 (v3) d x).trans (congrArg (b3 (ix2 d x) + ·) (Finset.sum_congr rfl fun r _ => congrArg (· * _) (hh d r)))) _ (e3 d x) fun r => ?_
    unfold tileT
    refine (f3 r x).trans ?_
    rw [dif_neg (by omega), dif_neg (by omega), dif_pos (by omega), show 1536 + x.val - 1536 = 0 + x.val by omega]
  · intro d x
    have hx := x.isLt
    refine tile_at m c t _ _ _ d.val (1024 + x.val) ((p54 (iblk m c 0 t) b2 (dbT m c t) d x).trans (congrArg (b2 (ix2 d x) + ·) (Finset.sum_congr rfl fun r _ => congrArg (· * _) (hh d r)))) _ (e2 d x) fun r => ?_
    unfold tileT
    rw [dif_neg (by omega), dif_pos (by omega)]
    exact congrArg (fun k => dbT m c t (ix2 r k)) (Fin.ext (by show x.val = 1024 + x.val - 1024; omega))
  · intro d x
    have hx := x.isLt
    refine tile_at m c t _ _ _ d.val (512 + x.val) ((p52 (iblk m c 0 t) b1 (v1) d x).trans (congrArg (b1 (ix2 d x) + ·) (Finset.sum_congr rfl fun r _ => congrArg (· * _) (hh d r)))) _ (e1 d x) fun r => ?_
    unfold tileT
    refine (f1 r x).trans ?_
    rw [dif_pos (by omega)]
  · intro d x
    have hx := x.isLt
    refine tile_at m c t _ _ _ d.val (0 + x.val) ((p52 (iblk m c 0 t) b0 (v0) d x).trans (congrArg (b0 (ix2 d x) + ·) (Finset.sum_congr rfl fun r _ => congrArg (· * _) (hh d r)))) _ (e0 d x) fun r => ?_
    unfold tileT
    refine (f0 r x).trans ?_
    rw [dif_pos (by omega)]

theorem stepB (c : Dev nD) (t : Fin cfg0.N) (h0 : ¬t.val % 8 = 0) (h1 : ¬t.val % 8 = 7) (y : S1024x3712.Idx) :
    (outsAt0 m c t.val t.isLt).2.2.2.2 y = (outsAt0 m c (t.val - 1) (Nat.lt_of_le_of_lt (Nat.sub_le _ _) t.isLt)).2.2.2.2 y + partT m c t (y 0).val (y 1).val := by
  have b1 := blk1 m c t
  have b2 := blk2 m c t
  rw [outsAt0_B m c t h0 h1]
  dsimp only
  frame_out
  clear h0 h1
  generalize (outsAt0 m c (t.val - 1) (Nat.lt_of_le_of_lt (Nat.sub_le _ _) t.isLt)).2.2.2.2 = acc
  refine (body m c t (fun d x => if h : d < 1024 ∧ x < 3712 then acc (ix2 ⟨d, h.1⟩ ⟨x, h.2⟩) else 0) _ _ _ _ _ _ _ _ _ _ _ _ _ _ ?_ ?_ ?_ ?_ ?_ ?_ ?_ ?_ ?_ ?_ ?_ ?_ ?_ ?_ _ y).trans ?_
  iterate 8
    intro d x
    have hx := x.isLt
    refine Eq.trans ?_ (dif_pos ⟨d.isLt, by omega⟩).symm
    pointwise
    exact congrFun ((Memref.isWhole_whole cc0_scratch0).read_unread acc) _
  iterate 4
    intro r x
    pointwise
    exact b2 r _
  iterate 2
    intro r x
    pointwise
    exact b1 r _
  rw [dif_pos ⟨(y 0).isLt, (y 1).isLt⟩]
  exact congrArg (acc · + _) (ix2_eta y)

theorem stepC (c : Dev nD) (t : Fin cfg0.N) (h0 : ¬t.val % 8 = 0) (h1 : t.val % 8 = 7) (y : S1024x3712.Idx) :
    (outsAt0 m c t.val t.isLt).2.2.2.2 y = (outsAt0 m c (t.val - 1) (Nat.lt_of_le_of_lt (Nat.sub_le _ _) t.isLt)).2.2.2.2 y + partT m c t (y 0).val (y 1).val := by
  have b1 := blk1 m c t
  have b2 := blk2 m c t
  rw [outsAt0_C m c t h0 h1]
  dsimp only
  frame_out
  clear h0 h1
  generalize (outsAt0 m c (t.val - 1) (Nat.lt_of_le_of_lt (Nat.sub_le _ _) t.isLt)).2.2.2.2 = acc
  refine (body m c t (fun d x => if h : d < 1024 ∧ x < 3712 then acc (ix2 ⟨d, h.1⟩ ⟨x, h.2⟩) else 0) _ _ _ _ _ _ _ _ _ _ _ _ _ _ ?_ ?_ ?_ ?_ ?_ ?_ ?_ ?_ ?_ ?_ ?_ ?_ ?_ ?_ _ y).trans ?_
  iterate 8
    intro d x
    have hx := x.isLt
    refine Eq.trans ?_ (dif_pos ⟨d.isLt, by omega⟩).symm
    pointwise
    exact congrFun ((Memref.isWhole_whole cc0_scratch0).read_unread acc) _
  iterate 4
    intro r x
    pointwise
    exact b2 r _
  iterate 2
    intro r x
    pointwise
    exact b1 r _
  rw [dif_pos ⟨(y 0).isLt, (y 1).isLt⟩]
  exact congrArg (acc · + _) (ix2_eta y)

theorem zero12 (y : S1024x3712.Idx) : k0_pay12 (F := Ideal) y = 0 := by
  pointwise [k0_pay12]

theorem skip (o n : ℕ) (inb : ∀ a : Fin 2, (![0, o] : Fin 2 → ℕ) a + (![1024, n] : Fin 2 → ℕ) a ≤ S1024x3712.size a) (w : (Rect.unit (s := S1024x3712) ![0, o] ![1024, n] inb).shape.Idx → EReal) (L : List (View.Piece (Elt Ideal) S1024x3712 .f32)) (y : S1024x3712.Idx) (h : o + n ≤ (y 1).val) :
    View.canon ((⟨Rect.unit ![0, o] ![1024, n] inb, w⟩ : View.Piece (Elt Ideal) S1024x3712 .f32) :: L) y = View.canon L y := by
  refine View.canon_cons_of_not_mem _ _ fun hm => ?_
  have hz := ((Rect.mem_set_unit (inb := inb)).1 hm 1).2
  simp at hz
  omega

theorem left0 (y : S1024x3712.Idx) : View.canon [(⟨Rect.unit ![0, 0] ![1024, 3712] inb_S1024x3712_S1024x3712_0_0, k0_pay12 (F := Ideal)⟩ : View.Piece (Elt Ideal) S1024x3712 .f32)] y = 0 := by
  rw [View.canon_cons_unit_lit]
  · exact zero12 _
  · intro a
    fin_cases a <;> rfl
theorem left1 (w0 : FVec Ideal S1024x512 .f32) (y : S1024x3712.Idx) (h : 512 ≤ (y 1).val) : View.canon ((⟨Rect.unit ![0, 0] ![1024, 512] inb_S1024x3712_S1024x512_0_0, w0⟩ : View.Piece (Elt Ideal) S1024x3712 .f32) ::
      [⟨Rect.unit ![0, 0] ![1024, 3712] inb_S1024x3712_S1024x3712_0_0, k0_pay12 (F := Ideal)⟩]) y = 0 :=
  (skip 0 512 _ _ _ y h).trans (left0  y)
theorem left2 (w1 w0 : FVec Ideal S1024x512 .f32) (y : S1024x3712.Idx) (h : 1024 ≤ (y 1).val) : View.canon ((⟨Rect.unit ![0, 512] ![1024, 512] inb_S1024x3712_S1024x512_0_512, w1⟩ : View.Piece (Elt Ideal) S1024x3712 .f32) :: (⟨Rect.unit ![0, 0] ![1024, 512] inb_S1024x3712_S1024x512_0_0, w0⟩ : View.Piece (Elt Ideal) S1024x3712 .f32) ::
      [⟨Rect.unit ![0, 0] ![1024, 3712] inb_S1024x3712_S1024x3712_0_0, k0_pay12 (F := Ideal)⟩]) y = 0 :=
  (skip 512 512 _ _ _ y h).trans (left1 w0 y (by omega))
theorem left3 (w2 w1 w0 : FVec Ideal S1024x512 .f32) (y : S1024x3712.Idx) (h : 1536 ≤ (y 1).val) : View.canon ((⟨Rect.unit ![0, 1024] ![1024, 512] inb_S1024x3712_S1024x512_0_1024, w2⟩ : View.Piece (Elt Ideal) S1024x3712 .f32) :: (⟨Rect.unit ![0, 512] ![1024, 512] inb_S1024x3712_S1024x512_0_512, w1⟩ : View.Piece (Elt Ideal) S1024x3712 .f32) :: (⟨Rect.unit ![0, 0] ![1024, 512] inb_S1024x3712_S1024x512_0_0, w0⟩ : View.Piece (Elt Ideal) S1024x3712 .f32) ::
      [⟨Rect.unit ![0, 0] ![1024, 3712] inb_S1024x3712_S1024x3712_0_0, k0_pay12 (F := Ideal)⟩]) y = 0 :=
  (skip 1024 512 _ _ _ y h).trans (left2 w1 w0 y (by omega))
theorem left4 (w3 w2 w1 w0 : FVec Ideal S1024x512 .f32) (y : S1024x3712.Idx) (h : 2048 ≤ (y 1).val) : View.canon ((⟨Rect.unit ![0, 1536] ![1024, 512] inb_S1024x3712_S1024x512_0_1536, w3⟩ : View.Piece (Elt Ideal) S1024x3712 .f32) :: (⟨Rect.unit ![0, 1024] ![1024, 512] inb_S1024x3712_S1024x512_0_1024, w2⟩ : View.Piece (Elt Ideal) S1024x3712 .f32) :: (⟨Rect.unit ![0, 512] ![1024, 512] inb_S1024x3712_S1024x512_0_512, w1⟩ : View.Piece (Elt Ideal) S1024x3712 .f32) :: (⟨Rect.unit ![0, 0] ![1024, 512] inb_S1024x3712_S1024x512_0_0, w0⟩ : View.Piece (Elt Ideal) S1024x3712 .f32) ::
      [⟨Rect.unit ![0, 0] ![1024, 3712] inb_S1024x3712_S1024x3712_0_0, k0_pay12 (F := Ideal)⟩]) y = 0 :=
  (skip 1536 512 _ _ _ y h).trans (left3 w2 w1 w0 y (by omega))
theorem left5 (w4 w3 w2 w1 w0 : FVec Ideal S1024x512 .f32) (y : S1024x3712.Idx) (h : 2560 ≤ (y 1).val) : View.canon ((⟨Rect.unit ![0, 2048] ![1024, 512] inb_S1024x3712_S1024x512_0_2048, w4⟩ : View.Piece (Elt Ideal) S1024x3712 .f32) :: (⟨Rect.unit ![0, 1536] ![1024, 512] inb_S1024x3712_S1024x512_0_1536, w3⟩ : View.Piece (Elt Ideal) S1024x3712 .f32) :: (⟨Rect.unit ![0, 1024] ![1024, 512] inb_S1024x3712_S1024x512_0_1024, w2⟩ : View.Piece (Elt Ideal) S1024x3712 .f32) :: (⟨Rect.unit ![0, 512] ![1024, 512] inb_S1024x3712_S1024x512_0_512, w1⟩ : View.Piece (Elt Ideal) S1024x3712 .f32) :: (⟨Rect.unit ![0, 0] ![1024, 512] inb_S1024x3712_S1024x512_0_0, w0⟩ : View.Piece (Elt Ideal) S1024x3712 .f32) ::
      [⟨Rect.unit ![0, 0] ![1024, 3712] inb_S1024x3712_S1024x3712_0_0, k0_pay12 (F := Ideal)⟩]) y = 0 :=
  (skip 2048 512 _ _ _ y h).trans (left4 w3 w2 w1 w0 y (by omega))
theorem left6 (w5 w4 w3 w2 w1 w0 : FVec Ideal S1024x512 .f32) (y : S1024x3712.Idx) (h : 3072 ≤ (y 1).val) : View.canon ((⟨Rect.unit ![0, 2560] ![1024, 512] inb_S1024x3712_S1024x512_0_2560, w5⟩ : View.Piece (Elt Ideal) S1024x3712 .f32) :: (⟨Rect.unit ![0, 2048] ![1024, 512] inb_S1024x3712_S1024x512_0_2048, w4⟩ : View.Piece (Elt Ideal) S1024x3712 .f32) :: (⟨Rect.unit ![0, 1536] ![1024, 512] inb_S1024x3712_S1024x512_0_1536, w3⟩ : View.Piece (Elt Ideal) S1024x3712 .f32) :: (⟨Rect.unit ![0, 1024] ![1024, 512] inb_S1024x3712_S1024x512_0_1024, w2⟩ : View.Piece (Elt Ideal) S1024x3712 .f32) :: (⟨Rect.unit ![0, 512] ![1024, 512] inb_S1024x3712_S1024x512_0_512, w1⟩ : View.Piece (Elt Ideal) S1024x3712 .f32) :: (⟨Rect.unit ![0, 0] ![1024, 512] inb_S1024x3712_S1024x512_0_0, w0⟩ : View.Piece (Elt Ideal) S1024x3712 .f32) ::
      [⟨Rect.unit ![0, 0] ![1024, 3712] inb_S1024x3712_S1024x3712_0_0, k0_pay12 (F := Ideal)⟩]) y = 0 :=
  (skip 2560 512 _ _ _ y h).trans (left5 w4 w3 w2 w1 w0 y (by omega))
theorem left7 (w6 w5 w4 w3 w2 w1 w0 : FVec Ideal S1024x512 .f32) (y : S1024x3712.Idx) (h : 3584 ≤ (y 1).val) : View.canon ((⟨Rect.unit ![0, 3072] ![1024, 512] inb_S1024x3712_S1024x512_0_3072, w6⟩ : View.Piece (Elt Ideal) S1024x3712 .f32) :: (⟨Rect.unit ![0, 2560] ![1024, 512] inb_S1024x3712_S1024x512_0_2560, w5⟩ : View.Piece (Elt Ideal) S1024x3712 .f32) :: (⟨Rect.unit ![0, 2048] ![1024, 512] inb_S1024x3712_S1024x512_0_2048, w4⟩ : View.Piece (Elt Ideal) S1024x3712 .f32) :: (⟨Rect.unit ![0, 1536] ![1024, 512] inb_S1024x3712_S1024x512_0_1536, w3⟩ : View.Piece (Elt Ideal) S1024x3712 .f32) :: (⟨Rect.unit ![0, 1024] ![1024, 512] inb_S1024x3712_S1024x512_0_1024, w2⟩ : View.Piece (Elt Ideal) S1024x3712 .f32) :: (⟨Rect.unit ![0, 512] ![1024, 512] inb_S1024x3712_S1024x512_0_512, w1⟩ : View.Piece (Elt Ideal) S1024x3712 .f32) :: (⟨Rect.unit ![0, 0] ![1024, 512] inb_S1024x3712_S1024x512_0_0, w0⟩ : View.Piece (Elt Ideal) S1024x3712 .f32) ::
      [⟨Rect.unit ![0, 0] ![1024, 3712] inb_S1024x3712_S1024x3712_0_0, k0_pay12 (F := Ideal)⟩]) y = 0 :=
  (skip 3072 512 _ _ _ y h).trans (left6 w5 w4 w3 w2 w1 w0 y (by omega))

theorem stepA (c : Dev nD) (t : Fin cfg0.N) (h0 : t.val % 8 = 0) (y : S1024x3712.Idx) :
    (outsAt0 m c t.val t.isLt).2.2.2.2 y = 0 + partT m c t (y 0).val (y 1).val := by
  have b1 := blk1 m c t
  have b2 := blk2 m c t
  rw [outsAt0_A m c t h0 (by omega)]
  dsimp only
  frame_out
  clear h0
  refine (body m c t (fun d x => 0) _ _ _ _ _ _ _ _ _ _ _ _ _ _ ?_ ?_ ?_ ?_ ?_ ?_ ?_ ?_ ?_ ?_ ?_ ?_ ?_ ?_ _ y).trans ?_
  on_goal 8 => exact fun d x => (congrFun (View.readCov_eq_canon' _ _ _) _).trans (left0 _)
  on_goal 7 => exact fun d x => (congrFun (View.readCov_eq_canon' _ _ _) _).trans (left1 _ _ (Nat.le_add_right _ _))
  on_goal 6 => exact fun d x => (congrFun (View.readCov_eq_canon' _ _ _) _).trans (left2 _ _ _ (Nat.le_add_right _ _))
  on_goal 5 => exact fun d x => (congrFun (View.readCov_eq_canon' _ _ _) _).trans (left3 _ _ _ _ (Nat.le_add_right _ _))
  on_goal 4 => exact fun d x => (congrFun (View.readCov_eq_canon' _ _ _) _).trans (left4 _ _ _ _ _ (Nat.le_add_right _ _))
  on_goal 3 => exact fun d x => (congrFun (View.readCov_eq_canon' _ _ _) _).trans (left5 _ _ _ _ _ _ (Nat.le_add_right _ _))
  on_goal 2 => exact fun d x => (congrFun (View.readCov_eq_canon' _ _ _) _).trans (left6 _ _ _ _ _ _ _ (Nat.le_add_right _ _))
  on_goal 1 => exact fun d x => (congrFun (View.readCov_eq_canon' _ _ _) _).trans (left7 _ _ _ _ _ _ _ _ (Nat.le_add_right _ _))
  iterate 4
    intro r x
    pointwise
    exact b2 r _
  iterate 2
    intro r x
    pointwise
    exact b1 r _
  rfl

end Cert.Pool
-- ==== Proof.PoolE.lean ====
/- The pooling branch's gradient: the four results after the run. -/
module

public import proofs.«01_k».proof.Proof.PoolD

@[expose] public section

set_option maxRecDepth 16384

noncomputable section

namespace Cert.Pool

open Idealize.ShloMosaic Idealize.ShloMosaic.TcCoe Idealize.SL.Sem
open Cert.Kernel5Ideal Cert.Kernel5Ideal.Gen

variable (m : (ℓ : Loc nD τ sig) → Buf (Elt Ideal) ℓ)

theorem scratch_last (c : Dev nD) (y : S1024x3712.Idx) : (outsAt0 m c t0_7.val t0_7.isLt).2.2.2.2 y = ∑ t : Fin 8, partT m c t (y 0).val (y 1).val := by
  refine (Pipeline.eq_sum_fin_of_reset_step_apply_last (fun n h => (outsAt0 m c n h).2.2.2.2) 8 (fun _ => 0) (fun t y => partT m c t (y 0).val (y 1).val)
    (fun t h y => stepA m c t h y) (fun t h y => by
      by_cases h1 : t.val % 8 = 7
      · exact stepC m c t h h1 y
      · exact stepB m c t h h1 y)
    (le_of_eq N_0) t0_7 rfl _).trans ?_
  rw [zero_add]
  rfl

theorem out13 (c : Dev nD) (t : Fin cfg0.N) (hl : t.val % 8 = 7) (sc : FVec Ideal S1024x3712 .f32) (hs : (outsAt0 m c t.val t.isLt).2.2.2.2 = sc)
    (y : S2x4x1024x449.Idx) (k : Fin 3712) (hk : k.val = ((y 1).val * 2 + (y 0).val) * 449 + (y 3).val) :
    (outsAt0 m c t.val t.isLt).1 y = sc (ix2 (y 2) k) := by
  have e := hs
  rw [outsAt0_C m c t (by omega) hl] at e ⊢
  dsimp only at e ⊢
  frame_out at e
  frame_out
  clear hs hl
  canon_tiles x h
  all_goals
    pointwise [k0_pay2, k0_pay3, k0_pay4, k0_pay5, k0_pay6, k0_pay7, k0_pay8, k0_pay9]
    refine (congrFun (View.readCov_eq_canon' _ _ _) _).trans ((congrFun e _).trans (congrArg sc ?_))
    clear e
    refine funext fun a => Fin.ext ?_
    fin_cases a
    · simp [h2]
    · simp
      omega

theorem final13 (c : Dev nD) : (dats m 0 c).arrAt 13 cfg0.N
    = fun j : S2x4x1024x449.Idx => ∑ t : Fin 8, partT m c t (j 2).val (((j 1).val * 2 + (j 0).val) * 449 + (j 3).val) := by
  refine (dats m 0 c).arrAt_eq_of_after_last 13 t0_7 (by decide +kernel) _ fun j => ?_
  rw [after0_13]
  have l0 : (j 0).val < 2 := (j 0).isLt
  have l1 : (j 1).val < 4 := (j 1).isLt
  have l3 : (j 3).val < 449 := (j 3).isLt
  exact (out13 m c t0_7 rfl _ (funext (scratch_last m c)) j ⟨((j 1).val * 2 + (j 0).val) * 449 + (j 3).val, by omega⟩ rfl).trans rfl

section Reals
variable (c : Dev nD) (U G D P : ℕ → ℕ → ℝ) (S : ℕ → ℝ)
  (hU : ∀ i k, fU m c i k = (U i k : EReal)) (hG : ∀ i k, fG m c i k = (G i k : EReal)) (hD : ∀ i k, fD m c i k = (D i k : EReal))
  (hW : ∀ i k, fW m c i k = (P i k : EReal)) (hS : ∀ k, fS m c k = (S k : EReal))
include hU hG hD hW hS

/-- One entry of the branch's own two gradients. -/
def dbVal (U G D P : ℕ → ℕ → ℝ) (S : ℕ → ℝ) (n x : ℕ) : ℝ := if x < 256 then du G D (wm P) S n x else dgb U G D (wm P) S n (x - 256)

theorem final14 : (dats m 0 c).arrAt 14 cfg0.N = fun j : S4096x512.Idx => (dbVal U G D P S (j 0).val (j 1).val : EReal) := by
  refine (dats m 0 c).arrAt_eq_of_covers 14 _ (by decide +kernel) fun t hf y => ?_
  blk_simp [idx t]
  rw [after0_14, out14]
  idx_vars y
  refine (dbT_at m c U G D P S hU hG hD hW hS t y0 y1).trans ?_
  rfl

theorem final15 : (dats m 0 c).arrAt 15 cfg0.N = fun j : S256x256.Idx => ((∑ t : Fin 8, dwPart U G D S t.val (j 0).val (j 1).val : ℝ) : EReal) := by
  refine (dats m 0 c).arrAt_eq_of_after_last 15 t0_7 (by decide +kernel) _ fun j => ?_
  have e : ∀ (t : Fin cfg0.N) (acc : FVec Ideal S256x256 .f32) (a b : Fin 256), k0_pay48 (F := Ideal) (k0_pay40 (k0_pay13 (iblk m c 12 t)) (poolT m c t) (k0_pay32 (iblk m c 7 t)) (k0_pay34 (iblk m c 5 t))) acc (ix2 a b)
      = acc (ix2 a b) + (dwPart U G D S t.val a.val b.val : EReal) := fun t acc a b => by
    have hq := dwT_at m c U G D S hU hG hD hS t a b
    generalize k0_pay40 (F := Ideal) (k0_pay13 (iblk m c 12 t)) (poolT m c t) (k0_pay32 (iblk m c 7 t)) (k0_pay34 (iblk m c 5 t)) = q at *
    pointwise [k0_pay48]
    rw [hq]
  blk_simp
  idx_vars j
  rw [after0_15, Pipeline.eq_sum_fin_of_reset_step_apply_last (fun n h => (outsAt0 m c n h).2.2.1) 8 (fun _ => 0) (fun t j => ((dwPart U G D S t.val (j 0).val (j 1).val : ℝ) : EReal))
    (fun t h j => by
      rw [outsAt0_A m c t h (by omega)]
      idx_vars j
      frame_out
      refine (e t _ j0 j1).trans (congrArg (· + _) ?_)
      pointwise [k0_pay10]) (fun t h j => by
      idx_vars j
      by_cases h1 : t.val % 8 = 7
      · rw [outsAt0_C m c t h h1]
        frame_out
        exact e t _ j0 j1
      · rw [outsAt0_B m c t h h1]
        frame_out
        exact e t _ j0 j1)
    (le_of_eq N_0) t0_7 rfl _, zero_add]
  exact Fin.coe_sum _

theorem final16 : (dats m 0 c).arrAt 16 cfg0.N = fun j : S1x256.Idx => ((∑ t : Fin 8, dsPart U G D (wm P) t.val (j 1).val : ℝ) : EReal) := by
  refine (dats m 0 c).arrAt_eq_of_after_last 16 t0_7 (by decide +kernel) _ fun j => ?_
  have e : ∀ (t : Fin cfg0.N) (acc : FVec Ideal S1x256 .f32) (b : Fin 256), k0_pay50 (F := Ideal) (k0_pay38 (preT m c t) (k0_pay32 (iblk m c 7 t)) (k0_pay34 (iblk m c 5 t))) (k0_pay49 acc) (ix2 0 b)
      = acc (ix2 0 b) + (dsPart U G D (wm P) t.val b.val : EReal) := fun t acc b => by
    have hq := dsT_at m c U G D P hU hG hD hW t b
    generalize k0_pay38 (F := Ideal) (preT m c t) (k0_pay32 (iblk m c 7 t)) (k0_pay34 (iblk m c 5 t)) = q at *
    pointwise [k0_pay50, k0_pay49]
    rw [hq]
  blk_simp
  idx_vars j
  obtain rfl : j0 = 0 := Subsingleton.elim _ _
  rw [after0_16, Pipeline.eq_sum_fin_of_reset_step_apply_last (fun n h => (outsAt0 m c n h).2.2.2.1) 8 (fun _ => 0) (fun t j => ((dsPart U G D (wm P) t.val (j 1).val : ℝ) : EReal))
    (fun t h j => by
      rw [outsAt0_A m c t h (by omega)]
      idx_vars j
      obtain rfl : j0 = 0 := Subsingleton.elim _ _
      frame_out
      refine (e t _ j1).trans (congrArg (· + _) ?_)
      pointwise [k0_pay11]) (fun t h j => by
      idx_vars j
      obtain rfl : j0 = 0 := Subsingleton.elim _ _
      by_cases h1 : t.val % 8 = 7
      · rw [outsAt0_C m c t h h1]
        frame_out
        exact e t _ j1
      · rw [outsAt0_B m c t h h1]
        frame_out
        exact e t _ j1)
    (le_of_eq N_0) t0_7 rfl _, zero_add]
  exact Fin.coe_sum _

end Reals

end Cert.Pool
-- ==== Proof.PoolR.lean ====
/- The pooling branch's gradient: running sums and the windows they give. -/
module

public import proofs.«01_k».proof.Proof.Lib

@[expose] public section

set_option maxRecDepth 16384

noncomputable section

namespace Cert.Fin

open Idealize.ShloMosaic

/-- The running sum down the second axis of an array of four axes. -/
theorem cumsum4 {A N M B C : ℕ} (hM : M + 1 = N) (x : FVec Ideal (⟨4, ![A, N, B, C]⟩ : Shape) .f32) {u : Shape} (init : u.Idx → EReal)
    (h : (⟨4, ![A, N, B, C]⟩ : Shape).ReduceWindows (![1, N, 1, 1] : Fin 4 → Nat) ![1, 1, 1, 1] ![0, M, 0, 0] ![0, 0, 0, 0] (⟨4, ![A, N, B, C]⟩ : Shape))
    (hu : 0 < u.numel) (hi0 : init (Shape.Idx.first hu) = 0) (a : Fin A) (j : Fin N) (b : Fin B) (c : Fin C) :
    Host.reduceWindowAdd (F := Ideal) ![1, N, 1, 1] ![1, 1, 1, 1] ![0, M, 0, 0] ![0, 0, 0, 0] x init h hu (ix4 a j b c) = ∑ k : Fin N, if k ≤ j then x (ix4 a k b c) else 0 := by
  subst hM
  rw [reduceWindowAdd_apply _ _ _ _ _ _ _ _ hi0]
  refine (sum_idx4 _).trans ((Fin.sum_univ_one _).trans ?_)
  let f : ℕ → EReal := fun n => if h : n < M + 1 then x (ix4 a ⟨n, h⟩ b c) else 0
  refine Eq.trans (Finset.sum_congr rfl fun w _ => ?_) ((sum_low j f).trans (Finset.sum_congr rfl fun k _ => ?_))
  · rw [Fin.sum_univ_one, Fin.sum_univ_one]
    have ha := a.isLt
    have hb := b.isLt
    have hc := c.isLt
    have hw := w.isLt
    have hj := j.isLt
    by_cases q : M ≤ j.val + w.val
    · rw [dif_pos (fun z => by
        match z with
        | ⟨0, _⟩ => exact ⟨Nat.zero_le _, by show a.val * 1 + 0 - 0 < A; omega⟩
        | ⟨1, _⟩ => exact ⟨by show M ≤ j.val * 1 + w.val; omega, by show j.val * 1 + w.val - M < M + 1; omega⟩
        | ⟨2, _⟩ => exact ⟨Nat.zero_le _, by show b.val * 1 + 0 - 0 < B; omega⟩
        | ⟨3, _⟩ => exact ⟨Nat.zero_le _, by show c.val * 1 + 0 - 0 < C; omega⟩), if_pos (by omega)]
      have hf : f (j.val + w.val - (M + 1 - 1)) = x (ix4 a ⟨j.val + w.val - M, by omega⟩ b c) := dif_pos (by omega)
      rw [hf]
      refine congrArg x (funext fun z => Fin.ext ?_)
      match z with
      | ⟨0, _⟩ => show a.val * 1 + 0 - 0 = a.val; omega
      | ⟨1, _⟩ => show j.val * 1 + w.val - M = j.val + w.val - M; omega
      | ⟨2, _⟩ => show b.val * 1 + 0 - 0 = b.val; omega
      | ⟨3, _⟩ => show c.val * 1 + 0 - 0 = c.val; omega
    · rw [dif_neg (fun hin => q (by have h0 : M ≤ j.val * 1 + w.val := (hin 1).1; omega)), if_neg (by omega)]
  · rw [show f k.val = x (ix4 a k b c) from dif_pos k.isLt]

/-- The running sum up the second axis of an array of four axes. -/
theorem cumsum4_rev {A N M B C : ℕ} (hM : M + 1 = N) (x : FVec Ideal (⟨4, ![A, N, B, C]⟩ : Shape) .f32) {u : Shape} (init : u.Idx → EReal)
    (h : (⟨4, ![A, N, B, C]⟩ : Shape).ReduceWindows (![1, N, 1, 1] : Fin 4 → Nat) ![1, 1, 1, 1] ![0, 0, 0, 0] ![0, M, 0, 0] (⟨4, ![A, N, B, C]⟩ : Shape))
    (hu : 0 < u.numel) (hi0 : init (Shape.Idx.first hu) = 0) (a : Fin A) (j : Fin N) (b : Fin B) (c : Fin C) :
    Host.reduceWindowAdd (F := Ideal) ![1, N, 1, 1] ![1, 1, 1, 1] ![0, 0, 0, 0] ![0, M, 0, 0] x init h hu (ix4 a j b c) = ∑ k : Fin N, if j ≤ k then x (ix4 a k b c) else 0 := by
  rw [reduceWindowAdd_apply _ _ _ _ _ _ _ _ hi0]
  refine (sum_idx4 _).trans ((Fin.sum_univ_one _).trans ?_)
  let f : ℕ → EReal := fun n => if h : n < N then x (ix4 a ⟨n, h⟩ b c) else 0
  refine Eq.trans (Finset.sum_congr rfl fun w _ => ?_) ((sum_high j f).trans (Finset.sum_congr rfl fun k _ => ?_))
  · rw [Fin.sum_univ_one, Fin.sum_univ_one]
    have ha := a.isLt
    have hb := b.isLt
    have hc := c.isLt
    by_cases q : j.val + w.val < N
    · rw [dif_pos (fun z => by
        match z with
        | ⟨0, _⟩ => exact ⟨Nat.zero_le _, by show a.val * 1 + 0 - 0 < A; omega⟩
        | ⟨1, _⟩ => exact ⟨Nat.zero_le _, by show j.val * 1 + w.val - 0 < N; omega⟩
        | ⟨2, _⟩ => exact ⟨Nat.zero_le _, by show b.val * 1 + 0 - 0 < B; omega⟩
        | ⟨3, _⟩ => exact ⟨Nat.zero_le _, by show c.val * 1 + 0 - 0 < C; omega⟩), if_pos q]
      have hf : f (j.val + w.val) = x (ix4 a ⟨j.val + w.val, q⟩ b c) := dif_pos q
      rw [hf]
      refine congrArg x (funext fun z => Fin.ext ?_)
      match z with
      | ⟨0, _⟩ => show a.val * 1 + 0 - 0 = a.val; omega
      | ⟨1, _⟩ => show j.val * 1 + w.val - 0 = j.val + w.val; omega
      | ⟨2, _⟩ => show b.val * 1 + 0 - 0 = b.val; omega
      | ⟨3, _⟩ => show c.val * 1 + 0 - 0 = c.val; omega
    · rw [dif_neg (fun hin => q (by have h0 : j.val * 1 + w.val - 0 < N := (hin 1).2; omega)), if_neg q]
  · rw [show f k.val = x (ix4 a k b c) from dif_pos k.isLt]

end Cert.Fin

namespace Cert.Pool

/-- A window of the rows up to `i`, as a difference of two running sums. -/
theorem win_cs (f : ℕ → ℝ) (i v : ℕ) :
    (∑ s ∈ Finset.range (1 + i), f s) - (if i < v then 0 else ∑ s ∈ Finset.range (i - v), f s) = ∑ s ∈ Finset.range (v + 1), if s ≤ i then f (i - s) else 0 := by
  induction v with
  | zero =>
    rw [if_neg (Nat.not_lt_zero _), Nat.sub_zero, Nat.add_comm 1 i, Finset.sum_range_succ, Finset.sum_range_one, if_pos (Nat.zero_le _), Nat.sub_zero]
    ring
  | succ v ih =>
    rw [Finset.sum_range_succ, ← ih]
    by_cases h : i < v
    · rw [if_pos h, if_pos (by omega), if_neg (by omega)]
      ring
    · by_cases h1 : i < v + 1
      · obtain rfl : i = v := by omega
        rw [if_neg h, if_pos h1, if_neg (by omega), Nat.sub_self, Finset.sum_range_zero]
        ring
      · rw [if_neg h, if_neg h1, if_pos (by omega), show i - v = i - (v + 1) + 1 by omega, Finset.sum_range_succ]
        ring

/-- A window of the rows from `i` on, as a sum of differences. -/
theorem win_up (q : ℕ → ℝ) (N i w : ℕ) (hi : i ≤ N) :
    (∑ s ∈ Finset.range (N - i), (q (i + s) - if i + s + w < N then q (i + s + w) else 0)) = ∑ s ∈ Finset.range w, if i + s < N then q (i + s) else 0 := by
  induction w with
  | zero =>
    rw [Finset.sum_range_zero]
    refine Finset.sum_eq_zero fun s hs => ?_
    rw [if_pos (by have := Finset.mem_range.1 hs; omega), Nat.add_zero, sub_self]
  | succ w ih =>
    rw [Finset.sum_range_succ, ← ih]
    have t := Finset.sum_range_sub' (fun s => if i + s + w < N then q (i + s + w) else 0) (N - i)
    rw [if_neg (by omega : ¬(i + (N - i) + w < N)), sub_zero, Nat.add_zero] at t
    rw [← t, ← Finset.sum_add_distrib]
    refine Finset.sum_congr rfl fun s _ => ?_
    rw [show i + s + (w + 1) = i + (s + 1) + w by omega]
    ring

/-- A sum over the rows from `i` on, its rows counted from `i`. -/
theorem sum_from (N i : ℕ) (f : ℕ → ℝ) : (∑ k : Fin N, if i ≤ k.val then f k.val else 0) = ∑ s ∈ Finset.range (N - i), f (i + s) := by
  rw [Fin.sum_univ_eq_sum_range (fun k => if i ≤ k then f k else 0) N, ← Finset.sum_filter]
  refine Finset.sum_nbij' (fun k => k - i) (fun s => i + s) ?_ ?_ ?_ ?_ ?_
  all_goals (intro a ha; simp only [Finset.mem_filter, Finset.mem_range] at ha ⊢)
  all_goals first | omega | (refine congrArg f ?_; omega)

/-- A sum over the rows before `k`. -/
theorem sum_upto (N k : ℕ) (hk : k ≤ N) (f : ℕ → ℝ) : (∑ s : Fin N, if s.val < k then f s.val else 0) = ∑ s ∈ Finset.range k, f s := by
  rw [Fin.sum_univ_eq_sum_range (fun s => if s < k then f s else 0) N, ← Finset.sum_filter]
  refine Finset.sum_congr (Finset.ext fun a => ?_) fun _ _ => rfl
  simp only [Finset.mem_filter, Finset.mem_range]
  omega

end Cert.Pool
-- ==== Proof.PoolS.lean ====
/- The pooling branch's gradient: what the reference computes, on the way forward. -/
module

public import proofs.«01_k».proof.Proof.PoolA
public import proofs.«01_k».proof.Proof.PoolR
public import proofs.«01_k».proof.Proof.PoolC
public import proofs.«01_k».proof.Proof.Gen.Reference5Ideal.Run

@[expose] public section

set_option maxRecDepth 16384

noncomputable section

namespace Cert.Pool

open Idealize.ShloMosaic Idealize.ShloMosaic.TcCoe Idealize.SL.Sem
open Cert.Reference5Ideal Cert.Reference5Ideal.Gen
open Cert.Reference5Ideal.Value

section Ref

variable (V0 : Valuation τ sig (Elt Ideal)) (U : ℕ → ℕ → ℝ)
variable (hU : ∀ (b : Fin 2) (i : Fin 2048) (j : Fin 256), (V0 (Proc.devRef .tc main_arg2) : FVec Ideal S2x2048x256 .f32) (ix3 b i j) = (U (b.val * 2048 + i.val) j.val : EReal))
include hU

theorem v13_ref (b : Fin 2) (i : Fin 2048) (g : Fin 4) (x : Fin 64) :
    (res_main_v13 V0 : FVec Ideal S2x2048x4x64 .f32) (ix4 b i g x) = (U (b.val * 2048 + i.val) (g.val * 64 + x.val) : EReal) := by
  pointwise [res_main_v13]
  rw [hU]

/-- The sum of the rows before row `k` of a batch. -/
def cs (U : ℕ → ℕ → ℝ) (b k j : ℕ) : ℝ := ∑ s ∈ Finset.range k, U (b * 2048 + s) j

theorem v16_ref (b : Fin 2) (k : Fin 2049) (g : Fin 4) (x : Fin 64) :
    (res_main_v16 V0 : FVec Ideal S2x2049x4x64 .f32) (ix4 b k g x) = (cs U b.val k.val (g.val * 64 + x.val) : EReal) := by
  have h := v13_ref V0 U hU
  pointwise [res_main_v16]
  by_cases h1 : k.val < 1
  · rw [dif_pos h1]
    unfold cs
    rw [show k.val = 0 by omega, Finset.sum_range_zero]
    rfl
  · rw [dif_neg h1]
    refine (Fin.cumsum4 (M := 2047) rfl _ _ _ _ (by pointwise) b _ g x).trans ?_
    simp only [h]
    have e : ∀ s : Fin 2048, (if s ≤ (⟨k.val - 1, by omega⟩ : Fin 2048) then ((U (b.val * 2048 + s.val) (g.val * 64 + x.val) : ℝ) : EReal) else 0)
        = ((if s.val < k.val then U (b.val * 2048 + s.val) (g.val * 64 + x.val) else 0 : ℝ) : EReal) := fun s => by
      by_cases q : s.val < k.val
      · rw [if_pos q, if_pos (by show s.val ≤ k.val - 1; omega)]
      · rw [if_neg q, if_neg (by show ¬(s.val ≤ k.val - 1); omega)]
        rfl
    rw [Finset.sum_congr rfl fun s _ => e s, Fin.coe_sum]
    exact congrArg _ (sum_upto 2048 k.val (by omega) fun s => U (b.val * 2048 + s) (g.val * 64 + x.val))

omit hU in
theorem v18_ref (i : Fin 2048) : (res_main_v18 V0 : FVec Ideal S2048 .f32) (ix1 i) = ((i.val : ℝ) : EReal) := by
  pointwise [res_main_v18]
  show (((BitVec.ofNat 32 i.val).toInt : ℝ) : EReal) = _
  have e : (BitVec.ofNat 32 i.val).toInt = (i.val : ℤ) := by
    rw [BitVec.toInt_eq_toNat_cond, BitVec.toNat_ofNat]
    have := i.isLt
    rw [Nat.mod_eq_of_lt (by omega), if_pos (by omega)]
  rw [e]
  norm_cast

omit hU in
theorem min_at (x y : EReal) (a b : ℝ) (hx : x = (a : EReal)) (hy : y = (b : EReal)) : min (x + 1) y = ((min (a + 1) b : ℝ) : EReal) := by
  rw [hx, hy, EReal.coe_strictMono.monotone.map_min, EReal.coe_add, EReal.coe_one]

omit hU in
theorem v30_ref (i : Fin 2048) : (res_main_v30 V0 : FVec Ideal S1x2048x1 .f32) (ix3 0 i 0) = ((min ((i.val : ℝ) + 1) 2 : ℝ) : EReal) := by
  have h := v18_ref V0 i
  pointwise [res_main_v30]
  exact min_at _ _ _ _ h bits_two

omit hU in
theorem v48_ref (i : Fin 2048) : (res_main_v48 V0 : FVec Ideal S1x2048x1 .f32) (ix3 0 i 0) = ((min ((i.val : ℝ) + 1) 4 : ℝ) : EReal) := by
  have h := v18_ref V0 i
  pointwise [res_main_v48]
  exact min_at _ _ _ _ h bits_four

omit hU in
theorem v66_ref (i : Fin 2048) : (res_main_v66 V0 : FVec Ideal S1x2048x1 .f32) (ix3 0 i 0) = ((min ((i.val : ℝ) + 1) 8 : ℝ) : EReal) := by
  have h := v18_ref V0 i
  pointwise [res_main_v66]
  exact min_at _ _ _ _ h bits_eight

omit hU in
theorem v84_ref (i : Fin 2048) : (res_main_v84 V0 : FVec Ideal S1x2048x1 .f32) (ix3 0 i 0) = ((min ((i.val : ℝ) + 1) 16 : ℝ) : EReal) := by
  have h := v18_ref V0 i
  pointwise [res_main_v84]
  exact min_at _ _ _ _ h bits_sixteen

omit hU in
theorem win_at (b i j v : ℕ) (hi : i < 2048) (hv : wd j = v + 1) (w : ℝ) (hw : w = (v + 1 : ℕ)) :
    Ideal.div ((cs U b (1 + i) j : EReal) - (if i < v then (0 : EReal) else (cs U b (i - v) j : EReal))) ((min ((i : ℝ) + 1) w : ℝ) : EReal) - (U (b * 2048 + i) j : EReal)
      = (pool U (b * 2048 + i) j : EReal) := by
  have hm : (b * 2048 + i) % 2048 = i := by omega
  have hc : cnt (b * 2048 + i) j = min ((i : ℝ) + 1) w := by rw [cnt, hm, hv, hw]
  have hp := cnt_pos (b * 2048 + i) j
  rw [hc] at hp
  have e : (if i < v then (0 : EReal) else (cs U b (i - v) j : EReal)) = ((if i < v then 0 else cs U b (i - v) j : ℝ) : EReal) := by
    split_ifs <;> rfl
  rw [e, ← EReal.coe_sub, Ideal.div_coe hp, ← EReal.coe_mul, ← EReal.coe_sub]
  refine congrArg _ ?_
  unfold pool
  rw [hc, hv, hm]
  refine congrArg (fun z => z * (1 / min ((i : ℝ) + 1) w) - U (b * 2048 + i) j) ((win_cs (fun s => U (b * 2048 + s) j) i v).trans (Finset.sum_congr rfl fun s _ => ?_))
  split_ifs with q
  · rw [Nat.add_sub_assoc q]
  · rfl

theorem v96_ref (b : Fin 2) (i : Fin 2048) (j : Fin 256) :
    (res_main_v96 V0 : FVec Ideal S2x2048x256 .f32) (ix3 b i j) = (pool U (b.val * 2048 + i.val) j.val : EReal) := by
  have h := v16_ref V0 U hU
  have h3 := v13_ref V0 U hU
  pointwise [res_main_v96, res_main_v20, res_main_v38, res_main_v56, res_main_v74]
  simp only [h, h3, dite_eq_ite]
  have hj := j.isLt
  by_cases h0 : j.val / 64 < 1
  · rw [if_pos h0, v30_ref, show (0 : Fin 4).val * 64 + j.val % 64 = j.val by show 0 * 64 + j.val % 64 = j.val; omega]
    exact win_at U _ _ _ 1 i.isLt (by rw [wd, show j.val / 64 = 0 by omega]; rfl) 2 (by norm_num)
  rw [if_neg h0]
  by_cases h1 : j.val / 64 - 1 < 1
  · rw [if_pos h1, v48_ref, show (1 : Fin 4).val * 64 + j.val % 64 = j.val by show 1 * 64 + j.val % 64 = j.val; omega]
    exact win_at U _ _ _ 3 i.isLt (by rw [wd, show j.val / 64 = 1 by omega]; rfl) 4 (by norm_num)
  rw [if_neg h1]
  by_cases h2 : j.val / 64 - 1 - 1 < 1
  · rw [if_pos h2, v66_ref, show (2 : Fin 4).val * 64 + j.val % 64 = j.val by show 2 * 64 + j.val % 64 = j.val; omega]
    exact win_at U _ _ _ 7 i.isLt (by rw [wd, show j.val / 64 = 2 by omega]; rfl) 8 (by norm_num)
  · rw [if_neg h2, v84_ref, show (3 : Fin 4).val * 64 + j.val % 64 = j.val by show 3 * 64 + j.val % 64 = j.val; omega]
    exact win_at U _ _ _ 15 i.isLt (by rw [wd, show j.val / 64 = 3 by omega]; rfl) 16 (by norm_num)

end Ref
end Cert.Pool
-- ==== Proof.PoolT.lean ====
/- The pooling branch's gradient: what the reference computes, from the mixing to the gradient before it. -/
module

public import proofs.«01_k».proof.Proof.PoolA
public import proofs.«01_k».proof.Proof.PoolR
public import proofs.«01_k».proof.Proof.PoolS
public import proofs.«01_k».proof.Proof.Gen.Reference5Ideal.Run

@[expose] public section

set_option maxRecDepth 16384

noncomputable section

namespace Cert.Pool

open Idealize.ShloMosaic Idealize.ShloMosaic.TcCoe Idealize.SL.Sem
open Cert.Reference5Ideal Cert.Reference5Ideal.Gen
open Cert.Reference5Ideal.Value

section Ref

variable (V0 : Valuation τ sig (Elt Ideal)) (U G D P : ℕ → ℕ → ℝ) (S : ℕ → ℝ)
variable (hU : ∀ (b : Fin 2) (i : Fin 2048) (j : Fin 256), (V0 (Proc.devRef .tc main_arg2) : FVec Ideal S2x2048x256 .f32) (ix3 b i j) = (U (b.val * 2048 + i.val) j.val : EReal))
variable (hG : ∀ (b : Fin 2) (i : Fin 2048) (j : Fin 256), (V0 (Proc.devRef .tc main_arg3) : FVec Ideal S2x2048x256 .f32) (ix3 b i j) = (G (b.val * 2048 + i.val) j.val : EReal))
variable (hD : ∀ (b : Fin 2) (i : Fin 2048) (j : Fin 256), (V0 (Proc.devRef .tc main_arg7) : FVec Ideal S2x2048x256 .f32) (ix3 b i j) = (D (b.val * 2048 + i.val) j.val : EReal))
variable (hP : ∀ (g : Fin 4) (x y : Fin 64), (V0 (Proc.devRef .tc main_arg4) : FVec Ideal S4x64x64 .f32) (ix3 g x y) = (P (g.val * 64 + x.val) y.val : EReal))
variable (hS : ∀ (j : Fin 256), (V0 (Proc.devRef .tc main_arg5) : FVec Ideal S256 .f32) (ix1 j) = (S j.val : EReal))

theorem mul_at (x y : EReal) (a b : ℝ) (hx : x = (a : EReal)) (hy : y = (b : EReal)) : x * y = ((a * b : ℝ) : EReal) := by
  rw [hx, hy, EReal.coe_mul]

include hP in
theorem v12_ref (r d : Fin 256) : (res_main_v12 V0 : FVec Ideal S256x256 .f32) (ix2 r d) = (wm P r.val d.val : EReal) := by
  pointwise [res_main_v12]
  simp only [hP, dite_eq_ite,
    show (0 : Fin 4).val = 0 from rfl, show (1 : Fin 4).val = 1 from rfl, show (2 : Fin 4).val = 2 from rfl, show (3 : Fin 4).val = 3 from rfl]
  have hr := r.isLt
  have hd := d.isLt
  unfold wm
  split_ifs
  all_goals first
    | rfl
    | (exfalso; omega)
    | exact congrArg (fun z : ℝ => (z : EReal)) (by norm_num : (((0#32 : BitVec 32).toInt : ℤ) : ℝ) = 0)
    | (refine congrArg _ (congrArg₂ P ?_ ?_) <;> omega)

include hU hP in
theorem v97_ref (b : Fin 2) (i : Fin 2048) (d : Fin 256) : (res_main_v97 V0 : FVec Ideal S2x2048x256 .f32) (ix3 b i d) = (pre U (wm P) (b.val * 2048 + i.val) d.val : EReal) := by
  have h := v96_ref V0 U hU
  have h2 := v12_ref V0 P hP
  pointwise [res_main_v97]
  simp only [h, h2, ← EReal.coe_mul, Fin.coe_sum]
  rfl

include hG in
theorem sig_ref (b : Fin 2) (i : Fin 2048) (d : Fin 256) : (res_main_v101_2 V0 : FVec Ideal S2x2048x256 .f32) (ix3 b i d) = (sgm (G (b.val * 2048 + i.val) d.val) : EReal) := by
  pointwise [res_main_v101_2]
  rw [hG]
  exact sgm_div _

include hS in
theorem v98_ref (d : Fin 256) : (res_main_v98 V0 : FVec Ideal S1x1x256 .f32) (ix3 0 0 d) = (S d.val : EReal) := by
  pointwise [res_main_v98]
  exact hS d

include hG hD in
theorem v104_ref (b : Fin 2) (i : Fin 2048) (d : Fin 256) : (res_main_v104 V0 : FVec Ideal S2x2048x256 .f32) (ix3 b i d)
    = ((D (b.val * 2048 + i.val) d.val * (G (b.val * 2048 + i.val) d.val * sgm (G (b.val * 2048 + i.val) d.val)) : ℝ) : EReal) := by
  have h := sig_ref V0 G hG
  pointwise [res_main_v104, res_main_v101_0]
  rw [h, hG, hD, ← EReal.coe_mul, ← EReal.coe_mul]

include hG hD hS in
theorem v110_ref (b : Fin 2) (i : Fin 2048) (d : Fin 256) : (res_main_v110 V0 : FVec Ideal S2x2048x256 .f32) (ix3 b i d)
    = (dpre G D S (b.val * 2048 + i.val) d.val : EReal) := by
  have h := v104_ref V0 G D hG hD
  have h2 := v98_ref V0 S hS
  pointwise [res_main_v110]
  rw [h, h2, ← EReal.coe_mul]
  refine congrArg _ ?_
  unfold dpre
  ring

include hU hG hD hP hS in
theorem v105_ref (b : Fin 2) (i : Fin 2048) (d : Fin 256) : (res_main_v105 V0 : FVec Ideal S2x2048x256 .f32) (ix3 b i d)
    = (dgb U G D (wm P) S (b.val * 2048 + i.val) d.val : EReal) := by
  have h := v97_ref V0 U P hU hP
  have h1 := sig_ref V0 G hG
  have h2 := v98_ref V0 S hS
  pointwise [res_main_v105, res_main_v103, res_main_v100]
  rw [h, h1, h2, hG, hD]
  rw [show (1 : EReal) = ((1 : ℝ) : EReal) from rfl]
  simp only [← EReal.coe_mul, ← EReal.coe_sub, ← EReal.coe_add]
  refine congrArg _ ?_
  unfold dgb
  ring

include hG hD hP hS in
theorem v115_ref (b : Fin 2) (i : Fin 2048) (g : Fin 4) (x : Fin 64) : (res_main_v115 V0 : FVec Ideal S2x2048x4x64 .f32) (ix4 b i g x)
    = (dpool G D (wm P) S (b.val * 2048 + i.val) (g.val * 64 + x.val) : EReal) := by
  have h := v110_ref V0 G D S hG hD hS
  have h2 := v12_ref V0 P hP
  pointwise [res_main_v115]
  simp only [h, h2, ← EReal.coe_mul, Fin.coe_sum]
  rfl

end Ref
end Cert.Pool
-- ==== Proof.PoolU.lean ====
/- The pooling branch's gradient: what the reference computes, the gradient through the windows. -/
module

public import proofs.«01_k».proof.Proof.PoolA
public import proofs.«01_k».proof.Proof.PoolR
public import proofs.«01_k».proof.Proof.PoolT
public import proofs.«01_k».proof.Proof.Gen.Reference5Ideal.Run

@[expose] public section

set_option maxRecDepth 16384

noncomputable section

namespace Cert.Pool

open Idealize.ShloMosaic Idealize.ShloMosaic.TcCoe Idealize.SL.Sem
open Cert.Reference5Ideal Cert.Reference5Ideal.Gen
open Cert.Reference5Ideal.Value

/-- A gradient's row divided by its window's count. -/
def quo (f : ℕ → ℕ → ℝ) (n j : ℕ) : ℝ := f n j * (1 / cnt n j)

theorem quo_at (f : ℕ → ℕ → ℝ) (b i j : ℕ) (w : ℝ) (hi : i < 2048) (hw : (wd j : ℝ) = w) :
    Ideal.div (f (b * 2048 + i) j : EReal) ((min ((i : ℝ) + 1) w : ℝ) : EReal) = (quo f (b * 2048 + i) j : EReal) := by
  have hc : cnt (b * 2048 + i) j = min ((i : ℝ) + 1) w := by rw [cnt, show (b * 2048 + i) % 2048 = i by omega, hw]
  have hp := cnt_pos (b * 2048 + i) j
  rw [quo, ← hc, Ideal.div_coe hp, ← EReal.coe_mul]

/-- A group's part of the differences at row `1 + k`. -/
theorem diff_at (f : ℕ → ℕ → ℝ) (b k j v N : ℕ) (w : ℝ) (hk : k < 2048) (hN : N + v = 2048) (hv : wd j = v + 1) (hw : ((v + 1 : ℕ) : ℝ) = w) (C : Prop) [Decidable C] (hC : C) :
    (if 1 + k < N then -Ideal.div (f (b * 2048 + (v + (1 + k))) j : EReal) ((min (((v + (1 + k) : ℕ) : ℝ) + 1) w : ℝ) : EReal) else 0)
      + (if C then Ideal.div (f (b * 2048 + k) j : EReal) ((min ((k : ℝ) + 1) w : ℝ) : EReal) else 0)
      = ((quo f (b * 2048 + k) j - if k + wd j < 2048 then quo f (b * 2048 + (k + wd j)) j else 0 : ℝ) : EReal) := by
  have e : (wd j : ℝ) = w := by rw [hv, hw]
  rw [if_pos hC, quo_at f b k j w hk e]
  by_cases q : 1 + k < N
  · rw [if_pos q, quo_at f b (v + (1 + k)) j w (by omega) e, if_pos (by omega), ← EReal.coe_neg, ← EReal.coe_add, hv]
    refine congrArg _ ?_
    rw [show v + (1 + k) = k + (v + 1) by omega]
    ring
  · rw [if_neg q, if_neg (by omega), zero_add, sub_zero]

/-- The four groups of a row laid side by side. -/
theorem side4 (f : ℕ → ℝ) (j : ℕ) (hj : j < 256) :
    ((((if (3 ≤ j / 64 ∧ j / 64 - 3 < 1) ∧ j % 64 < 64 then -(f ((3 : Fin 4).val * 64 + j % 64) : EReal) else 0)
        + if (2 ≤ j / 64 ∧ j / 64 - 2 < 1) ∧ j % 64 < 64 then -(f ((2 : Fin 4).val * 64 + j % 64) : EReal) else 0)
        + if (1 ≤ j / 64 ∧ j / 64 - 1 < 1) ∧ j % 64 < 64 then -(f ((1 : Fin 4).val * 64 + j % 64) : EReal) else 0)
        + if j / 64 < 1 ∧ j % 64 < 64 then -(f ((0 : Fin 4).val * 64 + j % 64) : EReal) else 0) = ((-f j : ℝ) : EReal) := by
  simp only [show (0 : Fin 4).val = 0 from rfl, show (1 : Fin 4).val = 1 from rfl, show (2 : Fin 4).val = 2 from rfl, show (3 : Fin 4).val = 3 from rfl]
  split_ifs
  all_goals first
    | (exfalso; omega)
    | (simp only [zero_add, add_zero, ← EReal.coe_neg]
       refine congrArg (fun y => ((-f y : ℝ) : EReal)) ?_
       omega)

/-- A sum of four of which just one is taken. -/
theorem pick4 {c3 c2 c1 c0 : Prop} {_ : Decidable c3} {_ : Decidable c2} {_ : Decidable c1} {_ : Decidable c0} {a3 : c3 → EReal} {a2 : c2 → EReal} {a1 : c1 → EReal} {a0 : c0 → EReal} {r : EReal}
    (h : (c3 ∧ ¬c2 ∧ ¬c1 ∧ ¬c0) ∨ (¬c3 ∧ c2 ∧ ¬c1 ∧ ¬c0) ∨ (¬c3 ∧ ¬c2 ∧ c1 ∧ ¬c0) ∨ (¬c3 ∧ ¬c2 ∧ ¬c1 ∧ c0))
    (h3 : ∀ q : c3, a3 q = r) (h2 : ∀ q : c2, a2 q = r) (h1 : ∀ q : c1, a1 q = r) (h0 : ∀ q : c0, a0 q = r) :
    ((((if q : c3 then a3 q else 0) + if q : c2 then a2 q else 0) + if q : c1 then a1 q else 0) + if q : c0 then a0 q else 0) = r := by
  rcases h with ⟨p3, p2, p1, p0⟩ | ⟨p3, p2, p1, p0⟩ | ⟨p3, p2, p1, p0⟩ | ⟨p3, p2, p1, p0⟩
  · rw [dif_pos p3, dif_neg p2, dif_neg p1, dif_neg p0, add_zero, add_zero, add_zero, h3 p3]
  · rw [dif_neg p3, dif_pos p2, dif_neg p1, dif_neg p0, add_zero, add_zero, zero_add, h2 p2]
  · rw [dif_neg p3, dif_neg p2, dif_pos p1, dif_neg p0, add_zero, zero_add, zero_add, h1 p1]
  · rw [dif_neg p3, dif_neg p2, dif_neg p1, dif_pos p0, zero_add, zero_add, zero_add, h0 p0]

theorem inside (b : Fin 2) (k : Fin 2048) (x : Fin 64) : ∀ a : Fin 3, (![0, 1, 0] : Fin 3 → ℕ) a ≤ ((ix3 b (⟨1 + k.val, by omega⟩ : Fin 2049) x : S2x2049x64.Idx) a).val
    ∧ (((ix3 b (⟨1 + k.val, by omega⟩ : Fin 2049) x : S2x2049x64.Idx) a).val - (![0, 1, 0] : Fin 3 → ℕ) a) % ((![0, 0, 0] : Fin 3 → ℕ) a + 1) = 0
    ∧ (((ix3 b (⟨1 + k.val, by omega⟩ : Fin 2049) x : S2x2049x64.Idx) a).val - (![0, 1, 0] : Fin 3 → ℕ) a) / ((![0, 0, 0] : Fin 3 → ℕ) a + 1) < S2x2048x64.size a := by
  have hb := b.isLt
  have hk := k.isLt
  have hx := x.isLt
  intro a
  match a with
  | ⟨0, _⟩ => exact ⟨Nat.zero_le _, Nat.mod_one _, by show (b.val - 0) / (0 + 1) < 2; omega⟩
  | ⟨1, _⟩ => exact ⟨by show 1 ≤ 1 + k.val; omega, Nat.mod_one _, by show (1 + k.val - 1) / (0 + 1) < 2048; omega⟩
  | ⟨2, _⟩ => exact ⟨Nat.zero_le _, Nat.mod_one _, by show (x.val - 0) / (0 + 1) < 64; omega⟩

section Ref

variable (V0 : Valuation τ sig (Elt Ideal)) (G D P : ℕ → ℕ → ℝ) (S : ℕ → ℝ)
variable (hG : ∀ (b : Fin 2) (i : Fin 2048) (j : Fin 256), (V0 (Proc.devRef .tc main_arg3) : FVec Ideal S2x2048x256 .f32) (ix3 b i j) = (G (b.val * 2048 + i.val) j.val : EReal))
variable (hD : ∀ (b : Fin 2) (i : Fin 2048) (j : Fin 256), (V0 (Proc.devRef .tc main_arg7) : FVec Ideal S2x2048x256 .f32) (ix3 b i j) = (D (b.val * 2048 + i.val) j.val : EReal))
variable (hP : ∀ (g : Fin 4) (x y : Fin 64), (V0 (Proc.devRef .tc main_arg4) : FVec Ideal S4x64x64 .f32) (ix3 g x y) = (P (g.val * 64 + x.val) y.val : EReal))
variable (hS : ∀ (j : Fin 256), (V0 (Proc.devRef .tc main_arg5) : FVec Ideal S256 .f32) (ix1 j) = (S j.val : EReal))

include hG hD hP hS

theorem v181_ref (b : Fin 2) (k : Fin 2048) (g : Fin 4) (x : Fin 64) : (res_main_v181 V0 : FVec Ideal S2x2049x4x64 .f32) (ix4 b (⟨1 + k.val, by omega⟩ : Fin 2049) g x)
    = ((quo (dpool G D (wm P) S) (b.val * 2048 + k.val) (g.val * 64 + x.val)
        - if k.val + wd (g.val * 64 + x.val) < 2048 then quo (dpool G D (wm P) S) (b.val * 2048 + (k.val + wd (g.val * 64 + x.val))) (g.val * 64 + x.val) else 0 : ℝ) : EReal) := by
  have h := v115_ref V0 G D P S hG hD hP hS
  have hx := x.isLt
  have hg := g.isLt
  pointwise [res_main_v181, res_main_v117, res_main_v119, res_main_v121, res_main_v123, res_main_v128, res_main_v129, res_main_v142, res_main_v143, res_main_v157, res_main_v158, res_main_v172, res_main_v173]
  simp only [h, dite_eq_ite, v30_ref, v48_ref, v66_ref, v84_ref]
  refine pick4 ?_ (fun hc => ?_) (fun hc => ?_) (fun hc => ?_) (fun hc => ?_)
  · omega
  · have e : g.val = 3 := by omega
    exact (diff_at (dpool G D (wm P) S) b.val k.val (3 * 64 + x.val) 15 2033 16 k.isLt rfl (by rw [wd, show (3 * 64 + x.val) / 64 = 3 by omega]; rfl) (by norm_num) _ (inside b k x)).trans (by rw [e])
  · have e : g.val = 2 := by omega
    exact (diff_at (dpool G D (wm P) S) b.val k.val (2 * 64 + x.val) 7 2041 8 k.isLt rfl (by rw [wd, show (2 * 64 + x.val) / 64 = 2 by omega]; rfl) (by norm_num) _ (inside b k x)).trans (by rw [e])
  · have e : g.val = 1 := by omega
    exact (diff_at (dpool G D (wm P) S) b.val k.val (1 * 64 + x.val) 3 2045 4 k.isLt rfl (by rw [wd, show (1 * 64 + x.val) / 64 = 1 by omega]; rfl) (by norm_num) _ (inside b k x)).trans (by rw [e])
  · have e : g.val = 0 := by omega
    exact (diff_at (dpool G D (wm P) S) b.val k.val (0 * 64 + x.val) 1 2047 2 k.isLt rfl (by rw [wd, show (0 * 64 + x.val) / 64 = 0 by omega]; rfl) (by norm_num) _ (inside b k x)).trans (by rw [e])

theorem v186_ref (b : Fin 2) (i : Fin 2048) (j : Fin 256) : (res_main_v186 V0 : FVec Ideal S2x2048x256 .f32) (ix3 b i j) = (du G D (wm P) S (b.val * 2048 + i.val) j.val : EReal) := by
  have h := v115_ref V0 G D P S hG hD hP hS
  have h2 := v181_ref V0 G D P S hG hD hP hS
  have hj := j.isLt
  pointwise [res_main_v186, res_main_v117, res_main_v119, res_main_v121, res_main_v123]
  simp only [h, dite_eq_ite]
  refine (congrArg₂ (· + ·) (side4 (fun y => dpool G D (wm P) S (b.val * 2048 + i.val) y) j.val hj) (Fin.cumsum4_rev (M := 2047) rfl _ _ _ _ (by pointwise) b i _ _)).trans ?_
  have e : ∀ s : Fin 2048, (extractStridedSlice S2x2048x4x64 ![0, 1, 0, 0] (res_main_v181 V0) slices_S2x2049x4x64_S2x2048x4x64_0_1_0_0 : FVec Ideal S2x2048x4x64 .f32)
      (ix4 b s (⟨j.val / 64, by omega⟩ : Fin 4) (⟨j.val % 64, by omega⟩ : Fin 64))
      = ((quo (dpool G D (wm P) S) (b.val * 2048 + s.val) j.val
        - if s.val + wd j.val < 2048 then quo (dpool G D (wm P) S) (b.val * 2048 + (s.val + wd j.val)) j.val else 0 : ℝ) : EReal) := fun s => by
    pointwise
    rw [h2]
    dsimp only
    rw [show j.val / 64 * 64 + j.val % 64 = j.val by omega]
  simp only [e]
  have e2 : ∀ (s : Fin 2048) (x : ℝ), (if i ≤ s then (x : EReal) else 0) = ((if i.val ≤ s.val then x else 0 : ℝ) : EReal) := fun s x => by
    by_cases q : i ≤ s
    · rw [if_pos q, if_pos (show i.val ≤ s.val from q)]
    · rw [if_neg q, if_neg (show ¬(i.val ≤ s.val) from q), EReal.coe_zero]
  simp only [e2, Fin.coe_sum]
  rw [← EReal.coe_add]
  refine congrArg _ ?_
  rw [sum_from 2048 i.val fun s => quo (dpool G D (wm P) S) (b.val * 2048 + s) j.val
        - if s + wd j.val < 2048 then quo (dpool G D (wm P) S) (b.val * 2048 + (s + wd j.val)) j.val else 0,
    win_up (fun s => quo (dpool G D (wm P) S) (b.val * 2048 + s) j.val) 2048 i.val (wd j.val) i.isLt.le]
  unfold du
  rw [show (b.val * 2048 + i.val) % 2048 = i.val by have := i.isLt; omega, add_comm, ← sub_eq_add_neg]
  refine congrArg (fun z => z - dpool G D (wm P) S (b.val * 2048 + i.val) j.val) (Finset.sum_congr rfl fun s _ => ?_)
  rw [← Nat.add_assoc]
  rfl

end Ref
end Cert.Pool
-- ==== Proof.PoolRef.lean ====
/- The pooling branch's gradient: the two programs agree. -/
module

public import proofs.«01_k».proof.Proof.PoolE
public import proofs.«01_k».proof.Proof.PoolU
public import proofs.«01_k».proof.Defs
public import proofs.«01_k».proof.Proof.Gen.Pre_pool_finite

@[expose] public section

set_option maxRecDepth 16384

noncomputable section

namespace Cert.Pool

open Idealize.ShloMosaic Idealize.ShloMosaic.TcCoe Idealize.SL.Sem

section Kernel
open Cert.Kernel5Ideal Cert.Kernel5Ideal.Gen

/-- The kernel's run: its four results, and its arguments as they were. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31_0) = (dats m 0 c).arrAt 13 cfg0.N
      ∧ r.2.mem ((c.tc : Thread nD τ).loc main_v31_1) = (dats m 0 c).arrAt 14 cfg0.N
      ∧ r.2.mem ((c.tc : Thread nD τ).loc main_v31_2) = (dats m 0 c).arrAt 15 cfg0.N
      ∧ r.2.mem ((c.tc : Thread nD τ).loc main_v31_3) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1 13, (h c).1 14, (h c).1 15, (h c).1 16,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩) (run_main m ρ)

end Kernel

section Ref
open Cert.Reference5Ideal Cert.Reference5Ideal.Gen Cert.Reference5Ideal.Value

variable (U G D P : ℕ → ℕ → ℝ) (S : ℕ → ℝ)

/-- The projection's cotangent, its rows counted over both batches. -/
def ctT (A C F : ℕ → ℕ → EReal) (U G D P : ℕ → ℕ → ℝ) (S : ℕ → ℝ) (n x : ℕ) : EReal :=
  if x < 1024 then A n x else if x < 1536 then (dbVal U G D P S n (x - 1024) : EReal) else if x < 3584 then C n (x - 1536) else if x < 3592 then F n (x - 3584) else 0

theorem ct_ref (A : FVec Ideal S2x2048x1024 .f32) (C : FVec Ideal S2x2048x2048 .f32) (F : FVec Ideal S2x2048x8 .f32) (q g : FVec Ideal S2x2048x256 .f32)
    (h1 : ∀ (b : Fin 2) (i : Fin 2048) (j : Fin 256), q (ix3 b i j) = (du G D (wm P) S (b.val * 2048 + i.val) j.val : EReal))
    (h2 : ∀ (b : Fin 2) (i : Fin 2048) (j : Fin 256), g (ix3 b i j) = (dgb U G D (wm P) S (b.val * 2048 + i.val) j.val : EReal))
    (b : Fin 2) (i : Fin 2048) (x : Fin 3592) :
    (concatenate S2x2048x3592 2 [⟨S2x2048x1024, A⟩, ⟨S2x2048x256, q⟩, ⟨S2x2048x256, g⟩, ⟨S2x2048x2048, C⟩, ⟨S2x2048x8, F⟩] concatenates_S2x2048x1024_S2x2048x256_S2x2048x256_S2x2048x2048_S2x2048x8_S2x2048x3592_d2 : FVec Ideal S2x2048x3592 .f32) (ix3 b i x)
      = ctT (Fin.flat3 A) (Fin.flat3 C) (Fin.flat3 F) U G D P S (b.val * 2048 + i.val) x.val := by
  have hx := x.isLt
  have hb := b.isLt
  have hi := i.isLt
  pointwise
  simp only [h1, h2]
  unfold ctT dbVal
  by_cases c0 : x.val < 1024
  · rw [dif_pos c0, if_pos c0]
    exact Fin.flat3_row A b i ⟨x.val, c0⟩
  rw [dif_neg c0, if_neg c0]
  by_cases c1 : x.val - 1024 < 256
  · rw [dif_pos c1, if_pos (show x.val < 1536 by omega), if_pos c1]
  rw [dif_neg c1]
  by_cases c2 : x.val - 1024 - 256 < 256
  · rw [dif_pos c2, if_pos (show x.val < 1536 by omega), if_neg c1]
  rw [dif_neg c2, if_neg (show ¬(x.val < 1536) by omega)]
  by_cases c3 : x.val - 1024 - 256 - 256 < 2048
  · rw [dif_pos c3, if_pos (show x.val < 3584 by omega)]
    exact (Fin.flat3_row C b i ⟨x.val - 1024 - 256 - 256, c3⟩).trans (congrArg (Fin.flat3 C _) (by show x.val - 1024 - 256 - 256 = x.val - 1536; omega))
  rw [dif_neg c3, if_neg (show ¬(x.val < 3584) by omega), if_pos hx]
  exact (Fin.flat3_row F b i ⟨x.val - 1024 - 256 - 256 - 2048, by omega⟩).trans (congrArg (Fin.flat3 F _) (by show x.val - 1024 - 256 - 256 - 2048 = x.val - 3584; omega))

theorem gw_ref (X : FVec Ideal S2x2048x3592 .f32) (H : FVec Ideal S2x2048x1024 .f32) (T : ℕ → ℕ → EReal) (h : ∀ (b : Fin 2) (i : Fin 2048) (x : Fin 3592), X (ix3 b i x) = T (b.val * 2048 + i.val) x.val)
    (y0 : Fin 2) (y1 : Fin 4) (d : Fin 1024) (y3 : Fin 449) :
    (truncf .bf16 (transpose S2x4x1024x449 [2, 1, 0, 3] (shapeCast _ (transpose S1024x3592 [1, 0] (Host.dotGeneral dot_S2x2048x3592_S2x2048x1024_S3592x1024_01_01_2_2_n_n none X H) transposes_S3592x1024_S1024x3592_1_0) shapeCasts_S1024x3592_S1024x4x2x449) transposes_S1024x4x2x449_S2x4x1024x449_2_1_0_3) bitsLt_bf16_f32 : FVec Ideal S2x4x1024x449 .bf16) (ix4 y0 y1 d y3)
      = ∑ i : Fin 4096, Fin.flat3 H i.val d.val * T i.val ((y1.val * 2 + y0.val) * 449 + y3.val) := by
  pointwise
  simp only [h, Fin.flat3_row H]
  rw [show y1.val * 898 + y0.val * 449 + y3.val = (y1.val * 2 + y0.val) * 449 + y3.val by omega]
  exact (Fin.sum_rows 2 2048 fun i => T i ((y1.val * 2 + y0.val) * 449 + y3.val) * Fin.flat3 H i d.val).trans (Finset.sum_congr rfl fun i _ => mul_comm _ _)

theorem db_ref (q g : FVec Ideal S2x2048x256 .f32)
    (h1 : ∀ (b : Fin 2) (i : Fin 2048) (j : Fin 256), q (ix3 b i j) = (du G D (wm P) S (b.val * 2048 + i.val) j.val : EReal))
    (h2 : ∀ (b : Fin 2) (i : Fin 2048) (j : Fin 256), g (ix3 b i j) = (dgb U G D (wm P) S (b.val * 2048 + i.val) j.val : EReal)) (n : Fin 4096) (x : Fin 512) :
    (truncf .bf16 (shapeCast _ (concatenate S2x2048x512 2 [⟨S2x2048x256, q⟩, ⟨S2x2048x256, g⟩] concatenates_S2x2048x256_S2x2048x256_S2x2048x512_d2) shapeCasts_S2x2048x512_S4096x512) bitsLt_bf16_f32 : FVec Ideal S4096x512 .bf16) (ix2 n x)
      = (dbVal U G D P S n.val x.val : EReal) := by
  have e : n.val / 2048 * 2048 + n.val % 2048 = n.val := by omega
  pointwise
  simp only [h1, h2, e]
  unfold dbVal
  split_ifs
  all_goals rfl

theorem dw_ref (q g : FVec Ideal S2x2048x256 .f32)
    (h1 : ∀ (b : Fin 2) (i : Fin 2048) (j : Fin 256), q (ix3 b i j) = (dpre G D S (b.val * 2048 + i.val) j.val : EReal))
    (h2 : ∀ (b : Fin 2) (i : Fin 2048) (j : Fin 256), g (ix3 b i j) = (pool U (b.val * 2048 + i.val) j.val : EReal)) (x y : Fin 256) :
    (transpose S256x256 [1, 0] (Host.dotGeneral dot_S2x2048x256_S2x2048x256_S256x256_01_01_2_2_n_n none q g) transposes_S256x256_S256x256_1_0 : FVec Ideal S256x256 .f32) (ix2 x y)
      = ((∑ t : Fin 8, dwPart U G D S t.val x.val y.val : ℝ) : EReal) := by
  pointwise
  simp only [h1, h2, ← EReal.coe_mul, Fin.coe_sum]
  refine congrArg _ ((Fin.sum_rows 2 2048 fun i => dpre G D S i y.val * pool U i x.val).trans ((Finset.sum_congr rfl fun i _ => mul_comm _ _).trans (Fin.sum_rows 8 512 fun i => pool U i x.val * dpre G D S i y.val).symm))

theorem ds_ref (q g : FVec Ideal S2x2048x256 .f32)
    (h1 : ∀ (b : Fin 2) (i : Fin 2048) (j : Fin 256), q (ix3 b i j) = (pre U (wm P) (b.val * 2048 + i.val) j.val : EReal))
    (h2 : ∀ (b : Fin 2) (i : Fin 2048) (j : Fin 256), g (ix3 b i j) = ((D (b.val * 2048 + i.val) j.val * (G (b.val * 2048 + i.val) j.val * sgm (G (b.val * 2048 + i.val) j.val)) : ℝ) : EReal)) (y : Fin 256) :
    (broadcastInDim S1x256 ![1] bcast_S256_S1x256_1 (Host.reduceAdd (shapeCast _ (Host.reduceAdd (mulf q g) (constant S_ .f32 0x00000000#32) reducesTo_S2x2048x256_S256_d0_1 h_S_) shapeCasts_S256_S1x1x256) (constant S_ .f32 0x00000000#32) reducesTo_S1x1x256_S256_d0_1 h_S_) : FVec Ideal S1x256 .f32) (ix2 0 y)
      = ((∑ t : Fin 8, dsPart U G D (wm P) t.val y.val : ℝ) : EReal) := by
  pointwise [Fin.hostReduceAdd_r3_a01]
  simp only [Fin.sum_univ_one, h1, h2, ← EReal.coe_mul, Fin.coe_sum]
  refine congrArg _ ((Fin.sum_rows 2 2048 fun i => pre U (wm P) i y.val * (D i y.val * (G i y.val * sgm (G i y.val)))).trans ((Finset.sum_congr rfl fun i _ => ?_).trans (Fin.sum_rows 8 512 fun i => D i y.val * pre U (wm P) i y.val * (G i y.val * sgm (G i y.val))).symm))
  ring

end Ref

open Cert in
/-- The arguments that the precondition names are real numbers. -/
theorem args_real (u g : FVec Ideal Pre_pool_finite.S2x2048x256 .f32) (w : FVec Ideal Pre_pool_finite.S4x64x64 .f32) (s : FVec Ideal Pre_pool_finite.S256 .f32) (d : FVec Ideal Pre_pool_finite.S2x2048x256 .f32)
    (a0 : FVec Ideal Pre_pool_finite.S2x2048x1024 .f32) (a1 : FVec Ideal Pre_pool_finite.S1024x3592 .f32) (a6 : FVec Ideal Pre_pool_finite.S2x2048x1024 .f32) (a8 : FVec Ideal Pre_pool_finite.S2x2048x2048 .f32) (a9 : FVec Ideal Pre_pool_finite.S2x2048x8 .f32)
    (h : Pre_pool_finite.fn a0 a1 u g w s a6 d a8 a9 (fun a => a.elim0) = 1#1) :
    ((((∀ i, ∃ r : ℝ, u i = (r : EReal)) ∧ ∀ i, ∃ r : ℝ, g i = (r : EReal)) ∧ ∀ i, ∃ r : ℝ, w i = (r : EReal)) ∧ ∀ i, ∃ r : ℝ, s i = (r : EReal))
      ∧ ∀ i, ∃ r : ℝ, d i = (r : EReal) := by
  have h4 := IntOp.andi_eq_one.1 h
  have h3 := IntOp.andi_eq_one.1 h4.1
  have h2 := IntOp.andi_eq_one.1 h3.1
  have h1 := IntOp.andi_eq_one.1 h2.1
  exact ⟨⟨⟨⟨fun i => Fin.real_of_abs_lt u _ i (Host.reduce_andi_all _ _ _ _ _ h1.1 i), fun i => Fin.real_of_abs_lt g _ i (Host.reduce_andi_all _ _ _ _ _ h1.2 i)⟩,
    fun i => Fin.real_of_abs_lt w _ i (Host.reduce_andi_all _ _ _ _ _ h2.2 i)⟩, fun i => Fin.real_of_abs_lt s _ i (Host.reduce_andi_all _ _ _ _ _ h3.2 i)⟩,
    fun i => Fin.real_of_abs_lt d _ i (Host.reduce_andi_all _ _ _ _ _ h4.2 i)⟩

open Cert.Kernel5Ideal Cert.Kernel5Ideal.Gen in
/-- The kernel's tiles of the projection's cotangent. -/
theorem tile_ct (m : (ℓ : Loc nD τ sig) → Buf (Elt Ideal) ℓ) (c : Dev nD) (U G D P : ℕ → ℕ → ℝ) (S : ℕ → ℝ)
    (hU : ∀ i k, fU m c i k = (U i k : EReal)) (hG : ∀ i k, fG m c i k = (G i k : EReal)) (hD : ∀ i k, fD m c i k = (D i k : EReal))
    (hW : ∀ i k, fW m c i k = (P i k : EReal)) (hS : ∀ k, fS m c k = (S k : EReal)) (t : Fin cfg0.N) (r : Fin 512) (x : ℕ) :
    tileT m c t r x = ctT (fA m c) (fC m c) (fF m c) U G D P S (t.val * 512 + r.val) x := by
  unfold tileT ctT dbVal
  by_cases c0 : x < 1024
  · rw [dif_pos c0, if_pos c0]
  rw [dif_neg c0, if_neg c0]
  by_cases c1 : x < 1536
  · rw [dif_pos c1, if_pos c1, dbT_at m c U G D P S hU hG hD hW hS]
  rw [dif_neg c1, if_neg c1]
  by_cases c2 : x < 3584
  · rw [dif_pos c2, if_pos c2]
  · rw [dif_neg c2, if_neg c2]

set_option maxHeartbeats 4000000 in
/-- The two programs agree. -/
theorem holds : Cert.algebraic_Kernel5Ideal_Reference5Ideal_pre_pool_finite := by
  intro m ρ m' ρ' hpre hagree
  refine ⟨_, _, _, _, run_kernel m ρ, ?_⟩
  refine (θ_run Cert.Reference5Ideal.defs _ _).mono (fun _ h c => ⟨?_, ?_, ?_, ?_, (h c).2.2.2.2⟩) (Cert.Reference5Ideal.Value.run (F := Ideal) m' ρ')
  all_goals
    have hr := args_real _ _ _ _ _ _ _ _ _ _ (congrFun (hpre c) fun a => a.elim0)
    obtain ⟨U, hU⟩ := Fin.flat3_real _ hr.1.1.1.1
    obtain ⟨G, hG⟩ := Fin.flat3_real _ hr.1.1.1.2
    obtain ⟨P, hP⟩ := Fin.flat3_real _ hr.1.1.2
    obtain ⟨S, hS⟩ := Fin.flat1_real _ hr.1.2
    obtain ⟨D, hD⟩ := Fin.flat3_real _ hr.2
    obtain ⟨e0, e1, e2, e3, e4, e5, e6, e7, e8, e9⟩ := hagree c
    have kU := fun (b : Fin 2) (i : Fin 2048) (j : Fin 256) => (congrFun e2 (ix3 b i j)).trans ((Fin.flat3_row _ b i j).trans (hU _ _))
    have kG := fun (b : Fin 2) (i : Fin 2048) (j : Fin 256) => (congrFun e3 (ix3 b i j)).trans ((Fin.flat3_row _ b i j).trans (hG _ _))
    have kD := fun (b : Fin 2) (i : Fin 2048) (j : Fin 256) => (congrFun e7 (ix3 b i j)).trans ((Fin.flat3_row _ b i j).trans (hD _ _))
    have kP := fun (b : Fin 4) (i : Fin 64) (j : Fin 64) => (congrFun e4 (ix3 b i j)).trans ((Fin.flat3_row _ b i j).trans (hP _ _))
    have kS := fun (j : Fin 256) => (congrFun e5 (ix1 j)).trans ((Fin.flat1_fin _ j).trans (hS _))
  · rw [(h c).1, final13 m c]
    funext j
    idx_vars j
    refine (gw_ref _ _ _ (ct_ref U G D P S _ _ _ _ _ (v186_ref _ G D P S kG kD kP kS) (v105_ref _ U G D P S kU kG kD kP kS)) j0 j1 j2 j3).trans ?_
    have eT : ctT (Fin.flat3 (show FVec Ideal Cert.Kernel5Ideal.S2x2048x1024 .f32 from m' ((c.tc : Thread Cert.Reference5Ideal.nD Cert.Reference5Ideal.τ).loc Cert.Reference5Ideal.main_arg6)))
        (Fin.flat3 (show FVec Ideal Cert.Kernel5Ideal.S2x2048x2048 .f32 from m' ((c.tc : Thread Cert.Reference5Ideal.nD Cert.Reference5Ideal.τ).loc Cert.Reference5Ideal.main_arg8)))
        (Fin.flat3 (show FVec Ideal Cert.Kernel5Ideal.S2x2048x8 .f32 from m' ((c.tc : Thread Cert.Reference5Ideal.nD Cert.Reference5Ideal.τ).loc Cert.Reference5Ideal.main_arg9))) U G D P S
        = ctT (fA m c) (fC m c) (fF m c) U G D P S := by
      rw [e6, e8, e9]
    refine (congrArg₂ (fun a b : ℕ → ℕ → EReal => ∑ i : Fin 4096, a i.val j2.val * b i.val ((j1.val * 2 + j0.val) * 449 + j3.val)) (congrArg Fin.flat3 e0) eT).trans ?_
    refine ((Fin.sum_rows 8 512 fun i => fH m c i j2.val * ctT (fA m c) (fC m c) (fF m c) U G D P S i ((j1.val * 2 + j0.val) * 449 + j3.val)).symm.trans ?_)
    refine Finset.sum_congr rfl fun t _ => Finset.sum_congr rfl fun r _ => ?_
    exact congrArg (fun z => fH m c (t.val * 512 + r.val) j2.val * z) (tile_ct m c U G D P S hU hG hD hP hS t r _).symm
  · rw [(h c).2.1, final14 m c U G D P S hU hG hD hP hS]
    funext j
    idx_vars j
    exact db_ref U G D P S _ _ (v186_ref _ G D P S kG kD kP kS) (v105_ref _ U G D P S kU kG kD kP kS) j0 j1
  · rw [(h c).2.2.1, final15 m c U G D P S hU hG hD hP hS]
    funext j
    idx_vars j
    exact dw_ref U G D S _ _ (v110_ref _ G D S kG kD kS) (v96_ref _ U kU) j0 j1
  · rw [(h c).2.2.2.1, final16 m c U G D P S hU hG hD hP hS]
    funext j
    idx_vars j
    obtain rfl : j0 = 0 := Subsingleton.elim _ _
    exact ds_ref U G D P _ _ (v97_ref _ U P kU kP) (v104_ref _ G D kG kD) j1

end Cert.Pool
-- ==== Proof.LowerBoundFwd.lean ====
/- The lower-bound table: both programs at an index. -/
module

public import proofs.«01_k».proof.Defs
public import proofs.«01_k».proof.Proof.Lib
public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.LowerBoundFwd

open Idealize.ShloMosaic Idealize.ShloMosaic.TcCoe Idealize.SL.Sem

/-- The softmax over the two rows of a table, at an entry. -/
def soft (x : FVec Ideal Cert.Kernel8Ideal.S2x256 .f32) (i : Fin 2) (l : Fin 256) : EReal :=
  Ideal.div (Ideal.exp (x (ix2 i l) - Finset.fold max (⊥ : EReal) (fun k => x (ix2 k l)) Finset.univ))
    (∑ i : Fin 2, Ideal.exp (x (ix2 i l) - Finset.fold max (⊥ : EReal) (fun k => x (ix2 k l)) Finset.univ))

/-- The table: the running sum of the softmax down the rows, less its first row. -/
def table (x : FVec Ideal Cert.Kernel8Ideal.S2x256 .f32) (i : Fin 2) (l : Fin 256) : EReal :=
  (if i = 0 then soft x 0 l else soft x 0 l + soft x 1 l) - soft x 0 l

section
open Cert.Kernel8Ideal Cert.Kernel8Ideal.Gen

theorem pay1_at (x : FVec Ideal S2x256 .f32) (i : Fin 2) (l : Fin 256) : k0_pay1 (F := Ideal) x (ix2 i l) = soft x i l := by
  unfold soft
  pointwise [k0_pay1, Fin.ofBits_ninf]

theorem pay3_at (x : FVec Ideal S2x256 .f32) (l : Fin 256) : k0_pay3 (F := Ideal) x (ix2 0 l) = table x 0 l := by
  pointwise [k0_pay3, k0_pay2]
  simp [table, pay1_at]

theorem pay4_at (x : FVec Ideal S2x256 .f32) (l : Fin 256) : k0_pay4 (F := Ideal) x (ix2 0 l) = table x 1 l := by
  pointwise [k0_pay4, k0_pay2]
  simp [table, pay1_at]

theorem kernel_at (x : FVec Ideal S2x256 .f32) (y : S2x256.Idx) : Cert.Kernel8Ideal.Value.G1 (F := Ideal) x y = table x (y 0) (y 1) := by
  unfold Cert.Kernel8Ideal.Value.G1
  canon_tiles x' h
  all_goals
    idx_vars x'
    obtain rfl : x'0 = 0 := Subsingleton.elim _ _
  case piece1 =>
    refine (pay3_at x x'1).trans (congrArg₂ (table x) (Fin.ext ?_) (Fin.ext ?_))
    · exact h0.symm
    · exact h1.symm
  case piece0 =>
    refine (pay4_at x x'1).trans (congrArg₂ (table x) (Fin.ext ?_) (Fin.ext ?_))
    · exact h0.symm
    · exact h1.symm
end

/-- The two programs agree. -/
theorem holds : Cert.algebraic_Kernel8Ideal_Reference8Ideal := by
  intro m ρ m' ρ' _ hagree
  refine ⟨_, Cert.Kernel8Ideal.Value.run (F := Ideal) m ρ, ?_⟩
  refine (θ_run Cert.Reference8Ideal.defs _ _).mono (fun _ h c => ⟨?_, (h c).2⟩) (Cert.Reference8Ideal.Value.run (F := Ideal) m' ρ')
  rw [(h c).1, hagree c]
  generalize m ((c.tc : Thread Cert.Kernel8Ideal.nD Cert.Kernel8Ideal.τ).loc Cert.Kernel8Ideal.main_arg0) = x
  funext j
  rw [kernel_at]
  idx_vars j
  generalize hM : (maximumf (F := Ideal) (broadcastInDim Cert.Reference8Ideal.S256 ![] Cert.Reference8Ideal.Gen.bcast_S_S256 (constant Cert.Reference8Ideal.S_ .f32 0xFF800000#32)) _) = M
  have eM : ∀ l, M (ix1 l) = Finset.fold max (⊥ : EReal) (fun k => x (ix2 k l)) Finset.univ := fun l => by
    rw [← hM]
    refine Eq.trans ?_ (max_bot_left _)
    refine congrArg₂ max Fin.ofBits_ninf ?_
    refine (Host.reduce_eq_fold (max : EReal → EReal → EReal) x _ _ _ _).trans ?_
    refine (Shape.ReducesTo.fold_fiber_r2_a0 _ _ (max : EReal → EReal → EReal) _ x).trans ?_
    exact congrArg (fun b => Finset.fold max b _ _) Fin.ofBits_ninf
  pointwise [Fin.cumsum2]
  simp only [eM]
  match j0 with
  | ⟨0, _⟩ => simp [table, soft, Fin.sum_univ_two]
  | ⟨1, _⟩ => simp [table, soft, Fin.sum_univ_two]

end Cert.LowerBoundFwd

end
-- ==== Proof.FoxDecayFwd.lean ====
/- The running sums of the forget gate: both programs at an index. -/
module

public import proofs.«01_k».proof.Defs
public import proofs.«01_k».proof.Proof.Gen.Kernel9Ideal.Value
public import proofs.«01_k».proof.Proof.Gen.Reference9Ideal.Run
public import proofs.«01_k».proof.Proof.Lib
public import Idealize.ShloMosaic.Lib.Pipeline.ValueKit
public import Idealize.ShloMosaic.Lib.StableHlo.ReadAt

@[expose] public section

set_option maxRecDepth 16384

noncomputable section

namespace Cert.FoxDecayFwd

open Idealize.ShloMosaic Idealize.ShloMosaic.TcCoe Idealize.SL.Sem

/-- The running sum down the middle axis of an array of three axes. -/
theorem cumsum3 {A N M C : ℕ} (hM : M + 1 = N) (x : FVec Ideal (⟨3, ![A, N, C]⟩ : Shape) .f32) {u : Shape} (init : u.Idx → EReal)
    (h : (⟨3, ![A, N, C]⟩ : Shape).ReduceWindows (![1, N, 1] : Fin 3 → Nat) ![1, 1, 1] ![0, M, 0] ![0, 0, 0] (⟨3, ![A, N, C]⟩ : Shape))
    (hu : 0 < u.numel) (hi0 : init (Shape.Idx.first hu) = 0) (a : Fin A) (j : Fin N) (c : Fin C) :
    Host.reduceWindowAdd (F := Ideal) ![1, N, 1] ![1, 1, 1] ![0, M, 0] ![0, 0, 0] x init h hu (ix3 a j c) = ∑ k : Fin N, if k ≤ j then x (ix3 a k c) else 0 := by
  subst hM
  rw [Fin.reduceWindowAdd_apply _ _ _ _ _ _ _ _ hi0]
  refine (sum_idx3 _).trans ((Fin.sum_univ_one _).trans ?_)
  let f : ℕ → EReal := fun n => if h : n < M + 1 then x (ix3 a ⟨n, h⟩ c) else 0
  refine Eq.trans (Finset.sum_congr rfl fun w _ => ?_) ((Fin.sum_low j f).trans (Finset.sum_congr rfl fun k _ => ?_))
  · rw [Fin.sum_univ_one]
    have hw := w.isLt
    have hj := j.isLt
    have ha := a.isLt
    have hc := c.isLt
    by_cases q : M ≤ j.val + w.val
    · rw [dif_pos (fun b => by
        match b with
        | ⟨0, _⟩ => exact ⟨Nat.zero_le _, by show a.val * 1 + 0 - 0 < A; omega⟩
        | ⟨1, _⟩ => exact ⟨by show M ≤ j.val * 1 + w.val; omega, by show j.val * 1 + w.val - M < M + 1; omega⟩
        | ⟨2, _⟩ => exact ⟨Nat.zero_le _, by show c.val * 1 + 0 - 0 < C; omega⟩), if_pos (by omega)]
      have hf : f (j.val + w.val - (M + 1 - 1)) = x (ix3 a ⟨j.val + w.val - M, by omega⟩ c) := dif_pos (by omega)
      rw [hf]
      refine congrArg x (funext fun b => Fin.ext ?_)
      match b with
      | ⟨0, _⟩ => show a.val * 1 + 0 - 0 = a.val; omega
      | ⟨1, _⟩ => show j.val * 1 + w.val - M = j.val + w.val - M; rw [Nat.mul_one]
      | ⟨2, _⟩ => show c.val * 1 + 0 - 0 = c.val; omega
    · rw [dif_neg (fun hin => q (by have h0 : M ≤ j.val * 1 + w.val := (hin 1).1; omega)), if_neg (by omega)]
  · rw [show f k.val = x (ix3 a k c) from dif_pos k.isLt]

/-- The logarithm of the sigmoid of a number. -/
def ls (x : EReal) : EReal := min x 0 - Ideal.log (1 + Ideal.exp (0 - max x (-x)))

theorem log_one : Ideal.log 1 = 0 := by
  have e : Ideal.log ((1 : ℝ) : EReal) = ((Real.log 1 : ℝ) : EReal) := (Ideal.log_coe 1).trans (if_neg (by norm_num))
  rwa [Real.log_one, EReal.coe_one, EReal.coe_zero] at e

theorem ls_bot : ls ⊥ = ⊥ := by
  unfold ls
  rw [EReal.neg_bot, max_eq_right bot_le, zero_sub, EReal.neg_top, show Ideal.exp ⊥ = 0 from rfl, add_zero, log_one, sub_zero, min_eq_left bot_le]

theorem ls_top : ls ⊤ = 0 := by
  unfold ls
  rw [EReal.neg_top, max_eq_left bot_le, zero_sub, EReal.neg_top, show Ideal.exp ⊥ = 0 from rfl, add_zero, log_one, sub_zero, min_eq_right le_top]

/-- The logarithm of one and the exponential of a real number. -/
theorem log_exp (s : ℝ) : Ideal.log (1 + Ideal.exp (s : EReal)) = ((Real.log (1 + Real.exp s) : ℝ) : EReal) := by
  rw [Ideal.exp_coe]
  have := Real.exp_pos s
  exact (Ideal.log_coe (1 + Real.exp s)).trans (if_neg (by linarith))

theorem ls_real (r : ℝ) : ls (r : EReal) = ((min r 0 - Real.log (1 + Real.exp (0 - max r (-r))) : ℝ) : EReal) := by
  unfold ls
  rw [← EReal.coe_neg, ← EReal.coe_strictMono.monotone.map_max, ← EReal.coe_zero, ← EReal.coe_sub, ← EReal.coe_strictMono.monotone.map_min, log_exp, ← EReal.coe_sub]

theorem ls_ne_top (x : EReal) : ls x ≠ ⊤ := by
  induction x with
  | bot => rw [ls_bot]; exact bot_ne_top
  | top => rw [ls_top]; exact EReal.zero_ne_top
  | coe r => rw [ls_real]; exact EReal.coe_ne_top _

/-- The same as minus the softplus of the negative. -/
theorem soft_eq (x : EReal) : -(max (-x) 0 + Ideal.log1p (Ideal.exp (-(max (-x) (-(-x)))))) = ls x := by
  unfold Ideal.log1p
  induction x with
  | bot =>
    rw [ls_bot, EReal.neg_bot, EReal.neg_top, max_eq_left bot_le, EReal.neg_top, show Ideal.exp ⊥ = 0 from rfl, add_zero, log_one, add_zero, max_eq_left le_top, EReal.neg_top]
  | top =>
    rw [ls_top, EReal.neg_top, EReal.neg_bot, max_eq_right le_top, EReal.neg_top, show Ideal.exp ⊥ = 0 from rfl, add_zero, log_one, add_zero, max_eq_right bot_le, neg_zero]
  | coe r =>
    rw [ls_real, ← EReal.coe_neg, ← EReal.coe_neg, ← EReal.coe_strictMono.monotone.map_max, ← EReal.coe_neg, log_exp, ← EReal.coe_zero, ← EReal.coe_strictMono.monotone.map_max, ← EReal.coe_add, ← EReal.coe_neg]
    refine congrArg _ ?_
    rw [neg_neg, max_comm (-r) r, zero_sub]
    rcases le_total r 0 with h | h
    · rw [max_eq_left (by linarith), min_eq_left h]
      ring
    · rw [max_eq_right (by linarith), min_eq_right h]
      ring

/-- A number that is not infinitely large, from its three parts. -/
theorem parts (L : EReal) (h : L ≠ ⊤) : L + (L - L) + ((L - L) - (L - L)) = L := by
  induction L with
  | bot => simp
  | top => exact absurd rfl h
  | coe r => simp only [← EReal.coe_sub, ← EReal.coe_add, sub_self, add_zero]

/-- The sum of the terms up to `n`. -/
def pre (u : ℕ → EReal) (n : ℕ) : EReal := ∑ k ∈ Finset.range (n + 1), u k

theorem pre_step (u : ℕ → EReal) (B : ℕ) (r : Fin 256) : (∑ x : Fin 256, if x.val ≤ r.val then u (B + x.val) else 0) + ∑ k ∈ Finset.range B, u k = pre u (B + r.val) := by
  have hr := r.isLt
  unfold pre
  rw [Nat.add_assoc, Finset.sum_range_add, add_comm, Fin.sum_univ_eq_sum_range (fun x => if x ≤ r.val then u (B + x) else 0) 256, ← Finset.sum_filter]
  refine congrArg (_ + ·) (Finset.sum_congr (Finset.ext fun i => ?_) fun _ _ => rfl)
  simp only [Finset.mem_filter, Finset.mem_range]
  omega

section Kernel
open Cert.Kernel9Ideal Cert.Kernel9Ideal.Gen

abbrev I : IVec S256x256 32 := iota Kind.tc S256x256 32 [0] iota_S256x256_d0_w32
abbrev J : IVec S256x256 32 := iota Kind.tc S256x256 32 [1] iota_S256x256_d1_w32

/-- One stretch of 256 rows: the sums down the stretch, plus what came before. -/
def dl (c : FVec Ideal S1x128 .f32) (f : Vec Ideal S256x128 .f32) (b : Vec Ideal S1x128 .f32) : FVec Ideal S256x128 .f32 := k0_pay11 I J c f b
/-- The last row of a stretch. -/
def bottom (d : FVec Ideal S256x128 .f32) : FVec Ideal S1x128 .f32 := extractStridedSlice S1x128 ![255, 0] d slices_S256x128_o255_0_S1x128
/-- Nothing comes before the first stretch. -/
def zr : FVec Ideal S1x128 .f32 := broadcast S1x128 (Scalar.ofBits .f32 0x00000000#32)
/-- A stretch of the first eight columns, turned. -/
def turn (d : FVec Ideal S256x128 .f32) : FVec Ideal S1x8x256 .f32 :=
  shapeCast S1x8x256 (extractStridedSlice S8x256 ![0, 0] (transpose S128x256 [1, 0] d transposes_S256x128_p1_0_S128x256) slices_S128x256_o0_0_S8x256) shapeCasts_S8x256_S1x8x256

/-- The running sum's mask as a number. -/
theorem sel (r x : Fin 256) : (FloatOps.sitofp FTy.f32 (BitVec.setWidth 32 (IntOp.cmpi CmpIPredicate.sge (BitVec.ofNat 32 r.val) (BitVec.ofNat 32 x.val))) : Ideal .f32)
    = ((if x.val ≤ r.val then 1 else 0 : ℝ) : EReal) := by
  show ((((BitVec.setWidth 32 (IntOp.cmpi CmpIPredicate.sge (BitVec.ofNat 32 r.val) (BitVec.ofNat 32 x.val))).toInt : ℝ)) : EReal) = _
  have e : (BitVec.setWidth 32 (IntOp.cmpi CmpIPredicate.sge (BitVec.ofNat 32 r.val) (BitVec.ofNat 32 x.val))) = if x.val ≤ r.val then 1#32 else 0#32 := by
    have h : (BitVec.ofNat 32 x.val).sle (BitVec.ofNat 32 r.val) = decide (x.val ≤ r.val) := by
      have e0 : ∀ n : Fin 256, (BitVec.ofNat 32 n.val).toInt = n.val := by decide +kernel
      rw [BitVec.sle_eq_decide, e0, e0]
      exact decide_eq_decide.mpr Int.ofNat_le
    unfold IntOp.cmpi
    simp only [h]
    by_cases q : x.val ≤ r.val <;> simp [q]
  rw [e]
  split <;> simp

theorem dl_at (B : ℕ) (u : ℕ → EReal) (c : FVec Ideal S1x128 .f32) (f : Vec Ideal S256x128 .f32) (b : Vec Ideal S1x128 .f32) (r : Fin 256) (h : Fin 128)
    (hu : ∀ x : Fin 256, ls (f (ix2 x h) + b (ix2 0 h)) = u (B + x.val)) (hc : c (ix2 0 h) = ∑ k ∈ Finset.range B, u k) :
    dl c f b (ix2 r h) = pre u (B + r.val) := by
  unfold dl
  pointwise [k0_pay11, I, J]
  rw [hc, ← pre_step]
  refine congrArg (· + _) ?_
  rw [← Finset.sum_add_distrib, ← Finset.sum_add_distrib]
  refine Finset.sum_congr rfl fun x _ => ?_
  rw [sel, ← hu x]
  change _ * ls (f (ix2 x h) + b (ix2 0 h)) + _ * (ls (f (ix2 x h) + b (ix2 0 h)) - ls (f (ix2 x h) + b (ix2 0 h)))
    + _ * ((ls (f (ix2 x h) + b (ix2 0 h)) - ls (f (ix2 x h) + b (ix2 0 h))) - (ls (f (ix2 x h) + b (ix2 0 h)) - ls (f (ix2 x h) + b (ix2 0 h)))) = _
  by_cases q : x.val ≤ r.val
  · rw [if_pos q, if_pos q, EReal.coe_one, one_mul, one_mul, one_mul]
    exact parts _ (ls_ne_top _)
  · rw [if_neg q, if_neg q, EReal.coe_zero, zero_mul, zero_mul, zero_mul, add_zero, add_zero]

theorem bottom_at (d : FVec Ideal S256x128 .f32) (h : Fin 128) : bottom d (ix2 0 h) = d (ix2 255 h) := by
  unfold bottom
  pointwise

theorem turn_at (d : FVec Ideal S256x128 .f32) (h : Fin 8) (r : Fin 256) : turn d (ix3 0 h r) = d (ix2 r ⟨h.val, by omega⟩) := by
  unfold turn
  pointwise

section Blocks
variable (x : Vec Ideal S2048x128 .f32) (b : Vec Ideal S1x128 .f32)

/-- A stretch's rows. -/
def rs (p : Fin 8) : Vec Ideal S256x128 .f32 := View.ld x (Rect.unit ![256 * p.val, 0] ![256, 128] (by
  intro a
  match a with
  | ⟨0, _⟩ => show 256 * p.val + 256 ≤ 2048; omega
  | ⟨1, _⟩ => show 0 + 128 ≤ 128; omega))
theorem rs_at (p : Fin 8) (h : Fin 128) (r : Fin 256) : rs x p (ix2 r h) = x (ix2 ⟨256 * p.val + r.val, by omega⟩ h) := by
  unfold rs
  pointwise

/-- The stretches one after another. -/
def st : ℕ → FVec Ideal S256x128 .f32
  | 0 => dl zr (rs x 0) (View.ld b r0_1)
  | n + 1 => dl (bottom (st n)) (rs x (Fin.ofNat 8 (n + 1))) (View.ld b r0_1)

/-- The logarithm of the gate down a column. -/
def gate (h : Fin 128) (n : ℕ) : EReal := if q : n < 2048 then ls (x (ix2 ⟨n, q⟩ h) + b (ix2 0 h)) else 0

theorem gate_at (p : Fin 8) (h : Fin 128) (r : Fin 256) : ls (rs x p (ix2 r h) + (View.ld b r0_1 : Vec Ideal S1x128 .f32) (ix2 0 h)) = gate x b h (256 * p.val + r.val) := by
  unfold gate
  rw [dif_pos (by omega), rs_at]
  refine congrArg (fun y => ls (_ + y)) ?_
  pointwise

theorem st_at (h : Fin 128) (n : ℕ) : n < 8 → ∀ r : Fin 256, st x b n (ix2 r h) = pre (gate x b h) (256 * n + r.val) := by
  induction n with
  | zero =>
    intro _ r
    rw [st]
    refine dl_at (256 * 0) (gate x b h) _ _ _ r h (fun y => gate_at x b 0 h y) ?_
    unfold zr
    pointwise
    exact (Finset.sum_range_zero (gate x b h)).symm
  | succ n ih =>
    intro hn r
    have e : (Fin.ofNat 8 (n + 1)).val = n + 1 := Nat.mod_eq_of_lt hn
    rw [st]
    refine dl_at (256 * (n + 1)) (gate x b h) _ _ _ r h (fun y => by rw [gate_at x b _ h y, e]) ?_
    rw [bottom_at, ih (by omega) 255]
    rfl

theorem stretch {y : S2048x128.Idx} (p : Fin 8) {z : S256x128.Idx} {k : ℕ} (q0 : (y 0).val = k + (z 0).val) (q1 : (y 1).val = (z 1).val) (q : k = 256 * p.val) :
    st x b p.val z = pre (gate x b (y 1)) (y 0).val := by
  rw [q0, q, show (y 1 : Fin 128) = z 1 from Fin.ext q1]
  idx_vars z
  exact st_at x b _ _ p.isLt _

theorem stretch3 {y : S1x8x2048.Idx} (p : Fin 8) {z : S1x8x256.Idx} {k : ℕ} (q1 : (y 1).val = (z 1).val) (q2 : (y 2).val = k + (z 2).val) (q : k = 256 * p.val) :
    turn (st x b p.val) z = pre (gate x b ⟨(y 1).val, lt_trans (y 1).isLt (by decide)⟩) (y 2).val := by
  have e : (⟨(y 1).val, lt_trans (y 1).isLt (by decide)⟩ : Fin 128) = ⟨(z 1).val, lt_trans (z 1).isLt (by decide)⟩ := Fin.ext q1
  rw [q2, q, e]
  idx_vars z
  obtain rfl : z0 = 0 := Subsingleton.elim _ _
  rw [turn_at]
  exact st_at x b _ _ p.isLt _

theorem out2 (y : S2048x128.Idx) : out0_2 x b y = pre (gate x b (y 1)) (y 0).val := by
  unfold out0_2
  canon_tiles z h
  case piece0 => exact stretch x b 7 h0 h1 rfl
  case piece1 => exact stretch x b 6 h0 h1 rfl
  case piece2 => exact stretch x b 5 h0 h1 rfl
  case piece3 => exact stretch x b 4 h0 h1 rfl
  case piece4 => exact stretch x b 3 h0 h1 rfl
  case piece5 => exact stretch x b 2 h0 h1 rfl
  case piece6 => exact stretch x b 1 h0 h1 rfl
  case piece7 => exact stretch x b 0 (h0.trans (Nat.zero_add _).symm) h1 rfl

theorem out3 (y : S1x8x2048.Idx) : out0_3 x b y = pre (gate x b ⟨(y 1).val, lt_trans (y 1).isLt (by decide)⟩) (y 2).val := by
  unfold out0_3
  canon_tiles z h
  case piece0 => exact stretch3 x b 7 h1 h2 rfl
  case piece1 => exact stretch3 x b 6 h1 h2 rfl
  case piece2 => exact stretch3 x b 5 h1 h2 rfl
  case piece3 => exact stretch3 x b 4 h1 h2 rfl
  case piece4 => exact stretch3 x b 3 h1 h2 rfl
  case piece5 => exact stretch3 x b 2 h1 h2 rfl
  case piece6 => exact stretch3 x b 1 h1 h2 rfl
  case piece7 => exact stretch3 x b 0 h1 (h2.trans (Nat.zero_add _).symm) rfl
end Blocks

variable (m : (ℓ : Loc nD τ sig) → Buf (Elt Ideal) ℓ)

/-- The arguments by rows: the gate's input and its bias. -/
abbrev fF (c : Dev nD) : ℕ → ℕ → EReal := Fin.flat3 (show FVec Ideal S2x2048x8 .f32 from m ((c.tc : Thread nD τ).loc main_arg0))
abbrev fB (c : Dev nD) : ℕ → EReal := Fin.flat1 (show FVec Ideal S8 .f32 from m ((c.tc : Thread nD τ).loc main_arg1))

theorem zero_word : (FloatOps.sitofp FTy.f32 (0#32) : Ideal .f32) = 0 := by
  show ((((0#32 : BitVec 32).toInt : ℝ)) : EReal) = 0
  simp

theorem op0 (c : Dev nD) (j : S4096x128.Idx) : V m c main_v1 j = if (j 1).val < 8 then fF m c (j 0).val (j 1).val else (0 : EReal) := by
  unfold V
  after_reads_at
  split
  · exact Fin.flat3_eq _ _ _ _ _ _
  · exact zero_word

theorem op1 (c : Dev nD) (j : S1x128.Idx) : V m c main_v3 j = if (j 1).val < 8 then fB m c (j 1).val else (0 : EReal) := by
  unfold V
  after_reads_at
  split
  · exact Fin.flat1_fin _ _
  · exact zero_word

theorem idx : ∀ t : Fin cfg0.N, (win0_0.index t = ![t.val, 0] ∧ win0_1.index t = ![0, 0]) ∧ win0_2.index t = ![t.val, 0] ∧ win0_3.index t = ![t.val, 0, 0] :=
  (by decide +kernel : ∀ t : Fin grid0.N, _)

theorem blk0 (c : Dev nD) (t : Fin cfg0.N) (n : Fin 2048) (h : Fin 128) :
    (show FVec Ideal S2048x128 .f32 from iblk m c 0 t) (ix2 n h) = if h.val < 8 then fF m c (t.val * 2048 + n.val) h.val else (0 : EReal) := by
  unfold iblk
  blk_simp
  rw [op0]
  blk_simp [idx t]
theorem blk1 (c : Dev nD) (t : Fin cfg0.N) (h : Fin 128) :
    (show FVec Ideal S1x128 .f32 from iblk m c 1 t) (ix2 0 h) = if h.val < 8 then fB m c h.val else (0 : EReal) := by
  unfold iblk
  blk_simp
  rw [op1]
  blk_simp [idx t]

/-- The logarithm of the gate at a batch's row and a column; the columns that only fill up carry a gate of zero. -/
def lg (F : ℕ → ℕ → EReal) (B : ℕ → EReal) (t h n : ℕ) : EReal := ls (if h < 8 then F (t * 2048 + n) h + B h else 0)

theorem gate_eq (c : Dev nD) (t : Fin cfg0.N) (h : Fin 128) (n : ℕ) (hn : n < 2048) : gate (iblk m c 0 t) (iblk m c 1 t) h n = lg (fF m c) (fB m c) t.val h.val n := by
  unfold gate lg
  rw [dif_pos hn]
  refine congrArg ls ((congrArg₂ (· + ·) (blk0 m c t ⟨n, hn⟩ h) (blk1 m c t h)).trans ?_)
  by_cases q : h.val < 8
  · rw [if_pos q, if_pos q, if_pos q]
  · rw [if_neg q, if_neg q, if_neg q, add_zero]

theorem pre_eq (c : Dev nD) (t : Fin cfg0.N) (h : Fin 128) (n : ℕ) (hn : n < 2048) :
    pre (gate (iblk m c 0 t) (iblk m c 1 t) h) n = pre (lg (fF m c) (fB m c) t.val h.val) n :=
  Finset.sum_congr rfl fun k hk => gate_eq m c t h k (by have := Finset.mem_range.mp hk; omega)

theorem final2 (c : Dev nD) : (dats m 0 c).arrAt 2 cfg0.N = fun j : S4096x128.Idx => pre (lg (fF m c) (fB m c) ((j 0).val / 2048) (j 1).val) ((j 0).val % 2048) := by
  refine (dats m 0 c).arrAt_eq_of_covers 2 _ (by decide +kernel) fun t _ y => ?_
  have ho := (out2 (iblk m c 0 t) (iblk m c 1 t) y).trans (pre_eq m c t _ _ (y 0).isLt)
  blk_simp
  idx_vars y
  rw [after0_2]
  refine ho.trans ?_
  blk_simp [idx t]
  rw [show (t.val * 2048 + y0.val) / 2048 = t.val by omega, show (t.val * 2048 + y0.val) % 2048 = y0.val by omega]

theorem final3 (c : Dev nD) : (dats m 0 c).arrAt 3 cfg0.N = fun j : S2x8x2048.Idx => pre (lg (fF m c) (fB m c) (j 0).val (j 1).val) (j 2).val := by
  refine (dats m 0 c).arrAt_eq_of_covers 3 _ (by decide +kernel) fun t _ y => ?_
  have ho := (out3 (iblk m c 0 t) (iblk m c 1 t) y).trans (pre_eq m c t _ _ (y 2).isLt)
  blk_simp
  idx_vars y
  rw [after0_3]
  refine ho.trans ?_
  blk_simp [idx t]
end Kernel

section Reference
open Cert.Reference9Ideal Cert.Reference9Ideal.Gen

/-- The sums as the reference writes them, from the gate's padded input. -/
theorem ref_at (z : FVec Ideal S2x2048x128 .f32) (a : Fin 2) (n : Fin 2048) (h : Fin 128) (u : ℕ → EReal) (hu : ∀ k : Fin 2048, ls (z (ix3 a k h)) = u k.val) :
    Host.reduceWindowAdd ![1, 2048, 1] ![1, 1, 1] ![0, 2047, 0] ![0, 0, 0] (Host.negf (select (cmpf .une (subf (Host.negf z) (broadcastInDim S2x2048x128 ![] bcast_S_S2x2048x128 (constant (F := Ideal) S_ .f32 0x00000000#32))) (subf (Host.negf z) (broadcastInDim S2x2048x128 ![] bcast_S_S2x2048x128 (constant S_ .f32 0x00000000#32)))) (addf (Host.negf z) (broadcastInDim S2x2048x128 ![] bcast_S_S2x2048x128 (constant S_ .f32 0x00000000#32))) (addf (maximumf (Host.negf z) (broadcastInDim S2x2048x128 ![] bcast_S_S2x2048x128 (constant S_ .f32 0x00000000#32))) (Host.log1p (Host.exp (Host.negf (Host.absf (subf (Host.negf z) (broadcastInDim S2x2048x128 ![] bcast_S_S2x2048x128 (constant S_ .f32 0x00000000#32)))))))))) (broadcastInDim S_ ![] bcast_S_S_ (constant S_ .f32 0x00000000#32)) reduceWindows_S2x2048x128_S2x2048x128_w1s1p0_0_w2048s1p2047_0_w1s1p0_0 h_S_ (ix3 a n h)
      = pre u n.val := by
  refine (cumsum3 (by norm_num) _ _ _ _ (by pointwise) a n h).trans ?_
  pointwise
  simp only [ne_eq, not_true_eq_false, if_false, sub_zero, Ideal.absf_def, soft_eq, hu]
  refine (Finset.sum_congr rfl fun x _ => show (if x ≤ n then u x.val else 0) = (fun i => if i ≤ n.val then u i else 0) x.val from rfl).trans ?_
  rw [Fin.sum_univ_eq_sum_range (fun i => if i ≤ n.val then u i else 0) 2048, ← Finset.sum_filter]
  refine Finset.sum_congr (Finset.ext fun i => ?_) fun _ _ => rfl
  have hn := n.isLt
  simp only [Finset.mem_filter, Finset.mem_range]
  omega

/-- The gate's padded input. -/
theorem gate_in (f : FVec Ideal S2x2048x8 .f32) (b : FVec Ideal S8 .f32) (a : Fin 2) (k : Fin 2048) (h : Fin 128) :
    ls ((pad S2x2048x128 ![0, 0, 0] ![0, 0, 120] ![0, 0, 0] (addf f (broadcastInDim S2x2048x8 ![0, 1, 2] bcast_S1x1x8_S2x2048x8_0_1_2 (broadcastInDim S1x1x8 ![2] bcast_S8_S1x1x8_2 b))) (sitofp .f32 (constantI S_ 32 0#32)) pads_S2x2048x8_S2x2048x128_000_000_01200 h_S_ : FVec Ideal S2x2048x128 .f32) (ix3 a k h))
      = lg (Fin.flat3 f) (Fin.flat1 b) a.val h.val k.val := by
  unfold lg
  refine congrArg ls ?_
  pointwise
  by_cases q : h.val < 8
  · rw [dif_pos q, if_pos q]
    exact congrArg₂ (· + ·) (Fin.flat3_row f a k ⟨h.val, q⟩) (Fin.flat1_fin b ⟨h.val, q⟩)
  · rw [dif_neg q, if_neg q]
    exact zero_word
end Reference

/-- The two programs agree. -/
theorem holds : Cert.algebraic_Kernel9Ideal_Reference9Ideal := by
  intro m ρ m' ρ' _ hagree
  refine ⟨_, _, Cert.Kernel9Ideal.Value.run_blocks (F := Ideal) m ρ, ?_⟩
  refine (θ_run Cert.Reference9Ideal.defs _ _).mono (fun _ h c => ⟨?_, ?_, (h c).2.2⟩) (Cert.Reference9Ideal.Value.run (F := Ideal) m' ρ')
  · rw [(h c).1, final2 m c]
    obtain ⟨e0, e1⟩ := hagree c
    rw [e0, e1]
    funext j
    idx_vars j
    refine Eq.trans ?_ (ref_at _ ⟨j0.val / 2048, by omega⟩ ⟨j0.val % 2048, by omega⟩ j1 _ fun k => gate_in _ _ _ k j1)
    pointwise
  · rw [(h c).2.1, final3 m c]
    obtain ⟨e0, e1⟩ := hagree c
    rw [e0, e1]
    funext j
    idx_vars j
    refine Eq.trans ?_ (ref_at _ j0 j2 ⟨j1.val, by omega⟩ _ fun k => gate_in _ _ _ k ⟨j1.val, by omega⟩)
    pointwise

end Cert.FoxDecayFwd

end
-- ==== Proof.InProjFwd.lean ====
/- The norm and the input projection: both programs at an index. -/
module

public import proofs.«01_k».proof.Defs
public import proofs.«01_k».proof.Proof.Gen.Kernel10Ideal.Value
public import proofs.«01_k».proof.Proof.Gen.Reference10Ideal.Run
public import proofs.«01_k».proof.Proof.Lib
public import Idealize.ShloMosaic.Lib.Pipeline.ValueKit
public import Idealize.ShloMosaic.Lib.StableHlo.ReadAt

@[expose] public section

set_option maxRecDepth 16384

noncomputable section

namespace Cert.InProjFwd

open Idealize.ShloMosaic Idealize.ShloMosaic.TcCoe Idealize.SL.Sem

/-- An entry of the normalised input, from the input's and the scale's entries. -/
def nrm (X : ℕ → ℕ → EReal) (G : ℕ → EReal) (i d : ℕ) : EReal :=
  X i d * Ideal.rsqrt (Ideal.div (∑ k : Fin 1024, X i k.val * X i k.val) (Ideal.ofBits .f32 0x44800000#32) + Ideal.ofBits .f32 0x358637BD#32) * G d
/-- An entry of the projection. -/
def prj (X : ℕ → ℕ → EReal) (G : ℕ → EReal) (W : ℕ → ℕ → EReal) (i e : ℕ) : EReal := ∑ d : Fin 1024, nrm X G i d.val * W d.val e

section Kernel
open Cert.Kernel10Ideal Cert.Kernel10Ideal.Gen

theorem pay3_at (x : Vec Ideal S512x1024 .f32) (g : Vec Ideal S1x1024 .f32) (r : Fin 512) (d : Fin 1024) (X : ℕ → ℕ → EReal) (G : ℕ → EReal) (i : ℕ)
    (hx : ∀ k, x (ix2 r k) = X i k.val) (hg : g (ix2 0 d) = G d.val) : k0_pay3 x g (ix2 r d) = nrm X G i d.val := by
  unfold nrm
  pointwise [k0_pay3, k0_pay2]
  simp only [hx, hg]

theorem pay8_at (h : FVec Ideal S512x1024 .bf16) (w : Vec Ideal S1024x512 .bf16) (r : Fin 512) (e : Fin 512) : k0_pay8 h w (ix2 r e) = ∑ d : Fin 1024, h (ix2 r d) * w (ix2 d e) := by
  pointwise [k0_pay8]

variable (m : (ℓ : Loc nD τ sig) → Buf (Elt Ideal) ℓ)

/-- The input by rows, the scale and the weights. -/
abbrev aX (c : Dev nD) : ℕ → ℕ → EReal := Fin.flat3 (show FVec Ideal S2x2048x1024 .f32 from m ((c.tc : Thread nD τ).loc main_arg0))
abbrev aG (c : Dev nD) : ℕ → EReal := Fin.flat1 (show FVec Ideal S1024 .f32 from m ((c.tc : Thread nD τ).loc main_arg1))
abbrev aW (c : Dev nD) : ℕ → ℕ → EReal := Fin.flat2 (show FVec Ideal S1024x3592 .f32 from m ((c.tc : Thread nD τ).loc main_arg2))

theorem zero_word : (FloatOps.sitofp FTy.f32 (0#32) : Ideal .f32) = 0 := by
  show ((((0#32 : BitVec 32).toInt : ℝ)) : EReal) = 0
  simp

theorem op1 (c : Dev nD) (j : S1024x3584.Idx) : V m c main_v1 j = aW m c (j 0).val (j 1).val := by
  unfold V
  after_reads_at
  exact Fin.flat2_eq _ _ _ _ _

theorem op4 (c : Dev nD) (j : S1024x128.Idx) : V m c main_v4 j = if (j 1).val < 8 then aW m c (j 0).val (3584 + (j 1).val) else (0 : EReal) := by
  unfold V
  after_reads_at
  split
  · exact Fin.flat2_eq _ _ _ _ _
  · exact zero_word

theorem op5 (c : Dev nD) (j : S4096x1024.Idx) : V m c main_v5 j = aX m c (j 0).val (j 1).val := by
  unfold V
  after_reads_at
  exact Fin.flat3_eq _ _ _ _ _ _

theorem op6 (c : Dev nD) (j : S1x1024.Idx) : V m c main_v6 j = aG m c (j 1).val := by
  unfold V
  after_reads_at
  exact Fin.flat1_fin _ _

theorem idx : ∀ t : Fin cfg0.N, (win0_0.index t = ![t.val, 0] ∧ win0_1.index t = ![0, 0] ∧ win0_2.index t = ![0, 0] ∧ win0_3.index t = ![0, 0])
    ∧ win0_4.index t = ![t.val, 0] ∧ win0_5.index t = ![t.val, 0] ∧ win0_6.index t = ![0, t.val] ∧ win0_7.index t = ![0, t.val] ∧ win0_8.index t = ![0, t.val] :=
  (by decide +kernel : ∀ t : Fin grid0.N, _)

theorem blk0 (c : Dev nD) (t : Fin cfg0.N) (r : Fin 512) (d : Fin 1024) : (show FVec Ideal S512x1024 .f32 from iblk m c 0 t) (ix2 r d) = aX m c (t.val * 512 + r.val) d.val := by
  unfold iblk
  blk_simp
  rw [op5]
  blk_simp [idx t]
theorem blk1 (c : Dev nD) (t : Fin cfg0.N) (d : Fin 1024) : (show FVec Ideal S1x1024 .f32 from iblk m c 1 t) (ix2 0 d) = aG m c d.val := by
  unfold iblk
  blk_simp
  rw [op6]
  blk_simp [idx t]
theorem blk2 (c : Dev nD) (t : Fin cfg0.N) (d : Fin 1024) (e : Fin 3584) : (show FVec Ideal S1024x3584 .bf16 from iblk m c 2 t) (ix2 d e) = aW m c d.val e.val := by
  unfold iblk
  blk_simp
  rw [op1]
  blk_simp [idx t]
theorem blk3 (c : Dev nD) (t : Fin cfg0.N) (d : Fin 1024) (e : Fin 128) :
    (show FVec Ideal S1024x128 .bf16 from iblk m c 3 t) (ix2 d e) = if e.val < 8 then aW m c d.val (3584 + e.val) else (0 : EReal) := by
  unfold iblk
  blk_simp
  rw [op4]
  blk_simp [idx t]

/-- The normalised rows of one point. -/
def hn (c : Dev nD) (t : Fin cfg0.N) : FVec Ideal S512x1024 .bf16 := k0_pay15 (iblk m c 0 t) (iblk m c 1 t) (iblk m c 2 t) (iblk m c 3 t)
theorem hn_at (c : Dev nD) (t : Fin cfg0.N) (r : Fin 512) (d : Fin 1024) : hn m c t (ix2 r d) = nrm (aX m c) (aG m c) (t.val * 512 + r.val) d.val := by
  refine pay3_at _ _ r d (aX m c) (aG m c) _ (fun k => ?_) ?_
  · pointwise
    exact blk0 m c t r k
  · pointwise
    exact blk1 m c t d

/-- One product of the normalised rows with columns of the weights. -/
theorem mm_at (c : Dev nD) (t : Fin cfg0.N) (w : Vec Ideal S1024x512 .bf16) (o : ℕ) (r e : Fin 512) (hw : ∀ d : Fin 1024, w (ix2 d e) = aW m c d.val (o + e.val)) :
    k0_pay8 (hn m c t) w (ix2 r e) = prj (aX m c) (aG m c) (aW m c) (t.val * 512 + r.val) (o + e.val) := by
  rw [pay8_at]
  unfold prj
  simp only [hn_at, hw]

theorem piece (c : Dev nD) (t : Fin cfg0.N) {y : S512x3584.Idx} {z : S512x512.Idx} (w : Vec Ideal S1024x512 .bf16) (o : ℕ) (q0 : (y 0).val = (z 0).val) (q1 : (y 1).val = o + (z 1).val)
    (hw : ∀ (e : Fin 512) (d : Fin 1024), w (ix2 d e) = aW m c d.val (o + e.val)) :
    k0_pay8 (hn m c t) w z = prj (aX m c) (aG m c) (aW m c) (t.val * 512 + (y 0).val) (y 1).val := by
  rw [q0, q1]
  idx_vars z
  exact mm_at m c t w o _ _ (hw _)

theorem out4 (c : Dev nD) (t : Fin cfg0.N) (y : S512x3584.Idx) :
    out0_4 (iblk m c 0 t) (iblk m c 1 t) (iblk m c 2 t) (iblk m c 3 t) y = prj (aX m c) (aG m c) (aW m c) (t.val * 512 + (y 0).val) (y 1).val := by
  unfold out0_4
  canon_tiles z h
  case piece0 => exact piece m c t _ 3072 h0 h1 fun e d => by pointwise; exact blk2 m c t d ⟨3072 + e.val, by omega⟩
  case piece1 => exact piece m c t _ 2560 h0 h1 fun e d => by pointwise; exact blk2 m c t d ⟨2560 + e.val, by omega⟩
  case piece2 => exact piece m c t _ 2048 h0 h1 fun e d => by pointwise; exact blk2 m c t d ⟨2048 + e.val, by omega⟩
  case piece3 => exact piece m c t _ 1536 h0 h1 fun e d => by pointwise; exact blk2 m c t d ⟨1536 + e.val, by omega⟩
  case piece4 => exact piece m c t _ 1024 h0 h1 fun e d => by pointwise; exact blk2 m c t d ⟨1024 + e.val, by omega⟩
  case piece5 => exact piece m c t _ 512 h0 h1 fun e d => by pointwise; exact blk2 m c t d ⟨512 + e.val, by omega⟩
  case piece6 => exact piece m c t _ 0 h0 (h1.trans (Nat.zero_add _).symm) fun e d => by pointwise; exact blk2 m c t d ⟨e.val, by omega⟩

/-- The projection's wide part, the whole array. -/
theorem final4 (c : Dev nD) : (dats m 0 c).arrAt 4 cfg0.N = fun j : S4096x3584.Idx => prj (aX m c) (aG m c) (aW m c) (j 0).val (j 1).val := by
  refine (dats m 0 c).arrAt_eq_of_covers 4 _ (by decide +kernel) fun t _ y => ?_
  have ho := out4 m c t y
  blk_simp
  idx_vars y
  rw [after0_4]
  refine ho.trans ?_
  blk_simp [idx t]

/-- The gate's part, the whole array. -/
theorem final5 (c : Dev nD) : (dats m 0 c).arrAt 5 cfg0.N = fun j : S4096x128.Idx =>
    if (j 1).val < 8 then prj (aX m c) (aG m c) (aW m c) (j 0).val (3584 + (j 1).val) else (0 : EReal) := by
  refine (dats m 0 c).arrAt_eq_of_covers 5 _ (by decide +kernel) fun t _ y => ?_
  blk_simp
  idx_vars y
  rw [after0_5]
  unfold out0_5
  frame_out
  refine Eq.trans (b := ∑ d : Fin 1024, hn m c t (ix2 y0 d) * (show FVec Ideal S1024x128 .bf16 from iblk m c 3 t) (ix2 d y1)) ?_ ?_
  · pointwise [k0_pay1, k0_pay14]
    rfl
  · simp only [hn_at, blk3]
    unfold prj
    blk_simp [idx t]
    split
    · rfl
    · simp only [mul_zero, Finset.sum_const_zero]

/-- The normalised input turned, the whole array. -/
theorem final6 (c : Dev nD) : (dats m 0 c).arrAt 6 cfg0.N = fun j : S1024x4096.Idx => nrm (aX m c) (aG m c) (j 1).val (j 0).val := by
  refine (dats m 0 c).arrAt_eq_of_covers 6 _ (by decide +kernel) fun t _ y => ?_
  blk_simp
  idx_vars y
  rw [after0_6]
  unfold out0_6
  frame_out
  refine Eq.trans (b := hn m c t (ix2 y1 y0)) ?_ ((hn_at m c t y1 y0).trans ?_)
  · pointwise [k0_pay4]
    unfold hn
    pointwise [k0_pay15, k0_pay3, k0_pay2]
  · blk_simp [idx t]

/-- The queries turned, the whole array. -/
theorem final7 (c : Dev nD) : (dats m 0 c).arrAt 7 cfg0.N = fun j : S512x4096.Idx => prj (aX m c) (aG m c) (aW m c) (j 1).val (1536 + (j 0).val) * Ideal.ofBits .f32 0x3E000000#32 := by
  refine (dats m 0 c).arrAt_eq_of_covers 7 _ (by decide +kernel) fun t _ y => ?_
  blk_simp
  idx_vars y
  rw [after0_7]
  unfold out0_7
  frame_out
  refine Eq.trans (b := k0_pay8 (hn m c t) (View.ld (iblk m c 2 t) r0_9) (ix2 y1 y0) * Ideal.ofBits .f32 0x3E000000#32) ?_ (congrArg (· * _) ((mm_at m c t _ 1536 y1 y0 fun d => ?_).trans ?_))
  · pointwise [k0_pay9]
    rfl
  · pointwise
    exact blk2 m c t d ⟨1536 + y0.val, by omega⟩
  · blk_simp [idx t]

/-- The keys turned, the whole array. -/
theorem final8 (c : Dev nD) : (dats m 0 c).arrAt 8 cfg0.N = fun j : S512x4096.Idx => prj (aX m c) (aG m c) (aW m c) (j 1).val (2048 + (j 0).val) := by
  refine (dats m 0 c).arrAt_eq_of_covers 8 _ (by decide +kernel) fun t _ y => ?_
  blk_simp
  idx_vars y
  rw [after0_8]
  unfold out0_8
  frame_out
  refine Eq.trans (b := k0_pay8 (hn m c t) (View.ld (iblk m c 2 t) r0_12) (ix2 y1 y0)) ?_ ((mm_at m c t _ 2048 y1 y0 fun d => ?_).trans ?_)
  · pointwise [k0_pay11]
    rfl
  · pointwise
    exact blk2 m c t d ⟨2048 + y0.val, by omega⟩
  · blk_simp [idx t]
end Kernel

section Reference
open Cert.Reference10Ideal Cert.Reference10Ideal.Gen

/-- The normalised input and the projection as the reference writes them. -/
def rh (x : FVec Ideal S2x2048x1024 .f32) (g : FVec Ideal S1024 .f32) : FVec Ideal S2x2048x1024 .f32 :=
  mulf (mulf x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 g))
def rz (x : FVec Ideal S2x2048x1024 .f32) (g : FVec Ideal S1024 .f32) (w : FVec Ideal S1024x3592 .f32) : FVec Ideal S4096x3592 .f32 :=
  shapeCast S4096x3592 (Host.dotGeneral dot_S2x2048x1024_S1024x3592_S2x2048x3592_2_0_01_1_n_n none (rh x g) w) shapeCasts_S2x2048x3592_S4096x3592

theorem rh_at (x : FVec Ideal S2x2048x1024 .f32) (g : FVec Ideal S1024 .f32) (a : Fin 2) (n : Fin 2048) (d : Fin 1024) :
    rh x g (ix3 a n d) = nrm (Fin.flat3 x) (Fin.flat1 g) (2048 * a.val + n.val) d.val := by
  unfold rh nrm
  pointwise
  simp only [Fin.flat3_row, Fin.flat1_fin, Nat.mul_comm 2048]

theorem rz_at (x : FVec Ideal S2x2048x1024 .f32) (g : FVec Ideal S1024 .f32) (w : FVec Ideal S1024x3592 .f32) (i : Fin 4096) (e : Fin 3592) :
    rz x g w (ix2 i e) = prj (Fin.flat3 x) (Fin.flat1 g) (Fin.flat2 w) i.val e.val := by
  unfold rz prj
  pointwise
  simp only [rh_at, Fin.flat2_fin]
  rw [show 2048 * (i.val / 2048) + i.val % 2048 = i.val by omega]
theorem res0_at (z : FVec Ideal S4096x3592 .f32) (j0 : Fin 4096) (j1 : Fin 3584) :
    (extractStridedSlice S4096x3584 ![0, 0] z slices_S4096x3592_S4096x3584_0_0 : FVec Ideal S4096x3584 .f32) (ix2 j0 j1) = z (ix2 j0 ⟨j1.val, by omega⟩) := by
  pointwise
theorem res1_at (z : FVec Ideal S4096x3592 .f32) (j0 : Fin 4096) (j1 : Fin 128) :
    (pad S4096x128 ![0, 0] ![0, 120] ![0, 0] (extractStridedSlice S4096x8 ![0, 3584] z slices_S4096x3592_S4096x8_0_3584) (sitofp .f32 (constantI S_ 32 0#32)) pads_S4096x8_S4096x128_000_01200 h_S_ : FVec Ideal S4096x128 .f32) (ix2 j0 j1) = if q : j1.val < 8 then z (ix2 j0 ⟨3584 + j1.val, by omega⟩) else (0 : EReal) := by
  pointwise
  split
  · rfl
  · exact zero_word
theorem res2_at (y : FVec Ideal S2x2048x1024 .f32) (j0 : Fin 1024) (j1 : Fin 4096) :
    (truncf .bf16 (transpose S1024x4096 [1, 0] (shapeCast S4096x1024 y shapeCasts_S2x2048x1024_S4096x1024) transposes_S4096x1024_S1024x4096_1_0) bitsLt_bf16_f32 : FVec Ideal S1024x4096 .bf16) (ix2 j0 j1) = y (ix3 ⟨j1.val / 2048, by omega⟩ ⟨j1.val % 2048, by omega⟩ j0) := by
  pointwise
theorem res3_at (z : FVec Ideal S4096x3592 .f32) (j0 : Fin 512) (j1 : Fin 4096) :
    (truncf .bf16 (transpose S512x4096 [1, 0] (mulf (extractStridedSlice S4096x512 ![0, 1536] z slices_S4096x3592_S4096x512_0_1536) (broadcastInDim S4096x512 ![] bcast_S_S4096x512 (constant S_ .f32 0x3E000000#32))) transposes_S4096x512_S512x4096_1_0) bitsLt_bf16_f32 : FVec Ideal S512x4096 .bf16) (ix2 j0 j1) = z (ix2 j1 ⟨1536 + j0.val, by omega⟩) * Ideal.ofBits .f32 0x3E000000#32 := by
  pointwise
theorem res4_at (z : FVec Ideal S4096x3592 .f32) (j0 : Fin 512) (j1 : Fin 4096) :
    (truncf .bf16 (transpose S512x4096 [1, 0] (extractStridedSlice S4096x512 ![0, 2048] z slices_S4096x3592_S4096x512_0_2048) transposes_S4096x512_S512x4096_1_0) bitsLt_bf16_f32 : FVec Ideal S512x4096 .bf16) (ix2 j0 j1) = z (ix2 j1 ⟨2048 + j0.val, by omega⟩) := by
  pointwise
end Reference

/-- The two programs agree. -/
theorem holds : Cert.algebraic_Kernel10Ideal_Reference10Ideal := by
  intro m ρ m' ρ' _ hagree
  refine ⟨_, _, _, _, _, Cert.Kernel10Ideal.Value.run_blocks (F := Ideal) m ρ, ?_⟩
  refine (θ_run Cert.Reference10Ideal.defs _ _).mono (fun _ h c => ⟨?_, ?_, ?_, ?_, ?_, (h c).2.2.2.2.2⟩) (Cert.Reference10Ideal.Value.run (F := Ideal) m' ρ')
  all_goals obtain ⟨e0, e1, e2⟩ := hagree c
  · rw [(h c).1, final4 m c, e0, e1, e2]
    funext j
    idx_vars j
    exact (res0_at (rz _ _ _) j0 j1).trans (rz_at _ _ _ j0 ⟨j1.val, by omega⟩)
  · rw [(h c).2.1, final5 m c, e0, e1, e2]
    funext j
    idx_vars j
    refine (res1_at (rz _ _ _) j0 j1).trans ?_
    by_cases q : j1.val < 8
    · rw [dif_pos q]
      exact (rz_at _ _ _ j0 ⟨3584 + j1.val, by omega⟩).trans (if_pos q).symm
    · rw [dif_neg q]
      exact (if_neg q).symm
  · rw [(h c).2.2.1, final6 m c, e0, e1]
    funext j
    idx_vars j
    refine (res2_at (rh _ _) j0 j1).trans ((rh_at _ _ _ _ _).trans ?_)
    exact congrArg (fun n => nrm _ _ n j0.val) (by show 2048 * (j1.val / 2048) + j1.val % 2048 = j1.val; omega)
  · rw [(h c).2.2.2.1, final7 m c, e0, e1, e2]
    funext j
    idx_vars j
    exact (res3_at (rz _ _ _) j0 j1).trans (congrArg (· * _) (rz_at _ _ _ j1 ⟨1536 + j0.val, by omega⟩))
  · rw [(h c).2.2.2.2.1, final8 m c, e0, e1, e2]
    funext j
    idx_vars j
    exact (res4_at (rz _ _ _) j0 j1).trans (rz_at _ _ _ j1 ⟨2048 + j0.val, by omega⟩)

end Cert.InProjFwd

end
-- ==== Proof.Exact.lean ====
/-
  A body that only loads, stores and branches within buffers it holds, run at named contents: a load answers what the
  buffer holds under its rectangle, a store lays its value over the rectangle, and the program's end meets a
  postcondition of the contents.
-/
module

public import Idealize.ShloMosaic.Lib.Tactic
public import Idealize.ShloMosaic.Lib.Pipeline.Frame

@[expose] public section

namespace Exact

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

/-- What contents hold under a rectangle. -/
def ld {s : Shape} {α : Type} (X : s.Idx → α) (r : LoadRect s) : r.shape.Idx → α := fun x => X (r.idx x)

/-- The bundle `B` holds the memref `M` at the part `get` of its contents, and takes it back at any. -/
class At {S : Type} (c : Thread nD τ) (B : S → sProp 𝕄) {sp : Space} {s : Shape} {e : EltTy} (M : Memref sig c.2.kind sp s e)
    (get : outParam (S → s.Idx → Val e)) (put : outParam (S → (s.Idx → Val e) → S)) : Prop where
  /-- Take the memref out; give it back at any contents. -/
  out : ∀ σ, B σ ⊢ iprop(owns c M fullShare (get σ) ∗ (∀ X, owns c M fullShare X -∗ B (put σ X)))
  /-- Giving back what was taken changes nothing. -/
  same : ∀ σ, put σ (get σ) = σ

variable {defs : Defs nD τ sig Val Λ} {𝒱 : Variants} {α β S : Type}

/-- The program, run from the bundle at contents `σ`, ends with the bundle at contents that meet `Q`. -/
def Runs (defs : Defs nD τ sig Val Λ) (𝒱 : Variants) (c : Thread nD τ) (B : S → sProp 𝕄) (σ : S)
    (p : Prog (TpuEff nD τ sig Val Λ c.2) α) (Q : α → S → Prop) : Prop :=
  B σ ⊢ wp frame (wpE defs 𝒱 c none) Set.univ p (fun a => iprop(∃ σ', ⌜Q a σ'⌝ ∗ B σ'))

theorem Runs.ret {c : Thread nD τ} {B : S → sProp 𝕄} {σ : S} {a : α} {Q : α → S → Prop} (h : Q a σ) : Runs defs 𝒱 c B σ (.ret a) Q := by
  unfold Runs
  iintro H
  iapply (exec_ret _ _ _ _ _ .rfl)
  iexists σ
  isplitr; · ipureintro; exact h
  iexact H

theorem Runs.pure {c : Thread nD τ} {B : S → sProp 𝕄} {σ : S} {a : α} {Q : α → S → Prop} (h : Q a σ) : Runs defs 𝒱 c B σ (Pure.pure a) Q :=
  Runs.ret h

theorem Runs.bind {c : Thread nD τ} {B : S → sProp 𝕄} {σ : S} {p : Prog (TpuEff nD τ sig Val Λ c.2) α} {k : α → Prog (TpuEff nD τ sig Val Λ c.2) β}
    {Q : β → S → Prop} (h : Runs defs 𝒱 c B σ p (fun a σ' => Runs defs 𝒱 c B σ' (k a) Q)) : Runs defs 𝒱 c B σ (p >>= k) Q := by
  unfold Runs at *
  rw [wp_bind]
  refine h.trans (wp_mono _ _ _ fun a => ?_)
  iintro ⟨%σ', %hq, H⟩
  iapply hq; iexact H

theorem Runs.andThen {c : Thread nD τ} {B : S → sProp 𝕄} {σ σ₁ : S} {p : Prog (TpuEff nD τ sig Val Λ c.2) α} {k : α → Prog (TpuEff nD τ sig Val Λ c.2) β}
    {Q : β → S → Prop} {a : α} (h : Runs defs 𝒱 c B σ p (fun x s => x = a ∧ s = σ₁)) (hk : Runs defs 𝒱 c B σ₁ (k a) Q) : Runs defs 𝒱 c B σ (p >>= k) Q := by
  refine Runs.bind ?_
  unfold Runs at *
  refine h.trans (wp_mono _ _ _ fun x => ?_)
  iintro ⟨%σ', %hq, H⟩
  iexists σ'
  isplitr
  · ipureintro; obtain ⟨rfl, rfl⟩ := hq; exact hk
  iexact H

theorem Runs.mono {c : Thread nD τ} {B : S → sProp 𝕄} {σ : S} {p : Prog (TpuEff nD τ sig Val Λ c.2) α} {Q Q' : α → S → Prop}
    (h : Runs defs 𝒱 c B σ p Q) (hq : ∀ a σ', Q a σ' → Q' a σ') : Runs defs 𝒱 c B σ p Q' := by
  unfold Runs at *
  refine h.trans (wp_mono _ _ _ fun a => ?_)
  iintro ⟨%σ', %hq', H⟩
  iexists σ'
  isplitr; · ipureintro; exact hq a σ' hq'
  iexact H

theorem Runs.dite {c : Thread nD τ} {B : S → sProp 𝕄} {σ : S} {C : Prop} {dec : Decidable C} {p : C → Prog (TpuEff nD τ sig Val Λ c.2) α}
    {q : ¬C → Prog (TpuEff nD τ sig Val Λ c.2) α} {Q : α → S → Prop} (hp : ∀ h, Runs defs 𝒱 c B σ (p h) Q) (hq : ∀ h, Runs defs 𝒱 c B σ (q h) Q) :
    Runs defs 𝒱 c B σ (if h : C then p h else q h) Q := by
  by_cases h : C
  · rw [dif_pos h]; exact hp h
  · rw [dif_neg h]; exact hq h

theorem Runs.load {c : Thread nD τ} {B : S → sProp 𝕄} {σ : S} {cs : CoreSpace} {s : Shape} {e : EltTy} {N : Memref sig c.2.kind cs s e}
    {get : S → s.Idx → Val e} {put : S → (s.Idx → Val e) → S} [hat : At c B N get put] {r : LoadRect s} {hl : N.view.LoadsAt r}
    {Q : (r.shape.Idx → Val e) → S → Prop} (h : Q (ld (get σ) r) σ) :
    Runs defs 𝒱 c B σ (Prog.lift (.load N r hl)) Q := by
  unfold Runs Prog.lift
  iintro H
  ihave ⟨HM, HK⟩ := hat.out σ $$ H
  unfold owns
  icases HM with ⟨%f, %hf, HM⟩
  iapply (wp_load (m := N) (r := r) (hl := hl) (k := .ret) (f := f) (q := fullShare) 𝒱 c none Set.univ (View.setOn_subset_set N.view r.set)) $$ HM
  iintro HM
  iapply (exec_ret _ _ _ _ _ .rfl)
  iexists σ
  isplitr
  · ipureintro
    have : N.view.readAt Val r f = ld (get σ) r := by rw [← hf]; rfl
    rw [this]; exact h
  ihave HB := HK $$ %(get σ) [HM]
  · iexists f
    isplitr; · ipureintro; exact hf
    iexact HM
  rw [hat.same]
  iexact HB

/-- A store through a rectangle lays its value over it. -/
theorem read_store {κ : Kind} {sp : Space} {s : Shape} {e : EltTy} (N : Memref sig κ sp s e) (r : Rect s) (f : N.view.ty.Contents Val) (w : r.shape.Idx → Val e) :
    N.view.read Val ((N.access r).write Val f w Finset.univ) = r.overlay (N.view.read Val f) w := by
  funext j
  by_cases hj : j ∈ r.set
  · obtain ⟨i, rfl⟩ := r.toLoadRect.exists_idx_of_mem hj
    rw [show r.toLoadRect.idx i = r.emb i from rfl, Rect.overlay_emb]
    exact View.read_slice_write_emb _ _ _ (Finset.mem_univ _)
  · rw [Rect.overlay_of_not_mem _ _ _ hj]
    exact View.read_slice_write_of_not_mem _ _ _ _ (by rw [Rect.map_emb_univ]; exact hj)

theorem Runs.store {c : Thread nD τ} {B : S → sProp 𝕄} {σ : S} {cs : CoreSpace} {s : Shape} {e : EltTy} {N : Memref sig c.2.kind cs s e}
    {get : S → s.Idx → Val e} {put : S → (s.Idx → Val e) → S} [hat : At c B N get put] {r : Rect s} {w : r.shape.Idx → Val e}
    {hx : (N.access r).Stores Finset.univ} {hm : Finset.univ = Finset.univ ∨ ∀ a, r.stride a = 1}
    {Q : PUnit → S → Prop} (h : Q ⟨⟩ (put σ (r.overlay (get σ) w))) :
    Runs defs 𝒱 c B σ (Prog.lift (.store N r w Finset.univ hx hm)) Q := by
  unfold Runs Prog.lift
  iintro H
  ihave ⟨HM, HK⟩ := hat.out σ $$ H
  unfold owns
  icases HM with ⟨%f, %hf, HM⟩
  iapply (wp_store (m := N) (r := r) (w := w) (Mk := Finset.univ) (hx := hx) (hm := hm) (k := .ret) (f := f) 𝒱 c none Set.univ ((View.setOn_subset_set _ _).trans (View.set_slice_subset N.view r))) $$ HM
  iintro HM
  iapply (exec_ret _ _ _ _ _ .rfl)
  iexists (put σ (r.overlay (get σ) w))
  isplitr; · ipureintro; exact h
  iapply HK
  iexists ((N.access r).write Val f w Finset.univ)
  isplitr
  · ipureintro; rw [← hf]; exact read_store N r f w
  iexact HM

/-- Reading back the rectangle just laid over. -/
theorem ld_self {s : Shape} {α : Type} {off size : Fin s.rank → ℕ} {inb inb' : ∀ a, off a + size a ≤ s.size a} (X : s.Idx → α)
    (w : (Rect.unit off size inb).shape.Idx → α) : ld ((Rect.unit off size inb).overlay X w) (Rect.unit off size inb').toLoadRect = w := by
  funext i
  exact Rect.overlay_emb _ _ _ i

/-- Reading a rectangle apart from the one laid over. -/
theorem ld_apart {s : Shape} {α : Type} {off off' size size' : Fin s.rank → ℕ} {inb : ∀ a, off a + size a ≤ s.size a} {inb' : ∀ a, off' a + size' a ≤ s.size a}
    (X : s.Idx → α) (w : (Rect.unit off size inb).shape.Idx → α) (a : Fin s.rank) (h : off a + size a ≤ off' a ∨ off' a + size' a ≤ off a) :
    ld ((Rect.unit off size inb).overlay X w) (Rect.unit off' size' inb').toLoadRect = ld X (Rect.unit off' size' inb').toLoadRect := by
  funext i
  refine Rect.overlay_of_not_mem _ _ _ fun hm => ?_
  exact Finset.disjoint_left.mp (Rect.unit_disjoint (inb := inb) (inb' := inb') a h) hm ((Rect.unit off' size' inb').toLoadRect.idx_mem i)

end Exact

end
-- ==== Proof.FoxFwdState.lean ====
/- What the attention's forward body holds: its blocks and its scratch, at named contents. -/
module

public import proofs.«01_k».proof.Proof.Gen.Kernel11Ideal.Launch
public import proofs.«01_k».proof.Proof.Gen.Kernel11Ideal.Points
public import proofs.«01_k».proof.Proof.Gen.Kernel11Ideal.Skeleton
public import proofs.«01_k».proof.Proof.Exact

@[expose] public section

noncomputable section

namespace Cert.FoxFwd

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Exact

variable {F : FTy → Type} [FloatOps F] [Named F]

/-- The contents of the blocks and of the scratch. -/
structure St (F : FTy → Type) where
  /-- The queries. -/
  x1 : S2x256x512.Idx → Elt F .f32
  /-- The keys of the first sequence. -/
  x2 : S512x512.Idx → Elt F .bf16
  /-- The keys of the second. -/
  x3 : S512x512.Idx → Elt F .bf16
  /-- The values. -/
  x4 : S2x512x512.Idx → Elt F .f32
  /-- The decays by columns. -/
  x5 : S2x256x128.Idx → Elt F .f32
  /-- The decays by rows. -/
  x6 : S2x8x512.Idx → Elt F .f32
  /-- The output. -/
  o : S2x256x512.Idx → Elt F .f32
  /-- The logarithm of the row sums. -/
  l : S2x8x256.Idx → Elt F .f32
  /-- The running maximum. -/
  m : S2x8x256x128.Idx → Elt F .f32
  /-- The running sums. -/
  a : S2x8x256x128.Idx → Elt F .f32
  /-- The decays of the rows, filled. -/
  g : S2x8x256x128.Idx → Elt F .f32

/-- The blocks and the scratch, owned at contents `σ`, beside `E`. -/
def own (E : sProp (MT nD τ sig Unit (Elt F) ℕ (UR sig nD τ) ℕ)) (c : Dev nD)
    (arg1 : Memref sig .tc .vmem S2x256x512 .f32)
    (arg2 : Memref sig .tc .vmem S512x512 .bf16)
    (arg3 : Memref sig .tc .vmem S512x512 .bf16)
    (arg4 : Memref sig .tc .vmem S2x512x512 .f32)
    (arg5 : Memref sig .tc .vmem S2x256x128 .f32)
    (arg6 : Memref sig .tc .vmem S2x8x512 .f32)
    (arg7 : Memref sig .tc .vmem S2x256x512 .f32)
    (arg8 : Memref sig .tc .vmem S2x8x256 .f32)
    (arg9 : Memref sig .tc .vmem S2x8x256x128 .f32)
    (arg10 : Memref sig .tc .vmem S2x8x256x128 .f32)
    (arg11 : Memref sig .tc .vmem S2x8x256x128 .f32)
    (σ : St F) : sProp (MT nD τ sig Unit (Elt F) ℕ (UR sig nD τ) ℕ) :=
  iprop(owns (c : Thread nD τ) arg1 fullShare σ.x1 ∗ owns (c : Thread nD τ) arg2 fullShare σ.x2 ∗ owns (c : Thread nD τ) arg3 fullShare σ.x3 ∗ owns (c : Thread nD τ) arg4 fullShare σ.x4 ∗ owns (c : Thread nD τ) arg5 fullShare σ.x5 ∗ owns (c : Thread nD τ) arg6 fullShare σ.x6 ∗ owns (c : Thread nD τ) arg7 fullShare σ.o ∗ owns (c : Thread nD τ) arg8 fullShare σ.l ∗ owns (c : Thread nD τ) arg9 fullShare σ.m ∗ owns (c : Thread nD τ) arg10 fullShare σ.a ∗ owns (c : Thread nD τ) arg11 fullShare σ.g ∗ E)

variable {E : sProp (MT nD τ sig Unit (Elt F) ℕ (UR sig nD τ) ℕ)} {c : Dev nD}
  {arg1 : Memref sig .tc .vmem S2x256x512 .f32}
  {arg2 : Memref sig .tc .vmem S512x512 .bf16}
  {arg3 : Memref sig .tc .vmem S512x512 .bf16}
  {arg4 : Memref sig .tc .vmem S2x512x512 .f32}
  {arg5 : Memref sig .tc .vmem S2x256x128 .f32}
  {arg6 : Memref sig .tc .vmem S2x8x512 .f32}
  {arg7 : Memref sig .tc .vmem S2x256x512 .f32}
  {arg8 : Memref sig .tc .vmem S2x8x256 .f32}
  {arg9 : Memref sig .tc .vmem S2x8x256x128 .f32}
  {arg10 : Memref sig .tc .vmem S2x8x256x128 .f32}
  {arg11 : Memref sig .tc .vmem S2x8x256x128 .f32}

instance at_x1 : At (S := St F) (c : Thread nD τ) (own E c arg1 arg2 arg3 arg4 arg5 arg6 arg7 arg8 arg9 arg10 arg11) arg1 (fun σ => σ.x1) (fun σ X => { σ with x1 := X }) where
  same _ := rfl
  out σ := by
    unfold own
    iintro ⟨H0, H1, H2, H3, H4, H5, H6, H7, H8, H9, H10, HE⟩
    isplitl [H0]; · iexact H0
    iintro %X H0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

instance at_x2 : At (S := St F) (c : Thread nD τ) (own E c arg1 arg2 arg3 arg4 arg5 arg6 arg7 arg8 arg9 arg10 arg11) arg2 (fun σ => σ.x2) (fun σ X => { σ with x2 := X }) where
  same _ := rfl
  out σ := by
    unfold own
    iintro ⟨H0, H1, H2, H3, H4, H5, H6, H7, H8, H9, H10, HE⟩
    isplitl [H1]; · iexact H1
    iintro %X H1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

instance at_x3 : At (S := St F) (c : Thread nD τ) (own E c arg1 arg2 arg3 arg4 arg5 arg6 arg7 arg8 arg9 arg10 arg11) arg3 (fun σ => σ.x3) (fun σ X => { σ with x3 := X }) where
  same _ := rfl
  out σ := by
    unfold own
    iintro ⟨H0, H1, H2, H3, H4, H5, H6, H7, H8, H9, H10, HE⟩
    isplitl [H2]; · iexact H2
    iintro %X H2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

instance at_x4 : At (S := St F) (c : Thread nD τ) (own E c arg1 arg2 arg3 arg4 arg5 arg6 arg7 arg8 arg9 arg10 arg11) arg4 (fun σ => σ.x4) (fun σ X => { σ with x4 := X }) where
  same _ := rfl
  out σ := by
    unfold own
    iintro ⟨H0, H1, H2, H3, H4, H5, H6, H7, H8, H9, H10, HE⟩
    isplitl [H3]; · iexact H3
    iintro %X H3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

instance at_x5 : At (S := St F) (c : Thread nD τ) (own E c arg1 arg2 arg3 arg4 arg5 arg6 arg7 arg8 arg9 arg10 arg11) arg5 (fun σ => σ.x5) (fun σ X => { σ with x5 := X }) where
  same _ := rfl
  out σ := by
    unfold own
    iintro ⟨H0, H1, H2, H3, H4, H5, H6, H7, H8, H9, H10, HE⟩
    isplitl [H4]; · iexact H4
    iintro %X H4
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

instance at_x6 : At (S := St F) (c : Thread nD τ) (own E c arg1 arg2 arg3 arg4 arg5 arg6 arg7 arg8 arg9 arg10 arg11) arg6 (fun σ => σ.x6) (fun σ X => { σ with x6 := X }) where
  same _ := rfl
  out σ := by
    unfold own
    iintro ⟨H0, H1, H2, H3, H4, H5, H6, H7, H8, H9, H10, HE⟩
    isplitl [H5]; · iexact H5
    iintro %X H5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

instance at_o : At (S := St F) (c : Thread nD τ) (own E c arg1 arg2 arg3 arg4 arg5 arg6 arg7 arg8 arg9 arg10 arg11) arg7 (fun σ => σ.o) (fun σ X => { σ with o := X }) where
  same _ := rfl
  out σ := by
    unfold own
    iintro ⟨H0, H1, H2, H3, H4, H5, H6, H7, H8, H9, H10, HE⟩
    isplitl [H6]; · iexact H6
    iintro %X H6
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

instance at_l : At (S := St F) (c : Thread nD τ) (own E c arg1 arg2 arg3 arg4 arg5 arg6 arg7 arg8 arg9 arg10 arg11) arg8 (fun σ => σ.l) (fun σ X => { σ with l := X }) where
  same _ := rfl
  out σ := by
    unfold own
    iintro ⟨H0, H1, H2, H3, H4, H5, H6, H7, H8, H9, H10, HE⟩
    isplitl [H7]; · iexact H7
    iintro %X H7
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

instance at_m : At (S := St F) (c : Thread nD τ) (own E c arg1 arg2 arg3 arg4 arg5 arg6 arg7 arg8 arg9 arg10 arg11) arg9 (fun σ => σ.m) (fun σ X => { σ with m := X }) where
  same _ := rfl
  out σ := by
    unfold own
    iintro ⟨H0, H1, H2, H3, H4, H5, H6, H7, H8, H9, H10, HE⟩
    isplitl [H8]; · iexact H8
    iintro %X H8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

instance at_a : At (S := St F) (c : Thread nD τ) (own E c arg1 arg2 arg3 arg4 arg5 arg6 arg7 arg8 arg9 arg10 arg11) arg10 (fun σ => σ.a) (fun σ X => { σ with a := X }) where
  same _ := rfl
  out σ := by
    unfold own
    iintro ⟨H0, H1, H2, H3, H4, H5, H6, H7, H8, H9, H10, HE⟩
    isplitl [H9]; · iexact H9
    iintro %X H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

instance at_g : At (S := St F) (c : Thread nD τ) (own E c arg1 arg2 arg3 arg4 arg5 arg6 arg7 arg8 arg9 arg10 arg11) arg11 (fun σ => σ.g) (fun σ X => { σ with g := X }) where
  same _ := rfl
  out σ := by
    unfold own
    iintro ⟨H0, H1, H2, H3, H4, H5, H6, H7, H8, H9, H10, HE⟩
    isplitl [H10]; · iexact H10
    iintro %X H10
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HE

/-- A head's slot of the scratch, read after a store to a slot. -/
theorem ld_slot {α : Type} (e h e' h' : ℕ) (inb : ∀ a, ![e, h, 0, 0] a + ![1, 1, 256, 128] a ≤ S2x8x256x128.size a)
    (inb' : ∀ a, ![e', h', 0, 0] a + ![1, 1, 256, 128] a ≤ S2x8x256x128.size a) (X : S2x8x256x128.Idx → α) (w : S1x1x256x128.Idx → α) :
    ld ((Rect.unit (s := S2x8x256x128) ![e, h, 0, 0] ![1, 1, 256, 128] inb).overlay X w)
        (Rect.unit (s := S2x8x256x128) ![e', h', 0, 0] ![1, 1, 256, 128] inb').toLoadRect
      = if e = e' ∧ h = h' then w else ld X (Rect.unit (s := S2x8x256x128) ![e', h', 0, 0] ![1, 1, 256, 128] inb').toLoadRect := by
  split
  · rename_i hh; obtain ⟨rfl, rfl⟩ := hh; exact ld_self _ _
  · rename_i hh
    by_cases h1 : e = e'
    · refine ld_apart _ _ 1 ?_
      have : h ≠ h' := fun h2 => hh ⟨h1, h2⟩
      simp only [Matrix.cons_val_one, Matrix.cons_val_zero]
      show h + 1 ≤ h' ∨ h' + 1 ≤ h
      omega
    · refine ld_apart _ _ 0 ?_
      show e + 1 ≤ e' ∨ e' + 1 ≤ e
      omega

end Cert.FoxFwd

end
-- ==== Proof.FoxFwdOps.lean ====
/- The attention's forward block, by head: what one block of keys does to the running maximum and sums. -/
module

public import proofs.«01_k».proof.Proof.FoxFwdState

@[expose] public section

noncomputable section

namespace Cert.FoxFwd

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Exact

variable {F : FTy → Type} [FloatOps F] [Named F]

/-- A head’s slot of the scratch. -/
def sl (e h : ℕ) (he : e < 2) (hh : h < 8) : LoadRect S2x8x256x128 :=
  (Rect.unit (s := S2x8x256x128) ![e, h, 0, 0] ![1, 1, 256, 128] (by
    intro a
    match a with
    | ⟨0, _⟩ => show e + 1 ≤ 2; omega
    | ⟨1, _⟩ => show h + 1 ≤ 8; omega
    | ⟨2, _⟩ => show 0 + 256 ≤ 256; omega
    | ⟨3, _⟩ => show 0 + 128 ≤ 128; omega)).toLoadRect

/-- The pair of heads’ queries. -/
def qr (e h : ℕ) (he : e < 2) (hh : h < 8) : LoadRect S2x256x512 :=
  (Rect.unit (s := S2x256x512) ![e, 0, 128 * (h / 2)] ![1, 256, 128] (by
    intro a
    match a with
    | ⟨0, _⟩ => show e + 1 ≤ 2; omega
    | ⟨1, _⟩ => show 0 + 256 ≤ 256; omega
    | ⟨2, _⟩ => show 128 * (h / 2) + 128 ≤ 512; omega)).toLoadRect

/-- The pair of heads’ keys. -/
def kr (h sub : ℕ) (hh : h < 8) (hs : sub < 2) : LoadRect S512x512 :=
  (Rect.unit (s := S512x512) ![128 * (h / 2), 256 * sub] ![128, 256] (by
    intro a
    match a with
    | ⟨0, _⟩ => show 128 * (h / 2) + 128 ≤ 512; omega
    | ⟨1, _⟩ => show 256 * sub + 256 ≤ 512; omega)).toLoadRect

/-- The pair of heads’ values. -/
def vr (e h sub : ℕ) (he : e < 2) (hh : h < 8) (hs : sub < 2) : LoadRect S2x512x512 :=
  (Rect.unit (s := S2x512x512) ![e, 256 * sub, 128 * (h / 2)] ![1, 256, 128] (by
    intro a
    match a with
    | ⟨0, _⟩ => show e + 1 ≤ 2; omega
    | ⟨1, _⟩ => show 256 * sub + 256 ≤ 512; omega
    | ⟨2, _⟩ => show 128 * (h / 2) + 128 ≤ 512; omega)).toLoadRect

/-- A head’s decays over the keys. -/
def cr (e h sub : ℕ) (he : e < 2) (hh : h < 8) (hs : sub < 2) : LoadRect S2x8x512 :=
  (Rect.unit (s := S2x8x512) ![e, h, 256 * sub] ![1, 1, 256] (by
    intro a
    match a with
    | ⟨0, _⟩ => show e + 1 ≤ 2; omega
    | ⟨1, _⟩ => show h + 1 ≤ 8; omega
    | ⟨2, _⟩ => show 256 * sub + 256 ≤ 512; omega)).toLoadRect

/-- A head’s decays over the rows. -/
def xr (e h : ℕ) (he : e < 2) (hh : h < 8) : LoadRect S2x256x128 :=
  (Rect.unit (s := S2x256x128) ![e, 0, h] ![1, 256, 1] (by
    intro a
    match a with
    | ⟨0, _⟩ => show e + 1 ≤ 2; omega
    | ⟨1, _⟩ => show 0 + 256 ≤ 256; omega
    | ⟨2, _⟩ => show h + 1 ≤ 128; omega)).toLoadRect

/-- A pair of heads’ output. -/
def orr (e p : ℕ) (he : e < 2) (hp : p < 4) : LoadRect S2x256x512 :=
  (Rect.unit (s := S2x256x512) ![e, 0, 128 * p] ![1, 256, 128] (by
    intro a
    match a with
    | ⟨0, _⟩ => show e + 1 ≤ 2; omega
    | ⟨1, _⟩ => show 0 + 256 ≤ 256; omega
    | ⟨2, _⟩ => show 128 * p + 128 ≤ 512; omega)).toLoadRect

/-- A sequence’s logarithms. -/
def lr (e : ℕ) (he : e < 2) : LoadRect S2x8x256 :=
  (Rect.unit (s := S2x8x256) ![e, 0, 0] ![1, 8, 256] (by
    intro a
    match a with
    | ⟨0, _⟩ => show e + 1 ≤ 2; omega
    | ⟨1, _⟩ => show 0 + 8 ≤ 8; omega
    | ⟨2, _⟩ => show 0 + 256 ≤ 256; omega)).toLoadRect

/-- The lanes a head has of its pair. -/
def lanes (h : ℕ) : IVec S1x128 1 := if h % 2 = 0 then k0_pay22 else k0_pay29 k0_pay22

/-- Lanes as a mask of rows. -/
def rows (L : IVec S1x128 1) : IVec S256x128 1 := broadcastTo S256x128 (shapeCast S1x128 L shapeCasts_S1x128_S1x128) broadcasts_S1x128_S256x128

/-- The scores of a block of keys. -/
def scr (L : IVec S1x128 1) (q : Vec F S1x256x128 .f32) (k : Vec F S128x256 .bf16) (g : Vec F S1x1x256x128 .f32) (r : Vec F S1x1x256 .f32) : FVec F S256x256 .f32 :=
  addf (matmul dot_S256x128_S128x256_S256x256_1_0_0_1_n_n none
      (truncf .bf16 (select (rows L) (mulf (shapeCast S256x128 q shapeCasts_S1x256x128_S256x128) (broadcast S256x128 (Scalar.ofBits .f32 0x3E000000#32 : F .f32)))
        (broadcast S256x128 (Scalar.ofBits .f32 0x00000000#32 : F .f32))) bitsLt_bf16_f32)
      (shapeCast S128x256 k shapeCasts_S128x256_S128x256) (constant S256x256 .f32 0x00000000#32))
    (subf (concatenate S256x256 1 [⟨S256x128, shapeCast S256x128 g shapeCasts_S1x1x256x128_S256x128⟩, ⟨S256x128, shapeCast S256x128 g shapeCasts_S1x1x256x128_S256x128⟩]
        concatenates_S256x128_S256x128_S256x256_d1)
      (broadcastTo S256x256 (shapeCast S1x256 r shapeCasts_S1x1x256_S1x256) broadcasts_S1x256_S256x256))

/-- The scores, with the keys after the row left out. -/
def scm (msk : Bool) (s : FVec F S256x256 .f32) : FVec F S256x256 .f32 :=
  match msk with
  | false => s
  | true => select k0_pay149 s (broadcast S256x256 (Named.named κ "mask" 0xF149F2CA#32 : F .f32))

/-- The new running maximum, by rows. -/
def mx (s : FVec F S256x256 .f32) (mp : Vec F S1x1x256x128 .f32) : FVec F S256x128 .f32 :=
  maximumf (shapeCast S256x128 mp shapeCasts_S1x1x256x128_S256x128)
    (broadcastTo S256x128 (shapeCast S256x1 (multiReduction .maximumf [1] S256 s 0xFF800000#32 reduces_S256x256_S256 (.inl rfl) rfl) shapeCasts_S256_S256x1) broadcasts_S256x1_S256x128)

/-- The new running maximum. -/
def nM (s : FVec F S256x256 .f32) (mp : Vec F S1x1x256x128 .f32) : FVec F S1x1x256x128 .f32 := shapeCast S1x1x256x128 (mx s mp) shapeCasts_S256x128_S1x1x256x128

/-- The new running sums. -/
def nA (L : IVec S1x128 1) (s : FVec F S256x256 .f32) (mp : Vec F S1x1x256x128 .f32) (v : Vec F S1x256x128 .f32) (a : Vec F S1x1x256x128 .f32) : FVec F S1x1x256x128 .f32 :=
  shapeCast S1x1x256x128 (addf
    (mulf (exp (subf (shapeCast S256x128 mp shapeCasts_S1x1x256x128_S256x128) (mx s mp))) (shapeCast S256x128 a shapeCasts_S1x1x256x128_S256x128))
    (matmul dot_S256x256_S256x128_S256x128_1_0_0_1_n_n none
      (truncf .bf16 (exp (subf s (concatenate S256x256 1 [⟨S256x128, mx s mp⟩, ⟨S256x128, mx s mp⟩] concatenates_S256x128_S256x128_S256x256_d1))) bitsLt_bf16_f32)
      (truncf .bf16 (select (rows L) (shapeCast S256x128 v shapeCasts_S1x256x128_S256x128) (broadcast S256x128 (Scalar.ofBits .f32 0x3F800000#32 : F .f32))) bitsLt_bf16_f32)
      (constant S256x128 .f32 0x00000000#32))) shapeCasts_S256x128_S1x1x256x128

/-- The keys of one sequence. -/
def St.keys (σ : St F) (e : ℕ) : S512x512.Idx → Elt F .bf16 := if e = 0 then σ.x2 else σ.x3

/-- The scores a head meets in the state, of one half of the block of keys. -/
def St.scores (σ : St F) (msk : Bool) (e h sub : ℕ) (he : e < 2) (hh : h < 8) (hs : sub < 2) : FVec F S256x256 .f32 :=
  scm msk (scr (lanes h) (ld σ.x1 (qr e h he hh)) (ld (σ.keys e) (kr h sub hh hs)) (ld σ.g (sl e h he hh)) (ld σ.x6 (cr e h sub he hh hs)))

/-- The blocks and the filled decays as they were. -/
def Same (σ s : St F) : Prop := s.x1 = σ.x1 ∧ s.x2 = σ.x2 ∧ s.x3 = σ.x3 ∧ s.x4 = σ.x4 ∧ s.x5 = σ.x5 ∧ s.x6 = σ.x6

/-- What one half of a block of keys leaves. -/
def Upd (msk : Bool) (sub : ℕ) (hs : sub < 2) (σ s : St F) : Prop :=
  Same σ s ∧ s.g = σ.g ∧ ∀ (e : ℕ) (he : e < 2) (h : ℕ) (hh : h < 8),
    ld s.m (sl e h he hh) = nM (σ.scores msk e h sub he hh hs) (ld σ.m (sl e h he hh))
    ∧ ld s.a (sl e h he hh) = nA (lanes h) (σ.scores msk e h sub he hh hs) (ld σ.m (sl e h he hh)) (ld σ.x4 (vr e h sub he hh hs)) (ld σ.a (sl e h he hh))

/-- What the start leaves. -/
def Init (σ s : St F) : Prop :=
  Same σ s ∧ ∀ (e : ℕ) (he : e < 2) (h : ℕ) (hh : h < 8),
    ld s.m (sl e h he hh) = (fun _ => Scalar.ofBits .f32 0xFF800000#32)
    ∧ ld s.a (sl e h he hh) = (fun _ => Scalar.ofBits .f32 0x00000000#32)
    ∧ ld s.g (sl e h he hh) = k0_pay4 (ld σ.x5 (xr e h he hh))

/-- A column put in. -/
def put (x : FVec F S256x128 .f32) (n : BitVec 32) (v : FVec F S256x128 .f32) : FVec F S256x128 .f32 :=
  select (cmpi .eq (iota .tc S256x128 32 [1] iota_S256x128_d1_w32) (broadcast S256x128 n)) v x

/-- A slot as rows and lanes. -/
abbrev flat (x : Vec F S1x1x256x128 .f32) : FVec F S256x128 .f32 := shapeCast S256x128 x shapeCasts_S1x1x256x128_S256x128

/-- The logarithms of the row sums, from the slots. -/
def finL (M A : (h : ℕ) → h < 8 → Vec F S1x1x256x128 .f32) : FVec F S1x8x256 .f32 :=
  shapeCast S1x8x256 (extractStridedSlice S8x256 ![0, 0] (transpose S128x256 [1, 0] (addf
    (put (put (put (put (put (put (put (put (broadcast S256x128 (Scalar.ofBits .f32 0x00000000#32 : F .f32)) 0#32 (flat (M 0 (by omega)))) 1#32 (flat (M 1 (by omega)))) 2#32 (flat (M 2 (by omega))))
      3#32 (flat (M 3 (by omega)))) 4#32 (flat (M 4 (by omega)))) 5#32 (flat (M 5 (by omega)))) 6#32 (flat (M 6 (by omega)))) 7#32 (flat (M 7 (by omega))))
    (log (put (put (put (put (put (put (put (put (broadcast S256x128 (Scalar.ofBits .f32 0x3F800000#32 : F .f32)) 0#32 (k0_pay546 (A 0 (by omega)) (A 1 (by omega)))) 1#32 (flat (A 1 (by omega))))
      2#32 (k0_pay546 (A 2 (by omega)) (A 3 (by omega)))) 3#32 (flat (A 3 (by omega)))) 4#32 (k0_pay546 (A 4 (by omega)) (A 5 (by omega)))) 5#32 (flat (A 5 (by omega))))
      6#32 (k0_pay546 (A 6 (by omega)) (A 7 (by omega)))) 7#32 (flat (A 7 (by omega))))))
    transposes_S256x128_p1_0_S128x256) slices_S128x256_o0_0_S8x256) shapeCasts_S8x256_S1x8x256

/-- What the end leaves. -/
def Fini (σ s : St F) : Prop :=
  Same σ s ∧ (∀ (e : ℕ) (he : e < 2) (p : ℕ) (hp : p < 4),
      ld s.o (orr e p he hp) = k0_pay547 (ld σ.a (sl e (2 * p) he (by omega))) (ld σ.a (sl e (2 * p + 1) he (by omega))))
    ∧ ∀ (e : ℕ) (he : e < 2), ld s.l (lr e he) = finL (fun h hh => ld σ.m (sl e h he hh)) (fun h hh => ld σ.a (sl e h he hh))

/-- A block of a pair's output, read after a store to one. -/
theorem ld_slotO {α : Type} (e p e' p' : ℕ) (inb : ∀ a, ![e, 0, p] a + ![1, 256, 128] a ≤ S2x256x512.size a)
    (inb' : ∀ a, ![e', 0, p'] a + ![1, 256, 128] a ≤ S2x256x512.size a) (X : S2x256x512.Idx → α) (w : S1x256x128.Idx → α)
    (hp : p = p' ∨ p + 128 ≤ p' ∨ p' + 128 ≤ p) :
    ld ((Rect.unit (s := S2x256x512) ![e, 0, p] ![1, 256, 128] inb).overlay X w) (Rect.unit (s := S2x256x512) ![e', 0, p'] ![1, 256, 128] inb').toLoadRect
      = if e = e' ∧ p = p' then w else ld X (Rect.unit (s := S2x256x512) ![e', 0, p'] ![1, 256, 128] inb').toLoadRect := by
  split
  · rename_i hh; obtain ⟨rfl, rfl⟩ := hh; exact ld_self _ _
  · rename_i hh
    by_cases h1 : e = e'
    · refine ld_apart _ _ 2 ?_
      have : p ≠ p' := fun h2 => hh ⟨h1, h2⟩
      show p + 128 ≤ p' ∨ p' + 128 ≤ p
      omega
    · refine ld_apart _ _ 0 ?_
      show e + 1 ≤ e' ∨ e' + 1 ≤ e
      omega

/-- A sequence's logarithms, read after a store to them. -/
theorem ld_slotL {α : Type} (e e' : ℕ) (inb : ∀ a, ![e, 0, 0] a + ![1, 8, 256] a ≤ S2x8x256.size a)
    (inb' : ∀ a, ![e', 0, 0] a + ![1, 8, 256] a ≤ S2x8x256.size a) (X : S2x8x256.Idx → α) (w : S1x8x256.Idx → α) :
    ld ((Rect.unit (s := S2x8x256) ![e, 0, 0] ![1, 8, 256] inb).overlay X w) (Rect.unit (s := S2x8x256) ![e', 0, 0] ![1, 8, 256] inb').toLoadRect
      = if e = e' then w else ld X (Rect.unit (s := S2x8x256) ![e', 0, 0] ![1, 8, 256] inb').toLoadRect := by
  split
  · rename_i hh; obtain rfl := hh; exact ld_self _ _
  · refine ld_apart _ _ 0 ?_
    show e + 1 ≤ e' ∨ e' + 1 ≤ e
    omega

/-- A whole buffer, read after it was filled. -/
theorem overlay_all {s : Shape} {α : Type} {off : Fin s.rank → ℕ} (hoff : ∀ a, off a = 0) (inb : ∀ a, off a + s.size a ≤ s.size a) (X : s.Idx → α) (w : s.Idx → α) :
    (Rect.unit off s.size inb).overlay X w = w := by
  funext y
  refine Eq.trans (congrArg _ ?_) (Rect.overlay_emb (Rect.unit off s.size inb) X w y)
  funext a
  refine Fin.ext ?_
  show (y a : ℕ) = off a + 1 * (y a : ℕ)
  rw [hoff, Nat.zero_add, Nat.one_mul]

/-- The whole scratch, read after it was filled. -/
theorem ld_full {α : Type} (inb : ∀ a, ![0, 0, 0, 0] a + ![2, 8, 256, 128] a ≤ S2x8x256x128.size a) (X : S2x8x256x128.Idx → α) (w : S2x8x256x128.Idx → α) (r : LoadRect S2x8x256x128) :
    ld ((Rect.unit (s := S2x8x256x128) ![0, 0, 0, 0] ![2, 8, 256, 128] inb).overlay X w) r = ld w r := by
  have h0 : ∀ a : Fin 4, (![0, 0, 0, 0] : Fin 4 → ℕ) a = 0 := by decide
  exact congrArg (fun Y => ld Y r) (overlay_all (s := S2x8x256x128) h0 inb X w)

end Cert.FoxFwd

end
-- ==== Proof.FoxFwdSeg1.lean ====
/- The attention’s forward block: the start of a row of blocks. -/
module

public import proofs.«01_k».proof.Proof.FoxFwdOps

@[expose] public section

noncomputable section

namespace Cert.FoxFwd

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Exact

variable {F : FTy → Type} [FloatOps F] [Named F]

/-- The start of a row of blocks. Then `K`. -/
def segP1 {β : Type} (i : grid0.Coords) (arg1 : Memref sig .tc .vmem S2x256x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2x512x512 .f32) (harg4 : arg4.IsWhole) (arg5 : Memref sig .tc .vmem S2x256x128 .f32) (harg5 : arg5.IsWhole) (arg6 : Memref sig .tc .vmem S2x8x512 .f32) (harg6 : arg6.IsWhole) (arg7 : Memref sig .tc .vmem S2x256x512 .f32) (harg7 : arg7.IsWhole) (arg8 : Memref sig .tc .vmem S2x8x256 .f32) (harg8 : arg8.IsWhole) (arg9 : Memref sig .tc .vmem S2x8x256x128 .f32) (harg9 : arg9.IsWhole) (arg10 : Memref sig .tc .vmem S2x8x256x128 .f32) (harg10 : arg10.IsWhole) (arg11 : Memref sig .tc .vmem S2x8x256x128 .f32) (harg11 : arg11.IsWhole)
    (K : PUnit → Prog (TpuEff nD τ sig (Elt F) Λ₀ .tc) β) : Prog (TpuEff nD τ sig (Elt F) Λ₀ .tc) β := do
      let v111 : FVec F S256x128 .f32 ← k0_part1 i arg1 harg1 arg2 harg2 arg3 harg3 arg4 harg4 arg5 harg5 arg6 harg6 arg7 harg7 arg8 harg8 arg9 harg9 arg10 harg10 arg11 harg11
      let v139 : FVec F S256x128 .f32 ← k0_part2 i arg1 harg1 arg2 harg2 arg3 harg3 arg4 harg4 arg5 harg5 arg6 harg6 arg7 harg7 arg8 harg8 arg9 harg9 arg10 harg10 arg11 harg11 v111
      let v167 : FVec F S256x128 .f32 ← k0_part3 i arg1 harg1 arg2 harg2 arg3 harg3 arg4 harg4 arg5 harg5 arg6 harg6 arg7 harg7 arg8 harg8 arg9 harg9 arg10 harg10 arg11 harg11 v139
      let v195 : FVec F S256x128 .f32 ← k0_part4 i arg1 harg1 arg2 harg2 arg3 harg3 arg4 harg4 arg5 harg5 arg6 harg6 arg7 harg7 arg8 harg8 arg9 harg9 arg10 harg10 arg11 harg11 v167
      let v196 : Vec F S1x1x256x128 .f32 ← Prog.lift (.load arg11 (Rect.unit (s := S2x8x256x128) ![1, 6, 0, 0] S1x1x256x128.size inb_S2x8x256x128_S1x1x256x128_1_6_0_0).toLoadRect (View.loadsAt_vmem h_S1x1x256x128))
      Prog.lift (.store arg11 (Rect.unit (s := S2x8x256x128) ![1, 6, 0, 0] S1x1x256x128.size inb_S2x8x256x128_S1x1x256x128_1_6_0_0) (k0_pay600 v195) Finset.univ (View.stores_vmem_bits_univ h_S1x1x256x128 rfl) (.inl rfl))
      let v199 : Vec F S1x256x1 .f32 ← Prog.lift (.load arg5 (Rect.unit (s := S2x256x128) ![1, 0, 7] S1x256x1.size inb_S2x256x128_S1x256x1_1_0_7).toLoadRect (View.loadsAt_vmem h_S1x256x1))
      let v203 : Vec F S1x1x256x128 .f32 ← Prog.lift (.load arg11 (Rect.unit (s := S2x8x256x128) ![1, 7, 0, 0] S1x1x256x128.size inb_S2x8x256x128_S1x1x256x128_1_7_0_0).toLoadRect (View.loadsAt_vmem h_S1x1x256x128))
      Prog.lift (.store arg11 (Rect.unit (s := S2x8x256x128) ![1, 7, 0, 0] S1x1x256x128.size inb_S2x8x256x128_S1x1x256x128_1_7_0_0) (k0_pay601 v199) Finset.univ (View.stores_vmem_bits_univ h_S1x1x256x128 rfl) (.inl rfl))
      K ⟨⟩

variable {E : sProp (MT nD τ sig Unit (Elt F) ℕ (UR sig nD τ) ℕ)} {c : Dev nD}
  {arg1 : Memref sig .tc .vmem S2x256x512 .f32}
  {arg2 : Memref sig .tc .vmem S512x512 .bf16}
  {arg3 : Memref sig .tc .vmem S512x512 .bf16}
  {arg4 : Memref sig .tc .vmem S2x512x512 .f32}
  {arg5 : Memref sig .tc .vmem S2x256x128 .f32}
  {arg6 : Memref sig .tc .vmem S2x8x512 .f32}
  {arg7 : Memref sig .tc .vmem S2x256x512 .f32}
  {arg8 : Memref sig .tc .vmem S2x8x256 .f32}
  {arg9 : Memref sig .tc .vmem S2x8x256x128 .f32}
  {arg10 : Memref sig .tc .vmem S2x8x256x128 .f32}
  {arg11 : Memref sig .tc .vmem S2x8x256x128 .f32}

  {defs : Defs nD τ sig (Elt F) Λ₀} {𝒱 : Variants} (i : grid0.Coords)
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}

set_option maxHeartbeats 0 in
set_option maxRecDepth 65536 in
/-- What it leaves. -/
theorem seg1 (σ : St F)  {β : Type} {Q : β → St F → Prop} {K : PUnit → Prog (TpuEff nD τ sig (Elt F) Λ₀ .tc) β} (hQ : ∀ s, Init σ s → Runs defs 𝒱 (c : Thread nD τ) (own E c arg1 arg2 arg3 arg4 arg5 arg6 arg7 arg8 arg9 arg10 arg11) s (K ⟨⟩) Q) :
    Runs defs 𝒱 (c : Thread nD τ) (own E c arg1 arg2 arg3 arg4 arg5 arg6 arg7 arg8 arg9 arg10 arg11) σ (segP1 i arg1 harg1 arg2 harg2 arg3 harg3 arg4 harg4 arg5 harg5 arg6 harg6 arg7 harg7 arg8 harg8 arg9 harg9 arg10 harg10 arg11 harg11 K) Q := by
  unfold segP1
  repeat' first
    | with_reducible exact ⟨rfl, rfl⟩
    | with_reducible (show Runs _ _ _ _ _ (Pure.pure _) _; refine Runs.pure ?_; try dsimp only)
    | with_reducible (show Runs _ _ _ _ _ (Prog.lift (TpuEff.load _ _ _) >>= _) _; refine Runs.bind (Runs.load ?_); try dsimp only; try simp (decide := true) only [ld_slot, ↓reduceIte])
    | with_reducible (show Runs _ _ _ _ _ (Prog.lift (TpuEff.store _ _ _ _ _ _) >>= _) _; refine Runs.bind (Runs.store ?_); try dsimp only)
    | with_reducible (show Runs _ _ _ _ _ (_ >>= _) _; apply Runs.andThen)
    | simp only [k0_part1_eq_skeleton, k0_part1_skel, k0_part2_eq_skeleton, k0_part2_skel, k0_part3_eq_skeleton, k0_part3_skel, k0_part4_eq_skeleton, k0_part4_skel]
  refine hQ _ ⟨⟨rfl, rfl, rfl, rfl, rfl, rfl⟩, ?_⟩
  intro e he h hh
  refine ⟨?_, ?_, ?_⟩
  · dsimp only [sl]; rw [ld_full]; rfl
  · dsimp only [sl]; rw [ld_full]; rfl
  obtain rfl | rfl : e = 0 ∨ e = 1 := by omega
  all_goals
    obtain rfl | rfl | rfl | rfl | rfl | rfl | rfl | rfl : h = 0 ∨ h = 1 ∨ h = 2 ∨ h = 3 ∨ h = 4 ∨ h = 5 ∨ h = 6 ∨ h = 7 := by omega
    all_goals
      simp (decide := true) only [sl, qr, kr, vr, cr, xr, orr, lr, St.scores, St.keys, ld_slot, ld_slotO, ld_slotL, ld_full, ↓reduceIte] <;> rfl

end Cert.FoxFwd

end
-- ==== Proof.FoxFwdSeg2.lean ====
/- The attention’s forward block: the first half of a block of keys, before the diagonal. -/
module

public import proofs.«01_k».proof.Proof.FoxFwdOps

@[expose] public section

noncomputable section

namespace Cert.FoxFwd

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Exact

variable {F : FTy → Type} [FloatOps F] [Named F]

/-- The first half of a block of keys, before the diagonal. Then `K`. -/
def segP2 {β : Type} (i : grid0.Coords) (arg1 : Memref sig .tc .vmem S2x256x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2x512x512 .f32) (harg4 : arg4.IsWhole) (arg5 : Memref sig .tc .vmem S2x256x128 .f32) (harg5 : arg5.IsWhole) (arg6 : Memref sig .tc .vmem S2x8x512 .f32) (harg6 : arg6.IsWhole) (arg7 : Memref sig .tc .vmem S2x256x512 .f32) (harg7 : arg7.IsWhole) (arg8 : Memref sig .tc .vmem S2x8x256 .f32) (harg8 : arg8.IsWhole) (arg9 : Memref sig .tc .vmem S2x8x256x128 .f32) (harg9 : arg9.IsWhole) (arg10 : Memref sig .tc .vmem S2x8x256x128 .f32) (harg10 : arg10.IsWhole) (arg11 : Memref sig .tc .vmem S2x8x256x128 .f32) (harg11 : arg11.IsWhole)
    (K : PUnit → Prog (TpuEff nD τ sig (Elt F) Λ₀ .tc) β) : Prog (TpuEff nD τ sig (Elt F) Λ₀ .tc) β := do
      let ⟨v88, v112, v120⟩ : Σ' (v88 : IVec S1x128 1) (v112 : FVec F S256x256 .f32), FVec F S256x256 .f32 ← k0_part5 i arg1 harg1 arg2 harg2 arg3 harg3 arg4 harg4 arg5 harg5 arg6 harg6 arg7 harg7 arg8 harg8 arg9 harg9 arg10 harg10 arg11 harg11
      let ⟨v151, v153⟩ : Σ' (v151 : IVec S1x128 1), FVec F S256x128 .f32 ← k0_part6 i arg1 harg1 arg2 harg2 arg3 harg3 arg4 harg4 arg5 harg5 arg6 harg6 arg7 harg7 arg8 harg8 arg9 harg9 arg10 harg10 arg11 harg11 v88 v120
      let ⟨v163, v179, v182, v187⟩ : Σ' (v163 : FVec F S256x256 .f32) (v179 : FVec F S256x128 .f32) (v182 : FVec F S256x256 .f32), FVec F S256x128 .f32 ← k0_part7 i arg1 harg1 arg2 harg2 arg3 harg3 arg4 harg4 arg5 harg5 arg6 harg6 arg7 harg7 arg8 harg8 arg9 harg9 arg10 harg10 arg11 harg11 v112 v151 v153
      let ⟨v214, v221⟩ : Σ' (v214 : FVec F S256x256 .f32), FVec F S256x256 .f32 ← k0_part8 i arg1 harg1 arg2 harg2 arg3 harg3 arg4 harg4 arg5 harg5 arg6 harg6 arg7 harg7 arg8 harg8 arg9 harg9 arg10 harg10 arg11 harg11 v88 v179 v182 v187
      k0_part9 i arg1 harg1 arg2 harg2 arg3 harg3 arg4 harg4 arg5 harg5 arg6 harg6 arg7 harg7 arg8 harg8 arg9 harg9 arg10 harg10 arg11 harg11 v88 v163 v221
      let ⟨v265, v281, v284, v288⟩ : Σ' (v265 : FVec F S256x256 .f32) (v281 : FVec F S256x128 .f32) (v284 : FVec F S256x256 .f32), Vec F S1x256x128 .f32 ← k0_part10 i arg1 harg1 arg2 harg2 arg3 harg3 arg4 harg4 arg5 harg5 arg6 harg6 arg7 harg7 arg8 harg8 arg9 harg9 arg10 harg10 arg11 harg11 v88 v214
      let ⟨v316, v319, v321⟩ : Σ' (v316 : FVec F S256x256 .f32) (v319 : FVec F S256x256 .f32), FVec F S1x256 .f32 ← k0_part11 i arg1 harg1 arg2 harg2 arg3 harg3 arg4 harg4 arg5 harg5 arg6 harg6 arg7 harg7 arg8 harg8 arg9 harg9 arg10 harg10 arg11 harg11 v88 v281 v284 v288
      let v355 : IVec S1x128 1 ← k0_part12 i arg1 harg1 arg2 harg2 arg3 harg3 arg4 harg4 arg5 harg5 arg6 harg6 arg7 harg7 arg8 harg8 arg9 harg9 arg10 harg10 arg11 harg11 v88 v265 v319 v321
      let ⟨v367, v383, v386⟩ : Σ' (v367 : FVec F S256x256 .f32) (v383 : FVec F S256x128 .f32), FVec F S256x256 .f32 ← k0_part13 i arg1 harg1 arg2 harg2 arg3 harg3 arg4 harg4 arg5 harg5 arg6 harg6 arg7 harg7 arg8 harg8 arg9 harg9 arg10 harg10 arg11 harg11 v316 v355
      let ⟨v418, v421⟩ : Σ' (v418 : FVec F S256x256 .f32), FVec F S256x256 .f32 ← k0_part14 i arg1 harg1 arg2 harg2 arg3 harg3 arg4 harg4 arg5 harg5 arg6 harg6 arg7 harg7 arg8 harg8 arg9 harg9 arg10 harg10 arg11 harg11 v88 v383 v386
      let v457 : FVec F S1x1x256x128 .f32 ← k0_part15 i arg1 harg1 arg2 harg2 arg3 harg3 arg4 harg4 arg5 harg5 arg6 harg6 arg7 harg7 arg8 harg8 arg9 harg9 arg10 harg10 arg11 harg11 v88 v367 v421
      let ⟨v469, v485, v488⟩ : Σ' (v469 : FVec F S256x256 .f32) (v485 : FVec F S256x128 .f32), FVec F S256x256 .f32 ← k0_part16 i arg1 harg1 arg2 harg2 arg3 harg3 arg4 harg4 arg5 harg5 arg6 harg6 arg7 harg7 arg8 harg8 arg9 harg9 arg10 harg10 arg11 harg11 v88 v418 v457
      let ⟨v520, v523⟩ : Σ' (v520 : FVec F S256x256 .f32), FVec F S256x256 .f32 ← k0_part17 i arg1 harg1 arg2 harg2 arg3 harg3 arg4 harg4 arg5 harg5 arg6 harg6 arg7 harg7 arg8 harg8 arg9 harg9 arg10 harg10 arg11 harg11 v88 v485 v488
      let v558 : FVec F S1x1x256x128 .f32 ← k0_part18 i arg1 harg1 arg2 harg2 arg3 harg3 arg4 harg4 arg5 harg5 arg6 harg6 arg7 harg7 arg8 harg8 arg9 harg9 arg10 harg10 arg11 harg11 v88 v469 v523
      let ⟨v571, v585, v587, v590⟩ : Σ' (v571 : FVec F S256x256 .f32) (v585 : FVec F S256x128 .f32) (v587 : FVec F S256x128 .f32), FVec F S256x256 .f32 ← k0_part19 i arg1 harg1 arg2 harg2 arg3 harg3 arg4 harg4 arg5 harg5 arg6 harg6 arg7 harg7 arg8 harg8 arg9 harg9 arg10 harg10 arg11 harg11 v88 v520 v558
      let ⟨v622, v624⟩ : Σ' (v622 : FVec F S256x256 .f32), FVec F S256x128 .f32 ← k0_part20 i arg1 harg1 arg2 harg2 arg3 harg3 arg4 harg4 arg5 harg5 arg6 harg6 arg7 harg7 arg8 harg8 arg9 harg9 arg10 harg10 arg11 harg11 v88 v585 v587 v590
      let v658 : FVec F S256x128 .f32 ← k0_part21 i arg1 harg1 arg2 harg2 arg3 harg3 arg4 harg4 arg5 harg5 arg6 harg6 arg7 harg7 arg8 harg8 arg9 harg9 arg10 harg10 arg11 harg11 v88 v571 v624
      let ⟨v673, v687, v689, v692⟩ : Σ' (v673 : FVec F S256x256 .f32) (v687 : FVec F S256x128 .f32) (v689 : FVec F S256x128 .f32), FVec F S256x256 .f32 ← k0_part22 i arg1 harg1 arg2 harg2 arg3 harg3 arg4 harg4 arg5 harg5 arg6 harg6 arg7 harg7 arg8 harg8 arg9 harg9 arg10 harg10 arg11 harg11 v88 v622 v658
      let v724 : FVec F S256x256 .f32 ← k0_part23 i arg1 harg1 arg2 harg2 arg3 harg3 arg4 harg4 arg5 harg5 arg6 harg6 arg7 harg7 arg8 harg8 arg9 harg9 arg10 harg10 arg11 harg11 v88 v687 v689 v692
      let v759 : FVec F S256x128 .f32 ← k0_part24 i arg1 harg1 arg2 harg2 arg3 harg3 arg4 harg4 arg5 harg5 arg6 harg6 arg7 harg7 arg8 harg8 arg9 harg9 arg10 harg10 arg11 harg11 v88 v673
      let ⟨v775, v789, v791, v794⟩ : Σ' (v775 : FVec F S256x256 .f32) (v789 : FVec F S256x128 .f32) (v791 : FVec F S256x128 .f32), FVec F S256x256 .f32 ← k0_part25 i arg1 harg1 arg2 harg2 arg3 harg3 arg4 harg4 arg5 harg5 arg6 harg6 arg7 harg7 arg8 harg8 arg9 harg9 arg10 harg10 arg11 harg11 v88 v724 v759
      let v826 : FVec F S256x256 .f32 ← k0_part26 i arg1 harg1 arg2 harg2 arg3 harg3 arg4 harg4 arg5 harg5 arg6 harg6 arg7 harg7 arg8 harg8 arg9 harg9 arg10 harg10 arg11 harg11 v88 v789 v791 v794
      let ⟨v853, v861⟩ : Σ' (v853 : FVec F S256x128 .f32), FVec F S256x128 .f32 ← k0_part27 i arg1 harg1 arg2 harg2 arg3 harg3 arg4 harg4 arg5 harg5 arg6 harg6 arg7 harg7 arg8 harg8 arg9 harg9 arg10 harg10 arg11 harg11 v88 v775
      let ⟨v884, v889, v892⟩ : Σ' (v884 : FVec F S256x256 .f32) (v889 : FVec F S256x128 .f32), FVec F S256x128 .f32 ← k0_part28 i arg1 harg1 arg2 harg2 arg3 harg3 arg4 harg4 arg5 harg5 arg6 harg6 arg7 harg7 arg8 harg8 arg9 harg9 arg10 harg10 arg11 harg11 v826 v853 v861
      let v902 : Vec F S1x1x256x128 .f32 ← Prog.lift (.load arg10 (Rect.unit (s := S2x8x256x128) ![1, 7, 0, 0] S1x1x256x128.size inb_S2x8x256x128_S1x1x256x128_1_7_0_0).toLoadRect (View.loadsAt_vmem h_S1x1x256x128))
      Prog.lift (.store arg10 (Rect.unit (s := S2x8x256x128) ![1, 7, 0, 0] S1x1x256x128.size inb_S2x8x256x128_S1x1x256x128_1_7_0_0) (k0_pay602 v88 v884 v889 v892) Finset.univ (View.stores_vmem_bits_univ h_S1x1x256x128 rfl) (.inl rfl))
      K ⟨⟩

variable {E : sProp (MT nD τ sig Unit (Elt F) ℕ (UR sig nD τ) ℕ)} {c : Dev nD}
  {arg1 : Memref sig .tc .vmem S2x256x512 .f32}
  {arg2 : Memref sig .tc .vmem S512x512 .bf16}
  {arg3 : Memref sig .tc .vmem S512x512 .bf16}
  {arg4 : Memref sig .tc .vmem S2x512x512 .f32}
  {arg5 : Memref sig .tc .vmem S2x256x128 .f32}
  {arg6 : Memref sig .tc .vmem S2x8x512 .f32}
  {arg7 : Memref sig .tc .vmem S2x256x512 .f32}
  {arg8 : Memref sig .tc .vmem S2x8x256 .f32}
  {arg9 : Memref sig .tc .vmem S2x8x256x128 .f32}
  {arg10 : Memref sig .tc .vmem S2x8x256x128 .f32}
  {arg11 : Memref sig .tc .vmem S2x8x256x128 .f32}

  {defs : Defs nD τ sig (Elt F) Λ₀} {𝒱 : Variants} (i : grid0.Coords)
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}

set_option maxHeartbeats 0 in
set_option maxRecDepth 65536 in
/-- What it leaves. -/
theorem seg2 (σ : St F)  {β : Type} {Q : β → St F → Prop} {K : PUnit → Prog (TpuEff nD τ sig (Elt F) Λ₀ .tc) β} (hQ : ∀ s, Upd false 0 (by omega) σ s → Runs defs 𝒱 (c : Thread nD τ) (own E c arg1 arg2 arg3 arg4 arg5 arg6 arg7 arg8 arg9 arg10 arg11) s (K ⟨⟩) Q) :
    Runs defs 𝒱 (c : Thread nD τ) (own E c arg1 arg2 arg3 arg4 arg5 arg6 arg7 arg8 arg9 arg10 arg11) σ (segP2 i arg1 harg1 arg2 harg2 arg3 harg3 arg4 harg4 arg5 harg5 arg6 harg6 arg7 harg7 arg8 harg8 arg9 harg9 arg10 harg10 arg11 harg11 K) Q := by
  unfold segP2
  repeat' first
    | with_reducible exact ⟨rfl, rfl⟩
    | with_reducible (show Runs _ _ _ _ _ (Pure.pure _) _; refine Runs.pure ?_; try dsimp only)
    | with_reducible (show Runs _ _ _ _ _ (Prog.lift (TpuEff.load _ _ _) >>= _) _; refine Runs.bind (Runs.load ?_); try dsimp only; try simp (decide := true) only [ld_slot, ↓reduceIte])
    | with_reducible (show Runs _ _ _ _ _ (Prog.lift (TpuEff.store _ _ _ _ _ _) >>= _) _; refine Runs.bind (Runs.store ?_); try dsimp only)
    | with_reducible (show Runs _ _ _ _ _ (_ >>= _) _; apply Runs.andThen)
    | simp only [k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel]
  refine hQ _ ⟨⟨rfl, rfl, rfl, rfl, rfl, rfl⟩, rfl, ?_⟩
  intro e he h hh
  obtain rfl | rfl : e = 0 ∨ e = 1 := by omega
  all_goals
    obtain rfl | rfl | rfl | rfl | rfl | rfl | rfl | rfl : h = 0 ∨ h = 1 ∨ h = 2 ∨ h = 3 ∨ h = 4 ∨ h = 5 ∨ h = 6 ∨ h = 7 := by omega
    all_goals
      refine ⟨?_, ?_⟩ <;> (simp (decide := true) only [sl, qr, kr, vr, cr, xr, orr, lr, St.scores, St.keys, ld_slot, ld_slotO, ld_slotL, ld_full, ↓reduceIte]; rfl)

end Cert.FoxFwd

end
-- ==== Proof.FoxFwdSeg3.lean ====
/- The attention’s forward block: the first half of a block of keys, on the diagonal. -/
module

public import proofs.«01_k».proof.Proof.FoxFwdOps

@[expose] public section

noncomputable section

namespace Cert.FoxFwd

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Exact

variable {F : FTy → Type} [FloatOps F] [Named F]

/-- The first half of a block of keys, on the diagonal. Then `K`. -/
def segP3 {β : Type} (i : grid0.Coords) (arg1 : Memref sig .tc .vmem S2x256x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2x512x512 .f32) (harg4 : arg4.IsWhole) (arg5 : Memref sig .tc .vmem S2x256x128 .f32) (harg5 : arg5.IsWhole) (arg6 : Memref sig .tc .vmem S2x8x512 .f32) (harg6 : arg6.IsWhole) (arg7 : Memref sig .tc .vmem S2x256x512 .f32) (harg7 : arg7.IsWhole) (arg8 : Memref sig .tc .vmem S2x8x256 .f32) (harg8 : arg8.IsWhole) (arg9 : Memref sig .tc .vmem S2x8x256x128 .f32) (harg9 : arg9.IsWhole) (arg10 : Memref sig .tc .vmem S2x8x256x128 .f32) (harg10 : arg10.IsWhole) (arg11 : Memref sig .tc .vmem S2x8x256x128 .f32) (harg11 : arg11.IsWhole)
    (K : PUnit → Prog (TpuEff nD τ sig (Elt F) Λ₀ .tc) β) : Prog (TpuEff nD τ sig (Elt F) Λ₀ .tc) β := do
      let ⟨v88, v91, v103, v116, v119, v120⟩ : Σ' (v88 : IVec S1x128 1) (v91 : IVec S256x256 1) (v103 : FVec F S256x256 .f32) (v116 : FVec F S256x256 .f32) (v119 : FVec F S256x256 .f32), Vec F S1x1x256 .f32 ← k0_part29 i arg1 harg1 arg2 harg2 arg3 harg3 arg4 harg4 arg5 harg5 arg6 harg6 arg7 harg7 arg8 harg8 arg9 harg9 arg10 harg10 arg11 harg11
      let v156 : FVec F S1x1x256x128 .f32 ← k0_part30 i arg1 harg1 arg2 harg2 arg3 harg3 arg4 harg4 arg5 harg5 arg6 harg6 arg7 harg7 arg8 harg8 arg9 harg9 arg10 harg10 arg11 harg11 v88 v91 v103 v119 v120
      let ⟨v168, v184, v186, v189, v190⟩ : Σ' (v168 : FVec F S256x256 .f32) (v184 : FVec F S256x128 .f32) (v186 : FVec F S256x128 .f32) (v189 : FVec F S256x256 .f32), Vec F S1x1x256x128 .f32 ← k0_part31 i arg1 harg1 arg2 harg2 arg3 harg3 arg4 harg4 arg5 harg5 arg6 harg6 arg7 harg7 arg8 harg8 arg9 harg9 arg10 harg10 arg11 harg11 v88 v91 v116 v156
      let v222 : FVec F S256x256 .f32 ← k0_part32 i arg1 harg1 arg2 harg2 arg3 harg3 arg4 harg4 arg5 harg5 arg6 harg6 arg7 harg7 arg8 harg8 arg9 harg9 arg10 harg10 arg11 harg11 v88 v184 v186 v189 v190
      let ⟨v251, v258⟩ : Σ' (v251 : FVec F S256x128 .f32), FVec F S256x128 .f32 ← k0_part33 i arg1 harg1 arg2 harg2 arg3 harg3 arg4 harg4 arg5 harg5 arg6 harg6 arg7 harg7 arg8 harg8 arg9 harg9 arg10 harg10 arg11 harg11 v88 v91 v168
      let ⟨v274, v284, v290, v292⟩ : Σ' (v274 : FVec F S256x256 .f32) (v284 : FVec F S256x256 .f32) (v290 : FVec F S256x128 .f32), FVec F S256x128 .f32 ← k0_part34 i arg1 harg1 arg2 harg2 arg3 harg3 arg4 harg4 arg5 harg5 arg6 harg6 arg7 harg7 arg8 harg8 arg9 harg9 arg10 harg10 arg11 harg11 v88 v91 v222 v251 v258
      let v325 : FVec F S256x128 .bf16 ← k0_part35 i arg1 harg1 arg2 harg2 arg3 harg3 arg4 harg4 arg5 harg5 arg6 harg6 arg7 harg7 arg8 harg8 arg9 harg9 arg10 harg10 arg11 harg11 v88 v284 v290 v292
      let ⟨v328, v354, v357, v358⟩ : Σ' (v328 : FVec F S256x256 .f32) (v354 : FVec F S256x128 .f32) (v357 : FVec F S256x128 .f32), FVec F S256x256 .bf16 ← k0_part36 i arg1 harg1 arg2 harg2 arg3 harg3 arg4 harg4 arg5 harg5 arg6 harg6 arg7 harg7 arg8 harg8 arg9 harg9 arg10 harg10 arg11 harg11 v91 v274 v325
      let ⟨v380, v390, v391⟩ : Σ' (v380 : FVec F S256x256 .f32) (v390 : FVec F S256x256 .f32), Vec F S1x1x256x128 .f32 ← k0_part37 i arg1 harg1 arg2 harg2 arg3 harg3 arg4 harg4 arg5 harg5 arg6 harg6 arg7 harg7 arg8 harg8 arg9 harg9 arg10 harg10 arg11 harg11 v88 v91 v328 v354 v357 v358
      let ⟨v422, v424, v425⟩ : Σ' (v422 : IVec S1x128 1) (v424 : FVec F S256x128 .f32), FVec F S256x128 .f32 ← k0_part38 i arg1 harg1 arg2 harg2 arg3 harg3 arg4 harg4 arg5 harg5 arg6 harg6 arg7 harg7 arg8 harg8 arg9 harg9 arg10 harg10 arg11 harg11 v88 v390 v391
      let ⟨v434, v452, v455, v460⟩ : Σ' (v434 : FVec F S256x256 .f32) (v452 : FVec F S256x128 .f32) (v455 : FVec F S256x256 .f32), FVec F S256x128 .f32 ← k0_part39 i arg1 harg1 arg2 harg2 arg3 harg3 arg4 harg4 arg5 harg5 arg6 harg6 arg7 harg7 arg8 harg8 arg9 harg9 arg10 harg10 arg11 harg11 v91 v380 v422 v424 v425
      let ⟨v486, v494⟩ : Σ' (v486 : FVec F S256x256 .f32), FVec F S256x256 .f32 ← k0_part40 i arg1 harg1 arg2 harg2 arg3 harg3 arg4 harg4 arg5 harg5 arg6 harg6 arg7 harg7 arg8 harg8 arg9 harg9 arg10 harg10 arg11 harg11 v88 v434 v452 v455 v460
      let cst_351 : IVec S1x128 1 ← k0_part41 i arg1 harg1 arg2 harg2 arg3 harg3 arg4 harg4 arg5 harg5 arg6 harg6 arg7 harg7 arg8 harg8 arg9 harg9 arg10 harg10 arg11 harg11 v88 v91 v494
      let ⟨v540, v556, v558, v561, v562⟩ : Σ' (v540 : FVec F S256x256 .f32) (v556 : FVec F S256x128 .f32) (v558 : FVec F S256x128 .f32) (v561 : FVec F S256x256 .f32), Vec F S1x1x256x128 .f32 ← k0_part42 i arg1 harg1 arg2 harg2 arg3 harg3 arg4 harg4 arg5 harg5 arg6 harg6 arg7 harg7 arg8 harg8 arg9 harg9 arg10 harg10 arg11 harg11 v88 v91 v486 cst_351
      let ⟨v592, v595⟩ : Σ' (v592 : FVec F S256x256 .f32), FVec F S256x256 .f32 ← k0_part43 i arg1 harg1 arg2 harg2 arg3 harg3 arg4 harg4 arg5 harg5 arg6 harg6 arg7 harg7 arg8 harg8 arg9 harg9 arg10 harg10 arg11 harg11 v88 v556 v558 v561 v562
      let v630 : FVec F S256x128 .f32 ← k0_part44 i arg1 harg1 arg2 harg2 arg3 harg3 arg4 harg4 arg5 harg5 arg6 harg6 arg7 harg7 arg8 harg8 arg9 harg9 arg10 harg10 arg11 harg11 v88 v91 v540 v595
      let ⟨v646, v656, v662, v664⟩ : Σ' (v646 : FVec F S256x256 .f32) (v656 : FVec F S256x256 .f32) (v662 : FVec F S256x128 .f32), FVec F S256x128 .f32 ← k0_part45 i arg1 harg1 arg2 harg2 arg3 harg3 arg4 harg4 arg5 harg5 arg6 harg6 arg7 harg7 arg8 harg8 arg9 harg9 arg10 harg10 arg11 harg11 v88 v91 v592 v630
      let ⟨v695, v697, cst_475⟩ : Σ' (v695 : FVec F S256x128 .bf16) (v697 : FVec F S128x256 .bf16), FVec F S256x256 .f32 ← k0_part46 i arg1 harg1 arg2 harg2 arg3 harg3 arg4 harg4 arg5 harg5 arg6 harg6 arg7 harg7 arg8 harg8 arg9 harg9 arg10 harg10 arg11 harg11 v88 v656 v662 v664
      let ⟨v698, v724, v727, v728, cst_501, v730⟩ : Σ' (v698 : FVec F S256x256 .f32) (v724 : FVec F S256x128 .f32) (v727 : FVec F S256x128 .f32) (v728 : FVec F S256x256 .bf16) (cst_501 : F .f32), IVec S1x128 1 ← k0_part47 i arg1 harg1 arg2 harg2 arg3 harg3 arg4 harg4 arg5 harg5 arg6 harg6 arg7 harg7 arg8 harg8 arg9 harg9 arg10 harg10 arg11 harg11 v88 v91 v646 v695 v697 cst_475
      let ⟨v752, v762, v763⟩ : Σ' (v752 : FVec F S256x256 .f32) (v762 : FVec F S256x256 .f32), Vec F S1x1x256x128 .f32 ← k0_part48 i arg1 harg1 arg2 harg2 arg3 harg3 arg4 harg4 arg5 harg5 arg6 harg6 arg7 harg7 arg8 harg8 arg9 harg9 arg10 harg10 arg11 harg11 v88 v91 v698 v724 v727 v728 cst_501 v730
      let ⟨v796, cst_550, v798⟩ : Σ' (v796 : FVec F S256x128 .f32) (cst_550 : F .f32), IVec S256x128 1 ← k0_part49 i arg1 harg1 arg2 harg2 arg3 harg3 arg4 harg4 arg5 harg5 arg6 harg6 arg7 harg7 arg8 harg8 arg9 harg9 arg10 harg10 arg11 harg11 v88 v762 v763
      let ⟨v804, v822, v825, v830⟩ : Σ' (v804 : FVec F S256x256 .f32) (v822 : FVec F S256x128 .f32) (v825 : FVec F S256x256 .f32), FVec F S256x128 .f32 ← k0_part50 i arg1 harg1 arg2 harg2 arg3 harg3 arg4 harg4 arg5 harg5 arg6 harg6 arg7 harg7 arg8 harg8 arg9 harg9 arg10 harg10 arg11 harg11 v91 v752 v796 cst_550 v798
      let ⟨v858, v866⟩ : Σ' (v858 : FVec F S256x256 .f32), FVec F S256x256 .f32 ← k0_part51 i arg1 harg1 arg2 harg2 arg3 harg3 arg4 harg4 arg5 harg5 arg6 harg6 arg7 harg7 arg8 harg8 arg9 harg9 arg10 harg10 arg11 harg11 v88 v804 v822 v825 v830
      k0_part52 i arg1 harg1 arg2 harg2 arg3 harg3 arg4 harg4 arg5 harg5 arg6 harg6 arg7 harg7 arg8 harg8 arg9 harg9 arg10 harg10 arg11 harg11 v88 v91 v866
      let ⟨v927, v928, v934⟩ : Σ' (v927 : FVec F S256x128 .f32) (v928 : FVec F S256x256 .bf16), FVec F S256x128 .bf16 ← k0_part53 i arg1 harg1 arg2 harg2 arg3 harg3 arg4 harg4 arg5 harg5 arg6 harg6 arg7 harg7 arg8 harg8 arg9 harg9 arg10 harg10 arg11 harg11 v88 v91 v858
      let v937 : Vec F S1x1x256x128 .f32 ← Prog.lift (.load arg10 (Rect.unit (s := S2x8x256x128) ![1, 7, 0, 0] S1x1x256x128.size inb_S2x8x256x128_S1x1x256x128_1_7_0_0).toLoadRect (View.loadsAt_vmem h_S1x1x256x128))
      Prog.lift (.store arg10 (Rect.unit (s := S2x8x256x128) ![1, 7, 0, 0] S1x1x256x128.size inb_S2x8x256x128_S1x1x256x128_1_7_0_0) (k0_pay603 v927 v928 v934) Finset.univ (View.stores_vmem_bits_univ h_S1x1x256x128 rfl) (.inl rfl))
      K ⟨⟩

variable {E : sProp (MT nD τ sig Unit (Elt F) ℕ (UR sig nD τ) ℕ)} {c : Dev nD}
  {arg1 : Memref sig .tc .vmem S2x256x512 .f32}
  {arg2 : Memref sig .tc .vmem S512x512 .bf16}
  {arg3 : Memref sig .tc .vmem S512x512 .bf16}
  {arg4 : Memref sig .tc .vmem S2x512x512 .f32}
  {arg5 : Memref sig .tc .vmem S2x256x128 .f32}
  {arg6 : Memref sig .tc .vmem S2x8x512 .f32}
  {arg7 : Memref sig .tc .vmem S2x256x512 .f32}
  {arg8 : Memref sig .tc .vmem S2x8x256 .f32}
  {arg9 : Memref sig .tc .vmem S2x8x256x128 .f32}
  {arg10 : Memref sig .tc .vmem S2x8x256x128 .f32}
  {arg11 : Memref sig .tc .vmem S2x8x256x128 .f32}

  {defs : Defs nD τ sig (Elt F) Λ₀} {𝒱 : Variants} (i : grid0.Coords)
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}

set_option maxHeartbeats 0 in
set_option maxRecDepth 65536 in
/-- What it leaves. -/
theorem seg3 (σ : St F)  {β : Type} {Q : β → St F → Prop} {K : PUnit → Prog (TpuEff nD τ sig (Elt F) Λ₀ .tc) β} (hQ : ∀ s, Upd true 0 (by omega) σ s → Runs defs 𝒱 (c : Thread nD τ) (own E c arg1 arg2 arg3 arg4 arg5 arg6 arg7 arg8 arg9 arg10 arg11) s (K ⟨⟩) Q) :
    Runs defs 𝒱 (c : Thread nD τ) (own E c arg1 arg2 arg3 arg4 arg5 arg6 arg7 arg8 arg9 arg10 arg11) σ (segP3 i arg1 harg1 arg2 harg2 arg3 harg3 arg4 harg4 arg5 harg5 arg6 harg6 arg7 harg7 arg8 harg8 arg9 harg9 arg10 harg10 arg11 harg11 K) Q := by
  unfold segP3
  repeat' first
    | with_reducible exact ⟨rfl, rfl⟩
    | with_reducible (show Runs _ _ _ _ _ (Pure.pure _) _; refine Runs.pure ?_; try dsimp only)
    | with_reducible (show Runs _ _ _ _ _ (Prog.lift (TpuEff.load _ _ _) >>= _) _; refine Runs.bind (Runs.load ?_); try dsimp only; try simp (decide := true) only [ld_slot, ↓reduceIte])
    | with_reducible (show Runs _ _ _ _ _ (Prog.lift (TpuEff.store _ _ _ _ _ _) >>= _) _; refine Runs.bind (Runs.store ?_); try dsimp only)
    | with_reducible (show Runs _ _ _ _ _ (_ >>= _) _; apply Runs.andThen)
    | simp only [k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel]
  refine hQ _ ⟨⟨rfl, rfl, rfl, rfl, rfl, rfl⟩, rfl, ?_⟩
  intro e he h hh
  obtain rfl | rfl : e = 0 ∨ e = 1 := by omega
  all_goals
    obtain rfl | rfl | rfl | rfl | rfl | rfl | rfl | rfl : h = 0 ∨ h = 1 ∨ h = 2 ∨ h = 3 ∨ h = 4 ∨ h = 5 ∨ h = 6 ∨ h = 7 := by omega
    all_goals
      refine ⟨?_, ?_⟩ <;> (simp (decide := true) only [sl, qr, kr, vr, cr, xr, orr, lr, St.scores, St.keys, ld_slot, ld_slotO, ld_slotL, ld_full, ↓reduceIte]; rfl)

end Cert.FoxFwd

end
-- ==== Proof.FoxFwdSeg4.lean ====
/- The attention’s forward block: the second half of a block of keys, before the diagonal. -/
module

public import proofs.«01_k».proof.Proof.FoxFwdOps

@[expose] public section

noncomputable section

namespace Cert.FoxFwd

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Exact

variable {F : FTy → Type} [FloatOps F] [Named F]

/-- The second half of a block of keys, before the diagonal. Then `K`. -/
def segP4 {β : Type} (i : grid0.Coords) (arg1 : Memref sig .tc .vmem S2x256x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2x512x512 .f32) (harg4 : arg4.IsWhole) (arg5 : Memref sig .tc .vmem S2x256x128 .f32) (harg5 : arg5.IsWhole) (arg6 : Memref sig .tc .vmem S2x8x512 .f32) (harg6 : arg6.IsWhole) (arg7 : Memref sig .tc .vmem S2x256x512 .f32) (harg7 : arg7.IsWhole) (arg8 : Memref sig .tc .vmem S2x8x256 .f32) (harg8 : arg8.IsWhole) (arg9 : Memref sig .tc .vmem S2x8x256x128 .f32) (harg9 : arg9.IsWhole) (arg10 : Memref sig .tc .vmem S2x8x256x128 .f32) (harg10 : arg10.IsWhole) (arg11 : Memref sig .tc .vmem S2x8x256x128 .f32) (harg11 : arg11.IsWhole)
    (K : PUnit → Prog (TpuEff nD τ sig (Elt F) Λ₀ .tc) β) : Prog (TpuEff nD τ sig (Elt F) Λ₀ .tc) β := do
      let ⟨v88, v112, v120⟩ : Σ' (v88 : IVec S1x128 1) (v112 : FVec F S256x256 .f32), FVec F S256x256 .f32 ← k0_part54 i arg1 harg1 arg2 harg2 arg3 harg3 arg4 harg4 arg5 harg5 arg6 harg6 arg7 harg7 arg8 harg8 arg9 harg9 arg10 harg10 arg11 harg11
      let ⟨v151, v153⟩ : Σ' (v151 : IVec S1x128 1), FVec F S256x128 .f32 ← k0_part55 i arg1 harg1 arg2 harg2 arg3 harg3 arg4 harg4 arg5 harg5 arg6 harg6 arg7 harg7 arg8 harg8 arg9 harg9 arg10 harg10 arg11 harg11 v88 v120
      let ⟨v163, v179, v182, v187⟩ : Σ' (v163 : FVec F S256x256 .f32) (v179 : FVec F S256x128 .f32) (v182 : FVec F S256x256 .f32), FVec F S256x128 .f32 ← k0_part56 i arg1 harg1 arg2 harg2 arg3 harg3 arg4 harg4 arg5 harg5 arg6 harg6 arg7 harg7 arg8 harg8 arg9 harg9 arg10 harg10 arg11 harg11 v112 v151 v153
      let ⟨v214, v221⟩ : Σ' (v214 : FVec F S256x256 .f32), FVec F S256x256 .f32 ← k0_part57 i arg1 harg1 arg2 harg2 arg3 harg3 arg4 harg4 arg5 harg5 arg6 harg6 arg7 harg7 arg8 harg8 arg9 harg9 arg10 harg10 arg11 harg11 v88 v179 v182 v187
      k0_part58 i arg1 harg1 arg2 harg2 arg3 harg3 arg4 harg4 arg5 harg5 arg6 harg6 arg7 harg7 arg8 harg8 arg9 harg9 arg10 harg10 arg11 harg11 v88 v163 v221
      let ⟨v265, v281, v284, v288⟩ : Σ' (v265 : FVec F S256x256 .f32) (v281 : FVec F S256x128 .f32) (v284 : FVec F S256x256 .f32), Vec F S1x256x128 .f32 ← k0_part59 i arg1 harg1 arg2 harg2 arg3 harg3 arg4 harg4 arg5 harg5 arg6 harg6 arg7 harg7 arg8 harg8 arg9 harg9 arg10 harg10 arg11 harg11 v88 v214
      let ⟨v316, v319, v321⟩ : Σ' (v316 : FVec F S256x256 .f32) (v319 : FVec F S256x256 .f32), FVec F S1x256 .f32 ← k0_part60 i arg1 harg1 arg2 harg2 arg3 harg3 arg4 harg4 arg5 harg5 arg6 harg6 arg7 harg7 arg8 harg8 arg9 harg9 arg10 harg10 arg11 harg11 v88 v281 v284 v288
      let v355 : IVec S1x128 1 ← k0_part61 i arg1 harg1 arg2 harg2 arg3 harg3 arg4 harg4 arg5 harg5 arg6 harg6 arg7 harg7 arg8 harg8 arg9 harg9 arg10 harg10 arg11 harg11 v88 v265 v319 v321
      let ⟨v367, v383, v386⟩ : Σ' (v367 : FVec F S256x256 .f32) (v383 : FVec F S256x128 .f32), FVec F S256x256 .f32 ← k0_part62 i arg1 harg1 arg2 harg2 arg3 harg3 arg4 harg4 arg5 harg5 arg6 harg6 arg7 harg7 arg8 harg8 arg9 harg9 arg10 harg10 arg11 harg11 v316 v355
      let ⟨v418, v421⟩ : Σ' (v418 : FVec F S256x256 .f32), FVec F S256x256 .f32 ← k0_part63 i arg1 harg1 arg2 harg2 arg3 harg3 arg4 harg4 arg5 harg5 arg6 harg6 arg7 harg7 arg8 harg8 arg9 harg9 arg10 harg10 arg11 harg11 v88 v383 v386
      let v457 : FVec F S1x1x256x128 .f32 ← k0_part64 i arg1 harg1 arg2 harg2 arg3 harg3 arg4 harg4 arg5 harg5 arg6 harg6 arg7 harg7 arg8 harg8 arg9 harg9 arg10 harg10 arg11 harg11 v88 v367 v421
      let ⟨v469, v485, v488⟩ : Σ' (v469 : FVec F S256x256 .f32) (v485 : FVec F S256x128 .f32), FVec F S256x256 .f32 ← k0_part65 i arg1 harg1 arg2 harg2 arg3 harg3 arg4 harg4 arg5 harg5 arg6 harg6 arg7 harg7 arg8 harg8 arg9 harg9 arg10 harg10 arg11 harg11 v88 v418 v457
      let ⟨v520, v523⟩ : Σ' (v520 : FVec F S256x256 .f32), FVec F S256x256 .f32 ← k0_part66 i arg1 harg1 arg2 harg2 arg3 harg3 arg4 harg4 arg5 harg5 arg6 harg6 arg7 harg7 arg8 harg8 arg9 harg9 arg10 harg10 arg11 harg11 v88 v485 v488
      let v558 : FVec F S1x1x256x128 .f32 ← k0_part67 i arg1 harg1 arg2 harg2 arg3 harg3 arg4 harg4 arg5 harg5 arg6 harg6 arg7 harg7 arg8 harg8 arg9 harg9 arg10 harg10 arg11 harg11 v88 v469 v523
      let ⟨v571, v585, v587, v590⟩ : Σ' (v571 : FVec F S256x256 .f32) (v585 : FVec F S256x128 .f32) (v587 : FVec F S256x128 .f32), FVec F S256x256 .f32 ← k0_part68 i arg1 harg1 arg2 harg2 arg3 harg3 arg4 harg4 arg5 harg5 arg6 harg6 arg7 harg7 arg8 harg8 arg9 harg9 arg10 harg10 arg11 harg11 v88 v520 v558
      let ⟨v622, v624⟩ : Σ' (v622 : FVec F S256x256 .f32), FVec F S256x128 .f32 ← k0_part69 i arg1 harg1 arg2 harg2 arg3 harg3 arg4 harg4 arg5 harg5 arg6 harg6 arg7 harg7 arg8 harg8 arg9 harg9 arg10 harg10 arg11 harg11 v88 v585 v587 v590
      let v658 : FVec F S256x128 .f32 ← k0_part70 i arg1 harg1 arg2 harg2 arg3 harg3 arg4 harg4 arg5 harg5 arg6 harg6 arg7 harg7 arg8 harg8 arg9 harg9 arg10 harg10 arg11 harg11 v88 v571 v624
      let ⟨v673, v687, v689, v692⟩ : Σ' (v673 : FVec F S256x256 .f32) (v687 : FVec F S256x128 .f32) (v689 : FVec F S256x128 .f32), FVec F S256x256 .f32 ← k0_part71 i arg1 harg1 arg2 harg2 arg3 harg3 arg4 harg4 arg5 harg5 arg6 harg6 arg7 harg7 arg8 harg8 arg9 harg9 arg10 harg10 arg11 harg11 v88 v622 v658
      let v724 : FVec F S256x256 .f32 ← k0_part72 i arg1 harg1 arg2 harg2 arg3 harg3 arg4 harg4 arg5 harg5 arg6 harg6 arg7 harg7 arg8 harg8 arg9 harg9 arg10 harg10 arg11 harg11 v88 v687 v689 v692
      let v759 : FVec F S256x128 .f32 ← k0_part73 i arg1 harg1 arg2 harg2 arg3 harg3 arg4 harg4 arg5 harg5 arg6 harg6 arg7 harg7 arg8 harg8 arg9 harg9 arg10 harg10 arg11 harg11 v88 v673
      let ⟨v775, v789, v791, v794⟩ : Σ' (v775 : FVec F S256x256 .f32) (v789 : FVec F S256x128 .f32) (v791 : FVec F S256x128 .f32), FVec F S256x256 .f32 ← k0_part74 i arg1 harg1 arg2 harg2 arg3 harg3 arg4 harg4 arg5 harg5 arg6 harg6 arg7 harg7 arg8 harg8 arg9 harg9 arg10 harg10 arg11 harg11 v88 v724 v759
      let v826 : FVec F S256x256 .f32 ← k0_part75 i arg1 harg1 arg2 harg2 arg3 harg3 arg4 harg4 arg5 harg5 arg6 harg6 arg7 harg7 arg8 harg8 arg9 harg9 arg10 harg10 arg11 harg11 v88 v789 v791 v794
      let ⟨v853, v861⟩ : Σ' (v853 : FVec F S256x128 .f32), FVec F S256x128 .f32 ← k0_part76 i arg1 harg1 arg2 harg2 arg3 harg3 arg4 harg4 arg5 harg5 arg6 harg6 arg7 harg7 arg8 harg8 arg9 harg9 arg10 harg10 arg11 harg11 v88 v775
      let ⟨v884, v889, v892⟩ : Σ' (v884 : FVec F S256x256 .f32) (v889 : FVec F S256x128 .f32), FVec F S256x128 .f32 ← k0_part77 i arg1 harg1 arg2 harg2 arg3 harg3 arg4 harg4 arg5 harg5 arg6 harg6 arg7 harg7 arg8 harg8 arg9 harg9 arg10 harg10 arg11 harg11 v826 v853 v861
      let v902 : Vec F S1x1x256x128 .f32 ← Prog.lift (.load arg10 (Rect.unit (s := S2x8x256x128) ![1, 7, 0, 0] S1x1x256x128.size inb_S2x8x256x128_S1x1x256x128_1_7_0_0).toLoadRect (View.loadsAt_vmem h_S1x1x256x128))
      Prog.lift (.store arg10 (Rect.unit (s := S2x8x256x128) ![1, 7, 0, 0] S1x1x256x128.size inb_S2x8x256x128_S1x1x256x128_1_7_0_0) (k0_pay604 v88 v884 v889 v892) Finset.univ (View.stores_vmem_bits_univ h_S1x1x256x128 rfl) (.inl rfl))
      K ⟨⟩

variable {E : sProp (MT nD τ sig Unit (Elt F) ℕ (UR sig nD τ) ℕ)} {c : Dev nD}
  {arg1 : Memref sig .tc .vmem S2x256x512 .f32}
  {arg2 : Memref sig .tc .vmem S512x512 .bf16}
  {arg3 : Memref sig .tc .vmem S512x512 .bf16}
  {arg4 : Memref sig .tc .vmem S2x512x512 .f32}
  {arg5 : Memref sig .tc .vmem S2x256x128 .f32}
  {arg6 : Memref sig .tc .vmem S2x8x512 .f32}
  {arg7 : Memref sig .tc .vmem S2x256x512 .f32}
  {arg8 : Memref sig .tc .vmem S2x8x256 .f32}
  {arg9 : Memref sig .tc .vmem S2x8x256x128 .f32}
  {arg10 : Memref sig .tc .vmem S2x8x256x128 .f32}
  {arg11 : Memref sig .tc .vmem S2x8x256x128 .f32}

  {defs : Defs nD τ sig (Elt F) Λ₀} {𝒱 : Variants} (i : grid0.Coords)
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}

set_option maxHeartbeats 0 in
set_option maxRecDepth 65536 in
/-- What it leaves. -/
theorem seg4 (σ : St F)  {β : Type} {Q : β → St F → Prop} {K : PUnit → Prog (TpuEff nD τ sig (Elt F) Λ₀ .tc) β} (hQ : ∀ s, Upd false 1 (by omega) σ s → Runs defs 𝒱 (c : Thread nD τ) (own E c arg1 arg2 arg3 arg4 arg5 arg6 arg7 arg8 arg9 arg10 arg11) s (K ⟨⟩) Q) :
    Runs defs 𝒱 (c : Thread nD τ) (own E c arg1 arg2 arg3 arg4 arg5 arg6 arg7 arg8 arg9 arg10 arg11) σ (segP4 i arg1 harg1 arg2 harg2 arg3 harg3 arg4 harg4 arg5 harg5 arg6 harg6 arg7 harg7 arg8 harg8 arg9 harg9 arg10 harg10 arg11 harg11 K) Q := by
  unfold segP4
  repeat' first
    | with_reducible exact ⟨rfl, rfl⟩
    | with_reducible (show Runs _ _ _ _ _ (Pure.pure _) _; refine Runs.pure ?_; try dsimp only)
    | with_reducible (show Runs _ _ _ _ _ (Prog.lift (TpuEff.load _ _ _) >>= _) _; refine Runs.bind (Runs.load ?_); try dsimp only; try simp (decide := true) only [ld_slot, ↓reduceIte])
    | with_reducible (show Runs _ _ _ _ _ (Prog.lift (TpuEff.store _ _ _ _ _ _) >>= _) _; refine Runs.bind (Runs.store ?_); try dsimp only)
    | with_reducible (show Runs _ _ _ _ _ (_ >>= _) _; apply Runs.andThen)
    | simp only [k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel]
  refine hQ _ ⟨⟨rfl, rfl, rfl, rfl, rfl, rfl⟩, rfl, ?_⟩
  intro e he h hh
  obtain rfl | rfl : e = 0 ∨ e = 1 := by omega
  all_goals
    obtain rfl | rfl | rfl | rfl | rfl | rfl | rfl | rfl : h = 0 ∨ h = 1 ∨ h = 2 ∨ h = 3 ∨ h = 4 ∨ h = 5 ∨ h = 6 ∨ h = 7 := by omega
    all_goals
      refine ⟨?_, ?_⟩ <;> (simp (decide := true) only [sl, qr, kr, vr, cr, xr, orr, lr, St.scores, St.keys, ld_slot, ld_slotO, ld_slotL, ld_full, ↓reduceIte]; rfl)

end Cert.FoxFwd

end
-- ==== Proof.FoxFwdSeg5.lean ====
/- The attention’s forward block: the second half of a block of keys, on the diagonal. -/
module

public import proofs.«01_k».proof.Proof.FoxFwdOps

@[expose] public section

noncomputable section

namespace Cert.FoxFwd

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Exact

variable {F : FTy → Type} [FloatOps F] [Named F]

/-- The second half of a block of keys, on the diagonal. Then `K`. -/
def segP5 {β : Type} (i : grid0.Coords) (arg1 : Memref sig .tc .vmem S2x256x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2x512x512 .f32) (harg4 : arg4.IsWhole) (arg5 : Memref sig .tc .vmem S2x256x128 .f32) (harg5 : arg5.IsWhole) (arg6 : Memref sig .tc .vmem S2x8x512 .f32) (harg6 : arg6.IsWhole) (arg7 : Memref sig .tc .vmem S2x256x512 .f32) (harg7 : arg7.IsWhole) (arg8 : Memref sig .tc .vmem S2x8x256 .f32) (harg8 : arg8.IsWhole) (arg9 : Memref sig .tc .vmem S2x8x256x128 .f32) (harg9 : arg9.IsWhole) (arg10 : Memref sig .tc .vmem S2x8x256x128 .f32) (harg10 : arg10.IsWhole) (arg11 : Memref sig .tc .vmem S2x8x256x128 .f32) (harg11 : arg11.IsWhole)
    (K : PUnit → Prog (TpuEff nD τ sig (Elt F) Λ₀ .tc) β) : Prog (TpuEff nD τ sig (Elt F) Λ₀ .tc) β := do
      let ⟨v88, v91, v103, v116, v119, v120⟩ : Σ' (v88 : IVec S1x128 1) (v91 : IVec S256x256 1) (v103 : FVec F S256x256 .f32) (v116 : FVec F S256x256 .f32) (v119 : FVec F S256x256 .f32), Vec F S1x1x256 .f32 ← k0_part78 i arg1 harg1 arg2 harg2 arg3 harg3 arg4 harg4 arg5 harg5 arg6 harg6 arg7 harg7 arg8 harg8 arg9 harg9 arg10 harg10 arg11 harg11
      let v156 : FVec F S1x1x256x128 .f32 ← k0_part79 i arg1 harg1 arg2 harg2 arg3 harg3 arg4 harg4 arg5 harg5 arg6 harg6 arg7 harg7 arg8 harg8 arg9 harg9 arg10 harg10 arg11 harg11 v88 v91 v103 v119 v120
      let ⟨v168, v184, v186, v189, v190⟩ : Σ' (v168 : FVec F S256x256 .f32) (v184 : FVec F S256x128 .f32) (v186 : FVec F S256x128 .f32) (v189 : FVec F S256x256 .f32), Vec F S1x1x256x128 .f32 ← k0_part80 i arg1 harg1 arg2 harg2 arg3 harg3 arg4 harg4 arg5 harg5 arg6 harg6 arg7 harg7 arg8 harg8 arg9 harg9 arg10 harg10 arg11 harg11 v88 v91 v116 v156
      let v222 : FVec F S256x256 .f32 ← k0_part81 i arg1 harg1 arg2 harg2 arg3 harg3 arg4 harg4 arg5 harg5 arg6 harg6 arg7 harg7 arg8 harg8 arg9 harg9 arg10 harg10 arg11 harg11 v88 v184 v186 v189 v190
      let ⟨v251, v258⟩ : Σ' (v251 : FVec F S256x128 .f32), FVec F S256x128 .f32 ← k0_part82 i arg1 harg1 arg2 harg2 arg3 harg3 arg4 harg4 arg5 harg5 arg6 harg6 arg7 harg7 arg8 harg8 arg9 harg9 arg10 harg10 arg11 harg11 v88 v91 v168
      let ⟨v274, v284, v290, v292⟩ : Σ' (v274 : FVec F S256x256 .f32) (v284 : FVec F S256x256 .f32) (v290 : FVec F S256x128 .f32), FVec F S256x128 .f32 ← k0_part83 i arg1 harg1 arg2 harg2 arg3 harg3 arg4 harg4 arg5 harg5 arg6 harg6 arg7 harg7 arg8 harg8 arg9 harg9 arg10 harg10 arg11 harg11 v88 v91 v222 v251 v258
      let v325 : FVec F S256x128 .bf16 ← k0_part84 i arg1 harg1 arg2 harg2 arg3 harg3 arg4 harg4 arg5 harg5 arg6 harg6 arg7 harg7 arg8 harg8 arg9 harg9 arg10 harg10 arg11 harg11 v88 v284 v290 v292
      let ⟨v328, v354, v357, v358⟩ : Σ' (v328 : FVec F S256x256 .f32) (v354 : FVec F S256x128 .f32) (v357 : FVec F S256x128 .f32), FVec F S256x256 .bf16 ← k0_part85 i arg1 harg1 arg2 harg2 arg3 harg3 arg4 harg4 arg5 harg5 arg6 harg6 arg7 harg7 arg8 harg8 arg9 harg9 arg10 harg10 arg11 harg11 v91 v274 v325
      let ⟨v380, v390, v391⟩ : Σ' (v380 : FVec F S256x256 .f32) (v390 : FVec F S256x256 .f32), Vec F S1x1x256x128 .f32 ← k0_part86 i arg1 harg1 arg2 harg2 arg3 harg3 arg4 harg4 arg5 harg5 arg6 harg6 arg7 harg7 arg8 harg8 arg9 harg9 arg10 harg10 arg11 harg11 v88 v91 v328 v354 v357 v358
      let ⟨v422, v424, v425⟩ : Σ' (v422 : IVec S1x128 1) (v424 : FVec F S256x128 .f32), FVec F S256x128 .f32 ← k0_part87 i arg1 harg1 arg2 harg2 arg3 harg3 arg4 harg4 arg5 harg5 arg6 harg6 arg7 harg7 arg8 harg8 arg9 harg9 arg10 harg10 arg11 harg11 v88 v390 v391
      let ⟨v434, v452, v455, v460⟩ : Σ' (v434 : FVec F S256x256 .f32) (v452 : FVec F S256x128 .f32) (v455 : FVec F S256x256 .f32), FVec F S256x128 .f32 ← k0_part88 i arg1 harg1 arg2 harg2 arg3 harg3 arg4 harg4 arg5 harg5 arg6 harg6 arg7 harg7 arg8 harg8 arg9 harg9 arg10 harg10 arg11 harg11 v91 v380 v422 v424 v425
      let ⟨v486, v494⟩ : Σ' (v486 : FVec F S256x256 .f32), FVec F S256x256 .f32 ← k0_part89 i arg1 harg1 arg2 harg2 arg3 harg3 arg4 harg4 arg5 harg5 arg6 harg6 arg7 harg7 arg8 harg8 arg9 harg9 arg10 harg10 arg11 harg11 v88 v434 v452 v455 v460
      let cst_351 : IVec S1x128 1 ← k0_part90 i arg1 harg1 arg2 harg2 arg3 harg3 arg4 harg4 arg5 harg5 arg6 harg6 arg7 harg7 arg8 harg8 arg9 harg9 arg10 harg10 arg11 harg11 v88 v91 v494
      let ⟨v540, v556, v558, v561, v562⟩ : Σ' (v540 : FVec F S256x256 .f32) (v556 : FVec F S256x128 .f32) (v558 : FVec F S256x128 .f32) (v561 : FVec F S256x256 .f32), Vec F S1x1x256x128 .f32 ← k0_part91 i arg1 harg1 arg2 harg2 arg3 harg3 arg4 harg4 arg5 harg5 arg6 harg6 arg7 harg7 arg8 harg8 arg9 harg9 arg10 harg10 arg11 harg11 v88 v91 v486 cst_351
      let ⟨v592, v595⟩ : Σ' (v592 : FVec F S256x256 .f32), FVec F S256x256 .f32 ← k0_part92 i arg1 harg1 arg2 harg2 arg3 harg3 arg4 harg4 arg5 harg5 arg6 harg6 arg7 harg7 arg8 harg8 arg9 harg9 arg10 harg10 arg11 harg11 v88 v556 v558 v561 v562
      let v630 : FVec F S256x128 .f32 ← k0_part93 i arg1 harg1 arg2 harg2 arg3 harg3 arg4 harg4 arg5 harg5 arg6 harg6 arg7 harg7 arg8 harg8 arg9 harg9 arg10 harg10 arg11 harg11 v88 v91 v540 v595
      let ⟨v646, v656, v662, v664⟩ : Σ' (v646 : FVec F S256x256 .f32) (v656 : FVec F S256x256 .f32) (v662 : FVec F S256x128 .f32), FVec F S256x128 .f32 ← k0_part94 i arg1 harg1 arg2 harg2 arg3 harg3 arg4 harg4 arg5 harg5 arg6 harg6 arg7 harg7 arg8 harg8 arg9 harg9 arg10 harg10 arg11 harg11 v88 v91 v592 v630
      let ⟨v695, v697, cst_475⟩ : Σ' (v695 : FVec F S256x128 .bf16) (v697 : FVec F S128x256 .bf16), FVec F S256x256 .f32 ← k0_part95 i arg1 harg1 arg2 harg2 arg3 harg3 arg4 harg4 arg5 harg5 arg6 harg6 arg7 harg7 arg8 harg8 arg9 harg9 arg10 harg10 arg11 harg11 v88 v656 v662 v664
      let ⟨v698, v724, v727, v728, cst_501, v730⟩ : Σ' (v698 : FVec F S256x256 .f32) (v724 : FVec F S256x128 .f32) (v727 : FVec F S256x128 .f32) (v728 : FVec F S256x256 .bf16) (cst_501 : F .f32), IVec S1x128 1 ← k0_part96 i arg1 harg1 arg2 harg2 arg3 harg3 arg4 harg4 arg5 harg5 arg6 harg6 arg7 harg7 arg8 harg8 arg9 harg9 arg10 harg10 arg11 harg11 v88 v91 v646 v695 v697 cst_475
      let ⟨v752, v762, v763⟩ : Σ' (v752 : FVec F S256x256 .f32) (v762 : FVec F S256x256 .f32), Vec F S1x1x256x128 .f32 ← k0_part97 i arg1 harg1 arg2 harg2 arg3 harg3 arg4 harg4 arg5 harg5 arg6 harg6 arg7 harg7 arg8 harg8 arg9 harg9 arg10 harg10 arg11 harg11 v88 v91 v698 v724 v727 v728 cst_501 v730
      let ⟨v796, cst_550, v798⟩ : Σ' (v796 : FVec F S256x128 .f32) (cst_550 : F .f32), IVec S256x128 1 ← k0_part98 i arg1 harg1 arg2 harg2 arg3 harg3 arg4 harg4 arg5 harg5 arg6 harg6 arg7 harg7 arg8 harg8 arg9 harg9 arg10 harg10 arg11 harg11 v88 v762 v763
      let ⟨v804, v822, v825, v830⟩ : Σ' (v804 : FVec F S256x256 .f32) (v822 : FVec F S256x128 .f32) (v825 : FVec F S256x256 .f32), FVec F S256x128 .f32 ← k0_part99 i arg1 harg1 arg2 harg2 arg3 harg3 arg4 harg4 arg5 harg5 arg6 harg6 arg7 harg7 arg8 harg8 arg9 harg9 arg10 harg10 arg11 harg11 v91 v752 v796 cst_550 v798
      let ⟨v858, v866⟩ : Σ' (v858 : FVec F S256x256 .f32), FVec F S256x256 .f32 ← k0_part100 i arg1 harg1 arg2 harg2 arg3 harg3 arg4 harg4 arg5 harg5 arg6 harg6 arg7 harg7 arg8 harg8 arg9 harg9 arg10 harg10 arg11 harg11 v88 v804 v822 v825 v830
      k0_part101 i arg1 harg1 arg2 harg2 arg3 harg3 arg4 harg4 arg5 harg5 arg6 harg6 arg7 harg7 arg8 harg8 arg9 harg9 arg10 harg10 arg11 harg11 v88 v91 v866
      let ⟨v927, v928, v934⟩ : Σ' (v927 : FVec F S256x128 .f32) (v928 : FVec F S256x256 .bf16), FVec F S256x128 .bf16 ← k0_part102 i arg1 harg1 arg2 harg2 arg3 harg3 arg4 harg4 arg5 harg5 arg6 harg6 arg7 harg7 arg8 harg8 arg9 harg9 arg10 harg10 arg11 harg11 v88 v91 v858
      let v937 : Vec F S1x1x256x128 .f32 ← Prog.lift (.load arg10 (Rect.unit (s := S2x8x256x128) ![1, 7, 0, 0] S1x1x256x128.size inb_S2x8x256x128_S1x1x256x128_1_7_0_0).toLoadRect (View.loadsAt_vmem h_S1x1x256x128))
      Prog.lift (.store arg10 (Rect.unit (s := S2x8x256x128) ![1, 7, 0, 0] S1x1x256x128.size inb_S2x8x256x128_S1x1x256x128_1_7_0_0) (k0_pay605 v927 v928 v934) Finset.univ (View.stores_vmem_bits_univ h_S1x1x256x128 rfl) (.inl rfl))
      K ⟨⟩

variable {E : sProp (MT nD τ sig Unit (Elt F) ℕ (UR sig nD τ) ℕ)} {c : Dev nD}
  {arg1 : Memref sig .tc .vmem S2x256x512 .f32}
  {arg2 : Memref sig .tc .vmem S512x512 .bf16}
  {arg3 : Memref sig .tc .vmem S512x512 .bf16}
  {arg4 : Memref sig .tc .vmem S2x512x512 .f32}
  {arg5 : Memref sig .tc .vmem S2x256x128 .f32}
  {arg6 : Memref sig .tc .vmem S2x8x512 .f32}
  {arg7 : Memref sig .tc .vmem S2x256x512 .f32}
  {arg8 : Memref sig .tc .vmem S2x8x256 .f32}
  {arg9 : Memref sig .tc .vmem S2x8x256x128 .f32}
  {arg10 : Memref sig .tc .vmem S2x8x256x128 .f32}
  {arg11 : Memref sig .tc .vmem S2x8x256x128 .f32}

  {defs : Defs nD τ sig (Elt F) Λ₀} {𝒱 : Variants} (i : grid0.Coords)
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}

set_option maxHeartbeats 0 in
set_option maxRecDepth 65536 in
/-- What it leaves. -/
theorem seg5 (σ : St F)  {β : Type} {Q : β → St F → Prop} {K : PUnit → Prog (TpuEff nD τ sig (Elt F) Λ₀ .tc) β} (hQ : ∀ s, Upd true 1 (by omega) σ s → Runs defs 𝒱 (c : Thread nD τ) (own E c arg1 arg2 arg3 arg4 arg5 arg6 arg7 arg8 arg9 arg10 arg11) s (K ⟨⟩) Q) :
    Runs defs 𝒱 (c : Thread nD τ) (own E c arg1 arg2 arg3 arg4 arg5 arg6 arg7 arg8 arg9 arg10 arg11) σ (segP5 i arg1 harg1 arg2 harg2 arg3 harg3 arg4 harg4 arg5 harg5 arg6 harg6 arg7 harg7 arg8 harg8 arg9 harg9 arg10 harg10 arg11 harg11 K) Q := by
  unfold segP5
  repeat' first
    | with_reducible exact ⟨rfl, rfl⟩
    | with_reducible (show Runs _ _ _ _ _ (Pure.pure _) _; refine Runs.pure ?_; try dsimp only)
    | with_reducible (show Runs _ _ _ _ _ (Prog.lift (TpuEff.load _ _ _) >>= _) _; refine Runs.bind (Runs.load ?_); try dsimp only; try simp (decide := true) only [ld_slot, ↓reduceIte])
    | with_reducible (show Runs _ _ _ _ _ (Prog.lift (TpuEff.store _ _ _ _ _ _) >>= _) _; refine Runs.bind (Runs.store ?_); try dsimp only)
    | with_reducible (show Runs _ _ _ _ _ (_ >>= _) _; apply Runs.andThen)
    | simp only [k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel]
  refine hQ _ ⟨⟨rfl, rfl, rfl, rfl, rfl, rfl⟩, rfl, ?_⟩
  intro e he h hh
  obtain rfl | rfl : e = 0 ∨ e = 1 := by omega
  all_goals
    obtain rfl | rfl | rfl | rfl | rfl | rfl | rfl | rfl : h = 0 ∨ h = 1 ∨ h = 2 ∨ h = 3 ∨ h = 4 ∨ h = 5 ∨ h = 6 ∨ h = 7 := by omega
    all_goals
      refine ⟨?_, ?_⟩ <;> (simp (decide := true) only [sl, qr, kr, vr, cr, xr, orr, lr, St.scores, St.keys, ld_slot, ld_slotO, ld_slotL, ld_full, ↓reduceIte]; rfl)

end Cert.FoxFwd

end
-- ==== Proof.FoxFwdSeg6.lean ====
/- The attention’s forward block: the end of a row of blocks. -/
module

public import proofs.«01_k».proof.Proof.FoxFwdOps

@[expose] public section

noncomputable section

namespace Cert.FoxFwd

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Exact

variable {F : FTy → Type} [FloatOps F] [Named F]

/-- The end of a row of blocks. Then `K`. -/
def segP6 {β : Type} (i : grid0.Coords) (arg1 : Memref sig .tc .vmem S2x256x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2x512x512 .f32) (harg4 : arg4.IsWhole) (arg5 : Memref sig .tc .vmem S2x256x128 .f32) (harg5 : arg5.IsWhole) (arg6 : Memref sig .tc .vmem S2x8x512 .f32) (harg6 : arg6.IsWhole) (arg7 : Memref sig .tc .vmem S2x256x512 .f32) (harg7 : arg7.IsWhole) (arg8 : Memref sig .tc .vmem S2x8x256 .f32) (harg8 : arg8.IsWhole) (arg9 : Memref sig .tc .vmem S2x8x256x128 .f32) (harg9 : arg9.IsWhole) (arg10 : Memref sig .tc .vmem S2x8x256x128 .f32) (harg10 : arg10.IsWhole) (arg11 : Memref sig .tc .vmem S2x8x256x128 .f32) (harg11 : arg11.IsWhole)
    (K : PUnit → Prog (TpuEff nD τ sig (Elt F) Λ₀ .tc) β) : Prog (TpuEff nD τ sig (Elt F) Λ₀ .tc) β := do
      let ⟨v88, v90, v94, v98, v117, v118, c0_i32_64⟩ : Σ' (v88 : IVec S1x128 1) (v90 : FVec F S256x128 .f32) (v94 : FVec F S256x128 .f32) (v98 : FVec F S256x128 .f32) (v117 : FVec F S256x128 .f32) (v118 : IVec S256x128 32), BitVec 32 ← k0_part103 i arg1 harg1 arg2 harg2 arg3 harg3 arg4 harg4 arg5 harg5 arg6 harg6 arg7 harg7 arg8 harg8 arg9 harg9 arg10 harg10 arg11 harg11
      let ⟨v125, v129, v133, v152, v153, c2_i32_85⟩ : Σ' (v125 : FVec F S256x128 .f32) (v129 : FVec F S256x128 .f32) (v133 : FVec F S256x128 .f32) (v152 : FVec F S256x128 .f32) (v153 : IVec S256x128 32), BitVec 32 ← k0_part104 i arg1 harg1 arg2 harg2 arg3 harg3 arg4 harg4 arg5 harg5 arg6 harg6 arg7 harg7 arg8 harg8 arg9 harg9 arg10 harg10 arg11 harg11 v88 v90 v94 v98 v117 v118 c0_i32_64
      let ⟨v160, v164, v168, v187, v188, c4_i32_105⟩ : Σ' (v160 : FVec F S256x128 .f32) (v164 : FVec F S256x128 .f32) (v168 : FVec F S256x128 .f32) (v187 : FVec F S256x128 .f32) (v188 : IVec S256x128 32), BitVec 32 ← k0_part105 i arg1 harg1 arg2 harg2 arg3 harg3 arg4 harg4 arg5 harg5 arg6 harg6 arg7 harg7 arg8 harg8 arg9 harg9 arg10 harg10 arg11 harg11 v88 v125 v129 v133 v152 v153 c2_i32_85
      let ⟨v195, v199, v203, v222, v223, c6_i32_125⟩ : Σ' (v195 : FVec F S256x128 .f32) (v199 : FVec F S256x128 .f32) (v203 : FVec F S256x128 .f32) (v222 : FVec F S256x128 .f32) (v223 : IVec S256x128 32), BitVec 32 ← k0_part106 i arg1 harg1 arg2 harg2 arg3 harg3 arg4 harg4 arg5 harg5 arg6 harg6 arg7 harg7 arg8 harg8 arg9 harg9 arg10 harg10 arg11 harg11 v88 v160 v164 v168 v187 v188 c4_i32_105
      let ⟨v238, v239, v243, v247, v256, v257, v258⟩ : Σ' (v238 : FVec F S256x128 .f32) (v239 : FVec F S256x128 .f32) (v243 : FVec F S256x128 .f32) (v247 : FVec F S256x128 .f32) (v256 : FVec F S256x128 .f32) (v257 : IVec S256x128 32), IVec S256x128 32 ← k0_part107 i arg1 harg1 arg2 harg2 arg3 harg3 arg4 harg4 arg5 harg5 arg6 harg6 arg7 harg7 arg8 harg8 arg9 harg9 arg10 harg10 arg11 harg11 v88 v195 v199 v203 v222 v223 c6_i32_125
      let ⟨v266, v274, v278, v282, v291, v292, v293⟩ : Σ' (v266 : FVec F S256x128 .f32) (v274 : FVec F S256x128 .f32) (v278 : FVec F S256x128 .f32) (v282 : FVec F S256x128 .f32) (v291 : FVec F S256x128 .f32) (v292 : IVec S256x128 32), IVec S256x128 32 ← k0_part108 i arg1 harg1 arg2 harg2 arg3 harg3 arg4 harg4 arg5 harg5 arg6 harg6 arg7 harg7 arg8 harg8 arg9 harg9 arg10 harg10 arg11 harg11 v88 v238 v239 v243 v247 v256 v257 v258
      let ⟨v301, v309, v313, v317, v326, v327, v328⟩ : Σ' (v301 : FVec F S256x128 .f32) (v309 : FVec F S256x128 .f32) (v313 : FVec F S256x128 .f32) (v317 : FVec F S256x128 .f32) (v326 : FVec F S256x128 .f32) (v327 : IVec S256x128 32), IVec S256x128 32 ← k0_part109 i arg1 harg1 arg2 harg2 arg3 harg3 arg4 harg4 arg5 harg5 arg6 harg6 arg7 harg7 arg8 harg8 arg9 harg9 arg10 harg10 arg11 harg11 v88 v266 v274 v278 v282 v291 v292 v293
      let ⟨v336, v344, v348, v352, v361, v362, v363⟩ : Σ' (v336 : FVec F S256x128 .f32) (v344 : FVec F S256x128 .f32) (v348 : FVec F S256x128 .f32) (v352 : FVec F S256x128 .f32) (v361 : FVec F S256x128 .f32) (v362 : IVec S256x128 32), IVec S256x128 32 ← k0_part110 i arg1 harg1 arg2 harg2 arg3 harg3 arg4 harg4 arg5 harg5 arg6 harg6 arg7 harg7 arg8 harg8 arg9 harg9 arg10 harg10 arg11 harg11 v88 v301 v309 v313 v317 v326 v327 v328
      let v366 : Vec F S1x1x256x128 .f32 ← Prog.lift (.load arg9 (Rect.unit (s := S2x8x256x128) ![1, 7, 0, 0] S1x1x256x128.size inb_S2x8x256x128_S1x1x256x128_1_7_0_0).toLoadRect (View.loadsAt_vmem h_S1x1x256x128))
      let v384 : Vec F S1x8x256 .f32 ← Prog.lift (.load arg8 (Rect.unit (s := S2x8x256) ![1, 0, 0] S1x8x256.size inb_S2x8x256_S1x8x256_1_0_0).toLoadRect (View.loadsAt_vmem h_S1x8x256))
      Prog.lift (.store arg8 (Rect.unit (s := S2x8x256) ![1, 0, 0] S1x8x256.size inb_S2x8x256_S1x8x256_1_0_0) (k0_pay1 v336 v344 v348 v352 v361 v362 v363 v366) Finset.univ (View.stores_vmem_bits_univ h_S1x8x256 rfl) (.inl rfl))
      K ⟨⟩

variable {E : sProp (MT nD τ sig Unit (Elt F) ℕ (UR sig nD τ) ℕ)} {c : Dev nD}
  {arg1 : Memref sig .tc .vmem S2x256x512 .f32}
  {arg2 : Memref sig .tc .vmem S512x512 .bf16}
  {arg3 : Memref sig .tc .vmem S512x512 .bf16}
  {arg4 : Memref sig .tc .vmem S2x512x512 .f32}
  {arg5 : Memref sig .tc .vmem S2x256x128 .f32}
  {arg6 : Memref sig .tc .vmem S2x8x512 .f32}
  {arg7 : Memref sig .tc .vmem S2x256x512 .f32}
  {arg8 : Memref sig .tc .vmem S2x8x256 .f32}
  {arg9 : Memref sig .tc .vmem S2x8x256x128 .f32}
  {arg10 : Memref sig .tc .vmem S2x8x256x128 .f32}
  {arg11 : Memref sig .tc .vmem S2x8x256x128 .f32}

  {defs : Defs nD τ sig (Elt F) Λ₀} {𝒱 : Variants} (i : grid0.Coords)
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}

set_option maxHeartbeats 0 in
set_option maxRecDepth 65536 in
/-- What it leaves. -/
theorem seg6 (σ : St F)  {β : Type} {Q : β → St F → Prop} {K : PUnit → Prog (TpuEff nD τ sig (Elt F) Λ₀ .tc) β} (hQ : ∀ s, Fini σ s → Runs defs 𝒱 (c : Thread nD τ) (own E c arg1 arg2 arg3 arg4 arg5 arg6 arg7 arg8 arg9 arg10 arg11) s (K ⟨⟩) Q) :
    Runs defs 𝒱 (c : Thread nD τ) (own E c arg1 arg2 arg3 arg4 arg5 arg6 arg7 arg8 arg9 arg10 arg11) σ (segP6 i arg1 harg1 arg2 harg2 arg3 harg3 arg4 harg4 arg5 harg5 arg6 harg6 arg7 harg7 arg8 harg8 arg9 harg9 arg10 harg10 arg11 harg11 K) Q := by
  unfold segP6
  repeat' first
    | with_reducible exact ⟨rfl, rfl⟩
    | with_reducible (show Runs _ _ _ _ _ (Pure.pure _) _; refine Runs.pure ?_; try dsimp only)
    | with_reducible (show Runs _ _ _ _ _ (Prog.lift (TpuEff.load _ _ _) >>= _) _; refine Runs.bind (Runs.load ?_); try dsimp only; try simp (decide := true) only [ld_slot, ↓reduceIte])
    | with_reducible (show Runs _ _ _ _ _ (Prog.lift (TpuEff.store _ _ _ _ _ _) >>= _) _; refine Runs.bind (Runs.store ?_); try dsimp only)
    | with_reducible (show Runs _ _ _ _ _ (_ >>= _) _; apply Runs.andThen)
    | simp only [k0_part103_eq_skeleton, k0_part103_skel, k0_part104_eq_skeleton, k0_part104_skel, k0_part105_eq_skeleton, k0_part105_skel, k0_part106_eq_skeleton, k0_part106_skel, k0_part107_eq_skeleton, k0_part107_skel, k0_part108_eq_skeleton, k0_part108_skel, k0_part109_eq_skeleton, k0_part109_skel, k0_part110_eq_skeleton, k0_part110_skel]
  refine hQ _ ⟨⟨rfl, rfl, rfl, rfl, rfl, rfl⟩, ?_, ?_⟩
  · intro e he p hp
    obtain rfl | rfl : e = 0 ∨ e = 1 := by omega
    all_goals
      obtain rfl | rfl | rfl | rfl : p = 0 ∨ p = 1 ∨ p = 2 ∨ p = 3 := by omega
      all_goals
        simp (decide := true) only [sl, qr, kr, vr, cr, xr, orr, lr, St.scores, St.keys, ld_slot, ld_slotO, ld_slotL, ld_full, ↓reduceIte] <;> rfl
  · intro e he
    obtain rfl | rfl : e = 0 ∨ e = 1 := by omega
    all_goals
      simp (decide := true) only [sl, qr, kr, vr, cr, xr, orr, lr, St.scores, St.keys, ld_slot, ld_slotO, ld_slotL, ld_full, ↓reduceIte] <;> rfl

end Cert.FoxFwd

end
-- ==== Proof.FoxFwdBody.lean ====
/- The attention's forward block: the whole body, as the steps it takes at a grid point. -/
module

public import proofs.«01_k».proof.Proof.FoxFwdSeg1
public import proofs.«01_k».proof.Proof.FoxFwdSeg2
public import proofs.«01_k».proof.Proof.FoxFwdSeg3
public import proofs.«01_k».proof.Proof.FoxFwdSeg4
public import proofs.«01_k».proof.Proof.FoxFwdSeg5
public import proofs.«01_k».proof.Proof.FoxFwdSeg6

@[expose] public section

noncomputable section

namespace Cert.FoxFwd

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Exact

variable {F : FTy → Type} [FloatOps F] [Named F]

/-- The block of rows of a grid point. -/
def qn (n : ℕ) : ℕ := (if 1 ≤ n then 1 else 0) + (if 2 ≤ n then 1 else 0) + (if 4 ≤ n then 1 else 0) + (if 6 ≤ n then 1 else 0) + (if 9 ≤ n then 1 else 0) + (if 12 ≤ n then 1 else 0) + (if 16 ≤ n then 1 else 0)

/-- The block of keys of a grid point. -/
def kn (n : ℕ) : ℕ := n - ((if 1 ≤ n then 1 else 0) + (if 2 ≤ n then 1 else 0) + (if 4 ≤ n then 2 else 0) + (if 6 ≤ n then 2 else 0) + (if 9 ≤ n then 3 else 0) + (if 12 ≤ n then 3 else 0) + (if 16 ≤ n then 4 else 0))

/-- The body’s word for whether a row of blocks starts. -/
def b1 (n : ℕ) : BitVec 1 :=
  let arg0 : BitVec 32 := BitVec.ofNat 32 n
  let v21 : BitVec 1 := Scalar.cmpi .sge arg0 1#32
  let v22 : BitVec 32 := Scalar.select v21 1#32 0#32
  let v23 : BitVec 1 := Scalar.cmpi .sge arg0 2#32
  let v24 : BitVec 32 := Scalar.select v23 1#32 0#32
  let v25 : BitVec 1 := Scalar.cmpi .sge arg0 4#32
  let v26 : BitVec 32 := Scalar.select v25 2#32 0#32
  let v27 : BitVec 1 := Scalar.cmpi .sge arg0 6#32
  let v28 : BitVec 32 := Scalar.select v27 2#32 0#32
  let v29 : BitVec 1 := Scalar.cmpi .sge arg0 9#32
  let v30 : BitVec 32 := Scalar.select v29 3#32 0#32
  let v31 : BitVec 1 := Scalar.cmpi .sge arg0 12#32
  let v32 : BitVec 32 := Scalar.select v31 3#32 0#32
  let v33 : BitVec 1 := Scalar.cmpi .sge arg0 16#32
  let v34 : BitVec 32 := Scalar.select v33 4#32 0#32
  let v35 : BitVec 32 := Scalar.addi 0#32 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let v43 : BitVec 1 := Scalar.cmpi .eq v42 0#32
  let v44 : BitVec 32 := Scalar.extui v43
  Scalar.cmpi .ne v44 0#32

/-- What the word says. -/
theorem b1_iff : ∀ n : Fin 20, b1 n.val = 1#1 ↔ kn n.val = 0 := by decide

/-- The body’s word for whether the first half is before the diagonal. -/
def b2 (n : ℕ) : BitVec 1 :=
  let arg0 : BitVec 32 := BitVec.ofNat 32 n
  let v0 : BitVec 1 := Scalar.cmpi .sge arg0 1#32
  let v1 : BitVec 32 := Scalar.extui v0
  let v2 : BitVec 1 := Scalar.cmpi .sge arg0 2#32
  let v3 : BitVec 32 := Scalar.extui v2
  let v4 : BitVec 1 := Scalar.cmpi .sge arg0 4#32
  let v5 : BitVec 32 := Scalar.extui v4
  let v6 : BitVec 1 := Scalar.cmpi .sge arg0 6#32
  let v7 : BitVec 32 := Scalar.extui v6
  let v8 : BitVec 1 := Scalar.cmpi .sge arg0 9#32
  let v9 : BitVec 32 := Scalar.extui v8
  let v10 : BitVec 1 := Scalar.cmpi .sge arg0 12#32
  let v11 : BitVec 32 := Scalar.extui v10
  let v12 : BitVec 1 := Scalar.cmpi .sge arg0 16#32
  let v13 : BitVec 32 := Scalar.extui v12
  let v14 : BitVec 32 := Scalar.addi 0#32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let v21 : BitVec 1 := Scalar.cmpi .sge arg0 1#32
  let v22 : BitVec 32 := Scalar.select v21 1#32 0#32
  let v23 : BitVec 1 := Scalar.cmpi .sge arg0 2#32
  let v24 : BitVec 32 := Scalar.select v23 1#32 0#32
  let v25 : BitVec 1 := Scalar.cmpi .sge arg0 4#32
  let v26 : BitVec 32 := Scalar.select v25 2#32 0#32
  let v27 : BitVec 1 := Scalar.cmpi .sge arg0 6#32
  let v28 : BitVec 32 := Scalar.select v27 2#32 0#32
  let v29 : BitVec 1 := Scalar.cmpi .sge arg0 9#32
  let v30 : BitVec 32 := Scalar.select v29 3#32 0#32
  let v31 : BitVec 1 := Scalar.cmpi .sge arg0 12#32
  let v32 : BitVec 32 := Scalar.select v31 3#32 0#32
  let v33 : BitVec 1 := Scalar.cmpi .sge arg0 16#32
  let v34 : BitVec 32 := Scalar.select v33 4#32 0#32
  let v35 : BitVec 32 := Scalar.addi 0#32 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let v46 : BitVec 32 := Scalar.muli v42 2#32
  let v47 : BitVec 32 := Scalar.addi v46 0#32
  let v48 : BitVec 1 := Scalar.cmpi .slt v47 v20
  let v49 : BitVec 32 := Scalar.extui v48
  Scalar.cmpi .ne v49 0#32

/-- What the word says. -/
theorem b2_iff : ∀ n : Fin 20, b2 n.val = 1#1 ↔ 2 * kn n.val < qn n.val := by decide

/-- The body’s word for whether the first half is on the diagonal. -/
def b3 (n : ℕ) : BitVec 1 :=
  let arg0 : BitVec 32 := BitVec.ofNat 32 n
  let v0 : BitVec 1 := Scalar.cmpi .sge arg0 1#32
  let v1 : BitVec 32 := Scalar.extui v0
  let v2 : BitVec 1 := Scalar.cmpi .sge arg0 2#32
  let v3 : BitVec 32 := Scalar.extui v2
  let v4 : BitVec 1 := Scalar.cmpi .sge arg0 4#32
  let v5 : BitVec 32 := Scalar.extui v4
  let v6 : BitVec 1 := Scalar.cmpi .sge arg0 6#32
  let v7 : BitVec 32 := Scalar.extui v6
  let v8 : BitVec 1 := Scalar.cmpi .sge arg0 9#32
  let v9 : BitVec 32 := Scalar.extui v8
  let v10 : BitVec 1 := Scalar.cmpi .sge arg0 12#32
  let v11 : BitVec 32 := Scalar.extui v10
  let v12 : BitVec 1 := Scalar.cmpi .sge arg0 16#32
  let v13 : BitVec 32 := Scalar.extui v12
  let v14 : BitVec 32 := Scalar.addi 0#32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let v21 : BitVec 1 := Scalar.cmpi .sge arg0 1#32
  let v22 : BitVec 32 := Scalar.select v21 1#32 0#32
  let v23 : BitVec 1 := Scalar.cmpi .sge arg0 2#32
  let v24 : BitVec 32 := Scalar.select v23 1#32 0#32
  let v25 : BitVec 1 := Scalar.cmpi .sge arg0 4#32
  let v26 : BitVec 32 := Scalar.select v25 2#32 0#32
  let v27 : BitVec 1 := Scalar.cmpi .sge arg0 6#32
  let v28 : BitVec 32 := Scalar.select v27 2#32 0#32
  let v29 : BitVec 1 := Scalar.cmpi .sge arg0 9#32
  let v30 : BitVec 32 := Scalar.select v29 3#32 0#32
  let v31 : BitVec 1 := Scalar.cmpi .sge arg0 12#32
  let v32 : BitVec 32 := Scalar.select v31 3#32 0#32
  let v33 : BitVec 1 := Scalar.cmpi .sge arg0 16#32
  let v34 : BitVec 32 := Scalar.select v33 4#32 0#32
  let v35 : BitVec 32 := Scalar.addi 0#32 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let v51 : BitVec 32 := Scalar.muli v42 2#32
  let v52 : BitVec 32 := Scalar.addi v51 0#32
  let v53 : BitVec 1 := Scalar.cmpi .eq v52 v20
  let v54 : BitVec 32 := Scalar.extui v53
  Scalar.cmpi .ne v54 0#32

/-- What the word says. -/
theorem b3_iff : ∀ n : Fin 20, b3 n.val = 1#1 ↔ 2 * kn n.val = qn n.val := by decide

/-- The body’s word for whether the second half is before the diagonal. -/
def b4 (n : ℕ) : BitVec 1 :=
  let arg0 : BitVec 32 := BitVec.ofNat 32 n
  let v0 : BitVec 1 := Scalar.cmpi .sge arg0 1#32
  let v1 : BitVec 32 := Scalar.extui v0
  let v2 : BitVec 1 := Scalar.cmpi .sge arg0 2#32
  let v3 : BitVec 32 := Scalar.extui v2
  let v4 : BitVec 1 := Scalar.cmpi .sge arg0 4#32
  let v5 : BitVec 32 := Scalar.extui v4
  let v6 : BitVec 1 := Scalar.cmpi .sge arg0 6#32
  let v7 : BitVec 32 := Scalar.extui v6
  let v8 : BitVec 1 := Scalar.cmpi .sge arg0 9#32
  let v9 : BitVec 32 := Scalar.extui v8
  let v10 : BitVec 1 := Scalar.cmpi .sge arg0 12#32
  let v11 : BitVec 32 := Scalar.extui v10
  let v12 : BitVec 1 := Scalar.cmpi .sge arg0 16#32
  let v13 : BitVec 32 := Scalar.extui v12
  let v14 : BitVec 32 := Scalar.addi 0#32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let v21 : BitVec 1 := Scalar.cmpi .sge arg0 1#32
  let v22 : BitVec 32 := Scalar.select v21 1#32 0#32
  let v23 : BitVec 1 := Scalar.cmpi .sge arg0 2#32
  let v24 : BitVec 32 := Scalar.select v23 1#32 0#32
  let v25 : BitVec 1 := Scalar.cmpi .sge arg0 4#32
  let v26 : BitVec 32 := Scalar.select v25 2#32 0#32
  let v27 : BitVec 1 := Scalar.cmpi .sge arg0 6#32
  let v28 : BitVec 32 := Scalar.select v27 2#32 0#32
  let v29 : BitVec 1 := Scalar.cmpi .sge arg0 9#32
  let v30 : BitVec 32 := Scalar.select v29 3#32 0#32
  let v31 : BitVec 1 := Scalar.cmpi .sge arg0 12#32
  let v32 : BitVec 32 := Scalar.select v31 3#32 0#32
  let v33 : BitVec 1 := Scalar.cmpi .sge arg0 16#32
  let v34 : BitVec 32 := Scalar.select v33 4#32 0#32
  let v35 : BitVec 32 := Scalar.addi 0#32 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let v56 : BitVec 32 := Scalar.muli v42 2#32
  let v57 : BitVec 32 := Scalar.addi v56 1#32
  let v58 : BitVec 1 := Scalar.cmpi .slt v57 v20
  let v59 : BitVec 32 := Scalar.extui v58
  Scalar.cmpi .ne v59 0#32

/-- What the word says. -/
theorem b4_iff : ∀ n : Fin 20, b4 n.val = 1#1 ↔ 2 * kn n.val + 1 < qn n.val := by decide

/-- The body’s word for whether the second half is on the diagonal. -/
def b5 (n : ℕ) : BitVec 1 :=
  let arg0 : BitVec 32 := BitVec.ofNat 32 n
  let v0 : BitVec 1 := Scalar.cmpi .sge arg0 1#32
  let v1 : BitVec 32 := Scalar.extui v0
  let v2 : BitVec 1 := Scalar.cmpi .sge arg0 2#32
  let v3 : BitVec 32 := Scalar.extui v2
  let v4 : BitVec 1 := Scalar.cmpi .sge arg0 4#32
  let v5 : BitVec 32 := Scalar.extui v4
  let v6 : BitVec 1 := Scalar.cmpi .sge arg0 6#32
  let v7 : BitVec 32 := Scalar.extui v6
  let v8 : BitVec 1 := Scalar.cmpi .sge arg0 9#32
  let v9 : BitVec 32 := Scalar.extui v8
  let v10 : BitVec 1 := Scalar.cmpi .sge arg0 12#32
  let v11 : BitVec 32 := Scalar.extui v10
  let v12 : BitVec 1 := Scalar.cmpi .sge arg0 16#32
  let v13 : BitVec 32 := Scalar.extui v12
  let v14 : BitVec 32 := Scalar.addi 0#32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let v21 : BitVec 1 := Scalar.cmpi .sge arg0 1#32
  let v22 : BitVec 32 := Scalar.select v21 1#32 0#32
  let v23 : BitVec 1 := Scalar.cmpi .sge arg0 2#32
  let v24 : BitVec 32 := Scalar.select v23 1#32 0#32
  let v25 : BitVec 1 := Scalar.cmpi .sge arg0 4#32
  let v26 : BitVec 32 := Scalar.select v25 2#32 0#32
  let v27 : BitVec 1 := Scalar.cmpi .sge arg0 6#32
  let v28 : BitVec 32 := Scalar.select v27 2#32 0#32
  let v29 : BitVec 1 := Scalar.cmpi .sge arg0 9#32
  let v30 : BitVec 32 := Scalar.select v29 3#32 0#32
  let v31 : BitVec 1 := Scalar.cmpi .sge arg0 12#32
  let v32 : BitVec 32 := Scalar.select v31 3#32 0#32
  let v33 : BitVec 1 := Scalar.cmpi .sge arg0 16#32
  let v34 : BitVec 32 := Scalar.select v33 4#32 0#32
  let v35 : BitVec 32 := Scalar.addi 0#32 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg0 v41
  let v61 : BitVec 32 := Scalar.muli v42 2#32
  let v62 : BitVec 32 := Scalar.addi v61 1#32
  let v63 : BitVec 1 := Scalar.cmpi .eq v62 v20
  let v64 : BitVec 32 := Scalar.extui v63
  Scalar.cmpi .ne v64 0#32

/-- What the word says. -/
theorem b5_iff : ∀ n : Fin 20, b5 n.val = 1#1 ↔ 2 * kn n.val + 1 = qn n.val := by decide

/-- The last word: whether a row of blocks ends. -/
theorem b6_iff : ∀ i : grid0.Coords, k0_cond6 i = 1#1 ↔ kn (i 0).val = qn (i 0).val / 2 := by decide

/-- The steps before the last. -/
def Mid {F : FTy → Type} [FloatOps F] [Named F] (q k : ℕ) (σ s5 : St F) : Prop :=
  ∃ s1 s2 s3 s4 : St F, ((k = 0 ∧ Init σ s1) ∨ (k ≠ 0 ∧ s1 = σ))
    ∧ ((2 * k < q ∧ Upd false 0 (by omega) s1 s2) ∨ (¬ 2 * k < q ∧ s2 = s1))
    ∧ ((2 * k = q ∧ Upd true 0 (by omega) s2 s3) ∨ (2 * k ≠ q ∧ s3 = s2))
    ∧ ((2 * k + 1 < q ∧ Upd false 1 (by omega) s3 s4) ∨ (¬ 2 * k + 1 < q ∧ s4 = s3))
    ∧ ((2 * k + 1 = q ∧ Upd true 1 (by omega) s4 s5) ∨ (2 * k + 1 ≠ q ∧ s5 = s4))

/-- The steps of one grid point, block of rows `q`, block of keys `k`. -/
def Step {F : FTy → Type} [FloatOps F] [Named F] (q k : ℕ) (σ s : St F) : Prop :=
  ∃ s5 : St F, Mid q k σ s5 ∧ ((k = q / 2 ∧ Fini s5 s) ∨ (k ≠ q / 2 ∧ s = s5))

variable {E : sProp (MT nD τ sig Unit (Elt F) ℕ (UR sig nD τ) ℕ)} {c : Dev nD}
  {arg1 : Memref sig .tc .vmem S2x256x512 .f32}
  {arg2 : Memref sig .tc .vmem S512x512 .bf16}
  {arg3 : Memref sig .tc .vmem S512x512 .bf16}
  {arg4 : Memref sig .tc .vmem S2x512x512 .f32}
  {arg5 : Memref sig .tc .vmem S2x256x128 .f32}
  {arg6 : Memref sig .tc .vmem S2x8x512 .f32}
  {arg7 : Memref sig .tc .vmem S2x256x512 .f32}
  {arg8 : Memref sig .tc .vmem S2x8x256 .f32}
  {arg9 : Memref sig .tc .vmem S2x8x256x128 .f32}
  {arg10 : Memref sig .tc .vmem S2x8x256x128 .f32}
  {arg11 : Memref sig .tc .vmem S2x8x256x128 .f32}

  {defs : Defs nD τ sig (Elt F) Λ₀} {𝒱 : Variants} (i : grid0.Coords)
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}

set_option maxHeartbeats 0 in
set_option maxRecDepth 65536 in
/-- The steps before the last, taken. -/
theorem most (σ : St F) :
    Runs defs 𝒱 (c : Thread nD τ) (own E c arg1 arg2 arg3 arg4 arg5 arg6 arg7 arg8 arg9 arg10 arg11) σ (k0_part112_skel i arg1 harg1 arg2 harg2 arg3 harg3 arg4 harg4 arg5 harg5 arg6 harg6 arg7 harg7 arg8 harg8 arg9 harg9 arg10 harg10 arg11 harg11 (BitVec.ofNat 32 (i 0).val) (Scalar.addi (Scalar.addi (Scalar.addi (Scalar.addi (Scalar.addi (Scalar.addi (Scalar.addi 0#32 (Scalar.extui (Scalar.cmpi .sge (BitVec.ofNat 32 (i 0).val) 1#32))) (Scalar.extui (Scalar.cmpi .sge (BitVec.ofNat 32 (i 0).val) 2#32))) (Scalar.extui (Scalar.cmpi .sge (BitVec.ofNat 32 (i 0).val) 4#32))) (Scalar.extui (Scalar.cmpi .sge (BitVec.ofNat 32 (i 0).val) 6#32))) (Scalar.extui (Scalar.cmpi .sge (BitVec.ofNat 32 (i 0).val) 9#32))) (Scalar.extui (Scalar.cmpi .sge (BitVec.ofNat 32 (i 0).val) 12#32))) (Scalar.extui (Scalar.cmpi .sge (BitVec.ofNat 32 (i 0).val) 16#32))) (Scalar.select (Scalar.cmpi .sge (BitVec.ofNat 32 (i 0).val) 1#32) 1#32 0#32) (Scalar.select (Scalar.cmpi .sge (BitVec.ofNat 32 (i 0).val) 2#32) 1#32 0#32) (Scalar.select (Scalar.cmpi .sge (BitVec.ofNat 32 (i 0).val) 4#32) 2#32 0#32) (Scalar.select (Scalar.cmpi .sge (BitVec.ofNat 32 (i 0).val) 6#32) 2#32 0#32) (Scalar.select (Scalar.cmpi .sge (BitVec.ofNat 32 (i 0).val) 9#32) 3#32 0#32) (Scalar.select (Scalar.cmpi .sge (BitVec.ofNat 32 (i 0).val) 12#32) 3#32 0#32))
      (fun _ s => Mid (qn (i 0).val) (kn (i 0).val) σ s) := by
  unfold k0_part112_skel
  extract_lets -merge v33 v34 v35 v36 v37 v38 v39 v40 v41 v42 v43 v44 v45 v46 v47 v48 v49 v50 v51 v52 v53 v54 v55 v56 v57 v58 v59 v60 v61 v62 v63 v64 v65 v66 v67 jp5 jp4 jp3 jp2 jp1
  have H5 : ∀ s, Mid (qn (i 0).val) (kn (i 0).val) σ s → Runs defs 𝒱 (c : Thread nD τ) (own E c arg1 arg2 arg3 arg4 arg5 arg6 arg7 arg8 arg9 arg10 arg11) s (jp5 ⟨⟩) (fun _ s => Mid (qn (i 0).val) (kn (i 0).val) σ s) := fun s h => Runs.pure h
  clear_value jp5
  have H4 : ∀ s1 s2 s3 s4, ((kn (i 0).val = 0 ∧ Init σ s1) ∨ (kn (i 0).val ≠ 0 ∧ s1 = σ)) → ((2 * kn (i 0).val < qn (i 0).val ∧ Upd false 0 (by omega) s1 s2) ∨ (¬ 2 * kn (i 0).val < qn (i 0).val ∧ s2 = s1)) → ((2 * kn (i 0).val = qn (i 0).val ∧ Upd true 0 (by omega) s2 s3) ∨ (2 * kn (i 0).val ≠ qn (i 0).val ∧ s3 = s2)) → ((2 * kn (i 0).val + 1 < qn (i 0).val ∧ Upd false 1 (by omega) s3 s4) ∨ (¬ 2 * kn (i 0).val + 1 < qn (i 0).val ∧ s4 = s3)) → Runs defs 𝒱 (c : Thread nD τ) (own E c arg1 arg2 arg3 arg4 arg5 arg6 arg7 arg8 arg9 arg10 arg11) s4 (jp4 ⟨⟩) (fun _ s => Mid (qn (i 0).val) (kn (i 0).val) σ s) := by
    intro s1 s2 s3 s4 h1 h2 h3 h4
    exact Runs.dite (fun h => seg5 i s4 (K := jp5) fun s hs => H5 s ⟨s1, s2, s3, s4, h1, h2, h3, h4, (.inl ⟨(b5_iff (i 0)).mp h, hs⟩)⟩) fun h => H5 s4 ⟨s1, s2, s3, s4, h1, h2, h3, h4, (.inr ⟨fun h' => h ((b5_iff (i 0)).mpr h'), rfl⟩)⟩
  clear_value jp4
  have H3 : ∀ s1 s2 s3, ((kn (i 0).val = 0 ∧ Init σ s1) ∨ (kn (i 0).val ≠ 0 ∧ s1 = σ)) → ((2 * kn (i 0).val < qn (i 0).val ∧ Upd false 0 (by omega) s1 s2) ∨ (¬ 2 * kn (i 0).val < qn (i 0).val ∧ s2 = s1)) → ((2 * kn (i 0).val = qn (i 0).val ∧ Upd true 0 (by omega) s2 s3) ∨ (2 * kn (i 0).val ≠ qn (i 0).val ∧ s3 = s2)) → Runs defs 𝒱 (c : Thread nD τ) (own E c arg1 arg2 arg3 arg4 arg5 arg6 arg7 arg8 arg9 arg10 arg11) s3 (jp3 ⟨⟩) (fun _ s => Mid (qn (i 0).val) (kn (i 0).val) σ s) := by
    intro s1 s2 s3 h1 h2 h3
    exact Runs.dite (fun h => seg4 i s3 (K := jp4) fun s hs => H4 s1 s2 s3 s h1 h2 h3 (.inl ⟨(b4_iff (i 0)).mp h, hs⟩)) fun h => H4 s1 s2 s3 s3 h1 h2 h3 (.inr ⟨fun h' => h ((b4_iff (i 0)).mpr h'), rfl⟩)
  clear_value jp3
  have H2 : ∀ s1 s2, ((kn (i 0).val = 0 ∧ Init σ s1) ∨ (kn (i 0).val ≠ 0 ∧ s1 = σ)) → ((2 * kn (i 0).val < qn (i 0).val ∧ Upd false 0 (by omega) s1 s2) ∨ (¬ 2 * kn (i 0).val < qn (i 0).val ∧ s2 = s1)) → Runs defs 𝒱 (c : Thread nD τ) (own E c arg1 arg2 arg3 arg4 arg5 arg6 arg7 arg8 arg9 arg10 arg11) s2 (jp2 ⟨⟩) (fun _ s => Mid (qn (i 0).val) (kn (i 0).val) σ s) := by
    intro s1 s2 h1 h2
    exact Runs.dite (fun h => seg3 i s2 (K := jp3) fun s hs => H3 s1 s2 s h1 h2 (.inl ⟨(b3_iff (i 0)).mp h, hs⟩)) fun h => H3 s1 s2 s2 h1 h2 (.inr ⟨fun h' => h ((b3_iff (i 0)).mpr h'), rfl⟩)
  clear_value jp2
  have H1 : ∀ s1, ((kn (i 0).val = 0 ∧ Init σ s1) ∨ (kn (i 0).val ≠ 0 ∧ s1 = σ)) → Runs defs 𝒱 (c : Thread nD τ) (own E c arg1 arg2 arg3 arg4 arg5 arg6 arg7 arg8 arg9 arg10 arg11) s1 (jp1 ⟨⟩) (fun _ s => Mid (qn (i 0).val) (kn (i 0).val) σ s) := by
    intro s1 h1
    exact Runs.dite (fun h => seg2 i s1 (K := jp2) fun s hs => H2 s1 s h1 (.inl ⟨(b2_iff (i 0)).mp h, hs⟩)) fun h => H2 s1 s1 h1 (.inr ⟨fun h' => h ((b2_iff (i 0)).mpr h'), rfl⟩)
  clear_value jp1
  exact Runs.dite (fun h => seg1 i σ (K := jp1) fun s hs => H1  s  (.inl ⟨(b1_iff (i 0)).mp h, hs⟩)) fun h => H1  σ  (.inr ⟨fun h' => h ((b1_iff (i 0)).mpr h'), rfl⟩)

set_option maxHeartbeats 0 in
set_option maxRecDepth 65536 in
/-- The body takes the steps of its grid point. -/
theorem body (σ : St F) :
    Runs defs 𝒱 (c : Thread nD τ) (own E c arg1 arg2 arg3 arg4 arg5 arg6 arg7 arg8 arg9 arg10 arg11) σ (cc0_fox_fwd i arg1 harg1 arg2 harg2 arg3 harg3 arg4 harg4 arg5 harg5 arg6 harg6 arg7 harg7 arg8 harg8 arg9 harg9 arg10 harg10 arg11 harg11)
      (fun _ s => Step (qn (i 0).val) (kn (i 0).val) σ s) := by
  rw [cc0_fox_fwd_eq_skeleton]
  unfold cc0_fox_fwd_skel
  apply Runs.andThen
  · rw [k0_part111_eq_skeleton]
    unfold k0_part111_skel
    exact Runs.pure ⟨rfl, rfl⟩
  refine Runs.bind (Runs.mono (most i σ) fun a s5 h5 => ?_)
  obtain ⟨v42, c2, v66, v67⟩ := a
  extract_lets jp
  have H : ∀ s, Step (qn (i 0).val) (kn (i 0).val) σ s → Runs defs 𝒱 (c : Thread nD τ) (own E c arg1 arg2 arg3 arg4 arg5 arg6 arg7 arg8 arg9 arg10 arg11) s (jp ⟨⟩)
      (fun _ s => Step (qn (i 0).val) (kn (i 0).val) σ s) := fun s h => Runs.pure h
  clear_value jp
  exact Runs.dite (fun h => seg6 i s5 (K := jp) fun s hs => H s ⟨s5, h5, .inl ⟨(b6_iff i).mp h, hs⟩⟩) fun h => H s5 ⟨s5, h5, .inr ⟨fun h' => h ((b6_iff i).mpr h'), rfl⟩⟩

end Cert.FoxFwd

end
-- ==== Proof.FoxFwdMath.lean ====
/- Softmax sums taken block by block with a running maximum, over the extended reals. -/
module

public import proofs.«01_k».proof.Proof.Lib

@[expose] public section

noncomputable section

namespace Cert.Fin

open Idealize.ShloMosaic

/-- A maximum of finitely many values below infinity, one of them a number, is a number. -/
theorem fold_max_real {N : ℕ} (f : Fin N → EReal) (h1 : ∀ x, f x ≠ ⊤) (h0 : ∃ x, f x ≠ ⊥) :
    ∃ r : ℝ, Finset.fold max (⊥ : EReal) f Finset.univ = (r : EReal) := by
  have ht : Finset.fold max (⊥ : EReal) f Finset.univ < ⊤ :=
    (Finset.fold_max_lt ⊤).mpr ⟨bot_lt_top, fun x _ => lt_top_iff_ne_top.mpr (h1 x)⟩
  obtain ⟨x, hx⟩ := h0
  have hb : ⊥ < Finset.fold max (⊥ : EReal) f Finset.univ :=
    (Finset.lt_fold_max ⊥).mpr (.inr ⟨x, Finset.mem_univ x, bot_lt_iff_ne_bot.mpr hx⟩)
  exact ⟨_, (EReal.coe_toReal ht.ne hb.ne').symm⟩

/-- The sums of `n` blocks of keys, each lane its own weights, against some running maximum. -/
def Acc (n R : ℕ) (s : ℕ → ℝ) (w : Fin 128 → ℕ → ℝ) (m a : Fin 128 → EReal) : Prop :=
  (n = 0 ∧ ∀ j, m j = ⊥ ∧ a j = 0)
  ∨ ∃ M : ℝ, ∀ j, m j = (M : EReal) ∧ a j = ((∑ k ∈ Finset.range (256 * n), if k ≤ R then Real.exp (s k - M) * w j k else 0 : ℝ) : EReal)

/-- One more block. -/
theorem Acc.step {n R : ℕ} {s : ℕ → ℝ} {w : Fin 128 → ℕ → ℝ} {m a : Fin 128 → EReal} (h : Acc n R s w m a) (hn : 256 * n ≤ R)
    (f : Fin 256 → EReal) (hf : ∀ x : Fin 256, f x = if 256 * n + x.val ≤ R then (s (256 * n + x.val) : EReal) else ⊥)
    (m' a' : Fin 128 → EReal) (v : Fin 128 → Fin 256 → EReal) (hv : ∀ j x, v j x = (w j (256 * n + x.val) : EReal))
    (hm' : ∀ j, m' j = max (m j) (Finset.fold max (⊥ : EReal) f Finset.univ))
    (ha' : ∀ j, a' j = Ideal.exp (m j - m' j) * a j + ((∑ x : Fin 128, Ideal.exp (f ⟨x.val, by omega⟩ - m' x) * v j ⟨x.val, by omega⟩)
      + ∑ x : Fin 128, Ideal.exp (f ⟨128 + x.val, by omega⟩ - m' x) * v j ⟨128 + x.val, by omega⟩)) :
    Acc (n + 1) R s w m' a' := by
  obtain ⟨F, hF⟩ := fold_max_real f (fun x => by rw [hf x]; split <;> simp) ⟨⟨0, by omega⟩, by rw [hf]; simp [hn]⟩
  rw [hF] at hm'
  -- the block's share against any maximum
  have hblk : ∀ (M : ℝ) (j : Fin 128), (∀ j, m' j = (M : EReal)) →
      ((∑ x : Fin 128, Ideal.exp (f ⟨x.val, by omega⟩ - m' x) * v j ⟨x.val, by omega⟩)
      + ∑ x : Fin 128, Ideal.exp (f ⟨128 + x.val, by omega⟩ - m' x) * v j ⟨128 + x.val, by omega⟩)
      = ((∑ x ∈ Finset.range 256, if 256 * n + x ≤ R then Real.exp (s (256 * n + x) - M) * w j (256 * n + x) else 0 : ℝ) : EReal) := by
    intro M j hM
    have one : ∀ x : Fin 256, Ideal.exp (f x - (M : EReal)) * v j x = ((if 256 * n + x.val ≤ R then Real.exp (s (256 * n + x.val) - M) * w j (256 * n + x.val) else 0 : ℝ) : EReal) := by
      intro x
      rw [hf x, hv j x]
      split
      · rw [← EReal.coe_sub, Ideal.exp_coe, ← EReal.coe_mul]
      · rw [EReal.bot_sub]; simp [Ideal.exp_bot]
    rw [Finset.sum_range, show (∑ i : Fin 256, if 256 * n + i.val ≤ R then Real.exp (s (256 * n + i.val) - M) * w j (256 * n + i.val) else 0)
        = (∑ x : Fin 128, if 256 * n + x.val ≤ R then Real.exp (s (256 * n + x.val) - M) * w j (256 * n + x.val) else 0)
          + ∑ x : Fin 128, if 256 * n + (128 + x.val) ≤ R then Real.exp (s (256 * n + (128 + x.val)) - M) * w j (256 * n + (128 + x.val)) else 0 from
        Fin.sum_univ_add (fun i : Fin (128 + 128) => if 256 * n + i.val ≤ R then Real.exp (s (256 * n + i.val) - M) * w j (256 * n + i.val) else 0),
      EReal.coe_add, ← coe_sum, ← coe_sum]
    simp only [hM]
    exact congrArg₂ (· + ·) (Finset.sum_congr rfl fun x _ => one ⟨x.val, by omega⟩) (Finset.sum_congr rfl fun x _ => one ⟨128 + x.val, by omega⟩)
  right
  rcases h with ⟨h0, h⟩ | ⟨M, h⟩
  · refine ⟨F, fun j => ?_⟩
    have hM : ∀ j, m' j = (F : EReal) := fun j => by rw [hm' j, (h j).1]; simp
    refine ⟨hM j, ?_⟩
    rw [ha' j, hblk F j hM, (h j).1, (h j).2]
    subst h0
    simp
  · have hM : ∀ j, m' j = ((max M F : ℝ) : EReal) := fun j => by
      rw [hm' j, (h j).1]; exact (EReal.coe_strictMono.monotone.map_max).symm
    refine ⟨max M F, fun j => ⟨hM j, ?_⟩⟩
    rw [ha' j, hblk _ j hM, hM j, (h j).1, (h j).2, ← EReal.coe_sub, Ideal.exp_coe, ← EReal.coe_mul, ← EReal.coe_add]
    congr 1
    rw [show 256 * (n + 1) = 256 * n + 256 from by ring, Finset.sum_range_add, Finset.mul_sum]
    congr 1
    refine Finset.sum_congr rfl fun k _ => ?_
    split
    · rw [← mul_assoc, ← Real.exp_add]; congr 2; ring
    · simp

/-- The sum over the keys a row sees. -/
def tot (R : ℕ) (s w : ℕ → ℝ) : ℝ := ∑ k ∈ Finset.range (R + 1), Real.exp (s k) * w k

/-- A masked sum over more keys. -/
theorem sum_seen (N R : ℕ) (hN : R < N) (s w : ℕ → ℝ) (M : ℝ) :
    (∑ k ∈ Finset.range N, if k ≤ R then Real.exp (s k - M) * w k else 0) = Real.exp (-M) * tot R s w := by
  rw [← Finset.sum_filter, show (Finset.range N).filter (fun k => k ≤ R) = Finset.range (R + 1) from by ext k; simp; omega, tot, Finset.mul_sum]
  refine Finset.sum_congr rfl fun k _ => ?_
  rw [← mul_assoc, ← Real.exp_add]; congr 2; ring

theorem tot_pos (R : ℕ) (s : ℕ → ℝ) : 0 < tot R s (fun _ => 1) :=
  Finset.sum_pos (fun k _ => by positivity) ⟨0, by simp⟩

/-- The quotient of two such sums does not see the maximum. -/
theorem tot_div (R : ℕ) (s w : ℕ → ℝ) (M : ℝ) :
    Ideal.div ((Real.exp (-M) * tot R s w : ℝ) : EReal) ((Real.exp (-M) * tot R s (fun _ => 1) : ℝ) : EReal) = ((tot R s w / tot R s (fun _ => 1) : ℝ) : EReal) := by
  have h1 := tot_pos R s
  have h2 := Real.exp_pos (-M)
  rw [Ideal.div_coe (by positivity), ← EReal.coe_mul]
  congr 1
  field_simp

/-- Nor does the logarithm, the maximum added back. -/
theorem tot_log (R : ℕ) (s : ℕ → ℝ) (M : ℝ) :
    (M : EReal) + Ideal.log ((Real.exp (-M) * tot R s (fun _ => 1) : ℝ) : EReal) = ((Real.log (tot R s (fun _ => 1)) : ℝ) : EReal) := by
  have h1 := tot_pos R s
  have h2 := Real.exp_pos (-M)
  rw [Ideal.log_coe, if_neg (by have := mul_pos h2 h1; linarith), ← EReal.coe_add, Real.log_mul h2.ne' h1.ne', Real.log_exp]
  congr 1
  ring

end Cert.Fin

end
-- ==== Proof.FoxFwdPoint.lean ====
/- The attention's forward block read entry by entry, and the running sums through its steps. -/
module

public import proofs.«01_k».proof.Proof.FoxFwdBody
public import proofs.«01_k».proof.Proof.FoxFwdMath
public import Idealize.ShloMosaic.Lib.Pointwise
public import Idealize.ShloMosaic.Lib.WordCmp

@[expose] public section

noncomputable section

namespace Cert.FoxFwd

open Cert.Kernel11Ideal Cert.Kernel11Ideal.Gen Idealize.ShloMosaic Cert.Fin

/-- Whether a lane of a pair belongs to a head. -/
def On (h b : ℕ) : Prop := b < 64 ↔ h % 2 = 0

instance (h b : ℕ) : Decidable (On h b) := inferInstanceAs (Decidable (_ ↔ _))

theorem low_lane : ∀ b : Fin 128, IntOp.cmpi .slt (BitVec.ofNat 32 b.val) 64#32 = if b.val < 64 then 1#1 else 0#1 := by decide

theorem select_one {α : Type} (c : Prop) [Decidable c] (x y : α) : Scalar.select (if c then 1#1 else 0#1) x y = if c then x else y := by
  unfold Scalar.select
  by_cases h : c <;> simp [h]

theorem lanes_at (h : ℕ) (b : Fin 128) : (lanes h) (ix2 0 b) = if On h b.val then 1#1 else 0#1 := by
  unfold lanes
  split
  · rename_i h0
    refine Eq.trans (b := IntOp.cmpi .slt (BitVec.ofNat 32 b.val) 64#32) (by pointwise [k0_pay22]) ?_
    rw [low_lane]; unfold On; simp [h0]
  · rename_i h0
    refine Eq.trans (b := IntOp.xori (IntOp.cmpi .slt (BitVec.ofNat 32 b.val) 64#32) 1#1) (by pointwise [k0_pay22, k0_pay29]) ?_
    rw [low_lane]; unfold On
    by_cases hb : b.val < 64 <;> simp [h0, hb] <;> rfl

theorem ofBits_eighth : Ideal.ofBits FTy.f32 1040187392#32 = ((1 / 8 : ℝ) : EReal) := by
  simp [Ideal.ofBits, Ideal.ieee]
  norm_num
  rw [← EReal.coe_mul]
  norm_num

theorem scr_at (h : ℕ) (q : Vec Ideal S1x256x128 .f32) (k : Vec Ideal S128x256 .bf16) (g : Vec Ideal S1x1x256x128 .f32) (r : Vec Ideal S1x1x256 .f32) (a b : Fin 256)
    (Q K : Fin 128 → ℝ) (c d : ℝ) (hq : ∀ x, q (ix3 0 a x) = (Q x : EReal)) (hk : ∀ x, k (ix2 x b) = (K x : EReal)) (hg : ∀ j, g (ix4 0 0 a j) = (c : EReal)) (hr : r (ix3 0 0 b) = (d : EReal)) :
    scr (lanes h) q k g r (ix2 a b) = (((∑ x : Fin 128, if On h x.val then Q x * (1 / 8) * K x else 0) + (c - d) : ℝ) : EReal) := by
  have : scr (lanes h) q k g r (ix2 a b) = ∑ x, Scalar.select (lanes h (ix2 0 x)) (q (ix3 0 a x) * Ideal.ofBits FTy.f32 1040187392#32 * k (ix2 x b)) 0 +
      ((if h : b.val < 128 then g (ix4 0 0 a ⟨b.val, by omega⟩) else g (ix4 0 0 a ⟨b.val - 128, by omega⟩)) - r (ix3 0 0 b)) := by
    pointwise [scr, rows]
  rw [this, hr, ofBits_eighth]
  simp only [hq, hk, hg, lanes_at, select_one, dite_eq_ite, ite_self]
  rw [← EReal.coe_sub, EReal.coe_add]
  congr 1
  rw [← coe_sum]
  refine Finset.sum_congr rfl fun x _ => ?_
  split
  · rw [← EReal.coe_mul, ← EReal.coe_mul]
  · rfl

theorem neg_inf : Ideal.ofBits FTy.f32 4286578688#32 = (⊥ : EReal) := ofBits_ninf

theorem nM_at (s : FVec Ideal S256x256 .f32) (m : Vec Ideal S1x1x256x128 .f32) (a : Fin 256) (b : Fin 128) :
    nM s m (ix4 0 0 a b) = max (m (ix4 0 0 a b)) (Finset.fold max (⊥ : EReal) (fun x => s (ix2 a x)) Finset.univ) := by
  rw [← neg_inf]
  pointwise [nM, mx]

theorem nA_at (h : ℕ) (s : FVec Ideal S256x256 .f32) (m : Vec Ideal S1x1x256x128 .f32) (v : Vec Ideal S1x256x128 .f32) (x : Vec Ideal S1x1x256x128 .f32) (a : Fin 256) (b : Fin 128) :
    nA (lanes h) s m v x (ix4 0 0 a b) = Ideal.exp (m (ix4 0 0 a b) - nM s m (ix4 0 0 a b)) * x (ix4 0 0 a b)
      + ((∑ y : Fin 128, Ideal.exp (s (ix2 a ⟨y.val, by omega⟩) - nM s m (ix4 0 0 a y)) * (if On h b.val then v (ix3 0 ⟨y.val, by omega⟩ b) else 1))
      + ∑ y : Fin 128, Ideal.exp (s (ix2 a ⟨128 + y.val, by omega⟩) - nM s m (ix4 0 0 a y)) * (if On h b.val then v (ix3 0 ⟨128 + y.val, by omega⟩ b) else 1)) := by
  have : nA (lanes h) s m v x (ix4 0 0 a b) = Ideal.exp (m (ix4 0 0 a b) - max (m (ix4 0 0 a b)) (Finset.fold max (Ideal.ofBits FTy.f32 4286578688#32) (fun x => s (ix2 a x)) Finset.univ)) * x (ix4 0 0 a b)
      + ((∑ y : Fin 128, Ideal.exp (s (ix2 a ⟨y.val, by omega⟩) - max (m (ix4 0 0 a y)) (Finset.fold max (Ideal.ofBits FTy.f32 4286578688#32) (fun x => s (ix2 a x)) Finset.univ))
            * Scalar.select (lanes h (ix2 0 b)) (v (ix3 0 ⟨y.val, by omega⟩ b)) 1)
      + ∑ y : Fin 128, Ideal.exp (s (ix2 a ⟨128 + y.val, by omega⟩) - max (m (ix4 0 0 a y)) (Finset.fold max (Ideal.ofBits FTy.f32 4286578688#32) (fun x => s (ix2 a x)) Finset.univ))
            * Scalar.select (lanes h (ix2 0 b)) (v (ix3 0 ⟨128 + y.val, by omega⟩ b)) 1) := by
    pointwise [nA, mx, rows]
  rw [this]
  simp only [nM_at, select_one, lanes_at, neg_inf]

theorem mask_at : (Named.named κ "mask" 4048155338#32 : Ideal .f32) = (⊥ : EReal) := by
  rfl

theorem sge_at (a b : ℕ) (ha : a < 2048) (hb : b < 2048) : IntOp.cmpi .sge (BitVec.ofNat 32 a) (BitVec.ofNat 32 b) = if b ≤ a then 1#1 else 0#1 := by
  rw [WordCmp.cmpi_sge_ofNat (by omega) (by omega)]
  by_cases h : b ≤ a <;> simp [h]

theorem scm_at (s : FVec Ideal S256x256 .f32) (a b : Fin 256) : scm true s (ix2 a b) = if b.val ≤ a.val then s (ix2 a b) else ⊥ := by
  rw [← select_one, ← sge_at a.val b.val (by omega) (by omega), ← mask_at]
  pointwise [scm, k0_pay149]

end Cert.FoxFwd

end
-- ==== Proof.FoxFwdInv.lean ====
/- The attention's forward block over the reals: the running sums through the steps of a row of blocks. -/
module

public import proofs.«01_k».proof.Proof.FoxFwdPoint

@[expose] public section

noncomputable section

namespace Cert.FoxFwd

open Cert.Kernel11Ideal Cert.Kernel11Ideal.Gen Idealize.ShloMosaic Cert.Fin Exact

/-- The queries, keys and values by sequence, row and column, and the decays by sequence, head and row. -/
structure In where
  Q : ℕ → ℕ → ℕ → ℝ
  K : ℕ → ℕ → ℕ → ℝ
  V : ℕ → ℕ → ℕ → ℝ
  C : ℕ → ℕ → ℕ → ℝ

/-- A score. -/
def In.sc (D : In) (e h R k : ℕ) : ℝ :=
  (∑ x : Fin 128, if On h x.val then D.Q e R (128 * (h / 2) + x.val) * (1 / 8) * D.K e k (128 * (h / 2) + x.val) else 0) + (D.C e h R - D.C e h k)

/-- A lane's weights: the values on the head's lanes, ones on the others. -/
def In.wt (D : In) (e h : ℕ) (j : Fin 128) (k : ℕ) : ℝ := if On h j.val then D.V e k (128 * (h / 2) + j.val) else 1

/-- The blocks of the rows `q` and of the keys `kk`. -/
structure Blk (D : In) (q kk : ℕ) (σ : St Ideal) : Prop where
  x1 : ∀ (e : Fin 2) (r : Fin 256) (d : Fin 512), σ.x1 (ix3 e r d) = (D.Q e.val (256 * q + r.val) d.val : EReal)
  x2 : ∀ (d k : Fin 512), σ.x2 (ix2 d k) = (D.K 0 (512 * kk + k.val) d.val : EReal)
  x3 : ∀ (d k : Fin 512), σ.x3 (ix2 d k) = (D.K 1 (512 * kk + k.val) d.val : EReal)
  x4 : ∀ (e : Fin 2) (k d : Fin 512), σ.x4 (ix3 e k d) = (D.V e.val (512 * kk + k.val) d.val : EReal)
  x5 : ∀ (e : Fin 2) (r : Fin 256) (h : Fin 128), h.val < 8 → σ.x5 (ix3 e r h) = (D.C e.val h.val (256 * q + r.val) : EReal)
  x6 : ∀ (e : Fin 2) (h : Fin 8) (k : Fin 512), σ.x6 (ix3 e h k) = (D.C e.val h.val (512 * kk + k.val) : EReal)

theorem Blk.of_same {D : In} {q kk : ℕ} {σ s : St Ideal} (h : Blk D q kk σ) (hs : Same σ s) : Blk D q kk s := by
  obtain ⟨h1, h2, h3, h4, h5, h6⟩ := hs
  exact ⟨by rw [h1]; exact h.x1, by rw [h2]; exact h.x2, by rw [h3]; exact h.x3, by rw [h4]; exact h.x4, by rw [h5]; exact h.x5, by rw [h6]; exact h.x6⟩

/-- A slot of a scratch. -/
abbrev slot (X : S2x8x256x128.Idx → Elt Ideal .f32) (e h : ℕ) (he : e < 2) (hh : h < 8) : Vec Ideal S1x1x256x128 .f32 := ld X (sl e h he hh)

/-- The decays of the rows, filled. -/
def G (D : In) (q : ℕ) (σ : St Ideal) : Prop :=
  ∀ (e : ℕ) (he : e < 2) (h : ℕ) (hh : h < 8) (r : Fin 256) (j : Fin 128), slot σ.g e h he hh (ix4 0 0 r j) = (D.C e h (256 * q + r.val) : EReal)

/-- The sums after `n` halves. -/
def Accs (D : In) (n q : ℕ) (σ : St Ideal) : Prop :=
  ∀ (e : ℕ) (he : e < 2) (h : ℕ) (hh : h < 8) (r : Fin 256),
    Acc n (256 * q + r.val) (D.sc e h (256 * q + r.val)) (D.wt e h) (fun j => slot σ.m e h he hh (ix4 0 0 r j)) (fun j => slot σ.a e h he hh (ix4 0 0 r j))

theorem ld_q (X : S2x256x512.Idx → Elt Ideal .f32) (e h : ℕ) (he : e < 2) (hh : h < 8) (r : Fin 256) (x : Fin 128) :
    (ld X (qr e h he hh) : Vec Ideal S1x256x128 .f32) (ix3 0 r x) = X (ix3 ⟨e, he⟩ r ⟨128 * (h / 2) + x.val, by omega⟩) :=
  congrArg X (funext fun a => Fin.ext (by
    match a with
    | ⟨0, _⟩ => show e + 1 * 0 = e; omega
    | ⟨1, _⟩ => show 0 + 1 * r.val = r.val; omega
    | ⟨2, _⟩ => show 128 * (h / 2) + 1 * x.val = 128 * (h / 2) + x.val; omega))

theorem ld_k (X : S512x512.Idx → Elt Ideal .bf16) (h sub : ℕ) (hh : h < 8) (hs : sub < 2) (x : Fin 128) (b : Fin 256) :
    (ld X (kr h sub hh hs) : Vec Ideal S128x256 .bf16) (ix2 x b) = X (ix2 ⟨128 * (h / 2) + x.val, by omega⟩ ⟨256 * sub + b.val, by omega⟩) :=
  congrArg X (funext fun a => Fin.ext (by
    match a with
    | ⟨0, _⟩ => show 128 * (h / 2) + 1 * x.val = 128 * (h / 2) + x.val; omega
    | ⟨1, _⟩ => show 256 * sub + 1 * b.val = 256 * sub + b.val; omega))

theorem ld_v (X : S2x512x512.Idx → Elt Ideal .f32) (e h sub : ℕ) (he : e < 2) (hh : h < 8) (hs : sub < 2) (b : Fin 256) (x : Fin 128) :
    (ld X (vr e h sub he hh hs) : Vec Ideal S1x256x128 .f32) (ix3 0 b x) = X (ix3 ⟨e, he⟩ ⟨256 * sub + b.val, by omega⟩ ⟨128 * (h / 2) + x.val, by omega⟩) :=
  congrArg X (funext fun a => Fin.ext (by
    match a with
    | ⟨0, _⟩ => show e + 1 * 0 = e; omega
    | ⟨1, _⟩ => show 256 * sub + 1 * b.val = 256 * sub + b.val; omega
    | ⟨2, _⟩ => show 128 * (h / 2) + 1 * x.val = 128 * (h / 2) + x.val; omega))

theorem ld_c (X : S2x8x512.Idx → Elt Ideal .f32) (e h sub : ℕ) (he : e < 2) (hh : h < 8) (hs : sub < 2) (b : Fin 256) :
    (ld X (cr e h sub he hh hs) : Vec Ideal S1x1x256 .f32) (ix3 0 0 b) = X (ix3 ⟨e, he⟩ ⟨h, hh⟩ ⟨256 * sub + b.val, by omega⟩) :=
  congrArg X (funext fun a => Fin.ext (by
    match a with
    | ⟨0, _⟩ => show e + 1 * 0 = e; omega
    | ⟨1, _⟩ => show h + 1 * 0 = h; omega
    | ⟨2, _⟩ => show 256 * sub + 1 * b.val = 256 * sub + b.val; omega))

theorem ld_x (X : S2x256x128.Idx → Elt Ideal .f32) (e h : ℕ) (he : e < 2) (hh : h < 8) (r : Fin 256) :
    (ld X (xr e h he hh) : Vec Ideal S1x256x1 .f32) (ix3 0 r 0) = X (ix3 ⟨e, he⟩ r ⟨h, by omega⟩) :=
  congrArg X (funext fun a => Fin.ext (by
    match a with
    | ⟨0, _⟩ => show e + 1 * 0 = e; omega
    | ⟨1, _⟩ => show 0 + 1 * r.val = r.val; omega
    | ⟨2, _⟩ => show h + 1 * 0 = h; omega))

theorem ld_o (X : S2x256x512.Idx → Elt Ideal .f32) (e p : ℕ) (he : e < 2) (hp : p < 4) (r : Fin 256) (x : Fin 128) :
    (ld X (orr e p he hp) : Vec Ideal S1x256x128 .f32) (ix3 0 r x) = X (ix3 ⟨e, he⟩ r ⟨128 * p + x.val, by omega⟩) :=
  congrArg X (funext fun a => Fin.ext (by
    match a with
    | ⟨0, _⟩ => show e + 1 * 0 = e; omega
    | ⟨1, _⟩ => show 0 + 1 * r.val = r.val; omega
    | ⟨2, _⟩ => show 128 * p + 1 * x.val = 128 * p + x.val; omega))

theorem ld_l (X : S2x8x256.Idx → Elt Ideal .f32) (e : ℕ) (he : e < 2) (h : Fin 8) (r : Fin 256) :
    (ld X (lr e he) : Vec Ideal S1x8x256 .f32) (ix3 0 h r) = X (ix3 ⟨e, he⟩ h r) :=
  congrArg X (funext fun a => Fin.ext (by
    match a with
    | ⟨0, _⟩ => show e + 1 * 0 = e; omega
    | ⟨1, _⟩ => show 0 + 1 * h.val = h.val; omega
    | ⟨2, _⟩ => show 0 + 1 * r.val = r.val; omega))

theorem keys_at {D : In} {q kk : ℕ} {σ : St Ideal} (hb : Blk D q kk σ) (e : ℕ) (he : e < 2) (d k : Fin 512) :
    σ.keys e (ix2 d k) = (D.K e (512 * kk + k.val) d.val : EReal) := by
  unfold St.keys
  split
  · rename_i h; subst h; exact hb.x2 d k
  · obtain rfl : e = 1 := by omega
    exact hb.x3 d k

/-- The scores of one half. -/
theorem scores_at {D : In} {q kk : ℕ} {σ : St Ideal} (hb : Blk D q kk σ) (hg : G D q σ) (msk : Bool) (e h sub : ℕ) (he : e < 2) (hh : h < 8) (hs : sub < 2)
    (hn : if msk then 2 * kk + sub = q else 2 * kk + sub < q) (a b : Fin 256) :
    σ.scores msk e h sub he hh hs (ix2 a b)
      = if 256 * (2 * kk + sub) + b.val ≤ 256 * q + a.val then (D.sc e h (256 * q + a.val) (256 * (2 * kk + sub) + b.val) : EReal) else ⊥ := by
  have H : scr (lanes h) (ld σ.x1 (qr e h he hh)) (ld (σ.keys e) (kr h sub hh hs)) (ld σ.g (sl e h he hh)) (ld σ.x6 (cr e h sub he hh hs)) (ix2 a b)
      = (D.sc e h (256 * q + a.val) (256 * (2 * kk + sub) + b.val) : EReal) := by
    refine scr_at h _ _ _ _ a b (fun x => D.Q e (256 * q + a.val) (128 * (h / 2) + x.val)) (fun x => D.K e (256 * (2 * kk + sub) + b.val) (128 * (h / 2) + x.val))
      (D.C e h (256 * q + a.val)) (D.C e h (256 * (2 * kk + sub) + b.val)) ?_ ?_ ?_ ?_
    · intro x; exact (ld_q _ e h he hh a x).trans (hb.x1 _ _ _)
    · intro x
      refine (ld_k _ h sub hh hs x b).trans ((keys_at hb e he _ _).trans ?_)
      show (D.K e (512 * kk + (256 * sub + b.val)) _ : EReal) = _
      rw [show 512 * kk + (256 * sub + b.val) = 256 * (2 * kk + sub) + b.val by ring]
    · intro j; exact hg e he h hh a j
    · refine (ld_c _ e h sub he hh hs b).trans ((hb.x6 _ _ _).trans ?_)
      show (D.C e h (512 * kk + (256 * sub + b.val)) : EReal) = _
      rw [show 512 * kk + (256 * sub + b.val) = 256 * (2 * kk + sub) + b.val by ring]
  unfold St.scores
  cases msk
  · simp only [Bool.false_eq_true, if_false] at hn
    rw [if_pos (by omega)]
    exact H
  · simp only [if_true] at hn
    rw [scm_at, H]
    by_cases hba : b.val ≤ a.val
    · rw [if_pos hba, if_pos (by omega)]
    · rw [if_neg hba, if_neg (by omega)]

/-- One half of a block of keys. -/
theorem upd {D : In} {q kk : ℕ} {σ s : St Ideal} (hb : Blk D q kk σ) (hg : G D q σ) {msk : Bool} {sub : ℕ} {hs : sub < 2} (ha : Accs D (2 * kk + sub) q σ)
    (hn : if msk then 2 * kk + sub = q else 2 * kk + sub < q) (hu : Upd msk sub hs σ s) : Blk D q kk s ∧ G D q s ∧ Accs D (2 * kk + sub + 1) q s := by
  refine ⟨hb.of_same hu.1, fun e he h hh r j => by rw [hu.2.1]; exact hg e he h hh r j, fun e he h hh r => ?_⟩
  obtain ⟨h1, h2⟩ := hu.2.2 e he h hh
  refine (ha e he h hh r).step ?_ (fun x => σ.scores msk e h sub he hh hs (ix2 r x)) (fun x => scores_at hb hg msk e h sub he hh hs hn r x) _ _
    (fun j x => if On h j.val then (ld σ.x4 (vr e h sub he hh hs) : Vec Ideal S1x256x128 .f32) (ix3 0 x j) else 1) ?_ ?_ ?_
  · cases msk <;> simp at hn <;> omega
  · intro j x
    unfold In.wt
    by_cases hj : On h j.val
    · simp only [if_pos hj]
      refine (ld_v _ e h sub he hh hs x j).trans ((hb.x4 _ _ _).trans ?_)
      show (D.V e (512 * kk + (256 * sub + x.val)) _ : EReal) = _
      rw [show 512 * kk + (256 * sub + x.val) = 256 * (2 * kk + sub) + x.val by ring]
    · simp only [if_neg hj]; rfl
  · intro j
    exact (congrFun h1 _).trans (nM_at _ _ r j)
  · intro j
    refine (congrFun h2 _).trans ((nA_at h _ _ _ _ r j).trans ?_)
    have hm : ∀ y : Fin 128, nM (σ.scores msk e h sub he hh hs) (ld σ.m (sl e h he hh)) (ix4 0 0 r y) = slot s.m e h he hh (ix4 0 0 r y) := fun y => (congrFun h1 _).symm
    simp only [hm]

/-- The steps before the last keep the sums. -/
theorem mid {D : In} {q kk : ℕ} {σ s : St Ideal} (hk : kk ≤ q / 2) (hb : Blk D q kk σ) (h : kk ≠ 0 → G D q σ ∧ Accs D (2 * kk) q σ) (hm : Mid q kk σ s) :
    Blk D q kk s ∧ G D q s ∧ Accs D (min (2 * kk + 2) (q + 1)) q s := by
  obtain ⟨s1, s2, s3, s4, h1, h2, h3, h4, h5⟩ := hm
  have A1 : Blk D q kk s1 ∧ G D q s1 ∧ Accs D (2 * kk) q s1 := by
    rcases h1 with ⟨h0, hi⟩ | ⟨h0, rfl⟩
    · refine ⟨hb.of_same hi.1, fun e he h hh r j => ?_, fun e he h hh r => .inl ⟨by omega, fun j => ⟨?_, ?_⟩⟩⟩
      · refine (congrFun (hi.2 e he h hh).2.2 _).trans ?_
        refine Eq.trans (b := (ld σ.x5 (xr e h he hh) : Vec Ideal S1x256x1 .f32) (ix3 0 r 0)) (by pointwise [k0_pay4]) ?_
        exact (ld_x _ e h he hh r).trans (hb.x5 _ _ _ hh)
      · exact (congrFun (hi.2 e he h hh).1 _).trans neg_inf
      · exact (congrFun (hi.2 e he h hh).2.1 _).trans (Ideal.ofBits_zero .f32)
    · exact ⟨hb, h h0⟩
  have A2 : Blk D q kk s3 ∧ G D q s3 ∧ Accs D (2 * kk + 1) q s3 := by
    rcases h2 with ⟨hq, hu⟩ | ⟨hq, rfl⟩
    · rcases h3 with ⟨hq', _⟩ | ⟨_, rfl⟩
      · omega
      · exact upd A1.1 A1.2.1 A1.2.2 (by simpa using hq) hu
    · rcases h3 with ⟨hq', hu⟩ | ⟨hq', rfl⟩
      · exact upd A1.1 A1.2.1 A1.2.2 (by simpa using hq') hu
      · omega
  rcases h4 with ⟨hq, hu⟩ | ⟨hq, rfl⟩
  · rcases h5 with ⟨hq', _⟩ | ⟨_, rfl⟩
    · omega
    · rw [show min (2 * kk + 2) (q + 1) = 2 * kk + 1 + 1 by omega]
      exact upd A2.1 A2.2.1 A2.2.2 (by simpa using hq) hu
  · rcases h5 with ⟨hq', hu⟩ | ⟨hq', rfl⟩
    · rw [show min (2 * kk + 2) (q + 1) = 2 * kk + 1 + 1 by omega]
      exact upd A2.1 A2.2.1 A2.2.2 (by simpa using hq') hu
    · rw [show min (2 * kk + 2) (q + 1) = 2 * kk + 1 by omega]
      exact A2

/-- What the last step divides. -/
theorem out_at (x y : Vec Ideal S1x1x256x128 .f32) (r : Fin 256) (b : Fin 128) :
    k0_pay547 x y (ix3 0 r b) = if h : b.val < 64 then Ideal.div (x (ix4 0 0 r b)) (x (ix4 0 0 r ⟨b.val + 64, by omega⟩)) else Ideal.div (y (ix4 0 0 r b)) (y (ix4 0 0 r ⟨b.val - 64, by omega⟩)) := by
  have : k0_pay547 x y (ix3 0 r b) = Ideal.div (Scalar.select (IntOp.cmpi .slt (BitVec.ofNat 32 b.val) 64#32) (x (ix4 0 0 r b)) (y (ix4 0 0 r b)))
      (Scalar.select (IntOp.cmpi .slt (BitVec.ofNat 32 ((b.val + 128 - 64) % 128)) 64#32) (y (ix4 0 0 r ⟨(b.val + 128 - 64) % 128, by omega⟩)) (x (ix4 0 0 r ⟨(b.val + 128 - 64) % 128, by omega⟩))) := by
    pointwise [k0_pay547, k0_pay546, k0_pay545, k0_pay544, k0_pay542, k0_pay543]
  rw [this, low_lane b, low_lane ⟨(b.val + 128 - 64) % 128, by omega⟩, select_one, select_one]
  split
  · rename_i h
    rw [if_neg (by show ¬ (b.val + 128 - 64) % 128 < 64; omega)]
    congr 3
    exact Fin.ext (by show (b.val + 128 - 64) % 128 = b.val + 64; omega)
  · rename_i h
    rw [if_pos (by show (b.val + 128 - 64) % 128 < 64; omega)]
    congr 3
    exact Fin.ext (by show (b.val + 128 - 64) % 128 = b.val - 64; omega)

/-- A row's sums, after its last block: the ones' lane and any other. -/
theorem sums {D : In} {q : ℕ} {σ : St Ideal} (ha : Accs D (q + 1) q σ) (e : ℕ) (he : e < 2) (h : ℕ) (hh : h < 8) (r : Fin 256) :
    ∃ M : ℝ, ∀ j, slot σ.m e h he hh (ix4 0 0 r j) = (M : EReal)
      ∧ slot σ.a e h he hh (ix4 0 0 r j) = ((Real.exp (-M) * tot (256 * q + r.val) (D.sc e h (256 * q + r.val)) (D.wt e h j) : ℝ) : EReal) := by
  rcases ha e he h hh r with ⟨h0, _⟩ | ⟨M, hM⟩
  · omega
  · exact ⟨M, fun j => ⟨(hM j).1, (hM j).2.trans (congrArg _ (sum_seen _ _ (by omega) _ _ _))⟩⟩

theorem wt_off (D : In) {e h : ℕ} {j : Fin 128} (hj : ¬ On h j.val) : D.wt e h j = fun _ => 1 := funext fun k => if_neg hj
theorem wt_on (D : In) {e h : ℕ} {j : Fin 128} (hj : On h j.val) : D.wt e h j = fun k => D.V e k (128 * (h / 2) + j.val) := funext fun k => if_pos hj

/-- The head of a column. -/
def hd (d : ℕ) : ℕ := d / 64

/-- The output of a row of blocks. -/
theorem fin_o {D : In} {q : ℕ} {σ s : St Ideal} (ha : Accs D (q + 1) q σ) (hf : Fini σ s) (e : Fin 2) (r : Fin 256) (d : Fin 512) :
    s.o (ix3 e r d) = ((tot (256 * q + r.val) (D.sc e.val (hd d.val) (256 * q + r.val)) (fun k => D.V e.val k d.val)
      / tot (256 * q + r.val) (D.sc e.val (hd d.val) (256 * q + r.val)) (fun _ => 1) : ℝ) : EReal) := by
  have hp : d.val / 128 < 4 := by omega
  have h := hf.2.1 e.val e.isLt (d.val / 128) hp
  have h' := congrFun h (ix3 0 r ⟨d.val % 128, by omega⟩)
  refine Eq.trans ?_ (((ld_o s.o e.val (d.val / 128) e.isLt hp r ⟨d.val % 128, by omega⟩).symm.trans h').trans ?_)
  · congr 1; congr 1; exact Fin.ext (by show d.val = 128 * (d.val / 128) + d.val % 128; omega)
  refine (out_at _ _ r ⟨d.val % 128, by omega⟩).trans ?_
  split
  · rename_i hb
    have hb : d.val % 128 < 64 := hb
    obtain ⟨M, hM⟩ := sums ha e.val e.isLt (2 * (d.val / 128)) (by omega) r
    have hd' : hd d.val = 2 * (d.val / 128) := by unfold hd; omega
    rw [hd']
    refine (congrArg₂ Ideal.div (hM _).2 (hM _).2).trans ?_
    rw [wt_on D (by unfold On; show d.val % 128 < 64 ↔ _; omega), wt_off D (by unfold On; show ¬ (d.val % 128 + 64 < 64 ↔ _); omega), tot_div]
    show ((tot _ _ (fun k => D.V e.val k (128 * (2 * (d.val / 128) / 2) + d.val % 128)) / _ : ℝ) : EReal) = _
    rw [show 128 * (2 * (d.val / 128) / 2) + d.val % 128 = d.val by omega]
  · rename_i hb
    have hb : ¬ d.val % 128 < 64 := hb
    obtain ⟨M, hM⟩ := sums ha e.val e.isLt (2 * (d.val / 128) + 1) (by omega) r
    have hd' : hd d.val = 2 * (d.val / 128) + 1 := by unfold hd; omega
    rw [hd']
    refine (congrArg₂ Ideal.div (hM _).2 (hM _).2).trans ?_
    rw [wt_on D (by unfold On; show d.val % 128 < 64 ↔ _; omega), wt_off D (by unfold On; show ¬ (d.val % 128 - 64 < 64 ↔ _); omega), tot_div]
    show ((tot _ _ (fun k => D.V e.val k (128 * ((2 * (d.val / 128) + 1) / 2) + d.val % 128)) / _ : ℝ) : EReal) = _
    rw [show 128 * ((2 * (d.val / 128) + 1) / 2) + d.val % 128 = d.val by omega]

/-- Eight columns put in. -/
def cols (z f0 f1 f2 f3 f4 f5 f6 f7 : FVec Ideal S256x128 .f32) : FVec Ideal S256x128 .f32 :=
  put (put (put (put (put (put (put (put z 0#32 f0) 1#32 f1) 2#32 f2) 3#32 f3) 4#32 f4) 5#32 f5) 6#32 f6) 7#32 f7

theorem cols_at (z f0 f1 f2 f3 f4 f5 f6 f7 : FVec Ideal S256x128 .f32) (r : Fin 256) (h : Fin 8) :
    cols z f0 f1 f2 f3 f4 f5 f6 f7 (ix2 r ⟨h.val, by omega⟩) = (![f0, f1, f2, f3, f4, f5, f6, f7] h) (ix2 r ⟨h.val, by omega⟩) := by
  have : cols z f0 f1 f2 f3 f4 f5 f6 f7 (ix2 r ⟨h.val, by omega⟩) =
      Scalar.select (IntOp.cmpi .eq (BitVec.ofNat 32 h.val) 7#32) (f7 (ix2 r ⟨h.val, by omega⟩)) (Scalar.select (IntOp.cmpi .eq (BitVec.ofNat 32 h.val) 6#32) (f6 (ix2 r ⟨h.val, by omega⟩))
      (Scalar.select (IntOp.cmpi .eq (BitVec.ofNat 32 h.val) 5#32) (f5 (ix2 r ⟨h.val, by omega⟩)) (Scalar.select (IntOp.cmpi .eq (BitVec.ofNat 32 h.val) 4#32) (f4 (ix2 r ⟨h.val, by omega⟩))
      (Scalar.select (IntOp.cmpi .eq (BitVec.ofNat 32 h.val) 3#32) (f3 (ix2 r ⟨h.val, by omega⟩)) (Scalar.select (IntOp.cmpi .eq (BitVec.ofNat 32 h.val) 2#32) (f2 (ix2 r ⟨h.val, by omega⟩))
      (Scalar.select (IntOp.cmpi .eq (BitVec.ofNat 32 h.val) 1#32) (f1 (ix2 r ⟨h.val, by omega⟩)) (Scalar.select (IntOp.cmpi .eq (BitVec.ofNat 32 h.val) 0#32) (f0 (ix2 r ⟨h.val, by omega⟩)) (z (ix2 r ⟨h.val, by omega⟩))))))))) := by
    pointwise [cols, put]
  rw [this]
  match h with
  | 0 => rfl
  | 1 => rfl
  | 2 => rfl
  | 3 => rfl
  | 4 => rfl
  | 5 => rfl
  | 6 => rfl
  | 7 => rfl

/-- The ones' lane of an even head, brought to a low lane. -/
theorem low_at (x y : Vec Ideal S1x1x256x128 .f32) (r : Fin 256) (b : Fin 128) (hb : b.val < 64) : k0_pay546 x y (ix2 r b) = x (ix4 0 0 r ⟨b.val + 64, by omega⟩) := by
  have : k0_pay546 x y (ix2 r b) = Scalar.select (IntOp.cmpi .slt (BitVec.ofNat 32 ((b.val + 128 - 64) % 128)) 64#32) (y (ix4 0 0 r ⟨(b.val + 128 - 64) % 128, by omega⟩)) (x (ix4 0 0 r ⟨(b.val + 128 - 64) % 128, by omega⟩)) := by
    pointwise [k0_pay546, k0_pay545, k0_pay544, k0_pay542]
  rw [this, low_lane ⟨(b.val + 128 - 64) % 128, by omega⟩, select_one, if_neg (by show ¬ (b.val + 128 - 64) % 128 < 64; omega)]
  congr 2
  exact Fin.ext (by show (b.val + 128 - 64) % 128 = b.val + 64; omega)

theorem flat_at (x : Vec Ideal S1x1x256x128 .f32) (r : Fin 256) (b : Fin 128) : flat x (ix2 r b) = x (ix4 0 0 r b) := by
  pointwise [flat]

/-- What the last step writes of the logarithms. -/
theorem finL_at (M A : (h : ℕ) → h < 8 → Vec Ideal S1x1x256x128 .f32) (h : Fin 8) (r : Fin 256) :
    finL M A (ix3 0 h r) = M h.val h.isLt (ix4 0 0 r ⟨h.val, by omega⟩)
      + Ideal.log (A h.val h.isLt (ix4 0 0 r ⟨if h.val % 2 = 0 then h.val + 64 else h.val, by split <;> omega⟩)) := by
  have T : finL M A (ix3 0 h r)
      = cols (broadcast S256x128 (Scalar.ofBits .f32 0x00000000#32 : Ideal .f32)) (flat (M 0 (by omega))) (flat (M 1 (by omega))) (flat (M 2 (by omega))) (flat (M 3 (by omega)))
          (flat (M 4 (by omega))) (flat (M 5 (by omega))) (flat (M 6 (by omega))) (flat (M 7 (by omega))) (ix2 r ⟨h.val, by omega⟩)
        + Ideal.log (cols (broadcast S256x128 (Scalar.ofBits .f32 0x3F800000#32 : Ideal .f32)) (k0_pay546 (A 0 (by omega)) (A 1 (by omega))) (flat (A 1 (by omega)))
          (k0_pay546 (A 2 (by omega)) (A 3 (by omega))) (flat (A 3 (by omega))) (k0_pay546 (A 4 (by omega)) (A 5 (by omega))) (flat (A 5 (by omega)))
          (k0_pay546 (A 6 (by omega)) (A 7 (by omega))) (flat (A 7 (by omega))) (ix2 r ⟨h.val, by omega⟩)) := by
    unfold cols
    pointwise [finL]
  rw [T, cols_at, cols_at]
  match h with
  | 0 => exact congrArg₂ (· + Ideal.log ·) (flat_at _ r _) (low_at _ _ r _ (by decide))
  | 1 => exact congrArg₂ (· + Ideal.log ·) (flat_at _ r _) (flat_at _ r _)
  | 2 => exact congrArg₂ (· + Ideal.log ·) (flat_at _ r _) (low_at _ _ r _ (by decide))
  | 3 => exact congrArg₂ (· + Ideal.log ·) (flat_at _ r _) (flat_at _ r _)
  | 4 => exact congrArg₂ (· + Ideal.log ·) (flat_at _ r _) (low_at _ _ r _ (by decide))
  | 5 => exact congrArg₂ (· + Ideal.log ·) (flat_at _ r _) (flat_at _ r _)
  | 6 => exact congrArg₂ (· + Ideal.log ·) (flat_at _ r _) (low_at _ _ r _ (by decide))
  | 7 => exact congrArg₂ (· + Ideal.log ·) (flat_at _ r _) (flat_at _ r _)

/-- The logarithms of a row of blocks. -/
theorem fin_l {D : In} {q : ℕ} {σ s : St Ideal} (ha : Accs D (q + 1) q σ) (hf : Fini σ s) (e : Fin 2) (h : Fin 8) (r : Fin 256) :
    s.l (ix3 e h r) = ((Real.log (tot (256 * q + r.val) (D.sc e.val h.val (256 * q + r.val)) (fun _ => 1)) : ℝ) : EReal) := by
  have h' := congrFun (hf.2.2 e.val e.isLt) (ix3 0 h r)
  refine (ld_l s.l e.val e.isLt h r).symm.trans (h'.trans ((finL_at _ _ h r).trans ?_))
  obtain ⟨M, hM⟩ := sums ha e.val e.isLt h.val h.isLt r
  refine (congrArg₂ (· + Ideal.log ·) (hM _).1 (hM _).2).trans ?_
  rw [wt_off D (by unfold On; show ¬ ((if h.val % 2 = 0 then h.val + 64 else h.val) < 64 ↔ _); split <;> omega)]
  exact tot_log _ _ _

end Cert.FoxFwd

end
-- ==== Proof.FoxFwdRun.lean ====
/- The attention's forward kernel: every run, with the blocks it writes read over the reals. -/
module

public import proofs.«01_k».proof.Proof.FoxFwdInv
public import proofs.«01_k».proof.Proof.Gen.Kernel11Ideal.Frame
public import Idealize.ShloMosaic.Lib.Pipeline.ArrRel
public import Idealize.ShloMosaic.Lib.Pipeline.DatRel
public import Idealize.ShloMosaic.Lib.Pipeline.FrameBody

@[expose] public section

set_option maxRecDepth 16384

noncomputable section

namespace Cert.FoxFwd

open Cert.Kernel11Ideal Cert.Kernel11Ideal.Gen Cert.Fin Exact
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

theorem Same.trans {a b c : St Ideal} (h : Same a b) (h' : Same b c) : Same a c :=
  ⟨h'.1.trans h.1, h'.2.1.trans h.2.1, h'.2.2.1.trans h.2.2.1, h'.2.2.2.1.trans h.2.2.2.1, h'.2.2.2.2.1.trans h.2.2.2.2.1, h'.2.2.2.2.2.trans h.2.2.2.2.2⟩

theorem Same.rfl' (a : St Ideal) : Same a a := ⟨rfl, rfl, rfl, rfl, rfl, rfl⟩

/-- The steps leave the blocks as they were. -/
theorem Step.same {q kk : ℕ} {σ s : St Ideal} (h : Step q kk σ s) : Same σ s := by
  obtain ⟨s5, ⟨s1, s2, s3, s4, h1, h2, h3, h4, h5⟩, h6⟩ := h
  have e1 : Same σ s1 := by rcases h1 with ⟨_, h⟩ | ⟨_, rfl⟩; exacts [h.1, .rfl' _]
  have e2 : Same s1 s2 := by rcases h2 with ⟨_, h⟩ | ⟨_, rfl⟩; exacts [h.1, .rfl' _]
  have e3 : Same s2 s3 := by rcases h3 with ⟨_, h⟩ | ⟨_, rfl⟩; exacts [h.1, .rfl' _]
  have e4 : Same s3 s4 := by rcases h4 with ⟨_, h⟩ | ⟨_, rfl⟩; exacts [h.1, .rfl' _]
  have e5 : Same s4 s5 := by rcases h5 with ⟨_, h⟩ | ⟨_, rfl⟩; exacts [h.1, .rfl' _]
  have e6 : Same s5 s := by rcases h6 with ⟨_, h⟩ | ⟨_, rfl⟩; exacts [h.1, .rfl' _]
  exact ((((e1.trans e2).trans e3).trans e4).trans e5).trans e6

theorem grid_le : ∀ n : Fin 20, kn n.val ≤ qn n.val / 2 := by decide
theorem grid_next : ∀ n : Fin 20, n.val + 1 < 20 → kn (n.val + 1) ≠ 0 → kn n.val ≠ qn n.val / 2 ∧ qn (n.val + 1) = qn n.val ∧ kn (n.val + 1) = kn n.val + 1 := by decide
theorem coord : ∀ t : Fin cfg0.N, (grid0.coords t 0).val = t.val := (by decide +kernel : ∀ t : Fin grid0.N, _)

/-- What the steps keep from one grid point to the next. -/
def Keep (D : In) (n : ℕ) (σ : St Ideal) : Prop := n < 20 → kn n ≠ 0 → G D (qn n) σ ∧ Accs D (2 * kn n) (qn n) σ

/-- One grid point: what is kept, and what the last of a row writes. -/
theorem point {D : In} (n : ℕ) (hn : n < 20) {σ s : St Ideal} (hb : Blk D (qn n) (kn n) σ) (hk : Keep D n σ) (hs : Step (qn n) (kn n) σ s) :
    Keep D (n + 1) s ∧ (kn n = qn n / 2 →
      (∀ (e : Fin 2) (r : Fin 256) (d : Fin 512), s.o (ix3 e r d) = ((tot (256 * qn n + r.val) (D.sc e.val (hd d.val) (256 * qn n + r.val)) (fun k => D.V e.val k d.val)
        / tot (256 * qn n + r.val) (D.sc e.val (hd d.val) (256 * qn n + r.val)) (fun _ => 1) : ℝ) : EReal))
      ∧ ∀ (e : Fin 2) (h : Fin 8) (r : Fin 256), s.l (ix3 e h r) = ((Real.log (tot (256 * qn n + r.val) (D.sc e.val h.val (256 * qn n + r.val)) (fun _ => 1)) : ℝ) : EReal)) := by
  obtain ⟨s5, hm, hf⟩ := hs
  have hle := grid_le ⟨n, hn⟩
  obtain ⟨hb', hg, ha⟩ := mid hle hb (hk hn) hm
  refine ⟨fun h20 h0 => ?_, fun hq => ?_⟩
  · obtain ⟨g1, g2, g3⟩ := grid_next ⟨n, hn⟩ h20 h0
    simp only at g1 g2 g3 hle
    rcases hf with ⟨h, _⟩ | ⟨_, rfl⟩
    · exact absurd h g1
    · rw [g2, g3]
      rw [show min (2 * kn n + 2) (qn n + 1) = 2 * (kn n + 1) by omega] at ha
      exact ⟨hg, ha⟩
  · rcases hf with ⟨_, h⟩ | ⟨h, _⟩
    · rw [show min (2 * kn n + 2) (qn n + 1) = qn n + 1 by omega] at ha
      exact ⟨fun e r d => fin_o ha h e r d, fun e h' r => fin_l ha h e h' r⟩
    · exact absurd hq h

local notation "𝕄" => MT nD τ sig Unit (Elt Ideal) ℕ (UR sig nD τ) ℕ

variable (m : (ℓ : Loc nD τ sig) → Buf (Elt Ideal) ℓ) (ρ : Dev nD → PrngReg) (D : Dev nD → In)

/-- The state at a grid point, the blocks as fetched. -/
def stt (c : Dev nD) (t : Fin cfg0.N) (o : S2x256x512.Idx → Elt Ideal .f32) (l : S2x8x256.Idx → Elt Ideal .f32) (M A g : S2x8x256x128.Idx → Elt Ideal .f32) : St Ideal :=
  ⟨iblk m c 0 t, iblk m c 1 t, iblk m c 2 t, iblk m c 3 t, iblk m c 4 t, iblk m c 5 t, o, l, M, A, g⟩

/-- The scratch between two grid points. -/
def Φ (c : Dev nD) (n : ℕ) : sProp 𝕄 :=
  iprop((∃ M : S2x8x256x128.Idx → Elt Ideal .f32, ∃ A : S2x8x256x128.Idx → Elt Ideal .f32, ∃ g : S2x8x256x128.Idx → Elt Ideal .f32,
      ⌜∀ σ : St Ideal, σ.m = M → σ.a = A → σ.g = g → Keep (D c) n σ⌝
        ∗ owns (c : Thread nD τ) (Memref.whole cc0_scratch0) fullShare M ∗ owns (c : Thread nD τ) (Memref.whole cc0_scratch1) fullShare A
        ∗ owns (c : Thread nD τ) (Memref.whole cc0_scratch2) fullShare g) ∗ ∃ r, prngReg c r)

/-- The run's data on a device. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
  Φ t := Φ D c t.val
  q w := Pipeline.shareOf spec0 w
  owed _ := 0

theorem A_eq (c : Dev nD) (w : Fin cfg0.W) : (dats m D 0 c).A w = V m c (Pipeline.arrRef spec0 w) := by
  dsimp only [dats]
theorem after0 (c : Dev nD) (t : Fin cfg0.N) : (dats m D 0 c).after 0 t = iblk m c 0 t := by dsimp only [dats]
theorem after1 (c : Dev nD) (t : Fin cfg0.N) : (dats m D 0 c).after 1 t = iblk m c 1 t := by dsimp only [dats]
theorem after2 (c : Dev nD) (t : Fin cfg0.N) : (dats m D 0 c).after 2 t = iblk m c 2 t := by dsimp only [dats]
theorem after3 (c : Dev nD) (t : Fin cfg0.N) : (dats m D 0 c).after 3 t = iblk m c 3 t := by dsimp only [dats]
theorem after4 (c : Dev nD) (t : Fin cfg0.N) : (dats m D 0 c).after 4 t = iblk m c 4 t := by dsimp only [dats]
theorem after5 (c : Dev nD) (t : Fin cfg0.N) : (dats m D 0 c).after 5 t = iblk m c 5 t := by dsimp only [dats]
theorem before0 (c : Dev nD) (t : Fin cfg0.N) (d) : (dats m D 0 c).before 0 t d = iblk m c 0 t := before0_0_of m (dats m D 0 c) (A_eq m D c 0) (after0 m D c) t d
theorem before1 (c : Dev nD) (t : Fin cfg0.N) (d) : (dats m D 0 c).before 1 t d = iblk m c 1 t := before0_1_of m (dats m D 0 c) (A_eq m D c 1) (after1 m D c) t d
theorem before2 (c : Dev nD) (t : Fin cfg0.N) (d) : (dats m D 0 c).before 2 t d = iblk m c 2 t := before0_2_of m (dats m D 0 c) (A_eq m D c 2) (after2 m D c) t d
theorem before3 (c : Dev nD) (t : Fin cfg0.N) (d) : (dats m D 0 c).before 3 t d = iblk m c 3 t := before0_3_of m (dats m D 0 c) (A_eq m D c 3) (after3 m D c) t d
theorem before4 (c : Dev nD) (t : Fin cfg0.N) (d) : (dats m D 0 c).before 4 t d = iblk m c 4 t := before0_4_of m (dats m D 0 c) (A_eq m D c 4) (after4 m D c) t d
theorem before5 (c : Dev nD) (t : Fin cfg0.N) (d) : (dats m D 0 c).before 5 t d = iblk m c 5 t := before0_5_of m (dats m D 0 c) (A_eq m D c 5) (after5 m D c) t d

/-- The windows whose blocks are written over several grid points. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true

/-- The output's block of a row of blocks, -/
def OutO (c : Dev nD) (t : Fin cfg0.N) (X : S2x256x512.Idx → Elt Ideal .f32) : Prop :=
  kn t.val = qn t.val / 2 → ∀ (e : Fin 2) (r : Fin 256) (d : Fin 512), X (ix3 e r d) = ((tot (256 * qn t.val + r.val) ((D c).sc e.val (hd d.val) (256 * qn t.val + r.val)) (fun k => (D c).V e.val k d.val)
        / tot (256 * qn t.val + r.val) ((D c).sc e.val (hd d.val) (256 * qn t.val + r.val)) (fun _ => 1) : ℝ) : EReal)
/-- and the logarithms' block. -/
def OutL (c : Dev nD) (t : Fin cfg0.N) (X : S2x8x256.Idx → Elt Ideal .f32) : Prop :=
  kn t.val = qn t.val / 2 → ∀ (e : Fin 2) (h : Fin 8) (r : Fin 256), X (ix3 e h r) = ((Real.log (tot (256 * qn t.val + r.val) ((D c).sc e.val h.val (256 * qn t.val + r.val)) (fun _ => 1)) : ℝ) : EReal)

/-- What the body leaves in a window. -/
def Rl (c : Dev nD) : (w : Fin cfg0.W) → Fin cfg0.N → ((cfg0.win w).block.Idx → Elt Ideal (cfg0.win w).elt) → Prop
  | ⟨0, _⟩, _, _ => True
  | ⟨1, _⟩, _, _ => True
  | ⟨2, _⟩, _, _ => True
  | ⟨3, _⟩, _, _ => True
  | ⟨4, _⟩, _, _ => True
  | ⟨5, _⟩, _, _ => True
  | ⟨6, _⟩, t, X => OutO D c t X
  | ⟨7, _⟩, t, X => OutL D c t X

/-- What the body is called with at a grid point, -/
def bodyPre (c : Dev nD) (t : Fin cfg0.N) : sProp 𝕄 :=
  iprop((dats m D 0 c).Φ t.castSucc ∗ (dats m D 0 c).owesAt () t.castSucc
    ∗ (∃ d, owns (c : Thread nD τ) (st0_0 t) fullShare ((dats m D 0 c).before 0 t d))
    ∗ (∃ d, owns (c : Thread nD τ) (st0_1 t) fullShare ((dats m D 0 c).before 1 t d))
    ∗ (∃ d, owns (c : Thread nD τ) (st0_2 t) fullShare ((dats m D 0 c).before 2 t d))
    ∗ (∃ d, owns (c : Thread nD τ) (st0_3 t) fullShare ((dats m D 0 c).before 3 t d))
    ∗ (∃ d, owns (c : Thread nD τ) (st0_4 t) fullShare ((dats m D 0 c).before 4 t d))
    ∗ (∃ d, owns (c : Thread nD τ) (st0_5 t) fullShare ((dats m D 0 c).before 5 t d))
    ∗ (∃ Y, ⌜((dats m D 0 c).toRRel fgt (Rl D c)).Finds 6 t Y⌝ ∗ owns (c : Thread nD τ) (st0_6 t) fullShare Y)
    ∗ (∃ Y, ⌜((dats m D 0 c).toRRel fgt (Rl D c)).Finds 7 t Y⌝ ∗ owns (c : Thread nD τ) (st0_7 t) fullShare Y))

/-- and what it returns. -/
def bodyPost (c : Dev nD) (t : Fin cfg0.N) : sProp 𝕄 :=
  iprop((dats m D 0 c).Φ t.succ ∗ (dats m D 0 c).owesAt () t.succ
    ∗ owns (c : Thread nD τ) (st0_0 t) fullShare ((dats m D 0 c).after 0 t)
    ∗ owns (c : Thread nD τ) (st0_1 t) fullShare ((dats m D 0 c).after 1 t)
    ∗ owns (c : Thread nD τ) (st0_2 t) fullShare ((dats m D 0 c).after 2 t)
    ∗ owns (c : Thread nD τ) (st0_3 t) fullShare ((dats m D 0 c).after 3 t)
    ∗ owns (c : Thread nD τ) (st0_4 t) fullShare ((dats m D 0 c).after 4 t)
    ∗ owns (c : Thread nD τ) (st0_5 t) fullShare ((dats m D 0 c).after 5 t)
    ∗ (∃ X, ⌜Rl D c 6 t X⌝ ∗ owns (c : Thread nD τ) (st0_6 t) fullShare X)
    ∗ (∃ X, ⌜Rl D c 7 t X⌝ ∗ owns (c : Thread nD τ) (st0_7 t) fullShare X))

variable (hD : ∀ c t o l M A g, Blk (D c) (qn t.val) (kn t.val) (stt m c t o l M A g))

include hD in
/-- The body at a grid point, from a state. -/
theorem sound (c : Dev nD) (t : Fin cfg0.N) (o : S2x256x512.Idx → Elt Ideal .f32) (l : S2x8x256.Idx → Elt Ideal .f32) (M A g : S2x8x256x128.Idx → Elt Ideal .f32)
    (hk : ∀ σ : St Ideal, σ.m = M → σ.a = A → σ.g = g → Keep (D c) t.val σ) :
    own (iprop((dats m D 0 c).owesAt () t.castSucc ∗ ∃ r, prngReg c r)) c (st0_0 t) (st0_1 t) (st0_2 t) (st0_3 t) (st0_4 t) (st0_5 t) (st0_6 t) (st0_7 t)
      (Memref.whole cc0_scratch0) (Memref.whole cc0_scratch1) (Memref.whole cc0_scratch2) (stt m c t o l M A g)
    ⊢ wp frame (wpE (defs₀ (F := Ideal)) Variants.none c none) Set.univ (bodyAt0 t) (fun _ => bodyPost m D c t) := by
  have h := body (F := Ideal) (defs := defs₀) (𝒱 := Variants.none) (E := iprop((dats m D 0 c).owesAt () t.castSucc ∗ ∃ r, prngReg c r)) (c := c)
    (arg1 := st0_0 t) (arg2 := st0_1 t) (arg3 := st0_2 t) (arg4 := st0_3 t) (arg5 := st0_4 t) (arg6 := st0_5 t) (arg7 := st0_6 t) (arg8 := st0_7 t)
    (arg9 := Memref.whole cc0_scratch0) (arg10 := Memref.whole cc0_scratch1) (arg11 := Memref.whole cc0_scratch2)
    (harg1 := hstage0_0 ((cfg0.slots t 0).cast nbuf0_0)) (harg2 := hstage0_1 ((cfg0.slots t 1).cast nbuf0_1)) (harg3 := hstage0_2 ((cfg0.slots t 2).cast nbuf0_2))
    (harg4 := hstage0_3 ((cfg0.slots t 3).cast nbuf0_3)) (harg5 := hstage0_4 ((cfg0.slots t 4).cast nbuf0_4)) (harg6 := hstage0_5 ((cfg0.slots t 5).cast nbuf0_5))
    (harg7 := hstage0_6 ((cfg0.slots t 6).cast nbuf0_6)) (harg8 := hstage0_7 ((cfg0.slots t 7).cast nbuf0_7))
    (harg9 := Memref.isWhole_whole _) (harg10 := Memref.isWhole_whole _) (harg11 := Memref.isWhole_whole _)
    (grid0.coords t) (stt m c t o l M A g)
  unfold Runs at h
  unfold bodyAt0
  refine h.trans (wp_mono _ _ _ fun _ => ?_)
  rw [coord t]
  iintro ⟨%s, %hs, H⟩
  have hsame := hs.same
  obtain ⟨hkeep, hfin⟩ := point t.val t.isLt (hD c t o l M A g) (hk _ rfl rfl rfl) hs
  unfold own bodyPost
  rw [show (dats m D 0 c).Φ t.succ = Φ D c (t.val + 1) from rfl]
  unfold Φ
  icases H with ⟨H1, H2, H3, H4, H5, H6, H7, H8, H9, H10, H11, Ho, Hr⟩
  rw [after0, after1, after2, after3, after4, after5, hsame.1, hsame.2.1, hsame.2.2.1, hsame.2.2.2.1, hsame.2.2.2.2.1, hsame.2.2.2.2.2]
  isplitl [H9 H10 H11 Hr]
  · isplitl [H9 H10 H11]
    · iexists s.m; iexists s.a; iexists s.g
      isplitr
      · ipureintro
        intro σ e1 e2 e3 h20 h0
        obtain ⟨k1, k2⟩ := hkeep h20 h0
        exact ⟨fun e he h hh r j => by rw [e3]; exact k1 e he h hh r j, fun e he h hh r => by rw [e1, e2]; exact k2 e he h hh r⟩
      isplitl [H9]; · iexact H9
      isplitl [H10]; · iexact H10
      iexact H11
    · iexact Hr
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]
  · iexists s.o
    isplitr
    · ipureintro; exact fun hq => (hfin hq).1
    iexact H7
  · iexists s.l
    isplitr
    · ipureintro; exact fun hq => (hfin hq).2
    iexact H8

include hD in
/-- The body at a grid point. -/
theorem sound_body (c : Dev nD) (t : Fin cfg0.N) :
    bodyPre m D c t ⊢ wp frame (wpE (defs₀ (F := Ideal)) Variants.none c none) Set.univ (bodyAt0 t) (fun _ => bodyPost m D c t) := by
  unfold bodyPre
  simp only [before0, before1, before2, before3, before4, before5]
  rw [show (dats m D 0 c).Φ t.castSucc = Φ D c t.val from rfl]
  unfold Φ
  iintro ⟨⟨⟨%M, %A, %g, %hk, H9, H10, H11⟩, Hr⟩, Ho, ⟨%d0, H1⟩, ⟨%d1, H2⟩, ⟨%d2, H3⟩, ⟨%d3, H4⟩, ⟨%d4, H5⟩, ⟨%d5, H6⟩, ⟨%o, %ho, H7⟩, ⟨%l, %hl, H8⟩⟩
  iapply (sound m D hD c t o l M A g hk)
  unfold own
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Ho]; · iexact Ho
  iexact Hr

theorem row (t : Fin cfg0.N) : defs₀ (F := Ideal) .tc cfg0.body (cfg0.bodyArgs t (cfg0.slots t)) = bodyAt0 t := by
  unfold defs₀; rw [Defs.onTc_tc]

include hD in
/-- What the pipeline asks of the body. -/
theorem obligation (c : Dev nD) : BodyObligationRel (dats m D 0 c) (defs₀ (F := Ideal)) Variants.none () Set.univ fgt (Rl D c) := fun t => by
  rw [bigSep_W0, bigSep_W0, row]
  exact triple_restated (sound_body m D hD c t) rfl .rfl fun _ => .rfl

include hD in
set_option maxHeartbeats 0 in
set_option backward.isDefEq.respectTransparency.types false in
/-- Every run ends with the blocks as told. -/
theorem run_main :
    θ_run defs (onTc (τ := τ) (main (F := Ideal))) (s₀ m ρ)
      (fun r => Pipeline.RDat.FramePost (cfgs 0) (fun c => (dats m D 0 c).toRRel fgt (Rl D c)) (V m) r ∧ r.2.sem = fun _ => 0) :=
  Pipeline.RDat.θ_run_frame_track_shared (Q' := _) cfgs (0 : Fin 1) launch₀0 defs₀ Variants.none (fun c => (dats m D 0 c).toRRel fgt (Rl D c)) m ρ main
    (hbody := fun c => (obligation m D hD c).toRRel) (hq := fun _ _ _ => rfl)
    (howed := fun _ _ => rfl) (V := V m) (hmain := hmain m Variants.none) (hA := fun _ _ => rfl)
    (hin := fun c => by
      show _ ⊢ Φ D c 0
      unfold Φ Pipeline.ΦA
      rw [scopedRest0_eq]
      simp only [← owns_whole]
      iintro ⟨⟨⟨%M, H9⟩, ⟨%A, H10⟩, ⟨%g, H11⟩⟩, Hr⟩
      isplitl [H9 H10 H11]
      · iexists M; iexists A; iexists g
        isplitr
        · ipureintro; intro σ _ _ _ _ h0; exact absurd rfl h0
        isplitl [H9]; · iexact H9
        isplitl [H10]; · iexact H10
        iexact H11
      · iexact Hr)
    (hout := fun c => by
      show Φ D c (Fin.last cfg0.N).val ⊢ _
      unfold Φ Pipeline.ΦA
      rw [scopedRest0_eq]
      simp only [← owns_whole]
      iintro ⟨⟨%M, %A, %g, %hk, H9, H10, H11⟩, Hr⟩
      isplitl [H9 H10 H11]
      · isplitl [H9]; · iexists M; iexact H9
        isplitl [H10]; · iexists A; iexact H10
        iexists g; iexact H11
      · iexact Hr)

end Cert.FoxFwd

end
-- ==== Proof.FoxFwdVal.lean ====
/- The attention's forward kernel: the blocks fetched, and the arrays it leaves. -/
module

public import proofs.«01_k».proof.Defs
public import proofs.«01_k».proof.Proof.FoxFwdRun
public import proofs.«01_k».proof.Proof.Lib
public import Idealize.ShloMosaic.Lib.Pipeline.ValueKit
public import Idealize.ShloMosaic.Lib.StableHlo.ReadAt

@[expose] public section

set_option maxRecDepth 16384

noncomputable section

namespace Cert.FoxFwd

open Cert.Kernel11Ideal Cert.Kernel11Ideal.Gen
open Idealize.ShloMosaic Idealize.ShloMosaic.TcCoe Idealize.SL.Sem

variable (m : (ℓ : Loc nD τ sig) → Buf (Elt Ideal) ℓ)

/-- The queries, the keys, the values and the decays by rows. -/
abbrev aQ (c : Dev nD) : ℕ → ℕ → EReal := Fin.flat3 (show FVec Ideal S2x2048x512 .f32 from m ((c.tc : Thread nD τ).loc main_arg0))
abbrev aK (c : Dev nD) : ℕ → ℕ → EReal := Fin.flat3 (show FVec Ideal S2x2048x512 .f32 from m ((c.tc : Thread nD τ).loc main_arg1))
abbrev aV (c : Dev nD) : ℕ → ℕ → EReal := Fin.flat3 (show FVec Ideal S2x2048x512 .f32 from m ((c.tc : Thread nD τ).loc main_arg2))
abbrev aC (c : Dev nD) : ℕ → ℕ → EReal := Fin.flat3 (show FVec Ideal S2x8x2048 .f32 from m ((c.tc : Thread nD τ).loc main_arg3))

theorem op11_q (c : Dev nD) (j : S2x2048x3584.Idx) (h : 1536 ≤ (j 2).val) (h' : (j 2).val < 2048) :
    V m c main_v11 j = aQ m c ((j 0).val * 2048 + (j 1).val) ((j 2).val - 1536) := by
  unfold V
  after_reads_at
  rw [dif_neg (by omega), dif_pos (by omega)]
  after_reads_at
  exact Fin.flat3_row _ (j 0 : Fin 2) (j 1 : Fin 2048) (⟨(j 2).val - 1536, by omega⟩ : Fin 512)

theorem op11_v (c : Dev nD) (j : S2x2048x3584.Idx) (h : 2560 ≤ (j 2).val) (h' : (j 2).val < 3072) :
    V m c main_v11 j = aV m c ((j 0).val * 2048 + (j 1).val) ((j 2).val - 1536 - 512 - 512) := by
  unfold V
  after_reads_at
  rw [dif_neg (by omega), dif_neg (by omega), dif_neg (by omega), dif_pos (by omega)]
  after_reads_at
  exact Fin.flat3_row _ (j 0 : Fin 2) (j 1 : Fin 2048) (⟨(j 2).val - 1536 - 512 - 512, by omega⟩ : Fin 512)

theorem op10 (c : Dev nD) (j : S512x4096.Idx) : V m c main_v10 j = aK m c (j 1).val (j 0).val := by
  unfold V
  after_reads_at
  exact Fin.flat3_eq _ _ _ _ _ _

theorem op12 (c : Dev nD) (e : Fin 2) (r : Fin 2048) (h : Fin 128) (hh : h.val < 8) : V m c main_v12 (ix3 e r h) = aC m c (e.val * 8 + h.val) r.val := by
  unfold V
  after_reads_at
  rw [dif_pos ⟨by omega, hh⟩]
  have h1 : (e.val * 2048 + r.val) / 2048 = e.val := by omega
  have h2 : (e.val * 2048 + r.val) % 2048 = r.val := by omega
  simp only [h1, h2]
  exact Fin.flat3_row _ e (⟨h.val, hh⟩ : Fin 8) r

theorem op12_at (c : Dev nD) (j : S2x2048x128.Idx) (h : (j 2).val < 8) : V m c main_v12 j = aC m c ((j 0).val * 8 + (j 2).val) (j 1).val := by
  idx_vars j
  exact op12 m c j0 j1 j2 h

theorem op3_at (c : Dev nD) (j : S2x8x2048.Idx) : V m c main_arg3 j = aC m c ((j 0).val * 8 + (j 1).val) (j 2).val := by
  rw [V_main_arg3]
  idx_vars j
  exact Fin.flat3_row _ j0 j1 j2

theorem idx : ∀ t : Fin cfg0.N, (win0_0.index t = ![0, qn t.val, 3] ∧ win0_1.index t = ![0, kn t.val] ∧ win0_2.index t = ![0, 4 + kn t.val] ∧ win0_3.index t = ![0, kn t.val, 5])
    ∧ win0_4.index t = ![0, qn t.val, 0] ∧ win0_5.index t = ![0, 0, kn t.val] ∧ win0_6.index t = ![0, qn t.val, 0] ∧ win0_7.index t = ![0, 0, qn t.val] :=
  (by decide +kernel : ∀ t : Fin grid0.N, _)

theorem bound : ∀ t : Fin 20, qn t.val < 8 ∧ kn t.val < 4 := by decide

theorem same3 (f : ℕ → ℕ → ℕ → ℝ) {a b c a' b' c' : ℕ} (ha : a = a') (hb : b = b') (hc : c = c') : (f a b c : EReal) = f a' b' c' := by
  rw [ha, hb, hc]

theorem rd0 (X : S2x2048x3584.Idx → Elt Ideal .f32) (t : Fin cfg0.N) (e : Fin 2) (r : Fin 256) (d : Fin 512) :
    ∃ j : S2x2048x3584.Idx, (show FVec Ideal S2x256x512 .f32 from ((cfg0.win 0).blk t).view.read (Elt Ideal) X) (ix3 e r d) = X j ∧ (j 0).val = e.val ∧ (j 1).val = qn t.val * 256 + r.val ∧ (j 2).val = 3 * 512 + d.val := by
  refine ⟨_, rfl, ?_, ?_, ?_⟩ <;> blk_simp [idx t]

theorem rd1 (X : S512x4096.Idx → Elt Ideal .bf16) (t : Fin cfg0.N) (d k : Fin 512) :
    ∃ j : S512x4096.Idx, (show FVec Ideal S512x512 .bf16 from ((cfg0.win 1).blk t).view.read (Elt Ideal) X) (ix2 d k) = X j ∧ (j 0).val = d.val ∧ (j 1).val = kn t.val * 512 + k.val := by
  refine ⟨_, rfl, ?_, ?_⟩ <;> blk_simp [idx t]

theorem rd2 (X : S512x4096.Idx → Elt Ideal .bf16) (t : Fin cfg0.N) (d k : Fin 512) :
    ∃ j : S512x4096.Idx, (show FVec Ideal S512x512 .bf16 from ((cfg0.win 2).blk t).view.read (Elt Ideal) X) (ix2 d k) = X j ∧ (j 0).val = d.val ∧ (j 1).val = (4 + kn t.val) * 512 + k.val := by
  refine ⟨_, rfl, ?_, ?_⟩ <;> blk_simp [idx t]

theorem rd3 (X : S2x2048x3584.Idx → Elt Ideal .f32) (t : Fin cfg0.N) (e : Fin 2) (k d : Fin 512) :
    ∃ j : S2x2048x3584.Idx, (show FVec Ideal S2x512x512 .f32 from ((cfg0.win 3).blk t).view.read (Elt Ideal) X) (ix3 e k d) = X j ∧ (j 0).val = e.val ∧ (j 1).val = kn t.val * 512 + k.val ∧ (j 2).val = 5 * 512 + d.val := by
  refine ⟨_, rfl, ?_, ?_, ?_⟩ <;> blk_simp [idx t]

theorem rd4 (X : S2x2048x128.Idx → Elt Ideal .f32) (t : Fin cfg0.N) (e : Fin 2) (r : Fin 256) (h : Fin 128) :
    ∃ j : S2x2048x128.Idx, (show FVec Ideal S2x256x128 .f32 from ((cfg0.win 4).blk t).view.read (Elt Ideal) X) (ix3 e r h) = X j ∧ (j 0).val = e.val ∧ (j 1).val = qn t.val * 256 + r.val ∧ (j 2).val = h.val := by
  refine ⟨_, rfl, ?_, ?_, ?_⟩ <;> blk_simp [idx t]

theorem rd5 (X : S2x8x2048.Idx → Elt Ideal .f32) (t : Fin cfg0.N) (e : Fin 2) (h : Fin 8) (k : Fin 512) :
    ∃ j : S2x8x2048.Idx, (show FVec Ideal S2x8x512 .f32 from ((cfg0.win 5).blk t).view.read (Elt Ideal) X) (ix3 e h k) = X j ∧ (j 0).val = e.val ∧ (j 1).val = h.val ∧ (j 2).val = kn t.val * 512 + k.val := by
  refine ⟨_, rfl, ?_, ?_, ?_⟩ <;> blk_simp [idx t]

/-- The blocks at a grid point, over the reals. -/
theorem blks (D : Dev nD → In) (hQ : ∀ c i d, aQ m c i d = ((D c).Q (i / 2048) (i % 2048) d : EReal)) (hK : ∀ c i d, aK m c i d = ((D c).K (i / 2048) (i % 2048) d : EReal))
    (hV : ∀ c i d, aV m c i d = ((D c).V (i / 2048) (i % 2048) d : EReal)) (hC : ∀ c i d, aC m c i d = ((D c).C (i / 8) (i % 8) d : EReal))
    (c : Dev nD) (t : Fin cfg0.N) (o : S2x256x512.Idx → Elt Ideal .f32) (l : S2x8x256.Idx → Elt Ideal .f32) (M A g : S2x8x256x128.Idx → Elt Ideal .f32) :
    Blk (D c) (qn t.val) (kn t.val) (stt m c t o l M A g) where
  x1 e r d := by
    obtain ⟨j, hj, h0, h1, h2⟩ := rd0 (V m c main_v11) t e r d
    obtain ⟨hq, hk⟩ := bound t
    refine Eq.trans hj ?_
    clear hj
    generalize qn t.val = q at *
    generalize kn t.val = kk at *
    rw [op11_q m c j (by omega) (by omega), hQ]
    exact same3 _ (by omega) (by omega) (by omega)
  x2 d k := by
    obtain ⟨j, hj, h0, h1⟩ := rd1 (V m c main_v10) t d k
    obtain ⟨hq, hk⟩ := bound t
    refine Eq.trans hj ?_
    clear hj
    generalize qn t.val = q at *
    generalize kn t.val = kk at *
    rw [op10 m c j, hK]
    exact same3 _ (by omega) (by omega) (by omega)
  x3 d k := by
    obtain ⟨j, hj, h0, h1⟩ := rd2 (V m c main_v10) t d k
    obtain ⟨hq, hk⟩ := bound t
    refine Eq.trans hj ?_
    clear hj
    generalize qn t.val = q at *
    generalize kn t.val = kk at *
    rw [op10 m c j, hK]
    exact same3 _ (by omega) (by omega) (by omega)
  x4 e k d := by
    obtain ⟨j, hj, h0, h1, h2⟩ := rd3 (V m c main_v11) t e k d
    obtain ⟨hq, hk⟩ := bound t
    refine Eq.trans hj ?_
    clear hj
    generalize qn t.val = q at *
    generalize kn t.val = kk at *
    rw [op11_v m c j (by omega) (by omega), hV]
    exact same3 _ (by omega) (by omega) (by omega)
  x5 e r h hh := by
    obtain ⟨j, hj, h0, h1, h2⟩ := rd4 (V m c main_v12) t e r h
    obtain ⟨hq, hk⟩ := bound t
    refine Eq.trans hj ?_
    clear hj
    generalize qn t.val = q at *
    generalize kn t.val = kk at *
    rw [op12_at m c j (by omega), hC]
    exact same3 _ (by omega) (by omega) (by omega)
  x6 e h k := by
    obtain ⟨j, hj, h0, h1, h2⟩ := rd5 (V m c main_arg3) t e h k
    obtain ⟨hq, hk⟩ := bound t
    refine Eq.trans hj ?_
    clear hj
    generalize qn t.val = q at *
    generalize kn t.val = kk at *
    rw [op3_at m c j, hC]
    exact same3 _ (by omega) (by omega) (by omega)

end Cert.FoxFwd

end
-- ==== Proof.FoxFwdFin.lean ====
/- The attention's forward kernel: the arrays it leaves. -/
module

public import proofs.«01_k».proof.Proof.FoxFwdVal

@[expose] public section

set_option maxRecDepth 16384

noncomputable section

namespace Cert.FoxFwd

open Cert.Kernel11Ideal Cert.Kernel11Ideal.Gen Cert.Fin
open Idealize.ShloMosaic Idealize.ShloMosaic.TcCoe Idealize.SL.Sem

variable (m : (ℓ : Loc nD τ sig) → Buf (Elt Ideal) ℓ) (ρ : Dev nD → PrngReg) (D : Dev nD → In)

/-- An entry of the attention's output, -/
def outE (D : In) (e R d : ℕ) : ℝ := tot R (D.sc e (hd d) R) (fun k => D.V e k d) / tot R (D.sc e (hd d) R) (fun _ => 1)
/-- and of the logarithms of the weights' sums. -/
def logE (D : In) (e h R : ℕ) : ℝ := Real.log (tot R (D.sc e h R) (fun _ => 1))

theorem flush6 : ∀ t : Fin cfg0.N, (cfg0.win 6).flush t = true → kn t.val = qn t.val / 2 := (by decide +kernel : ∀ t : Fin grid0.N, _)
theorem flush7 : ∀ t : Fin cfg0.N, (cfg0.win 7).flush t = true → kn t.val = qn t.val / 2 := (by decide +kernel : ∀ t : Fin grid0.N, _)

/-- The output, the whole array. -/
theorem final6 (c : Dev nD) (dat : Pipeline.Dat τ (Elt Ideal) Unit ℕ (Idealize.ShloMosaic.UR sig nD τ) ℕ cfg0 c)
    (hL : ∀ t, (cfg0.win 6).flush t = true → OutO D c t (dat.after 6 t)) :
    dat.arrAt 6 cfg0.N = fun j : S2x2048x512.Idx => ((outE (D c) (j 0).val (j 1).val (j 2).val : ℝ) : EReal) := by
  refine dat.arrAt_eq_of_covers 6 _ (by decide +kernel) fun t hf y => ?_
  have ho := hL t hf (flush6 t hf)
  generalize dat.after 6 t = X at ho ⊢
  have ho' : ∀ (e : Fin 2) (r : Fin 256) (d : Fin 512), X (ix3 e r d) = ((outE (D c) e.val (256 * qn t.val + r.val) d.val : ℝ) : EReal) := ho
  blk_simp
  idx_vars y
  refine (ho' y0 y1 y2).trans ?_
  blk_simp [idx t]
  rw [Nat.mul_comm 256]

/-- The logarithms, the whole array. -/
theorem final7 (c : Dev nD) (dat : Pipeline.Dat τ (Elt Ideal) Unit ℕ (Idealize.ShloMosaic.UR sig nD τ) ℕ cfg0 c)
    (hL : ∀ t, (cfg0.win 7).flush t = true → OutL D c t (dat.after 7 t)) :
    dat.arrAt 7 cfg0.N = fun j : S2x8x2048.Idx => ((logE (D c) (j 0).val (j 1).val (j 2).val : ℝ) : EReal) := by
  refine dat.arrAt_eq_of_covers 7 _ (by decide +kernel) fun t hf y => ?_
  have ho := hL t hf (flush7 t hf)
  generalize dat.after 7 t = X at ho ⊢
  have ho' : ∀ (e : Fin 2) (h : Fin 8) (r : Fin 256), X (ix3 e h r) = ((logE (D c) e.val h.val (256 * qn t.val + r.val) : ℝ) : EReal) := ho
  blk_simp
  idx_vars y
  refine (ho' y0 y1 y2).trans ?_
  blk_simp [idx t]
  rw [Nat.mul_comm 256]

/-- Every run of the kernel, its results and its arguments. -/
theorem run_blocks (hD : ∀ c t o l M A g, Blk (D c) (qn t.val) (kn t.val) (stt m c t o l M A g)) :
    θ_run defs (onTc (τ := τ) (main (F := Ideal))) ⟨m, fun _ => 0, ρ⟩ (fun r => ∀ c : Dev nD,
      r.2.mem ((c.tc : Thread nD τ).loc main_v13_0) = (fun j : S2x2048x512.Idx => ((outE (D c) (j 0).val (j 1).val (j 2).val : ℝ) : EReal))
      ∧ r.2.mem ((c.tc : Thread nD τ).loc main_v13_1) = (fun j : S2x8x2048.Idx => ((logE (D c) (j 0).val (j 1).val (j 2).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main m ρ D hD)
  obtain ⟨after, hl, ha⟩ := Pipeline.RDat.FramePost.exists_exact h.1 c
  refine ⟨(ha 6).trans (final6 D c _ fun t hf => Pipeline.Dat.toRRel_leaves _ rfl (hl 6 t hf)), (ha 7).trans (final7 D c _ fun t hf => Pipeline.Dat.toRRel_leaves _ rfl (hl 7 t hf)),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((congrFun (Pipeline.RDat.ArrAt_in (rd := (dats m D 0 c).toRRel fgt (Rl D c)) 5 rfl _) _).mp ((h.1 c).1 5)).trans (V_main_arg3 m c)⟩

end Cert.FoxFwd

end
-- ==== Proof.FoxFwdRef.lean ====
/- The attention's forward lines: the reference at an index. -/
module

public import proofs.«01_k».proof.Defs
public import proofs.«01_k».proof.Proof.Gen.Reference11Ideal.Run
public import proofs.«01_k».proof.Proof.FoxFwdMath
public import proofs.«01_k».proof.Proof.Lib
public import Idealize.ShloMosaic.Lib.Pipeline.ValueKit
public import Idealize.ShloMosaic.Lib.WordCmp

@[expose] public section

set_option maxRecDepth 16384

noncomputable section

namespace Cert.FoxFwdRef

open Cert.Reference11Ideal Cert.Reference11Ideal.Gen Cert.Fin
open Idealize.ShloMosaic Idealize.ShloMosaic.TcCoe Idealize.SL.Sem

variable (q k v : FVec Ideal S2x2048x512 .f32) (c : FVec Ideal S2x8x2048 .f32)

/-- Which keys a row sees. -/
def mk : IVec S2x8x2048x2048 1 := broadcastInDim S2x8x2048x2048 ![2, 3] bcast_S2048x2048_S2x8x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))
/-- A row's number, spread over the keys. -/
def sp (x : FVec Ideal S2x8x2048 .f32) : FVec Ideal S2x8x2048x2048 .f32 := broadcastInDim S2x8x2048x2048 ![0, 1, 2, 3] bcast_S2x8x2048x1_S2x8x2048x2048_0_1_2_3 (broadcastInDim S2x8x2048x1 ![0, 1, 2] bcast_S2x8x2048_S2x8x2048x1_0_1_2 x)
/-- The products of queries and keys. -/
def qk : FVec Ideal S2x8x2048x2048 .f32 := mulf (Host.dotGeneral dot_S2x2048x8x64_S2x2048x8x64_S2x8x2048x2048_3_3_1_1_02_02 none (shapeCast _ q shapeCasts_S2x2048x512_S2x2048x8x64) (shapeCast _ k shapeCasts_S2x2048x512_S2x2048x8x64)) (broadcastInDim S2x8x2048x2048 ![] bcast_S_S2x8x2048x2048 (constant S_ .f32 0x3E000000#32))
/-- The scores, -/
def rs : FVec Ideal S2x8x2048x2048 .f32 :=
  select mk (addf (qk q k) (subf (sp c) (broadcastInDim S2x8x2048x2048 ![0, 1, 2, 3] bcast_S2x8x1x2048_S2x8x2048x2048_0_1_2_3 (broadcastInDim S2x8x1x2048 ![0, 1, 3] bcast_S2x8x2048_S2x8x1x2048_0_1_3 c)))) (broadcastInDim S2x8x2048x2048 ![] bcast_S_S2x8x2048x2048 (constant S_ .f32 0xFF800000#32))
/-- their maxima, -/
def rm (s : FVec Ideal S2x8x2048x2048 .f32) : FVec Ideal S2x8x2048 .f32 := Host.reduce FloatOps.maximumf s (constant S_ .f32 0xFF800000#32) reducesTo_S2x8x2048x2048_S2x8x2048_d3 h_S_
/-- the weights, -/
def rx (s : FVec Ideal S2x8x2048x2048 .f32) : FVec Ideal S2x8x2048x2048 .f32 := Host.exp (subf s (sp (rm s)))
/-- and their sums. -/
def rl (s : FVec Ideal S2x8x2048x2048 .f32) : FVec Ideal S2x8x2048 .f32 := Host.reduceAdd (rx s) (constant S_ .f32 0x00000000#32) reducesTo_S2x8x2048x2048_S2x8x2048_d3 h_S_
/-- The weighted values. -/
def ro (s : FVec Ideal S2x8x2048x2048 .f32) : FVec Ideal S2x2048x512 .f32 :=
  shapeCast _ (transpose S2x2048x8x64 [0, 3, 1, 2] (Host.dotGeneral dot_S2x2048x8x64_S2x8x2048x2048_S2x8x64x2048_1_3_3_2_02_01 none (shapeCast _ v shapeCasts_S2x2048x512_S2x2048x8x64) (Host.divf (rx s) (sp (rl s)))) transposes_S2x8x64x2048_S2x2048x8x64_0_3_1_2) shapeCasts_S2x2048x8x64_S2x2048x512

variable (m : (ℓ : Loc nD τ sig) → Buf (Elt Ideal) ℓ) (d : Dev nD)
theorem res0 : Value.res_out0 m d = ro (m ((d.tc : Thread nD τ).loc main_arg2)) (rs (m ((d.tc : Thread nD τ).loc main_arg0)) (m ((d.tc : Thread nD τ).loc main_arg1)) (m ((d.tc : Thread nD τ).loc main_arg3))) := by
  unfold Value.res_out0 Value.res_main_v33; rfl
theorem res1 : Value.res_out1 m d = addf (rm (rs (m ((d.tc : Thread nD τ).loc main_arg0)) (m ((d.tc : Thread nD τ).loc main_arg1)) (m ((d.tc : Thread nD τ).loc main_arg3)))) (Host.log (rl (rs (m ((d.tc : Thread nD τ).loc main_arg0)) (m ((d.tc : Thread nD τ).loc main_arg1)) (m ((d.tc : Thread nD τ).loc main_arg3))))) := by
  unfold Value.res_out1 Value.res_main_v35; rfl

theorem mk_at (b : Fin 2) (h : Fin 8) (i j : Fin 2048) : mk (ix4 b h i j) = if j.val ≤ i.val then 1#1 else 0#1 := by
  pointwise [mk]
  rw [WordCmp.cmpi_sge_ofNat (by omega) (by omega)]
  split <;> simp [*]

/-- A row's products. -/
theorem qk_at (b : Fin 2) (h : Fin 8) (i j : Fin 2048) : qk q k (ix4 b h i j)
    = (∑ x : Fin 64, q (ix3 b i ⟨h.val * 64 + x.val, by omega⟩) * k (ix3 b j ⟨h.val * 64 + x.val, by omega⟩)) * ((1 / 8 : ℝ) : EReal) := by
  have h8 : Ideal.ofBits .f32 0x3E000000#32 = ((1 / 8 : ℝ) : EReal) := by
    simp [Ideal.ofBits, Ideal.ieee]; norm_num; rw [← EReal.coe_mul]; norm_num
  pointwise [qk]
  rw [h8]

theorem rs_at (b : Fin 2) (h : Fin 8) (i j : Fin 2048) : rs q k c (ix4 b h i j) = if j.val ≤ i.val then qk q k (ix4 b h i j) + (c (ix3 b h i) - c (ix3 b h j)) else ⊥ := by
  pointwise [rs, sp]
  simp only [mk_at]
  split
  · simp only [Scalar.select]
    rw [if_pos (by decide)]
  · simp only [Scalar.select]
    rw [if_neg (by decide), Fin.ofBits_ninf]

theorem rm_at (s : FVec Ideal S2x8x2048x2048 .f32) (b : Fin 2) (h : Fin 8) (i : Fin 2048) : rm s (ix3 b h i) = Finset.fold max (⊥ : EReal) (fun j : Fin 2048 => s (ix4 b h i j)) Finset.univ := by
  pointwise [rm]
  rw [Fin.ofBits_ninf]

theorem rx_at (s : FVec Ideal S2x8x2048x2048 .f32) (b : Fin 2) (h : Fin 8) (i j : Fin 2048) : rx s (ix4 b h i j) = Ideal.exp (s (ix4 b h i j) - rm s (ix3 b h i)) := by
  pointwise [rx, sp]

theorem rl_at (s : FVec Ideal S2x8x2048x2048 .f32) (b : Fin 2) (h : Fin 8) (i : Fin 2048) : rl s (ix3 b h i) = ∑ j : Fin 2048, rx s (ix4 b h i j) := by
  pointwise [rl]

theorem ro_at (s : FVec Ideal S2x8x2048x2048 .f32) (b : Fin 2) (i : Fin 2048) (d : Fin 512) : ro v s (ix3 b i d) = ∑ j : Fin 2048, v (ix3 b j d) * Ideal.div (rx s (ix4 b ⟨d.val / 64, by omega⟩ i j)) (rl s (ix3 b ⟨d.val / 64, by omega⟩ i)) := by
  pointwise [ro, sp]

theorem log_at (x y : FVec Ideal S2x8x2048 .f32) (b : Fin 2) (h : Fin 8) (i : Fin 2048) : addf x (Host.log y) (ix3 b h i) = x (ix3 b h i) + Ideal.log (y (ix3 b h i)) := rfl

section Row
variable (s : FVec Ideal S2x8x2048x2048 .f32) (b : Fin 2) (h : Fin 8) (i : Fin 2048) (w : ℕ → ℝ)
  (hs : ∀ j : Fin 2048, s (ix4 b h i j) = if j.val ≤ i.val then (w j.val : EReal) else ⊥)
include hs

/-- A row whose seen scores are real: its maximum and weights. -/
theorem row : ∃ M : ℝ, rm s (ix3 b h i) = (M : EReal)
    ∧ (∀ j : Fin 2048, rx s (ix4 b h i j) = ((if j.val ≤ i.val then Real.exp (w j.val - M) * 1 else 0 : ℝ) : EReal))
    ∧ rl s (ix3 b h i) = ((Real.exp (-M) * tot i.val w (fun _ => 1) : ℝ) : EReal) := by
  obtain ⟨M, hM⟩ := fold_max_real (fun j : Fin 2048 => s (ix4 b h i j)) (fun j => by rw [hs]; split <;> simp)
    ⟨i, by rw [hs, if_pos le_rfl]; simp⟩
  rw [← rm_at] at hM
  have hx : ∀ j : Fin 2048, rx s (ix4 b h i j) = ((if j.val ≤ i.val then Real.exp (w j.val - M) * 1 else 0 : ℝ) : EReal) := fun j => by
    rw [rx_at, hM, hs]
    split
    · rw [← EReal.coe_sub, Ideal.exp_coe, mul_one]
    · rw [EReal.bot_sub, Ideal.exp_bot, EReal.coe_zero]
  refine ⟨M, hM, hx, ?_⟩
  rw [rl_at, Finset.sum_congr rfl fun j _ => hx j, coe_sum,
    Fin.sum_univ_eq_sum_range (fun j => if j ≤ i.val then Real.exp (w j - M) * 1 else 0) 2048, sum_seen 2048 i.val i.isLt w (fun _ => 1) M]

/-- Its logarithm, -/
theorem row_log : addf (rm s) (Host.log (rl s)) (ix3 b h i) = ((Real.log (tot i.val w (fun _ => 1)) : ℝ) : EReal) := by
  obtain ⟨M, hM, -, hl⟩ := row s b h i w hs
  rw [log_at, hM, hl, tot_log]

/-- and its weighted values. -/
theorem row_out (u : Fin 2048 → EReal) (U : ℕ → ℝ) (hu : ∀ j, u j = (U j.val : EReal)) :
    ∑ j : Fin 2048, u j * Ideal.div (rx s (ix4 b h i j)) (rl s (ix3 b h i)) = ((tot i.val w U / tot i.val w (fun _ => 1) : ℝ) : EReal) := by
  obtain ⟨M, -, hx, hl⟩ := row s b h i w hs
  have h1 := tot_pos i.val w
  have h2 := Real.exp_pos (-M)
  rw [← tot_div i.val w U M, hl, Ideal.div_coe (by positivity), ← EReal.coe_mul, ← sum_seen 2048 i.val i.isLt w U M, Finset.sum_mul,
    ← Fin.sum_univ_eq_sum_range (fun j => (if j ≤ i.val then Real.exp (w j - M) * U j else 0) * (1 / (Real.exp (-M) * tot i.val w (fun _ => 1)))) 2048, ← coe_sum]
  refine Finset.sum_congr rfl fun j _ => ?_
  rw [Ideal.div_coe (by positivity), hx, hu, ← EReal.coe_mul, ← EReal.coe_mul]
  congr 1
  split <;> ring
end Row

end Cert.FoxFwdRef

end
-- ==== Proof.FoxFwd.lean ====
/- The attention's forward lines: the kernel and the reference. -/
module

public import proofs.«01_k».proof.Defs
public import proofs.«01_k».proof.Proof.Gen.Pre_fox_fwd_finite
public import proofs.«01_k».proof.Proof.FoxFwdFin
public import proofs.«01_k».proof.Proof.FoxFwdRef

@[expose] public section

set_option maxRecDepth 16384

noncomputable section

namespace Cert.FoxFwd

open Cert.Fin Idealize.ShloMosaic Idealize.ShloMosaic.TcCoe Idealize.SL.Sem

/-- A score, over the head's own columns. -/
theorem sc_eq (D : In) (e h R k : ℕ) : D.sc e h R k
    = (∑ x : Fin 64, D.Q e R (h * 64 + x.val) * D.K e k (h * 64 + x.val)) * (1 / 8) + (D.C e h R - D.C e h k) := by
  unfold In.sc
  congr 1
  have hs := Fin.sum_univ_add (a := 64) (b := 64) fun x : Fin 128 => if On h x.val then D.Q e R (128 * (h / 2) + x.val) * (1 / 8) * D.K e k (128 * (h / 2) + x.val) else 0
  refine hs.trans ?_
  have hx := fun x : Fin 64 => x.isLt
  rw [Finset.sum_mul]
  rcases Nat.mod_two_eq_zero_or_one h with h0 | h0
  · refine (congrArg _ (Finset.sum_eq_zero fun x _ => if_neg (by simp [On, h0]))).trans ((add_zero _).trans ?_)
    refine Finset.sum_congr rfl fun x _ => ?_
    rw [if_pos (by simp [On, h0]), show 128 * (h / 2) + (Fin.castAdd 64 x).val = h * 64 + x.val from by simp; omega]
    ring
  · refine (congrArg (· + _) (Finset.sum_eq_zero fun x _ => if_neg (by simp [On, h0]))).trans ((zero_add _).trans ?_)
    refine Finset.sum_congr rfl fun x _ => ?_
    rw [if_pos (by simp [On, h0]), show 128 * (h / 2) + (Fin.natAdd 64 x).val = h * 64 + x.val from by simp; omega]
    ring

section Reference
open Cert.Reference11Ideal Cert.FoxFwdRef
variable (q k v : FVec Ideal S2x2048x512 .f32) (c : FVec Ideal S2x8x2048 .f32) (D : In)
  (hQ : ∀ i d, flat3 q i d = (D.Q (i / 2048) (i % 2048) d : EReal)) (hK : ∀ i d, flat3 k i d = (D.K (i / 2048) (i % 2048) d : EReal))
  (hV : ∀ i d, flat3 v i d = (D.V (i / 2048) (i % 2048) d : EReal)) (hC : ∀ i d, flat3 c i d = (D.C (i / 8) (i % 8) d : EReal))

theorem ent (x : FVec Ideal S2x2048x512 .f32) (X : ℕ → ℕ → ℕ → ℝ) (hX : ∀ i d, flat3 x i d = (X (i / 2048) (i % 2048) d : EReal)) (b : Fin 2) (i : Fin 2048) (d : Fin 512) :
    x (ix3 b i d) = (X b.val i.val d.val : EReal) := by
  rw [flat3_row x, hX, show (b.val * 2048 + i.val) / 2048 = b.val from by omega, show (b.val * 2048 + i.val) % 2048 = i.val from by omega]

include hC in
theorem entc (b : Fin 2) (h : Fin 8) (i : Fin 2048) : c (ix3 b h i) = (D.C b.val h.val i.val : EReal) := by
  rw [flat3_row c, hC, show (b.val * 8 + h.val) / 8 = b.val from by omega, show (b.val * 8 + h.val) % 8 = h.val from by omega]

include hQ hK hC in
theorem scores (b : Fin 2) (h : Fin 8) (i j : Fin 2048) :
    rs q k c (ix4 b h i j) = if j.val ≤ i.val then (D.sc b.val h.val i.val j.val : EReal) else ⊥ := by
  rw [rs_at, qk_at, entc c D hC, entc c D hC, sc_eq, EReal.coe_add, EReal.coe_sub, EReal.coe_mul, ← coe_sum]
  simp only [ent q D.Q hQ, ent k D.K hK, EReal.coe_mul]

include hQ hK hV hC in
theorem ref_out (b : Fin 2) (i : Fin 2048) (d : Fin 512) : ro v (rs q k c) (ix3 b i d) = (outE D b.val i.val d.val : EReal) := by
  rw [ro_at]
  exact row_out _ _ _ _ _ (fun j => scores q k c D hQ hK hC b ⟨d.val / 64, by omega⟩ i j) _ (fun j => D.V b.val j d.val) fun j => ent v D.V hV b j d

include hQ hK hC in
theorem ref_log (b : Fin 2) (h : Fin 8) (i : Fin 2048) : addf (rm (rs q k c)) (Host.log (rl (rs q k c))) (ix3 b h i) = (logE D b.val h.val i.val : EReal) :=
  row_log _ _ _ _ _ fun j => scores q k c D hQ hK hC b h i j
end Reference

open Cert in
/-- Finite arguments are real. -/
theorem args_real (q k v : FVec Ideal Pre_fox_fwd_finite.S2x2048x512 .f32) (c : FVec Ideal Pre_fox_fwd_finite.S2x8x2048 .f32)
    (h : Pre_fox_fwd_finite.fn q k v c (fun a => a.elim0) = 1#1) :
    (((∀ i, ∃ r : ℝ, q i = (r : EReal)) ∧ ∀ i, ∃ r : ℝ, k i = (r : EReal)) ∧ ∀ i, ∃ r : ℝ, v i = (r : EReal)) ∧ ∀ i, ∃ r : ℝ, c i = (r : EReal) := by
  have h4 := IntOp.andi_eq_one.1 h
  have h3 := IntOp.andi_eq_one.1 h4.1
  have h2 := IntOp.andi_eq_one.1 h3.1
  exact ⟨⟨⟨fun i => Fin.real_of_abs_lt q _ i (Host.reduce_andi_all _ _ _ _ _ h2.1 i), fun i => Fin.real_of_abs_lt k _ i (Host.reduce_andi_all _ _ _ _ _ h2.2 i)⟩,
    fun i => Fin.real_of_abs_lt v _ i (Host.reduce_andi_all _ _ _ _ _ h3.2 i)⟩, fun i => Fin.real_of_abs_lt c _ i (Host.reduce_andi_all _ _ _ _ _ h4.2 i)⟩

/-- The two programs agree. -/
theorem holds : Cert.algebraic_Kernel11Ideal_Reference11Ideal_pre_fox_fwd_finite := by
  intro m ρ m' ρ' hpre hagree
  have hr := fun c => args_real _ _ _ _ (congrFun (hpre c) fun a => a.elim0)
  choose Q hQ using fun c => Fin.flat3_real _ (hr c).1.1.1
  choose K hK using fun c => Fin.flat3_real _ (hr c).1.1.2
  choose V hV using fun c => Fin.flat3_real _ (hr c).1.2
  choose C hC using fun c => Fin.flat3_real _ (hr c).2
  let D : Dev Cert.Kernel11Ideal.nD → In := fun c => ⟨fun e R d => Q c (e * 2048 + R) d, fun e R d => K c (e * 2048 + R) d, fun e R d => V c (e * 2048 + R) d, fun e h R => C c (e * 8 + h) R⟩
  have eQ : ∀ c i d, aQ m c i d = ((D c).Q (i / 2048) (i % 2048) d : EReal) := fun c i d => (hQ c i d).trans (by simp only [D]; rw [Nat.div_add_mod'])
  have eK : ∀ c i d, aK m c i d = ((D c).K (i / 2048) (i % 2048) d : EReal) := fun c i d => (hK c i d).trans (by simp only [D]; rw [Nat.div_add_mod'])
  have eV : ∀ c i d, aV m c i d = ((D c).V (i / 2048) (i % 2048) d : EReal) := fun c i d => (hV c i d).trans (by simp only [D]; rw [Nat.div_add_mod'])
  have eC : ∀ c i d, aC m c i d = ((D c).C (i / 8) (i % 8) d : EReal) := fun c i d => (hC c i d).trans (by simp only [D]; rw [Nat.div_add_mod'])
  refine ⟨_, _, run_blocks m ρ D (blks m D eQ eK eV eC), ?_⟩
  refine (θ_run Cert.Reference11Ideal.defs _ _).mono (fun _ h c => ⟨?_, ?_, (h c).2.2⟩) (Cert.Reference11Ideal.Value.run (F := Ideal) m' ρ')
  all_goals obtain ⟨e0, e1, e2, e3⟩ := hagree c
  · refine (h c).1.trans ((FoxFwdRef.res0 m' c).trans ?_)
    rw [e0, e1, e2, e3]
    funext j
    idx_vars j
    exact ref_out _ _ _ _ (D c) (eQ c) (eK c) (eV c) (eC c) j0 j1 j2
  · refine (h c).2.1.trans ((FoxFwdRef.res1 m' c).trans ?_)
    rw [e0, e1, e3]
    funext j
    idx_vars j
    exact ref_log _ _ _ (D c) (eQ c) (eK c) (eC c) j0 j1 j2

end Cert.FoxFwd

end
-- ==== Proof.Keeps.lean ====
/-
  A body that only loads, stores, branches and loops within buffers it holds keeps them all: whatever a
  bundle of buffers holds, each at some contents, the body runs to its end and hands the bundle back.
-/
module

public import Idealize.ShloMosaic.Lib.Tactic
public import Idealize.ShloMosaic.Lib.Pipeline.Frame

@[expose] public section

namespace Hold

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

/-- The bundle `R` holds the memref at some contents and takes it back at any. -/
class Has (R : sProp 𝕄) (c : Thread nD τ) {sp : Space} {s : Shape} {e : EltTy} (M : Memref sig c.2.kind sp s e) : Prop where
  /-- Take the memref out; give it back at any contents. -/
  out : R ⊢ iprop(∃ f, (M.view.loc c ↦[M.view.set]{fullShare} f) ∗ (∀ f', (M.view.loc c ↦[M.view.set]{fullShare} f') -∗ R))

instance Has.self {c : Thread nD τ} {sp : Space} {s : Shape} {e : EltTy} {M : Memref sig c.2.kind sp s e} : Has (iprop(∃ X, owns c M fullShare X) : sProp 𝕄) c M where
  out := by
    unfold owns
    iintro ⟨%X, %f, -, H⟩
    iexists f
    isplitl [H]; · iexact H
    iintro %f' H
    iexists _, f'
    isplitr; · ipureintro; rfl
    iexact H

instance Has.left {c : Thread nD τ} {sp : Space} {s : Shape} {e : EltTy} {M : Memref sig c.2.kind sp s e} {R R' : sProp 𝕄} [h : Has R c M] : Has iprop(R ∗ R') c M where
  out := by
    iintro ⟨H, H'⟩
    ihave ⟨%f, HM, HK⟩ := h.out $$ H
    iexists f
    isplitl [HM]; · iexact HM
    iintro %f' HM
    isplitl [HK HM]
    · iapply HK; iexact HM
    · iexact H'

instance Has.right {c : Thread nD τ} {sp : Space} {s : Shape} {e : EltTy} {M : Memref sig c.2.kind sp s e} {R R' : sProp 𝕄} [h : Has R' c M] : Has iprop(R ∗ R') c M where
  out := by
    iintro ⟨H', H⟩
    ihave ⟨%f, HM, HK⟩ := h.out $$ H
    iexists f
    isplitl [HM]; · iexact HM
    iintro %f' HM
    isplitl [H']; · iexact H'
    iapply HK; iexact HM

variable {defs : Defs nD τ sig Val Λ} {𝒱 : Variants} {α β : Type}

/-- The program, run from the bundle, ends with the bundle. -/
def Keeps (defs : Defs nD τ sig Val Λ) (𝒱 : Variants) (c : Thread nD τ) (R : sProp 𝕄) (p : Prog (TpuEff nD τ sig Val Λ c.2) α) : Prop :=
  R ⊢ wp frame (wpE defs 𝒱 c none) Set.univ p (fun _ => R)

theorem Keeps.ret {c : Thread nD τ} {R : sProp 𝕄} (a : α) : Keeps defs 𝒱 c R (.ret a) := by
  unfold Keeps; exact exec_ret _ _ _ _ _ .rfl

theorem Keeps.pure {c : Thread nD τ} {R : sProp 𝕄} (a : α) : Keeps defs 𝒱 c R (Pure.pure a) := Keeps.ret a

theorem Keeps.bind {c : Thread nD τ} {R : sProp 𝕄} {p : Prog (TpuEff nD τ sig Val Λ c.2) α} {k : α → Prog (TpuEff nD τ sig Val Λ c.2) β}
    (hp : Keeps defs 𝒱 c R p) (hk : ∀ a, Keeps defs 𝒱 c R (k a)) : Keeps defs 𝒱 c R (p >>= k) := by
  unfold Keeps at *
  rw [wp_bind]
  exact hp.trans (wp_mono _ _ _ hk)

theorem Keeps.dite {c : Thread nD τ} {R : sProp 𝕄} {C : Prop} {dec : Decidable C} {p : C → Prog (TpuEff nD τ sig Val Λ c.2) α}
    {q : ¬C → Prog (TpuEff nD τ sig Val Λ c.2) α} (hp : ∀ h, Keeps defs 𝒱 c R (p h)) (hq : ∀ h, Keeps defs 𝒱 c R (q h)) :
    Keeps defs 𝒱 c R (if h : C then p h else q h) := by
  by_cases h : C
  · rw [dif_pos h]; exact hp h
  · rw [dif_neg h]; exact hq h

theorem Keeps.load {c : Thread nD τ} {R : sProp 𝕄} {cs : CoreSpace} {s : Shape} {e : EltTy} {N : Memref sig c.2.kind cs s e} [h : Has R c N] {r : LoadRect s} {hl : N.view.LoadsAt r} :
    Keeps defs 𝒱 c R (Prog.lift (.load N r hl)) := by
  unfold Keeps Prog.lift
  iintro H
  ihave ⟨%f, HM, HK⟩ := h.out $$ H
  iapply (wp_load (m := N) (r := r) (hl := hl) (k := .ret) (f := f) (q := fullShare) 𝒱 c none Set.univ (View.setOn_subset_set N.view r.set)) $$ HM
  iintro HM
  iapply (exec_ret _ _ _ _ _ .rfl)
  iapply HK; iexact HM

theorem Keeps.store {c : Thread nD τ} {R : sProp 𝕄} {cs : CoreSpace} {s : Shape} {e : EltTy} {N : Memref sig c.2.kind cs s e} [h : Has R c N] {r : Rect s} {w : r.shape.Idx → Val e}
    {Mk : Finset r.shape.Idx} {hx : (N.access r).Stores Mk} {hm : Mk = Finset.univ ∨ ∀ a, r.stride a = 1} :
    Keeps defs 𝒱 c R (Prog.lift (.store N r w Mk hx hm)) := by
  unfold Keeps Prog.lift
  iintro H
  ihave ⟨%f, HM, HK⟩ := h.out $$ H
  iapply (wp_store (m := N) (r := r) (w := w) (Mk := Mk) (hx := hx) (hm := hm) (k := .ret) (f := f) 𝒱 c none Set.univ ((View.setOn_subset_set _ _).trans (View.set_slice_subset N.view r))) $$ HM
  iintro HM
  iapply (exec_ret _ _ _ _ _ .rfl)
  iapply HK; iexact HM

theorem Keeps.loop {c : Thread nD τ} {R : sProp 𝕄} {w : Nat} {σ : Type} {l : Scf.Loop w} {hok : l.OK} {init : σ} {body : Fin l.trips → σ → Prog (TpuEff nD τ sig Val Λ c.2) σ}
    (h : ∀ k a, Keeps defs 𝒱 c R (body k a)) : Keeps defs 𝒱 c R (Scf.Loop.for l hok init body) := by
  unfold Keeps Scf.Loop.for
  iintro H
  iapply (Scf.wp_for _ _ _ _ _ _ _ _ _ (fun _ _ => R) h)
  isplitl [H]; · iexact H
  iintro %a H; iexact H

/-- A body that keeps what it holds at every point meets what the pipeline asks of it, no block's contents named. -/
theorem Keeps.obligation {Λ₀ : Labels} {c : Dev nD} {cfg : Pipeline.Cfg sig Λ₀} {dat : Pipeline.Dat τ Val Unit ℕ (UR sig nD τ) ℕ cfg c}
    {defs₀ : Defs nD τ sig Val Λ₀} {𝒱₀ : Variants} (hΦ : ∀ t t', dat.Φ t = dat.Φ t')
    (ho : ∀ t : Fin cfg.N, dat.owesAt () t.succ = dat.owesAt () t.castSucc)
    (h : ∀ t, Keeps defs₀ 𝒱₀ (c : Thread nD τ) (iprop(dat.Φ t.castSucc ∗ dat.owesAt () t.castSucc
      ∗ bigSep Finset.univ fun w : Fin cfg.W => iprop(∃ X, owns (c : Thread nD τ) ((cfg.win w).stage (cfg.slots t w)) fullShare X)) : sProp 𝕄)
      (defs₀ .tc cfg.body (cfg.bodyArgs t (cfg.slots t)))) :
    Pipeline.BodyObligationLoose dat defs₀ 𝒱₀ () Set.univ (fun _ => true) := fun t => by
  have ht := h t
  unfold Keeps at ht
  rw [hΦ t.succ t.castSucc, ho]
  exact ht

end Hold
-- ==== Proof.FoxFIdealHold.lean ====
/- The body of `cc0_fox_fwd` keeps its blocks and its scratch, whatever they hold (Keeps.lean). -/
module

public import proofs.«01_k».proof.Proof.Gen.Kernel11Ideal.Launch
public import proofs.«01_k».proof.Proof.Gen.Kernel11Ideal.Points
public import proofs.«01_k».proof.Proof.Gen.Kernel11Ideal.Skeleton
public import proofs.«01_k».proof.Proof.Keeps

@[expose] public section

noncomputable section

namespace Cert.Kernel11Ideal.Hand

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Hold

variable {F : FTy → Type} [FloatOps F] [Named F]

local notation "𝕄" => MT nD τ sig Unit (Elt F) ℕ (UR sig nD τ) ℕ

set_option maxHeartbeats 0 in
set_option maxRecDepth 65536 in
/-- The body, run from any bundle that holds its blocks and scratch, hands the bundle back. -/
theorem body_keeps (𝒱 : Variants) (c : Dev nD) (R : sProp 𝕄)
    (i : grid0.Coords) (arg1 : Memref sig .tc .vmem S2x256x512 .f32) (harg1 : arg1.IsWhole)
    (arg2 : Memref sig .tc .vmem S512x512 .bf16) (harg2 : arg2.IsWhole)
    (arg3 : Memref sig .tc .vmem S512x512 .bf16) (harg3 : arg3.IsWhole)
    (arg4 : Memref sig .tc .vmem S2x512x512 .f32) (harg4 : arg4.IsWhole)
    (arg5 : Memref sig .tc .vmem S2x256x128 .f32) (harg5 : arg5.IsWhole)
    (arg6 : Memref sig .tc .vmem S2x8x512 .f32) (harg6 : arg6.IsWhole)
    (arg7 : Memref sig .tc .vmem S2x256x512 .f32) (harg7 : arg7.IsWhole)
    (arg8 : Memref sig .tc .vmem S2x8x256 .f32) (harg8 : arg8.IsWhole)
    (arg9 : Memref sig .tc .vmem S2x8x256x128 .f32) (harg9 : arg9.IsWhole)
    (arg10 : Memref sig .tc .vmem S2x8x256x128 .f32) (harg10 : arg10.IsWhole)
    (arg11 : Memref sig .tc .vmem S2x8x256x128 .f32) (harg11 : arg11.IsWhole)
    [Has R (c : Thread nD τ) arg1] [Has R (c : Thread nD τ) arg2] [Has R (c : Thread nD τ) arg3]
    [Has R (c : Thread nD τ) arg4] [Has R (c : Thread nD τ) arg5] [Has R (c : Thread nD τ) arg6]
    [Has R (c : Thread nD τ) arg7] [Has R (c : Thread nD τ) arg8] [Has R (c : Thread nD τ) arg9]
    [Has R (c : Thread nD τ) arg10] [Has R (c : Thread nD τ) arg11] :
    Keeps (defs₀ (F := F)) 𝒱 (c : Thread nD τ) R (cc0_fox_fwd i
      arg1 harg1 arg2 harg2 arg3 harg3 arg4 harg4 arg5 harg5 arg6 harg6 arg7 harg7 arg8 harg8 arg9 harg9 arg10
      harg10 arg11 harg11) := by
  rw [cc0_fox_fwd_eq_skeleton]; unfold cc0_fox_fwd_skel
  repeat' first
    | with_reducible exact Keeps.pure _
    | with_reducible exact Keeps.load
    | with_reducible exact Keeps.store
    | with_reducible refine Keeps.bind ?_ fun _ => ?_
    | with_reducible refine Keeps.dite (fun _ => ?_) (fun _ => ?_)
    | split
    | (simp only [
        k0_part1_eq_skeleton, k0_part2_eq_skeleton, k0_part3_eq_skeleton, k0_part4_eq_skeleton,
        k0_part5_eq_skeleton, k0_part6_eq_skeleton, k0_part7_eq_skeleton, k0_part8_eq_skeleton,
        k0_part9_eq_skeleton, k0_part10_eq_skeleton, k0_part11_eq_skeleton, k0_part12_eq_skeleton,
        k0_part13_eq_skeleton, k0_part14_eq_skeleton, k0_part15_eq_skeleton, k0_part16_eq_skeleton,
        k0_part17_eq_skeleton, k0_part18_eq_skeleton, k0_part19_eq_skeleton, k0_part20_eq_skeleton,
        k0_part21_eq_skeleton, k0_part22_eq_skeleton, k0_part23_eq_skeleton, k0_part24_eq_skeleton,
        k0_part25_eq_skeleton, k0_part26_eq_skeleton, k0_part27_eq_skeleton, k0_part28_eq_skeleton,
        k0_part29_eq_skeleton, k0_part30_eq_skeleton, k0_part31_eq_skeleton, k0_part32_eq_skeleton,
        k0_part33_eq_skeleton, k0_part34_eq_skeleton, k0_part35_eq_skeleton, k0_part36_eq_skeleton,
        k0_part37_eq_skeleton, k0_part38_eq_skeleton, k0_part39_eq_skeleton, k0_part40_eq_skeleton,
        k0_part41_eq_skeleton, k0_part42_eq_skeleton, k0_part43_eq_skeleton, k0_part44_eq_skeleton,
        k0_part45_eq_skeleton, k0_part46_eq_skeleton, k0_part47_eq_skeleton, k0_part48_eq_skeleton,
        k0_part49_eq_skeleton, k0_part50_eq_skeleton, k0_part51_eq_skeleton, k0_part52_eq_skeleton,
        k0_part53_eq_skeleton, k0_part54_eq_skeleton, k0_part55_eq_skeleton, k0_part56_eq_skeleton,
        k0_part57_eq_skeleton, k0_part58_eq_skeleton, k0_part59_eq_skeleton, k0_part60_eq_skeleton,
        k0_part61_eq_skeleton, k0_part62_eq_skeleton, k0_part63_eq_skeleton, k0_part64_eq_skeleton,
        k0_part65_eq_skeleton, k0_part66_eq_skeleton, k0_part67_eq_skeleton, k0_part68_eq_skeleton,
        k0_part69_eq_skeleton, k0_part70_eq_skeleton, k0_part71_eq_skeleton, k0_part72_eq_skeleton,
        k0_part73_eq_skeleton, k0_part74_eq_skeleton, k0_part75_eq_skeleton, k0_part76_eq_skeleton,
        k0_part77_eq_skeleton, k0_part78_eq_skeleton, k0_part79_eq_skeleton, k0_part80_eq_skeleton,
        k0_part81_eq_skeleton, k0_part82_eq_skeleton, k0_part83_eq_skeleton, k0_part84_eq_skeleton,
        k0_part85_eq_skeleton, k0_part86_eq_skeleton, k0_part87_eq_skeleton, k0_part88_eq_skeleton,
        k0_part89_eq_skeleton, k0_part90_eq_skeleton, k0_part91_eq_skeleton, k0_part92_eq_skeleton,
        k0_part93_eq_skeleton, k0_part94_eq_skeleton, k0_part95_eq_skeleton, k0_part96_eq_skeleton,
        k0_part97_eq_skeleton, k0_part98_eq_skeleton, k0_part99_eq_skeleton, k0_part100_eq_skeleton,
        k0_part101_eq_skeleton, k0_part102_eq_skeleton, k0_part103_eq_skeleton, k0_part104_eq_skeleton,
        k0_part105_eq_skeleton, k0_part106_eq_skeleton, k0_part107_eq_skeleton, k0_part108_eq_skeleton,
        k0_part109_eq_skeleton, k0_part110_eq_skeleton, k0_part111_eq_skeleton, k0_part112_eq_skeleton,
        k0_part1_skel, k0_part2_skel, k0_part3_skel, k0_part4_skel, k0_part5_skel, k0_part6_skel, k0_part7_skel,
        k0_part8_skel, k0_part9_skel, k0_part10_skel, k0_part11_skel, k0_part12_skel, k0_part13_skel,
        k0_part14_skel, k0_part15_skel, k0_part16_skel, k0_part17_skel, k0_part18_skel, k0_part19_skel,
        k0_part20_skel, k0_part21_skel, k0_part22_skel, k0_part23_skel, k0_part24_skel, k0_part25_skel,
        k0_part26_skel, k0_part27_skel, k0_part28_skel, k0_part29_skel, k0_part30_skel, k0_part31_skel,
        k0_part32_skel, k0_part33_skel, k0_part34_skel, k0_part35_skel, k0_part36_skel, k0_part37_skel,
        k0_part38_skel, k0_part39_skel, k0_part40_skel, k0_part41_skel, k0_part42_skel, k0_part43_skel,
        k0_part44_skel, k0_part45_skel, k0_part46_skel, k0_part47_skel, k0_part48_skel, k0_part49_skel,
        k0_part50_skel, k0_part51_skel, k0_part52_skel, k0_part53_skel, k0_part54_skel, k0_part55_skel,
        k0_part56_skel, k0_part57_skel, k0_part58_skel, k0_part59_skel, k0_part60_skel, k0_part61_skel,
        k0_part62_skel, k0_part63_skel, k0_part64_skel, k0_part65_skel, k0_part66_skel, k0_part67_skel,
        k0_part68_skel, k0_part69_skel, k0_part70_skel, k0_part71_skel, k0_part72_skel, k0_part73_skel,
        k0_part74_skel, k0_part75_skel, k0_part76_skel, k0_part77_skel, k0_part78_skel, k0_part79_skel,
        k0_part80_skel, k0_part81_skel, k0_part82_skel, k0_part83_skel, k0_part84_skel, k0_part85_skel,
        k0_part86_skel, k0_part87_skel, k0_part88_skel, k0_part89_skel, k0_part90_skel, k0_part91_skel,
        k0_part92_skel, k0_part93_skel, k0_part94_skel, k0_part95_skel, k0_part96_skel, k0_part97_skel,
        k0_part98_skel, k0_part99_skel, k0_part100_skel, k0_part101_skel, k0_part102_skel, k0_part103_skel,
        k0_part104_skel, k0_part105_skel, k0_part106_skel, k0_part107_skel, k0_part108_skel, k0_part109_skel,
        k0_part110_skel, k0_part111_skel, k0_part112_skel])

end Cert.Kernel11Ideal.Hand

end
-- ==== Proof.FoxFIdealRun.lean ====
/- Every run of `cc0_fox_fwd` on its grid ends, its arguments unchanged (Keeps.lean, with no block's contents named). -/
module

public import proofs.«01_k».proof.Proof.FoxFIdealHold

@[expose] public section

noncomputable section

namespace Cert.Kernel11Ideal.Hand

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Hold

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arrays as the kernel finds them: after the host's own lines. -/
abbrev V (c : Dev nD) (b : Ref sig .tc) : Buf (Elt F) ((c : Thread nD τ).loc b) :=
  StableHlo.after (List.flatten
    [hostOps0, hostOps0_1, hostOps0_2])
    (fun b => m (c, b)) b

set_option maxHeartbeats 4000000 in
/-- The program up to the kernel. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main
    [hostOps0, hostOps0_1, hostOps0_2]
    (by simp only [List.Forall]; exact ⟨hostOps0_sub, hostOps0_1_sub, hostOps0_2_sub⟩)
    (by
      simp only [List.Forall]
      refine ⟨?_, ?_, ?_⟩ <;> repeat' constructor)
    main_chain

set_option maxHeartbeats 0 in
set_option maxRecDepth 65536 in
/-- The host's lines write no argument. -/
theorem V_arg (c : Dev nD) (b : Ref sig .tc) (hb : b ∈ [main_arg0, main_arg1, main_arg2, main_arg3]) :
    V m c b = m ((c : Thread nD τ).loc b) := by
  simp only [List.mem_cons, List.not_mem_nil, or_false] at hb
  rcases hb with rfl | rfl | rfl | rfl
  all_goals
    refine StableHlo.after_of_forall_not_mem (b := Proc.devRef .tc _) _ _ (List.forall_iff_forall_mem.mp ?_)
    simp only [hostOps0, hostOps0_1, hostOps0_2,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)

/-- The run's data on a device: every block's contents left unnamed, the scratch at some contents, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- The body the pipeline calls is the body at the point. -/
theorem defs₀_row (t : Fin cfg0.N) : defs₀ (F := F) .tc cfg0.body (cfg0.bodyArgs t (cfg0.slots t)) = bodyAt0 t := by
  unfold defs₀; rw [Defs.onTc_tc]

/-- What the pipeline asks of the body: at a grid point it keeps its blocks and the scratch. -/
theorem obligation (c : Dev nD) :
    Pipeline.BodyObligationLoose (dats (F := F) m 0 c) (defs₀ (F := F)) Variants.none () Set.univ (fun _ => true) :=
  Keeps.obligation (fun _ _ => rfl) (fun _ => rfl) fun t => by
    rw [bigSep_W0, defs₀_row, show (dats (F := F) m 0 c).Φ t.castSucc = Pipeline.ΦA spec0 c from rfl]
    unfold Pipeline.ΦA
    rw [scopedRest0_eq]
    simp only [← owns_whole]
    apply body_keeps

set_option maxHeartbeats 0 in
set_option backward.isDefEq.respectTransparency.types false in
/-- Every run ends, with the arrays no window writes as they were and every counter at zero. -/
theorem run_main :
    θ_run defs (onTc (τ := τ) (main (F := F))) (s₀ m ρ)
      (fun r => Pipeline.RDat.FramePost (cfgs 0) (fun c => (dats m 0 c).toRForget fun _ => true) (V m) r ∧ r.2.sem = fun _ => 0) :=
  Pipeline.θ_run_frame_forget_shared (Q' := _) cfgs (dats m) (0 : Fin 1) launch₀0 defs₀ Variants.none (fun _ => true) m ρ main
    (hbody := obligation m) (hq := fun _ _ _ => rfl)
    (howed := fun _ _ => rfl) (V := V m) (hmain := hmain m Variants.none) (hA := fun _ _ => rfl)
    (hΦ := fun _ _ => rfl)

/-- The frame: the arguments end as they began. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨((h.1 c).2 main_arg0 (Pipeline.mem_restRefs_of main_arg0 (by decide) (by decide))).trans (V_arg m c main_arg0 (by simp)),
      ((h.1 c).2 main_arg1 (Pipeline.mem_restRefs_of main_arg1 (by decide) (by decide))).trans (V_arg m c main_arg1 (by simp)),
      ((h.1 c).2 main_arg2 (Pipeline.mem_restRefs_of main_arg2 (by decide) (by decide))).trans (V_arg m c main_arg2 (by simp)),
      ((congrFun (Pipeline.RDat.ArrAt_in (rd := (dats m 0 c).toRForget fun _ => true) 5 rfl _) _).mp ((h.1 c).1 5)).trans (V_arg m c main_arg3 (by simp))⟩, h.2⟩) (run_main m ρ)

end Cert.Kernel11Ideal.Hand

end
-- ==== Proof.FoxIdealHold.lean ====
/- The body of `cc0_fox_bwd` keeps its blocks and its scratch, whatever they hold (Keeps.lean). -/
module

public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Keeps

@[expose] public section

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Hold

variable {F : FTy → Type} [FloatOps F]

local notation "𝕄" => MT nD τ sig Unit (Elt F) ℕ (UR sig nD τ) ℕ

set_option maxHeartbeats 0 in
set_option maxRecDepth 65536 in
/-- The body, run from any bundle that holds its blocks and scratch, hands the bundle back. -/
theorem body_keeps (𝒱 : Variants) (c : Dev nD) (R : sProp 𝕄)
    (i : grid0.Coords) (arg2 : Memref sig .tc .vmem S512x512 .f32) (harg2 : arg2.IsWhole)
    (arg3 : Memref sig .tc .vmem S256x512 .f32) (harg3 : arg3.IsWhole) (arg4 : Memref sig .tc .vmem S256x512 .f32)
    (harg4 : arg4.IsWhole) (arg5 : Memref sig .tc .vmem S512x512 .bf16) (harg5 : arg5.IsWhole)
    (arg6 : Memref sig .tc .vmem S512x512 .bf16) (harg6 : arg6.IsWhole)
    (arg7 : Memref sig .tc .vmem S512x256 .bf16) (harg7 : arg7.IsWhole)
    (arg8 : Memref sig .tc .vmem S512x512 .bf16) (harg8 : arg8.IsWhole) (arg9 : Memref sig .tc .vmem S256x128 .f32)
    (harg9 : arg9.IsWhole) (arg10 : Memref sig .tc .vmem S1x8x512 .f32) (harg10 : arg10.IsWhole)
    (arg11 : Memref sig .tc .vmem S1x8x512 .f32) (harg11 : arg11.IsWhole)
    (arg12 : Memref sig .tc .vmem S1x8x512 .f32) (harg12 : arg12.IsWhole)
    (arg13 : Memref sig .tc .vmem S2048x512 .bf16) (harg13 : arg13.IsWhole)
    (arg14 : Memref sig .tc .vmem S256x512 .bf16) (harg14 : arg14.IsWhole)
    (arg15 : Memref sig .tc .vmem S256x512 .bf16) (harg15 : arg15.IsWhole)
    (arg16 : Memref sig .tc .vmem S256x128 .f32) (harg16 : arg16.IsWhole)
    (arg17 : Memref sig .tc .vmem S1x8x2048 .f32) (harg17 : arg17.IsWhole)
    (arg18 : Memref sig .tc .vmem S8x512x256 .f32) (harg18 : arg18.IsWhole)
    (arg19 : Memref sig .tc .vmem S256x512 .f32) (harg19 : arg19.IsWhole)
    (arg20 : Memref sig .tc .vmem S256x512 .f32) (harg20 : arg20.IsWhole)
    (arg21 : Memref sig .tc .vmem S256x128 .f32) (harg21 : arg21.IsWhole)
    (arg22 : Memref sig .tc .vmem S8x8x256 .f32) (harg22 : arg22.IsWhole)
    [Has R (c : Thread nD τ) arg2] [Has R (c : Thread nD τ) arg3] [Has R (c : Thread nD τ) arg4]
    [Has R (c : Thread nD τ) arg5] [Has R (c : Thread nD τ) arg6] [Has R (c : Thread nD τ) arg7]
    [Has R (c : Thread nD τ) arg8] [Has R (c : Thread nD τ) arg9] [Has R (c : Thread nD τ) arg10]
    [Has R (c : Thread nD τ) arg11] [Has R (c : Thread nD τ) arg12] [Has R (c : Thread nD τ) arg13]
    [Has R (c : Thread nD τ) arg14] [Has R (c : Thread nD τ) arg15] [Has R (c : Thread nD τ) arg16]
    [Has R (c : Thread nD τ) arg17] [Has R (c : Thread nD τ) arg18] [Has R (c : Thread nD τ) arg19]
    [Has R (c : Thread nD τ) arg20] [Has R (c : Thread nD τ) arg21] [Has R (c : Thread nD τ) arg22] :
    Keeps (defs₀ (F := F)) 𝒱 (c : Thread nD τ) R (cc0_fox_bwd i
      arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19
      harg19 arg20 harg20 arg21 harg21 arg22 harg22) := by
  rw [cc0_fox_bwd_eq_skeleton]; unfold cc0_fox_bwd_skel
  repeat' first
    | with_reducible exact Keeps.pure _
    | with_reducible exact Keeps.load
    | with_reducible exact Keeps.store
    | with_reducible refine Keeps.bind ?_ fun _ => ?_
    | with_reducible refine Keeps.dite (fun _ => ?_) (fun _ => ?_)
    | split
    | (simp only [
        k0_part1_eq_skeleton, k0_part2_eq_skeleton, k0_part3_eq_skeleton, k0_part4_eq_skeleton,
        k0_part5_eq_skeleton, k0_part6_eq_skeleton, k0_part7_eq_skeleton, k0_part8_eq_skeleton,
        k0_part9_eq_skeleton, k0_part10_eq_skeleton, k0_part11_eq_skeleton, k0_part12_eq_skeleton,
        k0_part13_eq_skeleton, k0_part14_eq_skeleton, k0_part15_eq_skeleton, k0_part16_eq_skeleton,
        k0_part17_eq_skeleton, k0_part18_eq_skeleton, k0_part19_eq_skeleton, k0_part20_eq_skeleton,
        k0_part21_eq_skeleton, k0_part22_eq_skeleton, k0_part23_eq_skeleton, k0_part24_eq_skeleton,
        k0_part25_eq_skeleton, k0_part26_eq_skeleton, k0_part27_eq_skeleton, k0_part28_eq_skeleton,
        k0_part29_eq_skeleton, k0_part30_eq_skeleton, k0_part31_eq_skeleton, k0_part32_eq_skeleton,
        k0_part33_eq_skeleton, k0_part34_eq_skeleton, k0_part35_eq_skeleton, k0_part36_eq_skeleton,
        k0_part37_eq_skeleton, k0_part38_eq_skeleton, k0_part39_eq_skeleton, k0_part40_eq_skeleton,
        k0_part41_eq_skeleton, k0_part42_eq_skeleton, k0_part43_eq_skeleton, k0_part44_eq_skeleton,
        k0_part45_eq_skeleton, k0_part46_eq_skeleton, k0_part47_eq_skeleton, k0_part48_eq_skeleton,
        k0_part49_eq_skeleton, k0_part50_eq_skeleton, k0_part51_eq_skeleton, k0_part52_eq_skeleton,
        k0_part53_eq_skeleton, k0_part54_eq_skeleton, k0_part55_eq_skeleton, k0_part56_eq_skeleton,
        k0_part57_eq_skeleton, k0_part58_eq_skeleton, k0_part59_eq_skeleton, k0_part60_eq_skeleton,
        k0_part61_eq_skeleton, k0_part62_eq_skeleton, k0_part63_eq_skeleton, k0_part64_eq_skeleton,
        k0_part65_eq_skeleton, k0_part66_eq_skeleton, k0_part67_eq_skeleton, k0_part68_eq_skeleton,
        k0_part69_eq_skeleton, k0_part70_eq_skeleton, k0_part71_eq_skeleton, k0_part72_eq_skeleton,
        k0_part73_eq_skeleton, k0_part74_eq_skeleton, k0_part75_eq_skeleton, k0_part76_eq_skeleton,
        k0_part77_eq_skeleton, k0_part78_eq_skeleton, k0_part79_eq_skeleton, k0_part80_eq_skeleton,
        k0_part81_eq_skeleton, k0_part82_eq_skeleton, k0_part83_eq_skeleton, k0_part84_eq_skeleton,
        k0_part85_eq_skeleton, k0_part1_skel, k0_part2_skel, k0_part3_skel, k0_part4_skel, k0_part5_skel,
        k0_part6_skel, k0_part7_skel, k0_part8_skel, k0_part9_skel, k0_part10_skel, k0_part11_skel, k0_part12_skel,
        k0_part13_skel, k0_part14_skel, k0_part15_skel, k0_part16_skel, k0_part17_skel, k0_part18_skel,
        k0_part19_skel, k0_part20_skel, k0_part21_skel, k0_part22_skel, k0_part23_skel, k0_part24_skel,
        k0_part25_skel, k0_part26_skel, k0_part27_skel, k0_part28_skel, k0_part29_skel, k0_part30_skel,
        k0_part31_skel, k0_part32_skel, k0_part33_skel, k0_part34_skel, k0_part35_skel, k0_part36_skel,
        k0_part37_skel, k0_part38_skel, k0_part39_skel, k0_part40_skel, k0_part41_skel, k0_part42_skel,
        k0_part43_skel, k0_part44_skel, k0_part45_skel, k0_part46_skel, k0_part47_skel, k0_part48_skel,
        k0_part49_skel, k0_part50_skel, k0_part51_skel, k0_part52_skel, k0_part53_skel, k0_part54_skel,
        k0_part55_skel, k0_part56_skel, k0_part57_skel, k0_part58_skel, k0_part59_skel, k0_part60_skel,
        k0_part61_skel, k0_part62_skel, k0_part63_skel, k0_part64_skel, k0_part65_skel, k0_part66_skel,
        k0_part67_skel, k0_part68_skel, k0_part69_skel, k0_part70_skel, k0_part71_skel, k0_part72_skel,
        k0_part73_skel, k0_part74_skel, k0_part75_skel, k0_part76_skel, k0_part77_skel, k0_part78_skel,
        k0_part79_skel, k0_part80_skel, k0_part81_skel, k0_part82_skel, k0_part83_skel, k0_part84_skel,
        k0_part85_skel])

end Cert.Kernel6Ideal.Hand

end
-- ==== Proof.FoxIdealRun.lean ====
/- Every run of `cc0_fox_bwd` on its grid ends, its arguments unchanged (Keeps.lean, with no block's contents named). -/
module

public import proofs.«01_k».proof.Proof.Gen.Kernel6Ideal.Frame
public import proofs.«01_k».proof.Proof.FoxIdealHold

@[expose] public section

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Hold

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's data on a device: every block's contents left unnamed, the scratch at some contents, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- The body the pipeline calls is the body at the point. -/
theorem defs₀_row (t : Fin cfg0.N) : defs₀ (F := F) .tc cfg0.body (cfg0.bodyArgs t (cfg0.slots t)) = bodyAt0 t := by
  unfold defs₀; rw [Defs.onTc_tc]

/-- What the pipeline asks of the body: at a grid point it keeps its blocks and the scratch. -/
theorem obligation (c : Dev nD) :
    Pipeline.BodyObligationLoose (dats (F := F) m 0 c) (defs₀ (F := F)) Variants.none () Set.univ (fun _ => true) :=
  Keeps.obligation (fun _ _ => rfl) (fun _ => rfl) fun t => by
    rw [bigSep_W0, defs₀_row, show (dats (F := F) m 0 c).Φ t.castSucc = Pipeline.ΦA spec0 c from rfl]
    unfold Pipeline.ΦA
    rw [scopedRest0_eq]
    simp only [← owns_whole]
    apply body_keeps

set_option backward.isDefEq.respectTransparency.types false in
/-- Every run ends, with the arrays no window writes as they were and every counter at zero. -/
theorem run_main :
    θ_run defs (onTc (τ := τ) (main (F := F))) (s₀ m ρ)
      (fun r => Pipeline.RDat.FramePost (cfgs 0) (fun c => (dats m 0 c).toRForget fun _ => true) (V m) r ∧ r.2.sem = fun _ => 0) :=
  Pipeline.θ_run_frame_forget_shared (Q' := _) cfgs (dats m) (0 : Fin 1) launch₀0 defs₀ Variants.none (fun _ => true) m ρ main
    (hbody := obligation m) (hq := fun _ _ _ => rfl)
    (howed := fun _ _ => rfl) (V := V m) (hmain := hmain m Variants.none) (hA := fun _ _ => rfl)
    (hΦ := fun _ _ => rfl)

/-- The frame: the arguments end as they began. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((congrFun (Pipeline.RDat.ArrAt_in (rd := (dats m 0 c).toRForget fun _ => true) 8 rfl _) _).mp ((h.1 c).1 8)).trans (V_main_arg3 m c),
      ((h.1 c).2 main_arg4 (Pipeline.mem_restRefs_of main_arg4 (by decide) (by decide))).trans (V_main_arg4 m c)⟩, h.2⟩) (run_main m ρ)

end Cert.Kernel6Ideal.Hand

end
-- ==== Proof.HgrnIdealHold.lean ====
/- The body of `cc0_hgrn_bwd` keeps its blocks and its scratch, whatever they hold (Keeps.lean). -/
module

public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.Keeps

@[expose] public section

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Hold

variable {F : FTy → Type} [FloatOps F]

local notation "𝕄" => MT nD τ sig Unit (Elt F) ℕ (UR sig nD τ) ℕ

set_option maxHeartbeats 0 in
set_option maxRecDepth 65536 in
/-- The body, run from any bundle that holds its blocks and scratch, hands the bundle back. -/
theorem body_keeps (𝒱 : Variants) (c : Dev nD) (R : sProp 𝕄)
    (i : grid0.Coords) (arg1 : Memref sig .tc .vmem S2x256x256 .f32) (harg1 : arg1.IsWhole)
    (arg2 : Memref sig .tc .vmem S2x256x256 .f32) (harg2 : arg2.IsWhole)
    (arg3 : Memref sig .tc .vmem S2x256x256 .f32) (harg3 : arg3.IsWhole)
    (arg4 : Memref sig .tc .vmem S2x256x256 .f32) (harg4 : arg4.IsWhole)
    (arg5 : Memref sig .tc .vmem S2x256x256 .f32) (harg5 : arg5.IsWhole)
    (arg6 : Memref sig .tc .vmem S2x256x256 .f32) (harg6 : arg6.IsWhole)
    (arg7 : Memref sig .tc .vmem S2x4x256x256 .f32) (harg7 : arg7.IsWhole)
    (arg8 : Memref sig .tc .vmem S1x256 .f32) (harg8 : arg8.IsWhole) (arg9 : Memref sig .tc .vmem S1x256 .f32)
    (harg9 : arg9.IsWhole) (arg10 : Memref sig .tc .vmem S256x256 .bf16) (harg10 : arg10.IsWhole)
    (arg11 : Memref sig .tc .vmem S2x256x1024 .bf16) (harg11 : arg11.IsWhole)
    (arg12 : Memref sig .tc .vmem S1x256 .f32) (harg12 : arg12.IsWhole) (arg13 : Memref sig .tc .vmem S1x256 .f32)
    (harg13 : arg13.IsWhole) (arg14 : Memref sig .tc .vmem S2x256x256 .f32) (harg14 : arg14.IsWhole)
    (arg15 : Memref sig .tc .vmem S2x4x256x256 .f32) (harg15 : arg15.IsWhole)
    (arg16 : Memref sig .tc .vmem S2x256x256 .f32) (harg16 : arg16.IsWhole)
    (arg17 : Memref sig .tc .vmem S2x256x256 .f32) (harg17 : arg17.IsWhole)
    (arg18 : Memref sig .tc .vmem S2x256x256 .f32) (harg18 : arg18.IsWhole)
    (arg19 : Memref sig .tc .vmem S2x256x256 .f32) (harg19 : arg19.IsWhole)
    (arg20 : Memref sig .tc .vmem S2x256x256 .f32) (harg20 : arg20.IsWhole)
    (arg21 : Memref sig .tc .vmem S2x256x256 .f32) (harg21 : arg21.IsWhole)
    (arg22 : Memref sig .tc .vmem S2x256x256 .f32) (harg22 : arg22.IsWhole)
    (arg23 : Memref sig .tc .vmem S2x256x256 .f32) (harg23 : arg23.IsWhole)
    [Has R (c : Thread nD τ) arg1] [Has R (c : Thread nD τ) arg2] [Has R (c : Thread nD τ) arg3]
    [Has R (c : Thread nD τ) arg4] [Has R (c : Thread nD τ) arg5] [Has R (c : Thread nD τ) arg6]
    [Has R (c : Thread nD τ) arg7] [Has R (c : Thread nD τ) arg8] [Has R (c : Thread nD τ) arg9]
    [Has R (c : Thread nD τ) arg10] [Has R (c : Thread nD τ) arg11] [Has R (c : Thread nD τ) arg12]
    [Has R (c : Thread nD τ) arg13] [Has R (c : Thread nD τ) arg14] [Has R (c : Thread nD τ) arg15]
    [Has R (c : Thread nD τ) arg16] [Has R (c : Thread nD τ) arg17] [Has R (c : Thread nD τ) arg18]
    [Has R (c : Thread nD τ) arg19] [Has R (c : Thread nD τ) arg20] [Has R (c : Thread nD τ) arg21]
    [Has R (c : Thread nD τ) arg22] [Has R (c : Thread nD τ) arg23] :
    Keeps (defs₀ (F := F)) 𝒱 (c : Thread nD τ) R (cc0_hgrn_bwd i
      arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18
      harg18 arg19 harg19 arg20 harg20 arg21 harg21 arg22 harg22 arg23 harg23) := by
  rw [cc0_hgrn_bwd_eq_skeleton]; unfold cc0_hgrn_bwd_skel
  repeat' first
    | with_reducible exact Keeps.pure _
    | with_reducible exact Keeps.load
    | with_reducible exact Keeps.store
    | with_reducible refine Keeps.bind ?_ fun _ => ?_
    | with_reducible refine Keeps.dite (fun _ => ?_) (fun _ => ?_)
    | with_reducible refine Keeps.loop fun _ _ => ?_
    | split
    | (unfold k0_t1_body)
    | (simp only [
        k0_part1_eq_skeleton, k0_part2_eq_skeleton, k0_part3_eq_skeleton, k0_part4_eq_skeleton,
        k0_part5_eq_skeleton, k0_part6_eq_skeleton, k0_part7_eq_skeleton, k0_part8_eq_skeleton,
        k0_part9_eq_skeleton, k0_part10_eq_skeleton, k0_part11_eq_skeleton, k0_part12_eq_skeleton,
        k0_part13_eq_skeleton, k0_part14_eq_skeleton, k0_part15_eq_skeleton, k0_part16_eq_skeleton,
        k0_part17_eq_skeleton, k0_part18_eq_skeleton, k0_part19_eq_skeleton, k0_part20_eq_skeleton,
        k0_part21_eq_skeleton, k0_part22_eq_skeleton, k0_part23_eq_skeleton, k0_part24_eq_skeleton,
        k0_part25_eq_skeleton, k0_part26_eq_skeleton, k0_part27_eq_skeleton, k0_part28_eq_skeleton,
        k0_part29_eq_skeleton, k0_part30_eq_skeleton, k0_part31_eq_skeleton, k0_part32_eq_skeleton,
        k0_part33_eq_skeleton, k0_part34_eq_skeleton, k0_part35_eq_skeleton, k0_part36_eq_skeleton,
        k0_part37_eq_skeleton, k0_part38_eq_skeleton, k0_part39_eq_skeleton, k0_part40_eq_skeleton,
        k0_part41_eq_skeleton, k0_part42_eq_skeleton, k0_part43_eq_skeleton, k0_part44_eq_skeleton,
        k0_part45_eq_skeleton, k0_part46_eq_skeleton, k0_part47_eq_skeleton, k0_part48_eq_skeleton,
        k0_part49_eq_skeleton, k0_part50_eq_skeleton, k0_part51_eq_skeleton, k0_part52_eq_skeleton,
        k0_part53_eq_skeleton, k0_part54_eq_skeleton, k0_part55_eq_skeleton, k0_part56_eq_skeleton,
        k0_part57_eq_skeleton, k0_part58_eq_skeleton, k0_part59_eq_skeleton, k0_part60_eq_skeleton,
        k0_part61_eq_skeleton, k0_part62_eq_skeleton, k0_part63_eq_skeleton, k0_part64_eq_skeleton,
        k0_part65_eq_skeleton, k0_part66_eq_skeleton, k0_part67_eq_skeleton, k0_part68_eq_skeleton,
        k0_part69_eq_skeleton, k0_part70_eq_skeleton, k0_part71_eq_skeleton, k0_part72_eq_skeleton,
        k0_part73_eq_skeleton, k0_part74_eq_skeleton, k0_part75_eq_skeleton, k0_part76_eq_skeleton,
        k0_part77_eq_skeleton, k0_part78_eq_skeleton, k0_part79_eq_skeleton, k0_part80_eq_skeleton,
        k0_part81_eq_skeleton, k0_part82_eq_skeleton, k0_part83_eq_skeleton, k0_part84_eq_skeleton,
        k0_part85_eq_skeleton, k0_part86_eq_skeleton, k0_part87_eq_skeleton, k0_part88_eq_skeleton,
        k0_part89_eq_skeleton, k0_part90_eq_skeleton, k0_part91_eq_skeleton, k0_part92_eq_skeleton,
        k0_part93_eq_skeleton, k0_part94_eq_skeleton, k0_part95_eq_skeleton, k0_part96_eq_skeleton,
        k0_part97_eq_skeleton, k0_part98_eq_skeleton, k0_part99_eq_skeleton, k0_part100_eq_skeleton,
        k0_part101_eq_skeleton, k0_part102_eq_skeleton, k0_part103_eq_skeleton, k0_part104_eq_skeleton,
        k0_part105_eq_skeleton, k0_part106_eq_skeleton, k0_part107_eq_skeleton, k0_part108_eq_skeleton,
        k0_part109_eq_skeleton, k0_part110_eq_skeleton, k0_part111_eq_skeleton, k0_part112_eq_skeleton,
        k0_part113_eq_skeleton, k0_part114_eq_skeleton, k0_part115_eq_skeleton, k0_part116_eq_skeleton,
        k0_part117_eq_skeleton, k0_part118_eq_skeleton, k0_part119_eq_skeleton, k0_part120_eq_skeleton,
        k0_part121_eq_skeleton, k0_part122_eq_skeleton, k0_part123_eq_skeleton, k0_part124_eq_skeleton,
        k0_part125_eq_skeleton, k0_part126_eq_skeleton, k0_part127_eq_skeleton, k0_part128_eq_skeleton,
        k0_part129_eq_skeleton, k0_part130_eq_skeleton, k0_part131_eq_skeleton, k0_part132_eq_skeleton,
        k0_part133_eq_skeleton, k0_part134_eq_skeleton, k0_part135_eq_skeleton, k0_part136_eq_skeleton,
        k0_part137_eq_skeleton, k0_part138_eq_skeleton, k0_part139_eq_skeleton, k0_part140_eq_skeleton,
        k0_part141_eq_skeleton, k0_part142_eq_skeleton, k0_part143_eq_skeleton, k0_part144_eq_skeleton,
        k0_part145_eq_skeleton, k0_part146_eq_skeleton, k0_part147_eq_skeleton, k0_part148_eq_skeleton,
        k0_part149_eq_skeleton, k0_part150_eq_skeleton, k0_part151_eq_skeleton, k0_part152_eq_skeleton,
        k0_part153_eq_skeleton, k0_part1_skel, k0_part2_skel, k0_part3_skel, k0_part4_skel, k0_part5_skel,
        k0_part6_skel, k0_part7_skel, k0_part8_skel, k0_part9_skel, k0_part10_skel, k0_part11_skel, k0_part12_skel,
        k0_part13_skel, k0_part14_skel, k0_part15_skel, k0_part16_skel, k0_part17_skel, k0_part18_skel,
        k0_part19_skel, k0_part20_skel, k0_part21_skel, k0_part22_skel, k0_part23_skel, k0_part24_skel,
        k0_part25_skel, k0_part26_skel, k0_part27_skel, k0_part28_skel, k0_part29_skel, k0_part30_skel,
        k0_part31_skel, k0_part32_skel, k0_part33_skel, k0_part34_skel, k0_part35_skel, k0_part36_skel,
        k0_part37_skel, k0_part38_skel, k0_part39_skel, k0_part40_skel, k0_part41_skel, k0_part42_skel,
        k0_part43_skel, k0_part44_skel, k0_part45_skel, k0_part46_skel, k0_part47_skel, k0_part48_skel,
        k0_part49_skel, k0_part50_skel, k0_part51_skel, k0_part52_skel, k0_part53_skel, k0_part54_skel,
        k0_part55_skel, k0_part56_skel, k0_part57_skel, k0_part58_skel, k0_part59_skel, k0_part60_skel,
        k0_part61_skel, k0_part62_skel, k0_part63_skel, k0_part64_skel, k0_part65_skel, k0_part66_skel,
        k0_part67_skel, k0_part68_skel, k0_part69_skel, k0_part70_skel, k0_part71_skel, k0_part72_skel,
        k0_part73_skel, k0_part74_skel, k0_part75_skel, k0_part76_skel, k0_part77_skel, k0_part78_skel,
        k0_part79_skel, k0_part80_skel, k0_part81_skel, k0_part82_skel, k0_part83_skel, k0_part84_skel,
        k0_part85_skel, k0_part86_skel, k0_part87_skel, k0_part88_skel, k0_part89_skel, k0_part90_skel,
        k0_part91_skel, k0_part92_skel, k0_part93_skel, k0_part94_skel, k0_part95_skel, k0_part96_skel,
        k0_part97_skel, k0_part98_skel, k0_part99_skel, k0_part100_skel, k0_part101_skel, k0_part102_skel,
        k0_part103_skel, k0_part104_skel, k0_part105_skel, k0_part106_skel, k0_part107_skel, k0_part108_skel,
        k0_part109_skel, k0_part110_skel, k0_part111_skel, k0_part112_skel, k0_part113_skel, k0_part114_skel,
        k0_part115_skel, k0_part116_skel, k0_part117_skel, k0_part118_skel, k0_part119_skel, k0_part120_skel,
        k0_part121_skel, k0_part122_skel, k0_part123_skel, k0_part124_skel, k0_part125_skel, k0_part126_skel,
        k0_part127_skel, k0_part128_skel, k0_part129_skel, k0_part130_skel, k0_part131_skel, k0_part132_skel,
        k0_part133_skel, k0_part134_skel, k0_part135_skel, k0_part136_skel, k0_part137_skel, k0_part138_skel,
        k0_part139_skel, k0_part140_skel, k0_part141_skel, k0_part142_skel, k0_part143_skel, k0_part144_skel,
        k0_part145_skel, k0_part146_skel, k0_part147_skel, k0_part148_skel, k0_part149_skel, k0_part150_skel,
        k0_part151_skel, k0_part152_skel, k0_part153_skel])

end Cert.Kernel7Ideal.Hand

end
-- ==== Proof.HgrnIdealRun.lean ====
/- Every run of `cc0_hgrn_bwd` on its grid ends, its arguments unchanged (Keeps.lean, with no block's contents named). -/
module

public import proofs.«01_k».proof.Proof.HgrnIdealHold

@[expose] public section

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Hold

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the kernel finds them: after the host's own lines. -/
abbrev V (c : Dev nD) (b : Ref sig .tc) : Buf (Elt F) ((c : Thread nD τ).loc b) :=
  StableHlo.after (List.flatten
    [hostOps0, hostOps0_1, hostOps0_2, hostOps0_3, hostOps0_4, hostOps0_5, hostOps0_6, hostOps0_7, hostOps0_8, hostOps0_9, hostOps0_10, hostOps0_11, hostOps0_12])
    (fun b => m (c, b)) b

set_option maxHeartbeats 4000000 in
/-- The program up to the kernel. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main
    [hostOps0, hostOps0_1, hostOps0_2, hostOps0_3, hostOps0_4, hostOps0_5, hostOps0_6, hostOps0_7, hostOps0_8, hostOps0_9, hostOps0_10, hostOps0_11, hostOps0_12]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by
      simp only [List.Forall]
      refine ⟨?_, ?_, ?_, ?_, ?_, ?_, ?_, ?_, ?_, ?_, ?_, ?_, ?_⟩ <;> repeat' constructor)
    main_chain

set_option maxHeartbeats 0 in
set_option maxRecDepth 65536 in
/-- The host's lines write no argument. -/
theorem V_arg (c : Dev nD) (b : Ref sig .tc) (hb : b ∈ [main_arg0, main_arg1, main_arg2, main_arg3, main_arg4, main_arg5, main_arg6]) :
    V m c b = m ((c : Thread nD τ).loc b) := by
  simp only [List.mem_cons, List.not_mem_nil, or_false] at hb
  rcases hb with rfl | rfl | rfl | rfl | rfl | rfl | rfl
  all_goals
    refine StableHlo.after_of_forall_not_mem (b := Proc.devRef .tc _) _ _ (List.forall_iff_forall_mem.mp ?_)
    simp only [hostOps0, hostOps0_1, hostOps0_2, hostOps0_3, hostOps0_4, hostOps0_5, hostOps0_6, hostOps0_7, hostOps0_8, hostOps0_9, hostOps0_10, hostOps0_11, hostOps0_12,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)

/-- The run's data on a device: every block's contents left unnamed, the scratch at some contents, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- The body the pipeline calls is the body at the point. -/
theorem defs₀_row (t : Fin cfg0.N) : defs₀ (F := F) .tc cfg0.body (cfg0.bodyArgs t (cfg0.slots t)) = bodyAt0 t := by
  unfold defs₀; rw [Defs.onTc_tc]

/-- What the pipeline asks of the body: at a grid point it keeps its blocks and the scratch. -/
theorem obligation (c : Dev nD) :
    Pipeline.BodyObligationLoose (dats (F := F) m 0 c) (defs₀ (F := F)) Variants.none () Set.univ (fun _ => true) :=
  Keeps.obligation (fun _ _ => rfl) (fun _ => rfl) fun t => by
    rw [bigSep_W0, defs₀_row, show (dats (F := F) m 0 c).Φ t.castSucc = Pipeline.ΦA spec0 c from rfl]
    unfold Pipeline.ΦA
    rw [scopedRest0_eq]
    simp only [← owns_whole]
    apply body_keeps

set_option maxHeartbeats 0 in
set_option backward.isDefEq.respectTransparency.types false in
/-- Every run ends, with the arrays no window writes as they were and every counter at zero. -/
theorem run_main :
    θ_run defs (onTc (τ := τ) (main (F := F))) (s₀ m ρ)
      (fun r => Pipeline.RDat.FramePost (cfgs 0) (fun c => (dats m 0 c).toRForget fun _ => true) (V m) r ∧ r.2.sem = fun _ => 0) :=
  Pipeline.θ_run_frame_forget_shared (Q' := _) cfgs (dats m) (0 : Fin 1) launch₀0 defs₀ Variants.none (fun _ => true) m ρ main
    (hbody := obligation m) (hq := fun _ _ _ => rfl)
    (howed := fun _ _ => rfl) (V := V m) (hmain := hmain m Variants.none) (hA := fun _ _ => rfl)
    (hΦ := fun _ _ => rfl)

/-- The frame: the arguments end as they began. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨((h.1 c).2 main_arg0 (Pipeline.mem_restRefs_of main_arg0 (by decide) (by decide))).trans (V_arg m c main_arg0 (by simp)),
      ((h.1 c).2 main_arg1 (Pipeline.mem_restRefs_of main_arg1 (by decide) (by decide))).trans (V_arg m c main_arg1 (by simp)),
      ((h.1 c).2 main_arg2 (Pipeline.mem_restRefs_of main_arg2 (by decide) (by decide))).trans (V_arg m c main_arg2 (by simp)),
      ((h.1 c).2 main_arg3 (Pipeline.mem_restRefs_of main_arg3 (by decide) (by decide))).trans (V_arg m c main_arg3 (by simp)),
      ((h.1 c).2 main_arg4 (Pipeline.mem_restRefs_of main_arg4 (by decide) (by decide))).trans (V_arg m c main_arg4 (by simp)),
      ((h.1 c).2 main_arg5 (Pipeline.mem_restRefs_of main_arg5 (by decide) (by decide))).trans (V_arg m c main_arg5 (by simp)),
      ((h.1 c).2 main_arg6 (Pipeline.mem_restRefs_of main_arg6 (by decide) (by decide))).trans (V_arg m c main_arg6 (by simp))⟩, h.2⟩) (run_main m ρ)

end Cert.Kernel7Ideal.Hand

end
-- ==== Proof.lean ====
/- The claims, from each pair's own module. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite_args
public import proofs.«01_k».proof.Proof.LowerBound
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Pre_fox_decay_finite
public import proofs.«01_k».proof.Proof.FoxDecayRef
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Pre_in_proj_finite
public import proofs.«01_k».proof.Proof.InProj
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_merge_finite
public import proofs.«01_k».proof.Proof.Merge
public import proofs.«01_k».proof.Proof.MergeRef
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Pre_pool_finite
public import proofs.«01_k».proof.Proof.PoolRef
public import proofs.«01_k».proof.Proof.Gen.Kernel8.Frame
public import proofs.«01_k».proof.Proof.Gen.Kernel8Ideal.Value
public import proofs.«01_k».proof.Proof.Gen.Reference8Ideal.Run
public import proofs.«01_k».proof.Proof.LowerBoundFwd
public import proofs.«01_k».proof.Proof.Gen.Kernel9.Frame
public import proofs.«01_k».proof.Proof.Gen.Kernel9Ideal.Value
public import proofs.«01_k».proof.Proof.Gen.Reference9Ideal.Run
public import proofs.«01_k».proof.Proof.FoxDecayFwd
public import proofs.«01_k».proof.Proof.Gen.Kernel10.Frame
public import proofs.«01_k».proof.Proof.Gen.Kernel10Ideal.Value
public import proofs.«01_k».proof.Proof.Gen.Reference10Ideal.Run
public import proofs.«01_k».proof.Proof.InProjFwd
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Pre_fox_fwd_finite
public import proofs.«01_k».proof.Proof.FoxFwd
public import proofs.«01_k».proof.Proof.FoxFRun
public import proofs.«01_k».proof.Proof.FoxFIdealRun
public import proofs.«01_k».proof.Proof.Gen.Reference6Ideal.Run
public import proofs.«01_k».proof.Proof.FoxRun
public import proofs.«01_k».proof.Proof.FoxIdealRun
public import proofs.«01_k».proof.Proof.HgrnRun
public import proofs.«01_k».proof.Proof.HgrnIdealRun
public import Idealize.ShloMosaic.Adequacy
public import Idealize.ShloMosaic.Init
public import Idealize.ShloMosaic.Lib.Quiescent

@[expose] public section

noncomputable section

namespace Cert.Proof

open Idealize.ShloMosaic Idealize.SL.Sem

theorem reference_quiet : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem lower_bound : algebraic_KernelIdeal_ReferenceIdeal_pre_finite_args := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have hr := LowerBound.args_real _ _ (congrFun (hpre c) fun a => a.elim0)
  exact LowerBound.pair m' c _ _ (hagree c).1 (hagree c).2 hr.1 hr.2

theorem reference2_quiet : quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem reference3_quiet : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem reference4_quiet : quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

theorem reference5_quiet : quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem reference8_quiet : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem reference9_quiet : quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem reference10_quiet : quiescent_Reference10Ideal := fun m ρ _ =>
  (θ_run Cert.Reference10Ideal.defs _ _).mono (fun r h => ⟨fun c => (h c).2.2.2.2.2, sem_eq_zero_of_no_sems (by decide) r.2⟩)
    (Cert.Reference10Ideal.Value.run (F := Ideal) m ρ)

theorem reference11_quiet : quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem reference6_quiet : quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel6.Gen.facts, Cert.Kernel6Ideal.Gen.facts, Cert.Reference6Ideal.Gen.facts, Cert.Kernel7.Gen.facts, Cert.Kernel7Ideal.Gen.facts,
  Cert.Pre_finite_args.Gen.facts, Cert.Pre_fox_decay_finite.Gen.facts, Cert.Pre_in_proj_finite.Gen.facts, Cert.Pre_merge_finite.Gen.facts, Cert.Pre_pool_finite.Gen.facts, Cert.Pre_fox_fwd_finite.Gen.facts,
  fun m ρ _ => Cert.Kernel.Gen.frame m ρ, fun m ρ _ => Cert.KernelIdeal.Gen.frame m ρ, fun m ρ _ => Cert.KernelIdeal.Gen.frame m ρ, reference_quiet, fun m ρ _ => reference_quiet m ρ trivial,
  fun m ρ _ => Cert.Kernel2.Gen.frame m ρ, fun m ρ _ => Cert.Kernel2Ideal.Gen.frame m ρ, fun m ρ _ => Cert.Kernel2Ideal.Gen.frame m ρ, reference2_quiet, fun m ρ _ => reference2_quiet m ρ trivial,
  fun m ρ _ => Cert.Kernel3.Gen.frame m ρ, fun m ρ _ => Cert.Kernel3Ideal.Gen.frame m ρ, fun m ρ _ => Cert.Kernel3Ideal.Gen.frame m ρ, reference3_quiet, fun m ρ _ => reference3_quiet m ρ trivial,
  fun m ρ _ => Cert.Kernel4.Gen.frame m ρ, fun m ρ _ => Cert.Kernel4Ideal.Gen.frame m ρ, fun m ρ _ => Cert.Kernel4Ideal.Gen.frame m ρ, reference4_quiet, fun m ρ _ => reference4_quiet m ρ trivial,
  fun m ρ _ => Cert.Kernel5.Gen.frame m ρ, fun m ρ _ => Cert.Kernel5Ideal.Gen.frame m ρ, fun m ρ _ => Cert.Kernel5Ideal.Gen.frame m ρ, reference5_quiet, fun m ρ _ => reference5_quiet m ρ trivial,
  fun m ρ _ => Cert.Kernel8.Gen.frame m ρ, fun m ρ _ => Cert.Kernel8Ideal.Gen.frame m ρ, reference8_quiet,
  fun m ρ _ => Cert.Kernel9.Gen.frame m ρ, fun m ρ _ => Cert.Kernel9Ideal.Gen.frame m ρ, reference9_quiet,
  fun m ρ _ => Cert.Kernel10.Gen.frame m ρ, fun m ρ _ => Cert.Kernel10Ideal.Gen.frame m ρ, reference10_quiet,
  fun m ρ _ => Cert.Kernel11.Hand.frame m ρ, fun m ρ _ => Cert.Kernel11Ideal.Hand.frame m ρ, fun m ρ _ => Cert.Kernel11Ideal.Hand.frame m ρ, reference11_quiet, fun m ρ _ => reference11_quiet m ρ trivial,
  fun m ρ _ => Cert.Kernel6.Hand.frame m ρ, fun m ρ _ => Cert.Kernel6Ideal.Hand.frame m ρ, reference6_quiet,
  fun m ρ _ => Cert.Kernel7.Hand.frame m ρ, fun m ρ _ => Cert.Kernel7Ideal.Hand.frame m ρ,
  (trivial : preserves_Kernel_KernelIdeal), lower_bound,
  (trivial : preserves_Kernel2_Kernel2Ideal), FoxDecay.holds,
  (trivial : preserves_Kernel3_Kernel3Ideal), InProj.holds,
  (trivial : preserves_Kernel4_Kernel4Ideal), Merge.holds,
  (trivial : preserves_Kernel5_Kernel5Ideal), Pool.holds,
  (trivial : preserves_Kernel8_Kernel8Ideal), LowerBoundFwd.holds,
  (trivial : preserves_Kernel9_Kernel9Ideal), FoxDecayFwd.holds,
  (trivial : preserves_Kernel10_Kernel10Ideal), InProjFwd.holds,
  IdealRules.named_const.statement _ _ _ _ _ rfl, FoxFwd.holds,
  (trivial : preserves_Kernel6_Kernel6Ideal),
  (trivial : preserves_Kernel7_Kernel7Ideal)⟩

end Cert.Proof

end
